-- ==== Defs.lean ====
def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelCFwd (m : (ℓ : Loc Cert.KernelCFwd.nD Cert.KernelCFwd.τ Cert.KernelCFwd.sig) → Buf (Elt Bits) ℓ) : Prop :=
  True

def Pre_KernelCFwdIdeal (m : (ℓ : Loc Cert.KernelCFwdIdeal.nD Cert.KernelCFwdIdeal.τ Cert.KernelCFwdIdeal.sig) → Buf (Elt Ideal) ℓ) : Prop :=
  True

def Pre_ReferenceCFwdIdeal (m : (ℓ : Loc Cert.ReferenceCFwdIdeal.nD Cert.ReferenceCFwdIdeal.τ Cert.ReferenceCFwdIdeal.sig) → Buf (Elt Ideal) ℓ) : Prop :=
  True

def Pre_KernelAFwd (m : (ℓ : Loc Cert.KernelAFwd.nD Cert.KernelAFwd.τ Cert.KernelAFwd.sig) → Buf (Elt Bits) ℓ) : Prop :=
  True

def Pre_KernelAFwdIdeal (m : (ℓ : Loc Cert.KernelAFwdIdeal.nD Cert.KernelAFwdIdeal.τ Cert.KernelAFwdIdeal.sig) → Buf (Elt Ideal) ℓ) : Prop :=
  True

def Pre_ReferenceAFwdIdeal (m : (ℓ : Loc Cert.ReferenceAFwdIdeal.nD Cert.ReferenceAFwdIdeal.τ Cert.ReferenceAFwdIdeal.sig) → Buf (Elt Ideal) ℓ) : Prop :=
  True

def Pre_KernelProjFwd (m : (ℓ : Loc Cert.KernelProjFwd.nD Cert.KernelProjFwd.τ Cert.KernelProjFwd.sig) → Buf (Elt Bits) ℓ) : Prop :=
  True

def Pre_KernelProjFwdIdeal (m : (ℓ : Loc Cert.KernelProjFwdIdeal.nD Cert.KernelProjFwdIdeal.τ Cert.KernelProjFwdIdeal.sig) → Buf (Elt Ideal) ℓ) : Prop :=
  True

def Pre_ReferenceProjFwdIdeal (m : (ℓ : Loc Cert.ReferenceProjFwdIdeal.nD Cert.ReferenceProjFwdIdeal.τ Cert.ReferenceProjFwdIdeal.sig) → Buf (Elt Ideal) ℓ) : Prop :=
  True

def Pre_KernelPrepFwd (m : (ℓ : Loc Cert.KernelPrepFwd.nD Cert.KernelPrepFwd.τ Cert.KernelPrepFwd.sig) → Buf (Elt Bits) ℓ) : Prop :=
  True

def Pre_KernelPrepFwdIdeal (m : (ℓ : Loc Cert.KernelPrepFwdIdeal.nD Cert.KernelPrepFwdIdeal.τ Cert.KernelPrepFwdIdeal.sig) → Buf (Elt Ideal) ℓ) : Prop :=
  True

def Pre_ReferencePrepFwdIdeal (m : (ℓ : Loc Cert.ReferencePrepFwdIdeal.nD Cert.ReferencePrepFwdIdeal.τ Cert.ReferencePrepFwdIdeal.sig) → Buf (Elt Ideal) ℓ) : Prop :=
  True

def Pre_KernelOutFwd (m : (ℓ : Loc Cert.KernelOutFwd.nD Cert.KernelOutFwd.τ Cert.KernelOutFwd.sig) → Buf (Elt Bits) ℓ) : Prop :=
  True

def Pre_KernelOutFwdIdeal (m : (ℓ : Loc Cert.KernelOutFwdIdeal.nD Cert.KernelOutFwdIdeal.τ Cert.KernelOutFwdIdeal.sig) → Buf (Elt Ideal) ℓ) : Prop :=
  True

def Pre_ReferenceOutFwdIdeal (m : (ℓ : Loc Cert.ReferenceOutFwdIdeal.nD Cert.ReferenceOutFwdIdeal.τ Cert.ReferenceOutFwdIdeal.sig) → Buf (Elt Ideal) ℓ) : Prop :=
  True

def Pre_KernelOutBwd (m : (ℓ : Loc Cert.KernelOutBwd.nD Cert.KernelOutBwd.τ Cert.KernelOutBwd.sig) → Buf (Elt Bits) ℓ) : Prop :=
  True

def Pre_KernelOutBwdIdeal (m : (ℓ : Loc Cert.KernelOutBwdIdeal.nD Cert.KernelOutBwdIdeal.τ Cert.KernelOutBwdIdeal.sig) → Buf (Elt Ideal) ℓ) : Prop :=
  True

def Pre_ReferenceOutBwdIdeal (m : (ℓ : Loc Cert.ReferenceOutBwdIdeal.nD Cert.ReferenceOutBwdIdeal.τ Cert.ReferenceOutBwdIdeal.sig) → Buf (Elt Ideal) ℓ) : Prop :=
  True

def Pre_KernelDwin (m : (ℓ : Loc Cert.KernelDwin.nD Cert.KernelDwin.τ Cert.KernelDwin.sig) → Buf (Elt Bits) ℓ) : Prop :=
  True

def Pre_KernelDwinIdeal (m : (ℓ : Loc Cert.KernelDwinIdeal.nD Cert.KernelDwinIdeal.τ Cert.KernelDwinIdeal.sig) → Buf (Elt Ideal) ℓ) : Prop :=
  True

def Pre_ReferenceDwinIdeal (m : (ℓ : Loc Cert.ReferenceDwinIdeal.nD Cert.ReferenceDwinIdeal.τ Cert.ReferenceDwinIdeal.sig) → Buf (Elt Ideal) ℓ) : Prop :=
  True

def Pre_KernelDwout (m : (ℓ : Loc Cert.KernelDwout.nD Cert.KernelDwout.τ Cert.KernelDwout.sig) → Buf (Elt Bits) ℓ) : Prop :=
  True

def Pre_KernelDwoutIdeal (m : (ℓ : Loc Cert.KernelDwoutIdeal.nD Cert.KernelDwoutIdeal.τ Cert.KernelDwoutIdeal.sig) → Buf (Elt Ideal) ℓ) : Prop :=
  True

def Pre_ReferenceDwoutIdeal (m : (ℓ : Loc Cert.ReferenceDwoutIdeal.nD Cert.ReferenceDwoutIdeal.τ Cert.ReferenceDwoutIdeal.sig) → Buf (Elt Ideal) ℓ) : Prop :=
  True

def Pre_KernelAdamw (m : (ℓ : Loc Cert.KernelAdamw.nD Cert.KernelAdamw.τ Cert.KernelAdamw.sig) → Buf (Elt Bits) ℓ) : Prop :=
  True

def Pre_KernelAdamwIdeal (m : (ℓ : Loc Cert.KernelAdamwIdeal.nD Cert.KernelAdamwIdeal.τ Cert.KernelAdamwIdeal.sig) → Buf (Elt Ideal) ℓ) : Prop :=
  True

def Pre_ReferenceAdamwIdeal (m : (ℓ : Loc Cert.ReferenceAdamwIdeal.nD Cert.ReferenceAdamwIdeal.τ Cert.ReferenceAdamwIdeal.sig) → Buf (Elt Ideal) ℓ) : Prop :=
  True

def Pre_KernelAdamwIn (m : (ℓ : Loc Cert.KernelAdamwIn.nD Cert.KernelAdamwIn.τ Cert.KernelAdamwIn.sig) → Buf (Elt Bits) ℓ) : Prop :=
  True

def Pre_KernelAdamwInIdeal (m : (ℓ : Loc Cert.KernelAdamwInIdeal.nD Cert.KernelAdamwInIdeal.τ Cert.KernelAdamwInIdeal.sig) → Buf (Elt Ideal) ℓ) : Prop :=
  True

def Pre_ReferenceAdamwInIdeal (m : (ℓ : Loc Cert.ReferenceAdamwInIdeal.nD Cert.ReferenceAdamwInIdeal.τ Cert.ReferenceAdamwInIdeal.sig) → Buf (Elt Ideal) ℓ) : Prop :=
  True

def Pre_KernelAdamwSmall (m : (ℓ : Loc Cert.KernelAdamwSmall.nD Cert.KernelAdamwSmall.τ Cert.KernelAdamwSmall.sig) → Buf (Elt Bits) ℓ) : Prop :=
  True

def Pre_KernelAdamwSmallIdeal (m : (ℓ : Loc Cert.KernelAdamwSmallIdeal.nD Cert.KernelAdamwSmallIdeal.τ Cert.KernelAdamwSmallIdeal.sig) → Buf (Elt Ideal) ℓ) : Prop :=
  True

def Pre_ReferenceAdamwSmallIdeal (m : (ℓ : Loc Cert.ReferenceAdamwSmallIdeal.nD Cert.ReferenceAdamwSmallIdeal.τ Cert.ReferenceAdamwSmallIdeal.sig) → Buf (Elt Ideal) ℓ) : Prop :=
  True

def Pre_KernelSum (m : (ℓ : Loc Cert.KernelSum.nD Cert.KernelSum.τ Cert.KernelSum.sig) → Buf (Elt Bits) ℓ) : Prop :=
  True

def Pre_KernelSumIdeal (m : (ℓ : Loc Cert.KernelSumIdeal.nD Cert.KernelSumIdeal.τ Cert.KernelSumIdeal.sig) → Buf (Elt Ideal) ℓ) : Prop :=
  True

def Pre_ReferenceSumIdeal (m : (ℓ : Loc Cert.ReferenceSumIdeal.nD Cert.ReferenceSumIdeal.τ Cert.ReferenceSumIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_KernelPrepIdeal_log_dt_below_infinity [hPre_log_dt_below_infinity : Cert.Pre_log_dt_below_infinity.Facts] (m : (ℓ : Loc Cert.KernelPrepIdeal.nD Cert.KernelPrepIdeal.τ Cert.KernelPrepIdeal.sig) → Buf (Elt Ideal) ℓ) : Prop :=
  ∀ c : Dev Cert.KernelPrepIdeal.nD,
    (Cert.Pre_log_dt_below_infinity.fn (F := Ideal) (m ((c.tc : Thread Cert.KernelPrepIdeal.nD Cert.KernelPrepIdeal.τ).loc Cert.KernelPrepIdeal.main_arg0)) (m ((c.tc : Thread Cert.KernelPrepIdeal.nD Cert.KernelPrepIdeal.τ).loc Cert.KernelPrepIdeal.main_arg1)) (m ((c.tc : Thread Cert.KernelPrepIdeal.nD Cert.KernelPrepIdeal.τ).loc Cert.KernelPrepIdeal.main_arg2)) (m ((c.tc : Thread Cert.KernelPrepIdeal.nD Cert.KernelPrepIdeal.τ).loc Cert.KernelPrepIdeal.main_arg3)) (m ((c.tc : Thread Cert.KernelPrepIdeal.nD Cert.KernelPrepIdeal.τ).loc Cert.KernelPrepIdeal.main_arg4)) (m ((c.tc : Thread Cert.KernelPrepIdeal.nD Cert.KernelPrepIdeal.τ).loc Cert.KernelPrepIdeal.main_arg5)) (m ((c.tc : Thread Cert.KernelPrepIdeal.nD Cert.KernelPrepIdeal.τ).loc Cert.KernelPrepIdeal.main_arg6)) (m ((c.tc : Thread Cert.KernelPrepIdeal.nD Cert.KernelPrepIdeal.τ).loc Cert.KernelPrepIdeal.main_arg7)) (m ((c.tc : Thread Cert.KernelPrepIdeal.nD Cert.KernelPrepIdeal.τ).loc Cert.KernelPrepIdeal.main_arg8)) (m ((c.tc : Thread Cert.KernelPrepIdeal.nD Cert.KernelPrepIdeal.τ).loc Cert.KernelPrepIdeal.main_arg9)) (m ((c.tc : Thread Cert.KernelPrepIdeal.nD Cert.KernelPrepIdeal.τ).loc Cert.KernelPrepIdeal.main_arg10))) = (fun _ => 1#1)

def Pre_ReferencePrepIdeal (m : (ℓ : Loc Cert.ReferencePrepIdeal.nD Cert.ReferencePrepIdeal.τ Cert.ReferencePrepIdeal.sig) → Buf (Elt Ideal) ℓ) : Prop :=
  True

def Pre_ReferencePrepIdeal_log_dt_below_infinity [hPre_log_dt_below_infinity : Cert.Pre_log_dt_below_infinity.Facts] (m : (ℓ : Loc Cert.ReferencePrepIdeal.nD Cert.ReferencePrepIdeal.τ Cert.ReferencePrepIdeal.sig) → Buf (Elt Ideal) ℓ) : Prop :=
  ∀ c : Dev Cert.ReferencePrepIdeal.nD,
    (Cert.Pre_log_dt_below_infinity.fn (F := Ideal) (m ((c.tc : Thread Cert.ReferencePrepIdeal.nD Cert.ReferencePrepIdeal.τ).loc Cert.ReferencePrepIdeal.main_arg0)) (m ((c.tc : Thread Cert.ReferencePrepIdeal.nD Cert.ReferencePrepIdeal.τ).loc Cert.ReferencePrepIdeal.main_arg1)) (m ((c.tc : Thread Cert.ReferencePrepIdeal.nD Cert.ReferencePrepIdeal.τ).loc Cert.ReferencePrepIdeal.main_arg2)) (m ((c.tc : Thread Cert.ReferencePrepIdeal.nD Cert.ReferencePrepIdeal.τ).loc Cert.ReferencePrepIdeal.main_arg3)) (m ((c.tc : Thread Cert.ReferencePrepIdeal.nD Cert.ReferencePrepIdeal.τ).loc Cert.ReferencePrepIdeal.main_arg4)) (m ((c.tc : Thread Cert.ReferencePrepIdeal.nD Cert.ReferencePrepIdeal.τ).loc Cert.ReferencePrepIdeal.main_arg5)) (m ((c.tc : Thread Cert.ReferencePrepIdeal.nD Cert.ReferencePrepIdeal.τ).loc Cert.ReferencePrepIdeal.main_arg6)) (m ((c.tc : Thread Cert.ReferencePrepIdeal.nD Cert.ReferencePrepIdeal.τ).loc Cert.ReferencePrepIdeal.main_arg7)) (m ((c.tc : Thread Cert.ReferencePrepIdeal.nD Cert.ReferencePrepIdeal.τ).loc Cert.ReferencePrepIdeal.main_arg8)) (m ((c.tc : Thread Cert.ReferencePrepIdeal.nD Cert.ReferencePrepIdeal.τ).loc Cert.ReferencePrepIdeal.main_arg9)) (m ((c.tc : Thread Cert.ReferencePrepIdeal.nD Cert.ReferencePrepIdeal.τ).loc Cert.ReferencePrepIdeal.main_arg10))) = (fun _ => 1#1)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4)
      ∧ r.2.mem ((c.tc : Thread Cert.KernelA.nD Cert.KernelA.τ).loc Cert.KernelA.main_arg5) = m ((c.tc : Thread Cert.KernelA.nD Cert.KernelA.τ).loc Cert.KernelA.main_arg5)
      ∧ r.2.mem ((c.tc : Thread Cert.KernelA.nD Cert.KernelA.τ).loc Cert.KernelA.main_arg6) = m ((c.tc : Thread Cert.KernelA.nD Cert.KernelA.τ).loc Cert.KernelA.main_arg6)
      ∧ r.2.mem ((c.tc : Thread Cert.KernelA.nD Cert.KernelA.τ).loc Cert.KernelA.main_arg7) = m ((c.tc : Thread Cert.KernelA.nD Cert.KernelA.τ).loc Cert.KernelA.main_arg7))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
      ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
      ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
      ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4)
      ∧ r.2.mem ((c.tc : Thread Cert.ReferenceAIdeal.nD Cert.ReferenceAIdeal.τ).loc Cert.ReferenceAIdeal.main_arg5) = m ((c.tc : Thread Cert.ReferenceAIdeal.nD Cert.ReferenceAIdeal.τ).loc Cert.ReferenceAIdeal.main_arg5)
      ∧ r.2.mem ((c.tc : Thread Cert.ReferenceAIdeal.nD Cert.ReferenceAIdeal.τ).loc Cert.ReferenceAIdeal.main_arg6) = m ((c.tc : Thread Cert.ReferenceAIdeal.nD Cert.ReferenceAIdeal.τ).loc Cert.ReferenceAIdeal.main_arg6)
      ∧ r.2.mem ((c.tc : Thread Cert.ReferenceAIdeal.nD Cert.ReferenceAIdeal.τ).loc Cert.ReferenceAIdeal.main_arg7) = m ((c.tc : Thread Cert.ReferenceAIdeal.nD Cert.ReferenceAIdeal.τ).loc Cert.ReferenceAIdeal.main_arg7))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4))
      ∧ r.2.sem = fun _ => 0)

def quiescent_KernelCFwd [hKernelCFwd : Cert.KernelCFwd.Facts] : Prop :=
  ∀ (m : (ℓ : Loc Cert.KernelCFwd.nD Cert.KernelCFwd.τ Cert.KernelCFwd.sig) → Buf (Elt Bits) ℓ) (g : Dev Cert.KernelCFwd.nD → PrngReg), Pre_KernelCFwd m →
    θ_run (Cert.KernelCFwd.defs (F := Bits)) (onTc (τ := Cert.KernelCFwd.τ) (Cert.KernelCFwd.main (F := Bits))) ⟨m, fun _ => 0, g⟩ (fun r => (∀ c : Dev Cert.KernelCFwd.nD,
      r.2.mem ((c.tc : Thread Cert.KernelCFwd.nD Cert.KernelCFwd.τ).loc Cert.KernelCFwd.main_arg0) = m ((c.tc : Thread Cert.KernelCFwd.nD Cert.KernelCFwd.τ).loc Cert.KernelCFwd.main_arg0)
      ∧ r.2.mem ((c.tc : Thread Cert.KernelCFwd.nD Cert.KernelCFwd.τ).loc Cert.KernelCFwd.main_arg1) = m ((c.tc : Thread Cert.KernelCFwd.nD Cert.KernelCFwd.τ).loc Cert.KernelCFwd.main_arg1))
      ∧ r.2.sem = fun _ => 0)

def quiescent_KernelCFwdIdeal [hKernelCFwdIdeal : Cert.KernelCFwdIdeal.Facts] : Prop :=
  ∀ (m : (ℓ : Loc Cert.KernelCFwdIdeal.nD Cert.KernelCFwdIdeal.τ Cert.KernelCFwdIdeal.sig) → Buf (Elt Ideal) ℓ) (g : Dev Cert.KernelCFwdIdeal.nD → PrngReg), Pre_KernelCFwdIdeal m →
    θ_run (Cert.KernelCFwdIdeal.defs (F := Ideal)) (onTc (τ := Cert.KernelCFwdIdeal.τ) (Cert.KernelCFwdIdeal.main (F := Ideal))) ⟨m, fun _ => 0, g⟩ (fun r => (∀ c : Dev Cert.KernelCFwdIdeal.nD,
      r.2.mem ((c.tc : Thread Cert.KernelCFwdIdeal.nD Cert.KernelCFwdIdeal.τ).loc Cert.KernelCFwdIdeal.main_arg0) = m ((c.tc : Thread Cert.KernelCFwdIdeal.nD Cert.KernelCFwdIdeal.τ).loc Cert.KernelCFwdIdeal.main_arg0)
      ∧ r.2.mem ((c.tc : Thread Cert.KernelCFwdIdeal.nD Cert.KernelCFwdIdeal.τ).loc Cert.KernelCFwdIdeal.main_arg1) = m ((c.tc : Thread Cert.KernelCFwdIdeal.nD Cert.KernelCFwdIdeal.τ).loc Cert.KernelCFwdIdeal.main_arg1))
      ∧ r.2.sem = fun _ => 0)

def quiescent_ReferenceCFwdIdeal [hReferenceCFwdIdeal : Cert.ReferenceCFwdIdeal.Facts] : Prop :=
  ∀ (m : (ℓ : Loc Cert.ReferenceCFwdIdeal.nD Cert.ReferenceCFwdIdeal.τ Cert.ReferenceCFwdIdeal.sig) → Buf (Elt Ideal) ℓ) (g : Dev Cert.ReferenceCFwdIdeal.nD → PrngReg), Pre_ReferenceCFwdIdeal m →
    θ_run (Cert.ReferenceCFwdIdeal.defs (F := Ideal)) (onTc (τ := Cert.ReferenceCFwdIdeal.τ) (Cert.ReferenceCFwdIdeal.main (F := Ideal))) ⟨m, fun _ => 0, g⟩ (fun r => (∀ c : Dev Cert.ReferenceCFwdIdeal.nD,
      r.2.mem ((c.tc : Thread Cert.ReferenceCFwdIdeal.nD Cert.ReferenceCFwdIdeal.τ).loc Cert.ReferenceCFwdIdeal.main_arg0) = m ((c.tc : Thread Cert.ReferenceCFwdIdeal.nD Cert.ReferenceCFwdIdeal.τ).loc Cert.ReferenceCFwdIdeal.main_arg0)
      ∧ r.2.mem ((c.tc : Thread Cert.ReferenceCFwdIdeal.nD Cert.ReferenceCFwdIdeal.τ).loc Cert.ReferenceCFwdIdeal.main_arg1) = m ((c.tc : Thread Cert.ReferenceCFwdIdeal.nD Cert.ReferenceCFwdIdeal.τ).loc Cert.ReferenceCFwdIdeal.main_arg1))
      ∧ r.2.sem = fun _ => 0)

def quiescent_KernelAFwd [hKernelAFwd : Cert.KernelAFwd.Facts] : Prop :=
  ∀ (m : (ℓ : Loc Cert.KernelAFwd.nD Cert.KernelAFwd.τ Cert.KernelAFwd.sig) → Buf (Elt Bits) ℓ) (g : Dev Cert.KernelAFwd.nD → PrngReg), Pre_KernelAFwd m →
    θ_run (Cert.KernelAFwd.defs (F := Bits)) (onTc (τ := Cert.KernelAFwd.τ) (Cert.KernelAFwd.main (F := Bits))) ⟨m, fun _ => 0, g⟩ (fun r => (∀ c : Dev Cert.KernelAFwd.nD,
      r.2.mem ((c.tc : Thread Cert.KernelAFwd.nD Cert.KernelAFwd.τ).loc Cert.KernelAFwd.main_arg0) = m ((c.tc : Thread Cert.KernelAFwd.nD Cert.KernelAFwd.τ).loc Cert.KernelAFwd.main_arg0)
      ∧ r.2.mem ((c.tc : Thread Cert.KernelAFwd.nD Cert.KernelAFwd.τ).loc Cert.KernelAFwd.main_arg1) = m ((c.tc : Thread Cert.KernelAFwd.nD Cert.KernelAFwd.τ).loc Cert.KernelAFwd.main_arg1)
      ∧ r.2.mem ((c.tc : Thread Cert.KernelAFwd.nD Cert.KernelAFwd.τ).loc Cert.KernelAFwd.main_arg2) = m ((c.tc : Thread Cert.KernelAFwd.nD Cert.KernelAFwd.τ).loc Cert.KernelAFwd.main_arg2)
      ∧ r.2.mem ((c.tc : Thread Cert.KernelAFwd.nD Cert.KernelAFwd.τ).loc Cert.KernelAFwd.main_arg3) = m ((c.tc : Thread Cert.KernelAFwd.nD Cert.KernelAFwd.τ).loc Cert.KernelAFwd.main_arg3)
      ∧ r.2.mem ((c.tc : Thread Cert.KernelAFwd.nD Cert.KernelAFwd.τ).loc Cert.KernelAFwd.main_arg4) = m ((c.tc : Thread Cert.KernelAFwd.nD Cert.KernelAFwd.τ).loc Cert.KernelAFwd.main_arg4)
      ∧ r.2.mem ((c.tc : Thread Cert.KernelAFwd.nD Cert.KernelAFwd.τ).loc Cert.KernelAFwd.main_arg5) = m ((c.tc : Thread Cert.KernelAFwd.nD Cert.KernelAFwd.τ).loc Cert.KernelAFwd.main_arg5)
      ∧ r.2.mem ((c.tc : Thread Cert.KernelAFwd.nD Cert.KernelAFwd.τ).loc Cert.KernelAFwd.main_arg6) = m ((c.tc : Thread Cert.KernelAFwd.nD Cert.KernelAFwd.τ).loc Cert.KernelAFwd.main_arg6))
      ∧ r.2.sem = fun _ => 0)

def quiescent_KernelAFwdIdeal [hKernelAFwdIdeal : Cert.KernelAFwdIdeal.Facts] : Prop :=
  ∀ (m : (ℓ : Loc Cert.KernelAFwdIdeal.nD Cert.KernelAFwdIdeal.τ Cert.KernelAFwdIdeal.sig) → Buf (Elt Ideal) ℓ) (g : Dev Cert.KernelAFwdIdeal.nD → PrngReg), Pre_KernelAFwdIdeal m →
    θ_run (Cert.KernelAFwdIdeal.defs (F := Ideal)) (onTc (τ := Cert.KernelAFwdIdeal.τ) (Cert.KernelAFwdIdeal.main (F := Ideal))) ⟨m, fun _ => 0, g⟩ (fun r => (∀ c : Dev Cert.KernelAFwdIdeal.nD,
      r.2.mem ((c.tc : Thread Cert.KernelAFwdIdeal.nD Cert.KernelAFwdIdeal.τ).loc Cert.KernelAFwdIdeal.main_arg0) = m ((c.tc : Thread Cert.KernelAFwdIdeal.nD Cert.KernelAFwdIdeal.τ).loc Cert.KernelAFwdIdeal.main_arg0)
      ∧ r.2.mem ((c.tc : Thread Cert.KernelAFwdIdeal.nD Cert.KernelAFwdIdeal.τ).loc Cert.KernelAFwdIdeal.main_arg1) = m ((c.tc : Thread Cert.KernelAFwdIdeal.nD Cert.KernelAFwdIdeal.τ).loc Cert.KernelAFwdIdeal.main_arg1)
      ∧ r.2.mem ((c.tc : Thread Cert.KernelAFwdIdeal.nD Cert.KernelAFwdIdeal.τ).loc Cert.KernelAFwdIdeal.main_arg2) = m ((c.tc : Thread Cert.KernelAFwdIdeal.nD Cert.KernelAFwdIdeal.τ).loc Cert.KernelAFwdIdeal.main_arg2)
      ∧ r.2.mem ((c.tc : Thread Cert.KernelAFwdIdeal.nD Cert.KernelAFwdIdeal.τ).loc Cert.KernelAFwdIdeal.main_arg3) = m ((c.tc : Thread Cert.KernelAFwdIdeal.nD Cert.KernelAFwdIdeal.τ).loc Cert.KernelAFwdIdeal.main_arg3)
      ∧ r.2.mem ((c.tc : Thread Cert.KernelAFwdIdeal.nD Cert.KernelAFwdIdeal.τ).loc Cert.KernelAFwdIdeal.main_arg4) = m ((c.tc : Thread Cert.KernelAFwdIdeal.nD Cert.KernelAFwdIdeal.τ).loc Cert.KernelAFwdIdeal.main_arg4)
      ∧ r.2.mem ((c.tc : Thread Cert.KernelAFwdIdeal.nD Cert.KernelAFwdIdeal.τ).loc Cert.KernelAFwdIdeal.main_arg5) = m ((c.tc : Thread Cert.KernelAFwdIdeal.nD Cert.KernelAFwdIdeal.τ).loc Cert.KernelAFwdIdeal.main_arg5)
      ∧ r.2.mem ((c.tc : Thread Cert.KernelAFwdIdeal.nD Cert.KernelAFwdIdeal.τ).loc Cert.KernelAFwdIdeal.main_arg6) = m ((c.tc : Thread Cert.KernelAFwdIdeal.nD Cert.KernelAFwdIdeal.τ).loc Cert.KernelAFwdIdeal.main_arg6))
      ∧ r.2.sem = fun _ => 0)

def quiescent_ReferenceAFwdIdeal [hReferenceAFwdIdeal : Cert.ReferenceAFwdIdeal.Facts] : Prop :=
  ∀ (m : (ℓ : Loc Cert.ReferenceAFwdIdeal.nD Cert.ReferenceAFwdIdeal.τ Cert.ReferenceAFwdIdeal.sig) → Buf (Elt Ideal) ℓ) (g : Dev Cert.ReferenceAFwdIdeal.nD → PrngReg), Pre_ReferenceAFwdIdeal m →
    θ_run (Cert.ReferenceAFwdIdeal.defs (F := Ideal)) (onTc (τ := Cert.ReferenceAFwdIdeal.τ) (Cert.ReferenceAFwdIdeal.main (F := Ideal))) ⟨m, fun _ => 0, g⟩ (fun r => (∀ c : Dev Cert.ReferenceAFwdIdeal.nD,
      r.2.mem ((c.tc : Thread Cert.ReferenceAFwdIdeal.nD Cert.ReferenceAFwdIdeal.τ).loc Cert.ReferenceAFwdIdeal.main_arg0) = m ((c.tc : Thread Cert.ReferenceAFwdIdeal.nD Cert.ReferenceAFwdIdeal.τ).loc Cert.ReferenceAFwdIdeal.main_arg0)
      ∧ r.2.mem ((c.tc : Thread Cert.ReferenceAFwdIdeal.nD Cert.ReferenceAFwdIdeal.τ).loc Cert.ReferenceAFwdIdeal.main_arg1) = m ((c.tc : Thread Cert.ReferenceAFwdIdeal.nD Cert.ReferenceAFwdIdeal.τ).loc Cert.ReferenceAFwdIdeal.main_arg1)
      ∧ r.2.mem ((c.tc : Thread Cert.ReferenceAFwdIdeal.nD Cert.ReferenceAFwdIdeal.τ).loc Cert.ReferenceAFwdIdeal.main_arg2) = m ((c.tc : Thread Cert.ReferenceAFwdIdeal.nD Cert.ReferenceAFwdIdeal.τ).loc Cert.ReferenceAFwdIdeal.main_arg2)
      ∧ r.2.mem ((c.tc : Thread Cert.ReferenceAFwdIdeal.nD Cert.ReferenceAFwdIdeal.τ).loc Cert.ReferenceAFwdIdeal.main_arg3) = m ((c.tc : Thread Cert.ReferenceAFwdIdeal.nD Cert.ReferenceAFwdIdeal.τ).loc Cert.ReferenceAFwdIdeal.main_arg3)
      ∧ r.2.mem ((c.tc : Thread Cert.ReferenceAFwdIdeal.nD Cert.ReferenceAFwdIdeal.τ).loc Cert.ReferenceAFwdIdeal.main_arg4) = m ((c.tc : Thread Cert.ReferenceAFwdIdeal.nD Cert.ReferenceAFwdIdeal.τ).loc Cert.ReferenceAFwdIdeal.main_arg4)
      ∧ r.2.mem ((c.tc : Thread Cert.ReferenceAFwdIdeal.nD Cert.ReferenceAFwdIdeal.τ).loc Cert.ReferenceAFwdIdeal.main_arg5) = m ((c.tc : Thread Cert.ReferenceAFwdIdeal.nD Cert.ReferenceAFwdIdeal.τ).loc Cert.ReferenceAFwdIdeal.main_arg5)
      ∧ r.2.mem ((c.tc : Thread Cert.ReferenceAFwdIdeal.nD Cert.ReferenceAFwdIdeal.τ).loc Cert.ReferenceAFwdIdeal.main_arg6) = m ((c.tc : Thread Cert.ReferenceAFwdIdeal.nD Cert.ReferenceAFwdIdeal.τ).loc Cert.ReferenceAFwdIdeal.main_arg6))
      ∧ r.2.sem = fun _ => 0)

def quiescent_KernelProjFwd [hKernelProjFwd : Cert.KernelProjFwd.Facts] : Prop :=
  ∀ (m : (ℓ : Loc Cert.KernelProjFwd.nD Cert.KernelProjFwd.τ Cert.KernelProjFwd.sig) → Buf (Elt Bits) ℓ) (g : Dev Cert.KernelProjFwd.nD → PrngReg), Pre_KernelProjFwd m →
    θ_run (Cert.KernelProjFwd.defs (F := Bits)) (onTc (τ := Cert.KernelProjFwd.τ) (Cert.KernelProjFwd.main (F := Bits))) ⟨m, fun _ => 0, g⟩ (fun r => (∀ c : Dev Cert.KernelProjFwd.nD,
      r.2.mem ((c.tc : Thread Cert.KernelProjFwd.nD Cert.KernelProjFwd.τ).loc Cert.KernelProjFwd.main_arg0) = m ((c.tc : Thread Cert.KernelProjFwd.nD Cert.KernelProjFwd.τ).loc Cert.KernelProjFwd.main_arg0)
      ∧ r.2.mem ((c.tc : Thread Cert.KernelProjFwd.nD Cert.KernelProjFwd.τ).loc Cert.KernelProjFwd.main_arg1) = m ((c.tc : Thread Cert.KernelProjFwd.nD Cert.KernelProjFwd.τ).loc Cert.KernelProjFwd.main_arg1)
      ∧ r.2.mem ((c.tc : Thread Cert.KernelProjFwd.nD Cert.KernelProjFwd.τ).loc Cert.KernelProjFwd.main_arg2) = m ((c.tc : Thread Cert.KernelProjFwd.nD Cert.KernelProjFwd.τ).loc Cert.KernelProjFwd.main_arg2))
      ∧ r.2.sem = fun _ => 0)

def quiescent_KernelProjFwdIdeal [hKernelProjFwdIdeal : Cert.KernelProjFwdIdeal.Facts] : Prop :=
  ∀ (m : (ℓ : Loc Cert.KernelProjFwdIdeal.nD Cert.KernelProjFwdIdeal.τ Cert.KernelProjFwdIdeal.sig) → Buf (Elt Ideal) ℓ) (g : Dev Cert.KernelProjFwdIdeal.nD → PrngReg), Pre_KernelProjFwdIdeal m →
    θ_run (Cert.KernelProjFwdIdeal.defs (F := Ideal)) (onTc (τ := Cert.KernelProjFwdIdeal.τ) (Cert.KernelProjFwdIdeal.main (F := Ideal))) ⟨m, fun _ => 0, g⟩ (fun r => (∀ c : Dev Cert.KernelProjFwdIdeal.nD,
      r.2.mem ((c.tc : Thread Cert.KernelProjFwdIdeal.nD Cert.KernelProjFwdIdeal.τ).loc Cert.KernelProjFwdIdeal.main_arg0) = m ((c.tc : Thread Cert.KernelProjFwdIdeal.nD Cert.KernelProjFwdIdeal.τ).loc Cert.KernelProjFwdIdeal.main_arg0)
      ∧ r.2.mem ((c.tc : Thread Cert.KernelProjFwdIdeal.nD Cert.KernelProjFwdIdeal.τ).loc Cert.KernelProjFwdIdeal.main_arg1) = m ((c.tc : Thread Cert.KernelProjFwdIdeal.nD Cert.KernelProjFwdIdeal.τ).loc Cert.KernelProjFwdIdeal.main_arg1)
      ∧ r.2.mem ((c.tc : Thread Cert.KernelProjFwdIdeal.nD Cert.KernelProjFwdIdeal.τ).loc Cert.KernelProjFwdIdeal.main_arg2) = m ((c.tc : Thread Cert.KernelProjFwdIdeal.nD Cert.KernelProjFwdIdeal.τ).loc Cert.KernelProjFwdIdeal.main_arg2))
      ∧ r.2.sem = fun _ => 0)

def quiescent_ReferenceProjFwdIdeal [hReferenceProjFwdIdeal : Cert.ReferenceProjFwdIdeal.Facts] : Prop :=
  ∀ (m : (ℓ : Loc Cert.ReferenceProjFwdIdeal.nD Cert.ReferenceProjFwdIdeal.τ Cert.ReferenceProjFwdIdeal.sig) → Buf (Elt Ideal) ℓ) (g : Dev Cert.ReferenceProjFwdIdeal.nD → PrngReg), Pre_ReferenceProjFwdIdeal m →
    θ_run (Cert.ReferenceProjFwdIdeal.defs (F := Ideal)) (onTc (τ := Cert.ReferenceProjFwdIdeal.τ) (Cert.ReferenceProjFwdIdeal.main (F := Ideal))) ⟨m, fun _ => 0, g⟩ (fun r => (∀ c : Dev Cert.ReferenceProjFwdIdeal.nD,
      r.2.mem ((c.tc : Thread Cert.ReferenceProjFwdIdeal.nD Cert.ReferenceProjFwdIdeal.τ).loc Cert.ReferenceProjFwdIdeal.main_arg0) = m ((c.tc : Thread Cert.ReferenceProjFwdIdeal.nD Cert.ReferenceProjFwdIdeal.τ).loc Cert.ReferenceProjFwdIdeal.main_arg0)
      ∧ r.2.mem ((c.tc : Thread Cert.ReferenceProjFwdIdeal.nD Cert.ReferenceProjFwdIdeal.τ).loc Cert.ReferenceProjFwdIdeal.main_arg1) = m ((c.tc : Thread Cert.ReferenceProjFwdIdeal.nD Cert.ReferenceProjFwdIdeal.τ).loc Cert.ReferenceProjFwdIdeal.main_arg1)
      ∧ r.2.mem ((c.tc : Thread Cert.ReferenceProjFwdIdeal.nD Cert.ReferenceProjFwdIdeal.τ).loc Cert.ReferenceProjFwdIdeal.main_arg2) = m ((c.tc : Thread Cert.ReferenceProjFwdIdeal.nD Cert.ReferenceProjFwdIdeal.τ).loc Cert.ReferenceProjFwdIdeal.main_arg2))
      ∧ r.2.sem = fun _ => 0)

def quiescent_KernelPrepFwd [hKernelPrepFwd : Cert.KernelPrepFwd.Facts] : Prop :=
  ∀ (m : (ℓ : Loc Cert.KernelPrepFwd.nD Cert.KernelPrepFwd.τ Cert.KernelPrepFwd.sig) → Buf (Elt Bits) ℓ) (g : Dev Cert.KernelPrepFwd.nD → PrngReg), Pre_KernelPrepFwd m →
    θ_run (Cert.KernelPrepFwd.defs (F := Bits)) (onTc (τ := Cert.KernelPrepFwd.τ) (Cert.KernelPrepFwd.main (F := Bits))) ⟨m, fun _ => 0, g⟩ (fun r => (∀ c : Dev Cert.KernelPrepFwd.nD,
      r.2.mem ((c.tc : Thread Cert.KernelPrepFwd.nD Cert.KernelPrepFwd.τ).loc Cert.KernelPrepFwd.main_arg0) = m ((c.tc : Thread Cert.KernelPrepFwd.nD Cert.KernelPrepFwd.τ).loc Cert.KernelPrepFwd.main_arg0)
      ∧ r.2.mem ((c.tc : Thread Cert.KernelPrepFwd.nD Cert.KernelPrepFwd.τ).loc Cert.KernelPrepFwd.main_arg1) = m ((c.tc : Thread Cert.KernelPrepFwd.nD Cert.KernelPrepFwd.τ).loc Cert.KernelPrepFwd.main_arg1)
      ∧ r.2.mem ((c.tc : Thread Cert.KernelPrepFwd.nD Cert.KernelPrepFwd.τ).loc Cert.KernelPrepFwd.main_arg2) = m ((c.tc : Thread Cert.KernelPrepFwd.nD Cert.KernelPrepFwd.τ).loc Cert.KernelPrepFwd.main_arg2)
      ∧ r.2.mem ((c.tc : Thread Cert.KernelPrepFwd.nD Cert.KernelPrepFwd.τ).loc Cert.KernelPrepFwd.main_arg3) = m ((c.tc : Thread Cert.KernelPrepFwd.nD Cert.KernelPrepFwd.τ).loc Cert.KernelPrepFwd.main_arg3)
      ∧ r.2.mem ((c.tc : Thread Cert.KernelPrepFwd.nD Cert.KernelPrepFwd.τ).loc Cert.KernelPrepFwd.main_arg4) = m ((c.tc : Thread Cert.KernelPrepFwd.nD Cert.KernelPrepFwd.τ).loc Cert.KernelPrepFwd.main_arg4)
      ∧ r.2.mem ((c.tc : Thread Cert.KernelPrepFwd.nD Cert.KernelPrepFwd.τ).loc Cert.KernelPrepFwd.main_arg5) = m ((c.tc : Thread Cert.KernelPrepFwd.nD Cert.KernelPrepFwd.τ).loc Cert.KernelPrepFwd.main_arg5)
      ∧ r.2.mem ((c.tc : Thread Cert.KernelPrepFwd.nD Cert.KernelPrepFwd.τ).loc Cert.KernelPrepFwd.main_arg6) = m ((c.tc : Thread Cert.KernelPrepFwd.nD Cert.KernelPrepFwd.τ).loc Cert.KernelPrepFwd.main_arg6))
      ∧ r.2.sem = fun _ => 0)

def quiescent_KernelPrepFwdIdeal [hKernelPrepFwdIdeal : Cert.KernelPrepFwdIdeal.Facts] : Prop :=
  ∀ (m : (ℓ : Loc Cert.KernelPrepFwdIdeal.nD Cert.KernelPrepFwdIdeal.τ Cert.KernelPrepFwdIdeal.sig) → Buf (Elt Ideal) ℓ) (g : Dev Cert.KernelPrepFwdIdeal.nD → PrngReg), Pre_KernelPrepFwdIdeal m →
    θ_run (Cert.KernelPrepFwdIdeal.defs (F := Ideal)) (onTc (τ := Cert.KernelPrepFwdIdeal.τ) (Cert.KernelPrepFwdIdeal.main (F := Ideal))) ⟨m, fun _ => 0, g⟩ (fun r => (∀ c : Dev Cert.KernelPrepFwdIdeal.nD,
      r.2.mem ((c.tc : Thread Cert.KernelPrepFwdIdeal.nD Cert.KernelPrepFwdIdeal.τ).loc Cert.KernelPrepFwdIdeal.main_arg0) = m ((c.tc : Thread Cert.KernelPrepFwdIdeal.nD Cert.KernelPrepFwdIdeal.τ).loc Cert.KernelPrepFwdIdeal.main_arg0)
      ∧ r.2.mem ((c.tc : Thread Cert.KernelPrepFwdIdeal.nD Cert.KernelPrepFwdIdeal.τ).loc Cert.KernelPrepFwdIdeal.main_arg1) = m ((c.tc : Thread Cert.KernelPrepFwdIdeal.nD Cert.KernelPrepFwdIdeal.τ).loc Cert.KernelPrepFwdIdeal.main_arg1)
      ∧ r.2.mem ((c.tc : Thread Cert.KernelPrepFwdIdeal.nD Cert.KernelPrepFwdIdeal.τ).loc Cert.KernelPrepFwdIdeal.main_arg2) = m ((c.tc : Thread Cert.KernelPrepFwdIdeal.nD Cert.KernelPrepFwdIdeal.τ).loc Cert.KernelPrepFwdIdeal.main_arg2)
      ∧ r.2.mem ((c.tc : Thread Cert.KernelPrepFwdIdeal.nD Cert.KernelPrepFwdIdeal.τ).loc Cert.KernelPrepFwdIdeal.main_arg3) = m ((c.tc : Thread Cert.KernelPrepFwdIdeal.nD Cert.KernelPrepFwdIdeal.τ).loc Cert.KernelPrepFwdIdeal.main_arg3)
      ∧ r.2.mem ((c.tc : Thread Cert.KernelPrepFwdIdeal.nD Cert.KernelPrepFwdIdeal.τ).loc Cert.KernelPrepFwdIdeal.main_arg4) = m ((c.tc : Thread Cert.KernelPrepFwdIdeal.nD Cert.KernelPrepFwdIdeal.τ).loc Cert.KernelPrepFwdIdeal.main_arg4)
      ∧ r.2.mem ((c.tc : Thread Cert.KernelPrepFwdIdeal.nD Cert.KernelPrepFwdIdeal.τ).loc Cert.KernelPrepFwdIdeal.main_arg5) = m ((c.tc : Thread Cert.KernelPrepFwdIdeal.nD Cert.KernelPrepFwdIdeal.τ).loc Cert.KernelPrepFwdIdeal.main_arg5)
      ∧ r.2.mem ((c.tc : Thread Cert.KernelPrepFwdIdeal.nD Cert.KernelPrepFwdIdeal.τ).loc Cert.KernelPrepFwdIdeal.main_arg6) = m ((c.tc : Thread Cert.KernelPrepFwdIdeal.nD Cert.KernelPrepFwdIdeal.τ).loc Cert.KernelPrepFwdIdeal.main_arg6))
      ∧ r.2.sem = fun _ => 0)

def quiescent_ReferencePrepFwdIdeal [hReferencePrepFwdIdeal : Cert.ReferencePrepFwdIdeal.Facts] : Prop :=
  ∀ (m : (ℓ : Loc Cert.ReferencePrepFwdIdeal.nD Cert.ReferencePrepFwdIdeal.τ Cert.ReferencePrepFwdIdeal.sig) → Buf (Elt Ideal) ℓ) (g : Dev Cert.ReferencePrepFwdIdeal.nD → PrngReg), Pre_ReferencePrepFwdIdeal m →
    θ_run (Cert.ReferencePrepFwdIdeal.defs (F := Ideal)) (onTc (τ := Cert.ReferencePrepFwdIdeal.τ) (Cert.ReferencePrepFwdIdeal.main (F := Ideal))) ⟨m, fun _ => 0, g⟩ (fun r => (∀ c : Dev Cert.ReferencePrepFwdIdeal.nD,
      r.2.mem ((c.tc : Thread Cert.ReferencePrepFwdIdeal.nD Cert.ReferencePrepFwdIdeal.τ).loc Cert.ReferencePrepFwdIdeal.main_arg0) = m ((c.tc : Thread Cert.ReferencePrepFwdIdeal.nD Cert.ReferencePrepFwdIdeal.τ).loc Cert.ReferencePrepFwdIdeal.main_arg0)
      ∧ r.2.mem ((c.tc : Thread Cert.ReferencePrepFwdIdeal.nD Cert.ReferencePrepFwdIdeal.τ).loc Cert.ReferencePrepFwdIdeal.main_arg1) = m ((c.tc : Thread Cert.ReferencePrepFwdIdeal.nD Cert.ReferencePrepFwdIdeal.τ).loc Cert.ReferencePrepFwdIdeal.main_arg1)
      ∧ r.2.mem ((c.tc : Thread Cert.ReferencePrepFwdIdeal.nD Cert.ReferencePrepFwdIdeal.τ).loc Cert.ReferencePrepFwdIdeal.main_arg2) = m ((c.tc : Thread Cert.ReferencePrepFwdIdeal.nD Cert.ReferencePrepFwdIdeal.τ).loc Cert.ReferencePrepFwdIdeal.main_arg2)
      ∧ r.2.mem ((c.tc : Thread Cert.ReferencePrepFwdIdeal.nD Cert.ReferencePrepFwdIdeal.τ).loc Cert.ReferencePrepFwdIdeal.main_arg3) = m ((c.tc : Thread Cert.ReferencePrepFwdIdeal.nD Cert.ReferencePrepFwdIdeal.τ).loc Cert.ReferencePrepFwdIdeal.main_arg3)
      ∧ r.2.mem ((c.tc : Thread Cert.ReferencePrepFwdIdeal.nD Cert.ReferencePrepFwdIdeal.τ).loc Cert.ReferencePrepFwdIdeal.main_arg4) = m ((c.tc : Thread Cert.ReferencePrepFwdIdeal.nD Cert.ReferencePrepFwdIdeal.τ).loc Cert.ReferencePrepFwdIdeal.main_arg4)
      ∧ r.2.mem ((c.tc : Thread Cert.ReferencePrepFwdIdeal.nD Cert.ReferencePrepFwdIdeal.τ).loc Cert.ReferencePrepFwdIdeal.main_arg5) = m ((c.tc : Thread Cert.ReferencePrepFwdIdeal.nD Cert.ReferencePrepFwdIdeal.τ).loc Cert.ReferencePrepFwdIdeal.main_arg5)
      ∧ r.2.mem ((c.tc : Thread Cert.ReferencePrepFwdIdeal.nD Cert.ReferencePrepFwdIdeal.τ).loc Cert.ReferencePrepFwdIdeal.main_arg6) = m ((c.tc : Thread Cert.ReferencePrepFwdIdeal.nD Cert.ReferencePrepFwdIdeal.τ).loc Cert.ReferencePrepFwdIdeal.main_arg6))
      ∧ r.2.sem = fun _ => 0)

def quiescent_KernelOutFwd [hKernelOutFwd : Cert.KernelOutFwd.Facts] : Prop :=
  ∀ (m : (ℓ : Loc Cert.KernelOutFwd.nD Cert.KernelOutFwd.τ Cert.KernelOutFwd.sig) → Buf (Elt Bits) ℓ) (g : Dev Cert.KernelOutFwd.nD → PrngReg), Pre_KernelOutFwd m →
    θ_run (Cert.KernelOutFwd.defs (F := Bits)) (onTc (τ := Cert.KernelOutFwd.τ) (Cert.KernelOutFwd.main (F := Bits))) ⟨m, fun _ => 0, g⟩ (fun r => (∀ c : Dev Cert.KernelOutFwd.nD,
      r.2.mem ((c.tc : Thread Cert.KernelOutFwd.nD Cert.KernelOutFwd.τ).loc Cert.KernelOutFwd.main_arg0) = m ((c.tc : Thread Cert.KernelOutFwd.nD Cert.KernelOutFwd.τ).loc Cert.KernelOutFwd.main_arg0)
      ∧ r.2.mem ((c.tc : Thread Cert.KernelOutFwd.nD Cert.KernelOutFwd.τ).loc Cert.KernelOutFwd.main_arg1) = m ((c.tc : Thread Cert.KernelOutFwd.nD Cert.KernelOutFwd.τ).loc Cert.KernelOutFwd.main_arg1)
      ∧ r.2.mem ((c.tc : Thread Cert.KernelOutFwd.nD Cert.KernelOutFwd.τ).loc Cert.KernelOutFwd.main_arg2) = m ((c.tc : Thread Cert.KernelOutFwd.nD Cert.KernelOutFwd.τ).loc Cert.KernelOutFwd.main_arg2)
      ∧ r.2.mem ((c.tc : Thread Cert.KernelOutFwd.nD Cert.KernelOutFwd.τ).loc Cert.KernelOutFwd.main_arg3) = m ((c.tc : Thread Cert.KernelOutFwd.nD Cert.KernelOutFwd.τ).loc Cert.KernelOutFwd.main_arg3)
      ∧ r.2.mem ((c.tc : Thread Cert.KernelOutFwd.nD Cert.KernelOutFwd.τ).loc Cert.KernelOutFwd.main_arg4) = m ((c.tc : Thread Cert.KernelOutFwd.nD Cert.KernelOutFwd.τ).loc Cert.KernelOutFwd.main_arg4)
      ∧ r.2.mem ((c.tc : Thread Cert.KernelOutFwd.nD Cert.KernelOutFwd.τ).loc Cert.KernelOutFwd.main_arg5) = m ((c.tc : Thread Cert.KernelOutFwd.nD Cert.KernelOutFwd.τ).loc Cert.KernelOutFwd.main_arg5))
      ∧ r.2.sem = fun _ => 0)

def quiescent_KernelOutFwdIdeal [hKernelOutFwdIdeal : Cert.KernelOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg), Pre_KernelOutFwdIdeal m →
    θ_run (Cert.KernelOutFwdIdeal.defs (F := Ideal)) (onTc (τ := Cert.KernelOutFwdIdeal.τ) (Cert.KernelOutFwdIdeal.main (F := Ideal))) ⟨m, fun _ => 0, g⟩ (fun r => (∀ c : Dev Cert.KernelOutFwdIdeal.nD,
      r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
      ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
      ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2)
      ∧ r.2.mem ((c.tc : Thread Cert.KernelOutFwdIdeal.nD Cert.KernelOutFwdIdeal.τ).loc Cert.KernelOutFwdIdeal.main_arg3) = m ((c.tc : Thread Cert.KernelOutFwdIdeal.nD Cert.KernelOutFwdIdeal.τ).loc Cert.KernelOutFwdIdeal.main_arg3)
      ∧ r.2.mem ((c.tc : Thread Cert.KernelOutFwdIdeal.nD Cert.KernelOutFwdIdeal.τ).loc Cert.KernelOutFwdIdeal.main_arg4) = m ((c.tc : Thread Cert.KernelOutFwdIdeal.nD Cert.KernelOutFwdIdeal.τ).loc Cert.KernelOutFwdIdeal.main_arg4)
      ∧ r.2.mem ((c.tc : Thread Cert.KernelOutFwdIdeal.nD Cert.KernelOutFwdIdeal.τ).loc Cert.KernelOutFwdIdeal.main_arg5) = m ((c.tc : Thread Cert.KernelOutFwdIdeal.nD Cert.KernelOutFwdIdeal.τ).loc Cert.KernelOutFwdIdeal.main_arg5))
      ∧ r.2.sem = fun _ => 0)

def quiescent_ReferenceOutFwdIdeal [hReferenceOutFwdIdeal : Cert.ReferenceOutFwdIdeal.Facts] : Prop :=
  ∀ (m : (ℓ : Loc Cert.ReferenceOutFwdIdeal.nD Cert.ReferenceOutFwdIdeal.τ Cert.ReferenceOutFwdIdeal.sig) → Buf (Elt Ideal) ℓ) (g : Dev Cert.ReferenceOutFwdIdeal.nD → PrngReg), Pre_ReferenceOutFwdIdeal m →
    θ_run (Cert.ReferenceOutFwdIdeal.defs (F := Ideal)) (onTc (τ := Cert.ReferenceOutFwdIdeal.τ) (Cert.ReferenceOutFwdIdeal.main (F := Ideal))) ⟨m, fun _ => 0, g⟩ (fun r => (∀ c : Dev Cert.ReferenceOutFwdIdeal.nD,
      r.2.mem ((c.tc : Thread Cert.ReferenceOutFwdIdeal.nD Cert.ReferenceOutFwdIdeal.τ).loc Cert.ReferenceOutFwdIdeal.main_arg0) = m ((c.tc : Thread Cert.ReferenceOutFwdIdeal.nD Cert.ReferenceOutFwdIdeal.τ).loc Cert.ReferenceOutFwdIdeal.main_arg0)
      ∧ r.2.mem ((c.tc : Thread Cert.ReferenceOutFwdIdeal.nD Cert.ReferenceOutFwdIdeal.τ).loc Cert.ReferenceOutFwdIdeal.main_arg1) = m ((c.tc : Thread Cert.ReferenceOutFwdIdeal.nD Cert.ReferenceOutFwdIdeal.τ).loc Cert.ReferenceOutFwdIdeal.main_arg1)
      ∧ r.2.mem ((c.tc : Thread Cert.ReferenceOutFwdIdeal.nD Cert.ReferenceOutFwdIdeal.τ).loc Cert.ReferenceOutFwdIdeal.main_arg2) = m ((c.tc : Thread Cert.ReferenceOutFwdIdeal.nD Cert.ReferenceOutFwdIdeal.τ).loc Cert.ReferenceOutFwdIdeal.main_arg2)
      ∧ r.2.mem ((c.tc : Thread Cert.ReferenceOutFwdIdeal.nD Cert.ReferenceOutFwdIdeal.τ).loc Cert.ReferenceOutFwdIdeal.main_arg3) = m ((c.tc : Thread Cert.ReferenceOutFwdIdeal.nD Cert.ReferenceOutFwdIdeal.τ).loc Cert.ReferenceOutFwdIdeal.main_arg3)
      ∧ r.2.mem ((c.tc : Thread Cert.ReferenceOutFwdIdeal.nD Cert.ReferenceOutFwdIdeal.τ).loc Cert.ReferenceOutFwdIdeal.main_arg4) = m ((c.tc : Thread Cert.ReferenceOutFwdIdeal.nD Cert.ReferenceOutFwdIdeal.τ).loc Cert.ReferenceOutFwdIdeal.main_arg4)
      ∧ r.2.mem ((c.tc : Thread Cert.ReferenceOutFwdIdeal.nD Cert.ReferenceOutFwdIdeal.τ).loc Cert.ReferenceOutFwdIdeal.main_arg5) = m ((c.tc : Thread Cert.ReferenceOutFwdIdeal.nD Cert.ReferenceOutFwdIdeal.τ).loc Cert.ReferenceOutFwdIdeal.main_arg5))
      ∧ r.2.sem = fun _ => 0)

def quiescent_KernelOutBwd [hKernelOutBwd : Cert.KernelOutBwd.Facts] : Prop :=
  ∀ (m : (ℓ : Loc Cert.KernelOutBwd.nD Cert.KernelOutBwd.τ Cert.KernelOutBwd.sig) → Buf (Elt Bits) ℓ) (g : Dev Cert.KernelOutBwd.nD → PrngReg), Pre_KernelOutBwd m →
    θ_run (Cert.KernelOutBwd.defs (F := Bits)) (onTc (τ := Cert.KernelOutBwd.τ) (Cert.KernelOutBwd.main (F := Bits))) ⟨m, fun _ => 0, g⟩ (fun r => (∀ c : Dev Cert.KernelOutBwd.nD,
      r.2.mem ((c.tc : Thread Cert.KernelOutBwd.nD Cert.KernelOutBwd.τ).loc Cert.KernelOutBwd.main_arg0) = m ((c.tc : Thread Cert.KernelOutBwd.nD Cert.KernelOutBwd.τ).loc Cert.KernelOutBwd.main_arg0)
      ∧ r.2.mem ((c.tc : Thread Cert.KernelOutBwd.nD Cert.KernelOutBwd.τ).loc Cert.KernelOutBwd.main_arg1) = m ((c.tc : Thread Cert.KernelOutBwd.nD Cert.KernelOutBwd.τ).loc Cert.KernelOutBwd.main_arg1))
      ∧ r.2.sem = fun _ => 0)

def quiescent_KernelOutBwdIdeal [hKernelOutBwdIdeal : Cert.KernelOutBwdIdeal.Facts] : Prop :=
  ∀ (m : (ℓ : Loc Cert.KernelOutBwdIdeal.nD Cert.KernelOutBwdIdeal.τ Cert.KernelOutBwdIdeal.sig) → Buf (Elt Ideal) ℓ) (g : Dev Cert.KernelOutBwdIdeal.nD → PrngReg), Pre_KernelOutBwdIdeal m →
    θ_run (Cert.KernelOutBwdIdeal.defs (F := Ideal)) (onTc (τ := Cert.KernelOutBwdIdeal.τ) (Cert.KernelOutBwdIdeal.main (F := Ideal))) ⟨m, fun _ => 0, g⟩ (fun r => (∀ c : Dev Cert.KernelOutBwdIdeal.nD,
      r.2.mem ((c.tc : Thread Cert.KernelOutBwdIdeal.nD Cert.KernelOutBwdIdeal.τ).loc Cert.KernelOutBwdIdeal.main_arg0) = m ((c.tc : Thread Cert.KernelOutBwdIdeal.nD Cert.KernelOutBwdIdeal.τ).loc Cert.KernelOutBwdIdeal.main_arg0)
      ∧ r.2.mem ((c.tc : Thread Cert.KernelOutBwdIdeal.nD Cert.KernelOutBwdIdeal.τ).loc Cert.KernelOutBwdIdeal.main_arg1) = m ((c.tc : Thread Cert.KernelOutBwdIdeal.nD Cert.KernelOutBwdIdeal.τ).loc Cert.KernelOutBwdIdeal.main_arg1))
      ∧ r.2.sem = fun _ => 0)

def quiescent_ReferenceOutBwdIdeal [hReferenceOutBwdIdeal : Cert.ReferenceOutBwdIdeal.Facts] : Prop :=
  ∀ (m : (ℓ : Loc Cert.ReferenceOutBwdIdeal.nD Cert.ReferenceOutBwdIdeal.τ Cert.ReferenceOutBwdIdeal.sig) → Buf (Elt Ideal) ℓ) (g : Dev Cert.ReferenceOutBwdIdeal.nD → PrngReg), Pre_ReferenceOutBwdIdeal m →
    θ_run (Cert.ReferenceOutBwdIdeal.defs (F := Ideal)) (onTc (τ := Cert.ReferenceOutBwdIdeal.τ) (Cert.ReferenceOutBwdIdeal.main (F := Ideal))) ⟨m, fun _ => 0, g⟩ (fun r => (∀ c : Dev Cert.ReferenceOutBwdIdeal.nD,
      r.2.mem ((c.tc : Thread Cert.ReferenceOutBwdIdeal.nD Cert.ReferenceOutBwdIdeal.τ).loc Cert.ReferenceOutBwdIdeal.main_arg0) = m ((c.tc : Thread Cert.ReferenceOutBwdIdeal.nD Cert.ReferenceOutBwdIdeal.τ).loc Cert.ReferenceOutBwdIdeal.main_arg0)
      ∧ r.2.mem ((c.tc : Thread Cert.ReferenceOutBwdIdeal.nD Cert.ReferenceOutBwdIdeal.τ).loc Cert.ReferenceOutBwdIdeal.main_arg1) = m ((c.tc : Thread Cert.ReferenceOutBwdIdeal.nD Cert.ReferenceOutBwdIdeal.τ).loc Cert.ReferenceOutBwdIdeal.main_arg1))
      ∧ r.2.sem = fun _ => 0)

def quiescent_KernelDwin [hKernelDwin : Cert.KernelDwin.Facts] : Prop :=
  ∀ (m : (ℓ : Loc Cert.KernelDwin.nD Cert.KernelDwin.τ Cert.KernelDwin.sig) → Buf (Elt Bits) ℓ) (g : Dev Cert.KernelDwin.nD → PrngReg), Pre_KernelDwin m →
    θ_run (Cert.KernelDwin.defs (F := Bits)) (onTc (τ := Cert.KernelDwin.τ) (Cert.KernelDwin.main (F := Bits))) ⟨m, fun _ => 0, g⟩ (fun r => (∀ c : Dev Cert.KernelDwin.nD,
      r.2.mem ((c.tc : Thread Cert.KernelDwin.nD Cert.KernelDwin.τ).loc Cert.KernelDwin.main_arg0) = m ((c.tc : Thread Cert.KernelDwin.nD Cert.KernelDwin.τ).loc Cert.KernelDwin.main_arg0)
      ∧ r.2.mem ((c.tc : Thread Cert.KernelDwin.nD Cert.KernelDwin.τ).loc Cert.KernelDwin.main_arg1) = m ((c.tc : Thread Cert.KernelDwin.nD Cert.KernelDwin.τ).loc Cert.KernelDwin.main_arg1)
      ∧ r.2.mem ((c.tc : Thread Cert.KernelDwin.nD Cert.KernelDwin.τ).loc Cert.KernelDwin.main_arg2) = m ((c.tc : Thread Cert.KernelDwin.nD Cert.KernelDwin.τ).loc Cert.KernelDwin.main_arg2)
      ∧ r.2.mem ((c.tc : Thread Cert.KernelDwin.nD Cert.KernelDwin.τ).loc Cert.KernelDwin.main_arg3) = m ((c.tc : Thread Cert.KernelDwin.nD Cert.KernelDwin.τ).loc Cert.KernelDwin.main_arg3)
      ∧ r.2.mem ((c.tc : Thread Cert.KernelDwin.nD Cert.KernelDwin.τ).loc Cert.KernelDwin.main_arg4) = m ((c.tc : Thread Cert.KernelDwin.nD Cert.KernelDwin.τ).loc Cert.KernelDwin.main_arg4))
      ∧ r.2.sem = fun _ => 0)

def quiescent_KernelDwinIdeal [hKernelDwinIdeal : Cert.KernelDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg), Pre_KernelDwinIdeal m →
    θ_run (Cert.KernelDwinIdeal.defs (F := Ideal)) (onTc (τ := Cert.KernelDwinIdeal.τ) (Cert.KernelDwinIdeal.main (F := Ideal))) ⟨m, fun _ => 0, g⟩ (fun r => (∀ c : Dev Cert.KernelDwinIdeal.nD,
      r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
      ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1)
      ∧ r.2.mem ((c.tc : Thread Cert.KernelDwinIdeal.nD Cert.KernelDwinIdeal.τ).loc Cert.KernelDwinIdeal.main_arg2) = m ((c.tc : Thread Cert.KernelDwinIdeal.nD Cert.KernelDwinIdeal.τ).loc Cert.KernelDwinIdeal.main_arg2)
      ∧ r.2.mem ((c.tc : Thread Cert.KernelDwinIdeal.nD Cert.KernelDwinIdeal.τ).loc Cert.KernelDwinIdeal.main_arg3) = m ((c.tc : Thread Cert.KernelDwinIdeal.nD Cert.KernelDwinIdeal.τ).loc Cert.KernelDwinIdeal.main_arg3)
      ∧ r.2.mem ((c.tc : Thread Cert.KernelDwinIdeal.nD Cert.KernelDwinIdeal.τ).loc Cert.KernelDwinIdeal.main_arg4) = m ((c.tc : Thread Cert.KernelDwinIdeal.nD Cert.KernelDwinIdeal.τ).loc Cert.KernelDwinIdeal.main_arg4))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1)
      ∧ r.2.mem ((c.tc : Thread Cert.ReferenceDwinIdeal.nD Cert.ReferenceDwinIdeal.τ).loc Cert.ReferenceDwinIdeal.main_arg2) = m ((c.tc : Thread Cert.ReferenceDwinIdeal.nD Cert.ReferenceDwinIdeal.τ).loc Cert.ReferenceDwinIdeal.main_arg2)
      ∧ r.2.mem ((c.tc : Thread Cert.ReferenceDwinIdeal.nD Cert.ReferenceDwinIdeal.τ).loc Cert.ReferenceDwinIdeal.main_arg3) = m ((c.tc : Thread Cert.ReferenceDwinIdeal.nD Cert.ReferenceDwinIdeal.τ).loc Cert.ReferenceDwinIdeal.main_arg3)
      ∧ r.2.mem ((c.tc : Thread Cert.ReferenceDwinIdeal.nD Cert.ReferenceDwinIdeal.τ).loc Cert.ReferenceDwinIdeal.main_arg4) = m ((c.tc : Thread Cert.ReferenceDwinIdeal.nD Cert.ReferenceDwinIdeal.τ).loc Cert.ReferenceDwinIdeal.main_arg4))
      ∧ r.2.sem = fun _ => 0)

def quiescent_KernelDwout [hKernelDwout : Cert.KernelDwout.Facts] : Prop :=
  ∀ (m : (ℓ : Loc Cert.KernelDwout.nD Cert.KernelDwout.τ Cert.KernelDwout.sig) → Buf (Elt Bits) ℓ) (g : Dev Cert.KernelDwout.nD → PrngReg), Pre_KernelDwout m →
    θ_run (Cert.KernelDwout.defs (F := Bits)) (onTc (τ := Cert.KernelDwout.τ) (Cert.KernelDwout.main (F := Bits))) ⟨m, fun _ => 0, g⟩ (fun r => (∀ c : Dev Cert.KernelDwout.nD,
      r.2.mem ((c.tc : Thread Cert.KernelDwout.nD Cert.KernelDwout.τ).loc Cert.KernelDwout.main_arg0) = m ((c.tc : Thread Cert.KernelDwout.nD Cert.KernelDwout.τ).loc Cert.KernelDwout.main_arg0)
      ∧ r.2.mem ((c.tc : Thread Cert.KernelDwout.nD Cert.KernelDwout.τ).loc Cert.KernelDwout.main_arg1) = m ((c.tc : Thread Cert.KernelDwout.nD Cert.KernelDwout.τ).loc Cert.KernelDwout.main_arg1)
      ∧ r.2.mem ((c.tc : Thread Cert.KernelDwout.nD Cert.KernelDwout.τ).loc Cert.KernelDwout.main_arg2) = m ((c.tc : Thread Cert.KernelDwout.nD Cert.KernelDwout.τ).loc Cert.KernelDwout.main_arg2)
      ∧ r.2.mem ((c.tc : Thread Cert.KernelDwout.nD Cert.KernelDwout.τ).loc Cert.KernelDwout.main_arg3) = m ((c.tc : Thread Cert.KernelDwout.nD Cert.KernelDwout.τ).loc Cert.KernelDwout.main_arg3)
      ∧ r.2.mem ((c.tc : Thread Cert.KernelDwout.nD Cert.KernelDwout.τ).loc Cert.KernelDwout.main_arg4) = m ((c.tc : Thread Cert.KernelDwout.nD Cert.KernelDwout.τ).loc Cert.KernelDwout.main_arg4))
      ∧ r.2.sem = fun _ => 0)

def quiescent_KernelDwoutIdeal [hKernelDwoutIdeal : Cert.KernelDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg), Pre_KernelDwoutIdeal m →
    θ_run (Cert.KernelDwoutIdeal.defs (F := Ideal)) (onTc (τ := Cert.KernelDwoutIdeal.τ) (Cert.KernelDwoutIdeal.main (F := Ideal))) ⟨m, fun _ => 0, g⟩ (fun r => (∀ c : Dev Cert.KernelDwoutIdeal.nD,
      r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
      ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1)
      ∧ r.2.mem ((c.tc : Thread Cert.KernelDwoutIdeal.nD Cert.KernelDwoutIdeal.τ).loc Cert.KernelDwoutIdeal.main_arg2) = m ((c.tc : Thread Cert.KernelDwoutIdeal.nD Cert.KernelDwoutIdeal.τ).loc Cert.KernelDwoutIdeal.main_arg2)
      ∧ r.2.mem ((c.tc : Thread Cert.KernelDwoutIdeal.nD Cert.KernelDwoutIdeal.τ).loc Cert.KernelDwoutIdeal.main_arg3) = m ((c.tc : Thread Cert.KernelDwoutIdeal.nD Cert.KernelDwoutIdeal.τ).loc Cert.KernelDwoutIdeal.main_arg3)
      ∧ r.2.mem ((c.tc : Thread Cert.KernelDwoutIdeal.nD Cert.KernelDwoutIdeal.τ).loc Cert.KernelDwoutIdeal.main_arg4) = m ((c.tc : Thread Cert.KernelDwoutIdeal.nD Cert.KernelDwoutIdeal.τ).loc Cert.KernelDwoutIdeal.main_arg4))
      ∧ r.2.sem = fun _ => 0)

def quiescent_ReferenceDwoutIdeal [hReferenceDwoutIdeal : Cert.ReferenceDwoutIdeal.Facts] : Prop :=
  ∀ (m : (ℓ : Loc Cert.ReferenceDwoutIdeal.nD Cert.ReferenceDwoutIdeal.τ Cert.ReferenceDwoutIdeal.sig) → Buf (Elt Ideal) ℓ) (g : Dev Cert.ReferenceDwoutIdeal.nD → PrngReg), Pre_ReferenceDwoutIdeal m →
    θ_run (Cert.ReferenceDwoutIdeal.defs (F := Ideal)) (onTc (τ := Cert.ReferenceDwoutIdeal.τ) (Cert.ReferenceDwoutIdeal.main (F := Ideal))) ⟨m, fun _ => 0, g⟩ (fun r => (∀ c : Dev Cert.ReferenceDwoutIdeal.nD,
      r.2.mem ((c.tc : Thread Cert.ReferenceDwoutIdeal.nD Cert.ReferenceDwoutIdeal.τ).loc Cert.ReferenceDwoutIdeal.main_arg0) = m ((c.tc : Thread Cert.ReferenceDwoutIdeal.nD Cert.ReferenceDwoutIdeal.τ).loc Cert.ReferenceDwoutIdeal.main_arg0)
      ∧ r.2.mem ((c.tc : Thread Cert.ReferenceDwoutIdeal.nD Cert.ReferenceDwoutIdeal.τ).loc Cert.ReferenceDwoutIdeal.main_arg1) = m ((c.tc : Thread Cert.ReferenceDwoutIdeal.nD Cert.ReferenceDwoutIdeal.τ).loc Cert.ReferenceDwoutIdeal.main_arg1)
      ∧ r.2.mem ((c.tc : Thread Cert.ReferenceDwoutIdeal.nD Cert.ReferenceDwoutIdeal.τ).loc Cert.ReferenceDwoutIdeal.main_arg2) = m ((c.tc : Thread Cert.ReferenceDwoutIdeal.nD Cert.ReferenceDwoutIdeal.τ).loc Cert.ReferenceDwoutIdeal.main_arg2)
      ∧ r.2.mem ((c.tc : Thread Cert.ReferenceDwoutIdeal.nD Cert.ReferenceDwoutIdeal.τ).loc Cert.ReferenceDwoutIdeal.main_arg3) = m ((c.tc : Thread Cert.ReferenceDwoutIdeal.nD Cert.ReferenceDwoutIdeal.τ).loc Cert.ReferenceDwoutIdeal.main_arg3)
      ∧ r.2.mem ((c.tc : Thread Cert.ReferenceDwoutIdeal.nD Cert.ReferenceDwoutIdeal.τ).loc Cert.ReferenceDwoutIdeal.main_arg4) = m ((c.tc : Thread Cert.ReferenceDwoutIdeal.nD Cert.ReferenceDwoutIdeal.τ).loc Cert.ReferenceDwoutIdeal.main_arg4))
      ∧ r.2.sem = fun _ => 0)

def quiescent_KernelAdamw [hKernelAdamw : Cert.KernelAdamw.Facts] : Prop :=
  ∀ (m : (ℓ : Loc Cert.KernelAdamw.nD Cert.KernelAdamw.τ Cert.KernelAdamw.sig) → Buf (Elt Bits) ℓ) (g : Dev Cert.KernelAdamw.nD → PrngReg), Pre_KernelAdamw m →
    θ_run (Cert.KernelAdamw.defs (F := Bits)) (onTc (τ := Cert.KernelAdamw.τ) (Cert.KernelAdamw.main (F := Bits))) ⟨m, fun _ => 0, g⟩ (fun r => (∀ c : Dev Cert.KernelAdamw.nD,
      r.2.mem ((c.tc : Thread Cert.KernelAdamw.nD Cert.KernelAdamw.τ).loc Cert.KernelAdamw.main_arg0) = m ((c.tc : Thread Cert.KernelAdamw.nD Cert.KernelAdamw.τ).loc Cert.KernelAdamw.main_arg0)
      ∧ r.2.mem ((c.tc : Thread Cert.KernelAdamw.nD Cert.KernelAdamw.τ).loc Cert.KernelAdamw.main_arg1) = m ((c.tc : Thread Cert.KernelAdamw.nD Cert.KernelAdamw.τ).loc Cert.KernelAdamw.main_arg1)
      ∧ r.2.mem ((c.tc : Thread Cert.KernelAdamw.nD Cert.KernelAdamw.τ).loc Cert.KernelAdamw.main_arg2) = m ((c.tc : Thread Cert.KernelAdamw.nD Cert.KernelAdamw.τ).loc Cert.KernelAdamw.main_arg2)
      ∧ r.2.mem ((c.tc : Thread Cert.KernelAdamw.nD Cert.KernelAdamw.τ).loc Cert.KernelAdamw.main_arg3) = m ((c.tc : Thread Cert.KernelAdamw.nD Cert.KernelAdamw.τ).loc Cert.KernelAdamw.main_arg3))
      ∧ r.2.sem = fun _ => 0)

def quiescent_KernelAdamwIdeal [hKernelAdamwIdeal : Cert.KernelAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg), Pre_KernelAdamwIdeal m →
    θ_run (Cert.KernelAdamwIdeal.defs (F := Ideal)) (onTc (τ := Cert.KernelAdamwIdeal.τ) (Cert.KernelAdamwIdeal.main (F := Ideal))) ⟨m, fun _ => 0, g⟩ (fun r => (∀ c : Dev Cert.KernelAdamwIdeal.nD,
      r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
      ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
      ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
      ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ r.2.sem = fun _ => 0)

def quiescent_ReferenceAdamwIdeal [hReferenceAdamwIdeal : Cert.ReferenceAdamwIdeal.Facts] : Prop :=
  ∀ (m : (ℓ : Loc Cert.ReferenceAdamwIdeal.nD Cert.ReferenceAdamwIdeal.τ Cert.ReferenceAdamwIdeal.sig) → Buf (Elt Ideal) ℓ) (g : Dev Cert.ReferenceAdamwIdeal.nD → PrngReg), Pre_ReferenceAdamwIdeal m →
    θ_run (Cert.ReferenceAdamwIdeal.defs (F := Ideal)) (onTc (τ := Cert.ReferenceAdamwIdeal.τ) (Cert.ReferenceAdamwIdeal.main (F := Ideal))) ⟨m, fun _ => 0, g⟩ (fun r => (∀ c : Dev Cert.ReferenceAdamwIdeal.nD,
      r.2.mem ((c.tc : Thread Cert.ReferenceAdamwIdeal.nD Cert.ReferenceAdamwIdeal.τ).loc Cert.ReferenceAdamwIdeal.main_arg0) = m ((c.tc : Thread Cert.ReferenceAdamwIdeal.nD Cert.ReferenceAdamwIdeal.τ).loc Cert.ReferenceAdamwIdeal.main_arg0)
      ∧ r.2.mem ((c.tc : Thread Cert.ReferenceAdamwIdeal.nD Cert.ReferenceAdamwIdeal.τ).loc Cert.ReferenceAdamwIdeal.main_arg1) = m ((c.tc : Thread Cert.ReferenceAdamwIdeal.nD Cert.ReferenceAdamwIdeal.τ).loc Cert.ReferenceAdamwIdeal.main_arg1)
      ∧ r.2.mem ((c.tc : Thread Cert.ReferenceAdamwIdeal.nD Cert.ReferenceAdamwIdeal.τ).loc Cert.ReferenceAdamwIdeal.main_arg2) = m ((c.tc : Thread Cert.ReferenceAdamwIdeal.nD Cert.ReferenceAdamwIdeal.τ).loc Cert.ReferenceAdamwIdeal.main_arg2)
      ∧ r.2.mem ((c.tc : Thread Cert.ReferenceAdamwIdeal.nD Cert.ReferenceAdamwIdeal.τ).loc Cert.ReferenceAdamwIdeal.main_arg3) = m ((c.tc : Thread Cert.ReferenceAdamwIdeal.nD Cert.ReferenceAdamwIdeal.τ).loc Cert.ReferenceAdamwIdeal.main_arg3))
      ∧ r.2.sem = fun _ => 0)

def quiescent_KernelAdamwIn [hKernelAdamwIn : Cert.KernelAdamwIn.Facts] : Prop :=
  ∀ (m : (ℓ : Loc Cert.KernelAdamwIn.nD Cert.KernelAdamwIn.τ Cert.KernelAdamwIn.sig) → Buf (Elt Bits) ℓ) (g : Dev Cert.KernelAdamwIn.nD → PrngReg), Pre_KernelAdamwIn m →
    θ_run (Cert.KernelAdamwIn.defs (F := Bits)) (onTc (τ := Cert.KernelAdamwIn.τ) (Cert.KernelAdamwIn.main (F := Bits))) ⟨m, fun _ => 0, g⟩ (fun r => (∀ c : Dev Cert.KernelAdamwIn.nD,
      r.2.mem ((c.tc : Thread Cert.KernelAdamwIn.nD Cert.KernelAdamwIn.τ).loc Cert.KernelAdamwIn.main_arg0) = m ((c.tc : Thread Cert.KernelAdamwIn.nD Cert.KernelAdamwIn.τ).loc Cert.KernelAdamwIn.main_arg0)
      ∧ r.2.mem ((c.tc : Thread Cert.KernelAdamwIn.nD Cert.KernelAdamwIn.τ).loc Cert.KernelAdamwIn.main_arg1) = m ((c.tc : Thread Cert.KernelAdamwIn.nD Cert.KernelAdamwIn.τ).loc Cert.KernelAdamwIn.main_arg1)
      ∧ r.2.mem ((c.tc : Thread Cert.KernelAdamwIn.nD Cert.KernelAdamwIn.τ).loc Cert.KernelAdamwIn.main_arg2) = m ((c.tc : Thread Cert.KernelAdamwIn.nD Cert.KernelAdamwIn.τ).loc Cert.KernelAdamwIn.main_arg2)
      ∧ r.2.mem ((c.tc : Thread Cert.KernelAdamwIn.nD Cert.KernelAdamwIn.τ).loc Cert.KernelAdamwIn.main_arg3) = m ((c.tc : Thread Cert.KernelAdamwIn.nD Cert.KernelAdamwIn.τ).loc Cert.KernelAdamwIn.main_arg3))
      ∧ r.2.sem = fun _ => 0)

def quiescent_KernelAdamwInIdeal [hKernelAdamwInIdeal : Cert.KernelAdamwInIdeal.Facts] : Prop :=
  ∀ (m : (ℓ : Loc Cert.KernelAdamwInIdeal.nD Cert.KernelAdamwInIdeal.τ Cert.KernelAdamwInIdeal.sig) → Buf (Elt Ideal) ℓ) (g : Dev Cert.KernelAdamwInIdeal.nD → PrngReg), Pre_KernelAdamwInIdeal m →
    θ_run (Cert.KernelAdamwInIdeal.defs (F := Ideal)) (onTc (τ := Cert.KernelAdamwInIdeal.τ) (Cert.KernelAdamwInIdeal.main (F := Ideal))) ⟨m, fun _ => 0, g⟩ (fun r => (∀ c : Dev Cert.KernelAdamwInIdeal.nD,
      r.2.mem ((c.tc : Thread Cert.KernelAdamwInIdeal.nD Cert.KernelAdamwInIdeal.τ).loc Cert.KernelAdamwInIdeal.main_arg0) = m ((c.tc : Thread Cert.KernelAdamwInIdeal.nD Cert.KernelAdamwInIdeal.τ).loc Cert.KernelAdamwInIdeal.main_arg0)
      ∧ r.2.mem ((c.tc : Thread Cert.KernelAdamwInIdeal.nD Cert.KernelAdamwInIdeal.τ).loc Cert.KernelAdamwInIdeal.main_arg1) = m ((c.tc : Thread Cert.KernelAdamwInIdeal.nD Cert.KernelAdamwInIdeal.τ).loc Cert.KernelAdamwInIdeal.main_arg1)
      ∧ r.2.mem ((c.tc : Thread Cert.KernelAdamwInIdeal.nD Cert.KernelAdamwInIdeal.τ).loc Cert.KernelAdamwInIdeal.main_arg2) = m ((c.tc : Thread Cert.KernelAdamwInIdeal.nD Cert.KernelAdamwInIdeal.τ).loc Cert.KernelAdamwInIdeal.main_arg2)
      ∧ r.2.mem ((c.tc : Thread Cert.KernelAdamwInIdeal.nD Cert.KernelAdamwInIdeal.τ).loc Cert.KernelAdamwInIdeal.main_arg3) = m ((c.tc : Thread Cert.KernelAdamwInIdeal.nD Cert.KernelAdamwInIdeal.τ).loc Cert.KernelAdamwInIdeal.main_arg3))
      ∧ r.2.sem = fun _ => 0)

def quiescent_ReferenceAdamwInIdeal [hReferenceAdamwInIdeal : Cert.ReferenceAdamwInIdeal.Facts] : Prop :=
  ∀ (m : (ℓ : Loc Cert.ReferenceAdamwInIdeal.nD Cert.ReferenceAdamwInIdeal.τ Cert.ReferenceAdamwInIdeal.sig) → Buf (Elt Ideal) ℓ) (g : Dev Cert.ReferenceAdamwInIdeal.nD → PrngReg), Pre_ReferenceAdamwInIdeal m →
    θ_run (Cert.ReferenceAdamwInIdeal.defs (F := Ideal)) (onTc (τ := Cert.ReferenceAdamwInIdeal.τ) (Cert.ReferenceAdamwInIdeal.main (F := Ideal))) ⟨m, fun _ => 0, g⟩ (fun r => (∀ c : Dev Cert.ReferenceAdamwInIdeal.nD,
      r.2.mem ((c.tc : Thread Cert.ReferenceAdamwInIdeal.nD Cert.ReferenceAdamwInIdeal.τ).loc Cert.ReferenceAdamwInIdeal.main_arg0) = m ((c.tc : Thread Cert.ReferenceAdamwInIdeal.nD Cert.ReferenceAdamwInIdeal.τ).loc Cert.ReferenceAdamwInIdeal.main_arg0)
      ∧ r.2.mem ((c.tc : Thread Cert.ReferenceAdamwInIdeal.nD Cert.ReferenceAdamwInIdeal.τ).loc Cert.ReferenceAdamwInIdeal.main_arg1) = m ((c.tc : Thread Cert.ReferenceAdamwInIdeal.nD Cert.ReferenceAdamwInIdeal.τ).loc Cert.ReferenceAdamwInIdeal.main_arg1)
      ∧ r.2.mem ((c.tc : Thread Cert.ReferenceAdamwInIdeal.nD Cert.ReferenceAdamwInIdeal.τ).loc Cert.ReferenceAdamwInIdeal.main_arg2) = m ((c.tc : Thread Cert.ReferenceAdamwInIdeal.nD Cert.ReferenceAdamwInIdeal.τ).loc Cert.ReferenceAdamwInIdeal.main_arg2)
      ∧ r.2.mem ((c.tc : Thread Cert.ReferenceAdamwInIdeal.nD Cert.ReferenceAdamwInIdeal.τ).loc Cert.ReferenceAdamwInIdeal.main_arg3) = m ((c.tc : Thread Cert.ReferenceAdamwInIdeal.nD Cert.ReferenceAdamwInIdeal.τ).loc Cert.ReferenceAdamwInIdeal.main_arg3))
      ∧ r.2.sem = fun _ => 0)

def quiescent_KernelAdamwSmall [hKernelAdamwSmall : Cert.KernelAdamwSmall.Facts] : Prop :=
  ∀ (m : (ℓ : Loc Cert.KernelAdamwSmall.nD Cert.KernelAdamwSmall.τ Cert.KernelAdamwSmall.sig) → Buf (Elt Bits) ℓ) (g : Dev Cert.KernelAdamwSmall.nD → PrngReg), Pre_KernelAdamwSmall m →
    θ_run (Cert.KernelAdamwSmall.defs (F := Bits)) (onTc (τ := Cert.KernelAdamwSmall.τ) (Cert.KernelAdamwSmall.main (F := Bits))) ⟨m, fun _ => 0, g⟩ (fun r => (∀ c : Dev Cert.KernelAdamwSmall.nD,
      r.2.mem ((c.tc : Thread Cert.KernelAdamwSmall.nD Cert.KernelAdamwSmall.τ).loc Cert.KernelAdamwSmall.main_arg0) = m ((c.tc : Thread Cert.KernelAdamwSmall.nD Cert.KernelAdamwSmall.τ).loc Cert.KernelAdamwSmall.main_arg0)
      ∧ r.2.mem ((c.tc : Thread Cert.KernelAdamwSmall.nD Cert.KernelAdamwSmall.τ).loc Cert.KernelAdamwSmall.main_arg1) = m ((c.tc : Thread Cert.KernelAdamwSmall.nD Cert.KernelAdamwSmall.τ).loc Cert.KernelAdamwSmall.main_arg1)
      ∧ r.2.mem ((c.tc : Thread Cert.KernelAdamwSmall.nD Cert.KernelAdamwSmall.τ).loc Cert.KernelAdamwSmall.main_arg2) = m ((c.tc : Thread Cert.KernelAdamwSmall.nD Cert.KernelAdamwSmall.τ).loc Cert.KernelAdamwSmall.main_arg2)
      ∧ r.2.mem ((c.tc : Thread Cert.KernelAdamwSmall.nD Cert.KernelAdamwSmall.τ).loc Cert.KernelAdamwSmall.main_arg3) = m ((c.tc : Thread Cert.KernelAdamwSmall.nD Cert.KernelAdamwSmall.τ).loc Cert.KernelAdamwSmall.main_arg3)
      ∧ r.2.mem ((c.tc : Thread Cert.KernelAdamwSmall.nD Cert.KernelAdamwSmall.τ).loc Cert.KernelAdamwSmall.main_arg4) = m ((c.tc : Thread Cert.KernelAdamwSmall.nD Cert.KernelAdamwSmall.τ).loc Cert.KernelAdamwSmall.main_arg4)
      ∧ r.2.mem ((c.tc : Thread Cert.KernelAdamwSmall.nD Cert.KernelAdamwSmall.τ).loc Cert.KernelAdamwSmall.main_arg5) = m ((c.tc : Thread Cert.KernelAdamwSmall.nD Cert.KernelAdamwSmall.τ).loc Cert.KernelAdamwSmall.main_arg5)
      ∧ r.2.mem ((c.tc : Thread Cert.KernelAdamwSmall.nD Cert.KernelAdamwSmall.τ).loc Cert.KernelAdamwSmall.main_arg6) = m ((c.tc : Thread Cert.KernelAdamwSmall.nD Cert.KernelAdamwSmall.τ).loc Cert.KernelAdamwSmall.main_arg6)
      ∧ r.2.mem ((c.tc : Thread Cert.KernelAdamwSmall.nD Cert.KernelAdamwSmall.τ).loc Cert.KernelAdamwSmall.main_arg7) = m ((c.tc : Thread Cert.KernelAdamwSmall.nD Cert.KernelAdamwSmall.τ).loc Cert.KernelAdamwSmall.main_arg7)
      ∧ r.2.mem ((c.tc : Thread Cert.KernelAdamwSmall.nD Cert.KernelAdamwSmall.τ).loc Cert.KernelAdamwSmall.main_arg8) = m ((c.tc : Thread Cert.KernelAdamwSmall.nD Cert.KernelAdamwSmall.τ).loc Cert.KernelAdamwSmall.main_arg8)
      ∧ r.2.mem ((c.tc : Thread Cert.KernelAdamwSmall.nD Cert.KernelAdamwSmall.τ).loc Cert.KernelAdamwSmall.main_arg9) = m ((c.tc : Thread Cert.KernelAdamwSmall.nD Cert.KernelAdamwSmall.τ).loc Cert.KernelAdamwSmall.main_arg9)
      ∧ r.2.mem ((c.tc : Thread Cert.KernelAdamwSmall.nD Cert.KernelAdamwSmall.τ).loc Cert.KernelAdamwSmall.main_arg10) = m ((c.tc : Thread Cert.KernelAdamwSmall.nD Cert.KernelAdamwSmall.τ).loc Cert.KernelAdamwSmall.main_arg10)
      ∧ r.2.mem ((c.tc : Thread Cert.KernelAdamwSmall.nD Cert.KernelAdamwSmall.τ).loc Cert.KernelAdamwSmall.main_arg11) = m ((c.tc : Thread Cert.KernelAdamwSmall.nD Cert.KernelAdamwSmall.τ).loc Cert.KernelAdamwSmall.main_arg11)
      ∧ r.2.mem ((c.tc : Thread Cert.KernelAdamwSmall.nD Cert.KernelAdamwSmall.τ).loc Cert.KernelAdamwSmall.main_arg12) = m ((c.tc : Thread Cert.KernelAdamwSmall.nD Cert.KernelAdamwSmall.τ).loc Cert.KernelAdamwSmall.main_arg12)
      ∧ r.2.mem ((c.tc : Thread Cert.KernelAdamwSmall.nD Cert.KernelAdamwSmall.τ).loc Cert.KernelAdamwSmall.main_arg13) = m ((c.tc : Thread Cert.KernelAdamwSmall.nD Cert.KernelAdamwSmall.τ).loc Cert.KernelAdamwSmall.main_arg13)
      ∧ r.2.mem ((c.tc : Thread Cert.KernelAdamwSmall.nD Cert.KernelAdamwSmall.τ).loc Cert.KernelAdamwSmall.main_arg14) = m ((c.tc : Thread Cert.KernelAdamwSmall.nD Cert.KernelAdamwSmall.τ).loc Cert.KernelAdamwSmall.main_arg14)
      ∧ r.2.mem ((c.tc : Thread Cert.KernelAdamwSmall.nD Cert.KernelAdamwSmall.τ).loc Cert.KernelAdamwSmall.main_arg15) = m ((c.tc : Thread Cert.KernelAdamwSmall.nD Cert.KernelAdamwSmall.τ).loc Cert.KernelAdamwSmall.main_arg15)
      ∧ r.2.mem ((c.tc : Thread Cert.KernelAdamwSmall.nD Cert.KernelAdamwSmall.τ).loc Cert.KernelAdamwSmall.main_arg16) = m ((c.tc : Thread Cert.KernelAdamwSmall.nD Cert.KernelAdamwSmall.τ).loc Cert.KernelAdamwSmall.main_arg16)
      ∧ r.2.mem ((c.tc : Thread Cert.KernelAdamwSmall.nD Cert.KernelAdamwSmall.τ).loc Cert.KernelAdamwSmall.main_arg17) = m ((c.tc : Thread Cert.KernelAdamwSmall.nD Cert.KernelAdamwSmall.τ).loc Cert.KernelAdamwSmall.main_arg17)
      ∧ r.2.mem ((c.tc : Thread Cert.KernelAdamwSmall.nD Cert.KernelAdamwSmall.τ).loc Cert.KernelAdamwSmall.main_arg18) = m ((c.tc : Thread Cert.KernelAdamwSmall.nD Cert.KernelAdamwSmall.τ).loc Cert.KernelAdamwSmall.main_arg18)
      ∧ r.2.mem ((c.tc : Thread Cert.KernelAdamwSmall.nD Cert.KernelAdamwSmall.τ).loc Cert.KernelAdamwSmall.main_arg19) = m ((c.tc : Thread Cert.KernelAdamwSmall.nD Cert.KernelAdamwSmall.τ).loc Cert.KernelAdamwSmall.main_arg19))
      ∧ r.2.sem = fun _ => 0)

def quiescent_KernelAdamwSmallIdeal [hKernelAdamwSmallIdeal : Cert.KernelAdamwSmallIdeal.Facts] : Prop :=
  ∀ (m : (ℓ : Loc Cert.KernelAdamwSmallIdeal.nD Cert.KernelAdamwSmallIdeal.τ Cert.KernelAdamwSmallIdeal.sig) → Buf (Elt Ideal) ℓ) (g : Dev Cert.KernelAdamwSmallIdeal.nD → PrngReg), Pre_KernelAdamwSmallIdeal m →
    θ_run (Cert.KernelAdamwSmallIdeal.defs (F := Ideal)) (onTc (τ := Cert.KernelAdamwSmallIdeal.τ) (Cert.KernelAdamwSmallIdeal.main (F := Ideal))) ⟨m, fun _ => 0, g⟩ (fun r => (∀ c : Dev Cert.KernelAdamwSmallIdeal.nD,
      r.2.mem ((c.tc : Thread Cert.KernelAdamwSmallIdeal.nD Cert.KernelAdamwSmallIdeal.τ).loc Cert.KernelAdamwSmallIdeal.main_arg0) = m ((c.tc : Thread Cert.KernelAdamwSmallIdeal.nD Cert.KernelAdamwSmallIdeal.τ).loc Cert.KernelAdamwSmallIdeal.main_arg0)
      ∧ r.2.mem ((c.tc : Thread Cert.KernelAdamwSmallIdeal.nD Cert.KernelAdamwSmallIdeal.τ).loc Cert.KernelAdamwSmallIdeal.main_arg1) = m ((c.tc : Thread Cert.KernelAdamwSmallIdeal.nD Cert.KernelAdamwSmallIdeal.τ).loc Cert.KernelAdamwSmallIdeal.main_arg1)
      ∧ r.2.mem ((c.tc : Thread Cert.KernelAdamwSmallIdeal.nD Cert.KernelAdamwSmallIdeal.τ).loc Cert.KernelAdamwSmallIdeal.main_arg2) = m ((c.tc : Thread Cert.KernelAdamwSmallIdeal.nD Cert.KernelAdamwSmallIdeal.τ).loc Cert.KernelAdamwSmallIdeal.main_arg2)
      ∧ r.2.mem ((c.tc : Thread Cert.KernelAdamwSmallIdeal.nD Cert.KernelAdamwSmallIdeal.τ).loc Cert.KernelAdamwSmallIdeal.main_arg3) = m ((c.tc : Thread Cert.KernelAdamwSmallIdeal.nD Cert.KernelAdamwSmallIdeal.τ).loc Cert.KernelAdamwSmallIdeal.main_arg3)
      ∧ r.2.mem ((c.tc : Thread Cert.KernelAdamwSmallIdeal.nD Cert.KernelAdamwSmallIdeal.τ).loc Cert.KernelAdamwSmallIdeal.main_arg4) = m ((c.tc : Thread Cert.KernelAdamwSmallIdeal.nD Cert.KernelAdamwSmallIdeal.τ).loc Cert.KernelAdamwSmallIdeal.main_arg4)
      ∧ r.2.mem ((c.tc : Thread Cert.KernelAdamwSmallIdeal.nD Cert.KernelAdamwSmallIdeal.τ).loc Cert.KernelAdamwSmallIdeal.main_arg5) = m ((c.tc : Thread Cert.KernelAdamwSmallIdeal.nD Cert.KernelAdamwSmallIdeal.τ).loc Cert.KernelAdamwSmallIdeal.main_arg5)
      ∧ r.2.mem ((c.tc : Thread Cert.KernelAdamwSmallIdeal.nD Cert.KernelAdamwSmallIdeal.τ).loc Cert.KernelAdamwSmallIdeal.main_arg6) = m ((c.tc : Thread Cert.KernelAdamwSmallIdeal.nD Cert.KernelAdamwSmallIdeal.τ).loc Cert.KernelAdamwSmallIdeal.main_arg6)
      ∧ r.2.mem ((c.tc : Thread Cert.KernelAdamwSmallIdeal.nD Cert.KernelAdamwSmallIdeal.τ).loc Cert.KernelAdamwSmallIdeal.main_arg7) = m ((c.tc : Thread Cert.KernelAdamwSmallIdeal.nD Cert.KernelAdamwSmallIdeal.τ).loc Cert.KernelAdamwSmallIdeal.main_arg7)
      ∧ r.2.mem ((c.tc : Thread Cert.KernelAdamwSmallIdeal.nD Cert.KernelAdamwSmallIdeal.τ).loc Cert.KernelAdamwSmallIdeal.main_arg8) = m ((c.tc : Thread Cert.KernelAdamwSmallIdeal.nD Cert.KernelAdamwSmallIdeal.τ).loc Cert.KernelAdamwSmallIdeal.main_arg8)
      ∧ r.2.mem ((c.tc : Thread Cert.KernelAdamwSmallIdeal.nD Cert.KernelAdamwSmallIdeal.τ).loc Cert.KernelAdamwSmallIdeal.main_arg9) = m ((c.tc : Thread Cert.KernelAdamwSmallIdeal.nD Cert.KernelAdamwSmallIdeal.τ).loc Cert.KernelAdamwSmallIdeal.main_arg9)
      ∧ r.2.mem ((c.tc : Thread Cert.KernelAdamwSmallIdeal.nD Cert.KernelAdamwSmallIdeal.τ).loc Cert.KernelAdamwSmallIdeal.main_arg10) = m ((c.tc : Thread Cert.KernelAdamwSmallIdeal.nD Cert.KernelAdamwSmallIdeal.τ).loc Cert.KernelAdamwSmallIdeal.main_arg10)
      ∧ r.2.mem ((c.tc : Thread Cert.KernelAdamwSmallIdeal.nD Cert.KernelAdamwSmallIdeal.τ).loc Cert.KernelAdamwSmallIdeal.main_arg11) = m ((c.tc : Thread Cert.KernelAdamwSmallIdeal.nD Cert.KernelAdamwSmallIdeal.τ).loc Cert.KernelAdamwSmallIdeal.main_arg11)
      ∧ r.2.mem ((c.tc : Thread Cert.KernelAdamwSmallIdeal.nD Cert.KernelAdamwSmallIdeal.τ).loc Cert.KernelAdamwSmallIdeal.main_arg12) = m ((c.tc : Thread Cert.KernelAdamwSmallIdeal.nD Cert.KernelAdamwSmallIdeal.τ).loc Cert.KernelAdamwSmallIdeal.main_arg12)
      ∧ r.2.mem ((c.tc : Thread Cert.KernelAdamwSmallIdeal.nD Cert.KernelAdamwSmallIdeal.τ).loc Cert.KernelAdamwSmallIdeal.main_arg13) = m ((c.tc : Thread Cert.KernelAdamwSmallIdeal.nD Cert.KernelAdamwSmallIdeal.τ).loc Cert.KernelAdamwSmallIdeal.main_arg13)
      ∧ r.2.mem ((c.tc : Thread Cert.KernelAdamwSmallIdeal.nD Cert.KernelAdamwSmallIdeal.τ).loc Cert.KernelAdamwSmallIdeal.main_arg14) = m ((c.tc : Thread Cert.KernelAdamwSmallIdeal.nD Cert.KernelAdamwSmallIdeal.τ).loc Cert.KernelAdamwSmallIdeal.main_arg14)
      ∧ r.2.mem ((c.tc : Thread Cert.KernelAdamwSmallIdeal.nD Cert.KernelAdamwSmallIdeal.τ).loc Cert.KernelAdamwSmallIdeal.main_arg15) = m ((c.tc : Thread Cert.KernelAdamwSmallIdeal.nD Cert.KernelAdamwSmallIdeal.τ).loc Cert.KernelAdamwSmallIdeal.main_arg15)
      ∧ r.2.mem ((c.tc : Thread Cert.KernelAdamwSmallIdeal.nD Cert.KernelAdamwSmallIdeal.τ).loc Cert.KernelAdamwSmallIdeal.main_arg16) = m ((c.tc : Thread Cert.KernelAdamwSmallIdeal.nD Cert.KernelAdamwSmallIdeal.τ).loc Cert.KernelAdamwSmallIdeal.main_arg16)
      ∧ r.2.mem ((c.tc : Thread Cert.KernelAdamwSmallIdeal.nD Cert.KernelAdamwSmallIdeal.τ).loc Cert.KernelAdamwSmallIdeal.main_arg17) = m ((c.tc : Thread Cert.KernelAdamwSmallIdeal.nD Cert.KernelAdamwSmallIdeal.τ).loc Cert.KernelAdamwSmallIdeal.main_arg17)
      ∧ r.2.mem ((c.tc : Thread Cert.KernelAdamwSmallIdeal.nD Cert.KernelAdamwSmallIdeal.τ).loc Cert.KernelAdamwSmallIdeal.main_arg18) = m ((c.tc : Thread Cert.KernelAdamwSmallIdeal.nD Cert.KernelAdamwSmallIdeal.τ).loc Cert.KernelAdamwSmallIdeal.main_arg18)
      ∧ r.2.mem ((c.tc : Thread Cert.KernelAdamwSmallIdeal.nD Cert.KernelAdamwSmallIdeal.τ).loc Cert.KernelAdamwSmallIdeal.main_arg19) = m ((c.tc : Thread Cert.KernelAdamwSmallIdeal.nD Cert.KernelAdamwSmallIdeal.τ).loc Cert.KernelAdamwSmallIdeal.main_arg19))
      ∧ r.2.sem = fun _ => 0)

def quiescent_ReferenceAdamwSmallIdeal [hReferenceAdamwSmallIdeal : Cert.ReferenceAdamwSmallIdeal.Facts] : Prop :=
  ∀ (m : (ℓ : Loc Cert.ReferenceAdamwSmallIdeal.nD Cert.ReferenceAdamwSmallIdeal.τ Cert.ReferenceAdamwSmallIdeal.sig) → Buf (Elt Ideal) ℓ) (g : Dev Cert.ReferenceAdamwSmallIdeal.nD → PrngReg), Pre_ReferenceAdamwSmallIdeal m →
    θ_run (Cert.ReferenceAdamwSmallIdeal.defs (F := Ideal)) (onTc (τ := Cert.ReferenceAdamwSmallIdeal.τ) (Cert.ReferenceAdamwSmallIdeal.main (F := Ideal))) ⟨m, fun _ => 0, g⟩ (fun r => (∀ c : Dev Cert.ReferenceAdamwSmallIdeal.nD,
      r.2.mem ((c.tc : Thread Cert.ReferenceAdamwSmallIdeal.nD Cert.ReferenceAdamwSmallIdeal.τ).loc Cert.ReferenceAdamwSmallIdeal.main_arg0) = m ((c.tc : Thread Cert.ReferenceAdamwSmallIdeal.nD Cert.ReferenceAdamwSmallIdeal.τ).loc Cert.ReferenceAdamwSmallIdeal.main_arg0)
      ∧ r.2.mem ((c.tc : Thread Cert.ReferenceAdamwSmallIdeal.nD Cert.ReferenceAdamwSmallIdeal.τ).loc Cert.ReferenceAdamwSmallIdeal.main_arg1) = m ((c.tc : Thread Cert.ReferenceAdamwSmallIdeal.nD Cert.ReferenceAdamwSmallIdeal.τ).loc Cert.ReferenceAdamwSmallIdeal.main_arg1)
      ∧ r.2.mem ((c.tc : Thread Cert.ReferenceAdamwSmallIdeal.nD Cert.ReferenceAdamwSmallIdeal.τ).loc Cert.ReferenceAdamwSmallIdeal.main_arg2) = m ((c.tc : Thread Cert.ReferenceAdamwSmallIdeal.nD Cert.ReferenceAdamwSmallIdeal.τ).loc Cert.ReferenceAdamwSmallIdeal.main_arg2)
      ∧ r.2.mem ((c.tc : Thread Cert.ReferenceAdamwSmallIdeal.nD Cert.ReferenceAdamwSmallIdeal.τ).loc Cert.ReferenceAdamwSmallIdeal.main_arg3) = m ((c.tc : Thread Cert.ReferenceAdamwSmallIdeal.nD Cert.ReferenceAdamwSmallIdeal.τ).loc Cert.ReferenceAdamwSmallIdeal.main_arg3)
      ∧ r.2.mem ((c.tc : Thread Cert.ReferenceAdamwSmallIdeal.nD Cert.ReferenceAdamwSmallIdeal.τ).loc Cert.ReferenceAdamwSmallIdeal.main_arg4) = m ((c.tc : Thread Cert.ReferenceAdamwSmallIdeal.nD Cert.ReferenceAdamwSmallIdeal.τ).loc Cert.ReferenceAdamwSmallIdeal.main_arg4)
      ∧ r.2.mem ((c.tc : Thread Cert.ReferenceAdamwSmallIdeal.nD Cert.ReferenceAdamwSmallIdeal.τ).loc Cert.ReferenceAdamwSmallIdeal.main_arg5) = m ((c.tc : Thread Cert.ReferenceAdamwSmallIdeal.nD Cert.ReferenceAdamwSmallIdeal.τ).loc Cert.ReferenceAdamwSmallIdeal.main_arg5)
      ∧ r.2.mem ((c.tc : Thread Cert.ReferenceAdamwSmallIdeal.nD Cert.ReferenceAdamwSmallIdeal.τ).loc Cert.ReferenceAdamwSmallIdeal.main_arg6) = m ((c.tc : Thread Cert.ReferenceAdamwSmallIdeal.nD Cert.ReferenceAdamwSmallIdeal.τ).loc Cert.ReferenceAdamwSmallIdeal.main_arg6)
      ∧ r.2.mem ((c.tc : Thread Cert.ReferenceAdamwSmallIdeal.nD Cert.ReferenceAdamwSmallIdeal.τ).loc Cert.ReferenceAdamwSmallIdeal.main_arg7) = m ((c.tc : Thread Cert.ReferenceAdamwSmallIdeal.nD Cert.ReferenceAdamwSmallIdeal.τ).loc Cert.ReferenceAdamwSmallIdeal.main_arg7)
      ∧ r.2.mem ((c.tc : Thread Cert.ReferenceAdamwSmallIdeal.nD Cert.ReferenceAdamwSmallIdeal.τ).loc Cert.ReferenceAdamwSmallIdeal.main_arg8) = m ((c.tc : Thread Cert.ReferenceAdamwSmallIdeal.nD Cert.ReferenceAdamwSmallIdeal.τ).loc Cert.ReferenceAdamwSmallIdeal.main_arg8)
      ∧ r.2.mem ((c.tc : Thread Cert.ReferenceAdamwSmallIdeal.nD Cert.ReferenceAdamwSmallIdeal.τ).loc Cert.ReferenceAdamwSmallIdeal.main_arg9) = m ((c.tc : Thread Cert.ReferenceAdamwSmallIdeal.nD Cert.ReferenceAdamwSmallIdeal.τ).loc Cert.ReferenceAdamwSmallIdeal.main_arg9)
      ∧ r.2.mem ((c.tc : Thread Cert.ReferenceAdamwSmallIdeal.nD Cert.ReferenceAdamwSmallIdeal.τ).loc Cert.ReferenceAdamwSmallIdeal.main_arg10) = m ((c.tc : Thread Cert.ReferenceAdamwSmallIdeal.nD Cert.ReferenceAdamwSmallIdeal.τ).loc Cert.ReferenceAdamwSmallIdeal.main_arg10)
      ∧ r.2.mem ((c.tc : Thread Cert.ReferenceAdamwSmallIdeal.nD Cert.ReferenceAdamwSmallIdeal.τ).loc Cert.ReferenceAdamwSmallIdeal.main_arg11) = m ((c.tc : Thread Cert.ReferenceAdamwSmallIdeal.nD Cert.ReferenceAdamwSmallIdeal.τ).loc Cert.ReferenceAdamwSmallIdeal.main_arg11)
      ∧ r.2.mem ((c.tc : Thread Cert.ReferenceAdamwSmallIdeal.nD Cert.ReferenceAdamwSmallIdeal.τ).loc Cert.ReferenceAdamwSmallIdeal.main_arg12) = m ((c.tc : Thread Cert.ReferenceAdamwSmallIdeal.nD Cert.ReferenceAdamwSmallIdeal.τ).loc Cert.ReferenceAdamwSmallIdeal.main_arg12)
      ∧ r.2.mem ((c.tc : Thread Cert.ReferenceAdamwSmallIdeal.nD Cert.ReferenceAdamwSmallIdeal.τ).loc Cert.ReferenceAdamwSmallIdeal.main_arg13) = m ((c.tc : Thread Cert.ReferenceAdamwSmallIdeal.nD Cert.ReferenceAdamwSmallIdeal.τ).loc Cert.ReferenceAdamwSmallIdeal.main_arg13)
      ∧ r.2.mem ((c.tc : Thread Cert.ReferenceAdamwSmallIdeal.nD Cert.ReferenceAdamwSmallIdeal.τ).loc Cert.ReferenceAdamwSmallIdeal.main_arg14) = m ((c.tc : Thread Cert.ReferenceAdamwSmallIdeal.nD Cert.ReferenceAdamwSmallIdeal.τ).loc Cert.ReferenceAdamwSmallIdeal.main_arg14)
      ∧ r.2.mem ((c.tc : Thread Cert.ReferenceAdamwSmallIdeal.nD Cert.ReferenceAdamwSmallIdeal.τ).loc Cert.ReferenceAdamwSmallIdeal.main_arg15) = m ((c.tc : Thread Cert.ReferenceAdamwSmallIdeal.nD Cert.ReferenceAdamwSmallIdeal.τ).loc Cert.ReferenceAdamwSmallIdeal.main_arg15)
      ∧ r.2.mem ((c.tc : Thread Cert.ReferenceAdamwSmallIdeal.nD Cert.ReferenceAdamwSmallIdeal.τ).loc Cert.ReferenceAdamwSmallIdeal.main_arg16) = m ((c.tc : Thread Cert.ReferenceAdamwSmallIdeal.nD Cert.ReferenceAdamwSmallIdeal.τ).loc Cert.ReferenceAdamwSmallIdeal.main_arg16)
      ∧ r.2.mem ((c.tc : Thread Cert.ReferenceAdamwSmallIdeal.nD Cert.ReferenceAdamwSmallIdeal.τ).loc Cert.ReferenceAdamwSmallIdeal.main_arg17) = m ((c.tc : Thread Cert.ReferenceAdamwSmallIdeal.nD Cert.ReferenceAdamwSmallIdeal.τ).loc Cert.ReferenceAdamwSmallIdeal.main_arg17)
      ∧ r.2.mem ((c.tc : Thread Cert.ReferenceAdamwSmallIdeal.nD Cert.ReferenceAdamwSmallIdeal.τ).loc Cert.ReferenceAdamwSmallIdeal.main_arg18) = m ((c.tc : Thread Cert.ReferenceAdamwSmallIdeal.nD Cert.ReferenceAdamwSmallIdeal.τ).loc Cert.ReferenceAdamwSmallIdeal.main_arg18)
      ∧ r.2.mem ((c.tc : Thread Cert.ReferenceAdamwSmallIdeal.nD Cert.ReferenceAdamwSmallIdeal.τ).loc Cert.ReferenceAdamwSmallIdeal.main_arg19) = m ((c.tc : Thread Cert.ReferenceAdamwSmallIdeal.nD Cert.ReferenceAdamwSmallIdeal.τ).loc Cert.ReferenceAdamwSmallIdeal.main_arg19))
      ∧ r.2.sem = fun _ => 0)

def quiescent_KernelSum [hKernelSum : Cert.KernelSum.Facts] : Prop :=
  ∀ (m : (ℓ : Loc Cert.KernelSum.nD Cert.KernelSum.τ Cert.KernelSum.sig) → Buf (Elt Bits) ℓ) (g : Dev Cert.KernelSum.nD → PrngReg), Pre_KernelSum m →
    θ_run (Cert.KernelSum.defs (F := Bits)) (onTc (τ := Cert.KernelSum.τ) (Cert.KernelSum.main (F := Bits))) ⟨m, fun _ => 0, g⟩ (fun r => (∀ c : Dev Cert.KernelSum.nD,
      r.2.mem ((c.tc : Thread Cert.KernelSum.nD Cert.KernelSum.τ).loc Cert.KernelSum.main_arg0) = m ((c.tc : Thread Cert.KernelSum.nD Cert.KernelSum.τ).loc Cert.KernelSum.main_arg0))
      ∧ r.2.sem = fun _ => 0)

def quiescent_KernelSumIdeal [hKernelSumIdeal : Cert.KernelSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg), Pre_KernelSumIdeal m →
    θ_run (Cert.KernelSumIdeal.defs (F := Ideal)) (onTc (τ := Cert.KernelSumIdeal.τ) (Cert.KernelSumIdeal.main (F := Ideal))) ⟨m, fun _ => 0, g⟩ (fun r => (∀ c : Dev Cert.KernelSumIdeal.nD,
      r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ r.2.sem = fun _ => 0)

def quiescent_ReferenceSumIdeal [hReferenceSumIdeal : Cert.ReferenceSumIdeal.Facts] : Prop :=
  ∀ (m : (ℓ : Loc Cert.ReferenceSumIdeal.nD Cert.ReferenceSumIdeal.τ Cert.ReferenceSumIdeal.sig) → Buf (Elt Ideal) ℓ) (g : Dev Cert.ReferenceSumIdeal.nD → PrngReg), Pre_ReferenceSumIdeal m →
    θ_run (Cert.ReferenceSumIdeal.defs (F := Ideal)) (onTc (τ := Cert.ReferenceSumIdeal.τ) (Cert.ReferenceSumIdeal.main (F := Ideal))) ⟨m, fun _ => 0, g⟩ (fun r => (∀ c : Dev Cert.ReferenceSumIdeal.nD,
      r.2.mem ((c.tc : Thread Cert.ReferenceSumIdeal.nD Cert.ReferenceSumIdeal.τ).loc Cert.ReferenceSumIdeal.main_arg0) = m ((c.tc : Thread Cert.ReferenceSumIdeal.nD Cert.ReferenceSumIdeal.τ).loc Cert.ReferenceSumIdeal.main_arg0))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2)
      ∧ r.2.mem ((c.tc : Thread Cert.KernelPrep.nD Cert.KernelPrep.τ).loc Cert.KernelPrep.main_arg3) = m ((c.tc : Thread Cert.KernelPrep.nD Cert.KernelPrep.τ).loc Cert.KernelPrep.main_arg3)
      ∧ r.2.mem ((c.tc : Thread Cert.KernelPrep.nD Cert.KernelPrep.τ).loc Cert.KernelPrep.main_arg4) = m ((c.tc : Thread Cert.KernelPrep.nD Cert.KernelPrep.τ).loc Cert.KernelPrep.main_arg4)
      ∧ r.2.mem ((c.tc : Thread Cert.KernelPrep.nD Cert.KernelPrep.τ).loc Cert.KernelPrep.main_arg5) = m ((c.tc : Thread Cert.KernelPrep.nD Cert.KernelPrep.τ).loc Cert.KernelPrep.main_arg5)
      ∧ r.2.mem ((c.tc : Thread Cert.KernelPrep.nD Cert.KernelPrep.τ).loc Cert.KernelPrep.main_arg6) = m ((c.tc : Thread Cert.KernelPrep.nD Cert.KernelPrep.τ).loc Cert.KernelPrep.main_arg6)
      ∧ r.2.mem ((c.tc : Thread Cert.KernelPrep.nD Cert.KernelPrep.τ).loc Cert.KernelPrep.main_arg7) = m ((c.tc : Thread Cert.KernelPrep.nD Cert.KernelPrep.τ).loc Cert.KernelPrep.main_arg7)
      ∧ r.2.mem ((c.tc : Thread Cert.KernelPrep.nD Cert.KernelPrep.τ).loc Cert.KernelPrep.main_arg8) = m ((c.tc : Thread Cert.KernelPrep.nD Cert.KernelPrep.τ).loc Cert.KernelPrep.main_arg8)
      ∧ r.2.mem ((c.tc : Thread Cert.KernelPrep.nD Cert.KernelPrep.τ).loc Cert.KernelPrep.main_arg9) = m ((c.tc : Thread Cert.KernelPrep.nD Cert.KernelPrep.τ).loc Cert.KernelPrep.main_arg9)
      ∧ r.2.mem ((c.tc : Thread Cert.KernelPrep.nD Cert.KernelPrep.τ).loc Cert.KernelPrep.main_arg10) = m ((c.tc : Thread Cert.KernelPrep.nD Cert.KernelPrep.τ).loc Cert.KernelPrep.main_arg10))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
      ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
      ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
      ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
      ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
      ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8)
      ∧ r.2.mem ((c.tc : Thread Cert.KernelPrepIdeal.nD Cert.KernelPrepIdeal.τ).loc Cert.KernelPrepIdeal.main_arg9) = m ((c.tc : Thread Cert.KernelPrepIdeal.nD Cert.KernelPrepIdeal.τ).loc Cert.KernelPrepIdeal.main_arg9)
      ∧ r.2.mem ((c.tc : Thread Cert.KernelPrepIdeal.nD Cert.KernelPrepIdeal.τ).loc Cert.KernelPrepIdeal.main_arg10) = m ((c.tc : Thread Cert.KernelPrepIdeal.nD Cert.KernelPrepIdeal.τ).loc Cert.KernelPrepIdeal.main_arg10))
      ∧ r.2.sem = fun _ => 0)

def quiescent_KernelPrepIdeal_pre_log_dt_below_infinity [hKernelPrepIdeal : Cert.KernelPrepIdeal.Facts] [hPre_log_dt_below_infinity : Cert.Pre_log_dt_below_infinity.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal_log_dt_below_infinity m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
      ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
      ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
      ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
      ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
      ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8)
      ∧ r.2.mem ((c.tc : Thread Cert.KernelPrepIdeal.nD Cert.KernelPrepIdeal.τ).loc Cert.KernelPrepIdeal.main_arg9) = m ((c.tc : Thread Cert.KernelPrepIdeal.nD Cert.KernelPrepIdeal.τ).loc Cert.KernelPrepIdeal.main_arg9)
      ∧ r.2.mem ((c.tc : Thread Cert.KernelPrepIdeal.nD Cert.KernelPrepIdeal.τ).loc Cert.KernelPrepIdeal.main_arg10) = m ((c.tc : Thread Cert.KernelPrepIdeal.nD Cert.KernelPrepIdeal.τ).loc Cert.KernelPrepIdeal.main_arg10))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3)
      ∧ r.2.mem ((c.tc : Thread Cert.ReferencePrepIdeal.nD Cert.ReferencePrepIdeal.τ).loc Cert.ReferencePrepIdeal.main_arg4) = m ((c.tc : Thread Cert.ReferencePrepIdeal.nD Cert.ReferencePrepIdeal.τ).loc Cert.ReferencePrepIdeal.main_arg4)
      ∧ r.2.mem ((c.tc : Thread Cert.ReferencePrepIdeal.nD Cert.ReferencePrepIdeal.τ).loc Cert.ReferencePrepIdeal.main_arg5) = m ((c.tc : Thread Cert.ReferencePrepIdeal.nD Cert.ReferencePrepIdeal.τ).loc Cert.ReferencePrepIdeal.main_arg5)
      ∧ r.2.mem ((c.tc : Thread Cert.ReferencePrepIdeal.nD Cert.ReferencePrepIdeal.τ).loc Cert.ReferencePrepIdeal.main_arg6) = m ((c.tc : Thread Cert.ReferencePrepIdeal.nD Cert.ReferencePrepIdeal.τ).loc Cert.ReferencePrepIdeal.main_arg6)
      ∧ r.2.mem ((c.tc : Thread Cert.ReferencePrepIdeal.nD Cert.ReferencePrepIdeal.τ).loc Cert.ReferencePrepIdeal.main_arg7) = m ((c.tc : Thread Cert.ReferencePrepIdeal.nD Cert.ReferencePrepIdeal.τ).loc Cert.ReferencePrepIdeal.main_arg7)
      ∧ r.2.mem ((c.tc : Thread Cert.ReferencePrepIdeal.nD Cert.ReferencePrepIdeal.τ).loc Cert.ReferencePrepIdeal.main_arg8) = m ((c.tc : Thread Cert.ReferencePrepIdeal.nD Cert.ReferencePrepIdeal.τ).loc Cert.ReferencePrepIdeal.main_arg8)
      ∧ r.2.mem ((c.tc : Thread Cert.ReferencePrepIdeal.nD Cert.ReferencePrepIdeal.τ).loc Cert.ReferencePrepIdeal.main_arg9) = m ((c.tc : Thread Cert.ReferencePrepIdeal.nD Cert.ReferencePrepIdeal.τ).loc Cert.ReferencePrepIdeal.main_arg9)
      ∧ r.2.mem ((c.tc : Thread Cert.ReferencePrepIdeal.nD Cert.ReferencePrepIdeal.τ).loc Cert.ReferencePrepIdeal.main_arg10) = m ((c.tc : Thread Cert.ReferencePrepIdeal.nD Cert.ReferencePrepIdeal.τ).loc Cert.ReferencePrepIdeal.main_arg10))
      ∧ r.2.sem = fun _ => 0)

def quiescent_ReferencePrepIdeal_pre_log_dt_below_infinity [hReferencePrepIdeal : Cert.ReferencePrepIdeal.Facts] [hPre_log_dt_below_infinity : Cert.Pre_log_dt_below_infinity.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal_log_dt_below_infinity m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3)
      ∧ r.2.mem ((c.tc : Thread Cert.ReferencePrepIdeal.nD Cert.ReferencePrepIdeal.τ).loc Cert.ReferencePrepIdeal.main_arg4) = m ((c.tc : Thread Cert.ReferencePrepIdeal.nD Cert.ReferencePrepIdeal.τ).loc Cert.ReferencePrepIdeal.main_arg4)
      ∧ r.2.mem ((c.tc : Thread Cert.ReferencePrepIdeal.nD Cert.ReferencePrepIdeal.τ).loc Cert.ReferencePrepIdeal.main_arg5) = m ((c.tc : Thread Cert.ReferencePrepIdeal.nD Cert.ReferencePrepIdeal.τ).loc Cert.ReferencePrepIdeal.main_arg5)
      ∧ r.2.mem ((c.tc : Thread Cert.ReferencePrepIdeal.nD Cert.ReferencePrepIdeal.τ).loc Cert.ReferencePrepIdeal.main_arg6) = m ((c.tc : Thread Cert.ReferencePrepIdeal.nD Cert.ReferencePrepIdeal.τ).loc Cert.ReferencePrepIdeal.main_arg6)
      ∧ r.2.mem ((c.tc : Thread Cert.ReferencePrepIdeal.nD Cert.ReferencePrepIdeal.τ).loc Cert.ReferencePrepIdeal.main_arg7) = m ((c.tc : Thread Cert.ReferencePrepIdeal.nD Cert.ReferencePrepIdeal.τ).loc Cert.ReferencePrepIdeal.main_arg7)
      ∧ r.2.mem ((c.tc : Thread Cert.ReferencePrepIdeal.nD Cert.ReferencePrepIdeal.τ).loc Cert.ReferencePrepIdeal.main_arg8) = m ((c.tc : Thread Cert.ReferencePrepIdeal.nD Cert.ReferencePrepIdeal.τ).loc Cert.ReferencePrepIdeal.main_arg8)
      ∧ r.2.mem ((c.tc : Thread Cert.ReferencePrepIdeal.nD Cert.ReferencePrepIdeal.τ).loc Cert.ReferencePrepIdeal.main_arg9) = m ((c.tc : Thread Cert.ReferencePrepIdeal.nD Cert.ReferencePrepIdeal.τ).loc Cert.ReferencePrepIdeal.main_arg9)
      ∧ r.2.mem ((c.tc : Thread Cert.ReferencePrepIdeal.nD Cert.ReferencePrepIdeal.τ).loc Cert.ReferencePrepIdeal.main_arg10) = m ((c.tc : Thread Cert.ReferencePrepIdeal.nD Cert.ReferencePrepIdeal.τ).loc Cert.ReferencePrepIdeal.main_arg10))
      ∧ r.2.sem = fun _ => 0)

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v51) = v0 c
          ∧ r.2.mem ((c.tc : Thread Cert.ReferenceLossIdeal.nD Cert.ReferenceLossIdeal.τ).loc Cert.ReferenceLossIdeal.main_v50) = v1 c
          ∧ r.2.mem ((c.tc : Thread Cert.ReferenceLossIdeal.nD Cert.ReferenceLossIdeal.τ).loc Cert.ReferenceLossIdeal.main_v52) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)) →
    ∃ (v0 : (c : Dev Cert.KernelCIdeal.nD) → Buf (Elt Ideal) ((c.tc : Thread Cert.KernelCIdeal.nD Cert.KernelCIdeal.τ).loc Cert.KernelCIdeal.main_v10_0)) (v1 : (c : Dev Cert.KernelCIdeal.nD) → Buf (Elt Ideal) ((c.tc : Thread Cert.KernelCIdeal.nD Cert.KernelCIdeal.τ).loc Cert.KernelCIdeal.main_v10_1)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v10_0) = v0 c
          ∧ r.2.mem ((c.tc : Thread Cert.KernelCIdeal.nD Cert.KernelCIdeal.τ).loc Cert.KernelCIdeal.main_v10_1) = v1 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v85) = v0 c
          ∧ r.2.mem ((c.tc : Thread Cert.ReferenceCIdeal.nD Cert.ReferenceCIdeal.τ).loc Cert.ReferenceCIdeal.main_v87) = v1 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)
      ∧ m' ((c.tc : Thread Cert.ReferenceAIdeal.nD Cert.ReferenceAIdeal.τ).loc Cert.ReferenceAIdeal.main_arg5) = m ((c.tc : Thread Cert.KernelAIdeal.nD Cert.KernelAIdeal.τ).loc Cert.KernelAIdeal.main_arg5)
      ∧ m' ((c.tc : Thread Cert.ReferenceAIdeal.nD Cert.ReferenceAIdeal.τ).loc Cert.ReferenceAIdeal.main_arg6) = m ((c.tc : Thread Cert.KernelAIdeal.nD Cert.KernelAIdeal.τ).loc Cert.KernelAIdeal.main_arg6)
      ∧ m' ((c.tc : Thread Cert.ReferenceAIdeal.nD Cert.ReferenceAIdeal.τ).loc Cert.ReferenceAIdeal.main_arg7) = m ((c.tc : Thread Cert.KernelAIdeal.nD Cert.KernelAIdeal.τ).loc Cert.KernelAIdeal.main_arg7)) →
    ∃ (v0 : (c : Dev Cert.KernelAIdeal.nD) → Buf (Elt Ideal) ((c.tc : Thread Cert.KernelAIdeal.nD Cert.KernelAIdeal.τ).loc Cert.KernelAIdeal.main_v243_0)) (v1 : (c : Dev Cert.KernelAIdeal.nD) → Buf (Elt Ideal) ((c.tc : Thread Cert.KernelAIdeal.nD Cert.KernelAIdeal.τ).loc Cert.KernelAIdeal.main_v243_1)) (v2 : (c : Dev Cert.KernelAIdeal.nD) → Buf (Elt Ideal) ((c.tc : Thread Cert.KernelAIdeal.nD Cert.KernelAIdeal.τ).loc Cert.KernelAIdeal.main_v243_2)) (v3 : (c : Dev Cert.KernelAIdeal.nD) → Buf (Elt Ideal) ((c.tc : Thread Cert.KernelAIdeal.nD Cert.KernelAIdeal.τ).loc Cert.KernelAIdeal.main_v243_3)) (v4 : (c : Dev Cert.KernelAIdeal.nD) → Buf (Elt Ideal) ((c.tc : Thread Cert.KernelAIdeal.nD Cert.KernelAIdeal.τ).loc Cert.KernelAIdeal.main_v243_4)) (v5 : (c : Dev Cert.KernelAIdeal.nD) → Buf (Elt Ideal) ((c.tc : Thread Cert.KernelAIdeal.nD Cert.KernelAIdeal.τ).loc Cert.KernelAIdeal.main_v243_5)) (v6 : (c : Dev Cert.KernelAIdeal.nD) → Buf (Elt Ideal) ((c.tc : Thread Cert.KernelAIdeal.nD Cert.KernelAIdeal.τ).loc Cert.KernelAIdeal.main_v243_6)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v243_0) = v0 c
          ∧ r.2.mem ((c.tc : Thread Cert.KernelAIdeal.nD Cert.KernelAIdeal.τ).loc Cert.KernelAIdeal.main_v243_1) = v1 c
          ∧ r.2.mem ((c.tc : Thread Cert.KernelAIdeal.nD Cert.KernelAIdeal.τ).loc Cert.KernelAIdeal.main_v243_2) = v2 c
          ∧ r.2.mem ((c.tc : Thread Cert.KernelAIdeal.nD Cert.KernelAIdeal.τ).loc Cert.KernelAIdeal.main_v243_3) = v3 c
          ∧ r.2.mem ((c.tc : Thread Cert.KernelAIdeal.nD Cert.KernelAIdeal.τ).loc Cert.KernelAIdeal.main_v243_4) = v4 c
          ∧ r.2.mem ((c.tc : Thread Cert.KernelAIdeal.nD Cert.KernelAIdeal.τ).loc Cert.KernelAIdeal.main_v243_5) = v5 c
          ∧ r.2.mem ((c.tc : Thread Cert.KernelAIdeal.nD Cert.KernelAIdeal.τ).loc Cert.KernelAIdeal.main_v243_6) = v6 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
          ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
          ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
          ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v670) = v0 c
          ∧ r.2.mem ((c.tc : Thread Cert.ReferenceAIdeal.nD Cert.ReferenceAIdeal.τ).loc Cert.ReferenceAIdeal.main_v672) = v1 c
          ∧ r.2.mem ((c.tc : Thread Cert.ReferenceAIdeal.nD Cert.ReferenceAIdeal.τ).loc Cert.ReferenceAIdeal.main_v673) = v2 c
          ∧ r.2.mem ((c.tc : Thread Cert.ReferenceAIdeal.nD Cert.ReferenceAIdeal.τ).loc Cert.ReferenceAIdeal.main_v674) = v3 c
          ∧ r.2.mem ((c.tc : Thread Cert.ReferenceAIdeal.nD Cert.ReferenceAIdeal.τ).loc Cert.ReferenceAIdeal.main_v675) = v4 c
          ∧ r.2.mem ((c.tc : Thread Cert.ReferenceAIdeal.nD Cert.ReferenceAIdeal.τ).loc Cert.ReferenceAIdeal.main_v289) = v5 c
          ∧ r.2.mem ((c.tc : Thread Cert.ReferenceAIdeal.nD Cert.ReferenceAIdeal.τ).loc Cert.ReferenceAIdeal.main_v676) = v6 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3)
          ∧ r.2.mem ((c.tc : Thread Cert.ReferenceAIdeal.nD Cert.ReferenceAIdeal.τ).loc Cert.ReferenceAIdeal.main_arg4) = m' ((c.tc : Thread Cert.ReferenceAIdeal.nD Cert.ReferenceAIdeal.τ).loc Cert.ReferenceAIdeal.main_arg4)
          ∧ r.2.mem ((c.tc : Thread Cert.ReferenceAIdeal.nD Cert.ReferenceAIdeal.τ).loc Cert.ReferenceAIdeal.main_arg5) = m' ((c.tc : Thread Cert.ReferenceAIdeal.nD Cert.ReferenceAIdeal.τ).loc Cert.ReferenceAIdeal.main_arg5)
          ∧ r.2.mem ((c.tc : Thread Cert.ReferenceAIdeal.nD Cert.ReferenceAIdeal.τ).loc Cert.ReferenceAIdeal.main_arg6) = m' ((c.tc : Thread Cert.ReferenceAIdeal.nD Cert.ReferenceAIdeal.τ).loc Cert.ReferenceAIdeal.main_arg6)
          ∧ r.2.mem ((c.tc : Thread Cert.ReferenceAIdeal.nD Cert.ReferenceAIdeal.τ).loc Cert.ReferenceAIdeal.main_arg7) = m' ((c.tc : Thread Cert.ReferenceAIdeal.nD Cert.ReferenceAIdeal.τ).loc Cert.ReferenceAIdeal.main_arg7))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)) →
    ∃ (v0 : (c : Dev Cert.KernelProjIdeal.nD) → Buf (Elt Ideal) ((c.tc : Thread Cert.KernelProjIdeal.nD Cert.KernelProjIdeal.τ).loc Cert.KernelProjIdeal.main_v27_0)) (v1 : (c : Dev Cert.KernelProjIdeal.nD) → Buf (Elt Ideal) ((c.tc : Thread Cert.KernelProjIdeal.nD Cert.KernelProjIdeal.τ).loc Cert.KernelProjIdeal.main_v27_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v27_0) = v0 c
          ∧ r.2.mem ((c.tc : Thread Cert.KernelProjIdeal.nD Cert.KernelProjIdeal.τ).loc Cert.KernelProjIdeal.main_v27_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v38) = v0 c
          ∧ r.2.mem ((c.tc : Thread Cert.ReferenceProjIdeal.nD Cert.ReferenceProjIdeal.τ).loc Cert.ReferenceProjIdeal.main_v39) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4))

def preserves_KernelCFwd_KernelCFwdIdeal : Prop :=
  True

def algebraic_KernelCFwdIdeal_ReferenceCFwdIdeal [hKernelCFwdIdeal : Cert.KernelCFwdIdeal.Facts] [hReferenceCFwdIdeal : Cert.ReferenceCFwdIdeal.Facts] : Prop :=
  ∀ (m : (ℓ : Loc Cert.KernelCFwdIdeal.nD Cert.KernelCFwdIdeal.τ Cert.KernelCFwdIdeal.sig) → Buf (Elt Ideal) ℓ) (g : Dev Cert.KernelCFwdIdeal.nD → PrngReg)
    (m' : (ℓ : Loc Cert.ReferenceCFwdIdeal.nD Cert.ReferenceCFwdIdeal.τ Cert.ReferenceCFwdIdeal.sig) → Buf (Elt Ideal) ℓ) (g' : Dev Cert.ReferenceCFwdIdeal.nD → PrngReg), Pre_KernelCFwdIdeal m →
    (∀ c : Dev Cert.KernelCFwdIdeal.nD,
      m' ((c.tc : Thread Cert.ReferenceCFwdIdeal.nD Cert.ReferenceCFwdIdeal.τ).loc Cert.ReferenceCFwdIdeal.main_arg0) = m ((c.tc : Thread Cert.KernelCFwdIdeal.nD Cert.KernelCFwdIdeal.τ).loc Cert.KernelCFwdIdeal.main_arg0)
      ∧ m' ((c.tc : Thread Cert.ReferenceCFwdIdeal.nD Cert.ReferenceCFwdIdeal.τ).loc Cert.ReferenceCFwdIdeal.main_arg1) = m ((c.tc : Thread Cert.KernelCFwdIdeal.nD Cert.KernelCFwdIdeal.τ).loc Cert.KernelCFwdIdeal.main_arg1)) →
    ∃ (v0 : (c : Dev Cert.KernelCFwdIdeal.nD) → Buf (Elt Ideal) ((c.tc : Thread Cert.KernelCFwdIdeal.nD Cert.KernelCFwdIdeal.τ).loc Cert.KernelCFwdIdeal.main_v10)),
      θ_run (Cert.KernelCFwdIdeal.defs (F := Ideal)) (onTc (τ := Cert.KernelCFwdIdeal.τ) (Cert.KernelCFwdIdeal.main (F := Ideal))) ⟨m, fun _ => 0, g⟩ (fun r => ∀ c : Dev Cert.KernelCFwdIdeal.nD,
          r.2.mem ((c.tc : Thread Cert.KernelCFwdIdeal.nD Cert.KernelCFwdIdeal.τ).loc Cert.KernelCFwdIdeal.main_v10) = v0 c
          ∧ r.2.mem ((c.tc : Thread Cert.KernelCFwdIdeal.nD Cert.KernelCFwdIdeal.τ).loc Cert.KernelCFwdIdeal.main_arg0) = m ((c.tc : Thread Cert.KernelCFwdIdeal.nD Cert.KernelCFwdIdeal.τ).loc Cert.KernelCFwdIdeal.main_arg0)
          ∧ r.2.mem ((c.tc : Thread Cert.KernelCFwdIdeal.nD Cert.KernelCFwdIdeal.τ).loc Cert.KernelCFwdIdeal.main_arg1) = m ((c.tc : Thread Cert.KernelCFwdIdeal.nD Cert.KernelCFwdIdeal.τ).loc Cert.KernelCFwdIdeal.main_arg1))
      ∧ θ_run (Cert.ReferenceCFwdIdeal.defs (F := Ideal)) (onTc (τ := Cert.ReferenceCFwdIdeal.τ) (Cert.ReferenceCFwdIdeal.main (F := Ideal))) ⟨m', fun _ => 0, g'⟩ (fun r => ∀ c : Dev Cert.ReferenceCFwdIdeal.nD,
          r.2.mem ((c.tc : Thread Cert.ReferenceCFwdIdeal.nD Cert.ReferenceCFwdIdeal.τ).loc Cert.ReferenceCFwdIdeal.main_v42) = v0 c
          ∧ r.2.mem ((c.tc : Thread Cert.ReferenceCFwdIdeal.nD Cert.ReferenceCFwdIdeal.τ).loc Cert.ReferenceCFwdIdeal.main_arg0) = m' ((c.tc : Thread Cert.ReferenceCFwdIdeal.nD Cert.ReferenceCFwdIdeal.τ).loc Cert.ReferenceCFwdIdeal.main_arg0)
          ∧ r.2.mem ((c.tc : Thread Cert.ReferenceCFwdIdeal.nD Cert.ReferenceCFwdIdeal.τ).loc Cert.ReferenceCFwdIdeal.main_arg1) = m' ((c.tc : Thread Cert.ReferenceCFwdIdeal.nD Cert.ReferenceCFwdIdeal.τ).loc Cert.ReferenceCFwdIdeal.main_arg1))

def preserves_KernelAFwd_KernelAFwdIdeal : Prop :=
  True

def algebraic_KernelAFwdIdeal_ReferenceAFwdIdeal [hKernelAFwdIdeal : Cert.KernelAFwdIdeal.Facts] [hReferenceAFwdIdeal : Cert.ReferenceAFwdIdeal.Facts] : Prop :=
  ∀ (m : (ℓ : Loc Cert.KernelAFwdIdeal.nD Cert.KernelAFwdIdeal.τ Cert.KernelAFwdIdeal.sig) → Buf (Elt Ideal) ℓ) (g : Dev Cert.KernelAFwdIdeal.nD → PrngReg)
    (m' : (ℓ : Loc Cert.ReferenceAFwdIdeal.nD Cert.ReferenceAFwdIdeal.τ Cert.ReferenceAFwdIdeal.sig) → Buf (Elt Ideal) ℓ) (g' : Dev Cert.ReferenceAFwdIdeal.nD → PrngReg), Pre_KernelAFwdIdeal m →
    (∀ c : Dev Cert.KernelAFwdIdeal.nD,
      m' ((c.tc : Thread Cert.ReferenceAFwdIdeal.nD Cert.ReferenceAFwdIdeal.τ).loc Cert.ReferenceAFwdIdeal.main_arg0) = m ((c.tc : Thread Cert.KernelAFwdIdeal.nD Cert.KernelAFwdIdeal.τ).loc Cert.KernelAFwdIdeal.main_arg0)
      ∧ m' ((c.tc : Thread Cert.ReferenceAFwdIdeal.nD Cert.ReferenceAFwdIdeal.τ).loc Cert.ReferenceAFwdIdeal.main_arg1) = m ((c.tc : Thread Cert.KernelAFwdIdeal.nD Cert.KernelAFwdIdeal.τ).loc Cert.KernelAFwdIdeal.main_arg1)
      ∧ m' ((c.tc : Thread Cert.ReferenceAFwdIdeal.nD Cert.ReferenceAFwdIdeal.τ).loc Cert.ReferenceAFwdIdeal.main_arg2) = m ((c.tc : Thread Cert.KernelAFwdIdeal.nD Cert.KernelAFwdIdeal.τ).loc Cert.KernelAFwdIdeal.main_arg2)
      ∧ m' ((c.tc : Thread Cert.ReferenceAFwdIdeal.nD Cert.ReferenceAFwdIdeal.τ).loc Cert.ReferenceAFwdIdeal.main_arg3) = m ((c.tc : Thread Cert.KernelAFwdIdeal.nD Cert.KernelAFwdIdeal.τ).loc Cert.KernelAFwdIdeal.main_arg3)
      ∧ m' ((c.tc : Thread Cert.ReferenceAFwdIdeal.nD Cert.ReferenceAFwdIdeal.τ).loc Cert.ReferenceAFwdIdeal.main_arg4) = m ((c.tc : Thread Cert.KernelAFwdIdeal.nD Cert.KernelAFwdIdeal.τ).loc Cert.KernelAFwdIdeal.main_arg4)
      ∧ m' ((c.tc : Thread Cert.ReferenceAFwdIdeal.nD Cert.ReferenceAFwdIdeal.τ).loc Cert.ReferenceAFwdIdeal.main_arg5) = m ((c.tc : Thread Cert.KernelAFwdIdeal.nD Cert.KernelAFwdIdeal.τ).loc Cert.KernelAFwdIdeal.main_arg5)
      ∧ m' ((c.tc : Thread Cert.ReferenceAFwdIdeal.nD Cert.ReferenceAFwdIdeal.τ).loc Cert.ReferenceAFwdIdeal.main_arg6) = m ((c.tc : Thread Cert.KernelAFwdIdeal.nD Cert.KernelAFwdIdeal.τ).loc Cert.KernelAFwdIdeal.main_arg6)) →
    ∃ (v0 : (c : Dev Cert.KernelAFwdIdeal.nD) → Buf (Elt Ideal) ((c.tc : Thread Cert.KernelAFwdIdeal.nD Cert.KernelAFwdIdeal.τ).loc Cert.KernelAFwdIdeal.main_v14_0)) (v1 : (c : Dev Cert.KernelAFwdIdeal.nD) → Buf (Elt Ideal) ((c.tc : Thread Cert.KernelAFwdIdeal.nD Cert.KernelAFwdIdeal.τ).loc Cert.KernelAFwdIdeal.main_v14_1)),
      θ_run (Cert.KernelAFwdIdeal.defs (F := Ideal)) (onTc (τ := Cert.KernelAFwdIdeal.τ) (Cert.KernelAFwdIdeal.main (F := Ideal))) ⟨m, fun _ => 0, g⟩ (fun r => ∀ c : Dev Cert.KernelAFwdIdeal.nD,
          r.2.mem ((c.tc : Thread Cert.KernelAFwdIdeal.nD Cert.KernelAFwdIdeal.τ).loc Cert.KernelAFwdIdeal.main_v14_0) = v0 c
          ∧ r.2.mem ((c.tc : Thread Cert.KernelAFwdIdeal.nD Cert.KernelAFwdIdeal.τ).loc Cert.KernelAFwdIdeal.main_v14_1) = v1 c
          ∧ r.2.mem ((c.tc : Thread Cert.KernelAFwdIdeal.nD Cert.KernelAFwdIdeal.τ).loc Cert.KernelAFwdIdeal.main_arg0) = m ((c.tc : Thread Cert.KernelAFwdIdeal.nD Cert.KernelAFwdIdeal.τ).loc Cert.KernelAFwdIdeal.main_arg0)
          ∧ r.2.mem ((c.tc : Thread Cert.KernelAFwdIdeal.nD Cert.KernelAFwdIdeal.τ).loc Cert.KernelAFwdIdeal.main_arg1) = m ((c.tc : Thread Cert.KernelAFwdIdeal.nD Cert.KernelAFwdIdeal.τ).loc Cert.KernelAFwdIdeal.main_arg1)
          ∧ r.2.mem ((c.tc : Thread Cert.KernelAFwdIdeal.nD Cert.KernelAFwdIdeal.τ).loc Cert.KernelAFwdIdeal.main_arg2) = m ((c.tc : Thread Cert.KernelAFwdIdeal.nD Cert.KernelAFwdIdeal.τ).loc Cert.KernelAFwdIdeal.main_arg2)
          ∧ r.2.mem ((c.tc : Thread Cert.KernelAFwdIdeal.nD Cert.KernelAFwdIdeal.τ).loc Cert.KernelAFwdIdeal.main_arg3) = m ((c.tc : Thread Cert.KernelAFwdIdeal.nD Cert.KernelAFwdIdeal.τ).loc Cert.KernelAFwdIdeal.main_arg3)
          ∧ r.2.mem ((c.tc : Thread Cert.KernelAFwdIdeal.nD Cert.KernelAFwdIdeal.τ).loc Cert.KernelAFwdIdeal.main_arg4) = m ((c.tc : Thread Cert.KernelAFwdIdeal.nD Cert.KernelAFwdIdeal.τ).loc Cert.KernelAFwdIdeal.main_arg4)
          ∧ r.2.mem ((c.tc : Thread Cert.KernelAFwdIdeal.nD Cert.KernelAFwdIdeal.τ).loc Cert.KernelAFwdIdeal.main_arg5) = m ((c.tc : Thread Cert.KernelAFwdIdeal.nD Cert.KernelAFwdIdeal.τ).loc Cert.KernelAFwdIdeal.main_arg5)
          ∧ r.2.mem ((c.tc : Thread Cert.KernelAFwdIdeal.nD Cert.KernelAFwdIdeal.τ).loc Cert.KernelAFwdIdeal.main_arg6) = m ((c.tc : Thread Cert.KernelAFwdIdeal.nD Cert.KernelAFwdIdeal.τ).loc Cert.KernelAFwdIdeal.main_arg6))
      ∧ θ_run (Cert.ReferenceAFwdIdeal.defs (F := Ideal)) (onTc (τ := Cert.ReferenceAFwdIdeal.τ) (Cert.ReferenceAFwdIdeal.main (F := Ideal))) ⟨m', fun _ => 0, g'⟩ (fun r => ∀ c : Dev Cert.ReferenceAFwdIdeal.nD,
          r.2.mem ((c.tc : Thread Cert.ReferenceAFwdIdeal.nD Cert.ReferenceAFwdIdeal.τ).loc Cert.ReferenceAFwdIdeal.main_v273) = v0 c
          ∧ r.2.mem ((c.tc : Thread Cert.ReferenceAFwdIdeal.nD Cert.ReferenceAFwdIdeal.τ).loc Cert.ReferenceAFwdIdeal.main_v500) = v1 c
          ∧ r.2.mem ((c.tc : Thread Cert.ReferenceAFwdIdeal.nD Cert.ReferenceAFwdIdeal.τ).loc Cert.ReferenceAFwdIdeal.main_arg0) = m' ((c.tc : Thread Cert.ReferenceAFwdIdeal.nD Cert.ReferenceAFwdIdeal.τ).loc Cert.ReferenceAFwdIdeal.main_arg0)
          ∧ r.2.mem ((c.tc : Thread Cert.ReferenceAFwdIdeal.nD Cert.ReferenceAFwdIdeal.τ).loc Cert.ReferenceAFwdIdeal.main_arg1) = m' ((c.tc : Thread Cert.ReferenceAFwdIdeal.nD Cert.ReferenceAFwdIdeal.τ).loc Cert.ReferenceAFwdIdeal.main_arg1)
          ∧ r.2.mem ((c.tc : Thread Cert.ReferenceAFwdIdeal.nD Cert.ReferenceAFwdIdeal.τ).loc Cert.ReferenceAFwdIdeal.main_arg2) = m' ((c.tc : Thread Cert.ReferenceAFwdIdeal.nD Cert.ReferenceAFwdIdeal.τ).loc Cert.ReferenceAFwdIdeal.main_arg2)
          ∧ r.2.mem ((c.tc : Thread Cert.ReferenceAFwdIdeal.nD Cert.ReferenceAFwdIdeal.τ).loc Cert.ReferenceAFwdIdeal.main_arg3) = m' ((c.tc : Thread Cert.ReferenceAFwdIdeal.nD Cert.ReferenceAFwdIdeal.τ).loc Cert.ReferenceAFwdIdeal.main_arg3)
          ∧ r.2.mem ((c.tc : Thread Cert.ReferenceAFwdIdeal.nD Cert.ReferenceAFwdIdeal.τ).loc Cert.ReferenceAFwdIdeal.main_arg4) = m' ((c.tc : Thread Cert.ReferenceAFwdIdeal.nD Cert.ReferenceAFwdIdeal.τ).loc Cert.ReferenceAFwdIdeal.main_arg4)
          ∧ r.2.mem ((c.tc : Thread Cert.ReferenceAFwdIdeal.nD Cert.ReferenceAFwdIdeal.τ).loc Cert.ReferenceAFwdIdeal.main_arg5) = m' ((c.tc : Thread Cert.ReferenceAFwdIdeal.nD Cert.ReferenceAFwdIdeal.τ).loc Cert.ReferenceAFwdIdeal.main_arg5)
          ∧ r.2.mem ((c.tc : Thread Cert.ReferenceAFwdIdeal.nD Cert.ReferenceAFwdIdeal.τ).loc Cert.ReferenceAFwdIdeal.main_arg6) = m' ((c.tc : Thread Cert.ReferenceAFwdIdeal.nD Cert.ReferenceAFwdIdeal.τ).loc Cert.ReferenceAFwdIdeal.main_arg6))

def preserves_KernelProjFwd_KernelProjFwdIdeal : Prop :=
  True

def algebraic_KernelProjFwdIdeal_ReferenceProjFwdIdeal [hKernelProjFwdIdeal : Cert.KernelProjFwdIdeal.Facts] [hReferenceProjFwdIdeal : Cert.ReferenceProjFwdIdeal.Facts] : Prop :=
  ∀ (m : (ℓ : Loc Cert.KernelProjFwdIdeal.nD Cert.KernelProjFwdIdeal.τ Cert.KernelProjFwdIdeal.sig) → Buf (Elt Ideal) ℓ) (g : Dev Cert.KernelProjFwdIdeal.nD → PrngReg)
    (m' : (ℓ : Loc Cert.ReferenceProjFwdIdeal.nD Cert.ReferenceProjFwdIdeal.τ Cert.ReferenceProjFwdIdeal.sig) → Buf (Elt Ideal) ℓ) (g' : Dev Cert.ReferenceProjFwdIdeal.nD → PrngReg), Pre_KernelProjFwdIdeal m →
    (∀ c : Dev Cert.KernelProjFwdIdeal.nD,
      m' ((c.tc : Thread Cert.ReferenceProjFwdIdeal.nD Cert.ReferenceProjFwdIdeal.τ).loc Cert.ReferenceProjFwdIdeal.main_arg0) = m ((c.tc : Thread Cert.KernelProjFwdIdeal.nD Cert.KernelProjFwdIdeal.τ).loc Cert.KernelProjFwdIdeal.main_arg0)
      ∧ m' ((c.tc : Thread Cert.ReferenceProjFwdIdeal.nD Cert.ReferenceProjFwdIdeal.τ).loc Cert.ReferenceProjFwdIdeal.main_arg1) = m ((c.tc : Thread Cert.KernelProjFwdIdeal.nD Cert.KernelProjFwdIdeal.τ).loc Cert.KernelProjFwdIdeal.main_arg1)
      ∧ m' ((c.tc : Thread Cert.ReferenceProjFwdIdeal.nD Cert.ReferenceProjFwdIdeal.τ).loc Cert.ReferenceProjFwdIdeal.main_arg2) = m ((c.tc : Thread Cert.KernelProjFwdIdeal.nD Cert.KernelProjFwdIdeal.τ).loc Cert.KernelProjFwdIdeal.main_arg2)) →
    ∃ (v0 : (c : Dev Cert.KernelProjFwdIdeal.nD) → Buf (Elt Ideal) ((c.tc : Thread Cert.KernelProjFwdIdeal.nD Cert.KernelProjFwdIdeal.τ).loc Cert.KernelProjFwdIdeal.main_v14_0)) (v1 : (c : Dev Cert.KernelProjFwdIdeal.nD) → Buf (Elt Ideal) ((c.tc : Thread Cert.KernelProjFwdIdeal.nD Cert.KernelProjFwdIdeal.τ).loc Cert.KernelProjFwdIdeal.main_v14_1)),
      θ_run (Cert.KernelProjFwdIdeal.defs (F := Ideal)) (onTc (τ := Cert.KernelProjFwdIdeal.τ) (Cert.KernelProjFwdIdeal.main (F := Ideal))) ⟨m, fun _ => 0, g⟩ (fun r => ∀ c : Dev Cert.KernelProjFwdIdeal.nD,
          r.2.mem ((c.tc : Thread Cert.KernelProjFwdIdeal.nD Cert.KernelProjFwdIdeal.τ).loc Cert.KernelProjFwdIdeal.main_v14_0) = v0 c
          ∧ r.2.mem ((c.tc : Thread Cert.KernelProjFwdIdeal.nD Cert.KernelProjFwdIdeal.τ).loc Cert.KernelProjFwdIdeal.main_v14_1) = v1 c
          ∧ r.2.mem ((c.tc : Thread Cert.KernelProjFwdIdeal.nD Cert.KernelProjFwdIdeal.τ).loc Cert.KernelProjFwdIdeal.main_arg0) = m ((c.tc : Thread Cert.KernelProjFwdIdeal.nD Cert.KernelProjFwdIdeal.τ).loc Cert.KernelProjFwdIdeal.main_arg0)
          ∧ r.2.mem ((c.tc : Thread Cert.KernelProjFwdIdeal.nD Cert.KernelProjFwdIdeal.τ).loc Cert.KernelProjFwdIdeal.main_arg1) = m ((c.tc : Thread Cert.KernelProjFwdIdeal.nD Cert.KernelProjFwdIdeal.τ).loc Cert.KernelProjFwdIdeal.main_arg1)
          ∧ r.2.mem ((c.tc : Thread Cert.KernelProjFwdIdeal.nD Cert.KernelProjFwdIdeal.τ).loc Cert.KernelProjFwdIdeal.main_arg2) = m ((c.tc : Thread Cert.KernelProjFwdIdeal.nD Cert.KernelProjFwdIdeal.τ).loc Cert.KernelProjFwdIdeal.main_arg2))
      ∧ θ_run (Cert.ReferenceProjFwdIdeal.defs (F := Ideal)) (onTc (τ := Cert.ReferenceProjFwdIdeal.τ) (Cert.ReferenceProjFwdIdeal.main (F := Ideal))) ⟨m', fun _ => 0, g'⟩ (fun r => ∀ c : Dev Cert.ReferenceProjFwdIdeal.nD,
          r.2.mem ((c.tc : Thread Cert.ReferenceProjFwdIdeal.nD Cert.ReferenceProjFwdIdeal.τ).loc Cert.ReferenceProjFwdIdeal.main_v18) = v0 c
          ∧ r.2.mem ((c.tc : Thread Cert.ReferenceProjFwdIdeal.nD Cert.ReferenceProjFwdIdeal.τ).loc Cert.ReferenceProjFwdIdeal.main_v32) = v1 c
          ∧ r.2.mem ((c.tc : Thread Cert.ReferenceProjFwdIdeal.nD Cert.ReferenceProjFwdIdeal.τ).loc Cert.ReferenceProjFwdIdeal.main_arg0) = m' ((c.tc : Thread Cert.ReferenceProjFwdIdeal.nD Cert.ReferenceProjFwdIdeal.τ).loc Cert.ReferenceProjFwdIdeal.main_arg0)
          ∧ r.2.mem ((c.tc : Thread Cert.ReferenceProjFwdIdeal.nD Cert.ReferenceProjFwdIdeal.τ).loc Cert.ReferenceProjFwdIdeal.main_arg1) = m' ((c.tc : Thread Cert.ReferenceProjFwdIdeal.nD Cert.ReferenceProjFwdIdeal.τ).loc Cert.ReferenceProjFwdIdeal.main_arg1)
          ∧ r.2.mem ((c.tc : Thread Cert.ReferenceProjFwdIdeal.nD Cert.ReferenceProjFwdIdeal.τ).loc Cert.ReferenceProjFwdIdeal.main_arg2) = m' ((c.tc : Thread Cert.ReferenceProjFwdIdeal.nD Cert.ReferenceProjFwdIdeal.τ).loc Cert.ReferenceProjFwdIdeal.main_arg2))

def preserves_KernelPrepFwd_KernelPrepFwdIdeal : Prop :=
  True

def algebraic_KernelPrepFwdIdeal_ReferencePrepFwdIdeal [hKernelPrepFwdIdeal : Cert.KernelPrepFwdIdeal.Facts] [hReferencePrepFwdIdeal : Cert.ReferencePrepFwdIdeal.Facts] : Prop :=
  ∀ (m : (ℓ : Loc Cert.KernelPrepFwdIdeal.nD Cert.KernelPrepFwdIdeal.τ Cert.KernelPrepFwdIdeal.sig) → Buf (Elt Ideal) ℓ) (g : Dev Cert.KernelPrepFwdIdeal.nD → PrngReg)
    (m' : (ℓ : Loc Cert.ReferencePrepFwdIdeal.nD Cert.ReferencePrepFwdIdeal.τ Cert.ReferencePrepFwdIdeal.sig) → Buf (Elt Ideal) ℓ) (g' : Dev Cert.ReferencePrepFwdIdeal.nD → PrngReg), Pre_KernelPrepFwdIdeal m →
    (∀ c : Dev Cert.KernelPrepFwdIdeal.nD,
      m' ((c.tc : Thread Cert.ReferencePrepFwdIdeal.nD Cert.ReferencePrepFwdIdeal.τ).loc Cert.ReferencePrepFwdIdeal.main_arg0) = m ((c.tc : Thread Cert.KernelPrepFwdIdeal.nD Cert.KernelPrepFwdIdeal.τ).loc Cert.KernelPrepFwdIdeal.main_arg0)
      ∧ m' ((c.tc : Thread Cert.ReferencePrepFwdIdeal.nD Cert.ReferencePrepFwdIdeal.τ).loc Cert.ReferencePrepFwdIdeal.main_arg1) = m ((c.tc : Thread Cert.KernelPrepFwdIdeal.nD Cert.KernelPrepFwdIdeal.τ).loc Cert.KernelPrepFwdIdeal.main_arg1)
      ∧ m' ((c.tc : Thread Cert.ReferencePrepFwdIdeal.nD Cert.ReferencePrepFwdIdeal.τ).loc Cert.ReferencePrepFwdIdeal.main_arg2) = m ((c.tc : Thread Cert.KernelPrepFwdIdeal.nD Cert.KernelPrepFwdIdeal.τ).loc Cert.KernelPrepFwdIdeal.main_arg2)
      ∧ m' ((c.tc : Thread Cert.ReferencePrepFwdIdeal.nD Cert.ReferencePrepFwdIdeal.τ).loc Cert.ReferencePrepFwdIdeal.main_arg3) = m ((c.tc : Thread Cert.KernelPrepFwdIdeal.nD Cert.KernelPrepFwdIdeal.τ).loc Cert.KernelPrepFwdIdeal.main_arg3)
      ∧ m' ((c.tc : Thread Cert.ReferencePrepFwdIdeal.nD Cert.ReferencePrepFwdIdeal.τ).loc Cert.ReferencePrepFwdIdeal.main_arg4) = m ((c.tc : Thread Cert.KernelPrepFwdIdeal.nD Cert.KernelPrepFwdIdeal.τ).loc Cert.KernelPrepFwdIdeal.main_arg4)
      ∧ m' ((c.tc : Thread Cert.ReferencePrepFwdIdeal.nD Cert.ReferencePrepFwdIdeal.τ).loc Cert.ReferencePrepFwdIdeal.main_arg5) = m ((c.tc : Thread Cert.KernelPrepFwdIdeal.nD Cert.KernelPrepFwdIdeal.τ).loc Cert.KernelPrepFwdIdeal.main_arg5)
      ∧ m' ((c.tc : Thread Cert.ReferencePrepFwdIdeal.nD Cert.ReferencePrepFwdIdeal.τ).loc Cert.ReferencePrepFwdIdeal.main_arg6) = m ((c.tc : Thread Cert.KernelPrepFwdIdeal.nD Cert.KernelPrepFwdIdeal.τ).loc Cert.KernelPrepFwdIdeal.main_arg6)) →
    ∃ (v0 : (c : Dev Cert.KernelPrepFwdIdeal.nD) → Buf (Elt Ideal) ((c.tc : Thread Cert.KernelPrepFwdIdeal.nD Cert.KernelPrepFwdIdeal.τ).loc Cert.KernelPrepFwdIdeal.main_v12_0)) (v1 : (c : Dev Cert.KernelPrepFwdIdeal.nD) → Buf (Elt Ideal) ((c.tc : Thread Cert.KernelPrepFwdIdeal.nD Cert.KernelPrepFwdIdeal.τ).loc Cert.KernelPrepFwdIdeal.main_v12_1)) (v2 : (c : Dev Cert.KernelPrepFwdIdeal.nD) → Buf (Elt Ideal) ((c.tc : Thread Cert.KernelPrepFwdIdeal.nD Cert.KernelPrepFwdIdeal.τ).loc Cert.KernelPrepFwdIdeal.main_v12_2)) (v3 : (c : Dev Cert.KernelPrepFwdIdeal.nD) → Buf (Elt Ideal) ((c.tc : Thread Cert.KernelPrepFwdIdeal.nD Cert.KernelPrepFwdIdeal.τ).loc Cert.KernelPrepFwdIdeal.main_v12_3)),
      θ_run (Cert.KernelPrepFwdIdeal.defs (F := Ideal)) (onTc (τ := Cert.KernelPrepFwdIdeal.τ) (Cert.KernelPrepFwdIdeal.main (F := Ideal))) ⟨m, fun _ => 0, g⟩ (fun r => ∀ c : Dev Cert.KernelPrepFwdIdeal.nD,
          r.2.mem ((c.tc : Thread Cert.KernelPrepFwdIdeal.nD Cert.KernelPrepFwdIdeal.τ).loc Cert.KernelPrepFwdIdeal.main_v12_0) = v0 c
          ∧ r.2.mem ((c.tc : Thread Cert.KernelPrepFwdIdeal.nD Cert.KernelPrepFwdIdeal.τ).loc Cert.KernelPrepFwdIdeal.main_v12_1) = v1 c
          ∧ r.2.mem ((c.tc : Thread Cert.KernelPrepFwdIdeal.nD Cert.KernelPrepFwdIdeal.τ).loc Cert.KernelPrepFwdIdeal.main_v12_2) = v2 c
          ∧ r.2.mem ((c.tc : Thread Cert.KernelPrepFwdIdeal.nD Cert.KernelPrepFwdIdeal.τ).loc Cert.KernelPrepFwdIdeal.main_v12_3) = v3 c
          ∧ r.2.mem ((c.tc : Thread Cert.KernelPrepFwdIdeal.nD Cert.KernelPrepFwdIdeal.τ).loc Cert.KernelPrepFwdIdeal.main_arg0) = m ((c.tc : Thread Cert.KernelPrepFwdIdeal.nD Cert.KernelPrepFwdIdeal.τ).loc Cert.KernelPrepFwdIdeal.main_arg0)
          ∧ r.2.mem ((c.tc : Thread Cert.KernelPrepFwdIdeal.nD Cert.KernelPrepFwdIdeal.τ).loc Cert.KernelPrepFwdIdeal.main_arg1) = m ((c.tc : Thread Cert.KernelPrepFwdIdeal.nD Cert.KernelPrepFwdIdeal.τ).loc Cert.KernelPrepFwdIdeal.main_arg1)
          ∧ r.2.mem ((c.tc : Thread Cert.KernelPrepFwdIdeal.nD Cert.KernelPrepFwdIdeal.τ).loc Cert.KernelPrepFwdIdeal.main_arg2) = m ((c.tc : Thread Cert.KernelPrepFwdIdeal.nD Cert.KernelPrepFwdIdeal.τ).loc Cert.KernelPrepFwdIdeal.main_arg2)
          ∧ r.2.mem ((c.tc : Thread Cert.KernelPrepFwdIdeal.nD Cert.KernelPrepFwdIdeal.τ).loc Cert.KernelPrepFwdIdeal.main_arg3) = m ((c.tc : Thread Cert.KernelPrepFwdIdeal.nD Cert.KernelPrepFwdIdeal.τ).loc Cert.KernelPrepFwdIdeal.main_arg3)
          ∧ r.2.mem ((c.tc : Thread Cert.KernelPrepFwdIdeal.nD Cert.KernelPrepFwdIdeal.τ).loc Cert.KernelPrepFwdIdeal.main_arg4) = m ((c.tc : Thread Cert.KernelPrepFwdIdeal.nD Cert.KernelPrepFwdIdeal.τ).loc Cert.KernelPrepFwdIdeal.main_arg4)
          ∧ r.2.mem ((c.tc : Thread Cert.KernelPrepFwdIdeal.nD Cert.KernelPrepFwdIdeal.τ).loc Cert.KernelPrepFwdIdeal.main_arg5) = m ((c.tc : Thread Cert.KernelPrepFwdIdeal.nD Cert.KernelPrepFwdIdeal.τ).loc Cert.KernelPrepFwdIdeal.main_arg5)
          ∧ r.2.mem ((c.tc : Thread Cert.KernelPrepFwdIdeal.nD Cert.KernelPrepFwdIdeal.τ).loc Cert.KernelPrepFwdIdeal.main_arg6) = m ((c.tc : Thread Cert.KernelPrepFwdIdeal.nD Cert.KernelPrepFwdIdeal.τ).loc Cert.KernelPrepFwdIdeal.main_arg6))
      ∧ θ_run (Cert.ReferencePrepFwdIdeal.defs (F := Ideal)) (onTc (τ := Cert.ReferencePrepFwdIdeal.τ) (Cert.ReferencePrepFwdIdeal.main (F := Ideal))) ⟨m', fun _ => 0, g'⟩ (fun r => ∀ c : Dev Cert.ReferencePrepFwdIdeal.nD,
          r.2.mem ((c.tc : Thread Cert.ReferencePrepFwdIdeal.nD Cert.ReferencePrepFwdIdeal.τ).loc Cert.ReferencePrepFwdIdeal.main_v42) = v0 c
          ∧ r.2.mem ((c.tc : Thread Cert.ReferencePrepFwdIdeal.nD Cert.ReferencePrepFwdIdeal.τ).loc Cert.ReferencePrepFwdIdeal.main_v43) = v1 c
          ∧ r.2.mem ((c.tc : Thread Cert.ReferencePrepFwdIdeal.nD Cert.ReferencePrepFwdIdeal.τ).loc Cert.ReferencePrepFwdIdeal.main_v68) = v2 c
          ∧ r.2.mem ((c.tc : Thread Cert.ReferencePrepFwdIdeal.nD Cert.ReferencePrepFwdIdeal.τ).loc Cert.ReferencePrepFwdIdeal.main_v94) = v3 c
          ∧ r.2.mem ((c.tc : Thread Cert.ReferencePrepFwdIdeal.nD Cert.ReferencePrepFwdIdeal.τ).loc Cert.ReferencePrepFwdIdeal.main_arg0) = m' ((c.tc : Thread Cert.ReferencePrepFwdIdeal.nD Cert.ReferencePrepFwdIdeal.τ).loc Cert.ReferencePrepFwdIdeal.main_arg0)
          ∧ r.2.mem ((c.tc : Thread Cert.ReferencePrepFwdIdeal.nD Cert.ReferencePrepFwdIdeal.τ).loc Cert.ReferencePrepFwdIdeal.main_arg1) = m' ((c.tc : Thread Cert.ReferencePrepFwdIdeal.nD Cert.ReferencePrepFwdIdeal.τ).loc Cert.ReferencePrepFwdIdeal.main_arg1)
          ∧ r.2.mem ((c.tc : Thread Cert.ReferencePrepFwdIdeal.nD Cert.ReferencePrepFwdIdeal.τ).loc Cert.ReferencePrepFwdIdeal.main_arg2) = m' ((c.tc : Thread Cert.ReferencePrepFwdIdeal.nD Cert.ReferencePrepFwdIdeal.τ).loc Cert.ReferencePrepFwdIdeal.main_arg2)
          ∧ r.2.mem ((c.tc : Thread Cert.ReferencePrepFwdIdeal.nD Cert.ReferencePrepFwdIdeal.τ).loc Cert.ReferencePrepFwdIdeal.main_arg3) = m' ((c.tc : Thread Cert.ReferencePrepFwdIdeal.nD Cert.ReferencePrepFwdIdeal.τ).loc Cert.ReferencePrepFwdIdeal.main_arg3)
          ∧ r.2.mem ((c.tc : Thread Cert.ReferencePrepFwdIdeal.nD Cert.ReferencePrepFwdIdeal.τ).loc Cert.ReferencePrepFwdIdeal.main_arg4) = m' ((c.tc : Thread Cert.ReferencePrepFwdIdeal.nD Cert.ReferencePrepFwdIdeal.τ).loc Cert.ReferencePrepFwdIdeal.main_arg4)
          ∧ r.2.mem ((c.tc : Thread Cert.ReferencePrepFwdIdeal.nD Cert.ReferencePrepFwdIdeal.τ).loc Cert.ReferencePrepFwdIdeal.main_arg5) = m' ((c.tc : Thread Cert.ReferencePrepFwdIdeal.nD Cert.ReferencePrepFwdIdeal.τ).loc Cert.ReferencePrepFwdIdeal.main_arg5)
          ∧ r.2.mem ((c.tc : Thread Cert.ReferencePrepFwdIdeal.nD Cert.ReferencePrepFwdIdeal.τ).loc Cert.ReferencePrepFwdIdeal.main_arg6) = m' ((c.tc : Thread Cert.ReferencePrepFwdIdeal.nD Cert.ReferencePrepFwdIdeal.τ).loc Cert.ReferencePrepFwdIdeal.main_arg6))

def preserves_KernelOutFwd_KernelOutFwdIdeal : Prop :=
  True

def algebraic_KernelOutFwdIdeal_ReferenceOutFwdIdeal [hKernelOutFwdIdeal : Cert.KernelOutFwdIdeal.Facts] [hReferenceOutFwdIdeal : Cert.ReferenceOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg)
    (m' : (ℓ : Loc Cert.ReferenceOutFwdIdeal.nD Cert.ReferenceOutFwdIdeal.τ Cert.ReferenceOutFwdIdeal.sig) → Buf (Elt Ideal) ℓ) (g' : Dev Cert.ReferenceOutFwdIdeal.nD → PrngReg), Pre_KernelOutFwdIdeal m →
    (∀ c : Dev Cert.KernelOutFwdIdeal.nD,
      m' ((c.tc : Thread Cert.ReferenceOutFwdIdeal.nD Cert.ReferenceOutFwdIdeal.τ).loc Cert.ReferenceOutFwdIdeal.main_arg0) = m ((c.tc : Thread Cert.KernelOutFwdIdeal.nD Cert.KernelOutFwdIdeal.τ).loc Cert.KernelOutFwdIdeal.main_arg0)
      ∧ m' ((c.tc : Thread Cert.ReferenceOutFwdIdeal.nD Cert.ReferenceOutFwdIdeal.τ).loc Cert.ReferenceOutFwdIdeal.main_arg1) = m ((c.tc : Thread Cert.KernelOutFwdIdeal.nD Cert.KernelOutFwdIdeal.τ).loc Cert.KernelOutFwdIdeal.main_arg1)
      ∧ m' ((c.tc : Thread Cert.ReferenceOutFwdIdeal.nD Cert.ReferenceOutFwdIdeal.τ).loc Cert.ReferenceOutFwdIdeal.main_arg2) = m ((c.tc : Thread Cert.KernelOutFwdIdeal.nD Cert.KernelOutFwdIdeal.τ).loc Cert.KernelOutFwdIdeal.main_arg2)
      ∧ m' ((c.tc : Thread Cert.ReferenceOutFwdIdeal.nD Cert.ReferenceOutFwdIdeal.τ).loc Cert.ReferenceOutFwdIdeal.main_arg3) = m ((c.tc : Thread Cert.KernelOutFwdIdeal.nD Cert.KernelOutFwdIdeal.τ).loc Cert.KernelOutFwdIdeal.main_arg3)
      ∧ m' ((c.tc : Thread Cert.ReferenceOutFwdIdeal.nD Cert.ReferenceOutFwdIdeal.τ).loc Cert.ReferenceOutFwdIdeal.main_arg4) = m ((c.tc : Thread Cert.KernelOutFwdIdeal.nD Cert.KernelOutFwdIdeal.τ).loc Cert.KernelOutFwdIdeal.main_arg4)
      ∧ m' ((c.tc : Thread Cert.ReferenceOutFwdIdeal.nD Cert.ReferenceOutFwdIdeal.τ).loc Cert.ReferenceOutFwdIdeal.main_arg5) = m ((c.tc : Thread Cert.KernelOutFwdIdeal.nD Cert.KernelOutFwdIdeal.τ).loc Cert.KernelOutFwdIdeal.main_arg5)) →
    ∃ (v0 : (c : Dev Cert.KernelOutFwdIdeal.nD) → Buf (Elt Ideal) ((c.tc : Thread Cert.KernelOutFwdIdeal.nD Cert.KernelOutFwdIdeal.τ).loc Cert.KernelOutFwdIdeal.main_v1)),
      θ_run (Cert.KernelOutFwdIdeal.defs (F := Ideal)) (onTc (τ := Cert.KernelOutFwdIdeal.τ) (Cert.KernelOutFwdIdeal.main (F := Ideal))) ⟨m, fun _ => 0, g⟩ (fun r => ∀ c : Dev Cert.KernelOutFwdIdeal.nD,
          r.2.mem ((c.tc : Thread Cert.KernelOutFwdIdeal.nD Cert.KernelOutFwdIdeal.τ).loc Cert.KernelOutFwdIdeal.main_v1) = v0 c
          ∧ r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
          ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
          ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2)
          ∧ r.2.mem ((c.tc : Thread Cert.KernelOutFwdIdeal.nD Cert.KernelOutFwdIdeal.τ).loc Cert.KernelOutFwdIdeal.main_arg3) = m ((c.tc : Thread Cert.KernelOutFwdIdeal.nD Cert.KernelOutFwdIdeal.τ).loc Cert.KernelOutFwdIdeal.main_arg3)
          ∧ r.2.mem ((c.tc : Thread Cert.KernelOutFwdIdeal.nD Cert.KernelOutFwdIdeal.τ).loc Cert.KernelOutFwdIdeal.main_arg4) = m ((c.tc : Thread Cert.KernelOutFwdIdeal.nD Cert.KernelOutFwdIdeal.τ).loc Cert.KernelOutFwdIdeal.main_arg4)
          ∧ r.2.mem ((c.tc : Thread Cert.KernelOutFwdIdeal.nD Cert.KernelOutFwdIdeal.τ).loc Cert.KernelOutFwdIdeal.main_arg5) = m ((c.tc : Thread Cert.KernelOutFwdIdeal.nD Cert.KernelOutFwdIdeal.τ).loc Cert.KernelOutFwdIdeal.main_arg5))
      ∧ θ_run (Cert.ReferenceOutFwdIdeal.defs (F := Ideal)) (onTc (τ := Cert.ReferenceOutFwdIdeal.τ) (Cert.ReferenceOutFwdIdeal.main (F := Ideal))) ⟨m', fun _ => 0, g'⟩ (fun r => ∀ c : Dev Cert.ReferenceOutFwdIdeal.nD,
          r.2.mem ((c.tc : Thread Cert.ReferenceOutFwdIdeal.nD Cert.ReferenceOutFwdIdeal.τ).loc Cert.ReferenceOutFwdIdeal.main_v2) = v0 c
          ∧ r.2.mem ((c.tc : Thread Cert.ReferenceOutFwdIdeal.nD Cert.ReferenceOutFwdIdeal.τ).loc Cert.ReferenceOutFwdIdeal.main_arg0) = m' ((c.tc : Thread Cert.ReferenceOutFwdIdeal.nD Cert.ReferenceOutFwdIdeal.τ).loc Cert.ReferenceOutFwdIdeal.main_arg0)
          ∧ r.2.mem ((c.tc : Thread Cert.ReferenceOutFwdIdeal.nD Cert.ReferenceOutFwdIdeal.τ).loc Cert.ReferenceOutFwdIdeal.main_arg1) = m' ((c.tc : Thread Cert.ReferenceOutFwdIdeal.nD Cert.ReferenceOutFwdIdeal.τ).loc Cert.ReferenceOutFwdIdeal.main_arg1)
          ∧ r.2.mem ((c.tc : Thread Cert.ReferenceOutFwdIdeal.nD Cert.ReferenceOutFwdIdeal.τ).loc Cert.ReferenceOutFwdIdeal.main_arg2) = m' ((c.tc : Thread Cert.ReferenceOutFwdIdeal.nD Cert.ReferenceOutFwdIdeal.τ).loc Cert.ReferenceOutFwdIdeal.main_arg2)
          ∧ r.2.mem ((c.tc : Thread Cert.ReferenceOutFwdIdeal.nD Cert.ReferenceOutFwdIdeal.τ).loc Cert.ReferenceOutFwdIdeal.main_arg3) = m' ((c.tc : Thread Cert.ReferenceOutFwdIdeal.nD Cert.ReferenceOutFwdIdeal.τ).loc Cert.ReferenceOutFwdIdeal.main_arg3)
          ∧ r.2.mem ((c.tc : Thread Cert.ReferenceOutFwdIdeal.nD Cert.ReferenceOutFwdIdeal.τ).loc Cert.ReferenceOutFwdIdeal.main_arg4) = m' ((c.tc : Thread Cert.ReferenceOutFwdIdeal.nD Cert.ReferenceOutFwdIdeal.τ).loc Cert.ReferenceOutFwdIdeal.main_arg4)
          ∧ r.2.mem ((c.tc : Thread Cert.ReferenceOutFwdIdeal.nD Cert.ReferenceOutFwdIdeal.τ).loc Cert.ReferenceOutFwdIdeal.main_arg5) = m' ((c.tc : Thread Cert.ReferenceOutFwdIdeal.nD Cert.ReferenceOutFwdIdeal.τ).loc Cert.ReferenceOutFwdIdeal.main_arg5))

def preserves_KernelOutBwd_KernelOutBwdIdeal : Prop :=
  True

def algebraic_KernelOutBwdIdeal_ReferenceOutBwdIdeal [hKernelOutBwdIdeal : Cert.KernelOutBwdIdeal.Facts] [hReferenceOutBwdIdeal : Cert.ReferenceOutBwdIdeal.Facts] : Prop :=
  ∀ (m : (ℓ : Loc Cert.KernelOutBwdIdeal.nD Cert.KernelOutBwdIdeal.τ Cert.KernelOutBwdIdeal.sig) → Buf (Elt Ideal) ℓ) (g : Dev Cert.KernelOutBwdIdeal.nD → PrngReg)
    (m' : (ℓ : Loc Cert.ReferenceOutBwdIdeal.nD Cert.ReferenceOutBwdIdeal.τ Cert.ReferenceOutBwdIdeal.sig) → Buf (Elt Ideal) ℓ) (g' : Dev Cert.ReferenceOutBwdIdeal.nD → PrngReg), Pre_KernelOutBwdIdeal m →
    (∀ c : Dev Cert.KernelOutBwdIdeal.nD,
      m' ((c.tc : Thread Cert.ReferenceOutBwdIdeal.nD Cert.ReferenceOutBwdIdeal.τ).loc Cert.ReferenceOutBwdIdeal.main_arg0) = m ((c.tc : Thread Cert.KernelOutBwdIdeal.nD Cert.KernelOutBwdIdeal.τ).loc Cert.KernelOutBwdIdeal.main_arg0)
      ∧ m' ((c.tc : Thread Cert.ReferenceOutBwdIdeal.nD Cert.ReferenceOutBwdIdeal.τ).loc Cert.ReferenceOutBwdIdeal.main_arg1) = m ((c.tc : Thread Cert.KernelOutBwdIdeal.nD Cert.KernelOutBwdIdeal.τ).loc Cert.KernelOutBwdIdeal.main_arg1)) →
    ∃ (v0 : (c : Dev Cert.KernelOutBwdIdeal.nD) → Buf (Elt Ideal) ((c.tc : Thread Cert.KernelOutBwdIdeal.nD Cert.KernelOutBwdIdeal.τ).loc Cert.KernelOutBwdIdeal.main_v1)),
      θ_run (Cert.KernelOutBwdIdeal.defs (F := Ideal)) (onTc (τ := Cert.KernelOutBwdIdeal.τ) (Cert.KernelOutBwdIdeal.main (F := Ideal))) ⟨m, fun _ => 0, g⟩ (fun r => ∀ c : Dev Cert.KernelOutBwdIdeal.nD,
          r.2.mem ((c.tc : Thread Cert.KernelOutBwdIdeal.nD Cert.KernelOutBwdIdeal.τ).loc Cert.KernelOutBwdIdeal.main_v1) = v0 c
          ∧ r.2.mem ((c.tc : Thread Cert.KernelOutBwdIdeal.nD Cert.KernelOutBwdIdeal.τ).loc Cert.KernelOutBwdIdeal.main_arg0) = m ((c.tc : Thread Cert.KernelOutBwdIdeal.nD Cert.KernelOutBwdIdeal.τ).loc Cert.KernelOutBwdIdeal.main_arg0)
          ∧ r.2.mem ((c.tc : Thread Cert.KernelOutBwdIdeal.nD Cert.KernelOutBwdIdeal.τ).loc Cert.KernelOutBwdIdeal.main_arg1) = m ((c.tc : Thread Cert.KernelOutBwdIdeal.nD Cert.KernelOutBwdIdeal.τ).loc Cert.KernelOutBwdIdeal.main_arg1))
      ∧ θ_run (Cert.ReferenceOutBwdIdeal.defs (F := Ideal)) (onTc (τ := Cert.ReferenceOutBwdIdeal.τ) (Cert.ReferenceOutBwdIdeal.main (F := Ideal))) ⟨m', fun _ => 0, g'⟩ (fun r => ∀ c : Dev Cert.ReferenceOutBwdIdeal.nD,
          r.2.mem ((c.tc : Thread Cert.ReferenceOutBwdIdeal.nD Cert.ReferenceOutBwdIdeal.τ).loc Cert.ReferenceOutBwdIdeal.main_v1) = v0 c
          ∧ r.2.mem ((c.tc : Thread Cert.ReferenceOutBwdIdeal.nD Cert.ReferenceOutBwdIdeal.τ).loc Cert.ReferenceOutBwdIdeal.main_arg0) = m' ((c.tc : Thread Cert.ReferenceOutBwdIdeal.nD Cert.ReferenceOutBwdIdeal.τ).loc Cert.ReferenceOutBwdIdeal.main_arg0)
          ∧ r.2.mem ((c.tc : Thread Cert.ReferenceOutBwdIdeal.nD Cert.ReferenceOutBwdIdeal.τ).loc Cert.ReferenceOutBwdIdeal.main_arg1) = m' ((c.tc : Thread Cert.ReferenceOutBwdIdeal.nD Cert.ReferenceOutBwdIdeal.τ).loc Cert.ReferenceOutBwdIdeal.main_arg1))

def preserves_KernelDwin_KernelDwinIdeal : Prop :=
  True

def algebraic_KernelDwinIdeal_ReferenceDwinIdeal [hKernelDwinIdeal : Cert.KernelDwinIdeal.Facts] [hReferenceDwinIdeal : Cert.ReferenceDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_KernelDwinIdeal m →
    (∀ c : Dev Cert.KernelDwinIdeal.nD,
      m' ((c.tc : Thread Cert.ReferenceDwinIdeal.nD Cert.ReferenceDwinIdeal.τ).loc Cert.ReferenceDwinIdeal.main_arg0) = m ((c.tc : Thread Cert.KernelDwinIdeal.nD Cert.KernelDwinIdeal.τ).loc Cert.KernelDwinIdeal.main_arg0)
      ∧ m' ((c.tc : Thread Cert.ReferenceDwinIdeal.nD Cert.ReferenceDwinIdeal.τ).loc Cert.ReferenceDwinIdeal.main_arg1) = m ((c.tc : Thread Cert.KernelDwinIdeal.nD Cert.KernelDwinIdeal.τ).loc Cert.KernelDwinIdeal.main_arg1)
      ∧ m' ((c.tc : Thread Cert.ReferenceDwinIdeal.nD Cert.ReferenceDwinIdeal.τ).loc Cert.ReferenceDwinIdeal.main_arg2) = m ((c.tc : Thread Cert.KernelDwinIdeal.nD Cert.KernelDwinIdeal.τ).loc Cert.KernelDwinIdeal.main_arg2)
      ∧ m' ((c.tc : Thread Cert.ReferenceDwinIdeal.nD Cert.ReferenceDwinIdeal.τ).loc Cert.ReferenceDwinIdeal.main_arg3) = m ((c.tc : Thread Cert.KernelDwinIdeal.nD Cert.KernelDwinIdeal.τ).loc Cert.KernelDwinIdeal.main_arg3)
      ∧ m' ((c.tc : Thread Cert.ReferenceDwinIdeal.nD Cert.ReferenceDwinIdeal.τ).loc Cert.ReferenceDwinIdeal.main_arg4) = m ((c.tc : Thread Cert.KernelDwinIdeal.nD Cert.KernelDwinIdeal.τ).loc Cert.KernelDwinIdeal.main_arg4)) →
    ∃ (v0 : (c : Dev Cert.KernelDwinIdeal.nD) → Buf (Elt Ideal) ((c.tc : Thread Cert.KernelDwinIdeal.nD Cert.KernelDwinIdeal.τ).loc Cert.KernelDwinIdeal.main_v0_0)) (v1 : (c : Dev Cert.KernelDwinIdeal.nD) → Buf (Elt Ideal) ((c.tc : Thread Cert.KernelDwinIdeal.nD Cert.KernelDwinIdeal.τ).loc Cert.KernelDwinIdeal.main_v0_1)) (v2 : (c : Dev Cert.KernelDwinIdeal.nD) → Buf (Elt Ideal) ((c.tc : Thread Cert.KernelDwinIdeal.nD Cert.KernelDwinIdeal.τ).loc Cert.KernelDwinIdeal.main_v0_2)) (v3 : (c : Dev Cert.KernelDwinIdeal.nD) → Buf (Elt Ideal) ((c.tc : Thread Cert.KernelDwinIdeal.nD Cert.KernelDwinIdeal.τ).loc Cert.KernelDwinIdeal.main_v0_3)),
      θ_run (Cert.KernelDwinIdeal.defs (F := Ideal)) (onTc (τ := Cert.KernelDwinIdeal.τ) (Cert.KernelDwinIdeal.main (F := Ideal))) ⟨m, fun _ => 0, g⟩ (fun r => ∀ c : Dev Cert.KernelDwinIdeal.nD,
          r.2.mem ((c.tc : Thread Cert.KernelDwinIdeal.nD Cert.KernelDwinIdeal.τ).loc Cert.KernelDwinIdeal.main_v0_0) = v0 c
          ∧ r.2.mem ((c.tc : Thread Cert.KernelDwinIdeal.nD Cert.KernelDwinIdeal.τ).loc Cert.KernelDwinIdeal.main_v0_1) = v1 c
          ∧ r.2.mem ((c.tc : Thread Cert.KernelDwinIdeal.nD Cert.KernelDwinIdeal.τ).loc Cert.KernelDwinIdeal.main_v0_2) = v2 c
          ∧ r.2.mem ((c.tc : Thread Cert.KernelDwinIdeal.nD Cert.KernelDwinIdeal.τ).loc Cert.KernelDwinIdeal.main_v0_3) = v3 c
          ∧ r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
          ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1)
          ∧ r.2.mem ((c.tc : Thread Cert.KernelDwinIdeal.nD Cert.KernelDwinIdeal.τ).loc Cert.KernelDwinIdeal.main_arg2) = m ((c.tc : Thread Cert.KernelDwinIdeal.nD Cert.KernelDwinIdeal.τ).loc Cert.KernelDwinIdeal.main_arg2)
          ∧ r.2.mem ((c.tc : Thread Cert.KernelDwinIdeal.nD Cert.KernelDwinIdeal.τ).loc Cert.KernelDwinIdeal.main_arg3) = m ((c.tc : Thread Cert.KernelDwinIdeal.nD Cert.KernelDwinIdeal.τ).loc Cert.KernelDwinIdeal.main_arg3)
          ∧ r.2.mem ((c.tc : Thread Cert.KernelDwinIdeal.nD Cert.KernelDwinIdeal.τ).loc Cert.KernelDwinIdeal.main_arg4) = m ((c.tc : Thread Cert.KernelDwinIdeal.nD Cert.KernelDwinIdeal.τ).loc Cert.KernelDwinIdeal.main_arg4))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v2) = v0 c
          ∧ r.2.mem ((c.tc : Thread Cert.ReferenceDwinIdeal.nD Cert.ReferenceDwinIdeal.τ).loc Cert.ReferenceDwinIdeal.main_v4) = v1 c
          ∧ r.2.mem ((c.tc : Thread Cert.ReferenceDwinIdeal.nD Cert.ReferenceDwinIdeal.τ).loc Cert.ReferenceDwinIdeal.main_v6) = v2 c
          ∧ r.2.mem ((c.tc : Thread Cert.ReferenceDwinIdeal.nD Cert.ReferenceDwinIdeal.τ).loc Cert.ReferenceDwinIdeal.main_v8) = v3 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1)
          ∧ r.2.mem ((c.tc : Thread Cert.ReferenceDwinIdeal.nD Cert.ReferenceDwinIdeal.τ).loc Cert.ReferenceDwinIdeal.main_arg2) = m' ((c.tc : Thread Cert.ReferenceDwinIdeal.nD Cert.ReferenceDwinIdeal.τ).loc Cert.ReferenceDwinIdeal.main_arg2)
          ∧ r.2.mem ((c.tc : Thread Cert.ReferenceDwinIdeal.nD Cert.ReferenceDwinIdeal.τ).loc Cert.ReferenceDwinIdeal.main_arg3) = m' ((c.tc : Thread Cert.ReferenceDwinIdeal.nD Cert.ReferenceDwinIdeal.τ).loc Cert.ReferenceDwinIdeal.main_arg3)
          ∧ r.2.mem ((c.tc : Thread Cert.ReferenceDwinIdeal.nD Cert.ReferenceDwinIdeal.τ).loc Cert.ReferenceDwinIdeal.main_arg4) = m' ((c.tc : Thread Cert.ReferenceDwinIdeal.nD Cert.ReferenceDwinIdeal.τ).loc Cert.ReferenceDwinIdeal.main_arg4))

def preserves_KernelDwout_KernelDwoutIdeal : Prop :=
  True

def algebraic_KernelDwoutIdeal_ReferenceDwoutIdeal [hKernelDwoutIdeal : Cert.KernelDwoutIdeal.Facts] [hReferenceDwoutIdeal : Cert.ReferenceDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg)
    (m' : (ℓ : Loc Cert.ReferenceDwoutIdeal.nD Cert.ReferenceDwoutIdeal.τ Cert.ReferenceDwoutIdeal.sig) → Buf (Elt Ideal) ℓ) (g' : Dev Cert.ReferenceDwoutIdeal.nD → PrngReg), Pre_KernelDwoutIdeal m →
    (∀ c : Dev Cert.KernelDwoutIdeal.nD,
      m' ((c.tc : Thread Cert.ReferenceDwoutIdeal.nD Cert.ReferenceDwoutIdeal.τ).loc Cert.ReferenceDwoutIdeal.main_arg0) = m ((c.tc : Thread Cert.KernelDwoutIdeal.nD Cert.KernelDwoutIdeal.τ).loc Cert.KernelDwoutIdeal.main_arg0)
      ∧ m' ((c.tc : Thread Cert.ReferenceDwoutIdeal.nD Cert.ReferenceDwoutIdeal.τ).loc Cert.ReferenceDwoutIdeal.main_arg1) = m ((c.tc : Thread Cert.KernelDwoutIdeal.nD Cert.KernelDwoutIdeal.τ).loc Cert.KernelDwoutIdeal.main_arg1)
      ∧ m' ((c.tc : Thread Cert.ReferenceDwoutIdeal.nD Cert.ReferenceDwoutIdeal.τ).loc Cert.ReferenceDwoutIdeal.main_arg2) = m ((c.tc : Thread Cert.KernelDwoutIdeal.nD Cert.KernelDwoutIdeal.τ).loc Cert.KernelDwoutIdeal.main_arg2)
      ∧ m' ((c.tc : Thread Cert.ReferenceDwoutIdeal.nD Cert.ReferenceDwoutIdeal.τ).loc Cert.ReferenceDwoutIdeal.main_arg3) = m ((c.tc : Thread Cert.KernelDwoutIdeal.nD Cert.KernelDwoutIdeal.τ).loc Cert.KernelDwoutIdeal.main_arg3)
      ∧ m' ((c.tc : Thread Cert.ReferenceDwoutIdeal.nD Cert.ReferenceDwoutIdeal.τ).loc Cert.ReferenceDwoutIdeal.main_arg4) = m ((c.tc : Thread Cert.KernelDwoutIdeal.nD Cert.KernelDwoutIdeal.τ).loc Cert.KernelDwoutIdeal.main_arg4)) →
    ∃ (v0 : (c : Dev Cert.KernelDwoutIdeal.nD) → Buf (Elt Ideal) ((c.tc : Thread Cert.KernelDwoutIdeal.nD Cert.KernelDwoutIdeal.τ).loc Cert.KernelDwoutIdeal.main_v0)),
      θ_run (Cert.KernelDwoutIdeal.defs (F := Ideal)) (onTc (τ := Cert.KernelDwoutIdeal.τ) (Cert.KernelDwoutIdeal.main (F := Ideal))) ⟨m, fun _ => 0, g⟩ (fun r => ∀ c : Dev Cert.KernelDwoutIdeal.nD,
          r.2.mem ((c.tc : Thread Cert.KernelDwoutIdeal.nD Cert.KernelDwoutIdeal.τ).loc Cert.KernelDwoutIdeal.main_v0) = v0 c
          ∧ r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
          ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1)
          ∧ r.2.mem ((c.tc : Thread Cert.KernelDwoutIdeal.nD Cert.KernelDwoutIdeal.τ).loc Cert.KernelDwoutIdeal.main_arg2) = m ((c.tc : Thread Cert.KernelDwoutIdeal.nD Cert.KernelDwoutIdeal.τ).loc Cert.KernelDwoutIdeal.main_arg2)
          ∧ r.2.mem ((c.tc : Thread Cert.KernelDwoutIdeal.nD Cert.KernelDwoutIdeal.τ).loc Cert.KernelDwoutIdeal.main_arg3) = m ((c.tc : Thread Cert.KernelDwoutIdeal.nD Cert.KernelDwoutIdeal.τ).loc Cert.KernelDwoutIdeal.main_arg3)
          ∧ r.2.mem ((c.tc : Thread Cert.KernelDwoutIdeal.nD Cert.KernelDwoutIdeal.τ).loc Cert.KernelDwoutIdeal.main_arg4) = m ((c.tc : Thread Cert.KernelDwoutIdeal.nD Cert.KernelDwoutIdeal.τ).loc Cert.KernelDwoutIdeal.main_arg4))
      ∧ θ_run (Cert.ReferenceDwoutIdeal.defs (F := Ideal)) (onTc (τ := Cert.ReferenceDwoutIdeal.τ) (Cert.ReferenceDwoutIdeal.main (F := Ideal))) ⟨m', fun _ => 0, g'⟩ (fun r => ∀ c : Dev Cert.ReferenceDwoutIdeal.nD,
          r.2.mem ((c.tc : Thread Cert.ReferenceDwoutIdeal.nD Cert.ReferenceDwoutIdeal.τ).loc Cert.ReferenceDwoutIdeal.main_v2) = v0 c
          ∧ r.2.mem ((c.tc : Thread Cert.ReferenceDwoutIdeal.nD Cert.ReferenceDwoutIdeal.τ).loc Cert.ReferenceDwoutIdeal.main_arg0) = m' ((c.tc : Thread Cert.ReferenceDwoutIdeal.nD Cert.ReferenceDwoutIdeal.τ).loc Cert.ReferenceDwoutIdeal.main_arg0)
          ∧ r.2.mem ((c.tc : Thread Cert.ReferenceDwoutIdeal.nD Cert.ReferenceDwoutIdeal.τ).loc Cert.ReferenceDwoutIdeal.main_arg1) = m' ((c.tc : Thread Cert.ReferenceDwoutIdeal.nD Cert.ReferenceDwoutIdeal.τ).loc Cert.ReferenceDwoutIdeal.main_arg1)
          ∧ r.2.mem ((c.tc : Thread Cert.ReferenceDwoutIdeal.nD Cert.ReferenceDwoutIdeal.τ).loc Cert.ReferenceDwoutIdeal.main_arg2) = m' ((c.tc : Thread Cert.ReferenceDwoutIdeal.nD Cert.ReferenceDwoutIdeal.τ).loc Cert.ReferenceDwoutIdeal.main_arg2)
          ∧ r.2.mem ((c.tc : Thread Cert.ReferenceDwoutIdeal.nD Cert.ReferenceDwoutIdeal.τ).loc Cert.ReferenceDwoutIdeal.main_arg3) = m' ((c.tc : Thread Cert.ReferenceDwoutIdeal.nD Cert.ReferenceDwoutIdeal.τ).loc Cert.ReferenceDwoutIdeal.main_arg3)
          ∧ r.2.mem ((c.tc : Thread Cert.ReferenceDwoutIdeal.nD Cert.ReferenceDwoutIdeal.τ).loc Cert.ReferenceDwoutIdeal.main_arg4) = m' ((c.tc : Thread Cert.ReferenceDwoutIdeal.nD Cert.ReferenceDwoutIdeal.τ).loc Cert.ReferenceDwoutIdeal.main_arg4))

def preserves_KernelAdamw_KernelAdamwIdeal : Prop :=
  True

def algebraic_KernelAdamwIdeal_ReferenceAdamwIdeal [hKernelAdamwIdeal : Cert.KernelAdamwIdeal.Facts] [hReferenceAdamwIdeal : Cert.ReferenceAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg)
    (m' : (ℓ : Loc Cert.ReferenceAdamwIdeal.nD Cert.ReferenceAdamwIdeal.τ Cert.ReferenceAdamwIdeal.sig) → Buf (Elt Ideal) ℓ) (g' : Dev Cert.ReferenceAdamwIdeal.nD → PrngReg), Pre_KernelAdamwIdeal m →
    (∀ c : Dev Cert.KernelAdamwIdeal.nD,
      m' ((c.tc : Thread Cert.ReferenceAdamwIdeal.nD Cert.ReferenceAdamwIdeal.τ).loc Cert.ReferenceAdamwIdeal.main_arg0) = m ((c.tc : Thread Cert.KernelAdamwIdeal.nD Cert.KernelAdamwIdeal.τ).loc Cert.KernelAdamwIdeal.main_arg0)
      ∧ m' ((c.tc : Thread Cert.ReferenceAdamwIdeal.nD Cert.ReferenceAdamwIdeal.τ).loc Cert.ReferenceAdamwIdeal.main_arg1) = m ((c.tc : Thread Cert.KernelAdamwIdeal.nD Cert.KernelAdamwIdeal.τ).loc Cert.KernelAdamwIdeal.main_arg1)
      ∧ m' ((c.tc : Thread Cert.ReferenceAdamwIdeal.nD Cert.ReferenceAdamwIdeal.τ).loc Cert.ReferenceAdamwIdeal.main_arg2) = m ((c.tc : Thread Cert.KernelAdamwIdeal.nD Cert.KernelAdamwIdeal.τ).loc Cert.KernelAdamwIdeal.main_arg2)
      ∧ m' ((c.tc : Thread Cert.ReferenceAdamwIdeal.nD Cert.ReferenceAdamwIdeal.τ).loc Cert.ReferenceAdamwIdeal.main_arg3) = m ((c.tc : Thread Cert.KernelAdamwIdeal.nD Cert.KernelAdamwIdeal.τ).loc Cert.KernelAdamwIdeal.main_arg3)) →
    ∃ (v0 : (c : Dev Cert.KernelAdamwIdeal.nD) → Buf (Elt Ideal) ((c.tc : Thread Cert.KernelAdamwIdeal.nD Cert.KernelAdamwIdeal.τ).loc Cert.KernelAdamwIdeal.main_v4_0)) (v1 : (c : Dev Cert.KernelAdamwIdeal.nD) → Buf (Elt Ideal) ((c.tc : Thread Cert.KernelAdamwIdeal.nD Cert.KernelAdamwIdeal.τ).loc Cert.KernelAdamwIdeal.main_v4_1)) (v2 : (c : Dev Cert.KernelAdamwIdeal.nD) → Buf (Elt Ideal) ((c.tc : Thread Cert.KernelAdamwIdeal.nD Cert.KernelAdamwIdeal.τ).loc Cert.KernelAdamwIdeal.main_v4_2)),
      θ_run (Cert.KernelAdamwIdeal.defs (F := Ideal)) (onTc (τ := Cert.KernelAdamwIdeal.τ) (Cert.KernelAdamwIdeal.main (F := Ideal))) ⟨m, fun _ => 0, g⟩ (fun r => ∀ c : Dev Cert.KernelAdamwIdeal.nD,
          r.2.mem ((c.tc : Thread Cert.KernelAdamwIdeal.nD Cert.KernelAdamwIdeal.τ).loc Cert.KernelAdamwIdeal.main_v4_0) = v0 c
          ∧ r.2.mem ((c.tc : Thread Cert.KernelAdamwIdeal.nD Cert.KernelAdamwIdeal.τ).loc Cert.KernelAdamwIdeal.main_v4_1) = v1 c
          ∧ r.2.mem ((c.tc : Thread Cert.KernelAdamwIdeal.nD Cert.KernelAdamwIdeal.τ).loc Cert.KernelAdamwIdeal.main_v4_2) = v2 c
          ∧ r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
          ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
          ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
          ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ θ_run (Cert.ReferenceAdamwIdeal.defs (F := Ideal)) (onTc (τ := Cert.ReferenceAdamwIdeal.τ) (Cert.ReferenceAdamwIdeal.main (F := Ideal))) ⟨m', fun _ => 0, g'⟩ (fun r => ∀ c : Dev Cert.ReferenceAdamwIdeal.nD,
          r.2.mem ((c.tc : Thread Cert.ReferenceAdamwIdeal.nD Cert.ReferenceAdamwIdeal.τ).loc Cert.ReferenceAdamwIdeal.main_v24) = v0 c
          ∧ r.2.mem ((c.tc : Thread Cert.ReferenceAdamwIdeal.nD Cert.ReferenceAdamwIdeal.τ).loc Cert.ReferenceAdamwIdeal.main_v25) = v1 c
          ∧ r.2.mem ((c.tc : Thread Cert.ReferenceAdamwIdeal.nD Cert.ReferenceAdamwIdeal.τ).loc Cert.ReferenceAdamwIdeal.main_v26) = v2 c
          ∧ r.2.mem ((c.tc : Thread Cert.ReferenceAdamwIdeal.nD Cert.ReferenceAdamwIdeal.τ).loc Cert.ReferenceAdamwIdeal.main_arg0) = m' ((c.tc : Thread Cert.ReferenceAdamwIdeal.nD Cert.ReferenceAdamwIdeal.τ).loc Cert.ReferenceAdamwIdeal.main_arg0)
          ∧ r.2.mem ((c.tc : Thread Cert.ReferenceAdamwIdeal.nD Cert.ReferenceAdamwIdeal.τ).loc Cert.ReferenceAdamwIdeal.main_arg1) = m' ((c.tc : Thread Cert.ReferenceAdamwIdeal.nD Cert.ReferenceAdamwIdeal.τ).loc Cert.ReferenceAdamwIdeal.main_arg1)
          ∧ r.2.mem ((c.tc : Thread Cert.ReferenceAdamwIdeal.nD Cert.ReferenceAdamwIdeal.τ).loc Cert.ReferenceAdamwIdeal.main_arg2) = m' ((c.tc : Thread Cert.ReferenceAdamwIdeal.nD Cert.ReferenceAdamwIdeal.τ).loc Cert.ReferenceAdamwIdeal.main_arg2)
          ∧ r.2.mem ((c.tc : Thread Cert.ReferenceAdamwIdeal.nD Cert.ReferenceAdamwIdeal.τ).loc Cert.ReferenceAdamwIdeal.main_arg3) = m' ((c.tc : Thread Cert.ReferenceAdamwIdeal.nD Cert.ReferenceAdamwIdeal.τ).loc Cert.ReferenceAdamwIdeal.main_arg3))

def preserves_KernelAdamwIn_KernelAdamwInIdeal : Prop :=
  True

def algebraic_KernelAdamwInIdeal_ReferenceAdamwInIdeal [hKernelAdamwInIdeal : Cert.KernelAdamwInIdeal.Facts] [hReferenceAdamwInIdeal : Cert.ReferenceAdamwInIdeal.Facts] : Prop :=
  ∀ (m : (ℓ : Loc Cert.KernelAdamwInIdeal.nD Cert.KernelAdamwInIdeal.τ Cert.KernelAdamwInIdeal.sig) → Buf (Elt Ideal) ℓ) (g : Dev Cert.KernelAdamwInIdeal.nD → PrngReg)
    (m' : (ℓ : Loc Cert.ReferenceAdamwInIdeal.nD Cert.ReferenceAdamwInIdeal.τ Cert.ReferenceAdamwInIdeal.sig) → Buf (Elt Ideal) ℓ) (g' : Dev Cert.ReferenceAdamwInIdeal.nD → PrngReg), Pre_KernelAdamwInIdeal m →
    (∀ c : Dev Cert.KernelAdamwInIdeal.nD,
      m' ((c.tc : Thread Cert.ReferenceAdamwInIdeal.nD Cert.ReferenceAdamwInIdeal.τ).loc Cert.ReferenceAdamwInIdeal.main_arg0) = m ((c.tc : Thread Cert.KernelAdamwInIdeal.nD Cert.KernelAdamwInIdeal.τ).loc Cert.KernelAdamwInIdeal.main_arg0)
      ∧ m' ((c.tc : Thread Cert.ReferenceAdamwInIdeal.nD Cert.ReferenceAdamwInIdeal.τ).loc Cert.ReferenceAdamwInIdeal.main_arg1) = m ((c.tc : Thread Cert.KernelAdamwInIdeal.nD Cert.KernelAdamwInIdeal.τ).loc Cert.KernelAdamwInIdeal.main_arg1)
      ∧ m' ((c.tc : Thread Cert.ReferenceAdamwInIdeal.nD Cert.ReferenceAdamwInIdeal.τ).loc Cert.ReferenceAdamwInIdeal.main_arg2) = m ((c.tc : Thread Cert.KernelAdamwInIdeal.nD Cert.KernelAdamwInIdeal.τ).loc Cert.KernelAdamwInIdeal.main_arg2)
      ∧ m' ((c.tc : Thread Cert.ReferenceAdamwInIdeal.nD Cert.ReferenceAdamwInIdeal.τ).loc Cert.ReferenceAdamwInIdeal.main_arg3) = m ((c.tc : Thread Cert.KernelAdamwInIdeal.nD Cert.KernelAdamwInIdeal.τ).loc Cert.KernelAdamwInIdeal.main_arg3)) →
    ∃ (v0 : (c : Dev Cert.KernelAdamwInIdeal.nD) → Buf (Elt Ideal) ((c.tc : Thread Cert.KernelAdamwInIdeal.nD Cert.KernelAdamwInIdeal.τ).loc Cert.KernelAdamwInIdeal.main_v4_0)) (v1 : (c : Dev Cert.KernelAdamwInIdeal.nD) → Buf (Elt Ideal) ((c.tc : Thread Cert.KernelAdamwInIdeal.nD Cert.KernelAdamwInIdeal.τ).loc Cert.KernelAdamwInIdeal.main_v4_1)) (v2 : (c : Dev Cert.KernelAdamwInIdeal.nD) → Buf (Elt Ideal) ((c.tc : Thread Cert.KernelAdamwInIdeal.nD Cert.KernelAdamwInIdeal.τ).loc Cert.KernelAdamwInIdeal.main_v4_2)),
      θ_run (Cert.KernelAdamwInIdeal.defs (F := Ideal)) (onTc (τ := Cert.KernelAdamwInIdeal.τ) (Cert.KernelAdamwInIdeal.main (F := Ideal))) ⟨m, fun _ => 0, g⟩ (fun r => ∀ c : Dev Cert.KernelAdamwInIdeal.nD,
          r.2.mem ((c.tc : Thread Cert.KernelAdamwInIdeal.nD Cert.KernelAdamwInIdeal.τ).loc Cert.KernelAdamwInIdeal.main_v4_0) = v0 c
          ∧ r.2.mem ((c.tc : Thread Cert.KernelAdamwInIdeal.nD Cert.KernelAdamwInIdeal.τ).loc Cert.KernelAdamwInIdeal.main_v4_1) = v1 c
          ∧ r.2.mem ((c.tc : Thread Cert.KernelAdamwInIdeal.nD Cert.KernelAdamwInIdeal.τ).loc Cert.KernelAdamwInIdeal.main_v4_2) = v2 c
          ∧ r.2.mem ((c.tc : Thread Cert.KernelAdamwInIdeal.nD Cert.KernelAdamwInIdeal.τ).loc Cert.KernelAdamwInIdeal.main_arg0) = m ((c.tc : Thread Cert.KernelAdamwInIdeal.nD Cert.KernelAdamwInIdeal.τ).loc Cert.KernelAdamwInIdeal.main_arg0)
          ∧ r.2.mem ((c.tc : Thread Cert.KernelAdamwInIdeal.nD Cert.KernelAdamwInIdeal.τ).loc Cert.KernelAdamwInIdeal.main_arg1) = m ((c.tc : Thread Cert.KernelAdamwInIdeal.nD Cert.KernelAdamwInIdeal.τ).loc Cert.KernelAdamwInIdeal.main_arg1)
          ∧ r.2.mem ((c.tc : Thread Cert.KernelAdamwInIdeal.nD Cert.KernelAdamwInIdeal.τ).loc Cert.KernelAdamwInIdeal.main_arg2) = m ((c.tc : Thread Cert.KernelAdamwInIdeal.nD Cert.KernelAdamwInIdeal.τ).loc Cert.KernelAdamwInIdeal.main_arg2)
          ∧ r.2.mem ((c.tc : Thread Cert.KernelAdamwInIdeal.nD Cert.KernelAdamwInIdeal.τ).loc Cert.KernelAdamwInIdeal.main_arg3) = m ((c.tc : Thread Cert.KernelAdamwInIdeal.nD Cert.KernelAdamwInIdeal.τ).loc Cert.KernelAdamwInIdeal.main_arg3))
      ∧ θ_run (Cert.ReferenceAdamwInIdeal.defs (F := Ideal)) (onTc (τ := Cert.ReferenceAdamwInIdeal.τ) (Cert.ReferenceAdamwInIdeal.main (F := Ideal))) ⟨m', fun _ => 0, g'⟩ (fun r => ∀ c : Dev Cert.ReferenceAdamwInIdeal.nD,
          r.2.mem ((c.tc : Thread Cert.ReferenceAdamwInIdeal.nD Cert.ReferenceAdamwInIdeal.τ).loc Cert.ReferenceAdamwInIdeal.main_v24) = v0 c
          ∧ r.2.mem ((c.tc : Thread Cert.ReferenceAdamwInIdeal.nD Cert.ReferenceAdamwInIdeal.τ).loc Cert.ReferenceAdamwInIdeal.main_v25) = v1 c
          ∧ r.2.mem ((c.tc : Thread Cert.ReferenceAdamwInIdeal.nD Cert.ReferenceAdamwInIdeal.τ).loc Cert.ReferenceAdamwInIdeal.main_v26) = v2 c
          ∧ r.2.mem ((c.tc : Thread Cert.ReferenceAdamwInIdeal.nD Cert.ReferenceAdamwInIdeal.τ).loc Cert.ReferenceAdamwInIdeal.main_arg0) = m' ((c.tc : Thread Cert.ReferenceAdamwInIdeal.nD Cert.ReferenceAdamwInIdeal.τ).loc Cert.ReferenceAdamwInIdeal.main_arg0)
          ∧ r.2.mem ((c.tc : Thread Cert.ReferenceAdamwInIdeal.nD Cert.ReferenceAdamwInIdeal.τ).loc Cert.ReferenceAdamwInIdeal.main_arg1) = m' ((c.tc : Thread Cert.ReferenceAdamwInIdeal.nD Cert.ReferenceAdamwInIdeal.τ).loc Cert.ReferenceAdamwInIdeal.main_arg1)
          ∧ r.2.mem ((c.tc : Thread Cert.ReferenceAdamwInIdeal.nD Cert.ReferenceAdamwInIdeal.τ).loc Cert.ReferenceAdamwInIdeal.main_arg2) = m' ((c.tc : Thread Cert.ReferenceAdamwInIdeal.nD Cert.ReferenceAdamwInIdeal.τ).loc Cert.ReferenceAdamwInIdeal.main_arg2)
          ∧ r.2.mem ((c.tc : Thread Cert.ReferenceAdamwInIdeal.nD Cert.ReferenceAdamwInIdeal.τ).loc Cert.ReferenceAdamwInIdeal.main_arg3) = m' ((c.tc : Thread Cert.ReferenceAdamwInIdeal.nD Cert.ReferenceAdamwInIdeal.τ).loc Cert.ReferenceAdamwInIdeal.main_arg3))

def preserves_KernelAdamwSmall_KernelAdamwSmallIdeal : Prop :=
  True

def algebraic_KernelAdamwSmallIdeal_ReferenceAdamwSmallIdeal [hKernelAdamwSmallIdeal : Cert.KernelAdamwSmallIdeal.Facts] [hReferenceAdamwSmallIdeal : Cert.ReferenceAdamwSmallIdeal.Facts] : Prop :=
  ∀ (m : (ℓ : Loc Cert.KernelAdamwSmallIdeal.nD Cert.KernelAdamwSmallIdeal.τ Cert.KernelAdamwSmallIdeal.sig) → Buf (Elt Ideal) ℓ) (g : Dev Cert.KernelAdamwSmallIdeal.nD → PrngReg)
    (m' : (ℓ : Loc Cert.ReferenceAdamwSmallIdeal.nD Cert.ReferenceAdamwSmallIdeal.τ Cert.ReferenceAdamwSmallIdeal.sig) → Buf (Elt Ideal) ℓ) (g' : Dev Cert.ReferenceAdamwSmallIdeal.nD → PrngReg), Pre_KernelAdamwSmallIdeal m →
    (∀ c : Dev Cert.KernelAdamwSmallIdeal.nD,
      m' ((c.tc : Thread Cert.ReferenceAdamwSmallIdeal.nD Cert.ReferenceAdamwSmallIdeal.τ).loc Cert.ReferenceAdamwSmallIdeal.main_arg0) = m ((c.tc : Thread Cert.KernelAdamwSmallIdeal.nD Cert.KernelAdamwSmallIdeal.τ).loc Cert.KernelAdamwSmallIdeal.main_arg0)
      ∧ m' ((c.tc : Thread Cert.ReferenceAdamwSmallIdeal.nD Cert.ReferenceAdamwSmallIdeal.τ).loc Cert.ReferenceAdamwSmallIdeal.main_arg1) = m ((c.tc : Thread Cert.KernelAdamwSmallIdeal.nD Cert.KernelAdamwSmallIdeal.τ).loc Cert.KernelAdamwSmallIdeal.main_arg1)
      ∧ m' ((c.tc : Thread Cert.ReferenceAdamwSmallIdeal.nD Cert.ReferenceAdamwSmallIdeal.τ).loc Cert.ReferenceAdamwSmallIdeal.main_arg2) = m ((c.tc : Thread Cert.KernelAdamwSmallIdeal.nD Cert.KernelAdamwSmallIdeal.τ).loc Cert.KernelAdamwSmallIdeal.main_arg2)
      ∧ m' ((c.tc : Thread Cert.ReferenceAdamwSmallIdeal.nD Cert.ReferenceAdamwSmallIdeal.τ).loc Cert.ReferenceAdamwSmallIdeal.main_arg3) = m ((c.tc : Thread Cert.KernelAdamwSmallIdeal.nD Cert.KernelAdamwSmallIdeal.τ).loc Cert.KernelAdamwSmallIdeal.main_arg3)
      ∧ m' ((c.tc : Thread Cert.ReferenceAdamwSmallIdeal.nD Cert.ReferenceAdamwSmallIdeal.τ).loc Cert.ReferenceAdamwSmallIdeal.main_arg4) = m ((c.tc : Thread Cert.KernelAdamwSmallIdeal.nD Cert.KernelAdamwSmallIdeal.τ).loc Cert.KernelAdamwSmallIdeal.main_arg4)
      ∧ m' ((c.tc : Thread Cert.ReferenceAdamwSmallIdeal.nD Cert.ReferenceAdamwSmallIdeal.τ).loc Cert.ReferenceAdamwSmallIdeal.main_arg5) = m ((c.tc : Thread Cert.KernelAdamwSmallIdeal.nD Cert.KernelAdamwSmallIdeal.τ).loc Cert.KernelAdamwSmallIdeal.main_arg5)
      ∧ m' ((c.tc : Thread Cert.ReferenceAdamwSmallIdeal.nD Cert.ReferenceAdamwSmallIdeal.τ).loc Cert.ReferenceAdamwSmallIdeal.main_arg6) = m ((c.tc : Thread Cert.KernelAdamwSmallIdeal.nD Cert.KernelAdamwSmallIdeal.τ).loc Cert.KernelAdamwSmallIdeal.main_arg6)
      ∧ m' ((c.tc : Thread Cert.ReferenceAdamwSmallIdeal.nD Cert.ReferenceAdamwSmallIdeal.τ).loc Cert.ReferenceAdamwSmallIdeal.main_arg7) = m ((c.tc : Thread Cert.KernelAdamwSmallIdeal.nD Cert.KernelAdamwSmallIdeal.τ).loc Cert.KernelAdamwSmallIdeal.main_arg7)
      ∧ m' ((c.tc : Thread Cert.ReferenceAdamwSmallIdeal.nD Cert.ReferenceAdamwSmallIdeal.τ).loc Cert.ReferenceAdamwSmallIdeal.main_arg8) = m ((c.tc : Thread Cert.KernelAdamwSmallIdeal.nD Cert.KernelAdamwSmallIdeal.τ).loc Cert.KernelAdamwSmallIdeal.main_arg8)
      ∧ m' ((c.tc : Thread Cert.ReferenceAdamwSmallIdeal.nD Cert.ReferenceAdamwSmallIdeal.τ).loc Cert.ReferenceAdamwSmallIdeal.main_arg9) = m ((c.tc : Thread Cert.KernelAdamwSmallIdeal.nD Cert.KernelAdamwSmallIdeal.τ).loc Cert.KernelAdamwSmallIdeal.main_arg9)
      ∧ m' ((c.tc : Thread Cert.ReferenceAdamwSmallIdeal.nD Cert.ReferenceAdamwSmallIdeal.τ).loc Cert.ReferenceAdamwSmallIdeal.main_arg10) = m ((c.tc : Thread Cert.KernelAdamwSmallIdeal.nD Cert.KernelAdamwSmallIdeal.τ).loc Cert.KernelAdamwSmallIdeal.main_arg10)
      ∧ m' ((c.tc : Thread Cert.ReferenceAdamwSmallIdeal.nD Cert.ReferenceAdamwSmallIdeal.τ).loc Cert.ReferenceAdamwSmallIdeal.main_arg11) = m ((c.tc : Thread Cert.KernelAdamwSmallIdeal.nD Cert.KernelAdamwSmallIdeal.τ).loc Cert.KernelAdamwSmallIdeal.main_arg11)
      ∧ m' ((c.tc : Thread Cert.ReferenceAdamwSmallIdeal.nD Cert.ReferenceAdamwSmallIdeal.τ).loc Cert.ReferenceAdamwSmallIdeal.main_arg12) = m ((c.tc : Thread Cert.KernelAdamwSmallIdeal.nD Cert.KernelAdamwSmallIdeal.τ).loc Cert.KernelAdamwSmallIdeal.main_arg12)
      ∧ m' ((c.tc : Thread Cert.ReferenceAdamwSmallIdeal.nD Cert.ReferenceAdamwSmallIdeal.τ).loc Cert.ReferenceAdamwSmallIdeal.main_arg13) = m ((c.tc : Thread Cert.KernelAdamwSmallIdeal.nD Cert.KernelAdamwSmallIdeal.τ).loc Cert.KernelAdamwSmallIdeal.main_arg13)
      ∧ m' ((c.tc : Thread Cert.ReferenceAdamwSmallIdeal.nD Cert.ReferenceAdamwSmallIdeal.τ).loc Cert.ReferenceAdamwSmallIdeal.main_arg14) = m ((c.tc : Thread Cert.KernelAdamwSmallIdeal.nD Cert.KernelAdamwSmallIdeal.τ).loc Cert.KernelAdamwSmallIdeal.main_arg14)
      ∧ m' ((c.tc : Thread Cert.ReferenceAdamwSmallIdeal.nD Cert.ReferenceAdamwSmallIdeal.τ).loc Cert.ReferenceAdamwSmallIdeal.main_arg15) = m ((c.tc : Thread Cert.KernelAdamwSmallIdeal.nD Cert.KernelAdamwSmallIdeal.τ).loc Cert.KernelAdamwSmallIdeal.main_arg15)
      ∧ m' ((c.tc : Thread Cert.ReferenceAdamwSmallIdeal.nD Cert.ReferenceAdamwSmallIdeal.τ).loc Cert.ReferenceAdamwSmallIdeal.main_arg16) = m ((c.tc : Thread Cert.KernelAdamwSmallIdeal.nD Cert.KernelAdamwSmallIdeal.τ).loc Cert.KernelAdamwSmallIdeal.main_arg16)
      ∧ m' ((c.tc : Thread Cert.ReferenceAdamwSmallIdeal.nD Cert.ReferenceAdamwSmallIdeal.τ).loc Cert.ReferenceAdamwSmallIdeal.main_arg17) = m ((c.tc : Thread Cert.KernelAdamwSmallIdeal.nD Cert.KernelAdamwSmallIdeal.τ).loc Cert.KernelAdamwSmallIdeal.main_arg17)
      ∧ m' ((c.tc : Thread Cert.ReferenceAdamwSmallIdeal.nD Cert.ReferenceAdamwSmallIdeal.τ).loc Cert.ReferenceAdamwSmallIdeal.main_arg18) = m ((c.tc : Thread Cert.KernelAdamwSmallIdeal.nD Cert.KernelAdamwSmallIdeal.τ).loc Cert.KernelAdamwSmallIdeal.main_arg18)
      ∧ m' ((c.tc : Thread Cert.ReferenceAdamwSmallIdeal.nD Cert.ReferenceAdamwSmallIdeal.τ).loc Cert.ReferenceAdamwSmallIdeal.main_arg19) = m ((c.tc : Thread Cert.KernelAdamwSmallIdeal.nD Cert.KernelAdamwSmallIdeal.τ).loc Cert.KernelAdamwSmallIdeal.main_arg19)) →
    ∃ (v0 : (c : Dev Cert.KernelAdamwSmallIdeal.nD) → Buf (Elt Ideal) ((c.tc : Thread Cert.KernelAdamwSmallIdeal.nD Cert.KernelAdamwSmallIdeal.τ).loc Cert.KernelAdamwSmallIdeal.main_v72)) (v1 : (c : Dev Cert.KernelAdamwSmallIdeal.nD) → Buf (Elt Ideal) ((c.tc : Thread Cert.KernelAdamwSmallIdeal.nD Cert.KernelAdamwSmallIdeal.τ).loc Cert.KernelAdamwSmallIdeal.main_v75)) (v2 : (c : Dev Cert.KernelAdamwSmallIdeal.nD) → Buf (Elt Ideal) ((c.tc : Thread Cert.KernelAdamwSmallIdeal.nD Cert.KernelAdamwSmallIdeal.τ).loc Cert.KernelAdamwSmallIdeal.main_v78)) (v3 : (c : Dev Cert.KernelAdamwSmallIdeal.nD) → Buf (Elt Ideal) ((c.tc : Thread Cert.KernelAdamwSmallIdeal.nD Cert.KernelAdamwSmallIdeal.τ).loc Cert.KernelAdamwSmallIdeal.main_v82)) (v4 : (c : Dev Cert.KernelAdamwSmallIdeal.nD) → Buf (Elt Ideal) ((c.tc : Thread Cert.KernelAdamwSmallIdeal.nD Cert.KernelAdamwSmallIdeal.τ).loc Cert.KernelAdamwSmallIdeal.main_v86)) (v5 : (c : Dev Cert.KernelAdamwSmallIdeal.nD) → Buf (Elt Ideal) ((c.tc : Thread Cert.KernelAdamwSmallIdeal.nD Cert.KernelAdamwSmallIdeal.τ).loc Cert.KernelAdamwSmallIdeal.main_v90)) (v6 : (c : Dev Cert.KernelAdamwSmallIdeal.nD) → Buf (Elt Ideal) ((c.tc : Thread Cert.KernelAdamwSmallIdeal.nD Cert.KernelAdamwSmallIdeal.τ).loc Cert.KernelAdamwSmallIdeal.main_v93)) (v7 : (c : Dev Cert.KernelAdamwSmallIdeal.nD) → Buf (Elt Ideal) ((c.tc : Thread Cert.KernelAdamwSmallIdeal.nD Cert.KernelAdamwSmallIdeal.τ).loc Cert.KernelAdamwSmallIdeal.main_v96)) (v8 : (c : Dev Cert.KernelAdamwSmallIdeal.nD) → Buf (Elt Ideal) ((c.tc : Thread Cert.KernelAdamwSmallIdeal.nD Cert.KernelAdamwSmallIdeal.τ).loc Cert.KernelAdamwSmallIdeal.main_v100)) (v9 : (c : Dev Cert.KernelAdamwSmallIdeal.nD) → Buf (Elt Ideal) ((c.tc : Thread Cert.KernelAdamwSmallIdeal.nD Cert.KernelAdamwSmallIdeal.τ).loc Cert.KernelAdamwSmallIdeal.main_v104)) (v10 : (c : Dev Cert.KernelAdamwSmallIdeal.nD) → Buf (Elt Ideal) ((c.tc : Thread Cert.KernelAdamwSmallIdeal.nD Cert.KernelAdamwSmallIdeal.τ).loc Cert.KernelAdamwSmallIdeal.main_v108)) (v11 : (c : Dev Cert.KernelAdamwSmallIdeal.nD) → Buf (Elt Ideal) ((c.tc : Thread Cert.KernelAdamwSmallIdeal.nD Cert.KernelAdamwSmallIdeal.τ).loc Cert.KernelAdamwSmallIdeal.main_v111)) (v12 : (c : Dev Cert.KernelAdamwSmallIdeal.nD) → Buf (Elt Ideal) ((c.tc : Thread Cert.KernelAdamwSmallIdeal.nD Cert.KernelAdamwSmallIdeal.τ).loc Cert.KernelAdamwSmallIdeal.main_v114)) (v13 : (c : Dev Cert.KernelAdamwSmallIdeal.nD) → Buf (Elt Ideal) ((c.tc : Thread Cert.KernelAdamwSmallIdeal.nD Cert.KernelAdamwSmallIdeal.τ).loc Cert.KernelAdamwSmallIdeal.main_v118)) (v14 : (c : Dev Cert.KernelAdamwSmallIdeal.nD) → Buf (Elt Ideal) ((c.tc : Thread Cert.KernelAdamwSmallIdeal.nD Cert.KernelAdamwSmallIdeal.τ).loc Cert.KernelAdamwSmallIdeal.main_v122)),
      θ_run (Cert.KernelAdamwSmallIdeal.defs (F := Ideal)) (onTc (τ := Cert.KernelAdamwSmallIdeal.τ) (Cert.KernelAdamwSmallIdeal.main (F := Ideal))) ⟨m, fun _ => 0, g⟩ (fun r => ∀ c : Dev Cert.KernelAdamwSmallIdeal.nD,
          r.2.mem ((c.tc : Thread Cert.KernelAdamwSmallIdeal.nD Cert.KernelAdamwSmallIdeal.τ).loc Cert.KernelAdamwSmallIdeal.main_v72) = v0 c
          ∧ r.2.mem ((c.tc : Thread Cert.KernelAdamwSmallIdeal.nD Cert.KernelAdamwSmallIdeal.τ).loc Cert.KernelAdamwSmallIdeal.main_v75) = v1 c
          ∧ r.2.mem ((c.tc : Thread Cert.KernelAdamwSmallIdeal.nD Cert.KernelAdamwSmallIdeal.τ).loc Cert.KernelAdamwSmallIdeal.main_v78) = v2 c
          ∧ r.2.mem ((c.tc : Thread Cert.KernelAdamwSmallIdeal.nD Cert.KernelAdamwSmallIdeal.τ).loc Cert.KernelAdamwSmallIdeal.main_v82) = v3 c
          ∧ r.2.mem ((c.tc : Thread Cert.KernelAdamwSmallIdeal.nD Cert.KernelAdamwSmallIdeal.τ).loc Cert.KernelAdamwSmallIdeal.main_v86) = v4 c
          ∧ r.2.mem ((c.tc : Thread Cert.KernelAdamwSmallIdeal.nD Cert.KernelAdamwSmallIdeal.τ).loc Cert.KernelAdamwSmallIdeal.main_v90) = v5 c
          ∧ r.2.mem ((c.tc : Thread Cert.KernelAdamwSmallIdeal.nD Cert.KernelAdamwSmallIdeal.τ).loc Cert.KernelAdamwSmallIdeal.main_v93) = v6 c
          ∧ r.2.mem ((c.tc : Thread Cert.KernelAdamwSmallIdeal.nD Cert.KernelAdamwSmallIdeal.τ).loc Cert.KernelAdamwSmallIdeal.main_v96) = v7 c
          ∧ r.2.mem ((c.tc : Thread Cert.KernelAdamwSmallIdeal.nD Cert.KernelAdamwSmallIdeal.τ).loc Cert.KernelAdamwSmallIdeal.main_v100) = v8 c
          ∧ r.2.mem ((c.tc : Thread Cert.KernelAdamwSmallIdeal.nD Cert.KernelAdamwSmallIdeal.τ).loc Cert.KernelAdamwSmallIdeal.main_v104) = v9 c
          ∧ r.2.mem ((c.tc : Thread Cert.KernelAdamwSmallIdeal.nD Cert.KernelAdamwSmallIdeal.τ).loc Cert.KernelAdamwSmallIdeal.main_v108) = v10 c
          ∧ r.2.mem ((c.tc : Thread Cert.KernelAdamwSmallIdeal.nD Cert.KernelAdamwSmallIdeal.τ).loc Cert.KernelAdamwSmallIdeal.main_v111) = v11 c
          ∧ r.2.mem ((c.tc : Thread Cert.KernelAdamwSmallIdeal.nD Cert.KernelAdamwSmallIdeal.τ).loc Cert.KernelAdamwSmallIdeal.main_v114) = v12 c
          ∧ r.2.mem ((c.tc : Thread Cert.KernelAdamwSmallIdeal.nD Cert.KernelAdamwSmallIdeal.τ).loc Cert.KernelAdamwSmallIdeal.main_v118) = v13 c
          ∧ r.2.mem ((c.tc : Thread Cert.KernelAdamwSmallIdeal.nD Cert.KernelAdamwSmallIdeal.τ).loc Cert.KernelAdamwSmallIdeal.main_v122) = v14 c
          ∧ r.2.mem ((c.tc : Thread Cert.KernelAdamwSmallIdeal.nD Cert.KernelAdamwSmallIdeal.τ).loc Cert.KernelAdamwSmallIdeal.main_arg0) = m ((c.tc : Thread Cert.KernelAdamwSmallIdeal.nD Cert.KernelAdamwSmallIdeal.τ).loc Cert.KernelAdamwSmallIdeal.main_arg0)
          ∧ r.2.mem ((c.tc : Thread Cert.KernelAdamwSmallIdeal.nD Cert.KernelAdamwSmallIdeal.τ).loc Cert.KernelAdamwSmallIdeal.main_arg1) = m ((c.tc : Thread Cert.KernelAdamwSmallIdeal.nD Cert.KernelAdamwSmallIdeal.τ).loc Cert.KernelAdamwSmallIdeal.main_arg1)
          ∧ r.2.mem ((c.tc : Thread Cert.KernelAdamwSmallIdeal.nD Cert.KernelAdamwSmallIdeal.τ).loc Cert.KernelAdamwSmallIdeal.main_arg2) = m ((c.tc : Thread Cert.KernelAdamwSmallIdeal.nD Cert.KernelAdamwSmallIdeal.τ).loc Cert.KernelAdamwSmallIdeal.main_arg2)
          ∧ r.2.mem ((c.tc : Thread Cert.KernelAdamwSmallIdeal.nD Cert.KernelAdamwSmallIdeal.τ).loc Cert.KernelAdamwSmallIdeal.main_arg3) = m ((c.tc : Thread Cert.KernelAdamwSmallIdeal.nD Cert.KernelAdamwSmallIdeal.τ).loc Cert.KernelAdamwSmallIdeal.main_arg3)
          ∧ r.2.mem ((c.tc : Thread Cert.KernelAdamwSmallIdeal.nD Cert.KernelAdamwSmallIdeal.τ).loc Cert.KernelAdamwSmallIdeal.main_arg4) = m ((c.tc : Thread Cert.KernelAdamwSmallIdeal.nD Cert.KernelAdamwSmallIdeal.τ).loc Cert.KernelAdamwSmallIdeal.main_arg4)
          ∧ r.2.mem ((c.tc : Thread Cert.KernelAdamwSmallIdeal.nD Cert.KernelAdamwSmallIdeal.τ).loc Cert.KernelAdamwSmallIdeal.main_arg5) = m ((c.tc : Thread Cert.KernelAdamwSmallIdeal.nD Cert.KernelAdamwSmallIdeal.τ).loc Cert.KernelAdamwSmallIdeal.main_arg5)
          ∧ r.2.mem ((c.tc : Thread Cert.KernelAdamwSmallIdeal.nD Cert.KernelAdamwSmallIdeal.τ).loc Cert.KernelAdamwSmallIdeal.main_arg6) = m ((c.tc : Thread Cert.KernelAdamwSmallIdeal.nD Cert.KernelAdamwSmallIdeal.τ).loc Cert.KernelAdamwSmallIdeal.main_arg6)
          ∧ r.2.mem ((c.tc : Thread Cert.KernelAdamwSmallIdeal.nD Cert.KernelAdamwSmallIdeal.τ).loc Cert.KernelAdamwSmallIdeal.main_arg7) = m ((c.tc : Thread Cert.KernelAdamwSmallIdeal.nD Cert.KernelAdamwSmallIdeal.τ).loc Cert.KernelAdamwSmallIdeal.main_arg7)
          ∧ r.2.mem ((c.tc : Thread Cert.KernelAdamwSmallIdeal.nD Cert.KernelAdamwSmallIdeal.τ).loc Cert.KernelAdamwSmallIdeal.main_arg8) = m ((c.tc : Thread Cert.KernelAdamwSmallIdeal.nD Cert.KernelAdamwSmallIdeal.τ).loc Cert.KernelAdamwSmallIdeal.main_arg8)
          ∧ r.2.mem ((c.tc : Thread Cert.KernelAdamwSmallIdeal.nD Cert.KernelAdamwSmallIdeal.τ).loc Cert.KernelAdamwSmallIdeal.main_arg9) = m ((c.tc : Thread Cert.KernelAdamwSmallIdeal.nD Cert.KernelAdamwSmallIdeal.τ).loc Cert.KernelAdamwSmallIdeal.main_arg9)
          ∧ r.2.mem ((c.tc : Thread Cert.KernelAdamwSmallIdeal.nD Cert.KernelAdamwSmallIdeal.τ).loc Cert.KernelAdamwSmallIdeal.main_arg10) = m ((c.tc : Thread Cert.KernelAdamwSmallIdeal.nD Cert.KernelAdamwSmallIdeal.τ).loc Cert.KernelAdamwSmallIdeal.main_arg10)
          ∧ r.2.mem ((c.tc : Thread Cert.KernelAdamwSmallIdeal.nD Cert.KernelAdamwSmallIdeal.τ).loc Cert.KernelAdamwSmallIdeal.main_arg11) = m ((c.tc : Thread Cert.KernelAdamwSmallIdeal.nD Cert.KernelAdamwSmallIdeal.τ).loc Cert.KernelAdamwSmallIdeal.main_arg11)
          ∧ r.2.mem ((c.tc : Thread Cert.KernelAdamwSmallIdeal.nD Cert.KernelAdamwSmallIdeal.τ).loc Cert.KernelAdamwSmallIdeal.main_arg12) = m ((c.tc : Thread Cert.KernelAdamwSmallIdeal.nD Cert.KernelAdamwSmallIdeal.τ).loc Cert.KernelAdamwSmallIdeal.main_arg12)
          ∧ r.2.mem ((c.tc : Thread Cert.KernelAdamwSmallIdeal.nD Cert.KernelAdamwSmallIdeal.τ).loc Cert.KernelAdamwSmallIdeal.main_arg13) = m ((c.tc : Thread Cert.KernelAdamwSmallIdeal.nD Cert.KernelAdamwSmallIdeal.τ).loc Cert.KernelAdamwSmallIdeal.main_arg13)
          ∧ r.2.mem ((c.tc : Thread Cert.KernelAdamwSmallIdeal.nD Cert.KernelAdamwSmallIdeal.τ).loc Cert.KernelAdamwSmallIdeal.main_arg14) = m ((c.tc : Thread Cert.KernelAdamwSmallIdeal.nD Cert.KernelAdamwSmallIdeal.τ).loc Cert.KernelAdamwSmallIdeal.main_arg14)
          ∧ r.2.mem ((c.tc : Thread Cert.KernelAdamwSmallIdeal.nD Cert.KernelAdamwSmallIdeal.τ).loc Cert.KernelAdamwSmallIdeal.main_arg15) = m ((c.tc : Thread Cert.KernelAdamwSmallIdeal.nD Cert.KernelAdamwSmallIdeal.τ).loc Cert.KernelAdamwSmallIdeal.main_arg15)
          ∧ r.2.mem ((c.tc : Thread Cert.KernelAdamwSmallIdeal.nD Cert.KernelAdamwSmallIdeal.τ).loc Cert.KernelAdamwSmallIdeal.main_arg16) = m ((c.tc : Thread Cert.KernelAdamwSmallIdeal.nD Cert.KernelAdamwSmallIdeal.τ).loc Cert.KernelAdamwSmallIdeal.main_arg16)
          ∧ r.2.mem ((c.tc : Thread Cert.KernelAdamwSmallIdeal.nD Cert.KernelAdamwSmallIdeal.τ).loc Cert.KernelAdamwSmallIdeal.main_arg17) = m ((c.tc : Thread Cert.KernelAdamwSmallIdeal.nD Cert.KernelAdamwSmallIdeal.τ).loc Cert.KernelAdamwSmallIdeal.main_arg17)
          ∧ r.2.mem ((c.tc : Thread Cert.KernelAdamwSmallIdeal.nD Cert.KernelAdamwSmallIdeal.τ).loc Cert.KernelAdamwSmallIdeal.main_arg18) = m ((c.tc : Thread Cert.KernelAdamwSmallIdeal.nD Cert.KernelAdamwSmallIdeal.τ).loc Cert.KernelAdamwSmallIdeal.main_arg18)
          ∧ r.2.mem ((c.tc : Thread Cert.KernelAdamwSmallIdeal.nD Cert.KernelAdamwSmallIdeal.τ).loc Cert.KernelAdamwSmallIdeal.main_arg19) = m ((c.tc : Thread Cert.KernelAdamwSmallIdeal.nD Cert.KernelAdamwSmallIdeal.τ).loc Cert.KernelAdamwSmallIdeal.main_arg19))
      ∧ θ_run (Cert.ReferenceAdamwSmallIdeal.defs (F := Ideal)) (onTc (τ := Cert.ReferenceAdamwSmallIdeal.τ) (Cert.ReferenceAdamwSmallIdeal.main (F := Ideal))) ⟨m', fun _ => 0, g'⟩ (fun r => ∀ c : Dev Cert.ReferenceAdamwSmallIdeal.nD,
          r.2.mem ((c.tc : Thread Cert.ReferenceAdamwSmallIdeal.nD Cert.ReferenceAdamwSmallIdeal.τ).loc Cert.ReferenceAdamwSmallIdeal.main_v23) = v0 c
          ∧ r.2.mem ((c.tc : Thread Cert.ReferenceAdamwSmallIdeal.nD Cert.ReferenceAdamwSmallIdeal.τ).loc Cert.ReferenceAdamwSmallIdeal.main_v47) = v1 c
          ∧ r.2.mem ((c.tc : Thread Cert.ReferenceAdamwSmallIdeal.nD Cert.ReferenceAdamwSmallIdeal.τ).loc Cert.ReferenceAdamwSmallIdeal.main_v71) = v2 c
          ∧ r.2.mem ((c.tc : Thread Cert.ReferenceAdamwSmallIdeal.nD Cert.ReferenceAdamwSmallIdeal.τ).loc Cert.ReferenceAdamwSmallIdeal.main_v95) = v3 c
          ∧ r.2.mem ((c.tc : Thread Cert.ReferenceAdamwSmallIdeal.nD Cert.ReferenceAdamwSmallIdeal.τ).loc Cert.ReferenceAdamwSmallIdeal.main_v119) = v4 c
          ∧ r.2.mem ((c.tc : Thread Cert.ReferenceAdamwSmallIdeal.nD Cert.ReferenceAdamwSmallIdeal.τ).loc Cert.ReferenceAdamwSmallIdeal.main_v4) = v5 c
          ∧ r.2.mem ((c.tc : Thread Cert.ReferenceAdamwSmallIdeal.nD Cert.ReferenceAdamwSmallIdeal.τ).loc Cert.ReferenceAdamwSmallIdeal.main_v28) = v6 c
          ∧ r.2.mem ((c.tc : Thread Cert.ReferenceAdamwSmallIdeal.nD Cert.ReferenceAdamwSmallIdeal.τ).loc Cert.ReferenceAdamwSmallIdeal.main_v52) = v7 c
          ∧ r.2.mem ((c.tc : Thread Cert.ReferenceAdamwSmallIdeal.nD Cert.ReferenceAdamwSmallIdeal.τ).loc Cert.ReferenceAdamwSmallIdeal.main_v76) = v8 c
          ∧ r.2.mem ((c.tc : Thread Cert.ReferenceAdamwSmallIdeal.nD Cert.ReferenceAdamwSmallIdeal.τ).loc Cert.ReferenceAdamwSmallIdeal.main_v100) = v9 c
          ∧ r.2.mem ((c.tc : Thread Cert.ReferenceAdamwSmallIdeal.nD Cert.ReferenceAdamwSmallIdeal.τ).loc Cert.ReferenceAdamwSmallIdeal.main_v10) = v10 c
          ∧ r.2.mem ((c.tc : Thread Cert.ReferenceAdamwSmallIdeal.nD Cert.ReferenceAdamwSmallIdeal.τ).loc Cert.ReferenceAdamwSmallIdeal.main_v34) = v11 c
          ∧ r.2.mem ((c.tc : Thread Cert.ReferenceAdamwSmallIdeal.nD Cert.ReferenceAdamwSmallIdeal.τ).loc Cert.ReferenceAdamwSmallIdeal.main_v58) = v12 c
          ∧ r.2.mem ((c.tc : Thread Cert.ReferenceAdamwSmallIdeal.nD Cert.ReferenceAdamwSmallIdeal.τ).loc Cert.ReferenceAdamwSmallIdeal.main_v82) = v13 c
          ∧ r.2.mem ((c.tc : Thread Cert.ReferenceAdamwSmallIdeal.nD Cert.ReferenceAdamwSmallIdeal.τ).loc Cert.ReferenceAdamwSmallIdeal.main_v106) = v14 c
          ∧ r.2.mem ((c.tc : Thread Cert.ReferenceAdamwSmallIdeal.nD Cert.ReferenceAdamwSmallIdeal.τ).loc Cert.ReferenceAdamwSmallIdeal.main_arg0) = m' ((c.tc : Thread Cert.ReferenceAdamwSmallIdeal.nD Cert.ReferenceAdamwSmallIdeal.τ).loc Cert.ReferenceAdamwSmallIdeal.main_arg0)
          ∧ r.2.mem ((c.tc : Thread Cert.ReferenceAdamwSmallIdeal.nD Cert.ReferenceAdamwSmallIdeal.τ).loc Cert.ReferenceAdamwSmallIdeal.main_arg1) = m' ((c.tc : Thread Cert.ReferenceAdamwSmallIdeal.nD Cert.ReferenceAdamwSmallIdeal.τ).loc Cert.ReferenceAdamwSmallIdeal.main_arg1)
          ∧ r.2.mem ((c.tc : Thread Cert.ReferenceAdamwSmallIdeal.nD Cert.ReferenceAdamwSmallIdeal.τ).loc Cert.ReferenceAdamwSmallIdeal.main_arg2) = m' ((c.tc : Thread Cert.ReferenceAdamwSmallIdeal.nD Cert.ReferenceAdamwSmallIdeal.τ).loc Cert.ReferenceAdamwSmallIdeal.main_arg2)
          ∧ r.2.mem ((c.tc : Thread Cert.ReferenceAdamwSmallIdeal.nD Cert.ReferenceAdamwSmallIdeal.τ).loc Cert.ReferenceAdamwSmallIdeal.main_arg3) = m' ((c.tc : Thread Cert.ReferenceAdamwSmallIdeal.nD Cert.ReferenceAdamwSmallIdeal.τ).loc Cert.ReferenceAdamwSmallIdeal.main_arg3)
          ∧ r.2.mem ((c.tc : Thread Cert.ReferenceAdamwSmallIdeal.nD Cert.ReferenceAdamwSmallIdeal.τ).loc Cert.ReferenceAdamwSmallIdeal.main_arg4) = m' ((c.tc : Thread Cert.ReferenceAdamwSmallIdeal.nD Cert.ReferenceAdamwSmallIdeal.τ).loc Cert.ReferenceAdamwSmallIdeal.main_arg4)
          ∧ r.2.mem ((c.tc : Thread Cert.ReferenceAdamwSmallIdeal.nD Cert.ReferenceAdamwSmallIdeal.τ).loc Cert.ReferenceAdamwSmallIdeal.main_arg5) = m' ((c.tc : Thread Cert.ReferenceAdamwSmallIdeal.nD Cert.ReferenceAdamwSmallIdeal.τ).loc Cert.ReferenceAdamwSmallIdeal.main_arg5)
          ∧ r.2.mem ((c.tc : Thread Cert.ReferenceAdamwSmallIdeal.nD Cert.ReferenceAdamwSmallIdeal.τ).loc Cert.ReferenceAdamwSmallIdeal.main_arg6) = m' ((c.tc : Thread Cert.ReferenceAdamwSmallIdeal.nD Cert.ReferenceAdamwSmallIdeal.τ).loc Cert.ReferenceAdamwSmallIdeal.main_arg6)
          ∧ r.2.mem ((c.tc : Thread Cert.ReferenceAdamwSmallIdeal.nD Cert.ReferenceAdamwSmallIdeal.τ).loc Cert.ReferenceAdamwSmallIdeal.main_arg7) = m' ((c.tc : Thread Cert.ReferenceAdamwSmallIdeal.nD Cert.ReferenceAdamwSmallIdeal.τ).loc Cert.ReferenceAdamwSmallIdeal.main_arg7)
          ∧ r.2.mem ((c.tc : Thread Cert.ReferenceAdamwSmallIdeal.nD Cert.ReferenceAdamwSmallIdeal.τ).loc Cert.ReferenceAdamwSmallIdeal.main_arg8) = m' ((c.tc : Thread Cert.ReferenceAdamwSmallIdeal.nD Cert.ReferenceAdamwSmallIdeal.τ).loc Cert.ReferenceAdamwSmallIdeal.main_arg8)
          ∧ r.2.mem ((c.tc : Thread Cert.ReferenceAdamwSmallIdeal.nD Cert.ReferenceAdamwSmallIdeal.τ).loc Cert.ReferenceAdamwSmallIdeal.main_arg9) = m' ((c.tc : Thread Cert.ReferenceAdamwSmallIdeal.nD Cert.ReferenceAdamwSmallIdeal.τ).loc Cert.ReferenceAdamwSmallIdeal.main_arg9)
          ∧ r.2.mem ((c.tc : Thread Cert.ReferenceAdamwSmallIdeal.nD Cert.ReferenceAdamwSmallIdeal.τ).loc Cert.ReferenceAdamwSmallIdeal.main_arg10) = m' ((c.tc : Thread Cert.ReferenceAdamwSmallIdeal.nD Cert.ReferenceAdamwSmallIdeal.τ).loc Cert.ReferenceAdamwSmallIdeal.main_arg10)
          ∧ r.2.mem ((c.tc : Thread Cert.ReferenceAdamwSmallIdeal.nD Cert.ReferenceAdamwSmallIdeal.τ).loc Cert.ReferenceAdamwSmallIdeal.main_arg11) = m' ((c.tc : Thread Cert.ReferenceAdamwSmallIdeal.nD Cert.ReferenceAdamwSmallIdeal.τ).loc Cert.ReferenceAdamwSmallIdeal.main_arg11)
          ∧ r.2.mem ((c.tc : Thread Cert.ReferenceAdamwSmallIdeal.nD Cert.ReferenceAdamwSmallIdeal.τ).loc Cert.ReferenceAdamwSmallIdeal.main_arg12) = m' ((c.tc : Thread Cert.ReferenceAdamwSmallIdeal.nD Cert.ReferenceAdamwSmallIdeal.τ).loc Cert.ReferenceAdamwSmallIdeal.main_arg12)
          ∧ r.2.mem ((c.tc : Thread Cert.ReferenceAdamwSmallIdeal.nD Cert.ReferenceAdamwSmallIdeal.τ).loc Cert.ReferenceAdamwSmallIdeal.main_arg13) = m' ((c.tc : Thread Cert.ReferenceAdamwSmallIdeal.nD Cert.ReferenceAdamwSmallIdeal.τ).loc Cert.ReferenceAdamwSmallIdeal.main_arg13)
          ∧ r.2.mem ((c.tc : Thread Cert.ReferenceAdamwSmallIdeal.nD Cert.ReferenceAdamwSmallIdeal.τ).loc Cert.ReferenceAdamwSmallIdeal.main_arg14) = m' ((c.tc : Thread Cert.ReferenceAdamwSmallIdeal.nD Cert.ReferenceAdamwSmallIdeal.τ).loc Cert.ReferenceAdamwSmallIdeal.main_arg14)
          ∧ r.2.mem ((c.tc : Thread Cert.ReferenceAdamwSmallIdeal.nD Cert.ReferenceAdamwSmallIdeal.τ).loc Cert.ReferenceAdamwSmallIdeal.main_arg15) = m' ((c.tc : Thread Cert.ReferenceAdamwSmallIdeal.nD Cert.ReferenceAdamwSmallIdeal.τ).loc Cert.ReferenceAdamwSmallIdeal.main_arg15)
          ∧ r.2.mem ((c.tc : Thread Cert.ReferenceAdamwSmallIdeal.nD Cert.ReferenceAdamwSmallIdeal.τ).loc Cert.ReferenceAdamwSmallIdeal.main_arg16) = m' ((c.tc : Thread Cert.ReferenceAdamwSmallIdeal.nD Cert.ReferenceAdamwSmallIdeal.τ).loc Cert.ReferenceAdamwSmallIdeal.main_arg16)
          ∧ r.2.mem ((c.tc : Thread Cert.ReferenceAdamwSmallIdeal.nD Cert.ReferenceAdamwSmallIdeal.τ).loc Cert.ReferenceAdamwSmallIdeal.main_arg17) = m' ((c.tc : Thread Cert.ReferenceAdamwSmallIdeal.nD Cert.ReferenceAdamwSmallIdeal.τ).loc Cert.ReferenceAdamwSmallIdeal.main_arg17)
          ∧ r.2.mem ((c.tc : Thread Cert.ReferenceAdamwSmallIdeal.nD Cert.ReferenceAdamwSmallIdeal.τ).loc Cert.ReferenceAdamwSmallIdeal.main_arg18) = m' ((c.tc : Thread Cert.ReferenceAdamwSmallIdeal.nD Cert.ReferenceAdamwSmallIdeal.τ).loc Cert.ReferenceAdamwSmallIdeal.main_arg18)
          ∧ r.2.mem ((c.tc : Thread Cert.ReferenceAdamwSmallIdeal.nD Cert.ReferenceAdamwSmallIdeal.τ).loc Cert.ReferenceAdamwSmallIdeal.main_arg19) = m' ((c.tc : Thread Cert.ReferenceAdamwSmallIdeal.nD Cert.ReferenceAdamwSmallIdeal.τ).loc Cert.ReferenceAdamwSmallIdeal.main_arg19))

def preserves_KernelSum_KernelSumIdeal : Prop :=
  True

def algebraic_KernelSumIdeal_ReferenceSumIdeal [hKernelSumIdeal : Cert.KernelSumIdeal.Facts] [hReferenceSumIdeal : Cert.ReferenceSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg)
    (m' : (ℓ : Loc Cert.ReferenceSumIdeal.nD Cert.ReferenceSumIdeal.τ Cert.ReferenceSumIdeal.sig) → Buf (Elt Ideal) ℓ) (g' : Dev Cert.ReferenceSumIdeal.nD → PrngReg), Pre_KernelSumIdeal m →
    (∀ c : Dev Cert.KernelSumIdeal.nD,
      m' ((c.tc : Thread Cert.ReferenceSumIdeal.nD Cert.ReferenceSumIdeal.τ).loc Cert.ReferenceSumIdeal.main_arg0) = m ((c.tc : Thread Cert.KernelSumIdeal.nD Cert.KernelSumIdeal.τ).loc Cert.KernelSumIdeal.main_arg0)) →
    ∃ (v0 : (c : Dev Cert.KernelSumIdeal.nD) → Buf (Elt Ideal) ((c.tc : Thread Cert.KernelSumIdeal.nD Cert.KernelSumIdeal.τ).loc Cert.KernelSumIdeal.main_v0)),
      θ_run (Cert.KernelSumIdeal.defs (F := Ideal)) (onTc (τ := Cert.KernelSumIdeal.τ) (Cert.KernelSumIdeal.main (F := Ideal))) ⟨m, fun _ => 0, g⟩ (fun r => ∀ c : Dev Cert.KernelSumIdeal.nD,
          r.2.mem ((c.tc : Thread Cert.KernelSumIdeal.nD Cert.KernelSumIdeal.τ).loc Cert.KernelSumIdeal.main_v0) = v0 c
          ∧ r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ θ_run (Cert.ReferenceSumIdeal.defs (F := Ideal)) (onTc (τ := Cert.ReferenceSumIdeal.τ) (Cert.ReferenceSumIdeal.main (F := Ideal))) ⟨m', fun _ => 0, g'⟩ (fun r => ∀ c : Dev Cert.ReferenceSumIdeal.nD,
          r.2.mem ((c.tc : Thread Cert.ReferenceSumIdeal.nD Cert.ReferenceSumIdeal.τ).loc Cert.ReferenceSumIdeal.main_v1) = v0 c
          ∧ r.2.mem ((c.tc : Thread Cert.ReferenceSumIdeal.nD Cert.ReferenceSumIdeal.τ).loc Cert.ReferenceSumIdeal.main_arg0) = m' ((c.tc : Thread Cert.ReferenceSumIdeal.nD Cert.ReferenceSumIdeal.τ).loc Cert.ReferenceSumIdeal.main_arg0))

def preserves_KernelPrep_KernelPrepIdeal : Prop :=
  True

def algebraic_KernelPrepIdeal_ReferencePrepIdeal_pre_log_dt_below_infinity [hKernelPrepIdeal : Cert.KernelPrepIdeal.Facts] [hReferencePrepIdeal : Cert.ReferencePrepIdeal.Facts] [hPre_log_dt_below_infinity : Cert.Pre_log_dt_below_infinity.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal_log_dt_below_infinity m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)
      ∧ m' ((c.tc : Thread Cert.ReferencePrepIdeal.nD Cert.ReferencePrepIdeal.τ).loc Cert.ReferencePrepIdeal.main_arg2) = m ((c.tc : Thread Cert.KernelPrepIdeal.nD Cert.KernelPrepIdeal.τ).loc Cert.KernelPrepIdeal.main_arg2)
      ∧ m' ((c.tc : Thread Cert.ReferencePrepIdeal.nD Cert.ReferencePrepIdeal.τ).loc Cert.ReferencePrepIdeal.main_arg3) = m ((c.tc : Thread Cert.KernelPrepIdeal.nD Cert.KernelPrepIdeal.τ).loc Cert.KernelPrepIdeal.main_arg3)
      ∧ m' ((c.tc : Thread Cert.ReferencePrepIdeal.nD Cert.ReferencePrepIdeal.τ).loc Cert.ReferencePrepIdeal.main_arg4) = m ((c.tc : Thread Cert.KernelPrepIdeal.nD Cert.KernelPrepIdeal.τ).loc Cert.KernelPrepIdeal.main_arg4)
      ∧ m' ((c.tc : Thread Cert.ReferencePrepIdeal.nD Cert.ReferencePrepIdeal.τ).loc Cert.ReferencePrepIdeal.main_arg5) = m ((c.tc : Thread Cert.KernelPrepIdeal.nD Cert.KernelPrepIdeal.τ).loc Cert.KernelPrepIdeal.main_arg5)
      ∧ m' ((c.tc : Thread Cert.ReferencePrepIdeal.nD Cert.ReferencePrepIdeal.τ).loc Cert.ReferencePrepIdeal.main_arg6) = m ((c.tc : Thread Cert.KernelPrepIdeal.nD Cert.KernelPrepIdeal.τ).loc Cert.KernelPrepIdeal.main_arg6)
      ∧ m' ((c.tc : Thread Cert.ReferencePrepIdeal.nD Cert.ReferencePrepIdeal.τ).loc Cert.ReferencePrepIdeal.main_arg7) = m ((c.tc : Thread Cert.KernelPrepIdeal.nD Cert.KernelPrepIdeal.τ).loc Cert.KernelPrepIdeal.main_arg7)
      ∧ m' ((c.tc : Thread Cert.ReferencePrepIdeal.nD Cert.ReferencePrepIdeal.τ).loc Cert.ReferencePrepIdeal.main_arg8) = m ((c.tc : Thread Cert.KernelPrepIdeal.nD Cert.KernelPrepIdeal.τ).loc Cert.KernelPrepIdeal.main_arg8)
      ∧ m' ((c.tc : Thread Cert.ReferencePrepIdeal.nD Cert.ReferencePrepIdeal.τ).loc Cert.ReferencePrepIdeal.main_arg9) = m ((c.tc : Thread Cert.KernelPrepIdeal.nD Cert.KernelPrepIdeal.τ).loc Cert.KernelPrepIdeal.main_arg9)
      ∧ m' ((c.tc : Thread Cert.ReferencePrepIdeal.nD Cert.ReferencePrepIdeal.τ).loc Cert.ReferencePrepIdeal.main_arg10) = m ((c.tc : Thread Cert.KernelPrepIdeal.nD Cert.KernelPrepIdeal.τ).loc Cert.KernelPrepIdeal.main_arg10)) →
    ∃ (v0 : (c : Dev Cert.KernelPrepIdeal.nD) → Buf (Elt Ideal) ((c.tc : Thread Cert.KernelPrepIdeal.nD Cert.KernelPrepIdeal.τ).loc Cert.KernelPrepIdeal.main_v12_0)) (v1 : (c : Dev Cert.KernelPrepIdeal.nD) → Buf (Elt Ideal) ((c.tc : Thread Cert.KernelPrepIdeal.nD Cert.KernelPrepIdeal.τ).loc Cert.KernelPrepIdeal.main_v12_1)) (v2 : (c : Dev Cert.KernelPrepIdeal.nD) → Buf (Elt Ideal) ((c.tc : Thread Cert.KernelPrepIdeal.nD Cert.KernelPrepIdeal.τ).loc Cert.KernelPrepIdeal.main_v12_2)) (v3 : (c : Dev Cert.KernelPrepIdeal.nD) → Buf (Elt Ideal) ((c.tc : Thread Cert.KernelPrepIdeal.nD Cert.KernelPrepIdeal.τ).loc Cert.KernelPrepIdeal.main_v12_3)) (v4 : (c : Dev Cert.KernelPrepIdeal.nD) → Buf (Elt Ideal) ((c.tc : Thread Cert.KernelPrepIdeal.nD Cert.KernelPrepIdeal.τ).loc Cert.KernelPrepIdeal.main_v12_4)) (v5 : (c : Dev Cert.KernelPrepIdeal.nD) → Buf (Elt Ideal) ((c.tc : Thread Cert.KernelPrepIdeal.nD Cert.KernelPrepIdeal.τ).loc Cert.KernelPrepIdeal.main_v12_5)) (v6 : (c : Dev Cert.KernelPrepIdeal.nD) → Buf (Elt Ideal) ((c.tc : Thread Cert.KernelPrepIdeal.nD Cert.KernelPrepIdeal.τ).loc Cert.KernelPrepIdeal.main_v12_6)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v12_0) = v0 c
          ∧ r.2.mem ((c.tc : Thread Cert.KernelPrepIdeal.nD Cert.KernelPrepIdeal.τ).loc Cert.KernelPrepIdeal.main_v12_1) = v1 c
          ∧ r.2.mem ((c.tc : Thread Cert.KernelPrepIdeal.nD Cert.KernelPrepIdeal.τ).loc Cert.KernelPrepIdeal.main_v12_2) = v2 c
          ∧ r.2.mem ((c.tc : Thread Cert.KernelPrepIdeal.nD Cert.KernelPrepIdeal.τ).loc Cert.KernelPrepIdeal.main_v12_3) = v3 c
          ∧ r.2.mem ((c.tc : Thread Cert.KernelPrepIdeal.nD Cert.KernelPrepIdeal.τ).loc Cert.KernelPrepIdeal.main_v12_4) = v4 c
          ∧ r.2.mem ((c.tc : Thread Cert.KernelPrepIdeal.nD Cert.KernelPrepIdeal.τ).loc Cert.KernelPrepIdeal.main_v12_5) = v5 c
          ∧ r.2.mem ((c.tc : Thread Cert.KernelPrepIdeal.nD Cert.KernelPrepIdeal.τ).loc Cert.KernelPrepIdeal.main_v12_6) = v6 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
          ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
          ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
          ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
          ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
          ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
          ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
          ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8)
          ∧ r.2.mem ((c.tc : Thread Cert.KernelPrepIdeal.nD Cert.KernelPrepIdeal.τ).loc Cert.KernelPrepIdeal.main_arg9) = m ((c.tc : Thread Cert.KernelPrepIdeal.nD Cert.KernelPrepIdeal.τ).loc Cert.KernelPrepIdeal.main_arg9)
          ∧ r.2.mem ((c.tc : Thread Cert.KernelPrepIdeal.nD Cert.KernelPrepIdeal.τ).loc Cert.KernelPrepIdeal.main_arg10) = m ((c.tc : Thread Cert.KernelPrepIdeal.nD Cert.KernelPrepIdeal.τ).loc Cert.KernelPrepIdeal.main_arg10))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v203) = v0 c
          ∧ r.2.mem ((c.tc : Thread Cert.ReferencePrepIdeal.nD Cert.ReferencePrepIdeal.τ).loc Cert.ReferencePrepIdeal.main_v204) = v1 c
          ∧ r.2.mem ((c.tc : Thread Cert.ReferencePrepIdeal.nD Cert.ReferencePrepIdeal.τ).loc Cert.ReferencePrepIdeal.main_v207) = v2 c
          ∧ r.2.mem ((c.tc : Thread Cert.ReferencePrepIdeal.nD Cert.ReferencePrepIdeal.τ).loc Cert.ReferencePrepIdeal.main_v209) = v3 c
          ∧ r.2.mem ((c.tc : Thread Cert.ReferencePrepIdeal.nD Cert.ReferencePrepIdeal.τ).loc Cert.ReferencePrepIdeal.main_v211) = v4 c
          ∧ r.2.mem ((c.tc : Thread Cert.ReferencePrepIdeal.nD Cert.ReferencePrepIdeal.τ).loc Cert.ReferencePrepIdeal.main_v212) = v5 c
          ∧ r.2.mem ((c.tc : Thread Cert.ReferencePrepIdeal.nD Cert.ReferencePrepIdeal.τ).loc Cert.ReferencePrepIdeal.main_v213) = v6 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
          ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2)
          ∧ r.2.mem ((c.tc : Thread Cert.ReferencePrepIdeal.nD Cert.ReferencePrepIdeal.τ).loc Cert.ReferencePrepIdeal.main_arg3) = m' ((c.tc : Thread Cert.ReferencePrepIdeal.nD Cert.ReferencePrepIdeal.τ).loc Cert.ReferencePrepIdeal.main_arg3)
          ∧ r.2.mem ((c.tc : Thread Cert.ReferencePrepIdeal.nD Cert.ReferencePrepIdeal.τ).loc Cert.ReferencePrepIdeal.main_arg4) = m' ((c.tc : Thread Cert.ReferencePrepIdeal.nD Cert.ReferencePrepIdeal.τ).loc Cert.ReferencePrepIdeal.main_arg4)
          ∧ r.2.mem ((c.tc : Thread Cert.ReferencePrepIdeal.nD Cert.ReferencePrepIdeal.τ).loc Cert.ReferencePrepIdeal.main_arg5) = m' ((c.tc : Thread Cert.ReferencePrepIdeal.nD Cert.ReferencePrepIdeal.τ).loc Cert.ReferencePrepIdeal.main_arg5)
          ∧ r.2.mem ((c.tc : Thread Cert.ReferencePrepIdeal.nD Cert.ReferencePrepIdeal.τ).loc Cert.ReferencePrepIdeal.main_arg6) = m' ((c.tc : Thread Cert.ReferencePrepIdeal.nD Cert.ReferencePrepIdeal.τ).loc Cert.ReferencePrepIdeal.main_arg6)
          ∧ r.2.mem ((c.tc : Thread Cert.ReferencePrepIdeal.nD Cert.ReferencePrepIdeal.τ).loc Cert.ReferencePrepIdeal.main_arg7) = m' ((c.tc : Thread Cert.ReferencePrepIdeal.nD Cert.ReferencePrepIdeal.τ).loc Cert.ReferencePrepIdeal.main_arg7)
          ∧ r.2.mem ((c.tc : Thread Cert.ReferencePrepIdeal.nD Cert.ReferencePrepIdeal.τ).loc Cert.ReferencePrepIdeal.main_arg8) = m' ((c.tc : Thread Cert.ReferencePrepIdeal.nD Cert.ReferencePrepIdeal.τ).loc Cert.ReferencePrepIdeal.main_arg8)
          ∧ r.2.mem ((c.tc : Thread Cert.ReferencePrepIdeal.nD Cert.ReferencePrepIdeal.τ).loc Cert.ReferencePrepIdeal.main_arg9) = m' ((c.tc : Thread Cert.ReferencePrepIdeal.nD Cert.ReferencePrepIdeal.τ).loc Cert.ReferencePrepIdeal.main_arg9)
          ∧ r.2.mem ((c.tc : Thread Cert.ReferencePrepIdeal.nD Cert.ReferencePrepIdeal.τ).loc Cert.ReferencePrepIdeal.main_arg10) = m' ((c.tc : Thread Cert.ReferencePrepIdeal.nD Cert.ReferencePrepIdeal.τ).loc Cert.ReferencePrepIdeal.main_arg10))

def Claim : Prop :=
  ∃ (hKernelLoss : Cert.KernelLoss.Facts) (hKernelLossIdeal : Cert.KernelLossIdeal.Facts) (hReferenceLossIdeal : Cert.ReferenceLossIdeal.Facts) (hKernelC : Cert.KernelC.Facts) (hKernelCIdeal : Cert.KernelCIdeal.Facts) (hReferenceCIdeal : Cert.ReferenceCIdeal.Facts) (hKernelA : Cert.KernelA.Facts) (hKernelAIdeal : Cert.KernelAIdeal.Facts) (hReferenceAIdeal : Cert.ReferenceAIdeal.Facts) (hKernelProj : Cert.KernelProj.Facts) (hKernelProjIdeal : Cert.KernelProjIdeal.Facts) (hReferenceProjIdeal : Cert.ReferenceProjIdeal.Facts) (hKernelCFwd : Cert.KernelCFwd.Facts) (hKernelCFwdIdeal : Cert.KernelCFwdIdeal.Facts) (hReferenceCFwdIdeal : Cert.ReferenceCFwdIdeal.Facts) (hKernelAFwd : Cert.KernelAFwd.Facts) (hKernelAFwdIdeal : Cert.KernelAFwdIdeal.Facts) (hReferenceAFwdIdeal : Cert.ReferenceAFwdIdeal.Facts) (hKernelProjFwd : Cert.KernelProjFwd.Facts) (hKernelProjFwdIdeal : Cert.KernelProjFwdIdeal.Facts) (hReferenceProjFwdIdeal : Cert.ReferenceProjFwdIdeal.Facts) (hKernelPrepFwd : Cert.KernelPrepFwd.Facts) (hKernelPrepFwdIdeal : Cert.KernelPrepFwdIdeal.Facts) (hReferencePrepFwdIdeal : Cert.ReferencePrepFwdIdeal.Facts) (hKernelOutFwd : Cert.KernelOutFwd.Facts) (hKernelOutFwdIdeal : Cert.KernelOutFwdIdeal.Facts) (hReferenceOutFwdIdeal : Cert.ReferenceOutFwdIdeal.Facts) (hKernelOutBwd : Cert.KernelOutBwd.Facts) (hKernelOutBwdIdeal : Cert.KernelOutBwdIdeal.Facts) (hReferenceOutBwdIdeal : Cert.ReferenceOutBwdIdeal.Facts) (hKernelDwin : Cert.KernelDwin.Facts) (hKernelDwinIdeal : Cert.KernelDwinIdeal.Facts) (hReferenceDwinIdeal : Cert.ReferenceDwinIdeal.Facts) (hKernelDwout : Cert.KernelDwout.Facts) (hKernelDwoutIdeal : Cert.KernelDwoutIdeal.Facts) (hReferenceDwoutIdeal : Cert.ReferenceDwoutIdeal.Facts) (hKernelAdamw : Cert.KernelAdamw.Facts) (hKernelAdamwIdeal : Cert.KernelAdamwIdeal.Facts) (hReferenceAdamwIdeal : Cert.ReferenceAdamwIdeal.Facts) (hKernelAdamwIn : Cert.KernelAdamwIn.Facts) (hKernelAdamwInIdeal : Cert.KernelAdamwInIdeal.Facts) (hReferenceAdamwInIdeal : Cert.ReferenceAdamwInIdeal.Facts) (hKernelAdamwSmall : Cert.KernelAdamwSmall.Facts) (hKernelAdamwSmallIdeal : Cert.KernelAdamwSmallIdeal.Facts) (hReferenceAdamwSmallIdeal : Cert.ReferenceAdamwSmallIdeal.Facts) (hKernelSum : Cert.KernelSum.Facts) (hKernelSumIdeal : Cert.KernelSumIdeal.Facts) (hReferenceSumIdeal : Cert.ReferenceSumIdeal.Facts) (hKernelPrep : Cert.KernelPrep.Facts) (hKernelPrepIdeal : Cert.KernelPrepIdeal.Facts) (hReferencePrepIdeal : Cert.ReferencePrepIdeal.Facts) (hPre_log_dt_below_infinity : Cert.Pre_log_dt_below_infinity.Facts),
    quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelCFwd (hKernelCFwd := hKernelCFwd)
    ∧ quiescent_KernelCFwdIdeal (hKernelCFwdIdeal := hKernelCFwdIdeal)
    ∧ quiescent_ReferenceCFwdIdeal (hReferenceCFwdIdeal := hReferenceCFwdIdeal)
    ∧ quiescent_KernelAFwd (hKernelAFwd := hKernelAFwd)
    ∧ quiescent_KernelAFwdIdeal (hKernelAFwdIdeal := hKernelAFwdIdeal)
    ∧ quiescent_ReferenceAFwdIdeal (hReferenceAFwdIdeal := hReferenceAFwdIdeal)
    ∧ quiescent_KernelProjFwd (hKernelProjFwd := hKernelProjFwd)
    ∧ quiescent_KernelProjFwdIdeal (hKernelProjFwdIdeal := hKernelProjFwdIdeal)
    ∧ quiescent_ReferenceProjFwdIdeal (hReferenceProjFwdIdeal := hReferenceProjFwdIdeal)
    ∧ quiescent_KernelPrepFwd (hKernelPrepFwd := hKernelPrepFwd)
    ∧ quiescent_KernelPrepFwdIdeal (hKernelPrepFwdIdeal := hKernelPrepFwdIdeal)
    ∧ quiescent_ReferencePrepFwdIdeal (hReferencePrepFwdIdeal := hReferencePrepFwdIdeal)
    ∧ quiescent_KernelOutFwd (hKernelOutFwd := hKernelOutFwd)
    ∧ quiescent_KernelOutFwdIdeal (hKernelOutFwdIdeal := hKernelOutFwdIdeal)
    ∧ quiescent_ReferenceOutFwdIdeal (hReferenceOutFwdIdeal := hReferenceOutFwdIdeal)
    ∧ quiescent_KernelOutBwd (hKernelOutBwd := hKernelOutBwd)
    ∧ quiescent_KernelOutBwdIdeal (hKernelOutBwdIdeal := hKernelOutBwdIdeal)
    ∧ quiescent_ReferenceOutBwdIdeal (hReferenceOutBwdIdeal := hReferenceOutBwdIdeal)
    ∧ quiescent_KernelDwin (hKernelDwin := hKernelDwin)
    ∧ quiescent_KernelDwinIdeal (hKernelDwinIdeal := hKernelDwinIdeal)
    ∧ quiescent_ReferenceDwinIdeal (hReferenceDwinIdeal := hReferenceDwinIdeal)
    ∧ quiescent_KernelDwout (hKernelDwout := hKernelDwout)
    ∧ quiescent_KernelDwoutIdeal (hKernelDwoutIdeal := hKernelDwoutIdeal)
    ∧ quiescent_ReferenceDwoutIdeal (hReferenceDwoutIdeal := hReferenceDwoutIdeal)
    ∧ quiescent_KernelAdamw (hKernelAdamw := hKernelAdamw)
    ∧ quiescent_KernelAdamwIdeal (hKernelAdamwIdeal := hKernelAdamwIdeal)
    ∧ quiescent_ReferenceAdamwIdeal (hReferenceAdamwIdeal := hReferenceAdamwIdeal)
    ∧ quiescent_KernelAdamwIn (hKernelAdamwIn := hKernelAdamwIn)
    ∧ quiescent_KernelAdamwInIdeal (hKernelAdamwInIdeal := hKernelAdamwInIdeal)
    ∧ quiescent_ReferenceAdamwInIdeal (hReferenceAdamwInIdeal := hReferenceAdamwInIdeal)
    ∧ quiescent_KernelAdamwSmall (hKernelAdamwSmall := hKernelAdamwSmall)
    ∧ quiescent_KernelAdamwSmallIdeal (hKernelAdamwSmallIdeal := hKernelAdamwSmallIdeal)
    ∧ quiescent_ReferenceAdamwSmallIdeal (hReferenceAdamwSmallIdeal := hReferenceAdamwSmallIdeal)
    ∧ quiescent_KernelSum (hKernelSum := hKernelSum)
    ∧ quiescent_KernelSumIdeal (hKernelSumIdeal := hKernelSumIdeal)
    ∧ quiescent_ReferenceSumIdeal (hReferenceSumIdeal := hReferenceSumIdeal)
    ∧ quiescent_KernelPrep (hKernelPrep := hKernelPrep)
    ∧ quiescent_KernelPrepIdeal (hKernelPrepIdeal := hKernelPrepIdeal)
    ∧ quiescent_KernelPrepIdeal_pre_log_dt_below_infinity (hKernelPrepIdeal := hKernelPrepIdeal) (hPre_log_dt_below_infinity := hPre_log_dt_below_infinity)
    ∧ quiescent_ReferencePrepIdeal (hReferencePrepIdeal := hReferencePrepIdeal)
    ∧ quiescent_ReferencePrepIdeal_pre_log_dt_below_infinity (hReferencePrepIdeal := hReferencePrepIdeal) (hPre_log_dt_below_infinity := hPre_log_dt_below_infinity)
    ∧ preserves_KernelLoss_KernelLossIdeal
    ∧ algebraic_KernelLossIdeal_ReferenceLossIdeal (hKernelLossIdeal := hKernelLossIdeal) (hReferenceLossIdeal := hReferenceLossIdeal)
    ∧ preserves_KernelC_KernelCIdeal
    ∧ algebraic_KernelCIdeal_ReferenceCIdeal (hKernelCIdeal := hKernelCIdeal) (hReferenceCIdeal := hReferenceCIdeal)
    ∧ preserves_KernelA_KernelAIdeal
    ∧ algebraic_KernelAIdeal_ReferenceAIdeal (hKernelAIdeal := hKernelAIdeal) (hReferenceAIdeal := hReferenceAIdeal)
    ∧ preserves_KernelProj_KernelProjIdeal
    ∧ algebraic_KernelProjIdeal_ReferenceProjIdeal (hKernelProjIdeal := hKernelProjIdeal) (hReferenceProjIdeal := hReferenceProjIdeal)
    ∧ preserves_KernelCFwd_KernelCFwdIdeal
    ∧ algebraic_KernelCFwdIdeal_ReferenceCFwdIdeal (hKernelCFwdIdeal := hKernelCFwdIdeal) (hReferenceCFwdIdeal := hReferenceCFwdIdeal)
    ∧ preserves_KernelAFwd_KernelAFwdIdeal
    ∧ algebraic_KernelAFwdIdeal_ReferenceAFwdIdeal (hKernelAFwdIdeal := hKernelAFwdIdeal) (hReferenceAFwdIdeal := hReferenceAFwdIdeal)
    ∧ preserves_KernelProjFwd_KernelProjFwdIdeal
    ∧ algebraic_KernelProjFwdIdeal_ReferenceProjFwdIdeal (hKernelProjFwdIdeal := hKernelProjFwdIdeal) (hReferenceProjFwdIdeal := hReferenceProjFwdIdeal)
    ∧ preserves_KernelPrepFwd_KernelPrepFwdIdeal
    ∧ algebraic_KernelPrepFwdIdeal_ReferencePrepFwdIdeal (hKernelPrepFwdIdeal := hKernelPrepFwdIdeal) (hReferencePrepFwdIdeal := hReferencePrepFwdIdeal)
    ∧ preserves_KernelOutFwd_KernelOutFwdIdeal
    ∧ algebraic_KernelOutFwdIdeal_ReferenceOutFwdIdeal (hKernelOutFwdIdeal := hKernelOutFwdIdeal) (hReferenceOutFwdIdeal := hReferenceOutFwdIdeal)
    ∧ preserves_KernelOutBwd_KernelOutBwdIdeal
    ∧ algebraic_KernelOutBwdIdeal_ReferenceOutBwdIdeal (hKernelOutBwdIdeal := hKernelOutBwdIdeal) (hReferenceOutBwdIdeal := hReferenceOutBwdIdeal)
    ∧ preserves_KernelDwin_KernelDwinIdeal
    ∧ algebraic_KernelDwinIdeal_ReferenceDwinIdeal (hKernelDwinIdeal := hKernelDwinIdeal) (hReferenceDwinIdeal := hReferenceDwinIdeal)
    ∧ preserves_KernelDwout_KernelDwoutIdeal
    ∧ algebraic_KernelDwoutIdeal_ReferenceDwoutIdeal (hKernelDwoutIdeal := hKernelDwoutIdeal) (hReferenceDwoutIdeal := hReferenceDwoutIdeal)
    ∧ preserves_KernelAdamw_KernelAdamwIdeal
    ∧ algebraic_KernelAdamwIdeal_ReferenceAdamwIdeal (hKernelAdamwIdeal := hKernelAdamwIdeal) (hReferenceAdamwIdeal := hReferenceAdamwIdeal)
    ∧ preserves_KernelAdamwIn_KernelAdamwInIdeal
    ∧ algebraic_KernelAdamwInIdeal_ReferenceAdamwInIdeal (hKernelAdamwInIdeal := hKernelAdamwInIdeal) (hReferenceAdamwInIdeal := hReferenceAdamwInIdeal)
    ∧ preserves_KernelAdamwSmall_KernelAdamwSmallIdeal
    ∧ algebraic_KernelAdamwSmallIdeal_ReferenceAdamwSmallIdeal (hKernelAdamwSmallIdeal := hKernelAdamwSmallIdeal) (hReferenceAdamwSmallIdeal := hReferenceAdamwSmallIdeal)
    ∧ preserves_KernelSum_KernelSumIdeal
    ∧ algebraic_KernelSumIdeal_ReferenceSumIdeal (hKernelSumIdeal := hKernelSumIdeal) (hReferenceSumIdeal := hReferenceSumIdeal)
    ∧ preserves_KernelPrep_KernelPrepIdeal
    ∧ algebraic_KernelPrepIdeal_ReferencePrepIdeal_pre_log_dt_below_infinity (hKernelPrepIdeal := hKernelPrepIdeal) (hReferencePrepIdeal := hReferencePrepIdeal) (hPre_log_dt_below_infinity := hPre_log_dt_below_infinity)
-- ==== Pre_log_dt_below_infinity.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S256x2048 : Shape := ⟨2, ![256, 2048]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x64 .f32) (main_arg1 : FVec F S16x64 .f32) (main_arg2 : FVec F S16 .f32) (main_arg3 : FVec F S16x64x16 .f32) (main_arg4 : FVec F S16x64x16 .f32) (main_arg5 : FVec F S16x16x64 .f32) (main_arg6 : FVec F S16x16x64 .f32) (main_arg7 : FVec F S1x1024 .f32) (main_arg8 : FVec F S1x1024 .f32) (main_arg9 : FVec F S256x2048 .f32) (main_arg10 : FVec F S256x2048 .f32) : IVec S16 1 :=
  let main_cst : FVec F S_ .f32 := constant S_ .f32 0x7F800000#32
  let main_v0 : FVec F S16 .f32 := broadcastInDim S16 ![] bcast_S_S16 main_cst
  let main_v1 : IVec S16 1 := cmpf .olt main_arg2 main_v0
  main_v1
-- ==== KernelLoss.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S8x128, .f32⟩
  | .hbm, ⟨5, _⟩ => ⟨S4096x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S8x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== KernelC.lean ====
abbrev S4096x3336 : Shape := ⟨2, ![4096, 3336]⟩
abbrev S4096x1024 : Shape := ⟨2, ![4096, 1024]⟩
abbrev S3x256 : Shape := ⟨2, ![3, 256]⟩
abbrev S4096x834 : Shape := ⟨2, ![4096, 834]⟩
abbrev S4096x570 : Shape := ⟨2, ![4096, 570]⟩
abbrev S4096x256 : Shape := ⟨2, ![4096, 256]⟩
abbrev S4096x8 : Shape := ⟨2, ![4096, 8]⟩
abbrev S_ : Shape := ⟨0, ![]⟩
abbrev S4096x120 : Shape := ⟨2, ![4096, 120]⟩
abbrev S4096x3456 : Shape := ⟨2, ![4096, 3456]⟩
abbrev S8x256 : Shape := ⟨2, ![8, 256]⟩
abbrev S256x256 : Shape := ⟨2, ![256, 256]⟩
abbrev S256x512 : Shape := ⟨2, ![256, 512]⟩
abbrev S8x512 : Shape := ⟨2, ![8, 512]⟩
abbrev S256x1024 : Shape := ⟨2, ![256, 1024]⟩
abbrev S264x256 : Shape := ⟨2, ![264, 256]⟩
abbrev S1x256 : Shape := ⟨2, ![1, 256]⟩
abbrev S256 : Shape := ⟨1, ![256]⟩
abbrev S248x256 : Shape := ⟨2, ![248, 256]⟩

abbrev nBuf : Space → Nat
  | .hbm => 18
  | .vmem => 15
  | .smem => 0
  | _ => 0

abbrev bufTy : (tb : Table) → Fin (tcTables nBuf tb) → BufTy
  | .hbm, ⟨0, _⟩ => ⟨S4096x3336, .f32⟩
  | .hbm, ⟨1, _⟩ => ⟨S4096x1024, .f32⟩
  | .hbm, ⟨2, _⟩ => ⟨S3x256, .f32⟩
  | .hbm, ⟨3, _⟩ => ⟨S4096x834, .f32⟩
  | .hbm, ⟨4, _⟩ => ⟨S4096x834, .f32⟩
  | .hbm, ⟨5, _⟩ => ⟨S4096x834, .f32⟩
  | .hbm, ⟨6, _⟩ => ⟨S4096x834, .f32⟩
  | .hbm, ⟨7, _⟩ => ⟨S4096x570, .f32⟩
  | .hbm, ⟨8, _⟩ => ⟨S4096x256, .f32⟩
  | .hbm, ⟨9, _⟩ => ⟨S4096x8, .f32⟩
  | .hbm, ⟨10, _⟩ => ⟨S_, .f32⟩
  | .hbm, ⟨11, _⟩ => ⟨S4096x120, .f32⟩
  | .hbm, ⟨12, _⟩ => ⟨S4096x3456, .f32⟩
  | .hbm, ⟨13, _⟩ => ⟨S_, .i32⟩
  | .hbm, ⟨14, _⟩ => ⟨S_, .f32⟩
  | .hbm, ⟨15, _⟩ => ⟨S8x256, .f32⟩
  | .hbm, ⟨16, _⟩ => ⟨S4096x1024, .f32⟩
  | .hbm, ⟨17, _⟩ => ⟨S8x256, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S8x512, .f32⟩
  | .local _ .vmem, ⟨7, _⟩ => ⟨S8x512, .f32⟩
  | .local _ .vmem, ⟨8, _⟩ => ⟨S256x256, .f32⟩
  | .local _ .vmem, ⟨9, _⟩ => ⟨S256x256, .f32⟩
  | .local _ .vmem, ⟨10, _⟩ => ⟨S8x256, .f32⟩
  | .local _ .vmem, ⟨11, _⟩ => ⟨S256x1024, .f32⟩
  | .local _ .vmem, ⟨12, _⟩ => ⟨S256x1024, .f32⟩
  | .local _ .vmem, ⟨13, _⟩ => ⟨S8x256, .f32⟩
  | .local _ .vmem, ⟨14, _⟩ => ⟨S8x256, .f32⟩
  | _, _ => ⟨S4096x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let c0_i32 : BitVec 32 := 0#32
  ![v0.toNat, c8_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  ![v3.toNat, c3_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceCIdeal.lean ====
abbrev S4096x3336 : Shape := ⟨2, ![4096, 3336]⟩
abbrev S4096x1024 : Shape := ⟨2, ![4096, 1024]⟩
abbrev S3x256 : Shape := ⟨2, ![3, 256]⟩
abbrev S4096x256 : Shape := ⟨2, ![4096, 256]⟩
abbrev S4096x4 : Shape := ⟨2, ![4096, 4]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S256 : Shape := ⟨1, ![256]⟩
abbrev S5x256 : Shape := ⟨2, ![5, 256]⟩
abbrev S8x256 : Shape := ⟨2, ![8, 256]⟩

abbrev nBuf : Space → Nat
  | .hbm => 122
  | .vmem => 0
  | .smem => 0
  | _ => 0

abbrev bufTy : (tb : Table) → Fin (tcTables nBuf tb) → BufTy
  | .hbm, ⟨0, _⟩ => ⟨S4096x3336, .f32⟩
  | .hbm, ⟨1, _⟩ => ⟨S4096x1024, .f32⟩
  | .hbm, ⟨2, _⟩ => ⟨S3x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S4096x4, .f32⟩
  | .hbm, ⟨16, _⟩ => ⟨S4096x4, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S2x256, .f32⟩
  | .hbm, ⟨21, _⟩ => ⟨S4098x256, .f32⟩
  | .hbm, ⟨22, _⟩ => ⟨S_, .f32⟩
  | .hbm, ⟨23, _⟩ => ⟨S2x256, .f32⟩
  | .hbm, ⟨24, _⟩ => ⟨S1x256, .f32⟩
  | .hbm, ⟨25, _⟩ => ⟨S256, .f32⟩
  | .hbm, ⟨26, _⟩ => ⟨S4096x256, .f32⟩
  | .hbm, ⟨27, _⟩ => ⟨S1x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S1x256, .f32⟩
  | .hbm, ⟨34, _⟩ => ⟨S256, .f32⟩
  | .hbm, ⟨35, _⟩ => ⟨S4096x256, .f32⟩
  | .hbm, ⟨36, _⟩ => ⟨S1x256, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S1x256, .f32⟩
  | .hbm, ⟨41, _⟩ => ⟨S256, .f32⟩
  | .hbm, ⟨42, _⟩ => ⟨S4096x256, .f32⟩
  | .hbm, ⟨43, _⟩ => ⟨S1x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S_, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S4096x256, .f32⟩
  | .hbm, ⟨55, _⟩ => ⟨S4096x256, .f32⟩
  | .hbm, ⟨56, _⟩ => ⟨S_, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S4096x256, .f32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S4096x256, .f32⟩
  | .hbm, ⟨66, _⟩ => ⟨S4096x256, .f32⟩
  | .hbm, ⟨67, _⟩ => ⟨S4096x256, .f32⟩
  | .hbm, ⟨68, _⟩ => ⟨S4096x256, .f32⟩
  | .hbm, ⟨69, _⟩ => ⟨S4096x256, .f32⟩
  | .hbm, ⟨70, _⟩ => ⟨S4096x256, .f32⟩
  | .hbm, ⟨71, _⟩ => ⟨S4096x256, .f32⟩
  | .hbm, ⟨72, _⟩ => ⟨S4096x256, .f32⟩
  | .hbm, ⟨73, _⟩ => ⟨S4096x256, .f32⟩
  | .hbm, ⟨74, _⟩ => ⟨S_, .f32⟩
  | .hbm, ⟨75, _⟩ => ⟨S256, .f32⟩
  | .hbm, ⟨76, _⟩ => ⟨S1x256, .f32⟩
  | .hbm, ⟨77, _⟩ => ⟨S_, .f32⟩
  | .hbm, ⟨78, _⟩ => ⟨S256, .f32⟩
  | .hbm, ⟨79, _⟩ => ⟨S_, .f32⟩
  | .hbm, ⟨80, _⟩ => ⟨S4098x256, .f32⟩
  | .hbm, ⟨81, _⟩ => ⟨S1x256, .f32⟩
  | .hbm, ⟨82, _⟩ => ⟨S_, .f32⟩
  | .hbm, ⟨83, _⟩ => ⟨S3x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S_, .f32⟩
  | .hbm, ⟨88, _⟩ => ⟨S256, .f32⟩
  | .hbm, ⟨89, _⟩ => ⟨S1x256, .f32⟩
  | .hbm, ⟨90, _⟩ => ⟨S_, .f32⟩
  | .hbm, ⟨91, _⟩ => ⟨S256, .f32⟩
  | .hbm, ⟨92, _⟩ => ⟨S_, .f32⟩
  | .hbm, ⟨93, _⟩ => ⟨S4098x256, .f32⟩
  | .hbm, ⟨94, _⟩ => ⟨S4098x256, .f32⟩
  | .hbm, ⟨95, _⟩ => ⟨S1x256, .f32⟩
  | .hbm, ⟨96, _⟩ => ⟨S_, .f32⟩
  | .hbm, ⟨97, _⟩ => ⟨S3x256, .f32⟩
  | .hbm, ⟨98, _⟩ => ⟨S3x256, .f32⟩
  | .hbm, ⟨99, _⟩ => ⟨S4096x256, .f32⟩
  | .hbm, ⟨100, _⟩ => ⟨S4096x256, .f32⟩
  | .hbm, ⟨101, _⟩ => ⟨S4096x256, .f32⟩
  | .hbm, ⟨102, _⟩ => ⟨S_, .f32⟩
  | .hbm, ⟨103, _⟩ => ⟨S256, .f32⟩
  | .hbm, ⟨104, _⟩ => ⟨S1x256, .f32⟩
  | .hbm, ⟨105, _⟩ => ⟨S_, .f32⟩
  | .hbm, ⟨106, _⟩ => ⟨S256, .f32⟩
  | .hbm, ⟨107, _⟩ => ⟨S_, .f32⟩
  | .hbm, ⟨108, _⟩ => ⟨S4098x256, .f32⟩
  | .hbm, ⟨109, _⟩ => ⟨S4098x256, .f32⟩
  | .hbm, ⟨110, _⟩ => ⟨S1x256, .f32⟩
  | .hbm, ⟨111, _⟩ => ⟨S_, .f32⟩
  | .hbm, ⟨112, _⟩ => ⟨S3x256, .f32⟩
  | .hbm, ⟨113, _⟩ => ⟨S3x256, .f32⟩
  | .hbm, ⟨114, _⟩ => ⟨S2x256, .f32⟩
  | .hbm, ⟨115, _⟩ => ⟨S4096x256, .f32⟩
  | .hbm, ⟨116, _⟩ => ⟨S4096x256, .f32⟩
  | .hbm, ⟨117, _⟩ => ⟨S4096x256, .f32⟩
  | .hbm, ⟨118, _⟩ => ⟨S4096x1024, .f32⟩
  | .hbm, ⟨119, _⟩ => ⟨S_, .f32⟩
  | .hbm, ⟨120, _⟩ => ⟨S5x256, .f32⟩
  | .hbm, ⟨121, _⟩ => ⟨S8x256, .f32⟩
  | _, _ => ⟨S4096x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v42_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v42_1 : Ref sig .tc := ⟨.hbm, 59, rfl⟩
abbrev main_v42_0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_2 : Ref sig .tc := ⟨.hbm, 74, rfl⟩
abbrev main_v53 : Ref sig .tc := ⟨.hbm, 75, rfl⟩
abbrev main_v54 : Ref sig .tc := ⟨.hbm, 76, rfl⟩
abbrev main_cst_3 : Ref sig .tc := ⟨.hbm, 77, rfl⟩
abbrev main_v55 : Ref sig .tc := ⟨.hbm, 78, rfl⟩
abbrev main_cst_4 : Ref sig .tc := ⟨.hbm, 79, rfl⟩
abbrev main_v56 : Ref sig .tc := ⟨.hbm, 80, rfl⟩
abbrev main_v57 : Ref sig .tc := ⟨.hbm, 81, rfl⟩
abbrev main_cst_5 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_6 : Ref sig .tc := ⟨.hbm, 87, rfl⟩
abbrev main_v62 : Ref sig .tc := ⟨.hbm, 88, rfl⟩
abbrev main_v63 : Ref sig .tc := ⟨.hbm, 89, rfl⟩
abbrev main_cst_7 : Ref sig .tc := ⟨.hbm, 90, rfl⟩
abbrev main_v64 : Ref sig .tc := ⟨.hbm, 91, rfl⟩
abbrev main_cst_8 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_10 : Ref sig .tc := ⟨.hbm, 102, rfl⟩
abbrev main_v73 : Ref sig .tc := ⟨.hbm, 103, rfl⟩
abbrev main_v74 : Ref sig .tc := ⟨.hbm, 104, rfl⟩
abbrev main_cst_11 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_14 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]
-- ==== KernelA.lean ====
abbrev S4096x3336 : Shape := ⟨2, ![4096, 3336]⟩
abbrev S4096x1024 : Shape := ⟨2, ![4096, 1024]⟩
abbrev S31x256 : Shape := ⟨2, ![31, 256]⟩
abbrev S256 : Shape := ⟨1, ![256]⟩
abbrev S256x256 : Shape := ⟨2, ![256, 256]⟩
abbrev S4096x834 : Shape := ⟨2, ![4096, 834]⟩
abbrev S4096x570 : Shape := ⟨2, ![4096, 570]⟩
abbrev S4096x256 : Shape := ⟨2, ![4096, 256]⟩
abbrev S4096x8 : Shape := ⟨2, ![4096, 8]⟩
abbrev S_ : Shape := ⟨0, ![]⟩
abbrev S4096x120 : Shape := ⟨2, ![4096, 120]⟩
abbrev S4096x3456 : Shape := ⟨2, ![4096, 3456]⟩
abbrev S32x256 : Shape := ⟨2, ![32, 256]⟩
abbrev S1x256 : Shape := ⟨2, ![1, 256]⟩
abbrev S30x256 : Shape := ⟨2, ![30, 256]⟩
abbrev S4126x256 : Shape := ⟨2, ![4126, 256]⟩
abbrev S4096x768 : Shape := ⟨2, ![4096, 768]⟩
abbrev S256x512 : Shape := ⟨2, ![256, 512]⟩
abbrev S32x512 : Shape := ⟨2, ![32, 512]⟩
abbrev S256x768 : Shape := ⟨2, ![256, 768]⟩
abbrev S288x256 : Shape := ⟨2, ![288, 256]⟩
abbrev S256x1 : Shape := ⟨2, ![256, 1]⟩
abbrev S224x256 : Shape := ⟨2, ![224, 256]⟩

abbrev nBuf : Space → Nat
  | .hbm => 265
  | .vmem => 25
  | .smem => 0
  | _ => 0

abbrev hbmTy0_0 (i : Nat) : BufTy := match i % 128 with
  | 0 => ⟨S4096x3336, .f32⟩
  | 1 => ⟨S4096x1024, .f32⟩
  | 2 => ⟨S31x256, .f32⟩
  | 3 => ⟨S256, .f32⟩
  | 4 => ⟨S256, .f32⟩
  | 5 => ⟨S256, .f32⟩
  | 6 => ⟨S256x256, .f32⟩
  | 7 => ⟨S256, .f32⟩
  | 8 => ⟨S4096x834, .f32⟩
  | 9 => ⟨S4096x834, .f32⟩
  | 10 => ⟨S4096x834, .f32⟩
  | 11 => ⟨S4096x834, .f32⟩
  | 12 => ⟨S4096x570, .f32⟩
  | 13 => ⟨S4096x256, .f32⟩
  | 14 => ⟨S4096x8, .f32⟩
  | 15 => ⟨S_, .f32⟩
  | 16 => ⟨S4096x120, .f32⟩
  | 17 => ⟨S4096x3456, .f32⟩
  | 18 => ⟨S_, .i32⟩
  | 19 => ⟨S_, .f32⟩
  | 20 => ⟨S32x256, .f32⟩
  | 21 => ⟨S1x256, .f32⟩
  | 22 => ⟨S1x256, .f32⟩
  | 23 => ⟨S1x256, .f32⟩
  | 24 => ⟨S1x256, .f32⟩
  | 25 => ⟨S4096x256, .f32⟩
  | 26 => ⟨S4096x256, .f32⟩
  | 27 => ⟨S4096x256, .f32⟩
  | 28 => ⟨S4096x256, .f32⟩
  | 29 => ⟨S_, .f32⟩
  | 30 => ⟨S4096x256, .f32⟩
  | 31 => ⟨S4096x256, .f32⟩
  | 32 => ⟨S_, .f32⟩
  | 33 => ⟨S4096x256, .f32⟩
  | 34 => ⟨S4096x256, .f32⟩
  | 35 => ⟨S4096x256, .f32⟩
  | 36 => ⟨S_, .f32⟩
  | 37 => ⟨S30x256, .f32⟩
  | 38 => ⟨S4126x256, .f32⟩
  | 39 => ⟨S1x256, .f32⟩
  | 40 => ⟨S256, .f32⟩
  | 41 => ⟨S4096x256, .f32⟩
  | 42 => ⟨S1x256, .f32⟩
  | 43 => ⟨S4096x256, .f32⟩
  | 44 => ⟨S4096x256, .f32⟩
  | 45 => ⟨S_, .f32⟩
  | 46 => ⟨S4096x256, .f32⟩
  | 47 => ⟨S4096x256, .f32⟩
  | 48 => ⟨S1x256, .f32⟩
  | 49 => ⟨S256, .f32⟩
  | 50 => ⟨S4096x256, .f32⟩
  | 51 => ⟨S1x256, .f32⟩
  | 52 => ⟨S4096x256, .f32⟩
  | 53 => ⟨S4096x256, .f32⟩
  | 54 => ⟨S4096x256, .f32⟩
  | 55 => ⟨S1x256, .f32⟩
  | 56 => ⟨S256, .f32⟩
  | 57 => ⟨S4096x256, .f32⟩
  | 58 => ⟨S1x256, .f32⟩
  | 59 => ⟨S4096x256, .f32⟩
  | 60 => ⟨S4096x256, .f32⟩
  | 61 => ⟨S4096x256, .f32⟩
  | 62 => ⟨S1x256, .f32⟩
  | 63 => ⟨S256, .f32⟩
  | 64 => ⟨S4096x256, .f32⟩
  | 65 => ⟨S1x256, .f32⟩
  | 66 => ⟨S4096x256, .f32⟩
  | 67 => ⟨S4096x256, .f32⟩
  | 68 => ⟨S4096x256, .f32⟩
  | 69 => ⟨S1x256, .f32⟩
  | 70 => ⟨S256, .f32⟩
  | 71 => ⟨S4096x256, .f32⟩
  | 72 => ⟨S1x256, .f32⟩
  | 73 => ⟨S4096x256, .f32⟩
  | 74 => ⟨S4096x256, .f32⟩
  | 75 => ⟨S4096x256, .f32⟩
  | 76 => ⟨S1x256, .f32⟩
  | 77 => ⟨S256, .f32⟩
  | 78 => ⟨S4096x256, .f32⟩
  | 79 => ⟨S1x256, .f32⟩
  | 80 => ⟨S4096x256, .f32⟩
  | 81 => ⟨S4096x256, .f32⟩
  | 82 => ⟨S4096x256, .f32⟩
  | 83 => ⟨S1x256, .f32⟩
  | 84 => ⟨S256, .f32⟩
  | 85 => ⟨S4096x256, .f32⟩
  | 86 => ⟨S1x256, .f32⟩
  | 87 => ⟨S4096x256, .f32⟩
  | 88 => ⟨S4096x256, .f32⟩
  | 89 => ⟨S4096x256, .f32⟩
  | 90 => ⟨S1x256, .f32⟩
  | 91 => ⟨S256, .f32⟩
  | 92 => ⟨S4096x256, .f32⟩
  | 93 => ⟨S1x256, .f32⟩
  | 94 => ⟨S4096x256, .f32⟩
  | 95 => ⟨S4096x256, .f32⟩
  | 96 => ⟨S4096x256, .f32⟩
  | 97 => ⟨S1x256, .f32⟩
  | 98 => ⟨S256, .f32⟩
  | 99 => ⟨S4096x256, .f32⟩
  | 100 => ⟨S1x256, .f32⟩
  | 101 => ⟨S4096x256, .f32⟩
  | 102 => ⟨S4096x256, .f32⟩
  | 103 => ⟨S4096x256, .f32⟩
  | 104 => ⟨S1x256, .f32⟩
  | 105 => ⟨S256, .f32⟩
  | 106 => ⟨S4096x256, .f32⟩
  | 107 => ⟨S1x256, .f32⟩
  | 108 => ⟨S4096x256, .f32⟩
  | 109 => ⟨S4096x256, .f32⟩
  | 110 => ⟨S4096x256, .f32⟩
  | 111 => ⟨S1x256, .f32⟩
  | 112 => ⟨S256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S1x256, .f32⟩
  | 119 => ⟨S256, .f32⟩
  | 120 => ⟨S4096x256, .f32⟩
  | 121 => ⟨S1x256, .f32⟩
  | 122 => ⟨S4096x256, .f32⟩
  | 123 => ⟨S4096x256, .f32⟩
  | 124 => ⟨S4096x256, .f32⟩
  | 125 => ⟨S1x256, .f32⟩
  | 126 => ⟨S256, .f32⟩
  | 127 => ⟨S4096x256, .f32⟩
  | _ => ⟨S4096x3336, .f32⟩

abbrev hbmTy0_1 (i : Nat) : BufTy := match i % 128 with
  | 0 => ⟨S1x256, .f32⟩
  | 1 => ⟨S4096x256, .f32⟩
  | 2 => ⟨S4096x256, .f32⟩
  | 3 => ⟨S4096x256, .f32⟩
  | 4 => ⟨S1x256, .f32⟩
  | 5 => ⟨S256, .f32⟩
  | 6 => ⟨S4096x256, .f32⟩
  | 7 => ⟨S1x256, .f32⟩
  | 8 => ⟨S4096x256, .f32⟩
  | 9 => ⟨S4096x256, .f32⟩
  | 10 => ⟨S4096x256, .f32⟩
  | 11 => ⟨S1x256, .f32⟩
  | 12 => ⟨S256, .f32⟩
  | 13 => ⟨S4096x256, .f32⟩
  | 14 => ⟨S1x256, .f32⟩
  | 15 => ⟨S4096x256, .f32⟩
  | 16 => ⟨S4096x256, .f32⟩
  | 17 => ⟨S4096x256, .f32⟩
  | 18 => ⟨S1x256, .f32⟩
  | 19 => ⟨S256, .f32⟩
  | 20 => ⟨S4096x256, .f32⟩
  | 21 => ⟨S1x256, .f32⟩
  | 22 => ⟨S4096x256, .f32⟩
  | 23 => ⟨S4096x256, .f32⟩
  | 24 => ⟨S4096x256, .f32⟩
  | 25 => ⟨S1x256, .f32⟩
  | 26 => ⟨S256, .f32⟩
  | 27 => ⟨S4096x256, .f32⟩
  | 28 => ⟨S1x256, .f32⟩
  | 29 => ⟨S4096x256, .f32⟩
  | 30 => ⟨S4096x256, .f32⟩
  | 31 => ⟨S4096x256, .f32⟩
  | 32 => ⟨S1x256, .f32⟩
  | 33 => ⟨S256, .f32⟩
  | 34 => ⟨S4096x256, .f32⟩
  | 35 => ⟨S1x256, .f32⟩
  | 36 => ⟨S4096x256, .f32⟩
  | 37 => ⟨S4096x256, .f32⟩
  | 38 => ⟨S4096x256, .f32⟩
  | 39 => ⟨S1x256, .f32⟩
  | 40 => ⟨S256, .f32⟩
  | 41 => ⟨S4096x256, .f32⟩
  | 42 => ⟨S1x256, .f32⟩
  | 43 => ⟨S4096x256, .f32⟩
  | 44 => ⟨S4096x256, .f32⟩
  | 45 => ⟨S4096x256, .f32⟩
  | 46 => ⟨S1x256, .f32⟩
  | 47 => ⟨S256, .f32⟩
  | 48 => ⟨S4096x256, .f32⟩
  | 49 => ⟨S1x256, .f32⟩
  | 50 => ⟨S4096x256, .f32⟩
  | 51 => ⟨S4096x256, .f32⟩
  | 52 => ⟨S4096x256, .f32⟩
  | 53 => ⟨S1x256, .f32⟩
  | 54 => ⟨S256, .f32⟩
  | 55 => ⟨S4096x256, .f32⟩
  | 56 => ⟨S1x256, .f32⟩
  | 57 => ⟨S4096x256, .f32⟩
  | 58 => ⟨S4096x256, .f32⟩
  | 59 => ⟨S4096x256, .f32⟩
  | 60 => ⟨S1x256, .f32⟩
  | 61 => ⟨S256, .f32⟩
  | 62 => ⟨S4096x256, .f32⟩
  | 63 => ⟨S1x256, .f32⟩
  | 64 => ⟨S4096x256, .f32⟩
  | 65 => ⟨S4096x256, .f32⟩
  | 66 => ⟨S4096x256, .f32⟩
  | 67 => ⟨S1x256, .f32⟩
  | 68 => ⟨S256, .f32⟩
  | 69 => ⟨S4096x256, .f32⟩
  | 70 => ⟨S1x256, .f32⟩
  | 71 => ⟨S4096x256, .f32⟩
  | 72 => ⟨S4096x256, .f32⟩
  | 73 => ⟨S4096x256, .f32⟩
  | 74 => ⟨S1x256, .f32⟩
  | 75 => ⟨S256, .f32⟩
  | 76 => ⟨S4096x256, .f32⟩
  | 77 => ⟨S1x256, .f32⟩
  | 78 => ⟨S4096x256, .f32⟩
  | 79 => ⟨S4096x256, .f32⟩
  | 80 => ⟨S4096x256, .f32⟩
  | 81 => ⟨S1x256, .f32⟩
  | 82 => ⟨S256, .f32⟩
  | 83 => ⟨S4096x256, .f32⟩
  | 84 => ⟨S1x256, .f32⟩
  | 85 => ⟨S4096x256, .f32⟩
  | 86 => ⟨S4096x256, .f32⟩
  | 87 => ⟨S4096x256, .f32⟩
  | 88 => ⟨S1x256, .f32⟩
  | 89 => ⟨S256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S1x256, .f32⟩
  | 96 => ⟨S256, .f32⟩
  | 97 => ⟨S4096x256, .f32⟩
  | 98 => ⟨S1x256, .f32⟩
  | 99 => ⟨S4096x256, .f32⟩
  | 100 => ⟨S4096x256, .f32⟩
  | 101 => ⟨S4096x256, .f32⟩
  | 102 => ⟨S1x256, .f32⟩
  | 103 => ⟨S256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S1x256, .f32⟩
  | 110 => ⟨S256, .f32⟩
  | 111 => ⟨S4096x256, .f32⟩
  | 112 => ⟨S1x256, .f32⟩
  | 113 => ⟨S4096x256, .f32⟩
  | 114 => ⟨S4096x256, .f32⟩
  | 115 => ⟨S4096x256, .f32⟩
  | 116 => ⟨S1x256, .f32⟩
  | 117 => ⟨S256, .f32⟩
  | 118 => ⟨S4096x256, .f32⟩
  | 119 => ⟨S1x256, .f32⟩
  | 120 => ⟨S4096x256, .f32⟩
  | 121 => ⟨S4096x256, .f32⟩
  | 122 => ⟨S4096x256, .f32⟩
  | 123 => ⟨S1x256, .f32⟩
  | 124 => ⟨S256, .f32⟩
  | 125 => ⟨S4096x256, .f32⟩
  | 126 => ⟨S1x256, .f32⟩
  | 127 => ⟨S4096x256, .f32⟩
  | _ => ⟨S4096x3336, .f32⟩

abbrev hbmTy0_2 (i : Nat) : BufTy := match i % 128 with
  | 0 => ⟨S4096x256, .f32⟩
  | 1 => ⟨S4096x256, .f32⟩
  | 2 => ⟨S4096x768, .f32⟩
  | 3 => ⟨S32x256, .f32⟩
  | 4 => ⟨S1x256, .f32⟩
  | 5 => ⟨S1x256, .f32⟩
  | 6 => ⟨S1x256, .f32⟩
  | 7 => ⟨S256x256, .f32⟩
  | 8 => ⟨S1x256, .f32⟩
  | _ => ⟨S4096x3336, .f32⟩

abbrev hbmTy (i : Nat) : BufTy := match i / 128 with
  | 0 => hbmTy0_0 i
  | 1 => hbmTy0_1 i
  | 2 => hbmTy0_2 i
  | _ => ⟨S4096x3336, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S32x512, .f32⟩
  | .local _ .vmem, ⟨5, _⟩ => ⟨S32x512, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S32x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S256x768, .f32⟩
  | .local _ .vmem, ⟨17, _⟩ => ⟨S256x768, .f32⟩
  | .local _ .vmem, ⟨18, _⟩ => ⟨S32x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S32x256, .f32⟩
  | _, _ => ⟨S4096x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243_0 : Ref sig .tc := ⟨.hbm, 258, rfl⟩
abbrev main_v243_1 : Ref sig .tc := ⟨.hbm, 259, rfl⟩
abbrev main_v243_2 : Ref sig .tc := ⟨.hbm, 260, rfl⟩
abbrev main_v243_3 : Ref sig .tc := ⟨.hbm, 261, rfl⟩
abbrev main_v243_4 : Ref sig .tc := ⟨.hbm, 262, rfl⟩
abbrev main_v243_5 : Ref sig .tc := ⟨.hbm, 263, rfl⟩
abbrev main_v243_6 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceAIdeal.lean ====
abbrev S4096x3336 : Shape := ⟨2, ![4096, 3336]⟩
abbrev S4096x1024 : Shape := ⟨2, ![4096, 1024]⟩
abbrev S31x256 : Shape := ⟨2, ![31, 256]⟩
abbrev S256 : Shape := ⟨1, ![256]⟩
abbrev S256x256 : Shape := ⟨2, ![256, 256]⟩
abbrev S4096x256 : Shape := ⟨2, ![4096, 256]⟩
abbrev S4096x4 : Shape := ⟨2, ![4096, 4]⟩
abbrev S_ : Shape := ⟨0, ![]⟩
abbrev S30x256 : Shape := ⟨2, ![30, 256]⟩
abbrev S4126x256 : Shape := ⟨2, ![4126, 256]⟩
abbrev S1x256 : Shape := ⟨2, ![1, 256]⟩
abbrev S4096 : Shape := ⟨1, ![4096]⟩
abbrev S4096x1 : Shape := ⟨2, ![4096, 1]⟩
abbrev S4096x768 : Shape := ⟨2, ![4096, 768]⟩
abbrev S32x256 : Shape := ⟨2, ![32, 256]⟩

abbrev nBuf : Space → Nat
  | .hbm => 866
  | .vmem => 0
  | .smem => 0
  | _ => 0

abbrev hbmTy0_0 (i : Nat) : BufTy := match i % 128 with
  | 0 => ⟨S4096x3336, .f32⟩
  | 1 => ⟨S4096x1024, .f32⟩
  | 2 => ⟨S31x256, .f32⟩
  | 3 => ⟨S256, .f32⟩
  | 4 => ⟨S256, .f32⟩
  | 5 => ⟨S256, .f32⟩
  | 6 => ⟨S256x256, .f32⟩
  | 7 => ⟨S256, .f32⟩
  | 8 => ⟨S4096x256, .f32⟩
  | 9 => ⟨S4096x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S4096x256, .f32⟩
  | 16 => ⟨S4096x256, .f32⟩
  | 17 => ⟨S4096x256, .f32⟩
  | 18 => ⟨S4096x256, .f32⟩
  | 19 => ⟨S4096x256, .f32⟩
  | 20 => ⟨S4096x4, .f32⟩
  | 21 => ⟨S4096x4, .f32⟩
  | 22 => ⟨S4096x256, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S_, .f32⟩
  | 29 => ⟨S4096x256, .f32⟩
  | 30 => ⟨S4096x256, .f32⟩
  | 31 => ⟨S_, .f32⟩
  | 32 => ⟨S4096x256, .f32⟩
  | 33 => ⟨S4096x256, .f32⟩
  | 34 => ⟨S4096x256, .f32⟩
  | 35 => ⟨S4096x256, .f32⟩
  | 36 => ⟨S_, .f32⟩
  | 37 => ⟨S30x256, .f32⟩
  | 38 => ⟨S4126x256, .f32⟩
  | 39 => ⟨S_, .f32⟩
  | 40 => ⟨S30x256, .f32⟩
  | 41 => ⟨S1x256, .f32⟩
  | 42 => ⟨S256, .f32⟩
  | 43 => ⟨S4096x256, .f32⟩
  | 44 => ⟨S1x256, .f32⟩
  | 45 => ⟨S4096x256, .f32⟩
  | 46 => ⟨S4096x256, .f32⟩
  | 47 => ⟨S_, .f32⟩
  | 48 => ⟨S4096x256, .f32⟩
  | 49 => ⟨S4096x256, .f32⟩
  | 50 => ⟨S1x256, .f32⟩
  | 51 => ⟨S256, .f32⟩
  | 52 => ⟨S4096x256, .f32⟩
  | 53 => ⟨S1x256, .f32⟩
  | 54 => ⟨S4096x256, .f32⟩
  | 55 => ⟨S4096x256, .f32⟩
  | 56 => ⟨S4096x256, .f32⟩
  | 57 => ⟨S1x256, .f32⟩
  | 58 => ⟨S256, .f32⟩
  | 59 => ⟨S4096x256, .f32⟩
  | 60 => ⟨S1x256, .f32⟩
  | 61 => ⟨S4096x256, .f32⟩
  | 62 => ⟨S4096x256, .f32⟩
  | 63 => ⟨S4096x256, .f32⟩
  | 64 => ⟨S1x256, .f32⟩
  | 65 => ⟨S256, .f32⟩
  | 66 => ⟨S4096x256, .f32⟩
  | 67 => ⟨S1x256, .f32⟩
  | 68 => ⟨S4096x256, .f32⟩
  | 69 => ⟨S4096x256, .f32⟩
  | 70 => ⟨S4096x256, .f32⟩
  | 71 => ⟨S1x256, .f32⟩
  | 72 => ⟨S256, .f32⟩
  | 73 => ⟨S4096x256, .f32⟩
  | 74 => ⟨S1x256, .f32⟩
  | 75 => ⟨S4096x256, .f32⟩
  | 76 => ⟨S4096x256, .f32⟩
  | 77 => ⟨S4096x256, .f32⟩
  | 78 => ⟨S1x256, .f32⟩
  | 79 => ⟨S256, .f32⟩
  | 80 => ⟨S4096x256, .f32⟩
  | 81 => ⟨S1x256, .f32⟩
  | 82 => ⟨S4096x256, .f32⟩
  | 83 => ⟨S4096x256, .f32⟩
  | 84 => ⟨S4096x256, .f32⟩
  | 85 => ⟨S1x256, .f32⟩
  | 86 => ⟨S256, .f32⟩
  | 87 => ⟨S4096x256, .f32⟩
  | 88 => ⟨S1x256, .f32⟩
  | 89 => ⟨S4096x256, .f32⟩
  | 90 => ⟨S4096x256, .f32⟩
  | 91 => ⟨S4096x256, .f32⟩
  | 92 => ⟨S1x256, .f32⟩
  | 93 => ⟨S256, .f32⟩
  | 94 => ⟨S4096x256, .f32⟩
  | 95 => ⟨S1x256, .f32⟩
  | 96 => ⟨S4096x256, .f32⟩
  | 97 => ⟨S4096x256, .f32⟩
  | 98 => ⟨S4096x256, .f32⟩
  | 99 => ⟨S1x256, .f32⟩
  | 100 => ⟨S256, .f32⟩
  | 101 => ⟨S4096x256, .f32⟩
  | 102 => ⟨S1x256, .f32⟩
  | 103 => ⟨S4096x256, .f32⟩
  | 104 => ⟨S4096x256, .f32⟩
  | 105 => ⟨S4096x256, .f32⟩
  | 106 => ⟨S1x256, .f32⟩
  | 107 => ⟨S256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S1x256, .f32⟩
  | 114 => ⟨S256, .f32⟩
  | 115 => ⟨S4096x256, .f32⟩
  | 116 => ⟨S1x256, .f32⟩
  | 117 => ⟨S4096x256, .f32⟩
  | 118 => ⟨S4096x256, .f32⟩
  | 119 => ⟨S4096x256, .f32⟩
  | 120 => ⟨S1x256, .f32⟩
  | 121 => ⟨S256, .f32⟩
  | 122 => ⟨S4096x256, .f32⟩
  | 123 => ⟨S1x256, .f32⟩
  | 124 => ⟨S4096x256, .f32⟩
  | 125 => ⟨S4096x256, .f32⟩
  | 126 => ⟨S4096x256, .f32⟩
  | 127 => ⟨S1x256, .f32⟩
  | _ => ⟨S4096x3336, .f32⟩

abbrev hbmTy0_1 (i : Nat) : BufTy := match i % 128 with
  | 0 => ⟨S256, .f32⟩
  | 1 => ⟨S4096x256, .f32⟩
  | 2 => ⟨S1x256, .f32⟩
  | 3 => ⟨S4096x256, .f32⟩
  | 4 => ⟨S4096x256, .f32⟩
  | 5 => ⟨S4096x256, .f32⟩
  | 6 => ⟨S1x256, .f32⟩
  | 7 => ⟨S256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S1x256, .f32⟩
  | 14 => ⟨S256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S1x256, .f32⟩
  | 21 => ⟨S256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S1x256, .f32⟩
  | 28 => ⟨S256, .f32⟩
  | 29 => ⟨S4096x256, .f32⟩
  | 30 => ⟨S1x256, .f32⟩
  | 31 => ⟨S4096x256, .f32⟩
  | 32 => ⟨S4096x256, .f32⟩
  | 33 => ⟨S4096x256, .f32⟩
  | 34 => ⟨S1x256, .f32⟩
  | 35 => ⟨S256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S1x256, .f32⟩
  | 42 => ⟨S256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S1x256, .f32⟩
  | 49 => ⟨S256, .f32⟩
  | 50 => ⟨S4096x256, .f32⟩
  | 51 => ⟨S1x256, .f32⟩
  | 52 => ⟨S4096x256, .f32⟩
  | 53 => ⟨S4096x256, .f32⟩
  | 54 => ⟨S4096x256, .f32⟩
  | 55 => ⟨S1x256, .f32⟩
  | 56 => ⟨S256, .f32⟩
  | 57 => ⟨S4096x256, .f32⟩
  | 58 => ⟨S1x256, .f32⟩
  | 59 => ⟨S4096x256, .f32⟩
  | 60 => ⟨S4096x256, .f32⟩
  | 61 => ⟨S4096x256, .f32⟩
  | 62 => ⟨S1x256, .f32⟩
  | 63 => ⟨S256, .f32⟩
  | 64 => ⟨S4096x256, .f32⟩
  | 65 => ⟨S1x256, .f32⟩
  | 66 => ⟨S4096x256, .f32⟩
  | 67 => ⟨S4096x256, .f32⟩
  | 68 => ⟨S4096x256, .f32⟩
  | 69 => ⟨S1x256, .f32⟩
  | 70 => ⟨S256, .f32⟩
  | 71 => ⟨S4096x256, .f32⟩
  | 72 => ⟨S1x256, .f32⟩
  | 73 => ⟨S4096x256, .f32⟩
  | 74 => ⟨S4096x256, .f32⟩
  | 75 => ⟨S4096x256, .f32⟩
  | 76 => ⟨S1x256, .f32⟩
  | 77 => ⟨S256, .f32⟩
  | 78 => ⟨S4096x256, .f32⟩
  | 79 => ⟨S1x256, .f32⟩
  | 80 => ⟨S4096x256, .f32⟩
  | 81 => ⟨S4096x256, .f32⟩
  | 82 => ⟨S4096x256, .f32⟩
  | 83 => ⟨S1x256, .f32⟩
  | 84 => ⟨S256, .f32⟩
  | 85 => ⟨S4096x256, .f32⟩
  | 86 => ⟨S1x256, .f32⟩
  | 87 => ⟨S4096x256, .f32⟩
  | 88 => ⟨S4096x256, .f32⟩
  | 89 => ⟨S4096x256, .f32⟩
  | 90 => ⟨S1x256, .f32⟩
  | 91 => ⟨S256, .f32⟩
  | 92 => ⟨S4096x256, .f32⟩
  | 93 => ⟨S1x256, .f32⟩
  | 94 => ⟨S4096x256, .f32⟩
  | 95 => ⟨S4096x256, .f32⟩
  | 96 => ⟨S4096x256, .f32⟩
  | 97 => ⟨S1x256, .f32⟩
  | 98 => ⟨S256, .f32⟩
  | 99 => ⟨S4096x256, .f32⟩
  | 100 => ⟨S1x256, .f32⟩
  | 101 => ⟨S4096x256, .f32⟩
  | 102 => ⟨S4096x256, .f32⟩
  | 103 => ⟨S4096x256, .f32⟩
  | 104 => ⟨S1x256, .f32⟩
  | 105 => ⟨S256, .f32⟩
  | 106 => ⟨S4096x256, .f32⟩
  | 107 => ⟨S1x256, .f32⟩
  | 108 => ⟨S4096x256, .f32⟩
  | 109 => ⟨S4096x256, .f32⟩
  | 110 => ⟨S4096x256, .f32⟩
  | 111 => ⟨S1x256, .f32⟩
  | 112 => ⟨S256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S1x256, .f32⟩
  | 119 => ⟨S256, .f32⟩
  | 120 => ⟨S4096x256, .f32⟩
  | 121 => ⟨S1x256, .f32⟩
  | 122 => ⟨S4096x256, .f32⟩
  | 123 => ⟨S4096x256, .f32⟩
  | 124 => ⟨S4096x256, .f32⟩
  | 125 => ⟨S1x256, .f32⟩
  | 126 => ⟨S256, .f32⟩
  | 127 => ⟨S4096x256, .f32⟩
  | _ => ⟨S4096x3336, .f32⟩

abbrev hbmTy0_2 (i : Nat) : BufTy := match i % 128 with
  | 0 => ⟨S1x256, .f32⟩
  | 1 => ⟨S4096x256, .f32⟩
  | 2 => ⟨S4096x256, .f32⟩
  | 3 => ⟨S4096x256, .f32⟩
  | 4 => ⟨S1x256, .f32⟩
  | 5 => ⟨S4096x256, .f32⟩
  | 6 => ⟨S4096x256, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S4096x256, .f32⟩
  | 14 => ⟨S4096x256, .f32⟩
  | 15 => ⟨S4096x256, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x256, .f32⟩
  | 31 => ⟨S4096x256, .f32⟩
  | 32 => ⟨S1x256, .f32⟩
  | 33 => ⟨S4096x256, .f32⟩
  | 34 => ⟨S4096x256, .f32⟩
  | 35 => ⟨S1x256, .f32⟩
  | 36 => ⟨S4096x256, .f32⟩
  | 37 => ⟨S4096x256, .f32⟩
  | 38 => ⟨S4096x256, .f32⟩
  | 39 => ⟨S4096x256, .f32⟩
  | 40 => ⟨S_, .f32⟩
  | 41 => ⟨S4096x256, .f32⟩
  | 42 => ⟨S4096x256, .f32⟩
  | 43 => ⟨S_, .f32⟩
  | 44 => ⟨S4096x256, .f32⟩
  | 45 => ⟨S4096x256, .f32⟩
  | 46 => ⟨S_, .f32⟩
  | 47 => ⟨S4096x256, .f32⟩
  | 48 => ⟨S4096x256, .f32⟩
  | 49 => ⟨S4096x256, .f32⟩
  | 50 => ⟨S4096x256, .f32⟩
  | 51 => ⟨S4096x256, .f32⟩
  | 52 => ⟨S1x256, .f32⟩
  | 53 => ⟨S4096x256, .f32⟩
  | 54 => ⟨S4096x256, .f32⟩
  | 55 => ⟨S4096x256, .f32⟩
  | 56 => ⟨S4096x256, .f32⟩
  | 57 => ⟨S_, .f32⟩
  | 58 => ⟨S4096x256, .f32⟩
  | 59 => ⟨S4096x256, .f32⟩
  | 60 => ⟨S_, .f32⟩
  | 61 => ⟨S4096x256, .f32⟩
  | 62 => ⟨S4096x256, .f32⟩
  | 63 => ⟨S_, .f32⟩
  | 64 => ⟨S4096x256, .f32⟩
  | 65 => ⟨S4096x256, .f32⟩
  | 66 => ⟨S4096x256, .f32⟩
  | 67 => ⟨S4096x256, .f32⟩
  | 68 => ⟨S4096x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S4096x256, .f32⟩
  | 75 => ⟨S4096x256, .f32⟩
  | 76 => ⟨S_, .f32⟩
  | 77 => ⟨S256, .f32⟩
  | 78 => ⟨S1x256, .f32⟩
  | 79 => ⟨S_, .f32⟩
  | 80 => ⟨S256, .f32⟩
  | 81 => ⟨S256x256, .f32⟩
  | 82 => ⟨S256x256, .f32⟩
  | 83 => ⟨S4096x256, .f32⟩
  | 84 => ⟨S4096x256, .f32⟩
  | 85 => ⟨S4096x256, .f32⟩
  | 86 => ⟨S4096x256, .f32⟩
  | 87 => ⟨S4096x256, .f32⟩
  | 88 => ⟨S_, .f32⟩
  | 89 => ⟨S256, .f32⟩
  | 90 => ⟨S1x256, .f32⟩
  | 91 => ⟨S_, .f32⟩
  | 92 => ⟨S256, .f32⟩
  | 93 => ⟨S4096x256, .f32⟩
  | 94 => ⟨S_, .f32⟩
  | 95 => ⟨S256, .f32⟩
  | 96 => ⟨S1x256, .f32⟩
  | 97 => ⟨S4096x256, .f32⟩
  | 98 => ⟨S4096x256, .f32⟩
  | 99 => ⟨S_, .f32⟩
  | 100 => ⟨S256, .f32⟩
  | 101 => ⟨S4096x256, .f32⟩
  | 102 => ⟨S_, .f32⟩
  | 103 => ⟨S4096, .f32⟩
  | 104 => ⟨S4096x1, .f32⟩
  | 105 => ⟨S4096x256, .f32⟩
  | 106 => ⟨S4096x256, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096, .f32⟩
  | 113 => ⟨S4096x256, .f32⟩
  | 114 => ⟨S4096x256, .f32⟩
  | 115 => ⟨S4096x256, .f32⟩
  | 116 => ⟨S4096x256, .f32⟩
  | 117 => ⟨S4096x256, .f32⟩
  | 118 => ⟨S4096x256, .f32⟩
  | 119 => ⟨S_, .f32⟩
  | 120 => ⟨S4096, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x256, .f32⟩
  | _ => ⟨S4096x3336, .f32⟩

abbrev hbmTy0_3 (i : Nat) : BufTy := match i % 128 with
  | 0 => ⟨S4096x256, .f32⟩
  | 1 => ⟨S_, .f32⟩
  | 2 => ⟨S256, .f32⟩
  | 3 => ⟨S1x256, .f32⟩
  | 4 => ⟨S_, .f32⟩
  | 5 => ⟨S256, .f32⟩
  | 6 => ⟨S4096x256, .f32⟩
  | 7 => ⟨S4096x256, .f32⟩
  | 8 => ⟨S4096x256, .f32⟩
  | 9 => ⟨S_, .f32⟩
  | 10 => ⟨S256, .f32⟩
  | 11 => ⟨S1x256, .f32⟩
  | 12 => ⟨S_, .f32⟩
  | 13 => ⟨S256, .f32⟩
  | 14 => ⟨S_, .f32⟩
  | 15 => ⟨S4126x256, .f32⟩
  | 16 => ⟨S1x256, .f32⟩
  | 17 => ⟨S_, .f32⟩
  | 18 => ⟨S31x256, .f32⟩
  | 19 => ⟨S4096x256, .f32⟩
  | 20 => ⟨S4096x256, .f32⟩
  | 21 => ⟨S4096x256, .f32⟩
  | 22 => ⟨S_, .f32⟩
  | 23 => ⟨S256, .f32⟩
  | 24 => ⟨S1x256, .f32⟩
  | 25 => ⟨S_, .f32⟩
  | 26 => ⟨S256, .f32⟩
  | 27 => ⟨S_, .f32⟩
  | 28 => ⟨S4126x256, .f32⟩
  | 29 => ⟨S4126x256, .f32⟩
  | 30 => ⟨S1x256, .f32⟩
  | 31 => ⟨S_, .f32⟩
  | 32 => ⟨S31x256, .f32⟩
  | 33 => ⟨S31x256, .f32⟩
  | 34 => ⟨S4096x256, .f32⟩
  | 35 => ⟨S4096x256, .f32⟩
  | 36 => ⟨S4096x256, .f32⟩
  | 37 => ⟨S_, .f32⟩
  | 38 => ⟨S256, .f32⟩
  | 39 => ⟨S1x256, .f32⟩
  | 40 => ⟨S_, .f32⟩
  | 41 => ⟨S256, .f32⟩
  | 42 => ⟨S_, .f32⟩
  | 43 => ⟨S4126x256, .f32⟩
  | 44 => ⟨S4126x256, .f32⟩
  | 45 => ⟨S1x256, .f32⟩
  | 46 => ⟨S_, .f32⟩
  | 47 => ⟨S31x256, .f32⟩
  | 48 => ⟨S31x256, .f32⟩
  | 49 => ⟨S4096x256, .f32⟩
  | 50 => ⟨S4096x256, .f32⟩
  | 51 => ⟨S4096x256, .f32⟩
  | 52 => ⟨S_, .f32⟩
  | 53 => ⟨S256, .f32⟩
  | 54 => ⟨S1x256, .f32⟩
  | 55 => ⟨S_, .f32⟩
  | 56 => ⟨S256, .f32⟩
  | 57 => ⟨S_, .f32⟩
  | 58 => ⟨S4126x256, .f32⟩
  | 59 => ⟨S4126x256, .f32⟩
  | 60 => ⟨S1x256, .f32⟩
  | 61 => ⟨S_, .f32⟩
  | 62 => ⟨S31x256, .f32⟩
  | 63 => ⟨S31x256, .f32⟩
  | 64 => ⟨S4096x256, .f32⟩
  | 65 => ⟨S4096x256, .f32⟩
  | 66 => ⟨S4096x256, .f32⟩
  | 67 => ⟨S_, .f32⟩
  | 68 => ⟨S256, .f32⟩
  | 69 => ⟨S1x256, .f32⟩
  | 70 => ⟨S_, .f32⟩
  | 71 => ⟨S256, .f32⟩
  | 72 => ⟨S_, .f32⟩
  | 73 => ⟨S4126x256, .f32⟩
  | 74 => ⟨S4126x256, .f32⟩
  | 75 => ⟨S1x256, .f32⟩
  | 76 => ⟨S_, .f32⟩
  | 77 => ⟨S31x256, .f32⟩
  | 78 => ⟨S31x256, .f32⟩
  | 79 => ⟨S4096x256, .f32⟩
  | 80 => ⟨S4096x256, .f32⟩
  | 81 => ⟨S4096x256, .f32⟩
  | 82 => ⟨S_, .f32⟩
  | 83 => ⟨S256, .f32⟩
  | 84 => ⟨S1x256, .f32⟩
  | 85 => ⟨S_, .f32⟩
  | 86 => ⟨S256, .f32⟩
  | 87 => ⟨S_, .f32⟩
  | 88 => ⟨S4126x256, .f32⟩
  | 89 => ⟨S4126x256, .f32⟩
  | 90 => ⟨S1x256, .f32⟩
  | 91 => ⟨S_, .f32⟩
  | 92 => ⟨S31x256, .f32⟩
  | 93 => ⟨S31x256, .f32⟩
  | 94 => ⟨S4096x256, .f32⟩
  | 95 => ⟨S4096x256, .f32⟩
  | 96 => ⟨S4096x256, .f32⟩
  | 97 => ⟨S_, .f32⟩
  | 98 => ⟨S256, .f32⟩
  | 99 => ⟨S1x256, .f32⟩
  | 100 => ⟨S_, .f32⟩
  | 101 => ⟨S256, .f32⟩
  | 102 => ⟨S_, .f32⟩
  | 103 => ⟨S4126x256, .f32⟩
  | 104 => ⟨S4126x256, .f32⟩
  | 105 => ⟨S1x256, .f32⟩
  | 106 => ⟨S_, .f32⟩
  | 107 => ⟨S31x256, .f32⟩
  | 108 => ⟨S31x256, .f32⟩
  | 109 => ⟨S4096x256, .f32⟩
  | 110 => ⟨S4096x256, .f32⟩
  | 111 => ⟨S4096x256, .f32⟩
  | 112 => ⟨S_, .f32⟩
  | 113 => ⟨S256, .f32⟩
  | 114 => ⟨S1x256, .f32⟩
  | 115 => ⟨S_, .f32⟩
  | 116 => ⟨S256, .f32⟩
  | 117 => ⟨S_, .f32⟩
  | 118 => ⟨S4126x256, .f32⟩
  | 119 => ⟨S4126x256, .f32⟩
  | 120 => ⟨S1x256, .f32⟩
  | 121 => ⟨S_, .f32⟩
  | 122 => ⟨S31x256, .f32⟩
  | 123 => ⟨S31x256, .f32⟩
  | 124 => ⟨S4096x256, .f32⟩
  | 125 => ⟨S4096x256, .f32⟩
  | 126 => ⟨S4096x256, .f32⟩
  | 127 => ⟨S_, .f32⟩
  | _ => ⟨S4096x3336, .f32⟩

abbrev hbmTy0_4 (i : Nat) : BufTy := match i % 128 with
  | 0 => ⟨S256, .f32⟩
  | 1 => ⟨S1x256, .f32⟩
  | 2 => ⟨S_, .f32⟩
  | 3 => ⟨S256, .f32⟩
  | 4 => ⟨S_, .f32⟩
  | 5 => ⟨S4126x256, .f32⟩
  | 6 => ⟨S4126x256, .f32⟩
  | 7 => ⟨S1x256, .f32⟩
  | 8 => ⟨S_, .f32⟩
  | 9 => ⟨S31x256, .f32⟩
  | 10 => ⟨S31x256, .f32⟩
  | 11 => ⟨S4096x256, .f32⟩
  | 12 => ⟨S4096x256, .f32⟩
  | 13 => ⟨S4096x256, .f32⟩
  | 14 => ⟨S_, .f32⟩
  | 15 => ⟨S256, .f32⟩
  | 16 => ⟨S1x256, .f32⟩
  | 17 => ⟨S_, .f32⟩
  | 18 => ⟨S256, .f32⟩
  | 19 => ⟨S_, .f32⟩
  | 20 => ⟨S4126x256, .f32⟩
  | 21 => ⟨S4126x256, .f32⟩
  | 22 => ⟨S1x256, .f32⟩
  | 23 => ⟨S_, .f32⟩
  | 24 => ⟨S31x256, .f32⟩
  | 25 => ⟨S31x256, .f32⟩
  | 26 => ⟨S4096x256, .f32⟩
  | 27 => ⟨S4096x256, .f32⟩
  | 28 => ⟨S4096x256, .f32⟩
  | 29 => ⟨S_, .f32⟩
  | 30 => ⟨S256, .f32⟩
  | 31 => ⟨S1x256, .f32⟩
  | 32 => ⟨S_, .f32⟩
  | 33 => ⟨S256, .f32⟩
  | 34 => ⟨S_, .f32⟩
  | 35 => ⟨S4126x256, .f32⟩
  | 36 => ⟨S4126x256, .f32⟩
  | 37 => ⟨S1x256, .f32⟩
  | 38 => ⟨S_, .f32⟩
  | 39 => ⟨S31x256, .f32⟩
  | 40 => ⟨S31x256, .f32⟩
  | 41 => ⟨S4096x256, .f32⟩
  | 42 => ⟨S4096x256, .f32⟩
  | 43 => ⟨S4096x256, .f32⟩
  | 44 => ⟨S_, .f32⟩
  | 45 => ⟨S256, .f32⟩
  | 46 => ⟨S1x256, .f32⟩
  | 47 => ⟨S_, .f32⟩
  | 48 => ⟨S256, .f32⟩
  | 49 => ⟨S_, .f32⟩
  | 50 => ⟨S4126x256, .f32⟩
  | 51 => ⟨S4126x256, .f32⟩
  | 52 => ⟨S1x256, .f32⟩
  | 53 => ⟨S_, .f32⟩
  | 54 => ⟨S31x256, .f32⟩
  | 55 => ⟨S31x256, .f32⟩
  | 56 => ⟨S4096x256, .f32⟩
  | 57 => ⟨S4096x256, .f32⟩
  | 58 => ⟨S4096x256, .f32⟩
  | 59 => ⟨S_, .f32⟩
  | 60 => ⟨S256, .f32⟩
  | 61 => ⟨S1x256, .f32⟩
  | 62 => ⟨S_, .f32⟩
  | 63 => ⟨S256, .f32⟩
  | 64 => ⟨S_, .f32⟩
  | 65 => ⟨S4126x256, .f32⟩
  | 66 => ⟨S4126x256, .f32⟩
  | 67 => ⟨S1x256, .f32⟩
  | 68 => ⟨S_, .f32⟩
  | 69 => ⟨S31x256, .f32⟩
  | 70 => ⟨S31x256, .f32⟩
  | 71 => ⟨S4096x256, .f32⟩
  | 72 => ⟨S4096x256, .f32⟩
  | 73 => ⟨S4096x256, .f32⟩
  | 74 => ⟨S_, .f32⟩
  | 75 => ⟨S256, .f32⟩
  | 76 => ⟨S1x256, .f32⟩
  | 77 => ⟨S_, .f32⟩
  | 78 => ⟨S256, .f32⟩
  | 79 => ⟨S_, .f32⟩
  | 80 => ⟨S4126x256, .f32⟩
  | 81 => ⟨S4126x256, .f32⟩
  | 82 => ⟨S1x256, .f32⟩
  | 83 => ⟨S_, .f32⟩
  | 84 => ⟨S31x256, .f32⟩
  | 85 => ⟨S31x256, .f32⟩
  | 86 => ⟨S4096x256, .f32⟩
  | 87 => ⟨S4096x256, .f32⟩
  | 88 => ⟨S4096x256, .f32⟩
  | 89 => ⟨S_, .f32⟩
  | 90 => ⟨S256, .f32⟩
  | 91 => ⟨S1x256, .f32⟩
  | 92 => ⟨S_, .f32⟩
  | 93 => ⟨S256, .f32⟩
  | 94 => ⟨S_, .f32⟩
  | 95 => ⟨S4126x256, .f32⟩
  | 96 => ⟨S4126x256, .f32⟩
  | 97 => ⟨S1x256, .f32⟩
  | 98 => ⟨S_, .f32⟩
  | 99 => ⟨S31x256, .f32⟩
  | 100 => ⟨S31x256, .f32⟩
  | 101 => ⟨S4096x256, .f32⟩
  | 102 => ⟨S4096x256, .f32⟩
  | 103 => ⟨S4096x256, .f32⟩
  | 104 => ⟨S_, .f32⟩
  | 105 => ⟨S256, .f32⟩
  | 106 => ⟨S1x256, .f32⟩
  | 107 => ⟨S_, .f32⟩
  | 108 => ⟨S256, .f32⟩
  | 109 => ⟨S_, .f32⟩
  | 110 => ⟨S4126x256, .f32⟩
  | 111 => ⟨S4126x256, .f32⟩
  | 112 => ⟨S1x256, .f32⟩
  | 113 => ⟨S_, .f32⟩
  | 114 => ⟨S31x256, .f32⟩
  | 115 => ⟨S31x256, .f32⟩
  | 116 => ⟨S4096x256, .f32⟩
  | 117 => ⟨S4096x256, .f32⟩
  | 118 => ⟨S4096x256, .f32⟩
  | 119 => ⟨S_, .f32⟩
  | 120 => ⟨S256, .f32⟩
  | 121 => ⟨S1x256, .f32⟩
  | 122 => ⟨S_, .f32⟩
  | 123 => ⟨S256, .f32⟩
  | 124 => ⟨S_, .f32⟩
  | 125 => ⟨S4126x256, .f32⟩
  | 126 => ⟨S4126x256, .f32⟩
  | 127 => ⟨S1x256, .f32⟩
  | _ => ⟨S4096x3336, .f32⟩

abbrev hbmTy0_5 (i : Nat) : BufTy := match i % 128 with
  | 0 => ⟨S_, .f32⟩
  | 1 => ⟨S31x256, .f32⟩
  | 2 => ⟨S31x256, .f32⟩
  | 3 => ⟨S4096x256, .f32⟩
  | 4 => ⟨S4096x256, .f32⟩
  | 5 => ⟨S4096x256, .f32⟩
  | 6 => ⟨S_, .f32⟩
  | 7 => ⟨S256, .f32⟩
  | 8 => ⟨S1x256, .f32⟩
  | 9 => ⟨S_, .f32⟩
  | 10 => ⟨S256, .f32⟩
  | 11 => ⟨S_, .f32⟩
  | 12 => ⟨S4126x256, .f32⟩
  | 13 => ⟨S4126x256, .f32⟩
  | 14 => ⟨S1x256, .f32⟩
  | 15 => ⟨S_, .f32⟩
  | 16 => ⟨S31x256, .f32⟩
  | 17 => ⟨S31x256, .f32⟩
  | 18 => ⟨S4096x256, .f32⟩
  | 19 => ⟨S4096x256, .f32⟩
  | 20 => ⟨S4096x256, .f32⟩
  | 21 => ⟨S_, .f32⟩
  | 22 => ⟨S256, .f32⟩
  | 23 => ⟨S1x256, .f32⟩
  | 24 => ⟨S_, .f32⟩
  | 25 => ⟨S256, .f32⟩
  | 26 => ⟨S_, .f32⟩
  | 27 => ⟨S4126x256, .f32⟩
  | 28 => ⟨S4126x256, .f32⟩
  | 29 => ⟨S1x256, .f32⟩
  | 30 => ⟨S_, .f32⟩
  | 31 => ⟨S31x256, .f32⟩
  | 32 => ⟨S31x256, .f32⟩
  | 33 => ⟨S4096x256, .f32⟩
  | 34 => ⟨S4096x256, .f32⟩
  | 35 => ⟨S4096x256, .f32⟩
  | 36 => ⟨S_, .f32⟩
  | 37 => ⟨S256, .f32⟩
  | 38 => ⟨S1x256, .f32⟩
  | 39 => ⟨S_, .f32⟩
  | 40 => ⟨S256, .f32⟩
  | 41 => ⟨S_, .f32⟩
  | 42 => ⟨S4126x256, .f32⟩
  | 43 => ⟨S4126x256, .f32⟩
  | 44 => ⟨S1x256, .f32⟩
  | 45 => ⟨S_, .f32⟩
  | 46 => ⟨S31x256, .f32⟩
  | 47 => ⟨S31x256, .f32⟩
  | 48 => ⟨S4096x256, .f32⟩
  | 49 => ⟨S4096x256, .f32⟩
  | 50 => ⟨S4096x256, .f32⟩
  | 51 => ⟨S_, .f32⟩
  | 52 => ⟨S256, .f32⟩
  | 53 => ⟨S1x256, .f32⟩
  | 54 => ⟨S_, .f32⟩
  | 55 => ⟨S256, .f32⟩
  | 56 => ⟨S_, .f32⟩
  | 57 => ⟨S4126x256, .f32⟩
  | 58 => ⟨S4126x256, .f32⟩
  | 59 => ⟨S1x256, .f32⟩
  | 60 => ⟨S_, .f32⟩
  | 61 => ⟨S31x256, .f32⟩
  | 62 => ⟨S31x256, .f32⟩
  | 63 => ⟨S4096x256, .f32⟩
  | 64 => ⟨S4096x256, .f32⟩
  | 65 => ⟨S4096x256, .f32⟩
  | 66 => ⟨S_, .f32⟩
  | 67 => ⟨S256, .f32⟩
  | 68 => ⟨S1x256, .f32⟩
  | 69 => ⟨S_, .f32⟩
  | 70 => ⟨S256, .f32⟩
  | 71 => ⟨S_, .f32⟩
  | 72 => ⟨S4126x256, .f32⟩
  | 73 => ⟨S4126x256, .f32⟩
  | 74 => ⟨S1x256, .f32⟩
  | 75 => ⟨S_, .f32⟩
  | 76 => ⟨S31x256, .f32⟩
  | 77 => ⟨S31x256, .f32⟩
  | 78 => ⟨S4096x256, .f32⟩
  | 79 => ⟨S4096x256, .f32⟩
  | 80 => ⟨S4096x256, .f32⟩
  | 81 => ⟨S_, .f32⟩
  | 82 => ⟨S256, .f32⟩
  | 83 => ⟨S1x256, .f32⟩
  | 84 => ⟨S_, .f32⟩
  | 85 => ⟨S256, .f32⟩
  | 86 => ⟨S_, .f32⟩
  | 87 => ⟨S4126x256, .f32⟩
  | 88 => ⟨S4126x256, .f32⟩
  | 89 => ⟨S1x256, .f32⟩
  | 90 => ⟨S_, .f32⟩
  | 91 => ⟨S31x256, .f32⟩
  | 92 => ⟨S31x256, .f32⟩
  | 93 => ⟨S4096x256, .f32⟩
  | 94 => ⟨S4096x256, .f32⟩
  | 95 => ⟨S4096x256, .f32⟩
  | 96 => ⟨S_, .f32⟩
  | 97 => ⟨S256, .f32⟩
  | 98 => ⟨S1x256, .f32⟩
  | 99 => ⟨S_, .f32⟩
  | 100 => ⟨S256, .f32⟩
  | 101 => ⟨S_, .f32⟩
  | 102 => ⟨S4126x256, .f32⟩
  | 103 => ⟨S4126x256, .f32⟩
  | 104 => ⟨S1x256, .f32⟩
  | 105 => ⟨S_, .f32⟩
  | 106 => ⟨S31x256, .f32⟩
  | 107 => ⟨S31x256, .f32⟩
  | 108 => ⟨S4096x256, .f32⟩
  | 109 => ⟨S4096x256, .f32⟩
  | 110 => ⟨S4096x256, .f32⟩
  | 111 => ⟨S_, .f32⟩
  | 112 => ⟨S256, .f32⟩
  | 113 => ⟨S1x256, .f32⟩
  | 114 => ⟨S_, .f32⟩
  | 115 => ⟨S256, .f32⟩
  | 116 => ⟨S_, .f32⟩
  | 117 => ⟨S4126x256, .f32⟩
  | 118 => ⟨S4126x256, .f32⟩
  | 119 => ⟨S1x256, .f32⟩
  | 120 => ⟨S_, .f32⟩
  | 121 => ⟨S31x256, .f32⟩
  | 122 => ⟨S31x256, .f32⟩
  | 123 => ⟨S4096x256, .f32⟩
  | 124 => ⟨S4096x256, .f32⟩
  | 125 => ⟨S4096x256, .f32⟩
  | 126 => ⟨S_, .f32⟩
  | 127 => ⟨S256, .f32⟩
  | _ => ⟨S4096x3336, .f32⟩

abbrev hbmTy0_6 (i : Nat) : BufTy := match i % 128 with
  | 0 => ⟨S1x256, .f32⟩
  | 1 => ⟨S_, .f32⟩
  | 2 => ⟨S256, .f32⟩
  | 3 => ⟨S_, .f32⟩
  | 4 => ⟨S4126x256, .f32⟩
  | 5 => ⟨S4126x256, .f32⟩
  | 6 => ⟨S1x256, .f32⟩
  | 7 => ⟨S_, .f32⟩
  | 8 => ⟨S31x256, .f32⟩
  | 9 => ⟨S31x256, .f32⟩
  | 10 => ⟨S4096x256, .f32⟩
  | 11 => ⟨S4096x256, .f32⟩
  | 12 => ⟨S4096x256, .f32⟩
  | 13 => ⟨S_, .f32⟩
  | 14 => ⟨S256, .f32⟩
  | 15 => ⟨S1x256, .f32⟩
  | 16 => ⟨S_, .f32⟩
  | 17 => ⟨S256, .f32⟩
  | 18 => ⟨S_, .f32⟩
  | 19 => ⟨S4126x256, .f32⟩
  | 20 => ⟨S4126x256, .f32⟩
  | 21 => ⟨S1x256, .f32⟩
  | 22 => ⟨S_, .f32⟩
  | 23 => ⟨S31x256, .f32⟩
  | 24 => ⟨S31x256, .f32⟩
  | 25 => ⟨S4096x256, .f32⟩
  | 26 => ⟨S4096x256, .f32⟩
  | 27 => ⟨S4096x256, .f32⟩
  | 28 => ⟨S_, .f32⟩
  | 29 => ⟨S256, .f32⟩
  | 30 => ⟨S1x256, .f32⟩
  | 31 => ⟨S_, .f32⟩
  | 32 => ⟨S256, .f32⟩
  | 33 => ⟨S_, .f32⟩
  | 34 => ⟨S4126x256, .f32⟩
  | 35 => ⟨S4126x256, .f32⟩
  | 36 => ⟨S1x256, .f32⟩
  | 37 => ⟨S_, .f32⟩
  | 38 => ⟨S31x256, .f32⟩
  | 39 => ⟨S31x256, .f32⟩
  | 40 => ⟨S4096x256, .f32⟩
  | 41 => ⟨S4096x256, .f32⟩
  | 42 => ⟨S4096x256, .f32⟩
  | 43 => ⟨S_, .f32⟩
  | 44 => ⟨S256, .f32⟩
  | 45 => ⟨S1x256, .f32⟩
  | 46 => ⟨S_, .f32⟩
  | 47 => ⟨S256, .f32⟩
  | 48 => ⟨S_, .f32⟩
  | 49 => ⟨S4126x256, .f32⟩
  | 50 => ⟨S4126x256, .f32⟩
  | 51 => ⟨S1x256, .f32⟩
  | 52 => ⟨S_, .f32⟩
  | 53 => ⟨S31x256, .f32⟩
  | 54 => ⟨S31x256, .f32⟩
  | 55 => ⟨S4096x256, .f32⟩
  | 56 => ⟨S4096x256, .f32⟩
  | 57 => ⟨S4096x256, .f32⟩
  | 58 => ⟨S_, .f32⟩
  | 59 => ⟨S256, .f32⟩
  | 60 => ⟨S1x256, .f32⟩
  | 61 => ⟨S_, .f32⟩
  | 62 => ⟨S256, .f32⟩
  | 63 => ⟨S_, .f32⟩
  | 64 => ⟨S4126x256, .f32⟩
  | 65 => ⟨S4126x256, .f32⟩
  | 66 => ⟨S1x256, .f32⟩
  | 67 => ⟨S_, .f32⟩
  | 68 => ⟨S31x256, .f32⟩
  | 69 => ⟨S31x256, .f32⟩
  | 70 => ⟨S4096x256, .f32⟩
  | 71 => ⟨S4096x256, .f32⟩
  | 72 => ⟨S4096x256, .f32⟩
  | 73 => ⟨S_, .f32⟩
  | 74 => ⟨S256, .f32⟩
  | 75 => ⟨S1x256, .f32⟩
  | 76 => ⟨S_, .f32⟩
  | 77 => ⟨S256, .f32⟩
  | 78 => ⟨S_, .f32⟩
  | 79 => ⟨S4126x256, .f32⟩
  | 80 => ⟨S4126x256, .f32⟩
  | 81 => ⟨S1x256, .f32⟩
  | 82 => ⟨S_, .f32⟩
  | 83 => ⟨S31x256, .f32⟩
  | 84 => ⟨S31x256, .f32⟩
  | 85 => ⟨S30x256, .f32⟩
  | 86 => ⟨S4096x256, .f32⟩
  | 87 => ⟨S4096x256, .f32⟩
  | 88 => ⟨S4096x256, .f32⟩
  | 89 => ⟨S4096x256, .f32⟩
  | 90 => ⟨S4096x768, .f32⟩
  | 91 => ⟨S_, .f32⟩
  | 92 => ⟨S1x256, .f32⟩
  | 93 => ⟨S32x256, .f32⟩
  | 94 => ⟨S1x256, .f32⟩
  | 95 => ⟨S1x256, .f32⟩
  | 96 => ⟨S1x256, .f32⟩
  | 97 => ⟨S1x256, .f32⟩
  | _ => ⟨S4096x3336, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x3336, .f32⟩

abbrev bufTy : (tb : Table) → Fin (tcTables nBuf tb) → BufTy
  | .hbm, ⟨i, _⟩ => hbmTy i
  | _, _ => ⟨S4096x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_cst_5 : Ref sig .tc := ⟨.hbm, 263, rfl⟩
abbrev main_v249 : Ref sig .tc := ⟨.hbm, 264, rfl⟩
abbrev main_v250 : Ref sig .tc := ⟨.hbm, 265, rfl⟩
abbrev main_cst_6 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_cst_7 : Ref sig .tc := ⟨.hbm, 272, rfl⟩
abbrev main_v256 : Ref sig .tc := ⟨.hbm, 273, rfl⟩
abbrev main_v257 : Ref sig .tc := ⟨.hbm, 274, rfl⟩
abbrev main_cst_8 : Ref sig .tc := ⟨.hbm, 275, rfl⟩
abbrev main_v258 : Ref sig .tc := ⟨.hbm, 276, rfl⟩
abbrev main_v259 : Ref sig .tc := ⟨.hbm, 277, rfl⟩
abbrev main_cst_9 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_cst_10 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_v269 : Ref sig .tc := ⟨.hbm, 289, rfl⟩
abbrev main_v270 : Ref sig .tc := ⟨.hbm, 290, rfl⟩
abbrev main_v271 : Ref sig .tc := ⟨.hbm, 291, rfl⟩
abbrev main_v272 : Ref sig .tc := ⟨.hbm, 292, rfl⟩
abbrev main_v273 : Ref sig .tc := ⟨.hbm, 293, rfl⟩
abbrev main_call0_v0 : Ref sig .tc := ⟨.hbm, 294, rfl⟩
abbrev main_call0_v1 : Ref sig .tc := ⟨.hbm, 295, rfl⟩
abbrev main_call0_cst : Ref sig .tc := ⟨.hbm, 296, rfl⟩
abbrev main_call0_v2 : Ref sig .tc := ⟨.hbm, 297, rfl⟩
abbrev main_call0_v3 : Ref sig .tc := ⟨.hbm, 298, rfl⟩
abbrev main_call0_cst_0 : Ref sig .tc := ⟨.hbm, 299, rfl⟩
abbrev main_call0_v4 : Ref sig .tc := ⟨.hbm, 300, rfl⟩
abbrev main_v274_2 : Ref sig .tc := ⟨.hbm, 301, rfl⟩
abbrev main_call0_cst_1 : Ref sig .tc := ⟨.hbm, 302, rfl⟩
abbrev main_call0_v6 : Ref sig .tc := ⟨.hbm, 303, rfl⟩
abbrev main_call0_v7 : Ref sig .tc := ⟨.hbm, 304, rfl⟩
abbrev main_v274_1 : Ref sig .tc := ⟨.hbm, 305, rfl⟩
abbrev main_v274_0 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_call1_v0 : Ref sig .tc := ⟨.hbm, 311, rfl⟩
abbrev main_call1_v1 : Ref sig .tc := ⟨.hbm, 312, rfl⟩
abbrev main_call1_cst : Ref sig .tc := ⟨.hbm, 313, rfl⟩
abbrev main_call1_v2 : Ref sig .tc := ⟨.hbm, 314, rfl⟩
abbrev main_call1_v3 : Ref sig .tc := ⟨.hbm, 315, rfl⟩
abbrev main_call1_cst_0 : Ref sig .tc := ⟨.hbm, 316, rfl⟩
abbrev main_call1_v4 : Ref sig .tc := ⟨.hbm, 317, rfl⟩
abbrev main_v279_2 : Ref sig .tc := ⟨.hbm, 318, rfl⟩
abbrev main_call1_cst_1 : Ref sig .tc := ⟨.hbm, 319, rfl⟩
abbrev main_call1_v6 : Ref sig .tc := ⟨.hbm, 320, rfl⟩
abbrev main_call1_v7 : Ref sig .tc := ⟨.hbm, 321, rfl⟩
abbrev main_v279_1 : Ref sig .tc := ⟨.hbm, 322, rfl⟩
abbrev main_v279_0 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_call2_v0 : Ref sig .tc := ⟨.hbm, 328, rfl⟩
abbrev main_call2_v1 : Ref sig .tc := ⟨.hbm, 329, rfl⟩
abbrev main_call2_v2 : Ref sig .tc := ⟨.hbm, 330, rfl⟩
abbrev main_v284 : Ref sig .tc := ⟨.hbm, 331, rfl⟩
abbrev main_cst_11 : Ref sig .tc := ⟨.hbm, 332, rfl⟩
abbrev main_v285 : Ref sig .tc := ⟨.hbm, 333, rfl⟩
abbrev main_v286 : Ref sig .tc := ⟨.hbm, 334, rfl⟩
abbrev main_cst_12 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_call3_v0 : Ref sig .tc := ⟨.hbm, 340, rfl⟩
abbrev main_call3_v1 : Ref sig .tc := ⟨.hbm, 341, rfl⟩
abbrev main_call3_v2 : Ref sig .tc := ⟨.hbm, 342, rfl⟩
abbrev main_v291 : Ref sig .tc := ⟨.hbm, 343, rfl⟩
abbrev main_cst_13 : Ref sig .tc := ⟨.hbm, 344, rfl⟩
abbrev main_v292 : Ref sig .tc := ⟨.hbm, 345, rfl⟩
abbrev main_v293 : Ref sig .tc := ⟨.hbm, 346, rfl⟩
abbrev main_cst_14 : Ref sig .tc := ⟨.hbm, 347, rfl⟩
abbrev main_v294 : Ref sig .tc := ⟨.hbm, 348, rfl⟩
abbrev main_v295 : Ref sig .tc := ⟨.hbm, 349, rfl⟩
abbrev main_cst_15 : Ref sig .tc := ⟨.hbm, 350, rfl⟩
abbrev main_v296 : Ref sig .tc := ⟨.hbm, 351, rfl⟩
abbrev main_v297 : Ref sig .tc := ⟨.hbm, 352, rfl⟩
abbrev main_v298 : Ref sig .tc := ⟨.hbm, 353, rfl⟩
abbrev main_v299 : Ref sig .tc := ⟨.hbm, 354, rfl⟩
abbrev main_cst_16 : Ref sig .tc := ⟨.hbm, 355, rfl⟩
abbrev main_v300 : Ref sig .tc := ⟨.hbm, 356, rfl⟩
abbrev main_v301 : Ref sig .tc := ⟨.hbm, 357, rfl⟩
abbrev main_cst_17 : Ref sig .tc := ⟨.hbm, 358, rfl⟩
abbrev main_v302 : Ref sig .tc := ⟨.hbm, 359, rfl⟩
abbrev main_v303 : Ref sig .tc := ⟨.hbm, 360, rfl⟩
abbrev main_v304 : Ref sig .tc := ⟨.hbm, 361, rfl⟩
abbrev main_v305 : Ref sig .tc := ⟨.hbm, 362, rfl⟩
abbrev main_v306 : Ref sig .tc := ⟨.hbm, 363, rfl⟩
abbrev main_cst_18 : Ref sig .tc := ⟨.hbm, 364, rfl⟩
abbrev main_v307 : Ref sig .tc := ⟨.hbm, 365, rfl⟩
abbrev main_v308 : Ref sig .tc := ⟨.hbm, 366, rfl⟩
abbrev main_cst_19 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_cst_20 : Ref sig .tc := ⟨.hbm, 375, rfl⟩
abbrev main_v316 : Ref sig .tc := ⟨.hbm, 376, rfl⟩
abbrev main_v317 : Ref sig .tc := ⟨.hbm, 377, rfl⟩
abbrev main_cst_21 : Ref sig .tc := ⟨.hbm, 378, rfl⟩
abbrev main_v318 : Ref sig .tc := ⟨.hbm, 379, rfl⟩
abbrev main_v319 : Ref sig .tc := ⟨.hbm, 380, rfl⟩
abbrev main_cst_22 : Ref sig .tc := ⟨.hbm, 381, rfl⟩
abbrev main_v320 : Ref sig .tc := ⟨.hbm, 382, rfl⟩
abbrev main_v321 : Ref sig .tc := ⟨.hbm, 383, rfl⟩
abbrev main_v322 : Ref sig .tc := ⟨.hbm, 384, rfl⟩
abbrev main_cst_23 : Ref sig .tc := ⟨.hbm, 385, rfl⟩
abbrev main_v323 : Ref sig .tc := ⟨.hbm, 386, rfl⟩
abbrev main_v324 : Ref sig .tc := ⟨.hbm, 387, rfl⟩
abbrev main_cst_24 : Ref sig .tc := ⟨.hbm, 388, rfl⟩
abbrev main_v325 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_cst_25 : Ref sig .tc := ⟨.hbm, 393, rfl⟩
abbrev main_v329 : Ref sig .tc := ⟨.hbm, 394, rfl⟩
abbrev main_v330 : Ref sig .tc := ⟨.hbm, 395, rfl⟩
abbrev main_cst_26 : Ref sig .tc := ⟨.hbm, 396, rfl⟩
abbrev main_v331 : Ref sig .tc := ⟨.hbm, 397, rfl⟩
abbrev main_cst_27 : Ref sig .tc := ⟨.hbm, 398, rfl⟩
abbrev main_v332 : Ref sig .tc := ⟨.hbm, 399, rfl⟩
abbrev main_v333 : Ref sig .tc := ⟨.hbm, 400, rfl⟩
abbrev main_cst_28 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_v337 : Ref sig .tc := ⟨.hbm, 405, rfl⟩
abbrev main_cst_29 : Ref sig .tc := ⟨.hbm, 406, rfl⟩
abbrev main_v338 : Ref sig .tc := ⟨.hbm, 407, rfl⟩
abbrev main_v339 : Ref sig .tc := ⟨.hbm, 408, rfl⟩
abbrev main_cst_30 : Ref sig .tc := ⟨.hbm, 409, rfl⟩
abbrev main_v340 : Ref sig .tc := ⟨.hbm, 410, rfl⟩
abbrev main_cst_31 : Ref sig .tc := ⟨.hbm, 411, rfl⟩
abbrev main_v341 : Ref sig .tc := ⟨.hbm, 412, rfl⟩
abbrev main_v342 : Ref sig .tc := ⟨.hbm, 413, rfl⟩
abbrev main_v343 : Ref sig .tc := ⟨.hbm, 414, rfl⟩
abbrev main_cst_32 : Ref sig .tc := ⟨.hbm, 415, rfl⟩
abbrev main_v344 : Ref sig .tc := ⟨.hbm, 416, rfl⟩
abbrev main_v345 : Ref sig .tc := ⟨.hbm, 417, rfl⟩
abbrev main_v346 : Ref sig .tc := ⟨.hbm, 418, rfl⟩
abbrev main_v347 : Ref sig .tc := ⟨.hbm, 419, rfl⟩
abbrev main_v348 : Ref sig .tc := ⟨.hbm, 420, rfl⟩
abbrev main_cst_33 : Ref sig .tc := ⟨.hbm, 421, rfl⟩
abbrev main_v349 : Ref sig .tc := ⟨.hbm, 422, rfl⟩
abbrev main_v350 : Ref sig .tc := ⟨.hbm, 423, rfl⟩
abbrev main_cst_34 : Ref sig .tc := ⟨.hbm, 424, rfl⟩
abbrev main_v351 : Ref sig .tc := ⟨.hbm, 425, rfl⟩
abbrev main_cst_35 : Ref sig .tc := ⟨.hbm, 426, rfl⟩
abbrev main_v352 : Ref sig .tc := ⟨.hbm, 427, rfl⟩
abbrev main_v353 : Ref sig .tc := ⟨.hbm, 428, rfl⟩
abbrev main_v354 : Ref sig .tc := ⟨.hbm, 429, rfl⟩
abbrev main_cst_36 : Ref sig .tc := ⟨.hbm, 430, rfl⟩
abbrev main_v355 : Ref sig .tc := ⟨.hbm, 431, rfl⟩
abbrev main_v356 : Ref sig .tc := ⟨.hbm, 432, rfl⟩
abbrev main_v357 : Ref sig .tc := ⟨.hbm, 433, rfl⟩
abbrev main_v358 : Ref sig .tc := ⟨.hbm, 434, rfl⟩
abbrev main_v359 : Ref sig .tc := ⟨.hbm, 435, rfl⟩
abbrev main_cst_37 : Ref sig .tc := ⟨.hbm, 436, rfl⟩
abbrev main_v360 : Ref sig .tc := ⟨.hbm, 437, rfl⟩
abbrev main_v361 : Ref sig .tc := ⟨.hbm, 438, rfl⟩
abbrev main_cst_38 : Ref sig .tc := ⟨.hbm, 439, rfl⟩
abbrev main_v362 : Ref sig .tc := ⟨.hbm, 440, rfl⟩
abbrev main_cst_39 : Ref sig .tc := ⟨.hbm, 441, rfl⟩
abbrev main_v363 : Ref sig .tc := ⟨.hbm, 442, rfl⟩
abbrev main_v364 : Ref sig .tc := ⟨.hbm, 443, rfl⟩
abbrev main_v365 : Ref sig .tc := ⟨.hbm, 444, rfl⟩
abbrev main_cst_40 : Ref sig .tc := ⟨.hbm, 445, rfl⟩
abbrev main_v366 : Ref sig .tc := ⟨.hbm, 446, rfl⟩
abbrev main_v367 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_cst_41 : Ref sig .tc := ⟨.hbm, 451, rfl⟩
abbrev main_v371 : Ref sig .tc := ⟨.hbm, 452, rfl⟩
abbrev main_v372 : Ref sig .tc := ⟨.hbm, 453, rfl⟩
abbrev main_cst_42 : Ref sig .tc := ⟨.hbm, 454, rfl⟩
abbrev main_v373 : Ref sig .tc := ⟨.hbm, 455, rfl⟩
abbrev main_cst_43 : Ref sig .tc := ⟨.hbm, 456, rfl⟩
abbrev main_v374 : Ref sig .tc := ⟨.hbm, 457, rfl⟩
abbrev main_v375 : Ref sig .tc := ⟨.hbm, 458, rfl⟩
abbrev main_v376 : Ref sig .tc := ⟨.hbm, 459, rfl⟩
abbrev main_cst_44 : Ref sig .tc := ⟨.hbm, 460, rfl⟩
abbrev main_v377 : Ref sig .tc := ⟨.hbm, 461, rfl⟩
abbrev main_v378 : Ref sig .tc := ⟨.hbm, 462, rfl⟩
abbrev main_v379 : Ref sig .tc := ⟨.hbm, 463, rfl⟩
abbrev main_v380 : Ref sig .tc := ⟨.hbm, 464, rfl⟩
abbrev main_v381 : Ref sig .tc := ⟨.hbm, 465, rfl⟩
abbrev main_cst_45 : Ref sig .tc := ⟨.hbm, 466, rfl⟩
abbrev main_v382 : Ref sig .tc := ⟨.hbm, 467, rfl⟩
abbrev main_v383 : Ref sig .tc := ⟨.hbm, 468, rfl⟩
abbrev main_cst_46 : Ref sig .tc := ⟨.hbm, 469, rfl⟩
abbrev main_v384 : Ref sig .tc := ⟨.hbm, 470, rfl⟩
abbrev main_cst_47 : Ref sig .tc := ⟨.hbm, 471, rfl⟩
abbrev main_v385 : Ref sig .tc := ⟨.hbm, 472, rfl⟩
abbrev main_v386 : Ref sig .tc := ⟨.hbm, 473, rfl⟩
abbrev main_v387 : Ref sig .tc := ⟨.hbm, 474, rfl⟩
abbrev main_cst_48 : Ref sig .tc := ⟨.hbm, 475, rfl⟩
abbrev main_v388 : Ref sig .tc := ⟨.hbm, 476, rfl⟩
abbrev main_v389 : Ref sig .tc := ⟨.hbm, 477, rfl⟩
abbrev main_v390 : Ref sig .tc := ⟨.hbm, 478, rfl⟩
abbrev main_v391 : Ref sig .tc := ⟨.hbm, 479, rfl⟩
abbrev main_v392 : Ref sig .tc := ⟨.hbm, 480, rfl⟩
abbrev main_cst_49 : Ref sig .tc := ⟨.hbm, 481, rfl⟩
abbrev main_v393 : Ref sig .tc := ⟨.hbm, 482, rfl⟩
abbrev main_v394 : Ref sig .tc := ⟨.hbm, 483, rfl⟩
abbrev main_cst_50 : Ref sig .tc := ⟨.hbm, 484, rfl⟩
abbrev main_v395 : Ref sig .tc := ⟨.hbm, 485, rfl⟩
abbrev main_cst_51 : Ref sig .tc := ⟨.hbm, 486, rfl⟩
abbrev main_v396 : Ref sig .tc := ⟨.hbm, 487, rfl⟩
abbrev main_v397 : Ref sig .tc := ⟨.hbm, 488, rfl⟩
abbrev main_v398 : Ref sig .tc := ⟨.hbm, 489, rfl⟩
abbrev main_cst_52 : Ref sig .tc := ⟨.hbm, 490, rfl⟩
abbrev main_v399 : Ref sig .tc := ⟨.hbm, 491, rfl⟩
abbrev main_v400 : Ref sig .tc := ⟨.hbm, 492, rfl⟩
abbrev main_v401 : Ref sig .tc := ⟨.hbm, 493, rfl⟩
abbrev main_v402 : Ref sig .tc := ⟨.hbm, 494, rfl⟩
abbrev main_v403 : Ref sig .tc := ⟨.hbm, 495, rfl⟩
abbrev main_cst_53 : Ref sig .tc := ⟨.hbm, 496, rfl⟩
abbrev main_v404 : Ref sig .tc := ⟨.hbm, 497, rfl⟩
abbrev main_v405 : Ref sig .tc := ⟨.hbm, 498, rfl⟩
abbrev main_cst_54 : Ref sig .tc := ⟨.hbm, 499, rfl⟩
abbrev main_v406 : Ref sig .tc := ⟨.hbm, 500, rfl⟩
abbrev main_cst_55 : Ref sig .tc := ⟨.hbm, 501, rfl⟩
abbrev main_v407 : Ref sig .tc := ⟨.hbm, 502, rfl⟩
abbrev main_v408 : Ref sig .tc := ⟨.hbm, 503, rfl⟩
abbrev main_v409 : Ref sig .tc := ⟨.hbm, 504, rfl⟩
abbrev main_cst_56 : Ref sig .tc := ⟨.hbm, 505, rfl⟩
abbrev main_v410 : Ref sig .tc := ⟨.hbm, 506, rfl⟩
abbrev main_v411 : Ref sig .tc := ⟨.hbm, 507, rfl⟩
abbrev main_v412 : Ref sig .tc := ⟨.hbm, 508, rfl⟩
abbrev main_v413 : Ref sig .tc := ⟨.hbm, 509, rfl⟩
abbrev main_v414 : Ref sig .tc := ⟨.hbm, 510, rfl⟩
abbrev main_cst_57 : Ref sig .tc := ⟨.hbm, 511, rfl⟩
abbrev main_v415 : Ref sig .tc := ⟨.hbm, 512, rfl⟩
abbrev main_v416 : Ref sig .tc := ⟨.hbm, 513, rfl⟩
abbrev main_cst_58 : Ref sig .tc := ⟨.hbm, 514, rfl⟩
abbrev main_v417 : Ref sig .tc := ⟨.hbm, 515, rfl⟩
abbrev main_cst_59 : Ref sig .tc := ⟨.hbm, 516, rfl⟩
abbrev main_v418 : Ref sig .tc := ⟨.hbm, 517, rfl⟩
abbrev main_v419 : Ref sig .tc := ⟨.hbm, 518, rfl⟩
abbrev main_v420 : Ref sig .tc := ⟨.hbm, 519, rfl⟩
abbrev main_cst_60 : Ref sig .tc := ⟨.hbm, 520, rfl⟩
abbrev main_v421 : Ref sig .tc := ⟨.hbm, 521, rfl⟩
abbrev main_v422 : Ref sig .tc := ⟨.hbm, 522, rfl⟩
abbrev main_v423 : Ref sig .tc := ⟨.hbm, 523, rfl⟩
abbrev main_v424 : Ref sig .tc := ⟨.hbm, 524, rfl⟩
abbrev main_v425 : Ref sig .tc := ⟨.hbm, 525, rfl⟩
abbrev main_cst_61 : Ref sig .tc := ⟨.hbm, 526, rfl⟩
abbrev main_v426 : Ref sig .tc := ⟨.hbm, 527, rfl⟩
abbrev main_v427 : Ref sig .tc := ⟨.hbm, 528, rfl⟩
abbrev main_cst_62 : Ref sig .tc := ⟨.hbm, 529, rfl⟩
abbrev main_v428 : Ref sig .tc := ⟨.hbm, 530, rfl⟩
abbrev main_cst_63 : Ref sig .tc := ⟨.hbm, 531, rfl⟩
abbrev main_v429 : Ref sig .tc := ⟨.hbm, 532, rfl⟩
abbrev main_v430 : Ref sig .tc := ⟨.hbm, 533, rfl⟩
abbrev main_v431 : Ref sig .tc := ⟨.hbm, 534, rfl⟩
abbrev main_cst_64 : Ref sig .tc := ⟨.hbm, 535, rfl⟩
abbrev main_v432 : Ref sig .tc := ⟨.hbm, 536, rfl⟩
abbrev main_v433 : Ref sig .tc := ⟨.hbm, 537, rfl⟩
abbrev main_v434 : Ref sig .tc := ⟨.hbm, 538, rfl⟩
abbrev main_v435 : Ref sig .tc := ⟨.hbm, 539, rfl⟩
abbrev main_v436 : Ref sig .tc := ⟨.hbm, 540, rfl⟩
abbrev main_cst_65 : Ref sig .tc := ⟨.hbm, 541, rfl⟩
abbrev main_v437 : Ref sig .tc := ⟨.hbm, 542, rfl⟩
abbrev main_v438 : Ref sig .tc := ⟨.hbm, 543, rfl⟩
abbrev main_cst_66 : Ref sig .tc := ⟨.hbm, 544, rfl⟩
abbrev main_v439 : Ref sig .tc := ⟨.hbm, 545, rfl⟩
abbrev main_cst_67 : Ref sig .tc := ⟨.hbm, 546, rfl⟩
abbrev main_v440 : Ref sig .tc := ⟨.hbm, 547, rfl⟩
abbrev main_v441 : Ref sig .tc := ⟨.hbm, 548, rfl⟩
abbrev main_v442 : Ref sig .tc := ⟨.hbm, 549, rfl⟩
abbrev main_cst_68 : Ref sig .tc := ⟨.hbm, 550, rfl⟩
abbrev main_v443 : Ref sig .tc := ⟨.hbm, 551, rfl⟩
abbrev main_v444 : Ref sig .tc := ⟨.hbm, 552, rfl⟩
abbrev main_v445 : Ref sig .tc := ⟨.hbm, 553, rfl⟩
abbrev main_v446 : Ref sig .tc := ⟨.hbm, 554, rfl⟩
abbrev main_v447 : Ref sig .tc := ⟨.hbm, 555, rfl⟩
abbrev main_cst_69 : Ref sig .tc := ⟨.hbm, 556, rfl⟩
abbrev main_v448 : Ref sig .tc := ⟨.hbm, 557, rfl⟩
abbrev main_v449 : Ref sig .tc := ⟨.hbm, 558, rfl⟩
abbrev main_cst_70 : Ref sig .tc := ⟨.hbm, 559, rfl⟩
abbrev main_v450 : Ref sig .tc := ⟨.hbm, 560, rfl⟩
abbrev main_cst_71 : Ref sig .tc := ⟨.hbm, 561, rfl⟩
abbrev main_v451 : Ref sig .tc := ⟨.hbm, 562, rfl⟩
abbrev main_v452 : Ref sig .tc := ⟨.hbm, 563, rfl⟩
abbrev main_v453 : Ref sig .tc := ⟨.hbm, 564, rfl⟩
abbrev main_cst_72 : Ref sig .tc := ⟨.hbm, 565, rfl⟩
abbrev main_v454 : Ref sig .tc := ⟨.hbm, 566, rfl⟩
abbrev main_v455 : Ref sig .tc := ⟨.hbm, 567, rfl⟩
abbrev main_v456 : Ref sig .tc := ⟨.hbm, 568, rfl⟩
abbrev main_v457 : Ref sig .tc := ⟨.hbm, 569, rfl⟩
abbrev main_v458 : Ref sig .tc := ⟨.hbm, 570, rfl⟩
abbrev main_cst_73 : Ref sig .tc := ⟨.hbm, 571, rfl⟩
abbrev main_v459 : Ref sig .tc := ⟨.hbm, 572, rfl⟩
abbrev main_v460 : Ref sig .tc := ⟨.hbm, 573, rfl⟩
abbrev main_cst_74 : Ref sig .tc := ⟨.hbm, 574, rfl⟩
abbrev main_v461 : Ref sig .tc := ⟨.hbm, 575, rfl⟩
abbrev main_cst_75 : Ref sig .tc := ⟨.hbm, 576, rfl⟩
abbrev main_v462 : Ref sig .tc := ⟨.hbm, 577, rfl⟩
abbrev main_v463 : Ref sig .tc := ⟨.hbm, 578, rfl⟩
abbrev main_v464 : Ref sig .tc := ⟨.hbm, 579, rfl⟩
abbrev main_cst_76 : Ref sig .tc := ⟨.hbm, 580, rfl⟩
abbrev main_v465 : Ref sig .tc := ⟨.hbm, 581, rfl⟩
abbrev main_v466 : Ref sig .tc := ⟨.hbm, 582, rfl⟩
abbrev main_v467 : Ref sig .tc := ⟨.hbm, 583, rfl⟩
abbrev main_v468 : Ref sig .tc := ⟨.hbm, 584, rfl⟩
abbrev main_v469 : Ref sig .tc := ⟨.hbm, 585, rfl⟩
abbrev main_cst_77 : Ref sig .tc := ⟨.hbm, 586, rfl⟩
abbrev main_v470 : Ref sig .tc := ⟨.hbm, 587, rfl⟩
abbrev main_v471 : Ref sig .tc := ⟨.hbm, 588, rfl⟩
abbrev main_cst_78 : Ref sig .tc := ⟨.hbm, 589, rfl⟩
abbrev main_v472 : Ref sig .tc := ⟨.hbm, 590, rfl⟩
abbrev main_cst_79 : Ref sig .tc := ⟨.hbm, 591, rfl⟩
abbrev main_v473 : Ref sig .tc := ⟨.hbm, 592, rfl⟩
abbrev main_v474 : Ref sig .tc := ⟨.hbm, 593, rfl⟩
abbrev main_v475 : Ref sig .tc := ⟨.hbm, 594, rfl⟩
abbrev main_cst_80 : Ref sig .tc := ⟨.hbm, 595, rfl⟩
abbrev main_v476 : Ref sig .tc := ⟨.hbm, 596, rfl⟩
abbrev main_v477 : Ref sig .tc := ⟨.hbm, 597, rfl⟩
abbrev main_v478 : Ref sig .tc := ⟨.hbm, 598, rfl⟩
abbrev main_v479 : Ref sig .tc := ⟨.hbm, 599, rfl⟩
abbrev main_v480 : Ref sig .tc := ⟨.hbm, 600, rfl⟩
abbrev main_cst_81 : Ref sig .tc := ⟨.hbm, 601, rfl⟩
abbrev main_v481 : Ref sig .tc := ⟨.hbm, 602, rfl⟩
abbrev main_v482 : Ref sig .tc := ⟨.hbm, 603, rfl⟩
abbrev main_cst_82 : Ref sig .tc := ⟨.hbm, 604, rfl⟩
abbrev main_v483 : Ref sig .tc := ⟨.hbm, 605, rfl⟩
abbrev main_cst_83 : Ref sig .tc := ⟨.hbm, 606, rfl⟩
abbrev main_v484 : Ref sig .tc := ⟨.hbm, 607, rfl⟩
abbrev main_v485 : Ref sig .tc := ⟨.hbm, 608, rfl⟩
abbrev main_v486 : Ref sig .tc := ⟨.hbm, 609, rfl⟩
abbrev main_cst_84 : Ref sig .tc := ⟨.hbm, 610, rfl⟩
abbrev main_v487 : Ref sig .tc := ⟨.hbm, 611, rfl⟩
abbrev main_v488 : Ref sig .tc := ⟨.hbm, 612, rfl⟩
abbrev main_v489 : Ref sig .tc := ⟨.hbm, 613, rfl⟩
abbrev main_v490 : Ref sig .tc := ⟨.hbm, 614, rfl⟩
abbrev main_v491 : Ref sig .tc := ⟨.hbm, 615, rfl⟩
abbrev main_cst_85 : Ref sig .tc := ⟨.hbm, 616, rfl⟩
abbrev main_v492 : Ref sig .tc := ⟨.hbm, 617, rfl⟩
abbrev main_v493 : Ref sig .tc := ⟨.hbm, 618, rfl⟩
abbrev main_cst_86 : Ref sig .tc := ⟨.hbm, 619, rfl⟩
abbrev main_v494 : Ref sig .tc := ⟨.hbm, 620, rfl⟩
abbrev main_cst_87 : Ref sig .tc := ⟨.hbm, 621, rfl⟩
abbrev main_v495 : Ref sig .tc := ⟨.hbm, 622, rfl⟩
abbrev main_v496 : Ref sig .tc := ⟨.hbm, 623, rfl⟩
abbrev main_v497 : Ref sig .tc := ⟨.hbm, 624, rfl⟩
abbrev main_cst_88 : Ref sig .tc := ⟨.hbm, 625, rfl⟩
abbrev main_v498 : Ref sig .tc := ⟨.hbm, 626, rfl⟩
abbrev main_v499 : Ref sig .tc := ⟨.hbm, 627, rfl⟩
abbrev main_v500 : Ref sig .tc := ⟨.hbm, 628, rfl⟩
abbrev main_v501 : Ref sig .tc := ⟨.hbm, 629, rfl⟩
abbrev main_v502 : Ref sig .tc := ⟨.hbm, 630, rfl⟩
abbrev main_cst_89 : Ref sig .tc := ⟨.hbm, 631, rfl⟩
abbrev main_v503 : Ref sig .tc := ⟨.hbm, 632, rfl⟩
abbrev main_v504 : Ref sig .tc := ⟨.hbm, 633, rfl⟩
abbrev main_cst_90 : Ref sig .tc := ⟨.hbm, 634, rfl⟩
abbrev main_v505 : Ref sig .tc := ⟨.hbm, 635, rfl⟩
abbrev main_cst_91 : Ref sig .tc := ⟨.hbm, 636, rfl⟩
abbrev main_v506 : Ref sig .tc := ⟨.hbm, 637, rfl⟩
abbrev main_v507 : Ref sig .tc := ⟨.hbm, 638, rfl⟩
abbrev main_v508 : Ref sig .tc := ⟨.hbm, 639, rfl⟩
abbrev main_cst_92 : Ref sig .tc := ⟨.hbm, 640, rfl⟩
abbrev main_v509 : Ref sig .tc := ⟨.hbm, 641, rfl⟩
abbrev main_v510 : Ref sig .tc := ⟨.hbm, 642, rfl⟩
abbrev main_v511 : Ref sig .tc := ⟨.hbm, 643, rfl⟩
abbrev main_v512 : Ref sig .tc := ⟨.hbm, 644, rfl⟩
abbrev main_v513 : Ref sig .tc := ⟨.hbm, 645, rfl⟩
abbrev main_cst_93 : Ref sig .tc := ⟨.hbm, 646, rfl⟩
abbrev main_v514 : Ref sig .tc := ⟨.hbm, 647, rfl⟩
abbrev main_v515 : Ref sig .tc := ⟨.hbm, 648, rfl⟩
abbrev main_cst_94 : Ref sig .tc := ⟨.hbm, 649, rfl⟩
abbrev main_v516 : Ref sig .tc := ⟨.hbm, 650, rfl⟩
abbrev main_cst_95 : Ref sig .tc := ⟨.hbm, 651, rfl⟩
abbrev main_v517 : Ref sig .tc := ⟨.hbm, 652, rfl⟩
abbrev main_v518 : Ref sig .tc := ⟨.hbm, 653, rfl⟩
abbrev main_v519 : Ref sig .tc := ⟨.hbm, 654, rfl⟩
abbrev main_cst_96 : Ref sig .tc := ⟨.hbm, 655, rfl⟩
abbrev main_v520 : Ref sig .tc := ⟨.hbm, 656, rfl⟩
abbrev main_v521 : Ref sig .tc := ⟨.hbm, 657, rfl⟩
abbrev main_v522 : Ref sig .tc := ⟨.hbm, 658, rfl⟩
abbrev main_v523 : Ref sig .tc := ⟨.hbm, 659, rfl⟩
abbrev main_v524 : Ref sig .tc := ⟨.hbm, 660, rfl⟩
abbrev main_cst_97 : Ref sig .tc := ⟨.hbm, 661, rfl⟩
abbrev main_v525 : Ref sig .tc := ⟨.hbm, 662, rfl⟩
abbrev main_v526 : Ref sig .tc := ⟨.hbm, 663, rfl⟩
abbrev main_cst_98 : Ref sig .tc := ⟨.hbm, 664, rfl⟩
abbrev main_v527 : Ref sig .tc := ⟨.hbm, 665, rfl⟩
abbrev main_cst_99 : Ref sig .tc := ⟨.hbm, 666, rfl⟩
abbrev main_v528 : Ref sig .tc := ⟨.hbm, 667, rfl⟩
abbrev main_v529 : Ref sig .tc := ⟨.hbm, 668, rfl⟩
abbrev main_v530 : Ref sig .tc := ⟨.hbm, 669, rfl⟩
abbrev main_cst_100 : Ref sig .tc := ⟨.hbm, 670, rfl⟩
abbrev main_v531 : Ref sig .tc := ⟨.hbm, 671, rfl⟩
abbrev main_v532 : Ref sig .tc := ⟨.hbm, 672, rfl⟩
abbrev main_v533 : Ref sig .tc := ⟨.hbm, 673, rfl⟩
abbrev main_v534 : Ref sig .tc := ⟨.hbm, 674, rfl⟩
abbrev main_v535 : Ref sig .tc := ⟨.hbm, 675, rfl⟩
abbrev main_cst_101 : Ref sig .tc := ⟨.hbm, 676, rfl⟩
abbrev main_v536 : Ref sig .tc := ⟨.hbm, 677, rfl⟩
abbrev main_v537 : Ref sig .tc := ⟨.hbm, 678, rfl⟩
abbrev main_cst_102 : Ref sig .tc := ⟨.hbm, 679, rfl⟩
abbrev main_v538 : Ref sig .tc := ⟨.hbm, 680, rfl⟩
abbrev main_cst_103 : Ref sig .tc := ⟨.hbm, 681, rfl⟩
abbrev main_v539 : Ref sig .tc := ⟨.hbm, 682, rfl⟩
abbrev main_v540 : Ref sig .tc := ⟨.hbm, 683, rfl⟩
abbrev main_v541 : Ref sig .tc := ⟨.hbm, 684, rfl⟩
abbrev main_cst_104 : Ref sig .tc := ⟨.hbm, 685, rfl⟩
abbrev main_v542 : Ref sig .tc := ⟨.hbm, 686, rfl⟩
abbrev main_v543 : Ref sig .tc := ⟨.hbm, 687, rfl⟩
abbrev main_v544 : Ref sig .tc := ⟨.hbm, 688, rfl⟩
abbrev main_v545 : Ref sig .tc := ⟨.hbm, 689, rfl⟩
abbrev main_v546 : Ref sig .tc := ⟨.hbm, 690, rfl⟩
abbrev main_cst_105 : Ref sig .tc := ⟨.hbm, 691, rfl⟩
abbrev main_v547 : Ref sig .tc := ⟨.hbm, 692, rfl⟩
abbrev main_v548 : Ref sig .tc := ⟨.hbm, 693, rfl⟩
abbrev main_cst_106 : Ref sig .tc := ⟨.hbm, 694, rfl⟩
abbrev main_v549 : Ref sig .tc := ⟨.hbm, 695, rfl⟩
abbrev main_cst_107 : Ref sig .tc := ⟨.hbm, 696, rfl⟩
abbrev main_v550 : Ref sig .tc := ⟨.hbm, 697, rfl⟩
abbrev main_v551 : Ref sig .tc := ⟨.hbm, 698, rfl⟩
abbrev main_v552 : Ref sig .tc := ⟨.hbm, 699, rfl⟩
abbrev main_cst_108 : Ref sig .tc := ⟨.hbm, 700, rfl⟩
abbrev main_v553 : Ref sig .tc := ⟨.hbm, 701, rfl⟩
abbrev main_v554 : Ref sig .tc := ⟨.hbm, 702, rfl⟩
abbrev main_v555 : Ref sig .tc := ⟨.hbm, 703, rfl⟩
abbrev main_v556 : Ref sig .tc := ⟨.hbm, 704, rfl⟩
abbrev main_v557 : Ref sig .tc := ⟨.hbm, 705, rfl⟩
abbrev main_cst_109 : Ref sig .tc := ⟨.hbm, 706, rfl⟩
abbrev main_v558 : Ref sig .tc := ⟨.hbm, 707, rfl⟩
abbrev main_v559 : Ref sig .tc := ⟨.hbm, 708, rfl⟩
abbrev main_cst_110 : Ref sig .tc := ⟨.hbm, 709, rfl⟩
abbrev main_v560 : Ref sig .tc := ⟨.hbm, 710, rfl⟩
abbrev main_cst_111 : Ref sig .tc := ⟨.hbm, 711, rfl⟩
abbrev main_v561 : Ref sig .tc := ⟨.hbm, 712, rfl⟩
abbrev main_v562 : Ref sig .tc := ⟨.hbm, 713, rfl⟩
abbrev main_v563 : Ref sig .tc := ⟨.hbm, 714, rfl⟩
abbrev main_cst_112 : Ref sig .tc := ⟨.hbm, 715, rfl⟩
abbrev main_v564 : Ref sig .tc := ⟨.hbm, 716, rfl⟩
abbrev main_v565 : Ref sig .tc := ⟨.hbm, 717, rfl⟩
abbrev main_v566 : Ref sig .tc := ⟨.hbm, 718, rfl⟩
abbrev main_v567 : Ref sig .tc := ⟨.hbm, 719, rfl⟩
abbrev main_v568 : Ref sig .tc := ⟨.hbm, 720, rfl⟩
abbrev main_cst_113 : Ref sig .tc := ⟨.hbm, 721, rfl⟩
abbrev main_v569 : Ref sig .tc := ⟨.hbm, 722, rfl⟩
abbrev main_v570 : Ref sig .tc := ⟨.hbm, 723, rfl⟩
abbrev main_cst_114 : Ref sig .tc := ⟨.hbm, 724, rfl⟩
abbrev main_v571 : Ref sig .tc := ⟨.hbm, 725, rfl⟩
abbrev main_cst_115 : Ref sig .tc := ⟨.hbm, 726, rfl⟩
abbrev main_v572 : Ref sig .tc := ⟨.hbm, 727, rfl⟩
abbrev main_v573 : Ref sig .tc := ⟨.hbm, 728, rfl⟩
abbrev main_v574 : Ref sig .tc := ⟨.hbm, 729, rfl⟩
abbrev main_cst_116 : Ref sig .tc := ⟨.hbm, 730, rfl⟩
abbrev main_v575 : Ref sig .tc := ⟨.hbm, 731, rfl⟩
abbrev main_v576 : Ref sig .tc := ⟨.hbm, 732, rfl⟩
abbrev main_v577 : Ref sig .tc := ⟨.hbm, 733, rfl⟩
abbrev main_v578 : Ref sig .tc := ⟨.hbm, 734, rfl⟩
abbrev main_v579 : Ref sig .tc := ⟨.hbm, 735, rfl⟩
abbrev main_cst_117 : Ref sig .tc := ⟨.hbm, 736, rfl⟩
abbrev main_v580 : Ref sig .tc := ⟨.hbm, 737, rfl⟩
abbrev main_v581 : Ref sig .tc := ⟨.hbm, 738, rfl⟩
abbrev main_cst_118 : Ref sig .tc := ⟨.hbm, 739, rfl⟩
abbrev main_v582 : Ref sig .tc := ⟨.hbm, 740, rfl⟩
abbrev main_cst_119 : Ref sig .tc := ⟨.hbm, 741, rfl⟩
abbrev main_v583 : Ref sig .tc := ⟨.hbm, 742, rfl⟩
abbrev main_v584 : Ref sig .tc := ⟨.hbm, 743, rfl⟩
abbrev main_v585 : Ref sig .tc := ⟨.hbm, 744, rfl⟩
abbrev main_cst_120 : Ref sig .tc := ⟨.hbm, 745, rfl⟩
abbrev main_v586 : Ref sig .tc := ⟨.hbm, 746, rfl⟩
abbrev main_v587 : Ref sig .tc := ⟨.hbm, 747, rfl⟩
abbrev main_v588 : Ref sig .tc := ⟨.hbm, 748, rfl⟩
abbrev main_v589 : Ref sig .tc := ⟨.hbm, 749, rfl⟩
abbrev main_v590 : Ref sig .tc := ⟨.hbm, 750, rfl⟩
abbrev main_cst_121 : Ref sig .tc := ⟨.hbm, 751, rfl⟩
abbrev main_v591 : Ref sig .tc := ⟨.hbm, 752, rfl⟩
abbrev main_v592 : Ref sig .tc := ⟨.hbm, 753, rfl⟩
abbrev main_cst_122 : Ref sig .tc := ⟨.hbm, 754, rfl⟩
abbrev main_v593 : Ref sig .tc := ⟨.hbm, 755, rfl⟩
abbrev main_cst_123 : Ref sig .tc := ⟨.hbm, 756, rfl⟩
abbrev main_v594 : Ref sig .tc := ⟨.hbm, 757, rfl⟩
abbrev main_v595 : Ref sig .tc := ⟨.hbm, 758, rfl⟩
abbrev main_v596 : Ref sig .tc := ⟨.hbm, 759, rfl⟩
abbrev main_cst_124 : Ref sig .tc := ⟨.hbm, 760, rfl⟩
abbrev main_v597 : Ref sig .tc := ⟨.hbm, 761, rfl⟩
abbrev main_v598 : Ref sig .tc := ⟨.hbm, 762, rfl⟩
abbrev main_v599 : Ref sig .tc := ⟨.hbm, 763, rfl⟩
abbrev main_v600 : Ref sig .tc := ⟨.hbm, 764, rfl⟩
abbrev main_v601 : Ref sig .tc := ⟨.hbm, 765, rfl⟩
abbrev main_cst_125 : Ref sig .tc := ⟨.hbm, 766, rfl⟩
abbrev main_v602 : Ref sig .tc := ⟨.hbm, 767, rfl⟩
abbrev main_v603 : Ref sig .tc := ⟨.hbm, 768, rfl⟩
abbrev main_cst_126 : Ref sig .tc := ⟨.hbm, 769, rfl⟩
abbrev main_v604 : Ref sig .tc := ⟨.hbm, 770, rfl⟩
abbrev main_cst_127 : Ref sig .tc := ⟨.hbm, 771, rfl⟩
abbrev main_v605 : Ref sig .tc := ⟨.hbm, 772, rfl⟩
abbrev main_v606 : Ref sig .tc := ⟨.hbm, 773, rfl⟩
abbrev main_v607 : Ref sig .tc := ⟨.hbm, 774, rfl⟩
abbrev main_cst_128 : Ref sig .tc := ⟨.hbm, 775, rfl⟩
abbrev main_v608 : Ref sig .tc := ⟨.hbm, 776, rfl⟩
abbrev main_v609 : Ref sig .tc := ⟨.hbm, 777, rfl⟩
abbrev main_v610 : Ref sig .tc := ⟨.hbm, 778, rfl⟩
abbrev main_v611 : Ref sig .tc := ⟨.hbm, 779, rfl⟩
abbrev main_v612 : Ref sig .tc := ⟨.hbm, 780, rfl⟩
abbrev main_cst_129 : Ref sig .tc := ⟨.hbm, 781, rfl⟩
abbrev main_v613 : Ref sig .tc := ⟨.hbm, 782, rfl⟩
abbrev main_v614 : Ref sig .tc := ⟨.hbm, 783, rfl⟩
abbrev main_cst_130 : Ref sig .tc := ⟨.hbm, 784, rfl⟩
abbrev main_v615 : Ref sig .tc := ⟨.hbm, 785, rfl⟩
abbrev main_cst_131 : Ref sig .tc := ⟨.hbm, 786, rfl⟩
abbrev main_v616 : Ref sig .tc := ⟨.hbm, 787, rfl⟩
abbrev main_v617 : Ref sig .tc := ⟨.hbm, 788, rfl⟩
abbrev main_v618 : Ref sig .tc := ⟨.hbm, 789, rfl⟩
abbrev main_cst_132 : Ref sig .tc := ⟨.hbm, 790, rfl⟩
abbrev main_v619 : Ref sig .tc := ⟨.hbm, 791, rfl⟩
abbrev main_v620 : Ref sig .tc := ⟨.hbm, 792, rfl⟩
abbrev main_v621 : Ref sig .tc := ⟨.hbm, 793, rfl⟩
abbrev main_v622 : Ref sig .tc := ⟨.hbm, 794, rfl⟩
abbrev main_v623 : Ref sig .tc := ⟨.hbm, 795, rfl⟩
abbrev main_cst_133 : Ref sig .tc := ⟨.hbm, 796, rfl⟩
abbrev main_v624 : Ref sig .tc := ⟨.hbm, 797, rfl⟩
abbrev main_v625 : Ref sig .tc := ⟨.hbm, 798, rfl⟩
abbrev main_cst_134 : Ref sig .tc := ⟨.hbm, 799, rfl⟩
abbrev main_v626 : Ref sig .tc := ⟨.hbm, 800, rfl⟩
abbrev main_cst_135 : Ref sig .tc := ⟨.hbm, 801, rfl⟩
abbrev main_v627 : Ref sig .tc := ⟨.hbm, 802, rfl⟩
abbrev main_v628 : Ref sig .tc := ⟨.hbm, 803, rfl⟩
abbrev main_v629 : Ref sig .tc := ⟨.hbm, 804, rfl⟩
abbrev main_cst_136 : Ref sig .tc := ⟨.hbm, 805, rfl⟩
abbrev main_v630 : Ref sig .tc := ⟨.hbm, 806, rfl⟩
abbrev main_v631 : Ref sig .tc := ⟨.hbm, 807, rfl⟩
abbrev main_v632 : Ref sig .tc := ⟨.hbm, 808, rfl⟩
abbrev main_v633 : Ref sig .tc := ⟨.hbm, 809, rfl⟩
abbrev main_v634 : Ref sig .tc := ⟨.hbm, 810, rfl⟩
abbrev main_cst_137 : Ref sig .tc := ⟨.hbm, 811, rfl⟩
abbrev main_v635 : Ref sig .tc := ⟨.hbm, 812, rfl⟩
abbrev main_v636 : Ref sig .tc := ⟨.hbm, 813, rfl⟩
abbrev main_cst_138 : Ref sig .tc := ⟨.hbm, 814, rfl⟩
abbrev main_v637 : Ref sig .tc := ⟨.hbm, 815, rfl⟩
abbrev main_cst_139 : Ref sig .tc := ⟨.hbm, 816, rfl⟩
abbrev main_v638 : Ref sig .tc := ⟨.hbm, 817, rfl⟩
abbrev main_v639 : Ref sig .tc := ⟨.hbm, 818, rfl⟩
abbrev main_v640 : Ref sig .tc := ⟨.hbm, 819, rfl⟩
abbrev main_cst_140 : Ref sig .tc := ⟨.hbm, 820, rfl⟩
abbrev main_v641 : Ref sig .tc := ⟨.hbm, 821, rfl⟩
abbrev main_v642 : Ref sig .tc := ⟨.hbm, 822, rfl⟩
abbrev main_v643 : Ref sig .tc := ⟨.hbm, 823, rfl⟩
abbrev main_v644 : Ref sig .tc := ⟨.hbm, 824, rfl⟩
abbrev main_v645 : Ref sig .tc := ⟨.hbm, 825, rfl⟩
abbrev main_cst_141 : Ref sig .tc := ⟨.hbm, 826, rfl⟩
abbrev main_v646 : Ref sig .tc := ⟨.hbm, 827, rfl⟩
abbrev main_v647 : Ref sig .tc := ⟨.hbm, 828, rfl⟩
abbrev main_cst_142 : Ref sig .tc := ⟨.hbm, 829, rfl⟩
abbrev main_v648 : Ref sig .tc := ⟨.hbm, 830, rfl⟩
abbrev main_cst_143 : Ref sig .tc := ⟨.hbm, 831, rfl⟩
abbrev main_v649 : Ref sig .tc := ⟨.hbm, 832, rfl⟩
abbrev main_v650 : Ref sig .tc := ⟨.hbm, 833, rfl⟩
abbrev main_v651 : Ref sig .tc := ⟨.hbm, 834, rfl⟩
abbrev main_cst_144 : Ref sig .tc := ⟨.hbm, 835, rfl⟩
abbrev main_v652 : Ref sig .tc := ⟨.hbm, 836, rfl⟩
abbrev main_v653 : Ref sig .tc := ⟨.hbm, 837, rfl⟩
abbrev main_v654 : Ref sig .tc := ⟨.hbm, 838, rfl⟩
abbrev main_v655 : Ref sig .tc := ⟨.hbm, 839, rfl⟩
abbrev main_v656 : Ref sig .tc := ⟨.hbm, 840, rfl⟩
abbrev main_cst_145 : Ref sig .tc := ⟨.hbm, 841, rfl⟩
abbrev main_v657 : Ref sig .tc := ⟨.hbm, 842, rfl⟩
abbrev main_v658 : Ref sig .tc := ⟨.hbm, 843, rfl⟩
abbrev main_cst_146 : Ref sig .tc := ⟨.hbm, 844, rfl⟩
abbrev main_v659 : Ref sig .tc := ⟨.hbm, 845, rfl⟩
abbrev main_cst_147 : Ref sig .tc := ⟨.hbm, 846, rfl⟩
abbrev main_v660 : Ref sig .tc := ⟨.hbm, 847, rfl⟩
abbrev main_v661 : Ref sig .tc := ⟨.hbm, 848, rfl⟩
abbrev main_v662 : Ref sig .tc := ⟨.hbm, 849, rfl⟩
abbrev main_cst_148 : Ref sig .tc := ⟨.hbm, 850, rfl⟩
abbrev main_v663 : Ref sig .tc := ⟨.hbm, 851, rfl⟩
abbrev main_v664 : Ref sig .tc := ⟨.hbm, 852, rfl⟩
abbrev main_v665 : Ref sig .tc := ⟨.hbm, 853, rfl⟩
abbrev main_v666 : Ref sig .tc := ⟨.hbm, 854, rfl⟩
abbrev main_v667 : Ref sig .tc := ⟨.hbm, 855, rfl⟩
abbrev main_v668 : Ref sig .tc := ⟨.hbm, 856, rfl⟩
abbrev main_v669 : Ref sig .tc := ⟨.hbm, 857, rfl⟩
abbrev main_v670 : Ref sig .tc := ⟨.hbm, 858, rfl⟩
abbrev main_cst_149 : Ref sig .tc := ⟨.hbm, 859, rfl⟩
abbrev main_v671 : Ref sig .tc := ⟨.hbm, 860, rfl⟩
abbrev main_v672 : Ref sig .tc := ⟨.hbm, 861, rfl⟩
abbrev main_v673 : Ref sig .tc := ⟨.hbm, 862, rfl⟩
abbrev main_v674 : Ref sig .tc := ⟨.hbm, 863, rfl⟩
abbrev main_v675 : Ref sig .tc := ⟨.hbm, 864, rfl⟩
abbrev main_v676 : Ref sig .tc := ⟨.hbm, 865, rfl⟩

abbrev nD : Nat := 1
abbrev τ : Topo := Topo.v7x

variable {F : FTy → Type} [FloatOps F]
-- ==== KernelProj.lean ====
abbrev S4096x1024 : Shape := ⟨2, ![4096, 1024]⟩
abbrev S1024 : Shape := ⟨1, ![1024]⟩
abbrev S1024x3336 : Shape := ⟨2, ![1024, 3336]⟩
abbrev S4096x3336 : Shape := ⟨2, ![4096, 3336]⟩
abbrev S1024x834 : Shape := ⟨2, ![1024, 834]⟩
abbrev S1024x570 : Shape := ⟨2, ![1024, 570]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x3456 : Shape := ⟨2, ![1024, 3456]⟩
abbrev S4096x834 : Shape := ⟨2, ![4096, 834]⟩
abbrev S4096x570 : Shape := ⟨2, ![4096, 570]⟩
abbrev S4096x256 : Shape := ⟨2, ![4096, 256]⟩
abbrev S4096x8 : Shape := ⟨2, ![4096, 8]⟩
abbrev S4096x120 : Shape := ⟨2, ![4096, 120]⟩
abbrev S4096x3456 : Shape := ⟨2, ![4096, 3456]⟩
abbrev S4096x768 : Shape := ⟨2, ![4096, 768]⟩
abbrev S4096x512 : Shape := ⟨2, ![4096, 512]⟩
abbrev S4096x1152 : Shape := ⟨2, ![4096, 1152]⟩
abbrev S1x1024 : Shape := ⟨2, ![1, 1024]⟩
abbrev S256x1024 : Shape := ⟨2, ![256, 1024]⟩
abbrev S256x768 : Shape := ⟨2, ![256, 768]⟩
abbrev S256x512 : Shape := ⟨2, ![256, 512]⟩
abbrev S256x1152 : Shape := ⟨2, ![256, 1152]⟩
abbrev S1024x768 : Shape := ⟨2, ![1024, 768]⟩
abbrev S1024x512 : Shape := ⟨2, ![1024, 512]⟩
abbrev S1024x1024 : Shape := ⟨2, ![1024, 1024]⟩
abbrev S1024x1152 : Shape := ⟨2, ![1024, 1152]⟩
abbrev S256 : Shape := ⟨1, ![256]⟩
abbrev S256x1 : Shape := ⟨2, ![256, 1]⟩

abbrev nBuf : Space → Nat
  | .hbm => 36
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3336, .f32⟩
  | .hbm, ⟨3, _⟩ => ⟨S4096x3336, .f32⟩
  | .hbm, ⟨4, _⟩ => ⟨S4096x1024, .f32⟩
  | .hbm, ⟨5, _⟩ => ⟨S1024x3336, .bf16⟩
  | .hbm, ⟨6, _⟩ => ⟨S1024x834, .bf16⟩
  | .hbm, ⟨7, _⟩ => ⟨S1024x3336, .bf16⟩
  | .hbm, ⟨8, _⟩ => ⟨S1024x834, .bf16⟩
  | .hbm, ⟨9, _⟩ => ⟨S1024x3336, .bf16⟩
  | .hbm, ⟨10, _⟩ => ⟨S1024x834, .bf16⟩
  | .hbm, ⟨11, _⟩ => ⟨S1024x3336, .bf16⟩
  | .hbm, ⟨12, _⟩ => ⟨S1024x834, .bf16⟩
  | .hbm, ⟨13, _⟩ => ⟨S1024x570, .bf16⟩
  | .hbm, ⟨14, _⟩ => ⟨S1024x256, .bf16⟩
  | .hbm, ⟨15, _⟩ => ⟨S1024x8, .bf16⟩
  | .hbm, ⟨16, _⟩ => ⟨S_, .bf16⟩
  | .hbm, ⟨17, _⟩ => ⟨S1024x120, .bf16⟩
  | .hbm, ⟨18, _⟩ => ⟨S1024x3456, .bf16⟩
  | .hbm, ⟨19, _⟩ => ⟨S4096x834, .f32⟩
  | .hbm, ⟨20, _⟩ => ⟨S4096x834, .f32⟩
  | .hbm, ⟨21, _⟩ => ⟨S4096x834, .f32⟩
  | .hbm, ⟨22, _⟩ => ⟨S4096x834, .f32⟩
  | .hbm, ⟨23, _⟩ => ⟨S4096x570, .f32⟩
  | .hbm, ⟨24, _⟩ => ⟨S4096x256, .f32⟩
  | .hbm, ⟨25, _⟩ => ⟨S4096x8, .f32⟩
  | .hbm, ⟨26, _⟩ => ⟨S_, .f32⟩
  | .hbm, ⟨27, _⟩ => ⟨S4096x120, .f32⟩
  | .hbm, ⟨28, _⟩ => ⟨S4096x3456, .f32⟩
  | .hbm, ⟨29, _⟩ => ⟨S4096x768, .f32⟩
  | .hbm, ⟨30, _⟩ => ⟨S4096x512, .f32⟩
  | .hbm, ⟨31, _⟩ => ⟨S4096x1024, .f32⟩
  | .hbm, ⟨32, _⟩ => ⟨S4096x1152, .f32⟩
  | .hbm, ⟨33, _⟩ => ⟨S1x1024, .f32⟩
  | .hbm, ⟨34, _⟩ => ⟨S4096x1024, .f32⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x768, .f32⟩
  | .local _ .vmem, ⟨4, _⟩ => ⟨S256x768, .f32⟩
  | .local _ .vmem, ⟨5, _⟩ => ⟨S256x512, .f32⟩
  | .local _ .vmem, ⟨6, _⟩ => ⟨S256x512, .f32⟩
  | .local _ .vmem, ⟨7, _⟩ => ⟨S256x1024, .f32⟩
  | .local _ .vmem, ⟨8, _⟩ => ⟨S256x1024, .f32⟩
  | .local _ .vmem, ⟨9, _⟩ => ⟨S256x1152, .f32⟩
  | .local _ .vmem, ⟨10, _⟩ => ⟨S256x1152, .f32⟩
  | .local _ .vmem, ⟨11, _⟩ => ⟨S1024x3456, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceProjIdeal.lean ====
abbrev S4096x1024 : Shape := ⟨2, ![4096, 1024]⟩
abbrev S1024 : Shape := ⟨1, ![1024]⟩
abbrev S1024x3336 : Shape := ⟨2, ![1024, 3336]⟩
abbrev S4096x3336 : Shape := ⟨2, ![4096, 3336]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3336, .f32⟩
  | .hbm, ⟨3, _⟩ => ⟨S4096x3336, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3336, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelCFwd.lean ====
abbrev S4096x3336 : Shape := ⟨2, ![4096, 3336]⟩
abbrev S3x256 : Shape := ⟨2, ![3, 256]⟩
abbrev S4096x834 : Shape := ⟨2, ![4096, 834]⟩
abbrev S4096x570 : Shape := ⟨2, ![4096, 570]⟩
abbrev S4096x256 : Shape := ⟨2, ![4096, 256]⟩
abbrev S4096x8 : Shape := ⟨2, ![4096, 8]⟩
abbrev S_ : Shape := ⟨0, ![]⟩
abbrev S4096x120 : Shape := ⟨2, ![4096, 120]⟩
abbrev S4096x3456 : Shape := ⟨2, ![4096, 3456]⟩
abbrev S8x256 : Shape := ⟨2, ![8, 256]⟩
abbrev S256x256 : Shape := ⟨2, ![256, 256]⟩
abbrev S256x512 : Shape := ⟨2, ![256, 512]⟩
abbrev S8x512 : Shape := ⟨2, ![8, 512]⟩
abbrev S264x256 : Shape := ⟨2, ![264, 256]⟩
abbrev S1x256 : Shape := ⟨2, ![1, 256]⟩

abbrev nBuf : Space → Nat
  | .hbm => 16
  | .vmem => 11
  | .smem => 0
  | _ => 0

abbrev bufTy : (tb : Table) → Fin (tcTables nBuf tb) → BufTy
  | .hbm, ⟨0, _⟩ => ⟨S4096x3336, .f32⟩
  | .hbm, ⟨1, _⟩ => ⟨S3x256, .f32⟩
  | .hbm, ⟨2, _⟩ => ⟨S4096x834, .f32⟩
  | .hbm, ⟨3, _⟩ => ⟨S4096x834, .f32⟩
  | .hbm, ⟨4, _⟩ => ⟨S4096x834, .f32⟩
  | .hbm, ⟨5, _⟩ => ⟨S4096x834, .f32⟩
  | .hbm, ⟨6, _⟩ => ⟨S4096x570, .f32⟩
  | .hbm, ⟨7, _⟩ => ⟨S4096x256, .f32⟩
  | .hbm, ⟨8, _⟩ => ⟨S4096x8, .f32⟩
  | .hbm, ⟨9, _⟩ => ⟨S_, .f32⟩
  | .hbm, ⟨10, _⟩ => ⟨S4096x120, .f32⟩
  | .hbm, ⟨11, _⟩ => ⟨S4096x3456, .f32⟩
  | .hbm, ⟨12, _⟩ => ⟨S_, .i32⟩
  | .hbm, ⟨13, _⟩ => ⟨S_, .f32⟩
  | .hbm, ⟨14, _⟩ => ⟨S8x256, .f32⟩
  | .hbm, ⟨15, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S8x512, .f32⟩
  | .local _ .vmem, ⟨7, _⟩ => ⟨S8x512, .f32⟩
  | .local _ .vmem, ⟨8, _⟩ => ⟨S8x256, .f32⟩
  | .local _ .vmem, ⟨9, _⟩ => ⟨S256x256, .f32⟩
  | .local _ .vmem, ⟨10, _⟩ => ⟨S256x256, .f32⟩
  | _, _ => ⟨S4096x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceCFwdIdeal.lean ====
abbrev S4096x3336 : Shape := ⟨2, ![4096, 3336]⟩
abbrev S3x256 : Shape := ⟨2, ![3, 256]⟩
abbrev S4096x256 : Shape := ⟨2, ![4096, 256]⟩
abbrev S4096x4 : Shape := ⟨2, ![4096, 4]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S256 : Shape := ⟨1, ![256]⟩

abbrev nBuf : Space → Nat
  | .hbm => 55
  | .vmem => 0
  | .smem => 0
  | _ => 0

abbrev bufTy : (tb : Table) → Fin (tcTables nBuf tb) → BufTy
  | .hbm, ⟨0, _⟩ => ⟨S4096x3336, .f32⟩
  | .hbm, ⟨1, _⟩ => ⟨S3x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x4, .f32⟩
  | .hbm, ⟨15, _⟩ => ⟨S4096x4, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S2x256, .f32⟩
  | .hbm, ⟨20, _⟩ => ⟨S4098x256, .f32⟩
  | .hbm, ⟨21, _⟩ => ⟨S1x256, .f32⟩
  | .hbm, ⟨22, _⟩ => ⟨S256, .f32⟩
  | .hbm, ⟨23, _⟩ => ⟨S4096x256, .f32⟩
  | .hbm, ⟨24, _⟩ => ⟨S1x256, .f32⟩
  | .hbm, ⟨25, _⟩ => ⟨S4096x256, .f32⟩
  | .hbm, ⟨26, _⟩ => ⟨S4096x256, .f32⟩
  | .hbm, ⟨27, _⟩ => ⟨S_, .f32⟩
  | .hbm, ⟨28, _⟩ => ⟨S4096x256, .f32⟩
  | .hbm, ⟨29, _⟩ => ⟨S4096x256, .f32⟩
  | .hbm, ⟨30, _⟩ => ⟨S1x256, .f32⟩
  | .hbm, ⟨31, _⟩ => ⟨S256, .f32⟩
  | .hbm, ⟨32, _⟩ => ⟨S4096x256, .f32⟩
  | .hbm, ⟨33, _⟩ => ⟨S1x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S1x256, .f32⟩
  | .hbm, ⟨38, _⟩ => ⟨S256, .f32⟩
  | .hbm, ⟨39, _⟩ => ⟨S4096x256, .f32⟩
  | .hbm, ⟨40, _⟩ => ⟨S1x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S_, .f32⟩
  | .hbm, ⟨48, _⟩ => ⟨S4096x256, .f32⟩
  | .hbm, ⟨49, _⟩ => ⟨S4096x256, .f32⟩
  | .hbm, ⟨50, _⟩ => ⟨S_, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S4096x256, .f32⟩
  | _, _ => ⟨S4096x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== KernelAFwd.lean ====
abbrev S4096x3336 : Shape := ⟨2, ![4096, 3336]⟩
abbrev S31x256 : Shape := ⟨2, ![31, 256]⟩
abbrev S256 : Shape := ⟨1, ![256]⟩
abbrev S256x256 : Shape := ⟨2, ![256, 256]⟩
abbrev S4096x834 : Shape := ⟨2, ![4096, 834]⟩
abbrev S4096x570 : Shape := ⟨2, ![4096, 570]⟩
abbrev S4096x256 : Shape := ⟨2, ![4096, 256]⟩
abbrev S4096x8 : Shape := ⟨2, ![4096, 8]⟩
abbrev S_ : Shape := ⟨0, ![]⟩
abbrev S4096x120 : Shape := ⟨2, ![4096, 120]⟩
abbrev S4096x3456 : Shape := ⟨2, ![4096, 3456]⟩
abbrev S32x256 : Shape := ⟨2, ![32, 256]⟩
abbrev S1x256 : Shape := ⟨2, ![1, 256]⟩
abbrev S256x512 : Shape := ⟨2, ![256, 512]⟩
abbrev S32x512 : Shape := ⟨2, ![32, 512]⟩
abbrev S288x256 : Shape := ⟨2, ![288, 256]⟩
abbrev S256x1 : Shape := ⟨2, ![256, 1]⟩

abbrev nBuf : Space → Nat
  | .hbm => 26
  | .vmem => 16
  | .smem => 0
  | _ => 0

abbrev bufTy : (tb : Table) → Fin (tcTables nBuf tb) → BufTy
  | .hbm, ⟨0, _⟩ => ⟨S4096x3336, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4096x834, .f32⟩
  | .hbm, ⟨8, _⟩ => ⟨S4096x834, .f32⟩
  | .hbm, ⟨9, _⟩ => ⟨S4096x834, .f32⟩
  | .hbm, ⟨10, _⟩ => ⟨S4096x834, .f32⟩
  | .hbm, ⟨11, _⟩ => ⟨S4096x570, .f32⟩
  | .hbm, ⟨12, _⟩ => ⟨S4096x256, .f32⟩
  | .hbm, ⟨13, _⟩ => ⟨S4096x8, .f32⟩
  | .hbm, ⟨14, _⟩ => ⟨S_, .f32⟩
  | .hbm, ⟨15, _⟩ => ⟨S4096x120, .f32⟩
  | .hbm, ⟨16, _⟩ => ⟨S4096x3456, .f32⟩
  | .hbm, ⟨17, _⟩ => ⟨S_, .i32⟩
  | .hbm, ⟨18, _⟩ => ⟨S_, .f32⟩
  | .hbm, ⟨19, _⟩ => ⟨S32x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S4096x256, .f32⟩
  | .hbm, ⟨25, _⟩ => ⟨S4096x256, .f32⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S32x512, .f32⟩
  | .local _ .vmem, ⟨5, _⟩ => ⟨S32x512, .f32⟩
  | .local _ .vmem, ⟨6, _⟩ => ⟨S32x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S4096x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceAFwdIdeal.lean ====
abbrev S4096x3336 : Shape := ⟨2, ![4096, 3336]⟩
abbrev S31x256 : Shape := ⟨2, ![31, 256]⟩
abbrev S256 : Shape := ⟨1, ![256]⟩
abbrev S256x256 : Shape := ⟨2, ![256, 256]⟩
abbrev S4096x256 : Shape := ⟨2, ![4096, 256]⟩
abbrev S4096x4 : Shape := ⟨2, ![4096, 4]⟩
abbrev S_ : Shape := ⟨0, ![]⟩
abbrev S30x256 : Shape := ⟨2, ![30, 256]⟩
abbrev S4126x256 : Shape := ⟨2, ![4126, 256]⟩
abbrev S1x256 : Shape := ⟨2, ![1, 256]⟩
abbrev S4096 : Shape := ⟨1, ![4096]⟩
abbrev S4096x1 : Shape := ⟨2, ![4096, 1]⟩

abbrev nBuf : Space → Nat
  | .hbm => 537
  | .vmem => 0
  | .smem => 0
  | _ => 0

abbrev hbmTy0_0 (i : Nat) : BufTy := match i % 128 with
  | 0 => ⟨S4096x3336, .f32⟩
  | 1 => ⟨S31x256, .f32⟩
  | 2 => ⟨S256, .f32⟩
  | 3 => ⟨S256, .f32⟩
  | 4 => ⟨S256, .f32⟩
  | 5 => ⟨S256x256, .f32⟩
  | 6 => ⟨S256, .f32⟩
  | 7 => ⟨S4096x256, .f32⟩
  | 8 => ⟨S4096x256, .f32⟩
  | 9 => ⟨S4096x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S4096x256, .f32⟩
  | 16 => ⟨S4096x256, .f32⟩
  | 17 => ⟨S4096x256, .f32⟩
  | 18 => ⟨S4096x256, .f32⟩
  | 19 => ⟨S4096x4, .f32⟩
  | 20 => ⟨S4096x4, .f32⟩
  | 21 => ⟨S4096x256, .f32⟩
  | 22 => ⟨S4096x256, .f32⟩
  | 23 => ⟨S4096x256, .f32⟩
  | 24 => ⟨S_, .f32⟩
  | 25 => ⟨S4096x256, .f32⟩
  | 26 => ⟨S4096x256, .f32⟩
  | 27 => ⟨S_, .f32⟩
  | 28 => ⟨S4096x256, .f32⟩
  | 29 => ⟨S4096x256, .f32⟩
  | 30 => ⟨S4096x256, .f32⟩
  | 31 => ⟨S_, .f32⟩
  | 32 => ⟨S30x256, .f32⟩
  | 33 => ⟨S4126x256, .f32⟩
  | 34 => ⟨S1x256, .f32⟩
  | 35 => ⟨S256, .f32⟩
  | 36 => ⟨S4096x256, .f32⟩
  | 37 => ⟨S1x256, .f32⟩
  | 38 => ⟨S4096x256, .f32⟩
  | 39 => ⟨S4096x256, .f32⟩
  | 40 => ⟨S_, .f32⟩
  | 41 => ⟨S4096x256, .f32⟩
  | 42 => ⟨S4096x256, .f32⟩
  | 43 => ⟨S1x256, .f32⟩
  | 44 => ⟨S256, .f32⟩
  | 45 => ⟨S4096x256, .f32⟩
  | 46 => ⟨S1x256, .f32⟩
  | 47 => ⟨S4096x256, .f32⟩
  | 48 => ⟨S4096x256, .f32⟩
  | 49 => ⟨S4096x256, .f32⟩
  | 50 => ⟨S1x256, .f32⟩
  | 51 => ⟨S256, .f32⟩
  | 52 => ⟨S4096x256, .f32⟩
  | 53 => ⟨S1x256, .f32⟩
  | 54 => ⟨S4096x256, .f32⟩
  | 55 => ⟨S4096x256, .f32⟩
  | 56 => ⟨S4096x256, .f32⟩
  | 57 => ⟨S1x256, .f32⟩
  | 58 => ⟨S256, .f32⟩
  | 59 => ⟨S4096x256, .f32⟩
  | 60 => ⟨S1x256, .f32⟩
  | 61 => ⟨S4096x256, .f32⟩
  | 62 => ⟨S4096x256, .f32⟩
  | 63 => ⟨S4096x256, .f32⟩
  | 64 => ⟨S1x256, .f32⟩
  | 65 => ⟨S256, .f32⟩
  | 66 => ⟨S4096x256, .f32⟩
  | 67 => ⟨S1x256, .f32⟩
  | 68 => ⟨S4096x256, .f32⟩
  | 69 => ⟨S4096x256, .f32⟩
  | 70 => ⟨S4096x256, .f32⟩
  | 71 => ⟨S1x256, .f32⟩
  | 72 => ⟨S256, .f32⟩
  | 73 => ⟨S4096x256, .f32⟩
  | 74 => ⟨S1x256, .f32⟩
  | 75 => ⟨S4096x256, .f32⟩
  | 76 => ⟨S4096x256, .f32⟩
  | 77 => ⟨S4096x256, .f32⟩
  | 78 => ⟨S1x256, .f32⟩
  | 79 => ⟨S256, .f32⟩
  | 80 => ⟨S4096x256, .f32⟩
  | 81 => ⟨S1x256, .f32⟩
  | 82 => ⟨S4096x256, .f32⟩
  | 83 => ⟨S4096x256, .f32⟩
  | 84 => ⟨S4096x256, .f32⟩
  | 85 => ⟨S1x256, .f32⟩
  | 86 => ⟨S256, .f32⟩
  | 87 => ⟨S4096x256, .f32⟩
  | 88 => ⟨S1x256, .f32⟩
  | 89 => ⟨S4096x256, .f32⟩
  | 90 => ⟨S4096x256, .f32⟩
  | 91 => ⟨S4096x256, .f32⟩
  | 92 => ⟨S1x256, .f32⟩
  | 93 => ⟨S256, .f32⟩
  | 94 => ⟨S4096x256, .f32⟩
  | 95 => ⟨S1x256, .f32⟩
  | 96 => ⟨S4096x256, .f32⟩
  | 97 => ⟨S4096x256, .f32⟩
  | 98 => ⟨S4096x256, .f32⟩
  | 99 => ⟨S1x256, .f32⟩
  | 100 => ⟨S256, .f32⟩
  | 101 => ⟨S4096x256, .f32⟩
  | 102 => ⟨S1x256, .f32⟩
  | 103 => ⟨S4096x256, .f32⟩
  | 104 => ⟨S4096x256, .f32⟩
  | 105 => ⟨S4096x256, .f32⟩
  | 106 => ⟨S1x256, .f32⟩
  | 107 => ⟨S256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S1x256, .f32⟩
  | 114 => ⟨S256, .f32⟩
  | 115 => ⟨S4096x256, .f32⟩
  | 116 => ⟨S1x256, .f32⟩
  | 117 => ⟨S4096x256, .f32⟩
  | 118 => ⟨S4096x256, .f32⟩
  | 119 => ⟨S4096x256, .f32⟩
  | 120 => ⟨S1x256, .f32⟩
  | 121 => ⟨S256, .f32⟩
  | 122 => ⟨S4096x256, .f32⟩
  | 123 => ⟨S1x256, .f32⟩
  | 124 => ⟨S4096x256, .f32⟩
  | 125 => ⟨S4096x256, .f32⟩
  | 126 => ⟨S4096x256, .f32⟩
  | 127 => ⟨S1x256, .f32⟩
  | _ => ⟨S4096x3336, .f32⟩

abbrev hbmTy0_1 (i : Nat) : BufTy := match i % 128 with
  | 0 => ⟨S256, .f32⟩
  | 1 => ⟨S4096x256, .f32⟩
  | 2 => ⟨S1x256, .f32⟩
  | 3 => ⟨S4096x256, .f32⟩
  | 4 => ⟨S4096x256, .f32⟩
  | 5 => ⟨S4096x256, .f32⟩
  | 6 => ⟨S1x256, .f32⟩
  | 7 => ⟨S256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S1x256, .f32⟩
  | 14 => ⟨S256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S1x256, .f32⟩
  | 21 => ⟨S256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S1x256, .f32⟩
  | 28 => ⟨S256, .f32⟩
  | 29 => ⟨S4096x256, .f32⟩
  | 30 => ⟨S1x256, .f32⟩
  | 31 => ⟨S4096x256, .f32⟩
  | 32 => ⟨S4096x256, .f32⟩
  | 33 => ⟨S4096x256, .f32⟩
  | 34 => ⟨S1x256, .f32⟩
  | 35 => ⟨S256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S1x256, .f32⟩
  | 42 => ⟨S256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S1x256, .f32⟩
  | 49 => ⟨S256, .f32⟩
  | 50 => ⟨S4096x256, .f32⟩
  | 51 => ⟨S1x256, .f32⟩
  | 52 => ⟨S4096x256, .f32⟩
  | 53 => ⟨S4096x256, .f32⟩
  | 54 => ⟨S4096x256, .f32⟩
  | 55 => ⟨S1x256, .f32⟩
  | 56 => ⟨S256, .f32⟩
  | 57 => ⟨S4096x256, .f32⟩
  | 58 => ⟨S1x256, .f32⟩
  | 59 => ⟨S4096x256, .f32⟩
  | 60 => ⟨S4096x256, .f32⟩
  | 61 => ⟨S4096x256, .f32⟩
  | 62 => ⟨S1x256, .f32⟩
  | 63 => ⟨S256, .f32⟩
  | 64 => ⟨S4096x256, .f32⟩
  | 65 => ⟨S1x256, .f32⟩
  | 66 => ⟨S4096x256, .f32⟩
  | 67 => ⟨S4096x256, .f32⟩
  | 68 => ⟨S4096x256, .f32⟩
  | 69 => ⟨S1x256, .f32⟩
  | 70 => ⟨S256, .f32⟩
  | 71 => ⟨S4096x256, .f32⟩
  | 72 => ⟨S1x256, .f32⟩
  | 73 => ⟨S4096x256, .f32⟩
  | 74 => ⟨S4096x256, .f32⟩
  | 75 => ⟨S4096x256, .f32⟩
  | 76 => ⟨S1x256, .f32⟩
  | 77 => ⟨S256, .f32⟩
  | 78 => ⟨S4096x256, .f32⟩
  | 79 => ⟨S1x256, .f32⟩
  | 80 => ⟨S4096x256, .f32⟩
  | 81 => ⟨S4096x256, .f32⟩
  | 82 => ⟨S4096x256, .f32⟩
  | 83 => ⟨S1x256, .f32⟩
  | 84 => ⟨S256, .f32⟩
  | 85 => ⟨S4096x256, .f32⟩
  | 86 => ⟨S1x256, .f32⟩
  | 87 => ⟨S4096x256, .f32⟩
  | 88 => ⟨S4096x256, .f32⟩
  | 89 => ⟨S4096x256, .f32⟩
  | 90 => ⟨S1x256, .f32⟩
  | 91 => ⟨S256, .f32⟩
  | 92 => ⟨S4096x256, .f32⟩
  | 93 => ⟨S1x256, .f32⟩
  | 94 => ⟨S4096x256, .f32⟩
  | 95 => ⟨S4096x256, .f32⟩
  | 96 => ⟨S4096x256, .f32⟩
  | 97 => ⟨S1x256, .f32⟩
  | 98 => ⟨S256, .f32⟩
  | 99 => ⟨S4096x256, .f32⟩
  | 100 => ⟨S1x256, .f32⟩
  | 101 => ⟨S4096x256, .f32⟩
  | 102 => ⟨S4096x256, .f32⟩
  | 103 => ⟨S4096x256, .f32⟩
  | 104 => ⟨S1x256, .f32⟩
  | 105 => ⟨S256, .f32⟩
  | 106 => ⟨S4096x256, .f32⟩
  | 107 => ⟨S1x256, .f32⟩
  | 108 => ⟨S4096x256, .f32⟩
  | 109 => ⟨S4096x256, .f32⟩
  | 110 => ⟨S4096x256, .f32⟩
  | 111 => ⟨S1x256, .f32⟩
  | 112 => ⟨S256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S1x256, .f32⟩
  | 119 => ⟨S256, .f32⟩
  | 120 => ⟨S4096x256, .f32⟩
  | 121 => ⟨S1x256, .f32⟩
  | 122 => ⟨S4096x256, .f32⟩
  | 123 => ⟨S4096x256, .f32⟩
  | 124 => ⟨S4096x256, .f32⟩
  | 125 => ⟨S1x256, .f32⟩
  | 126 => ⟨S4096x256, .f32⟩
  | 127 => ⟨S4096x256, .f32⟩
  | _ => ⟨S4096x3336, .f32⟩

abbrev hbmTy0_2 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S4096x256, .f32⟩
  | 7 => ⟨S4096x256, .f32⟩
  | 8 => ⟨S4096x256, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x256, .f32⟩
  | 20 => ⟨S4096x256, .f32⟩
  | 21 => ⟨S1x256, .f32⟩
  | 22 => ⟨S4096x256, .f32⟩
  | 23 => ⟨S4096x256, .f32⟩
  | 24 => ⟨S1x256, .f32⟩
  | 25 => ⟨S4096x256, .f32⟩
  | 26 => ⟨S4096x256, .f32⟩
  | 27 => ⟨S4096x256, .f32⟩
  | 28 => ⟨S4096x256, .f32⟩
  | 29 => ⟨S_, .f32⟩
  | 30 => ⟨S4096x256, .f32⟩
  | 31 => ⟨S4096x256, .f32⟩
  | 32 => ⟨S_, .f32⟩
  | 33 => ⟨S4096x256, .f32⟩
  | 34 => ⟨S4096x256, .f32⟩
  | 35 => ⟨S4096x256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S4096x256, .f32⟩
  | 42 => ⟨S_, .f32⟩
  | 43 => ⟨S4096x256, .f32⟩
  | 44 => ⟨S4096x256, .f32⟩
  | 45 => ⟨S_, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S4096x256, .f32⟩
  | 52 => ⟨S_, .f32⟩
  | 53 => ⟨S4096x256, .f32⟩
  | 54 => ⟨S4096x256, .f32⟩
  | 55 => ⟨S_, .f32⟩
  | 56 => ⟨S4096x256, .f32⟩
  | 57 => ⟨S4096x256, .f32⟩
  | 58 => ⟨S4096x256, .f32⟩
  | 59 => ⟨S_, .f32⟩
  | 60 => ⟨S30x256, .f32⟩
  | 61 => ⟨S4126x256, .f32⟩
  | 62 => ⟨S1x256, .f32⟩
  | 63 => ⟨S256, .f32⟩
  | 64 => ⟨S4096x256, .f32⟩
  | 65 => ⟨S1x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S1x256, .f32⟩
  | 72 => ⟨S256, .f32⟩
  | 73 => ⟨S4096x256, .f32⟩
  | 74 => ⟨S1x256, .f32⟩
  | 75 => ⟨S4096x256, .f32⟩
  | 76 => ⟨S4096x256, .f32⟩
  | 77 => ⟨S4096x256, .f32⟩
  | 78 => ⟨S1x256, .f32⟩
  | 79 => ⟨S256, .f32⟩
  | 80 => ⟨S4096x256, .f32⟩
  | 81 => ⟨S1x256, .f32⟩
  | 82 => ⟨S4096x256, .f32⟩
  | 83 => ⟨S4096x256, .f32⟩
  | 84 => ⟨S4096x256, .f32⟩
  | 85 => ⟨S1x256, .f32⟩
  | 86 => ⟨S256, .f32⟩
  | 87 => ⟨S4096x256, .f32⟩
  | 88 => ⟨S1x256, .f32⟩
  | 89 => ⟨S4096x256, .f32⟩
  | 90 => ⟨S4096x256, .f32⟩
  | 91 => ⟨S4096x256, .f32⟩
  | 92 => ⟨S1x256, .f32⟩
  | 93 => ⟨S256, .f32⟩
  | 94 => ⟨S4096x256, .f32⟩
  | 95 => ⟨S1x256, .f32⟩
  | 96 => ⟨S4096x256, .f32⟩
  | 97 => ⟨S4096x256, .f32⟩
  | 98 => ⟨S4096x256, .f32⟩
  | 99 => ⟨S1x256, .f32⟩
  | 100 => ⟨S256, .f32⟩
  | 101 => ⟨S4096x256, .f32⟩
  | 102 => ⟨S1x256, .f32⟩
  | 103 => ⟨S4096x256, .f32⟩
  | 104 => ⟨S4096x256, .f32⟩
  | 105 => ⟨S4096x256, .f32⟩
  | 106 => ⟨S1x256, .f32⟩
  | 107 => ⟨S256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S1x256, .f32⟩
  | 114 => ⟨S256, .f32⟩
  | 115 => ⟨S4096x256, .f32⟩
  | 116 => ⟨S1x256, .f32⟩
  | 117 => ⟨S4096x256, .f32⟩
  | 118 => ⟨S4096x256, .f32⟩
  | 119 => ⟨S4096x256, .f32⟩
  | 120 => ⟨S1x256, .f32⟩
  | 121 => ⟨S256, .f32⟩
  | 122 => ⟨S4096x256, .f32⟩
  | 123 => ⟨S1x256, .f32⟩
  | 124 => ⟨S4096x256, .f32⟩
  | 125 => ⟨S4096x256, .f32⟩
  | 126 => ⟨S4096x256, .f32⟩
  | 127 => ⟨S1x256, .f32⟩
  | _ => ⟨S4096x3336, .f32⟩

abbrev hbmTy0_3 (i : Nat) : BufTy := match i % 128 with
  | 0 => ⟨S256, .f32⟩
  | 1 => ⟨S4096x256, .f32⟩
  | 2 => ⟨S1x256, .f32⟩
  | 3 => ⟨S4096x256, .f32⟩
  | 4 => ⟨S4096x256, .f32⟩
  | 5 => ⟨S4096x256, .f32⟩
  | 6 => ⟨S1x256, .f32⟩
  | 7 => ⟨S256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S1x256, .f32⟩
  | 14 => ⟨S256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S1x256, .f32⟩
  | 21 => ⟨S256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S1x256, .f32⟩
  | 28 => ⟨S256, .f32⟩
  | 29 => ⟨S4096x256, .f32⟩
  | 30 => ⟨S1x256, .f32⟩
  | 31 => ⟨S4096x256, .f32⟩
  | 32 => ⟨S4096x256, .f32⟩
  | 33 => ⟨S4096x256, .f32⟩
  | 34 => ⟨S1x256, .f32⟩
  | 35 => ⟨S256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S1x256, .f32⟩
  | 42 => ⟨S256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S1x256, .f32⟩
  | 49 => ⟨S256, .f32⟩
  | 50 => ⟨S4096x256, .f32⟩
  | 51 => ⟨S1x256, .f32⟩
  | 52 => ⟨S4096x256, .f32⟩
  | 53 => ⟨S4096x256, .f32⟩
  | 54 => ⟨S4096x256, .f32⟩
  | 55 => ⟨S1x256, .f32⟩
  | 56 => ⟨S256, .f32⟩
  | 57 => ⟨S4096x256, .f32⟩
  | 58 => ⟨S1x256, .f32⟩
  | 59 => ⟨S4096x256, .f32⟩
  | 60 => ⟨S4096x256, .f32⟩
  | 61 => ⟨S4096x256, .f32⟩
  | 62 => ⟨S1x256, .f32⟩
  | 63 => ⟨S256, .f32⟩
  | 64 => ⟨S4096x256, .f32⟩
  | 65 => ⟨S1x256, .f32⟩
  | 66 => ⟨S4096x256, .f32⟩
  | 67 => ⟨S4096x256, .f32⟩
  | 68 => ⟨S4096x256, .f32⟩
  | 69 => ⟨S1x256, .f32⟩
  | 70 => ⟨S256, .f32⟩
  | 71 => ⟨S4096x256, .f32⟩
  | 72 => ⟨S1x256, .f32⟩
  | 73 => ⟨S4096x256, .f32⟩
  | 74 => ⟨S4096x256, .f32⟩
  | 75 => ⟨S4096x256, .f32⟩
  | 76 => ⟨S1x256, .f32⟩
  | 77 => ⟨S256, .f32⟩
  | 78 => ⟨S4096x256, .f32⟩
  | 79 => ⟨S1x256, .f32⟩
  | 80 => ⟨S4096x256, .f32⟩
  | 81 => ⟨S4096x256, .f32⟩
  | 82 => ⟨S4096x256, .f32⟩
  | 83 => ⟨S1x256, .f32⟩
  | 84 => ⟨S256, .f32⟩
  | 85 => ⟨S4096x256, .f32⟩
  | 86 => ⟨S1x256, .f32⟩
  | 87 => ⟨S4096x256, .f32⟩
  | 88 => ⟨S4096x256, .f32⟩
  | 89 => ⟨S4096x256, .f32⟩
  | 90 => ⟨S1x256, .f32⟩
  | 91 => ⟨S256, .f32⟩
  | 92 => ⟨S4096x256, .f32⟩
  | 93 => ⟨S1x256, .f32⟩
  | 94 => ⟨S4096x256, .f32⟩
  | 95 => ⟨S4096x256, .f32⟩
  | 96 => ⟨S4096x256, .f32⟩
  | 97 => ⟨S1x256, .f32⟩
  | 98 => ⟨S256, .f32⟩
  | 99 => ⟨S4096x256, .f32⟩
  | 100 => ⟨S1x256, .f32⟩
  | 101 => ⟨S4096x256, .f32⟩
  | 102 => ⟨S4096x256, .f32⟩
  | 103 => ⟨S4096x256, .f32⟩
  | 104 => ⟨S1x256, .f32⟩
  | 105 => ⟨S256, .f32⟩
  | 106 => ⟨S4096x256, .f32⟩
  | 107 => ⟨S1x256, .f32⟩
  | 108 => ⟨S4096x256, .f32⟩
  | 109 => ⟨S4096x256, .f32⟩
  | 110 => ⟨S4096x256, .f32⟩
  | 111 => ⟨S1x256, .f32⟩
  | 112 => ⟨S256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S1x256, .f32⟩
  | 119 => ⟨S256, .f32⟩
  | 120 => ⟨S4096x256, .f32⟩
  | 121 => ⟨S1x256, .f32⟩
  | 122 => ⟨S4096x256, .f32⟩
  | 123 => ⟨S4096x256, .f32⟩
  | 124 => ⟨S4096x256, .f32⟩
  | 125 => ⟨S1x256, .f32⟩
  | 126 => ⟨S256, .f32⟩
  | 127 => ⟨S4096x256, .f32⟩
  | _ => ⟨S4096x3336, .f32⟩

abbrev hbmTy0_4 (i : Nat) : BufTy := match i % 128 with
  | 0 => ⟨S1x256, .f32⟩
  | 1 => ⟨S4096x256, .f32⟩
  | 2 => ⟨S4096x256, .f32⟩
  | 3 => ⟨S4096x256, .f32⟩
  | 4 => ⟨S1x256, .f32⟩
  | 5 => ⟨S256, .f32⟩
  | 6 => ⟨S4096x256, .f32⟩
  | 7 => ⟨S1x256, .f32⟩
  | 8 => ⟨S4096x256, .f32⟩
  | 9 => ⟨S4096x256, .f32⟩
  | 10 => ⟨S4096x256, .f32⟩
  | 11 => ⟨S1x256, .f32⟩
  | 12 => ⟨S256, .f32⟩
  | 13 => ⟨S4096x256, .f32⟩
  | 14 => ⟨S1x256, .f32⟩
  | 15 => ⟨S4096x256, .f32⟩
  | 16 => ⟨S4096x256, .f32⟩
  | 17 => ⟨S4096x256, .f32⟩
  | 18 => ⟨S1x256, .f32⟩
  | 19 => ⟨S256, .f32⟩
  | 20 => ⟨S4096x256, .f32⟩
  | 21 => ⟨S1x256, .f32⟩
  | 22 => ⟨S4096x256, .f32⟩
  | 23 => ⟨S4096x256, .f32⟩
  | 24 => ⟨S4096x256, .f32⟩
  | _ => ⟨S4096x3336, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x3336, .f32⟩

abbrev bufTy : (tb : Table) → Fin (tcTables nBuf tb) → BufTy
  | .hbm, ⟨i, _⟩ => hbmTy i
  | _, _ => ⟨S4096x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_cst_3 : Ref sig .tc := ⟨.hbm, 256, rfl⟩
abbrev main_v245 : Ref sig .tc := ⟨.hbm, 257, rfl⟩
abbrev main_v246 : Ref sig .tc := ⟨.hbm, 258, rfl⟩
abbrev main_cst_4 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_cst_5 : Ref sig .tc := ⟨.hbm, 265, rfl⟩
abbrev main_v252 : Ref sig .tc := ⟨.hbm, 266, rfl⟩
abbrev main_v253 : Ref sig .tc := ⟨.hbm, 267, rfl⟩
abbrev main_cst_6 : Ref sig .tc := ⟨.hbm, 268, rfl⟩
abbrev main_v254 : Ref sig .tc := ⟨.hbm, 269, rfl⟩
abbrev main_v255 : Ref sig .tc := ⟨.hbm, 270, rfl⟩
abbrev main_cst_7 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_call0_v0 : Ref sig .tc := ⟨.hbm, 283, rfl⟩
abbrev main_call0_v1 : Ref sig .tc := ⟨.hbm, 284, rfl⟩
abbrev main_call0_cst : Ref sig .tc := ⟨.hbm, 285, rfl⟩
abbrev main_call0_v2 : Ref sig .tc := ⟨.hbm, 286, rfl⟩
abbrev main_call0_v3 : Ref sig .tc := ⟨.hbm, 287, rfl⟩
abbrev main_call0_cst_0 : Ref sig .tc := ⟨.hbm, 288, rfl⟩
abbrev main_call0_v4 : Ref sig .tc := ⟨.hbm, 289, rfl⟩
abbrev main_call0_v5 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_call1_v0 : Ref sig .tc := ⟨.hbm, 296, rfl⟩
abbrev main_call1_v1 : Ref sig .tc := ⟨.hbm, 297, rfl⟩
abbrev main_call1_cst : Ref sig .tc := ⟨.hbm, 298, rfl⟩
abbrev main_call1_v2 : Ref sig .tc := ⟨.hbm, 299, rfl⟩
abbrev main_call1_v3 : Ref sig .tc := ⟨.hbm, 300, rfl⟩
abbrev main_call1_cst_0 : Ref sig .tc := ⟨.hbm, 301, rfl⟩
abbrev main_call1_v4 : Ref sig .tc := ⟨.hbm, 302, rfl⟩
abbrev main_call1_v5 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_cst_8 : Ref sig .tc := ⟨.hbm, 308, rfl⟩
abbrev main_v276 : Ref sig .tc := ⟨.hbm, 309, rfl⟩
abbrev main_v277 : Ref sig .tc := ⟨.hbm, 310, rfl⟩
abbrev main_cst_9 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_cst_10 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_cst_11 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_v319 : Ref sig .tc := ⟨.hbm, 355, rfl⟩
abbrev main_v320 : Ref sig .tc := ⟨.hbm, 356, rfl⟩
abbrev main_v321 : Ref sig .tc := ⟨.hbm, 357, rfl⟩
abbrev main_v322 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_v327 : Ref sig .tc := ⟨.hbm, 363, rfl⟩
abbrev main_v328 : Ref sig .tc := ⟨.hbm, 364, rfl⟩
abbrev main_v329 : Ref sig .tc := ⟨.hbm, 365, rfl⟩
abbrev main_v330 : Ref sig .tc := ⟨.hbm, 366, rfl⟩
abbrev main_v331 : Ref sig .tc := ⟨.hbm, 367, rfl⟩
abbrev main_v332 : Ref sig .tc := ⟨.hbm, 368, rfl⟩
abbrev main_v333 : Ref sig .tc := ⟨.hbm, 369, rfl⟩
abbrev main_v334 : Ref sig .tc := ⟨.hbm, 370, rfl⟩
abbrev main_v335 : Ref sig .tc := ⟨.hbm, 371, rfl⟩
abbrev main_v336 : Ref sig .tc := ⟨.hbm, 372, rfl⟩
abbrev main_v337 : Ref sig .tc := ⟨.hbm, 373, rfl⟩
abbrev main_v338 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_v343 : Ref sig .tc := ⟨.hbm, 379, rfl⟩
abbrev main_v344 : Ref sig .tc := ⟨.hbm, 380, rfl⟩
abbrev main_v345 : Ref sig .tc := ⟨.hbm, 381, rfl⟩
abbrev main_v346 : Ref sig .tc := ⟨.hbm, 382, rfl⟩
abbrev main_v347 : Ref sig .tc := ⟨.hbm, 383, rfl⟩
abbrev main_v348 : Ref sig .tc := ⟨.hbm, 384, rfl⟩
abbrev main_v349 : Ref sig .tc := ⟨.hbm, 385, rfl⟩
abbrev main_v350 : Ref sig .tc := ⟨.hbm, 386, rfl⟩
abbrev main_v351 : Ref sig .tc := ⟨.hbm, 387, rfl⟩
abbrev main_v352 : Ref sig .tc := ⟨.hbm, 388, rfl⟩
abbrev main_v353 : Ref sig .tc := ⟨.hbm, 389, rfl⟩
abbrev main_v354 : Ref sig .tc := ⟨.hbm, 390, rfl⟩
abbrev main_v355 : Ref sig .tc := ⟨.hbm, 391, rfl⟩
abbrev main_v356 : Ref sig .tc := ⟨.hbm, 392, rfl⟩
abbrev main_v357 : Ref sig .tc := ⟨.hbm, 393, rfl⟩
abbrev main_v358 : Ref sig .tc := ⟨.hbm, 394, rfl⟩
abbrev main_v359 : Ref sig .tc := ⟨.hbm, 395, rfl⟩
abbrev main_v360 : Ref sig .tc := ⟨.hbm, 396, rfl⟩
abbrev main_v361 : Ref sig .tc := ⟨.hbm, 397, rfl⟩
abbrev main_v362 : Ref sig .tc := ⟨.hbm, 398, rfl⟩
abbrev main_v363 : Ref sig .tc := ⟨.hbm, 399, rfl⟩
abbrev main_v364 : Ref sig .tc := ⟨.hbm, 400, rfl⟩
abbrev main_v365 : Ref sig .tc := ⟨.hbm, 401, rfl⟩
abbrev main_v366 : Ref sig .tc := ⟨.hbm, 402, rfl⟩
abbrev main_v367 : Ref sig .tc := ⟨.hbm, 403, rfl⟩
abbrev main_v368 : Ref sig .tc := ⟨.hbm, 404, rfl⟩
abbrev main_v369 : Ref sig .tc := ⟨.hbm, 405, rfl⟩
abbrev main_v370 : Ref sig .tc := ⟨.hbm, 406, rfl⟩
abbrev main_v371 : Ref sig .tc := ⟨.hbm, 407, rfl⟩
abbrev main_v372 : Ref sig .tc := ⟨.hbm, 408, rfl⟩
abbrev main_v373 : Ref sig .tc := ⟨.hbm, 409, rfl⟩
abbrev main_v374 : Ref sig .tc := ⟨.hbm, 410, rfl⟩
abbrev main_v375 : Ref sig .tc := ⟨.hbm, 411, rfl⟩
abbrev main_v376 : Ref sig .tc := ⟨.hbm, 412, rfl⟩
abbrev main_v377 : Ref sig .tc := ⟨.hbm, 413, rfl⟩
abbrev main_v378 : Ref sig .tc := ⟨.hbm, 414, rfl⟩
abbrev main_v379 : Ref sig .tc := ⟨.hbm, 415, rfl⟩
abbrev main_v380 : Ref sig .tc := ⟨.hbm, 416, rfl⟩
abbrev main_v381 : Ref sig .tc := ⟨.hbm, 417, rfl⟩
abbrev main_v382 : Ref sig .tc := ⟨.hbm, 418, rfl⟩
abbrev main_v383 : Ref sig .tc := ⟨.hbm, 419, rfl⟩
abbrev main_v384 : Ref sig .tc := ⟨.hbm, 420, rfl⟩
abbrev main_v385 : Ref sig .tc := ⟨.hbm, 421, rfl⟩
abbrev main_v386 : Ref sig .tc := ⟨.hbm, 422, rfl⟩
abbrev main_v387 : Ref sig .tc := ⟨.hbm, 423, rfl⟩
abbrev main_v388 : Ref sig .tc := ⟨.hbm, 424, rfl⟩
abbrev main_v389 : Ref sig .tc := ⟨.hbm, 425, rfl⟩
abbrev main_v390 : Ref sig .tc := ⟨.hbm, 426, rfl⟩
abbrev main_v391 : Ref sig .tc := ⟨.hbm, 427, rfl⟩
abbrev main_v392 : Ref sig .tc := ⟨.hbm, 428, rfl⟩
abbrev main_v393 : Ref sig .tc := ⟨.hbm, 429, rfl⟩
abbrev main_v394 : Ref sig .tc := ⟨.hbm, 430, rfl⟩
abbrev main_v395 : Ref sig .tc := ⟨.hbm, 431, rfl⟩
abbrev main_v396 : Ref sig .tc := ⟨.hbm, 432, rfl⟩
abbrev main_v397 : Ref sig .tc := ⟨.hbm, 433, rfl⟩
abbrev main_v398 : Ref sig .tc := ⟨.hbm, 434, rfl⟩
abbrev main_v399 : Ref sig .tc := ⟨.hbm, 435, rfl⟩
abbrev main_v400 : Ref sig .tc := ⟨.hbm, 436, rfl⟩
abbrev main_v401 : Ref sig .tc := ⟨.hbm, 437, rfl⟩
abbrev main_v402 : Ref sig .tc := ⟨.hbm, 438, rfl⟩
abbrev main_v403 : Ref sig .tc := ⟨.hbm, 439, rfl⟩
abbrev main_v404 : Ref sig .tc := ⟨.hbm, 440, rfl⟩
abbrev main_v405 : Ref sig .tc := ⟨.hbm, 441, rfl⟩
abbrev main_v406 : Ref sig .tc := ⟨.hbm, 442, rfl⟩
abbrev main_v407 : Ref sig .tc := ⟨.hbm, 443, rfl⟩
abbrev main_v408 : Ref sig .tc := ⟨.hbm, 444, rfl⟩
abbrev main_v409 : Ref sig .tc := ⟨.hbm, 445, rfl⟩
abbrev main_v410 : Ref sig .tc := ⟨.hbm, 446, rfl⟩
abbrev main_v411 : Ref sig .tc := ⟨.hbm, 447, rfl⟩
abbrev main_v412 : Ref sig .tc := ⟨.hbm, 448, rfl⟩
abbrev main_v413 : Ref sig .tc := ⟨.hbm, 449, rfl⟩
abbrev main_v414 : Ref sig .tc := ⟨.hbm, 450, rfl⟩
abbrev main_v415 : Ref sig .tc := ⟨.hbm, 451, rfl⟩
abbrev main_v416 : Ref sig .tc := ⟨.hbm, 452, rfl⟩
abbrev main_v417 : Ref sig .tc := ⟨.hbm, 453, rfl⟩
abbrev main_v418 : Ref sig .tc := ⟨.hbm, 454, rfl⟩
abbrev main_v419 : Ref sig .tc := ⟨.hbm, 455, rfl⟩
abbrev main_v420 : Ref sig .tc := ⟨.hbm, 456, rfl⟩
abbrev main_v421 : Ref sig .tc := ⟨.hbm, 457, rfl⟩
abbrev main_v422 : Ref sig .tc := ⟨.hbm, 458, rfl⟩
abbrev main_v423 : Ref sig .tc := ⟨.hbm, 459, rfl⟩
abbrev main_v424 : Ref sig .tc := ⟨.hbm, 460, rfl⟩
abbrev main_v425 : Ref sig .tc := ⟨.hbm, 461, rfl⟩
abbrev main_v426 : Ref sig .tc := ⟨.hbm, 462, rfl⟩
abbrev main_v427 : Ref sig .tc := ⟨.hbm, 463, rfl⟩
abbrev main_v428 : Ref sig .tc := ⟨.hbm, 464, rfl⟩
abbrev main_v429 : Ref sig .tc := ⟨.hbm, 465, rfl⟩
abbrev main_v430 : Ref sig .tc := ⟨.hbm, 466, rfl⟩
abbrev main_v431 : Ref sig .tc := ⟨.hbm, 467, rfl⟩
abbrev main_v432 : Ref sig .tc := ⟨.hbm, 468, rfl⟩
abbrev main_v433 : Ref sig .tc := ⟨.hbm, 469, rfl⟩
abbrev main_v434 : Ref sig .tc := ⟨.hbm, 470, rfl⟩
abbrev main_v435 : Ref sig .tc := ⟨.hbm, 471, rfl⟩
abbrev main_v436 : Ref sig .tc := ⟨.hbm, 472, rfl⟩
abbrev main_v437 : Ref sig .tc := ⟨.hbm, 473, rfl⟩
abbrev main_v438 : Ref sig .tc := ⟨.hbm, 474, rfl⟩
abbrev main_v439 : Ref sig .tc := ⟨.hbm, 475, rfl⟩
abbrev main_v440 : Ref sig .tc := ⟨.hbm, 476, rfl⟩
abbrev main_v441 : Ref sig .tc := ⟨.hbm, 477, rfl⟩
abbrev main_v442 : Ref sig .tc := ⟨.hbm, 478, rfl⟩
abbrev main_v443 : Ref sig .tc := ⟨.hbm, 479, rfl⟩
abbrev main_v444 : Ref sig .tc := ⟨.hbm, 480, rfl⟩
abbrev main_v445 : Ref sig .tc := ⟨.hbm, 481, rfl⟩
abbrev main_v446 : Ref sig .tc := ⟨.hbm, 482, rfl⟩
abbrev main_v447 : Ref sig .tc := ⟨.hbm, 483, rfl⟩
abbrev main_v448 : Ref sig .tc := ⟨.hbm, 484, rfl⟩
abbrev main_v449 : Ref sig .tc := ⟨.hbm, 485, rfl⟩
abbrev main_v450 : Ref sig .tc := ⟨.hbm, 486, rfl⟩
abbrev main_v451 : Ref sig .tc := ⟨.hbm, 487, rfl⟩
abbrev main_v452 : Ref sig .tc := ⟨.hbm, 488, rfl⟩
abbrev main_v453 : Ref sig .tc := ⟨.hbm, 489, rfl⟩
abbrev main_v454 : Ref sig .tc := ⟨.hbm, 490, rfl⟩
abbrev main_v455 : Ref sig .tc := ⟨.hbm, 491, rfl⟩
abbrev main_v456 : Ref sig .tc := ⟨.hbm, 492, rfl⟩
abbrev main_v457 : Ref sig .tc := ⟨.hbm, 493, rfl⟩
abbrev main_v458 : Ref sig .tc := ⟨.hbm, 494, rfl⟩
abbrev main_v459 : Ref sig .tc := ⟨.hbm, 495, rfl⟩
abbrev main_v460 : Ref sig .tc := ⟨.hbm, 496, rfl⟩
abbrev main_v461 : Ref sig .tc := ⟨.hbm, 497, rfl⟩
abbrev main_v462 : Ref sig .tc := ⟨.hbm, 498, rfl⟩
abbrev main_v463 : Ref sig .tc := ⟨.hbm, 499, rfl⟩
abbrev main_v464 : Ref sig .tc := ⟨.hbm, 500, rfl⟩
abbrev main_v465 : Ref sig .tc := ⟨.hbm, 501, rfl⟩
abbrev main_v466 : Ref sig .tc := ⟨.hbm, 502, rfl⟩
abbrev main_v467 : Ref sig .tc := ⟨.hbm, 503, rfl⟩
abbrev main_v468 : Ref sig .tc := ⟨.hbm, 504, rfl⟩
abbrev main_v469 : Ref sig .tc := ⟨.hbm, 505, rfl⟩
abbrev main_v470 : Ref sig .tc := ⟨.hbm, 506, rfl⟩
abbrev main_v471 : Ref sig .tc := ⟨.hbm, 507, rfl⟩
abbrev main_v472 : Ref sig .tc := ⟨.hbm, 508, rfl⟩
abbrev main_v473 : Ref sig .tc := ⟨.hbm, 509, rfl⟩
abbrev main_v474 : Ref sig .tc := ⟨.hbm, 510, rfl⟩
abbrev main_v475 : Ref sig .tc := ⟨.hbm, 511, rfl⟩
abbrev main_v476 : Ref sig .tc := ⟨.hbm, 512, rfl⟩
abbrev main_v477 : Ref sig .tc := ⟨.hbm, 513, rfl⟩
abbrev main_v478 : Ref sig .tc := ⟨.hbm, 514, rfl⟩
abbrev main_v479 : Ref sig .tc := ⟨.hbm, 515, rfl⟩
abbrev main_v480 : Ref sig .tc := ⟨.hbm, 516, rfl⟩
abbrev main_v481 : Ref sig .tc := ⟨.hbm, 517, rfl⟩
abbrev main_v482 : Ref sig .tc := ⟨.hbm, 518, rfl⟩
abbrev main_v483 : Ref sig .tc := ⟨.hbm, 519, rfl⟩
abbrev main_v484 : Ref sig .tc := ⟨.hbm, 520, rfl⟩
abbrev main_v485 : Ref sig .tc := ⟨.hbm, 521, rfl⟩
abbrev main_v486 : Ref sig .tc := ⟨.hbm, 522, rfl⟩
abbrev main_v487 : Ref sig .tc := ⟨.hbm, 523, rfl⟩
abbrev main_v488 : Ref sig .tc := ⟨.hbm, 524, rfl⟩
abbrev main_v489 : Ref sig .tc := ⟨.hbm, 525, rfl⟩
abbrev main_v490 : Ref sig .tc := ⟨.hbm, 526, rfl⟩
abbrev main_v491 : Ref sig .tc := ⟨.hbm, 527, rfl⟩
abbrev main_v492 : Ref sig .tc := ⟨.hbm, 528, rfl⟩
abbrev main_v493 : Ref sig .tc := ⟨.hbm, 529, rfl⟩
abbrev main_v494 : Ref sig .tc := ⟨.hbm, 530, rfl⟩
abbrev main_v495 : Ref sig .tc := ⟨.hbm, 531, rfl⟩
abbrev main_v496 : Ref sig .tc := ⟨.hbm, 532, rfl⟩
abbrev main_v497 : Ref sig .tc := ⟨.hbm, 533, rfl⟩
abbrev main_v498 : Ref sig .tc := ⟨.hbm, 534, rfl⟩
abbrev main_v499 : Ref sig .tc := ⟨.hbm, 535, rfl⟩
abbrev main_v500 : Ref sig .tc := ⟨.hbm, 536, rfl⟩

abbrev nD : Nat := 1
abbrev τ : Topo := Topo.v7x

variable {F : FTy → Type} [FloatOps F]
-- ==== KernelProjFwd.lean ====
abbrev S4096x1024 : Shape := ⟨2, ![4096, 1024]⟩
abbrev S1024 : Shape := ⟨1, ![1024]⟩
abbrev S1024x3336 : Shape := ⟨2, ![1024, 3336]⟩
abbrev S1024x834 : Shape := ⟨2, ![1024, 834]⟩
abbrev S1024x570 : Shape := ⟨2, ![1024, 570]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x3456 : Shape := ⟨2, ![1024, 3456]⟩
abbrev S1x1024 : Shape := ⟨2, ![1, 1024]⟩
abbrev S4096x3456 : Shape := ⟨2, ![4096, 3456]⟩
abbrev S256x1024 : Shape := ⟨2, ![256, 1024]⟩
abbrev S256x3456 : Shape := ⟨2, ![256, 3456]⟩
abbrev S256 : Shape := ⟨1, ![256]⟩
abbrev S256x1 : Shape := ⟨2, ![256, 1]⟩

abbrev nBuf : Space → Nat
  | .hbm => 20
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3336, .f32⟩
  | .hbm, ⟨3, _⟩ => ⟨S1024x3336, .bf16⟩
  | .hbm, ⟨4, _⟩ => ⟨S1024x834, .bf16⟩
  | .hbm, ⟨5, _⟩ => ⟨S1024x3336, .bf16⟩
  | .hbm, ⟨6, _⟩ => ⟨S1024x834, .bf16⟩
  | .hbm, ⟨7, _⟩ => ⟨S1024x3336, .bf16⟩
  | .hbm, ⟨8, _⟩ => ⟨S1024x834, .bf16⟩
  | .hbm, ⟨9, _⟩ => ⟨S1024x3336, .bf16⟩
  | .hbm, ⟨10, _⟩ => ⟨S1024x834, .bf16⟩
  | .hbm, ⟨11, _⟩ => ⟨S1024x570, .bf16⟩
  | .hbm, ⟨12, _⟩ => ⟨S1024x256, .bf16⟩
  | .hbm, ⟨13, _⟩ => ⟨S1024x8, .bf16⟩
  | .hbm, ⟨14, _⟩ => ⟨S_, .bf16⟩
  | .hbm, ⟨15, _⟩ => ⟨S1024x120, .bf16⟩
  | .hbm, ⟨16, _⟩ => ⟨S1024x3456, .bf16⟩
  | .hbm, ⟨17, _⟩ => ⟨S1x1024, .f32⟩
  | .hbm, ⟨18, _⟩ => ⟨S4096x3456, .f32⟩
  | .hbm, ⟨19, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S256x3456, .f32⟩
  | .local _ .vmem, ⟨5, _⟩ => ⟨S256x3456, .f32⟩
  | .local _ .vmem, ⟨6, _⟩ => ⟨S256x1024, .bf16⟩
  | .local _ .vmem, ⟨7, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceProjFwdIdeal.lean ====
abbrev S4096x1024 : Shape := ⟨2, ![4096, 1024]⟩
abbrev S1024 : Shape := ⟨1, ![1024]⟩
abbrev S1024x3336 : Shape := ⟨2, ![1024, 3336]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3336 : Shape := ⟨2, ![4096, 3336]⟩
abbrev S4096x3072 : Shape := ⟨2, ![4096, 3072]⟩
abbrev S4096x256 : Shape := ⟨2, ![4096, 256]⟩
abbrev S4096x8 : Shape := ⟨2, ![4096, 8]⟩
abbrev S4096x120 : Shape := ⟨2, ![4096, 120]⟩
abbrev S4096x3456 : Shape := ⟨2, ![4096, 3456]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3336, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3336, .f32⟩
  | .hbm, ⟨20, _⟩ => ⟨S4096x3072, .f32⟩
  | .hbm, ⟨21, _⟩ => ⟨S4096x256, .f32⟩
  | .hbm, ⟨22, _⟩ => ⟨S4096x8, .f32⟩
  | .hbm, ⟨23, _⟩ => ⟨S_, .f32⟩
  | .hbm, ⟨24, _⟩ => ⟨S4096x120, .f32⟩
  | .hbm, ⟨25, _⟩ => ⟨S4096x3456, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== KernelPrepFwd.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S1x16 : Shape := ⟨2, ![1, 16]⟩
abbrev S_ : Shape := ⟨0, ![]⟩
abbrev S1x128 : Shape := ⟨2, ![1, 128]⟩
abbrev S16x1024 : Shape := ⟨2, ![16, 1024]⟩
abbrev S256x2048 : Shape := ⟨2, ![256, 2048]⟩
abbrev S128x1024 : Shape := ⟨2, ![128, 1024]⟩
abbrev S8x128 : Shape := ⟨2, ![8, 128]⟩
abbrev S8x1024 : Shape := ⟨2, ![8, 1024]⟩
abbrev S256x1024 : Shape := ⟨2, ![256, 1024]⟩

abbrev nBuf : Space → Nat
  | .hbm => 25
  | .vmem => 11
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S1x1024, .f32⟩
  | .hbm, ⟨8, _⟩ => ⟨S1x1024, .f32⟩
  | .hbm, ⟨9, _⟩ => ⟨S1x16, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S16x16x64, .f32⟩
  | .hbm, ⟨14, _⟩ => ⟨S16x1024, .f32⟩
  | .hbm, ⟨15, _⟩ => ⟨S16x16x64, .f32⟩
  | .hbm, ⟨16, _⟩ => ⟨S16x1024, .f32⟩
  | .hbm, ⟨17, _⟩ => ⟨S16x16x64, .f32⟩
  | .hbm, ⟨18, _⟩ => ⟨S16x1024, .f32⟩
  | .hbm, ⟨19, _⟩ => ⟨S16x16x64, .f32⟩
  | .hbm, ⟨20, _⟩ => ⟨S16x1024, .f32⟩
  | .hbm, ⟨21, _⟩ => ⟨S1x1024, .f32⟩
  | .hbm, ⟨22, _⟩ => ⟨S1x1024, .f32⟩
  | .hbm, ⟨23, _⟩ => ⟨S256x2048, .f32⟩
  | .hbm, ⟨24, _⟩ => ⟨S256x2048, .f32⟩
  | .local _ .vmem, ⟨0, _⟩ => ⟨S1x1024, .f32⟩
  | .local _ .vmem, ⟨1, _⟩ => ⟨S1x1024, .f32⟩
  | .local _ .vmem, ⟨2, _⟩ => ⟨S1x128, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S1x1024, .f32⟩
  | .local _ .vmem, ⟨8, _⟩ => ⟨S1x1024, .f32⟩
  | .local _ .vmem, ⟨9, _⟩ => ⟨S256x2048, .f32⟩
  | .local _ .vmem, ⟨10, _⟩ => ⟨S256x2048, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferencePrepFwdIdeal.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S_ : Shape := ⟨0, ![]⟩
abbrev S16x1 : Shape := ⟨2, ![16, 1]⟩
abbrev S16x64x1 : Shape := ⟨3, ![16, 64, 1]⟩
abbrev S1x1024 : Shape := ⟨2, ![1, 1024]⟩
abbrev S1x16 : Shape := ⟨2, ![1, 16]⟩
abbrev S16x16 : Shape := ⟨2, ![16, 16]⟩
abbrev S16x1x16x1 : Shape := ⟨4, ![16, 1, 16, 1]⟩
abbrev S1x16x16x64 : Shape := ⟨4, ![1, 16, 16, 64]⟩
abbrev S16x16x16x64 : Shape := ⟨4, ![16, 16, 16, 64]⟩
abbrev S256x1024 : Shape := ⟨2, ![256, 1024]⟩
abbrev S256x2048 : Shape := ⟨2, ![256, 2048]⟩

abbrev nBuf : Space → Nat
  | .hbm => 125
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S_, .f32⟩
  | .hbm, ⟨8, _⟩ => ⟨S16x64, .f32⟩
  | .hbm, ⟨9, _⟩ => ⟨S16x64, .f32⟩
  | .hbm, ⟨10, _⟩ => ⟨S16, .f32⟩
  | .hbm, ⟨11, _⟩ => ⟨S16x1, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S_, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S16x64, .f32⟩
  | .hbm, ⟨40, _⟩ => ⟨S16x64x1, .f32⟩
  | .hbm, ⟨41, _⟩ => ⟨S16x64x1, .f32⟩
  | .hbm, ⟨42, _⟩ => ⟨S16x64x16, .f32⟩
  | .hbm, ⟨43, _⟩ => ⟨S16x64x16, .f32⟩
  | .hbm, ⟨44, _⟩ => ⟨S16x64x16, .f32⟩
  | .hbm, ⟨45, _⟩ => ⟨S16x64x16, .f32⟩
  | .hbm, ⟨46, _⟩ => ⟨S16x64x16, .f32⟩
  | .hbm, ⟨47, _⟩ => ⟨S16x64x16, .f32⟩
  | .hbm, ⟨48, _⟩ => ⟨S16x64x16, .f32⟩
  | .hbm, ⟨49, _⟩ => ⟨S16x64x16, .f32⟩
  | .hbm, ⟨50, _⟩ => ⟨S16x64x16, .f32⟩
  | .hbm, ⟨51, _⟩ => ⟨S16x64x16, .f32⟩
  | .hbm, ⟨52, _⟩ => ⟨S1x1024, .f32⟩
  | .hbm, ⟨53, _⟩ => ⟨S1x1024, .f32⟩
  | .hbm, ⟨54, _⟩ => ⟨S16x16x64, .f32⟩
  | .hbm, ⟨55, _⟩ => ⟨S16, .i32⟩
  | .hbm, ⟨56, _⟩ => ⟨S16x1, .i32⟩
  | .hbm, ⟨57, _⟩ => ⟨S16, .i32⟩
  | .hbm, ⟨58, _⟩ => ⟨S1x16, .i32⟩
  | .hbm, ⟨59, _⟩ => ⟨S16x16, .i32⟩
  | .hbm, ⟨60, _⟩ => ⟨S16x16, .i32⟩
  | .hbm, ⟨61, _⟩ => ⟨S16x16, .i1⟩
  | .hbm, ⟨62, _⟩ => ⟨S16x1x16x1, .i1⟩
  | .hbm, ⟨63, _⟩ => ⟨S1x16x16x64, .f32⟩
  | .hbm, ⟨64, _⟩ => ⟨S_, .f32⟩
  | .hbm, ⟨65, _⟩ => ⟨S_, .f32⟩
  | .hbm, ⟨66, _⟩ => ⟨S16x16x16x64, .i1⟩
  | .hbm, ⟨67, _⟩ => ⟨S16x16x16x64, .f32⟩
  | .hbm, ⟨68, _⟩ => ⟨S16x16x16x64, .f32⟩
  | .hbm, ⟨69, _⟩ => ⟨S16x16x16x64, .f32⟩
  | .hbm, ⟨70, _⟩ => ⟨S256x1024, .f32⟩
  | .hbm, ⟨71, _⟩ => ⟨S16x16x64, .f32⟩
  | .hbm, ⟨72, _⟩ => ⟨S16, .i32⟩
  | .hbm, ⟨73, _⟩ => ⟨S16x1, .i32⟩
  | .hbm, ⟨74, _⟩ => ⟨S16, .i32⟩
  | .hbm, ⟨75, _⟩ => ⟨S1x16, .i32⟩
  | .hbm, ⟨76, _⟩ => ⟨S16x16, .i32⟩
  | .hbm, ⟨77, _⟩ => ⟨S16x16, .i32⟩
  | .hbm, ⟨78, _⟩ => ⟨S16x16, .i1⟩
  | .hbm, ⟨79, _⟩ => ⟨S16x1x16x1, .i1⟩
  | .hbm, ⟨80, _⟩ => ⟨S1x16x16x64, .f32⟩
  | .hbm, ⟨81, _⟩ => ⟨S_, .f32⟩
  | .hbm, ⟨82, _⟩ => ⟨S_, .f32⟩
  | .hbm, ⟨83, _⟩ => ⟨S16x16x16x64, .i1⟩
  | .hbm, ⟨84, _⟩ => ⟨S16x16x16x64, .f32⟩
  | .hbm, ⟨85, _⟩ => ⟨S16x16x16x64, .f32⟩
  | .hbm, ⟨86, _⟩ => ⟨S16x16x16x64, .f32⟩
  | .hbm, ⟨87, _⟩ => ⟨S256x1024, .f32⟩
  | .hbm, ⟨88, _⟩ => ⟨S256x2048, .f32⟩
  | .hbm, ⟨89, _⟩ => ⟨S16x16x64, .f32⟩
  | .hbm, ⟨90, _⟩ => ⟨S16, .i32⟩
  | .hbm, ⟨91, _⟩ => ⟨S16x1, .i32⟩
  | .hbm, ⟨92, _⟩ => ⟨S16, .i32⟩
  | .hbm, ⟨93, _⟩ => ⟨S1x16, .i32⟩
  | .hbm, ⟨94, _⟩ => ⟨S16x16, .i32⟩
  | .hbm, ⟨95, _⟩ => ⟨S16x16, .i32⟩
  | .hbm, ⟨96, _⟩ => ⟨S16x16, .i1⟩
  | .hbm, ⟨97, _⟩ => ⟨S16x1x16x1, .i1⟩
  | .hbm, ⟨98, _⟩ => ⟨S1x16x16x64, .f32⟩
  | .hbm, ⟨99, _⟩ => ⟨S_, .f32⟩
  | .hbm, ⟨100, _⟩ => ⟨S_, .f32⟩
  | .hbm, ⟨101, _⟩ => ⟨S16x16x16x64, .i1⟩
  | .hbm, ⟨102, _⟩ => ⟨S16x16x16x64, .f32⟩
  | .hbm, ⟨103, _⟩ => ⟨S16x16x16x64, .f32⟩
  | .hbm, ⟨104, _⟩ => ⟨S16x16x16x64, .f32⟩
  | .hbm, ⟨105, _⟩ => ⟨S256x1024, .f32⟩
  | .hbm, ⟨106, _⟩ => ⟨S16x16x64, .f32⟩
  | .hbm, ⟨107, _⟩ => ⟨S16x16x64, .f32⟩
  | .hbm, ⟨108, _⟩ => ⟨S16, .i32⟩
  | .hbm, ⟨109, _⟩ => ⟨S16x1, .i32⟩
  | .hbm, ⟨110, _⟩ => ⟨S16, .i32⟩
  | .hbm, ⟨111, _⟩ => ⟨S1x16, .i32⟩
  | .hbm, ⟨112, _⟩ => ⟨S16x16, .i32⟩
  | .hbm, ⟨113, _⟩ => ⟨S16x16, .i32⟩
  | .hbm, ⟨114, _⟩ => ⟨S16x16, .i1⟩
  | .hbm, ⟨115, _⟩ => ⟨S16x1x16x1, .i1⟩
  | .hbm, ⟨116, _⟩ => ⟨S1x16x16x64, .f32⟩
  | .hbm, ⟨117, _⟩ => ⟨S_, .f32⟩
  | .hbm, ⟨118, _⟩ => ⟨S_, .f32⟩
  | .hbm, ⟨119, _⟩ => ⟨S16x16x16x64, .i1⟩
  | .hbm, ⟨120, _⟩ => ⟨S16x16x16x64, .f32⟩
  | .hbm, ⟨121, _⟩ => ⟨S16x16x16x64, .f32⟩
  | .hbm, ⟨122, _⟩ => ⟨S16x16x16x64, .f32⟩
  | .hbm, ⟨123, _⟩ => ⟨S256x1024, .f32⟩
  | .hbm, ⟨124, _⟩ => ⟨S256x2048, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_2 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_3 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_4 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_5 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]
-- ==== KernelOutFwd.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S256x256 : Shape := ⟨2, ![256, 256]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .f32⟩
  | .hbm, ⟨6, _⟩ => ⟨S1024x1024, .bf16⟩
  | .hbm, ⟨7, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOutFwdIdeal.lean ====
abbrev S4096x1024 : Shape := ⟨2, ![4096, 1024]⟩
abbrev S4096x256 : Shape := ⟨2, ![4096, 256]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== KernelOutBwd.lean ====
abbrev S4096x1024 : Shape := ⟨2, ![4096, 1024]⟩
abbrev S1024x1024 : Shape := ⟨2, ![1024, 1024]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceOutBwdIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelDwin.lean ====
abbrev S4096x1024 : Shape := ⟨2, ![4096, 1024]⟩
abbrev S4096x768 : Shape := ⟨2, ![4096, 768]⟩
abbrev S4096x512 : Shape := ⟨2, ![4096, 512]⟩
abbrev S4096x1152 : Shape := ⟨2, ![4096, 1152]⟩
abbrev S1024x768 : Shape := ⟨2, ![1024, 768]⟩
abbrev S1024x512 : Shape := ⟨2, ![1024, 512]⟩
abbrev S1024x1024 : Shape := ⟨2, ![1024, 1024]⟩
abbrev S1024x1152 : Shape := ⟨2, ![1024, 1152]⟩
abbrev S256x1024 : Shape := ⟨2, ![256, 1024]⟩
abbrev S256x768 : Shape := ⟨2, ![256, 768]⟩
abbrev S256x512 : Shape := ⟨2, ![256, 512]⟩
abbrev S256x1152 : Shape := ⟨2, ![256, 1152]⟩
abbrev S1024x256 : Shape := ⟨2, ![1024, 256]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x768, .f32⟩
  | .hbm, ⟨2, _⟩ => ⟨S4096x512, .f32⟩
  | .hbm, ⟨3, _⟩ => ⟨S4096x1024, .f32⟩
  | .hbm, ⟨4, _⟩ => ⟨S4096x1152, .f32⟩
  | .hbm, ⟨5, _⟩ => ⟨S1024x768, .f32⟩
  | .hbm, ⟨6, _⟩ => ⟨S1024x512, .f32⟩
  | .hbm, ⟨7, _⟩ => ⟨S1024x1024, .f32⟩
  | .hbm, ⟨8, _⟩ => ⟨S1024x1152, .f32⟩
  | .local _ .vmem, ⟨0, _⟩ => ⟨S256x1024, .bf16⟩
  | .local _ .vmem, ⟨1, _⟩ => ⟨S256x1024, .bf16⟩
  | .local _ .vmem, ⟨2, _⟩ => ⟨S256x768, .f32⟩
  | .local _ .vmem, ⟨3, _⟩ => ⟨S256x768, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1152, .f32⟩
  | .local _ .vmem, ⟨9, _⟩ => ⟨S256x1152, .f32⟩
  | .local _ .vmem, ⟨10, _⟩ => ⟨S1024x768, .f32⟩
  | .local _ .vmem, ⟨11, _⟩ => ⟨S1024x512, .f32⟩
  | .local _ .vmem, ⟨12, _⟩ => ⟨S1024x1024, .f32⟩
  | .local _ .vmem, ⟨13, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceDwinIdeal.lean ====
abbrev S4096x1024 : Shape := ⟨2, ![4096, 1024]⟩
abbrev S4096x768 : Shape := ⟨2, ![4096, 768]⟩
abbrev S4096x512 : Shape := ⟨2, ![4096, 512]⟩
abbrev S4096x1152 : Shape := ⟨2, ![4096, 1152]⟩
abbrev S1024x4096 : Shape := ⟨2, ![1024, 4096]⟩
abbrev S1024x768 : Shape := ⟨2, ![1024, 768]⟩
abbrev S1024x512 : Shape := ⟨2, ![1024, 512]⟩
abbrev S1024x1024 : Shape := ⟨2, ![1024, 1024]⟩
abbrev S1024x1152 : Shape := ⟨2, ![1024, 1152]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .f32⟩
  | .hbm, ⟨2, _⟩ => ⟨S4096x512, .f32⟩
  | .hbm, ⟨3, _⟩ => ⟨S4096x1024, .f32⟩
  | .hbm, ⟨4, _⟩ => ⟨S4096x1152, .f32⟩
  | .hbm, ⟨5, _⟩ => ⟨S4096x1024, .f32⟩
  | .hbm, ⟨6, _⟩ => ⟨S1024x4096, .f32⟩
  | .hbm, ⟨7, _⟩ => ⟨S1024x768, .f32⟩
  | .hbm, ⟨8, _⟩ => ⟨S1024x4096, .f32⟩
  | .hbm, ⟨9, _⟩ => ⟨S1024x512, .f32⟩
  | .hbm, ⟨10, _⟩ => ⟨S1024x4096, .f32⟩
  | .hbm, ⟨11, _⟩ => ⟨S1024x1024, .f32⟩
  | .hbm, ⟨12, _⟩ => ⟨S1024x4096, .f32⟩
  | .hbm, ⟨13, _⟩ => ⟨S1024x1152, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelDwout.lean ====
abbrev S4096x256 : Shape := ⟨2, ![4096, 256]⟩
abbrev S4096x1024 : Shape := ⟨2, ![4096, 1024]⟩
abbrev S1024x1024 : Shape := ⟨2, ![1024, 1024]⟩
abbrev S512x256 : Shape := ⟨2, ![512, 256]⟩
abbrev S512x512 : Shape := ⟨2, ![512, 512]⟩
abbrev S1024x512 : Shape := ⟨2, ![1024, 512]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x1024, .f32⟩
  | .hbm, ⟨5, _⟩ => ⟨S1024x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S1024x512, .f32⟩
  | .local _ .vmem, ⟨11, _⟩ => ⟨S1024x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceDwoutIdeal.lean ====
abbrev S4096x256 : Shape := ⟨2, ![4096, 256]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S1024x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== KernelAdamw.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamwIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamwIn.lean ====
abbrev S4x1024x834 : Shape := ⟨3, ![4, 1024, 834]⟩
abbrev S834x4x1024 : Shape := ⟨3, ![834, 4, 1024]⟩
abbrev S139x4x1024 : Shape := ⟨3, ![139, 4, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x834, .f32⟩
  | .hbm, ⟨1, _⟩ => ⟨S4x1024x834, .f32⟩
  | .hbm, ⟨2, _⟩ => ⟨S4x1024x834, .f32⟩
  | .hbm, ⟨3, _⟩ => ⟨S4x1024x834, .f32⟩
  | .hbm, ⟨4, _⟩ => ⟨S834x4x1024, .f32⟩
  | .hbm, ⟨5, _⟩ => ⟨S834x4x1024, .f32⟩
  | .hbm, ⟨6, _⟩ => ⟨S834x4x1024, .f32⟩
  | .hbm, ⟨7, _⟩ => ⟨S834x4x1024, .f32⟩
  | .hbm, ⟨8, _⟩ => ⟨S834x4x1024, .f32⟩
  | .hbm, ⟨9, _⟩ => ⟨S834x4x1024, .f32⟩
  | .hbm, ⟨10, _⟩ => ⟨S834x4x1024, .f32⟩
  | .local _ .vmem, ⟨0, _⟩ => ⟨S139x4x1024, .f32⟩
  | .local _ .vmem, ⟨1, _⟩ => ⟨S139x4x1024, .f32⟩
  | .local _ .vmem, ⟨2, _⟩ => ⟨S139x4x1024, .f32⟩
  | .local _ .vmem, ⟨3, _⟩ => ⟨S139x4x1024, .f32⟩
  | .local _ .vmem, ⟨4, _⟩ => ⟨S139x4x1024, .f32⟩
  | .local _ .vmem, ⟨5, _⟩ => ⟨S139x4x1024, .f32⟩
  | .local _ .vmem, ⟨6, _⟩ => ⟨S139x4x1024, .f32⟩
  | .local _ .vmem, ⟨7, _⟩ => ⟨S139x4x1024, .f32⟩
  | .local _ .vmem, ⟨8, _⟩ => ⟨S139x4x1024, .f32⟩
  | .local _ .vmem, ⟨9, _⟩ => ⟨S139x4x1024, .f32⟩
  | .local _ .vmem, ⟨10, _⟩ => ⟨S139x4x1024, .f32⟩
  | .local _ .vmem, ⟨11, _⟩ => ⟨S139x4x1024, .f32⟩
  | .local _ .vmem, ⟨12, _⟩ => ⟨S139x4x1024, .f32⟩
  | .local _ .vmem, ⟨13, _⟩ => ⟨S139x4x1024, .f32⟩
  | _, _ => ⟨S4x1024x834, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S139x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S139x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S139x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S139x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S139x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S139x4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S139x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamwInIdeal.lean ====
abbrev S4x1024x834 : Shape := ⟨3, ![4, 1024, 834]⟩
abbrev S_ : Shape := ⟨0, ![]⟩
abbrev S834x4x1024 : Shape := ⟨3, ![834, 4, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x834, .f32⟩
  | .hbm, ⟨1, _⟩ => ⟨S4x1024x834, .f32⟩
  | .hbm, ⟨2, _⟩ => ⟨S4x1024x834, .f32⟩
  | .hbm, ⟨3, _⟩ => ⟨S4x1024x834, .f32⟩
  | .hbm, ⟨4, _⟩ => ⟨S_, .f32⟩
  | .hbm, ⟨5, _⟩ => ⟨S4x1024x834, .f32⟩
  | .hbm, ⟨6, _⟩ => ⟨S4x1024x834, .f32⟩
  | .hbm, ⟨7, _⟩ => ⟨S_, .f32⟩
  | .hbm, ⟨8, _⟩ => ⟨S4x1024x834, .f32⟩
  | .hbm, ⟨9, _⟩ => ⟨S4x1024x834, .f32⟩
  | .hbm, ⟨10, _⟩ => ⟨S4x1024x834, .f32⟩
  | .hbm, ⟨11, _⟩ => ⟨S_, .f32⟩
  | .hbm, ⟨12, _⟩ => ⟨S4x1024x834, .f32⟩
  | .hbm, ⟨13, _⟩ => ⟨S4x1024x834, .f32⟩
  | .hbm, ⟨14, _⟩ => ⟨S4x1024x834, .f32⟩
  | .hbm, ⟨15, _⟩ => ⟨S_, .f32⟩
  | .hbm, ⟨16, _⟩ => ⟨S4x1024x834, .f32⟩
  | .hbm, ⟨17, _⟩ => ⟨S4x1024x834, .f32⟩
  | .hbm, ⟨18, _⟩ => ⟨S4x1024x834, .f32⟩
  | .hbm, ⟨19, _⟩ => ⟨S_, .f32⟩
  | .hbm, ⟨20, _⟩ => ⟨S4x1024x834, .f32⟩
  | .hbm, ⟨21, _⟩ => ⟨S4x1024x834, .f32⟩
  | .hbm, ⟨22, _⟩ => ⟨S_, .f32⟩
  | .hbm, ⟨23, _⟩ => ⟨S4x1024x834, .f32⟩
  | .hbm, ⟨24, _⟩ => ⟨S4x1024x834, .f32⟩
  | .hbm, ⟨25, _⟩ => ⟨S4x1024x834, .f32⟩
  | .hbm, ⟨26, _⟩ => ⟨S_, .f32⟩
  | .hbm, ⟨27, _⟩ => ⟨S4x1024x834, .f32⟩
  | .hbm, ⟨28, _⟩ => ⟨S4x1024x834, .f32⟩
  | .hbm, ⟨29, _⟩ => ⟨S4x1024x834, .f32⟩
  | .hbm, ⟨30, _⟩ => ⟨S_, .f32⟩
  | .hbm, ⟨31, _⟩ => ⟨S4x1024x834, .f32⟩
  | .hbm, ⟨32, _⟩ => ⟨S4x1024x834, .f32⟩
  | .hbm, ⟨33, _⟩ => ⟨S4x1024x834, .f32⟩
  | .hbm, ⟨34, _⟩ => ⟨S_, .f32⟩
  | .hbm, ⟨35, _⟩ => ⟨S4x1024x834, .f32⟩
  | .hbm, ⟨36, _⟩ => ⟨S4x1024x834, .f32⟩
  | .hbm, ⟨37, _⟩ => ⟨S834x4x1024, .f32⟩
  | .hbm, ⟨38, _⟩ => ⟨S834x4x1024, .f32⟩
  | .hbm, ⟨39, _⟩ => ⟨S834x4x1024, .f32⟩
  | _, _ => ⟨S4x1024x834, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamwSmall.lean ====
abbrev S4x31x64 : Shape := ⟨3, ![4, 31, 64]⟩
abbrev S4x64x256 : Shape := ⟨3, ![4, 64, 256]⟩
abbrev S4x3x64 : Shape := ⟨3, ![4, 3, 64]⟩
abbrev S4x4x192 : Shape := ⟨3, ![4, 4, 192]⟩
abbrev S7936 : Shape := ⟨1, ![7936]⟩
abbrev S_ : Shape := ⟨0, ![]⟩
abbrev S8192 : Shape := ⟨1, ![8192]⟩
abbrev S8x1024 : Shape := ⟨2, ![8, 1024]⟩
abbrev S65536 : Shape := ⟨1, ![65536]⟩
abbrev S64x1024 : Shape := ⟨2, ![64, 1024]⟩
abbrev S768 : Shape := ⟨1, ![768]⟩
abbrev S3072 : Shape := ⟨1, ![3072]⟩
abbrev S160x1024 : Shape := ⟨2, ![160, 1024]⟩

abbrev nBuf : Space → Nat
  | .hbm => 189
  | .vmem => 7
  | .smem => 0
  | _ => 0

abbrev hbmTy0_0 (i : Nat) : BufTy := match i % 128 with
  | 0 => ⟨S4x31x64, .f32⟩
  | 1 => ⟨S4x64x256, .f32⟩
  | 2 => ⟨S4x64x256, .f32⟩
  | 3 => ⟨S4x3x64, .f32⟩
  | 4 => ⟨S4x4x192, .f32⟩
  | 5 => ⟨S4x31x64, .f32⟩
  | 6 => ⟨S4x64x256, .f32⟩
  | 7 => ⟨S4x64x256, .f32⟩
  | 8 => ⟨S4x3x64, .f32⟩
  | 9 => ⟨S4x4x192, .f32⟩
  | 10 => ⟨S4x31x64, .f32⟩
  | 11 => ⟨S4x64x256, .f32⟩
  | 12 => ⟨S4x64x256, .f32⟩
  | 13 => ⟨S4x3x64, .f32⟩
  | 14 => ⟨S4x4x192, .f32⟩
  | 15 => ⟨S4x31x64, .f32⟩
  | 16 => ⟨S4x64x256, .f32⟩
  | 17 => ⟨S4x64x256, .f32⟩
  | 18 => ⟨S4x3x64, .f32⟩
  | 19 => ⟨S4x4x192, .f32⟩
  | 20 => ⟨S7936, .f32⟩
  | 21 => ⟨S_, .i32⟩
  | 22 => ⟨S_, .f32⟩
  | 23 => ⟨S8192, .f32⟩
  | 24 => ⟨S8x1024, .f32⟩
  | 25 => ⟨S65536, .f32⟩
  | 26 => ⟨S_, .i32⟩
  | 27 => ⟨S_, .f32⟩
  | 28 => ⟨S65536, .f32⟩
  | 29 => ⟨S64x1024, .f32⟩
  | 30 => ⟨S65536, .f32⟩
  | 31 => ⟨S_, .i32⟩
  | 32 => ⟨S_, .f32⟩
  | 33 => ⟨S65536, .f32⟩
  | 34 => ⟨S64x1024, .f32⟩
  | 35 => ⟨S768, .f32⟩
  | 36 => ⟨S_, .i32⟩
  | 37 => ⟨S_, .f32⟩
  | 38 => ⟨S8192, .f32⟩
  | 39 => ⟨S8x1024, .f32⟩
  | 40 => ⟨S3072, .f32⟩
  | 41 => ⟨S_, .i32⟩
  | 42 => ⟨S_, .f32⟩
  | 43 => ⟨S8192, .f32⟩
  | 44 => ⟨S8x1024, .f32⟩
  | 45 => ⟨S_, .f32⟩
  | 46 => ⟨S8x1024, .f32⟩
  | 47 => ⟨S160x1024, .f32⟩
  | 48 => ⟨S7936, .f32⟩
  | 49 => ⟨S_, .i32⟩
  | 50 => ⟨S_, .f32⟩
  | 51 => ⟨S8192, .f32⟩
  | 52 => ⟨S8x1024, .f32⟩
  | 53 => ⟨S65536, .f32⟩
  | 54 => ⟨S_, .i32⟩
  | 55 => ⟨S_, .f32⟩
  | 56 => ⟨S65536, .f32⟩
  | 57 => ⟨S64x1024, .f32⟩
  | 58 => ⟨S65536, .f32⟩
  | 59 => ⟨S_, .i32⟩
  | 60 => ⟨S_, .f32⟩
  | 61 => ⟨S65536, .f32⟩
  | 62 => ⟨S64x1024, .f32⟩
  | 63 => ⟨S768, .f32⟩
  | 64 => ⟨S_, .i32⟩
  | 65 => ⟨S_, .f32⟩
  | 66 => ⟨S8192, .f32⟩
  | 67 => ⟨S8x1024, .f32⟩
  | 68 => ⟨S3072, .f32⟩
  | 69 => ⟨S_, .i32⟩
  | 70 => ⟨S_, .f32⟩
  | 71 => ⟨S8192, .f32⟩
  | 72 => ⟨S8x1024, .f32⟩
  | 73 => ⟨S_, .f32⟩
  | 74 => ⟨S8x1024, .f32⟩
  | 75 => ⟨S160x1024, .f32⟩
  | 76 => ⟨S7936, .f32⟩
  | 77 => ⟨S_, .i32⟩
  | 78 => ⟨S_, .f32⟩
  | 79 => ⟨S8192, .f32⟩
  | 80 => ⟨S8x1024, .f32⟩
  | 81 => ⟨S65536, .f32⟩
  | 82 => ⟨S_, .i32⟩
  | 83 => ⟨S_, .f32⟩
  | 84 => ⟨S65536, .f32⟩
  | 85 => ⟨S64x1024, .f32⟩
  | 86 => ⟨S65536, .f32⟩
  | 87 => ⟨S_, .i32⟩
  | 88 => ⟨S_, .f32⟩
  | 89 => ⟨S65536, .f32⟩
  | 90 => ⟨S64x1024, .f32⟩
  | 91 => ⟨S768, .f32⟩
  | 92 => ⟨S_, .i32⟩
  | 93 => ⟨S_, .f32⟩
  | 94 => ⟨S8192, .f32⟩
  | 95 => ⟨S8x1024, .f32⟩
  | 96 => ⟨S3072, .f32⟩
  | 97 => ⟨S_, .i32⟩
  | 98 => ⟨S_, .f32⟩
  | 99 => ⟨S8192, .f32⟩
  | 100 => ⟨S8x1024, .f32⟩
  | 101 => ⟨S_, .f32⟩
  | 102 => ⟨S8x1024, .f32⟩
  | 103 => ⟨S160x1024, .f32⟩
  | 104 => ⟨S7936, .f32⟩
  | 105 => ⟨S_, .i32⟩
  | 106 => ⟨S_, .f32⟩
  | 107 => ⟨S8192, .f32⟩
  | 108 => ⟨S8x1024, .f32⟩
  | 109 => ⟨S65536, .f32⟩
  | 110 => ⟨S_, .i32⟩
  | 111 => ⟨S_, .f32⟩
  | 112 => ⟨S65536, .f32⟩
  | 113 => ⟨S64x1024, .f32⟩
  | 114 => ⟨S65536, .f32⟩
  | 115 => ⟨S_, .i32⟩
  | 116 => ⟨S_, .f32⟩
  | 117 => ⟨S65536, .f32⟩
  | 118 => ⟨S64x1024, .f32⟩
  | 119 => ⟨S768, .f32⟩
  | 120 => ⟨S_, .i32⟩
  | 121 => ⟨S_, .f32⟩
  | 122 => ⟨S8192, .f32⟩
  | 123 => ⟨S8x1024, .f32⟩
  | 124 => ⟨S3072, .f32⟩
  | 125 => ⟨S_, .i32⟩
  | 126 => ⟨S_, .f32⟩
  | 127 => ⟨S8192, .f32⟩
  | _ => ⟨S4x31x64, .f32⟩

abbrev hbmTy0_1 (i : Nat) : BufTy := match i % 128 with
  | 0 => ⟨S8x1024, .f32⟩
  | 1 => ⟨S_, .f32⟩
  | 2 => ⟨S8x1024, .f32⟩
  | 3 => ⟨S160x1024, .f32⟩
  | 4 => ⟨S160x1024, .f32⟩
  | 5 => ⟨S160x1024, .f32⟩
  | 6 => ⟨S160x1024, .f32⟩
  | 7 => ⟨S8x1024, .f32⟩
  | 8 => ⟨S8192, .f32⟩
  | 9 => ⟨S7936, .f32⟩
  | 10 => ⟨S4x31x64, .f32⟩
  | 11 => ⟨S64x1024, .f32⟩
  | 12 => ⟨S65536, .f32⟩
  | 13 => ⟨S4x64x256, .f32⟩
  | 14 => ⟨S64x1024, .f32⟩
  | 15 => ⟨S65536, .f32⟩
  | 16 => ⟨S4x64x256, .f32⟩
  | 17 => ⟨S8x1024, .f32⟩
  | 18 => ⟨S8192, .f32⟩
  | 19 => ⟨S768, .f32⟩
  | 20 => ⟨S4x3x64, .f32⟩
  | 21 => ⟨S8x1024, .f32⟩
  | 22 => ⟨S8192, .f32⟩
  | 23 => ⟨S3072, .f32⟩
  | 24 => ⟨S4x4x192, .f32⟩
  | 25 => ⟨S8x1024, .f32⟩
  | 26 => ⟨S8192, .f32⟩
  | 27 => ⟨S7936, .f32⟩
  | 28 => ⟨S4x31x64, .f32⟩
  | 29 => ⟨S64x1024, .f32⟩
  | 30 => ⟨S65536, .f32⟩
  | 31 => ⟨S4x64x256, .f32⟩
  | 32 => ⟨S64x1024, .f32⟩
  | 33 => ⟨S65536, .f32⟩
  | 34 => ⟨S4x64x256, .f32⟩
  | 35 => ⟨S8x1024, .f32⟩
  | 36 => ⟨S8192, .f32⟩
  | 37 => ⟨S768, .f32⟩
  | 38 => ⟨S4x3x64, .f32⟩
  | 39 => ⟨S8x1024, .f32⟩
  | 40 => ⟨S8192, .f32⟩
  | 41 => ⟨S3072, .f32⟩
  | 42 => ⟨S4x4x192, .f32⟩
  | 43 => ⟨S8x1024, .f32⟩
  | 44 => ⟨S8192, .f32⟩
  | 45 => ⟨S7936, .f32⟩
  | 46 => ⟨S4x31x64, .f32⟩
  | 47 => ⟨S64x1024, .f32⟩
  | 48 => ⟨S65536, .f32⟩
  | 49 => ⟨S4x64x256, .f32⟩
  | 50 => ⟨S64x1024, .f32⟩
  | 51 => ⟨S65536, .f32⟩
  | 52 => ⟨S4x64x256, .f32⟩
  | 53 => ⟨S8x1024, .f32⟩
  | 54 => ⟨S8192, .f32⟩
  | 55 => ⟨S768, .f32⟩
  | 56 => ⟨S4x3x64, .f32⟩
  | 57 => ⟨S8x1024, .f32⟩
  | 58 => ⟨S8192, .f32⟩
  | 59 => ⟨S3072, .f32⟩
  | 60 => ⟨S4x4x192, .f32⟩
  | _ => ⟨S4x31x64, .f32⟩

abbrev hbmTy (i : Nat) : BufTy := match i / 128 with
  | 0 => hbmTy0_0 i
  | 1 => hbmTy0_1 i
  | _ => ⟨S4x31x64, .f32⟩

abbrev bufTy : (tb : Table) → Fin (tcTables nBuf tb) → BufTy
  | .hbm, ⟨i, _⟩ => hbmTy i
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | _, _ => ⟨S4x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_call2_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_call3_v0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_call4_v0 : Ref sig .tc := ⟨.hbm, 42, rfl⟩
abbrev main_v13 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_call5_v0 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_5 : Ref sig .tc := ⟨.hbm, 54, rfl⟩
abbrev main_call6_v0 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_c_6 : Ref sig .tc := ⟨.hbm, 59, rfl⟩
abbrev main_call7_v0 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_7 : Ref sig .tc := ⟨.hbm, 64, rfl⟩
abbrev main_call8_v0 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_c_8 : Ref sig .tc := ⟨.hbm, 69, rfl⟩
abbrev main_call9_v0 : Ref sig .tc := ⟨.hbm, 70, rfl⟩
abbrev main_v30 : Ref sig .tc := ⟨.hbm, 71, rfl⟩
abbrev main_v31 : Ref sig .tc := ⟨.hbm, 72, rfl⟩
abbrev main_cst_9 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_c_10 : Ref sig .tc := ⟨.hbm, 77, rfl⟩
abbrev main_call10_v0 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_c_11 : Ref sig .tc := ⟨.hbm, 82, rfl⟩
abbrev main_call11_v0 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_12 : Ref sig .tc := ⟨.hbm, 87, rfl⟩
abbrev main_call12_v0 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_c_13 : Ref sig .tc := ⟨.hbm, 92, rfl⟩
abbrev main_call13_v0 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_c_14 : Ref sig .tc := ⟨.hbm, 97, rfl⟩
abbrev main_call14_v0 : Ref sig .tc := ⟨.hbm, 98, rfl⟩
abbrev main_v47 : Ref sig .tc := ⟨.hbm, 99, rfl⟩
abbrev main_v48 : Ref sig .tc := ⟨.hbm, 100, rfl⟩
abbrev main_cst_15 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_c_16 : Ref sig .tc := ⟨.hbm, 105, rfl⟩
abbrev main_call15_v0 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_c_17 : Ref sig .tc := ⟨.hbm, 110, rfl⟩
abbrev main_call16_v0 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_c_18 : Ref sig .tc := ⟨.hbm, 115, rfl⟩
abbrev main_call17_v0 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_c_19 : Ref sig .tc := ⟨.hbm, 120, rfl⟩
abbrev main_call18_v0 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_c_20 : Ref sig .tc := ⟨.hbm, 125, rfl⟩
abbrev main_call19_v0 : Ref sig .tc := ⟨.hbm, 126, rfl⟩
abbrev main_v64 : Ref sig .tc := ⟨.hbm, 127, rfl⟩
abbrev main_v65 : Ref sig .tc := ⟨.hbm, 128, rfl⟩
abbrev main_cst_21 : Ref sig .tc := ⟨.hbm, 129, rfl⟩
abbrev main_v66 : Ref sig .tc := ⟨.hbm, 130, rfl⟩
abbrev main_v67 : Ref sig .tc := ⟨.hbm, 131, rfl⟩
abbrev main_v68_0 : Ref sig .tc := ⟨.hbm, 132, rfl⟩
abbrev main_v68_1 : Ref sig .tc := ⟨.hbm, 133, rfl⟩
abbrev main_v68_2 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamwSmallIdeal.lean ====
abbrev S4x31x64 : Shape := ⟨3, ![4, 31, 64]⟩
abbrev S4x64x256 : Shape := ⟨3, ![4, 64, 256]⟩
abbrev S4x3x64 : Shape := ⟨3, ![4, 3, 64]⟩
abbrev S4x4x192 : Shape := ⟨3, ![4, 4, 192]⟩
abbrev S_ : Shape := ⟨0, ![]⟩

abbrev nBuf : Space → Nat
  | .hbm => 185
  | .vmem => 0
  | .smem => 0
  | _ => 0

abbrev hbmTy0_0 (i : Nat) : BufTy := match i % 128 with
  | 0 => ⟨S4x31x64, .f32⟩
  | 1 => ⟨S4x64x256, .f32⟩
  | 2 => ⟨S4x64x256, .f32⟩
  | 3 => ⟨S4x3x64, .f32⟩
  | 4 => ⟨S4x4x192, .f32⟩
  | 5 => ⟨S4x31x64, .f32⟩
  | 6 => ⟨S4x64x256, .f32⟩
  | 7 => ⟨S4x64x256, .f32⟩
  | 8 => ⟨S4x3x64, .f32⟩
  | 9 => ⟨S4x4x192, .f32⟩
  | 10 => ⟨S4x31x64, .f32⟩
  | 11 => ⟨S4x64x256, .f32⟩
  | 12 => ⟨S4x64x256, .f32⟩
  | 13 => ⟨S4x3x64, .f32⟩
  | 14 => ⟨S4x4x192, .f32⟩
  | 15 => ⟨S4x31x64, .f32⟩
  | 16 => ⟨S4x64x256, .f32⟩
  | 17 => ⟨S4x64x256, .f32⟩
  | 18 => ⟨S4x3x64, .f32⟩
  | 19 => ⟨S4x4x192, .f32⟩
  | 20 => ⟨S_, .f32⟩
  | 21 => ⟨S4x31x64, .f32⟩
  | 22 => ⟨S4x31x64, .f32⟩
  | 23 => ⟨S_, .f32⟩
  | 24 => ⟨S4x31x64, .f32⟩
  | 25 => ⟨S4x31x64, .f32⟩
  | 26 => ⟨S4x31x64, .f32⟩
  | 27 => ⟨S_, .f32⟩
  | 28 => ⟨S4x31x64, .f32⟩
  | 29 => ⟨S4x31x64, .f32⟩
  | 30 => ⟨S4x31x64, .f32⟩
  | 31 => ⟨S_, .f32⟩
  | 32 => ⟨S4x31x64, .f32⟩
  | 33 => ⟨S4x31x64, .f32⟩
  | 34 => ⟨S4x31x64, .f32⟩
  | 35 => ⟨S_, .f32⟩
  | 36 => ⟨S4x31x64, .f32⟩
  | 37 => ⟨S4x31x64, .f32⟩
  | 38 => ⟨S_, .f32⟩
  | 39 => ⟨S4x31x64, .f32⟩
  | 40 => ⟨S4x31x64, .f32⟩
  | 41 => ⟨S4x31x64, .f32⟩
  | 42 => ⟨S_, .f32⟩
  | 43 => ⟨S4x31x64, .f32⟩
  | 44 => ⟨S4x31x64, .f32⟩
  | 45 => ⟨S4x31x64, .f32⟩
  | 46 => ⟨S_, .f32⟩
  | 47 => ⟨S4x31x64, .f32⟩
  | 48 => ⟨S4x31x64, .f32⟩
  | 49 => ⟨S4x31x64, .f32⟩
  | 50 => ⟨S_, .f32⟩
  | 51 => ⟨S4x31x64, .f32⟩
  | 52 => ⟨S4x31x64, .f32⟩
  | 53 => ⟨S_, .f32⟩
  | 54 => ⟨S4x64x256, .f32⟩
  | 55 => ⟨S4x64x256, .f32⟩
  | 56 => ⟨S_, .f32⟩
  | 57 => ⟨S4x64x256, .f32⟩
  | 58 => ⟨S4x64x256, .f32⟩
  | 59 => ⟨S4x64x256, .f32⟩
  | 60 => ⟨S_, .f32⟩
  | 61 => ⟨S4x64x256, .f32⟩
  | 62 => ⟨S4x64x256, .f32⟩
  | 63 => ⟨S4x64x256, .f32⟩
  | 64 => ⟨S_, .f32⟩
  | 65 => ⟨S4x64x256, .f32⟩
  | 66 => ⟨S4x64x256, .f32⟩
  | 67 => ⟨S4x64x256, .f32⟩
  | 68 => ⟨S_, .f32⟩
  | 69 => ⟨S4x64x256, .f32⟩
  | 70 => ⟨S4x64x256, .f32⟩
  | 71 => ⟨S_, .f32⟩
  | 72 => ⟨S4x64x256, .f32⟩
  | 73 => ⟨S4x64x256, .f32⟩
  | 74 => ⟨S4x64x256, .f32⟩
  | 75 => ⟨S_, .f32⟩
  | 76 => ⟨S4x64x256, .f32⟩
  | 77 => ⟨S4x64x256, .f32⟩
  | 78 => ⟨S4x64x256, .f32⟩
  | 79 => ⟨S_, .f32⟩
  | 80 => ⟨S4x64x256, .f32⟩
  | 81 => ⟨S4x64x256, .f32⟩
  | 82 => ⟨S4x64x256, .f32⟩
  | 83 => ⟨S_, .f32⟩
  | 84 => ⟨S4x64x256, .f32⟩
  | 85 => ⟨S4x64x256, .f32⟩
  | 86 => ⟨S_, .f32⟩
  | 87 => ⟨S4x64x256, .f32⟩
  | 88 => ⟨S4x64x256, .f32⟩
  | 89 => ⟨S_, .f32⟩
  | 90 => ⟨S4x64x256, .f32⟩
  | 91 => ⟨S4x64x256, .f32⟩
  | 92 => ⟨S4x64x256, .f32⟩
  | 93 => ⟨S_, .f32⟩
  | 94 => ⟨S4x64x256, .f32⟩
  | 95 => ⟨S4x64x256, .f32⟩
  | 96 => ⟨S4x64x256, .f32⟩
  | 97 => ⟨S_, .f32⟩
  | 98 => ⟨S4x64x256, .f32⟩
  | 99 => ⟨S4x64x256, .f32⟩
  | 100 => ⟨S4x64x256, .f32⟩
  | 101 => ⟨S_, .f32⟩
  | 102 => ⟨S4x64x256, .f32⟩
  | 103 => ⟨S4x64x256, .f32⟩
  | 104 => ⟨S_, .f32⟩
  | 105 => ⟨S4x64x256, .f32⟩
  | 106 => ⟨S4x64x256, .f32⟩
  | 107 => ⟨S4x64x256, .f32⟩
  | 108 => ⟨S_, .f32⟩
  | 109 => ⟨S4x64x256, .f32⟩
  | 110 => ⟨S4x64x256, .f32⟩
  | 111 => ⟨S4x64x256, .f32⟩
  | 112 => ⟨S_, .f32⟩
  | 113 => ⟨S4x64x256, .f32⟩
  | 114 => ⟨S4x64x256, .f32⟩
  | 115 => ⟨S4x64x256, .f32⟩
  | 116 => ⟨S_, .f32⟩
  | 117 => ⟨S4x64x256, .f32⟩
  | 118 => ⟨S4x64x256, .f32⟩
  | 119 => ⟨S_, .f32⟩
  | 120 => ⟨S4x3x64, .f32⟩
  | 121 => ⟨S4x3x64, .f32⟩
  | 122 => ⟨S_, .f32⟩
  | 123 => ⟨S4x3x64, .f32⟩
  | 124 => ⟨S4x3x64, .f32⟩
  | 125 => ⟨S4x3x64, .f32⟩
  | 126 => ⟨S_, .f32⟩
  | 127 => ⟨S4x3x64, .f32⟩
  | _ => ⟨S4x31x64, .f32⟩

abbrev hbmTy0_1 (i : Nat) : BufTy := match i % 128 with
  | 0 => ⟨S4x3x64, .f32⟩
  | 1 => ⟨S4x3x64, .f32⟩
  | 2 => ⟨S_, .f32⟩
  | 3 => ⟨S4x3x64, .f32⟩
  | 4 => ⟨S4x3x64, .f32⟩
  | 5 => ⟨S4x3x64, .f32⟩
  | 6 => ⟨S_, .f32⟩
  | 7 => ⟨S4x3x64, .f32⟩
  | 8 => ⟨S4x3x64, .f32⟩
  | 9 => ⟨S_, .f32⟩
  | 10 => ⟨S4x3x64, .f32⟩
  | 11 => ⟨S4x3x64, .f32⟩
  | 12 => ⟨S4x3x64, .f32⟩
  | 13 => ⟨S_, .f32⟩
  | 14 => ⟨S4x3x64, .f32⟩
  | 15 => ⟨S4x3x64, .f32⟩
  | 16 => ⟨S4x3x64, .f32⟩
  | 17 => ⟨S_, .f32⟩
  | 18 => ⟨S4x3x64, .f32⟩
  | 19 => ⟨S4x3x64, .f32⟩
  | 20 => ⟨S4x3x64, .f32⟩
  | 21 => ⟨S_, .f32⟩
  | 22 => ⟨S4x3x64, .f32⟩
  | 23 => ⟨S4x3x64, .f32⟩
  | 24 => ⟨S_, .f32⟩
  | 25 => ⟨S4x4x192, .f32⟩
  | 26 => ⟨S4x4x192, .f32⟩
  | 27 => ⟨S_, .f32⟩
  | 28 => ⟨S4x4x192, .f32⟩
  | 29 => ⟨S4x4x192, .f32⟩
  | 30 => ⟨S4x4x192, .f32⟩
  | 31 => ⟨S_, .f32⟩
  | 32 => ⟨S4x4x192, .f32⟩
  | 33 => ⟨S4x4x192, .f32⟩
  | 34 => ⟨S4x4x192, .f32⟩
  | 35 => ⟨S_, .f32⟩
  | 36 => ⟨S4x4x192, .f32⟩
  | 37 => ⟨S4x4x192, .f32⟩
  | 38 => ⟨S4x4x192, .f32⟩
  | 39 => ⟨S_, .f32⟩
  | 40 => ⟨S4x4x192, .f32⟩
  | 41 => ⟨S4x4x192, .f32⟩
  | 42 => ⟨S_, .f32⟩
  | 43 => ⟨S4x4x192, .f32⟩
  | 44 => ⟨S4x4x192, .f32⟩
  | 45 => ⟨S4x4x192, .f32⟩
  | 46 => ⟨S_, .f32⟩
  | 47 => ⟨S4x4x192, .f32⟩
  | 48 => ⟨S4x4x192, .f32⟩
  | 49 => ⟨S4x4x192, .f32⟩
  | 50 => ⟨S_, .f32⟩
  | 51 => ⟨S4x4x192, .f32⟩
  | 52 => ⟨S4x4x192, .f32⟩
  | 53 => ⟨S4x4x192, .f32⟩
  | 54 => ⟨S_, .f32⟩
  | 55 => ⟨S4x4x192, .f32⟩
  | 56 => ⟨S4x4x192, .f32⟩
  | _ => ⟨S4x31x64, .f32⟩

abbrev hbmTy (i : Nat) : BufTy := match i / 128 with
  | 0 => hbmTy0_0 i
  | 1 => hbmTy0_1 i
  | _ => ⟨S4x31x64, .f32⟩

abbrev bufTy : (tb : Table) → Fin (tcTables nBuf tb) → BufTy
  | .hbm, ⟨i, _⟩ => hbmTy i
  | _, _ => ⟨S4x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_cst_9 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_cst_13 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_14 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_16 : Ref sig .tc := ⟨.hbm, 83, rfl⟩
abbrev main_v46 : Ref sig .tc := ⟨.hbm, 84, rfl⟩
abbrev main_v47 : Ref sig .tc := ⟨.hbm, 85, rfl⟩
abbrev main_cst_17 : Ref sig .tc := ⟨.hbm, 86, rfl⟩
abbrev main_v48 : Ref sig .tc := ⟨.hbm, 87, rfl⟩
abbrev main_v49 : Ref sig .tc := ⟨.hbm, 88, rfl⟩
abbrev main_cst_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_20 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_21 : Ref sig .tc := ⟨.hbm, 101, rfl⟩
abbrev main_v59 : Ref sig .tc := ⟨.hbm, 102, rfl⟩
abbrev main_v60 : Ref sig .tc := ⟨.hbm, 103, rfl⟩
abbrev main_cst_22 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_23 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_24 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_cst_26 : Ref sig .tc := ⟨.hbm, 119, rfl⟩
abbrev main_v72 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_28 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_29 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_30 : Ref sig .tc := ⟨.hbm, 134, rfl⟩
abbrev main_v83 : Ref sig .tc := ⟨.hbm, 135, rfl⟩
abbrev main_v84 : Ref sig .tc := ⟨.hbm, 136, rfl⟩
abbrev main_cst_31 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_32 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_33 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_34 : Ref sig .tc := ⟨.hbm, 149, rfl⟩
abbrev main_v94 : Ref sig .tc := ⟨.hbm, 150, rfl⟩
abbrev main_v95 : Ref sig .tc := ⟨.hbm, 151, rfl⟩
abbrev main_cst_35 : Ref sig .tc := ⟨.hbm, 152, rfl⟩
abbrev main_v96 : Ref sig .tc := ⟨.hbm, 153, rfl⟩
abbrev main_v97 : Ref sig .tc := ⟨.hbm, 154, rfl⟩
abbrev main_cst_36 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_37 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_38 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_39 : Ref sig .tc := ⟨.hbm, 167, rfl⟩
abbrev main_v107 : Ref sig .tc := ⟨.hbm, 168, rfl⟩
abbrev main_v108 : Ref sig .tc := ⟨.hbm, 169, rfl⟩
abbrev main_cst_40 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_41 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_42 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_43 : Ref sig .tc := ⟨.hbm, 182, rfl⟩
abbrev main_v118 : Ref sig .tc := ⟨.hbm, 183, rfl⟩
abbrev main_v119 : Ref sig .tc := ⟨.hbm, 184, rfl⟩

abbrev nD : Nat := 1
abbrev τ : Topo := Topo.v7x

variable {F : FTy → Type} [FloatOps F]
-- ==== KernelSum.lean ====
abbrev S8x512x834 : Shape := ⟨3, ![8, 512, 834]⟩
abbrev S512x834 : Shape := ⟨2, ![512, 834]⟩
abbrev S8x256x834 : Shape := ⟨3, ![8, 256, 834]⟩
abbrev S256x834 : Shape := ⟨2, ![256, 834]⟩
abbrev S1x256x834 : Shape := ⟨3, ![1, 256, 834]⟩

abbrev nBuf : Space → Nat
  | .hbm => 2
  | .vmem => 4
  | .smem => 0
  | _ => 0

abbrev bufTy : (tb : Table) → Fin (tcTables nBuf tb) → BufTy
  | .hbm, ⟨0, _⟩ => ⟨S8x512x834, .bf16⟩
  | .hbm, ⟨1, _⟩ => ⟨S512x834, .f32⟩
  | .local _ .vmem, ⟨0, _⟩ => ⟨S8x256x834, .bf16⟩
  | .local _ .vmem, ⟨1, _⟩ => ⟨S8x256x834, .bf16⟩
  | .local _ .vmem, ⟨2, _⟩ => ⟨S256x834, .f32⟩
  | .local _ .vmem, ⟨3, _⟩ => ⟨S256x834, .f32⟩
  | _, _ => ⟨S8x512x834, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x834 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x834 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceSumIdeal.lean ====
abbrev S8x512x834 : Shape := ⟨3, ![8, 512, 834]⟩
abbrev S_ : Shape := ⟨0, ![]⟩
abbrev S512x834 : Shape := ⟨2, ![512, 834]⟩

abbrev nBuf : Space → Nat
  | .hbm => 4
  | .vmem => 0
  | .smem => 0
  | _ => 0

abbrev bufTy : (tb : Table) → Fin (tcTables nBuf tb) → BufTy
  | .hbm, ⟨0, _⟩ => ⟨S8x512x834, .bf16⟩
  | .hbm, ⟨1, _⟩ => ⟨S8x512x834, .f32⟩
  | .hbm, ⟨2, _⟩ => ⟨S_, .f32⟩
  | .hbm, ⟨3, _⟩ => ⟨S512x834, .f32⟩
  | _, _ => ⟨S8x512x834, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelPrep.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S256x2048 : Shape := ⟨2, ![256, 2048]⟩
abbrev S1x16 : Shape := ⟨2, ![1, 16]⟩
abbrev S_ : Shape := ⟨0, ![]⟩
abbrev S1x128 : Shape := ⟨2, ![1, 128]⟩
abbrev S16x1024 : Shape := ⟨2, ![16, 1024]⟩
abbrev S128x1024 : Shape := ⟨2, ![128, 1024]⟩
abbrev S8x128 : Shape := ⟨2, ![8, 128]⟩
abbrev S8x1024 : Shape := ⟨2, ![8, 1024]⟩
abbrev S256x1024 : Shape := ⟨2, ![256, 1024]⟩
abbrev S1024 : Shape := ⟨1, ![1024]⟩
abbrev S7x1024 : Shape := ⟨2, ![7, 1024]⟩
abbrev S128 : Shape := ⟨1, ![128]⟩

abbrev nBuf : Space → Nat
  | .hbm => 32
  | .vmem => 18
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S1x1024, .f32⟩
  | .hbm, ⟨8, _⟩ => ⟨S1x1024, .f32⟩
  | .hbm, ⟨9, _⟩ => ⟨S256x2048, .f32⟩
  | .hbm, ⟨10, _⟩ => ⟨S256x2048, .f32⟩
  | .hbm, ⟨11, _⟩ => ⟨S1x1024, .f32⟩
  | .hbm, ⟨12, _⟩ => ⟨S1x1024, .f32⟩
  | .hbm, ⟨13, _⟩ => ⟨S1x16, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S16x16x64, .f32⟩
  | .hbm, ⟨18, _⟩ => ⟨S16x1024, .f32⟩
  | .hbm, ⟨19, _⟩ => ⟨S16x16x64, .f32⟩
  | .hbm, ⟨20, _⟩ => ⟨S16x1024, .f32⟩
  | .hbm, ⟨21, _⟩ => ⟨S16x16x64, .f32⟩
  | .hbm, ⟨22, _⟩ => ⟨S16x1024, .f32⟩
  | .hbm, ⟨23, _⟩ => ⟨S16x16x64, .f32⟩
  | .hbm, ⟨24, _⟩ => ⟨S16x1024, .f32⟩
  | .hbm, ⟨25, _⟩ => ⟨S1x1024, .f32⟩
  | .hbm, ⟨26, _⟩ => ⟨S1x1024, .f32⟩
  | .hbm, ⟨27, _⟩ => ⟨S1x128, .f32⟩
  | .hbm, ⟨28, _⟩ => ⟨S16x1024, .f32⟩
  | .hbm, ⟨29, _⟩ => ⟨S16x1024, .f32⟩
  | .hbm, ⟨30, _⟩ => ⟨S16x1024, .f32⟩
  | .hbm, ⟨31, _⟩ => ⟨S16x1024, .f32⟩
  | .local _ .vmem, ⟨0, _⟩ => ⟨S1x1024, .f32⟩
  | .local _ .vmem, ⟨1, _⟩ => ⟨S1x1024, .f32⟩
  | .local _ .vmem, ⟨2, _⟩ => ⟨S1x128, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S1x1024, .f32⟩
  | .local _ .vmem, ⟨8, _⟩ => ⟨S1x1024, .f32⟩
  | .local _ .vmem, ⟨9, _⟩ => ⟨S256x2048, .f32⟩
  | .local _ .vmem, ⟨10, _⟩ => ⟨S256x2048, .f32⟩
  | .local _ .vmem, ⟨11, _⟩ => ⟨S1x1024, .f32⟩
  | .local _ .vmem, ⟨12, _⟩ => ⟨S1x1024, .f32⟩
  | .local _ .vmem, ⟨13, _⟩ => ⟨S1x128, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev main_v12_5 : Ref sig .tc := ⟨.hbm, 30, rfl⟩
abbrev main_v12_6 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== ReferencePrepIdeal.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S256x2048 : Shape := ⟨2, ![256, 2048]⟩
abbrev S256x1024 : Shape := ⟨2, ![256, 1024]⟩
abbrev S16x1 : Shape := ⟨2, ![16, 1]⟩
abbrev S1x16 : Shape := ⟨2, ![1, 16]⟩
abbrev S16x16 : Shape := ⟨2, ![16, 16]⟩
abbrev S16x1x16x1 : Shape := ⟨4, ![16, 1, 16, 1]⟩
abbrev S16x16x16x64 : Shape := ⟨4, ![16, 16, 16, 64]⟩
abbrev S_ : Shape := ⟨0, ![]⟩
abbrev S16x64x1 : Shape := ⟨3, ![16, 64, 1]⟩
abbrev S112 : Shape := ⟨1, ![112]⟩
abbrev S128 : Shape := ⟨1, ![128]⟩
abbrev S1x128 : Shape := ⟨2, ![1, 128]⟩
abbrev S16x1024 : Shape := ⟨2, ![16, 1024]⟩

abbrev nBuf : Space → Nat
  | .hbm => 266
  | .vmem => 0
  | .smem => 0
  | _ => 0

abbrev hbmTy0_0 (i : Nat) : BufTy := match i % 128 with
  | 0 => ⟨S16x64, .f32⟩
  | 1 => ⟨S16x64, .f32⟩
  | 2 => ⟨S16, .f32⟩
  | 3 => ⟨S16x64x16, .f32⟩
  | 4 => ⟨S16x64x16, .f32⟩
  | 5 => ⟨S16x16x64, .f32⟩
  | 6 => ⟨S16x16x64, .f32⟩
  | 7 => ⟨S1x1024, .f32⟩
  | 8 => ⟨S1x1024, .f32⟩
  | 9 => ⟨S256x2048, .f32⟩
  | 10 => ⟨S256x2048, .f32⟩
  | 11 => ⟨S256x1024, .f32⟩
  | 12 => ⟨S16, .i32⟩
  | 13 => ⟨S16x1, .i32⟩
  | 14 => ⟨S16, .i32⟩
  | 15 => ⟨S1x16, .i32⟩
  | 16 => ⟨S16x16, .i32⟩
  | 17 => ⟨S16x16, .i32⟩
  | 18 => ⟨S16x16, .i1⟩
  | 19 => ⟨S16x1x16x1, .i1⟩
  | 20 => ⟨S16x16x16x64, .f32⟩
  | 21 => ⟨S_, .f32⟩
  | 22 => ⟨S_, .f32⟩
  | 23 => ⟨S16x16x16x64, .i1⟩
  | 24 => ⟨S16x16x16x64, .f32⟩
  | 25 => ⟨S16x16x16x64, .f32⟩
  | 26 => ⟨S_, .f32⟩
  | 27 => ⟨S16x16x64, .f32⟩
  | 28 => ⟨S16x64x16, .f32⟩
  | 29 => ⟨S256x1024, .f32⟩
  | 30 => ⟨S16, .i32⟩
  | 31 => ⟨S16x1, .i32⟩
  | 32 => ⟨S16, .i32⟩
  | 33 => ⟨S1x16, .i32⟩
  | 34 => ⟨S16x16, .i32⟩
  | 35 => ⟨S16x16, .i32⟩
  | 36 => ⟨S16x16, .i1⟩
  | 37 => ⟨S16x1x16x1, .i1⟩
  | 38 => ⟨S16x16x16x64, .f32⟩
  | 39 => ⟨S_, .f32⟩
  | 40 => ⟨S_, .f32⟩
  | 41 => ⟨S16x16x16x64, .i1⟩
  | 42 => ⟨S16x16x16x64, .f32⟩
  | 43 => ⟨S16x16x16x64, .f32⟩
  | 44 => ⟨S_, .f32⟩
  | 45 => ⟨S16x16x64, .f32⟩
  | 46 => ⟨S16x64x16, .f32⟩
  | 47 => ⟨S256x1024, .f32⟩
  | 48 => ⟨S16, .i32⟩
  | 49 => ⟨S16x1, .i32⟩
  | 50 => ⟨S16, .i32⟩
  | 51 => ⟨S1x16, .i32⟩
  | 52 => ⟨S16x16, .i32⟩
  | 53 => ⟨S16x16, .i32⟩
  | 54 => ⟨S16x16, .i1⟩
  | 55 => ⟨S16x1x16x1, .i1⟩
  | 56 => ⟨S16x16x16x64, .f32⟩
  | 57 => ⟨S_, .f32⟩
  | 58 => ⟨S_, .f32⟩
  | 59 => ⟨S16x16x16x64, .i1⟩
  | 60 => ⟨S16x16x16x64, .f32⟩
  | 61 => ⟨S16x16x16x64, .f32⟩
  | 62 => ⟨S_, .f32⟩
  | 63 => ⟨S16x16x64, .f32⟩
  | 64 => ⟨S256x1024, .f32⟩
  | 65 => ⟨S16, .i32⟩
  | 66 => ⟨S16x1, .i32⟩
  | 67 => ⟨S16, .i32⟩
  | 68 => ⟨S1x16, .i32⟩
  | 69 => ⟨S16x16, .i32⟩
  | 70 => ⟨S16x16, .i32⟩
  | 71 => ⟨S16x16, .i1⟩
  | 72 => ⟨S16x1x16x1, .i1⟩
  | 73 => ⟨S16x16x16x64, .f32⟩
  | 74 => ⟨S_, .f32⟩
  | 75 => ⟨S_, .f32⟩
  | 76 => ⟨S16x16x16x64, .i1⟩
  | 77 => ⟨S16x16x16x64, .f32⟩
  | 78 => ⟨S16x16x16x64, .f32⟩
  | 79 => ⟨S_, .f32⟩
  | 80 => ⟨S16x16x64, .f32⟩
  | 81 => ⟨S16x16x64, .f32⟩
  | 82 => ⟨S_, .f32⟩
  | 83 => ⟨S16x64, .f32⟩
  | 84 => ⟨S16x64, .f32⟩
  | 85 => ⟨S_, .f32⟩
  | 86 => ⟨S16x64, .f32⟩
  | 87 => ⟨S16x64, .i1⟩
  | 88 => ⟨S_, .f32⟩
  | 89 => ⟨S16x64, .f32⟩
  | 90 => ⟨S16x64, .i1⟩
  | 91 => ⟨S_, .f32⟩
  | 92 => ⟨S16x64, .f32⟩
  | 93 => ⟨S_, .f32⟩
  | 94 => ⟨S16x64, .f32⟩
  | 95 => ⟨S_, .f32⟩
  | 96 => ⟨S16x64, .f32⟩
  | 97 => ⟨S16x64, .f32⟩
  | 98 => ⟨S16x64, .f32⟩
  | 99 => ⟨S16, .f32⟩
  | 100 => ⟨S16x1, .f32⟩
  | 101 => ⟨S16x64, .f32⟩
  | 102 => ⟨S16x64, .f32⟩
  | 103 => ⟨S16x64, .f32⟩
  | 104 => ⟨S16x64, .f32⟩
  | 105 => ⟨S16x64, .f32⟩
  | 106 => ⟨S16x64, .f32⟩
  | 107 => ⟨S16x64, .f32⟩
  | 108 => ⟨S16x64, .f32⟩
  | 109 => ⟨S16x64, .f32⟩
  | 110 => ⟨S16x64, .f32⟩
  | 111 => ⟨S16x64, .f32⟩
  | 112 => ⟨S16x64, .f32⟩
  | 113 => ⟨S16x64, .f32⟩
  | 114 => ⟨S16x64, .f32⟩
  | 115 => ⟨S16x64, .f32⟩
  | 116 => ⟨S16x64, .f32⟩
  | 117 => ⟨S_, .f32⟩
  | 118 => ⟨S16x64, .f32⟩
  | 119 => ⟨S16x64, .f32⟩
  | 120 => ⟨S16x64, .f32⟩
  | 121 => ⟨S16x64, .f32⟩
  | 122 => ⟨S16x64, .f32⟩
  | 123 => ⟨S16x64, .f32⟩
  | 124 => ⟨S16x64, .f32⟩
  | 125 => ⟨S_, .f32⟩
  | 126 => ⟨S16x64, .f32⟩
  | 127 => ⟨S16x64, .f32⟩
  | _ => ⟨S16x64, .f32⟩

abbrev hbmTy0_1 (i : Nat) : BufTy := match i % 128 with
  | 0 => ⟨S16x64, .f32⟩
  | 1 => ⟨S_, .f32⟩
  | 2 => ⟨S16x64, .f32⟩
  | 3 => ⟨S16x64, .f32⟩
  | 4 => ⟨S16x64, .f32⟩
  | 5 => ⟨S16x64, .f32⟩
  | 6 => ⟨S16x64, .f32⟩
  | 7 => ⟨S16x64, .f32⟩
  | 8 => ⟨S_, .f32⟩
  | 9 => ⟨S16x64, .f32⟩
  | 10 => ⟨S16x64, .f32⟩
  | 11 => ⟨S16x64x1, .f32⟩
  | 12 => ⟨S16x64x1, .f32⟩
  | 13 => ⟨S16x64x16, .f32⟩
  | 14 => ⟨S16x64x16, .f32⟩
  | 15 => ⟨S16x64x16, .f32⟩
  | 16 => ⟨S16x64x16, .f32⟩
  | 17 => ⟨S16x64x16, .f32⟩
  | 18 => ⟨S16x64x16, .f32⟩
  | 19 => ⟨S16x64x16, .f32⟩
  | 20 => ⟨S16x64x16, .f32⟩
  | 21 => ⟨S16x64x16, .f32⟩
  | 22 => ⟨S16x64x16, .f32⟩
  | 23 => ⟨S16x64, .f32⟩
  | 24 => ⟨S16x64, .f32⟩
  | 25 => ⟨S16x64x16, .f32⟩
  | 26 => ⟨S16x64x16, .f32⟩
  | 27 => ⟨S16x64x16, .f32⟩
  | 28 => ⟨S_, .f32⟩
  | 29 => ⟨S16x64, .f32⟩
  | 30 => ⟨S16x64x1, .f32⟩
  | 31 => ⟨S16x64x16, .f32⟩
  | 32 => ⟨S16x64x16, .f32⟩
  | 33 => ⟨S16x64x16, .f32⟩
  | 34 => ⟨S_, .f32⟩
  | 35 => ⟨S16x64, .f32⟩
  | 36 => ⟨S16x64x1, .f32⟩
  | 37 => ⟨S16x64x16, .f32⟩
  | 38 => ⟨S16x64x16, .f32⟩
  | 39 => ⟨S16x64x16, .f32⟩
  | 40 => ⟨S16x64x16, .f32⟩
  | 41 => ⟨S16x64x16, .f32⟩
  | 42 => ⟨S_, .f32⟩
  | 43 => ⟨S16x64, .f32⟩
  | 44 => ⟨S16x64x1, .f32⟩
  | 45 => ⟨S16x64x1, .f32⟩
  | 46 => ⟨S16x64x16, .f32⟩
  | 47 => ⟨S16x64x16, .f32⟩
  | 48 => ⟨S16x64x16, .f32⟩
  | 49 => ⟨S16x64x16, .f32⟩
  | 50 => ⟨S_, .f32⟩
  | 51 => ⟨S16x64, .f32⟩
  | 52 => ⟨S16x64x1, .f32⟩
  | 53 => ⟨S16x64x1, .f32⟩
  | 54 => ⟨S_, .f32⟩
  | 55 => ⟨S16x64, .f32⟩
  | 56 => ⟨S_, .f32⟩
  | 57 => ⟨S16x64, .f32⟩
  | 58 => ⟨S16x64, .f32⟩
  | 59 => ⟨S16x64, .f32⟩
  | 60 => ⟨S16x64, .f32⟩
  | 61 => ⟨S16x64, .f32⟩
  | 62 => ⟨S16x64, .f32⟩
  | 63 => ⟨S16x64, .f32⟩
  | 64 => ⟨S16x64, .f32⟩
  | 65 => ⟨S16x64, .f32⟩
  | 66 => ⟨S16x64, .f32⟩
  | 67 => ⟨S16x64, .f32⟩
  | 68 => ⟨S16x64, .f32⟩
  | 69 => ⟨S16x64, .f32⟩
  | 70 => ⟨S16x64, .f32⟩
  | 71 => ⟨S16x64, .f32⟩
  | 72 => ⟨S16x64, .f32⟩
  | 73 => ⟨S16x64, .f32⟩
  | 74 => ⟨S16x64, .f32⟩
  | 75 => ⟨S16x64, .f32⟩
  | 76 => ⟨S16x64, .f32⟩
  | 77 => ⟨S16x64, .f32⟩
  | 78 => ⟨S16x64, .f32⟩
  | 79 => ⟨S16x64, .f32⟩
  | 80 => ⟨S16x64, .f32⟩
  | 81 => ⟨S16x64, .f32⟩
  | 82 => ⟨S16x64, .f32⟩
  | 83 => ⟨S16x64, .f32⟩
  | 84 => ⟨S16x64, .f32⟩
  | 85 => ⟨S16x64, .f32⟩
  | 86 => ⟨S16x64, .f32⟩
  | 87 => ⟨S16x64, .f32⟩
  | 88 => ⟨S16x64, .f32⟩
  | 89 => ⟨S16x64, .f32⟩
  | 90 => ⟨S16x64, .f32⟩
  | 91 => ⟨S16x64, .f32⟩
  | 92 => ⟨S16x64, .f32⟩
  | 93 => ⟨S16x64, .f32⟩
  | 94 => ⟨S_, .f32⟩
  | 95 => ⟨S16, .f32⟩
  | 96 => ⟨S16x1, .f32⟩
  | 97 => ⟨S16x64, .f32⟩
  | 98 => ⟨S16x64, .f32⟩
  | 99 => ⟨S16x64, .f32⟩
  | 100 => ⟨S16x64, .f32⟩
  | 101 => ⟨S16x64, .f32⟩
  | 102 => ⟨S16x64, .f32⟩
  | 103 => ⟨S16x64, .f32⟩
  | 104 => ⟨S16x64, .f32⟩
  | 105 => ⟨S16x64, .f32⟩
  | 106 => ⟨S_, .f32⟩
  | 107 => ⟨S16, .f32⟩
  | 108 => ⟨S16x1, .f32⟩
  | 109 => ⟨S16x1, .f32⟩
  | 110 => ⟨S16x64, .f32⟩
  | 111 => ⟨S16x64, .f32⟩
  | 112 => ⟨S16x64, .f32⟩
  | 113 => ⟨S16x64, .f32⟩
  | 114 => ⟨S16x64, .f32⟩
  | 115 => ⟨S_, .f32⟩
  | 116 => ⟨S16, .f32⟩
  | 117 => ⟨S16x1, .f32⟩
  | 118 => ⟨S16x1, .f32⟩
  | 119 => ⟨S16x64, .f32⟩
  | 120 => ⟨S16x64, .f32⟩
  | 121 => ⟨S16x64, .f32⟩
  | 122 => ⟨S_, .f32⟩
  | 123 => ⟨S16, .f32⟩
  | 124 => ⟨S16, .f32⟩
  | 125 => ⟨S16x64, .f32⟩
  | 126 => ⟨S1x1024, .f32⟩
  | 127 => ⟨S1x1024, .f32⟩
  | _ => ⟨S16x64, .f32⟩

abbrev hbmTy0_2 (i : Nat) : BufTy := match i % 128 with
  | 0 => ⟨S_, .f32⟩
  | 1 => ⟨S112, .f32⟩
  | 2 => ⟨S128, .f32⟩
  | 3 => ⟨S1x128, .f32⟩
  | 4 => ⟨S16x16x64, .f32⟩
  | 5 => ⟨S16x1024, .f32⟩
  | 6 => ⟨S16x16x64, .f32⟩
  | 7 => ⟨S16x1024, .f32⟩
  | 8 => ⟨S16x1024, .f32⟩
  | 9 => ⟨S16x1024, .f32⟩
  | _ => ⟨S16x64, .f32⟩

abbrev hbmTy (i : Nat) : BufTy := match i / 128 with
  | 0 => hbmTy0_0 i
  | 1 => hbmTy0_1 i
  | 2 => hbmTy0_2 i
  | _ => ⟨S16x64, .f32⟩

abbrev bufTy : (tb : Table) → Fin (tcTables nBuf tb) → BufTy
  | .hbm, ⟨i, _⟩ => hbmTy i
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_cst_9 : Ref sig .tc := ⟨.hbm, 88, rfl⟩
abbrev main_v55 : Ref sig .tc := ⟨.hbm, 89, rfl⟩
abbrev main_v56 : Ref sig .tc := ⟨.hbm, 90, rfl⟩
abbrev main_cst_10 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_cst_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_13 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_14 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_15 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_16 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_17 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_18 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_19 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_20 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_21 : Ref sig .tc := ⟨.hbm, 182, rfl⟩
abbrev main_v137 : Ref sig .tc := ⟨.hbm, 183, rfl⟩
abbrev main_cst_22 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_cst_23 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_cst_24 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_cst_25 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_cst_26 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_cst_27 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩

abbrev nD : Nat := 1
abbrev τ : Topo := Topo.v7x

variable {F : FTy → Type} [FloatOps F]
-- ==== Proof.Arith.lean ====
/- Facts about extended reals that several of the calls' proofs use, and the values of the literals. -/
module

public import Idealize.ShloMosaic.Lib.Pointwise
public import Idealize.ShloMosaic.PureOps.Ideal.Laws
public import Mathlib.Data.EReal.Operations

@[expose] public section

noncomputable section

namespace Cert.Arith

open Idealize.ShloMosaic

theorem lit_two : Ideal.ofBits .f32 0x40000000#32 = ((2 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

/-- A finite nonnegative factor distributes over a sum of two, infinities or not. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- … and over a finite sum. -/
theorem coe_mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

theorem two_mul_add (y : EReal) : ((2 : ℝ) : EReal) * y = y + y := by
  have h : ((2 : ℝ) : EReal) = 1 + 1 := by
    rw [← EReal.coe_one, ← EReal.coe_add]; norm_num
  rw [h, EReal.right_distrib_of_nonneg (by norm_num) (by norm_num), one_mul]

end Cert.Arith

end
-- ==== Proof.Loss.lean ====
/- What the loss call's kernel leaves, set beside the reference's results. -/
module

public import proofs.«01_k».proof.Proof.Gen.KernelLossIdeal.Value
public import proofs.«01_k».proof.Proof.Gen.ReferenceLossIdeal.Read
public import proofs.«01_k».proof.Proof.Gen.KernelLoss.Frame
public import proofs.«01_k».proof.Defs
public import Idealize.ShloMosaic.Lib.Claim
public import Idealize.ShloMosaic.Lib.Pipeline.ValueKit
public import Idealize.ShloMosaic.Lib.Pointwise
public import proofs.«01_k».proof.Proof.Arith

@[expose] public section

set_option maxRecDepth 16384

noncomputable section

namespace Cert.KernelLossIdeal.Loss

open Idealize.ShloMosaic Idealize.ShloMosaic.TcCoe Idealize.SL.Sem
open Idealize.ShloMosaic.Pipeline (Dat)
open Cert.KernelLossIdeal Cert.KernelLossIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0] :=
  (by decide +kernel : ∀ t : Fin grid0.N, _)

section Pure

open Cert.ReferenceLossIdeal.Read

variable (X T : FVec Ideal S4096x1024 .f32) (G : FVec Ideal S1024 .f32) (x t : FVec Ideal S256x1024 .f32)
    (g : FVec Ideal S1x1024 .f32) (r : Fin 256) (l : Fin 1024) (R : Fin 4096) (f : Fin 256 → Fin 4096)

/-- the reciprocal root mean square of a row -/
theorem inv_at (hx : ∀ k : Fin 1024, x (ix2 r k) = X (ix2 R k)) (z : Fin 1) :
    k0_pay3 (F := Ideal) x (ix2 r z) = val_main_v7 (F := Ideal) X (ix2 R z) := by
  pointwise [k0_pay3, k0_pay2, val_main_v7, val_main_v6, val_main_v5, val_main_v4, val_main_v3, val_main_v2,
    val_main_v1, val_main_v0, val_main_cst, val_main_cst_0, val_main_cst_1, hx]

theorem inv3_at (hx : ∀ k : Fin 1024, x (ix2 r k) = X (ix2 R k)) (z : Fin 1) :
    k0_pay4 (F := Ideal) x (ix2 r z) = val_main_v10 (F := Ideal) X (ix2 R z) := by
  pointwise [k0_pay4, k0_pay3, k0_pay2, val_main_v10, val_main_v9, val_main_v8, val_main_v7, val_main_v6, val_main_v5,
    val_main_v4, val_main_v3, val_main_v2, val_main_v1, val_main_v0, val_main_cst, val_main_cst_0, val_main_cst_1,
    val_main_cst_2, hx]

theorem norm_at (hx : ∀ k : Fin 1024, x (ix2 r k) = X (ix2 R k)) (k : Fin 1024) :
    k0_pay5 (F := Ideal) x (ix2 r k) = val_main_v12 (F := Ideal) X (ix2 R k) := by
  pointwise [k0_pay5, val_main_v12, val_main_v11, inv_at X x r R hx, hx]

theorem diff_at (hx : ∀ k : Fin 1024, x (ix2 r k) = X (ix2 R k)) (ht : ∀ k : Fin 1024, t (ix2 r k) = T (ix2 R k))
    (hg : ∀ k : Fin 1024, g (ix2 0 k) = G (ix1 k)) (k : Fin 1024) :
    k0_pay6 (F := Ideal) t x g (ix2 r k) = val_main_v16 (F := Ideal) X G T (ix2 R k) := by
  pointwise [k0_pay6, k0_pay1, val_main_v16, val_main_v15, val_main_v14, val_main_v13, norm_at X x r R hx, hx, ht, hg]

/-- the cotangent of the normed activation: twice the difference, times the mean's share -/
theorem ct_at (d : FVec Ideal S256x1024 .f32) (k : Fin 1024)
    (hd : d (ix2 r k) = val_main_v16 (F := Ideal) X G T (ix2 R k)) :
    k0_pay9 (F := Ideal) d (k0_pay8 (F := Ideal)) (ix2 r k) = val_main_v30 (F := Ideal) X G T (ix2 R k) := by
  pointwise [k0_pay9, k0_pay8, val_main_v30, val_main_v29, val_main_v28, val_main_v27, val_main_v26, val_main_v25,
    val_main_cst_8, val_main_cst_9, val_main_cst_10, val_main_v19, val_main_v18, val_main_cst_4, val_main_cst_3, hd]
  simp only [Finset.univ_unique, Finset.sum_const, Finset.card_singleton, one_smul, Arith.lit_two, Arith.lit_half,
    Arith.lit_1024, Arith.two_mul_add]
  rw [Ideal.div_coe (by norm_num : (1024 : ℝ) ≠ 0), ← EReal.coe_mul, mul_comm _ ((_ : ℝ) : EReal),
    Arith.coe_mul_add (by norm_num)]

theorem dx_at (hx : ∀ k : Fin 1024, x (ix2 r k) = X (ix2 R k)) (ht : ∀ k : Fin 1024, t (ix2 r k) = T (ix2 R k))
    (hg : ∀ k : Fin 1024, g (ix2 0 k) = G (ix1 k)) :
    k0_pay10 x (k0_pay1 g) (k0_pay3 (F := Ideal) x) (k0_pay4 (F := Ideal) x) (k0_pay6 (F := Ideal) t x g) (k0_pay8 (F := Ideal)) (ix2 r l)
      = val_main_v50 (F := Ideal) X G T (ix2 R l) := by
  have hc := fun k => ct_at X T G r R (k0_pay6 (F := Ideal) t x g) k (diff_at X T G x t g r R hx ht hg k)
  pointwise [k0_pay10, k0_pay1, inv_at X x r R hx, inv3_at X x r R hx, hc, val_main_v50,
    val_main_v49, val_main_v48, val_main_v47, val_main_v46, val_main_v45, val_main_v44, val_main_v43, val_main_v42,
    val_main_v41, val_main_v40, val_main_v39, val_main_v38, val_main_v37, val_main_v35, val_main_v34, val_main_v13,
    val_main_cst_13, val_main_cst_14, val_main_cst_15, hx, ht, hg]

/-- one tile's part of the weight's gradient, after what the tiles before left -/
theorem dg_step (hx : ∀ r k, x (ix2 r k) = X (ix2 (f r) k)) (ht : ∀ r k, t (ix2 r k) = T (ix2 (f r) k))
    (hg : ∀ k : Fin 1024, g (ix2 0 k) = G (ix1 k)) (acc : FVec Ideal S1x1024 .f32) (j : S1x1024.Idx) :
    k0_pay13 (F := Ideal) (k0_pay5 x) (k0_pay6 t x g) (k0_pay8 (F := Ideal)) acc j
      = acc j + ∑ r : Fin 256, val_main_v12 (F := Ideal) X (ix2 (f r) (j 1)) * val_main_v30 (F := Ideal) X G T (ix2 (f r) (j 1)) := by
  have hc := fun r k => ct_at X T G r (f r) (k0_pay6 t x g) k (diff_at X T G x t g r (f r) (hx r) (ht r) hg k)
  have hn := fun r k => norm_at X x r (f r) (hx r) k
  pointwise [k0_pay13, hc, hn]

theorem loss_step (hx : ∀ r k, x (ix2 r k) = X (ix2 (f r) k)) (ht : ∀ r k, t (ix2 r k) = T (ix2 (f r) k))
    (hg : ∀ k : Fin 1024, g (ix2 0 k) = G (ix1 k)) (acc : FVec Ideal S8x128 .f32) (j : S8x128.Idx) :
    k0_pay14 (F := Ideal) (k0_pay7 t x g) acc j
      = acc j + Ideal.ofBits .f32 0x3F000000#32 * ∑ r : Fin 256, Ideal.div (∑ k : Fin 1024,
          val_main_v16 (F := Ideal) X G T (ix2 (f r) k) * val_main_v16 (F := Ideal) X G T (ix2 (f r) k)) (Ideal.ofBits .f32 0x44800000#32) := by
  have hd := fun r k => diff_at X T G x t g r (f r) (hx r) (ht r) hg k
  pointwise [k0_pay14, k0_pay7, hd]

theorem loss_ref (j : S8x128.Idx) : val_main_v51 (F := Ideal) X G T j
      = Ideal.ofBits .f32 0x3F000000#32 * ∑ R : Fin 4096, Ideal.div (∑ k : Fin 1024,
          val_main_v16 (F := Ideal) X G T (ix2 R k) * val_main_v16 (F := Ideal) X G T (ix2 R k)) (Ideal.ofBits .f32 0x44800000#32) := by
  pointwise [val_main_v51, val_main_v24, val_main_v23, val_main_v22, val_main_v21, val_main_v20, val_main_v17,
    val_main_cst_4, val_main_cst_5, val_main_cst_6, val_main_cst_7]

theorem dg_ref (j : S1x1024.Idx) : val_main_v52 (F := Ideal) X G T j
      = ∑ R : Fin 4096, val_main_v12 (F := Ideal) X (ix2 R (j 1)) * val_main_v30 (F := Ideal) X G T (ix2 R (j 1)) := by
  pointwise [val_main_v52, val_main_v36, val_main_v33, val_main_v32, val_main_v31, val_main_cst_11, val_main_cst_12]
  simp only [Finset.univ_unique, Finset.sum_const, Finset.card_singleton, one_smul]

end Pure

/-- the arrays the loss reads, at the reference's types -/
abbrev X (c : Dev nD) : FVec Ideal S4096x1024 .f32 := m ((c : Thread nD τ).loc main_arg0)
abbrev G (c : Dev nD) : FVec Ideal S1024 .f32 := m ((c : Thread nD τ).loc main_arg1)
abbrev T (c : Dev nD) : FVec Ideal S4096x1024 .f32 := m ((c : Thread nD τ).loc main_arg2)

/-- a tile's row, as the array's -/
abbrev row (t : Fin cfg0.N) (r : Fin 256) : Fin 4096 :=
  ⟨t.val * 256 + r.val, by have : t.val < 16 := lt_of_lt_of_eq t.isLt N_0; omega⟩

theorem blk_x (c : Dev nD) (t : Fin cfg0.N) (r : Fin 256) (k : Fin 1024) :
    (iblk m c 0 t : FVec Ideal S256x1024 .f32) (ix2 r k) = X m c (ix2 (row t r) k) := by
  blk_ext! [iblk, V, idx_val t]

theorem blk_t (c : Dev nD) (t : Fin cfg0.N) (r : Fin 256) (k : Fin 1024) :
    (iblk m c 2 t : FVec Ideal S256x1024 .f32) (ix2 r k) = T m c (ix2 (row t r) k) := by
  blk_ext! [iblk, V, idx_val t]

theorem blk_g (c : Dev nD) (t : Fin cfg0.N) (k : Fin 1024) :
    (iblk m c 1 t : FVec Ideal S1x1024 .f32) (ix2 0 k) = G m c (ix1 k) := by
  blk_simp [iblk, idx_val t]; entry_read; pointwise; blk_ext [idx_val t]

open Cert.ReferenceLossIdeal.Read

theorem final_dx (c : Dev nD) : (dats m 0 c).arrAt 4 (cfgs 0).N = val_main_v50 (F := Ideal) (X m c) (G m c) (T m c) := by
  have hmain : ∀ (t : Fin cfg0.N) (y : S256x1024.Idx),
      k0_pay10 (iblk m c 0 t) (k0_pay1 (iblk m c 1 t)) (k0_pay3 (iblk m c 0 t)) (k0_pay4 (iblk m c 0 t))
        (k0_pay6 (iblk m c 2 t) (iblk m c 0 t) (iblk m c 1 t)) (k0_pay8 (F := Ideal)) y
      = val_main_v50 (F := Ideal) (X m c) (G m c) (T m c) (((cfg0.win 4).blk t).view.emb y) := by
    intro t y
    rw [eq_ix2 y]
    refine (dx_at (X m c) (T m c) (G m c) _ _ _ (y 0) (y 1) (row t (y 0)) (blk_x m c t _) (blk_t m c t _) (blk_g m c t)).trans ?_
    blk_ext! [idx_val t]
  refine (dats m 0 c).arrAt_eq_of_covers 4 _ (by decide +kernel) fun t hf y => ?_
  blk_simp; rw [after0_4]
  by_cases h : t.val % 16 = 0
  · rw [outsAt0_A m c t h]; dsimp only; frame_out; exact hmain t y
  · rw [outsAt0_B m c t h]; dsimp only; frame_out; exact hmain t y

theorem final_dg (c : Dev nD) : (dats m 0 c).arrAt 5 (cfgs 0).N = val_main_v52 (F := Ideal) (X m c) (G m c) (T m c) := by
  have hstep := fun (t : Fin cfg0.N) => dg_step (X m c) (T m c) (G m c) _ _ _ (row t) (blk_x m c t) (blk_t m c t) (blk_g m c t)
  have hzero : ∀ j : S1x1024.Idx, k0_pay11 (F := Ideal) j = 0 := fun j => by pointwise [k0_pay11]
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0) _
    (fun t h j => by rw [outsAt0_A m c t h]; frame_out; rw [hstep, hzero])
    (fun t h j => by rw [outsAt0_B m c t h]; frame_out; rw [hstep])
    (le_of_eq N_0) t0_15 rfl _, zero_add, dg_ref]
  exact Fin.sum_mul_add_congr fun s k hl => rfl

theorem final_loss (c : Dev nD) : (dats m 0 c).arrAt 3 (cfgs 0).N = val_main_v51 (F := Ideal) (X m c) (G m c) (T m c) := by
  have hstep := fun (t : Fin cfg0.N) => loss_step (X m c) (T m c) (G m c) _ _ _ (row t) (blk_x m c t) (blk_t m c t) (blk_g m c t)
  have hzero : ∀ j : S8x128.Idx, k0_pay12 (F := Ideal) j = 0 := fun j => by pointwise [k0_pay12]
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0) _
    (fun t h j => by rw [outsAt0_A m c t h]; frame_out; rw [hstep, hzero])
    (fun t h j => by rw [outsAt0_B m c t h]; frame_out; rw [hstep])
    (le_of_eq N_0) t0_15 rfl _, zero_add, loss_ref]
  refine ((Arith.lit_half ▸ Arith.coe_mul_sum _ (by norm_num) _).symm).trans (congrArg _ ?_)
  exact Fin.sum_mul_add_congr fun s k hl => rfl

theorem frame_kernel : Cert.quiescent_KernelLoss := fun m ρ _ => Cert.KernelLoss.Gen.frame m ρ

theorem frame_ideal : Cert.quiescent_KernelLossIdeal := fun m ρ _ => Cert.KernelLossIdeal.Gen.frame m ρ

theorem frame_reference : Cert.quiescent_ReferenceLossIdeal := fun m ρ _ =>
  (θ_run Cert.ReferenceLossIdeal.defs _ _).mono
    (fun r h => ⟨fun c => (h c).2.2.2, sem_eq_zero_of_no_sems (by decide) r.2⟩)
    (Cert.ReferenceLossIdeal.Value.run m ρ)

theorem algebraic : Cert.algebraic_KernelLossIdeal_ReferenceLossIdeal := by
  pair_intro
  · run_from Cert.KernelLossIdeal.Value.run_blocks m g
  · run_from Cert.ReferenceLossIdeal.Value.run m' g'
    · exact (val_main_v51_eq _ _ _).trans (final_loss m c).symm
    · rw [val_main_v50_eq, (hagree c).1, (hagree c).2.1, (hagree c).2.2]
      exact (final_dx m c).symm
    · exact (val_main_v52_eq _ _ _).trans (final_dg m c).symm

end Cert.KernelLossIdeal.Loss

end
-- ==== Proof.Conv.lean ====
/- A causal convolution's gradient, tile by tile: the pure facts, for any number of taps. -/
module

public import Idealize.ShloMosaic.Lib.Pointwise

@[expose] public section

noncomputable section

namespace Cert.Conv

/-- a column of `N` rows, continued by zeros on both sides -/
def ext {N : ℕ} (f : Fin N → EReal) (n : ℤ) : EReal :=
  if h : 0 ≤ n ∧ n < N then f ⟨n.toNat, by omega⟩ else 0

theorem ext_of {N : ℕ} (f : Fin N → EReal) (n : ℤ) (i : Fin N) (h : n = i.val) : ext f n = f i := by
  subst h
  have hi := i.isLt
  unfold ext
  rw [dif_pos (by omega)]
  exact congrArg f (Fin.ext (by simp))

theorem ext_zero {N : ℕ} (f : Fin N → EReal) (n : ℤ) (h : n < 0 ∨ (N : ℤ) ≤ n) : ext f n = 0 := by
  unfold ext; rw [dif_neg (by omega)]

/-- the part of the column that tile `T` of `B` rows holds, counted from the tile's first row -/
def tile {N : ℕ} (B : ℕ) (f : Fin N → EReal) (T : ℕ) (j : ℤ) : EReal :=
  if 0 ≤ j ∧ j < B then ext f (T * B + j) else 0

theorem tile_of {N B : ℕ} (f : Fin N → EReal) (T : ℕ) (j : ℤ) (i : Fin N) (h0 : 0 ≤ j) (h1 : j < B) (h : T * B + j = i.val) :
    tile B f T j = f i := by
  unfold tile; rw [if_pos ⟨h0, h1⟩]; exact ext_of f _ i h

theorem tile_zero {N B : ℕ} (f : Fin N → EReal) (T : ℕ) (j : ℤ) (h : j < 0 ∨ (B : ℤ) ≤ j) : tile B f T j = 0 := by
  unfold tile; rw [if_neg (by omega)]

theorem tile_past {N B : ℕ} (f : Fin N → EReal) (T : ℕ) (hT : N ≤ T * B) (j : ℤ) : tile B f T j = 0 := by
  unfold tile; split
  · exact ext_zero f _ (by right; have : (N : ℤ) ≤ T * B := by exact_mod_cast hT
                           omega)
  · rfl

/-- a row of the column, past its own tile at most by one: this tile's part and the next one's -/
theorem ext_split {N B : ℕ} (f : Fin N → EReal) (T : ℕ) (j : ℤ) (h0 : 0 ≤ j) (h1 : j < 2 * B) :
    ext f (T * B + j) = tile B f T j + tile B f (T + 1) (j - B) := by
  unfold tile
  by_cases h : j < B
  · rw [if_pos ⟨h0, h⟩, if_neg (by omega), add_zero]
  · rw [if_neg (by omega), if_pos (by omega), zero_add]
    congr 1; push_cast; ring

theorem dite_tile {N B : ℕ} (f : Fin N → EReal) (T : ℕ) (j : ℤ) {P : Prop} [Decidable P] (g : P → Fin N)
    (hP : P ↔ 0 ≤ j ∧ j < B) (hg : ∀ h, (T * B + j : ℤ) = (g h).val) : (if h : P then f (g h) else 0) = tile B f T j := by
  split
  · rename_i h; exact (tile_of f T j _ (hP.mp h).1 (hP.mp h).2 (hg h)).symm
  · rename_i h; rw [hP] at h; exact (tile_zero f T j (by omega)).symm

theorem dite_ext {N : ℕ} (f : Fin N → EReal) (n : ℤ) (w : EReal) {P : Prop} [Decidable P] (g : P → Fin N)
    (hP : P ↔ 0 ≤ n ∧ n < N) (hg : ∀ h, n = (g h).val) : (if h : P then w * f (g h) else 0) = ext f n * w := by
  split
  · rename_i h; rw [ext_of f n _ (hg h), mul_comm]
  · rename_i h; rw [hP] at h; rw [ext_zero f n (by omega), zero_mul]

/-- what tile `T` gives its own rows and, at the first `H` indices, the tile before: tap `k` of `K` at index `q` -/
def dext {N : ℕ} (B H K : ℕ) (f : Fin N → EReal) (w : ℕ → EReal) (T : ℕ) (q : ℕ) : EReal :=
  ∑ k ∈ Finset.range K, tile B f T (q - (H - (K - 1)) - k) * w k

theorem dext_past {N B H K : ℕ} (f : Fin N → EReal) (w : ℕ → EReal) (T : ℕ) (hT : N ≤ T * B) (q : ℕ) :
    dext B H K f w T q = 0 := by
  unfold dext
  exact Finset.sum_eq_zero fun k _ => by rw [tile_past f T hT, zero_mul]

/-- a row's gradient: what its tile gives it and what the next tile hands back -/
theorem dext_add {N B H K : ℕ} (hK : K ≤ H + 1) (hH : H ≤ B) (f : Fin N → EReal) (w : ℕ → EReal) (T r : ℕ) (hr : r < B) :
    dext B H K f w T (H + r) + (if B ≤ r + H then dext B H K f w (T + 1) (r + H - B) else 0)
      = ∑ k ∈ Finset.range K, ext f (T * B + r + (K - 1) - k) * w k := by
  split
  · rename_i h
    unfold dext
    rw [← Finset.sum_add_distrib]
    refine Finset.sum_congr rfl fun k hk => ?_
    have hk := Finset.mem_range.mp hk
    have e : ((T : ℤ) * B + r + (K - 1) - k) = T * B + (r + (K - 1) - k) := by ring
    rw [e, ext_split f T _ (by omega) (by omega)]
    have e1 : (((H + r : ℕ) : ℤ) - (H - (K - 1)) - k) = r + (K - 1) - k := by push_cast; ring
    have e2 : (((r + H - B : ℕ) : ℤ) - (H - (K - 1)) - k) = r + (K - 1) - k - B := by omega
    rw [e1, e2]
    by_cases hj : ((r : ℤ) + (K - 1) - k) < B
    · rw [tile_zero f (T + 1) _ (by omega), zero_mul, add_zero, add_zero]
    · rw [tile_zero f T _ (by omega), zero_mul, zero_add, zero_add]
  · rename_i h
    rw [add_zero]
    unfold dext
    refine Finset.sum_congr rfl fun k hk => ?_
    have hk := Finset.mem_range.mp hk
    have e : ((T : ℤ) * B + r + (K - 1) - k) = T * B + (r + (K - 1) - k) := by ring
    have e1 : (((H + r : ℕ) : ℤ) - (H - (K - 1)) - k) = r + (K - 1) - k := by push_cast; ring
    rw [e, ext_split f T _ (by omega) (by omega), e1, tile_zero f (T + 1) _ (by omega), add_zero]

end Cert.Conv

end
-- ==== Proof.Rows.lean ====
/- A rank-two buffer stored one row at a time, read back. -/
module

public import Idealize.ShloMosaic.Lib.WritesUnit
public import Idealize.ShloMosaic.Lib.Pipeline.ValueKit
public import Idealize.ShloMosaic.Lib.Pointwise

@[expose] public section

noncomputable section

namespace Cert.Rows

open Idealize.ShloMosaic

variable {m n : ℕ} {Val : EltTy → Type} {sig : RefSig} {κ : Kind} {sp : Space} {e : EltTy}

/-- the newest piece is row `o`: that row reads its payload, another row what was there before -/
theorem read_row (v : View sig κ sp (⟨2, ![m, n]⟩ : Shape) e) (f : v.ty.Contents Val) (o : ℕ)
    (inb : ∀ a, (![o, 0] : Fin 2 → ℕ) a + (⟨2, ![1, n]⟩ : Shape).size a ≤ (⟨2, ![m, n]⟩ : Shape).size a)
    (w : (⟨2, ![1, n]⟩ : Shape).Idx → Val e) (L : List (View.Piece Val (⟨2, ![m, n]⟩ : Shape) e)) (q : Fin m) (l : Fin n) :
    v.read Val (v.writes Val f ((⟨Rect.unit (s := ⟨2, ![m, n]⟩) ![o, 0] (⟨2, ![1, n]⟩ : Shape).size inb, w⟩ : View.Piece Val (⟨2, ![m, n]⟩ : Shape) e) :: L)) (ix2 q l)
      = if q.val = o then w (ix2 (0 : Fin 1) l) else v.read Val (v.writes Val f L) (ix2 q l) := by
  split
  · rename_i h
    exact View.read_writes_cons_rows_of_mem v f inb w L (ix2 q l) (ix2 (0 : Fin 1) l) rfl (by show q.val = o + 0; omega) rfl
  · rename_i h
    exact View.read_writes_cons_rows_of_not_mem v f inb w L (ix2 q l) (W := 1) rfl rfl (by show q.val < o ∨ o + 1 ≤ q.val; omega)

theorem ld_row (x : (⟨2, ![m, n]⟩ : Shape).Idx → Val e) (o : ℕ) (ho : o < m)
    (inb : ∀ a, (![o, 0] : Fin 2 → ℕ) a + (⟨2, ![1, n]⟩ : Shape).size a ≤ (⟨2, ![m, n]⟩ : Shape).size a) (z : Fin 1) (l : Fin n) :
    View.ld x (Rect.unit (s := ⟨2, ![m, n]⟩) ![o, 0] (⟨2, ![1, n]⟩ : Shape).size inb) (ix2 z l) = x (ix2 (⟨o, ho⟩ : Fin m) l) := by
  refine congrArg x ?_
  funext a; apply Fin.ext
  fin_cases a
  · show o + 1 * z.val = o; omega
  · show 0 + 1 * l.val = l.val; omega

variable [∀ e, Nonempty (Val e)]

theorem canon_row (o : ℕ)
    (inb : ∀ a, (![o, 0] : Fin 2 → ℕ) a + (⟨2, ![1, n]⟩ : Shape).size a ≤ (⟨2, ![m, n]⟩ : Shape).size a)
    (w : (⟨2, ![1, n]⟩ : Shape).Idx → Val e) (L : List (View.Piece Val (⟨2, ![m, n]⟩ : Shape) e)) (q : Fin m) (l : Fin n) :
    View.canon ((⟨Rect.unit (s := ⟨2, ![m, n]⟩) ![o, 0] (⟨2, ![1, n]⟩ : Shape).size inb, w⟩ : View.Piece Val (⟨2, ![m, n]⟩ : Shape) e) :: L) (ix2 q l)
      = if q.val = o then w (ix2 (0 : Fin 1) l) else View.canon L (ix2 q l) := by
  split
  · rename_i h
    have e' : (Rect.unit (s := ⟨2, ![m, n]⟩) ![o, 0] (⟨2, ![1, n]⟩ : Shape).size inb).emb (ix2 (0 : Fin 1) l) = ix2 q l := by
      funext a; apply Fin.ext
      fin_cases a
      · show o + 1 * 0 = q.val; omega
      · show 0 + 1 * l.val = l.val; omega
    rw [← e']
    exact View.canon_cons_emb (Rect.unit (s := ⟨2, ![m, n]⟩) ![o, 0] (⟨2, ![1, n]⟩ : Shape).size inb) w L _
  · rename_i h
    refine View.canon_cons_of_not_mem _ L fun hm => h ?_
    have h1 : o ≤ q.val ∧ q.val < o + 1 := (Rect.mem_set_unit (inb := inb)).mp hm (0 : Fin 2)
    omega

/-- one piece that is the whole buffer -/
theorem canon_whole (inb : ∀ a, (![0, 0] : Fin 2 → ℕ) a + (⟨2, ![m, n]⟩ : Shape).size a ≤ (⟨2, ![m, n]⟩ : Shape).size a)
    (w : (⟨2, ![m, n]⟩ : Shape).Idx → Val e) (L : List (View.Piece Val (⟨2, ![m, n]⟩ : Shape) e)) (q : Fin m) (l : Fin n) :
    View.canon ((⟨Rect.unit (s := ⟨2, ![m, n]⟩) ![0, 0] (⟨2, ![m, n]⟩ : Shape).size inb, w⟩ : View.Piece Val (⟨2, ![m, n]⟩ : Shape) e) :: L) (ix2 q l) = w (ix2 q l) := by
  have e' : (Rect.unit (s := ⟨2, ![m, n]⟩) ![0, 0] (⟨2, ![m, n]⟩ : Shape).size inb).emb (ix2 q l) = ix2 q l := by
    funext a; apply Fin.ext
    fin_cases a
    · show 0 + 1 * q.val = q.val; omega
    · show 0 + 1 * l.val = l.val; omega
  refine (congrArg _ e'.symm).trans ?_
  exact View.canon_cons_emb (Rect.unit (s := ⟨2, ![m, n]⟩) ![0, 0] (⟨2, ![m, n]⟩ : Shape).size inb) w L _

/-- row `o` loaded after the writes is the contents' row `o` -/
theorem readCov_row (v : View sig κ sp (⟨2, ![m, n]⟩ : Shape) e) (L : List (View.Piece Val (⟨2, ![m, n]⟩ : Shape) e)) (o : ℕ) (ho : o < m)
    (inb : ∀ a, (![o, 0] : Fin 2 → ℕ) a + (⟨2, ![1, n]⟩ : Shape).size a ≤ (⟨2, ![m, n]⟩ : Shape).size a) (z : Fin 1) (l : Fin n) :
    v.readCov L (Rect.unit (s := ⟨2, ![m, n]⟩) ![o, 0] (⟨2, ![1, n]⟩ : Shape).size inb).toLoadRect (ix2 z l)
      = View.canon L (ix2 (⟨o, ho⟩ : Fin m) l) := by
  rw [View.readCov_eq_canon']
  refine congrArg (View.canon L) ?_
  funext a; apply Fin.ext
  fin_cases a
  · show o + 1 * z.val = o; omega
  · show 0 + 1 * l.val = l.val; omega

end Cert.Rows

end
-- ==== Proof.C.lean ====
/- What the short convolution's backward call leaves, set beside the reference's results. -/
module

public import proofs.«01_k».proof.Proof.Gen.KernelCIdeal.Value
public import proofs.«01_k».proof.Proof.Gen.ReferenceCIdeal.Read
public import proofs.«01_k».proof.Proof.Gen.KernelC.Frame
public import proofs.«01_k».proof.Defs
public import Idealize.ShloMosaic.Lib.Claim
public import Idealize.ShloMosaic.Lib.StableHlo.ReadAt
public import Idealize.ShloMosaic.Lib.Pipeline.ValueKit
public import Idealize.ShloMosaic.Lib.Pointwise
public import proofs.«01_k».proof.Proof.Conv
public import proofs.«01_k».proof.Proof.Rows

@[expose] public section

set_option maxRecDepth 16384

noncomputable section

namespace Cert.KernelCIdeal.C

open Idealize.ShloMosaic Idealize.ShloMosaic.TcCoe Idealize.SL.Sem
open Idealize.ShloMosaic.Pipeline (Dat)
open Cert.KernelCIdeal Cert.KernelCIdeal.Gen

variable (m : (ℓ : Loc nD τ sig) → Buf (Elt Ideal) ℓ)

theorem idx_val : ∀ t : Fin cfg0.N, win0_0.index t = ![15 - t.val, 5]
    ∧ win0_1.index t = ![15 - t.val, 3]
    ∧ win0_2.index t = ![15 - t.val, 8]
    ∧ win0_3.index t = ![(15 - t.val) * 32 - 1, 3]
    ∧ win0_4.index t = ![15 - t.val, 2]
    ∧ win0_5.index t = ![0, 0]
    ∧ win0_6.index t = ![15 - t.val, 0]
    ∧ win0_7.index t = ![0, 0] :=
  (by decide +kernel : ∀ t : Fin grid0.N, _)

open Cert.ReferenceCIdeal.Read

/-- a tile's row, as the array's -/
abbrev row (T : ℕ) (hT : T < 16) (r : Fin 256) : Fin 4096 := ⟨T * 256 + r.val, by omega⟩

/-- a tap's share of a row in the taps' gradient -/
abbrev tap (X : FVec Ideal S4096x3336 .f32) (D : FVec Ideal S4096x1024 .f32) (k : Fin 3) (l : Fin 256) (R : Fin 4096) : EReal :=
  val_main_v17 (F := Ideal) X (ix2 ⟨k.val + R.val, by omega⟩ l) * val_main_v48 (F := Ideal) X D (ix2 R l)

section Pure

variable (X : FVec Ideal S4096x3336 .f32) (D : FVec Ideal S4096x1024 .f32) (W : FVec Ideal S3x256 .f32)
    (bg cg xc cz dy : FVec Ideal S256x256 .f32) (w0 w1 w2 : FVec Ideal S1x256 .f32) (E : FVec Ideal S264x256 .f32) (T : ℕ) (hT : T < 16)

/-- the convolution's cotangent, one column -/
abbrev ct (l : Fin 256) : Fin 4096 → EReal := fun R => val_main_v48 (F := Ideal) X D (ix2 R l)

/-- one column's taps -/
abbrev taps (l : Fin 256) : ℕ → EReal := fun k => Conv.ext (fun j : Fin 3 => W (ix2 j l)) k

theorem taps_0 (l : Fin 256) : taps W l 0 = W (ix2 0 l) := Conv.ext_of _ _ (0 : Fin 3) rfl
theorem taps_1 (l : Fin 256) : taps W l 1 = W (ix2 1 l) := Conv.ext_of _ _ (1 : Fin 3) rfl
theorem taps_2 (l : Fin 256) : taps W l 2 = W (ix2 2 l) := Conv.ext_of _ _ (2 : Fin 3) rfl

theorem acc_at (i : grid0.Coords) (v6 v8 : FVec Ideal S8x256 .f32)
    (hE : ∀ (q : Fin 264) (n : Fin 4098) (l : Fin 256), T * 256 + q.val = n.val + 6 →
      k0_pay5 (F := Ideal) i v6 v8 cg xc (ix2 q l) = val_main_v17 (F := Ideal) X (ix2 n l))
    (h0 : ∀ l : Fin 256, w0 (ix2 0 l) = W (ix2 0 l)) (h1 : ∀ l : Fin 256, w1 (ix2 0 l) = W (ix2 1 l)) (h2 : ∀ l : Fin 256, w2 (ix2 0 l) = W (ix2 2 l))
    (r l : Fin 256) :
    k0_pay6 (F := Ideal) i v6 v8 cg xc w0 w1 w2 (ix2 r l) = val_main_v40 (F := Ideal) X W (ix2 (row T hT r) l) := by
  pointwise [k0_pay6, val_main_v40, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v21, val_main_v20, val_main_v19, val_main_cst_1, h0, h1, h2]
  rw [hE _ ⟨T * 256 + r.val, by omega⟩ l (by show T * 256 + (8 + r.val + 264 - 2) % 264 = T * 256 + r.val + 6; omega),
    hE _ ⟨1 + (T * 256 + r.val), by omega⟩ l (by show T * 256 + (8 + r.val + 264 - 1) % 264 = 1 + (T * 256 + r.val) + 6; omega),
    hE _ ⟨2 + (T * 256 + r.val), by omega⟩ l (by show T * 256 + (8 + r.val) = 2 + (T * 256 + r.val) + 6; omega)]
  exact congrArg₂ (· + ·) (congrArg₂ (· + ·) (mul_comm _ _) (mul_comm _ _)) (mul_comm _ _)

/-- the row's gradient in the reference: every tap's share -/
theorem dP_ref (R : Fin 4096) (l : Fin 256) : val_main_v82 (F := Ideal) X D W (ix2 R l)
    = ∑ k ∈ Finset.range 3, Conv.ext (ct X D l) (R.val + ((3 : ℕ) - 1) - k) * taps W l k := by
  simp only [Finset.sum_range_succ, Finset.sum_range_zero, zero_add]
  pointwise [val_main_v82, val_main_v77, val_main_v76, val_main_v71, val_main_v70, val_main_v66, val_main_v65, val_main_v60, val_main_v59,
    val_main_v56, val_main_v51, val_main_v50, val_main_cst_4, val_main_cst_8, val_main_cst_12, val_main_v37, val_main_v35, val_main_v34,
    val_main_v30, val_main_v28, val_main_v27, val_main_v22, val_main_v20, val_main_v19]
  rw [Conv.dite_ext (ct X D l) (R.val + ((3 : ℕ) - 1) - (1 : ℕ)) (W (ix2 1 l)) (fun h => ⟨2 + R.val - 1, by omega⟩) (by omega) (fun h => by show _ = ((2 + R.val - 1 : ℕ) : ℤ); omega),
    Conv.dite_ext (ct X D l) (R.val + ((3 : ℕ) - 1) - (0 : ℕ)) (W (ix2 0 l)) (fun h => ⟨2 + R.val, by omega⟩) (by omega) (fun h => by show _ = ((2 + R.val : ℕ) : ℤ); omega),
    Conv.ext_of (ct X D l) (R.val + ((3 : ℕ) - 1) - (2 : ℕ)) R (by omega), taps_0, taps_1, taps_2]
  exact (add_comm _ _).trans ((congrArg _ (add_comm _ _)).trans ((add_assoc _ _ _).symm.trans (congrArg _ (mul_comm _ _))))

theorem ct_at (hbg : ∀ r l : Fin 256, bg (ix2 r l) = X (ix2 (row T hT r) ⟨1280 + l.val, by omega⟩))
    (hcz : ∀ r l : Fin 256, cz (ix2 r l) = X (ix2 (row T hT r) ⟨2048 + l.val, by omega⟩))
    (hdy : ∀ r l : Fin 256, dy (ix2 r l) = D (ix2 (row T hT r) ⟨512 + l.val, by omega⟩)) (r l : Fin 256) :
    k0_pay12 (F := Ideal) bg cz dy (ix2 r l) = val_main_v48 (F := Ideal) X D (ix2 (row T hT r) l) := by
  pointwise [k0_pay12, k0_pay7, k0_pay8, k0_pay9, k0_pay10, hbg, hcz, hdy, val_main_v48, val_main_v46, val_main_v44, val_main_v42_0, val_main_v42_2,
    val_main_call0_v7, val_main_call0_v6, val_main_call0_v4, val_main_call0_v3, val_main_call0_v2, val_main_call0_v1, val_main_call0_v0, val_main_call0_cst, val_main_call0_cst_0, val_main_call0_cst_1,
    val_main_v8, val_main_v5]
  rfl

theorem db_at (acc : FVec Ideal S256x256 .f32)
    (hcz : ∀ r l : Fin 256, cz (ix2 r l) = X (ix2 (row T hT r) ⟨2048 + l.val, by omega⟩))
    (hdy : ∀ r l : Fin 256, dy (ix2 r l) = D (ix2 (row T hT r) ⟨512 + l.val, by omega⟩))
    (hacc : ∀ r l : Fin 256, acc (ix2 r l) = val_main_v40 (F := Ideal) X W (ix2 (row T hT r) l)) (r l : Fin 256) :
    k0_pay13 (F := Ideal) acc cz dy (ix2 r l) = val_main_v49 (F := Ideal) X D W (ix2 (row T hT r) l) := by
  pointwise [k0_pay13, k0_pay8, k0_pay9, k0_pay10, hcz, hdy, hacc, val_main_v49, val_main_v46, val_main_v44, val_main_v42_0, val_main_v42_2,
    val_main_call0_v7, val_main_call0_v6, val_main_call0_v4, val_main_call0_v3, val_main_call0_v2, val_main_call0_v1, val_main_call0_v0, val_main_call0_cst, val_main_call0_cst_0, val_main_call0_cst_1,
    val_main_v8]
  rfl

theorem dz_at (acc : FVec Ideal S256x256 .f32) (hbg : ∀ r l : Fin 256, bg (ix2 r l) = X (ix2 (row T hT r) ⟨1280 + l.val, by omega⟩))
    (hcz : ∀ r l : Fin 256, cz (ix2 r l) = X (ix2 (row T hT r) ⟨2048 + l.val, by omega⟩))
    (hdy : ∀ r l : Fin 256, dy (ix2 r l) = D (ix2 (row T hT r) ⟨512 + l.val, by omega⟩))
    (hacc : ∀ r l : Fin 256, acc (ix2 r l) = val_main_v40 (F := Ideal) X W (ix2 (row T hT r) l)) (r l : Fin 256) :
    k0_pay11 (F := Ideal) acc bg cz dy (ix2 r l) = val_main_v47 (F := Ideal) X D W (ix2 (row T hT r) l) := by
  pointwise [k0_pay11, k0_pay7, k0_pay8, k0_pay9, hbg, hcz, hdy, hacc, val_main_v47, val_main_call1_v0, val_main_call1_v1, val_main_call1_v2,  val_main_v45, val_main_v44, val_main_v42_0, val_main_v42_1, val_main_v42_2,
    val_main_call0_v7, val_main_call0_v6, val_main_call0_v4, val_main_call0_v3, val_main_call0_v2, val_main_call0_v1, val_main_call0_v0, val_main_call0_cst, val_main_call0_cst_0, val_main_call0_cst_1,
    val_main_v41, val_main_v8, val_main_v5]
  rfl

section Taps

variable (hE : ∀ (q : Fin 264) (n : Fin 4098) (l : Fin 256), T * 256 + q.val = n.val + 6 → E (ix2 q l) = val_main_v17 (F := Ideal) X (ix2 n l))
    (hd : ∀ r l : Fin 256, k0_pay12 (F := Ideal) bg cz dy (ix2 r l) = val_main_v48 (F := Ideal) X D (ix2 (row T hT r) l))

include hE hd

theorem dw0_at (v : FVec Ideal S1x256 .f32) (l : Fin 256) : k0_pay15 (F := Ideal) E bg cz dy v (ix2 0 l)
    = v (ix2 0 l) + ∑ r : Fin 256, tap X D 0 l (row T hT r) := by
  pointwise [k0_pay15, hd]
  exact congrArg _ (Finset.sum_congr rfl fun r _ => congrArg (· * _) (hE _ _ l (by show T * 256 + (8 + r.val + 264 - 2) % 264 = 0 + (T * 256 + r.val) + 6; omega)))

theorem dw1_at (v : FVec Ideal S1x256 .f32) (l : Fin 256) : k0_pay19 (F := Ideal) (k0_pay17 v) (k0_pay18 E bg cz dy) (ix2 0 l)
    = v (ix2 0 l) + ∑ r : Fin 256, tap X D 1 l (row T hT r) := by
  pointwise [k0_pay19, k0_pay17, k0_pay18, hd]
  exact congrArg _ (Finset.sum_congr rfl fun r _ => congrArg (· * _) (hE _ _ l (by show T * 256 + (8 + r.val + 264 - 1) % 264 = 1 + (T * 256 + r.val) + 6; omega)))

theorem dw2_at (v : FVec Ideal S1x256 .f32) (l : Fin 256) : k0_pay20 (F := Ideal) E (k0_pay12 bg cz dy) v (ix2 0 l)
    = v (ix2 0 l) + ∑ r : Fin 256, tap X D 2 l (row T hT r) := by
  pointwise [k0_pay20, hd]
  exact congrArg _ (Finset.sum_congr rfl fun r _ => congrArg (· * _) (hE _ _ l (by show T * 256 + (8 + r.val) = 2 + (T * 256 + r.val) + 6; omega)))

end Taps

theorem dw_ref (k : Fin 8) (l : Fin 256) : val_main_v87 (F := Ideal) X D (ix2 k l)
    = if h : k.val < 3 then ∑ R : Fin 4096, tap X D ⟨k.val, h⟩ l R else 0 := by
  pointwise [val_main_v87, val_main_v86, val_main_cst_14, val_main_v80, val_main_v79, val_main_v78, val_main_v75, val_main_v74, val_main_v73, val_main_v72, val_main_v21, val_main_cst_10, val_main_cst_11, val_main_cst_13, val_main_v69, val_main_v68, val_main_v67, val_main_v64, val_main_v63, val_main_v62, val_main_v61, val_main_v29, val_main_cst_6, val_main_cst_7, val_main_cst_9, val_main_v58, val_main_v57, val_main_v55, val_main_v54, val_main_v53, val_main_v52, val_main_v36, val_main_cst_2, val_main_cst_3, val_main_cst_5]
  simp only [Finset.univ_unique, Finset.sum_const, Finset.card_singleton, one_smul]
  by_cases hk : k.val < 3
  · rw [dif_pos hk, dif_pos hk]
    rcases (by omega : k.val = 0 ∨ k.val = 1 ∨ k.val = 2) with e | e | e
    · rw [dif_neg (by omega), dif_neg (by omega), dif_pos (by omega), zero_add, zero_add]
      exact Finset.sum_congr rfl fun R _ => (mul_comm _ _).trans (congrArg (fun n => val_main_v17 (F := Ideal) X (ix2 n l) * _) (Fin.ext (by show R.val = k.val + R.val; omega)))
    · rw [dif_neg (by omega), dif_pos (by omega), dif_neg (by omega), zero_add, add_zero]
      exact Finset.sum_congr rfl fun R _ => (mul_comm _ _).trans (congrArg (fun n => val_main_v17 (F := Ideal) X (ix2 n l) * _) (Fin.ext (by show 1 + R.val = k.val + R.val; omega)))
    · rw [dif_pos (by omega), dif_neg (by omega), dif_neg (by omega), add_zero, add_zero]
      exact Finset.sum_congr rfl fun R _ => (mul_comm _ _).trans (congrArg (fun n => val_main_v17 (F := Ideal) X (ix2 n l) * _) (Fin.ext (by show 2 + R.val = k.val + R.val; omega)))
  · rw [dif_neg hk, dif_neg hk]

/-- what a tile gives each index of its haloed rows -/
theorem dext_at (h0 : ∀ l : Fin 256, w0 (ix2 0 l) = W (ix2 0 l)) (h1 : ∀ l : Fin 256, w1 (ix2 0 l) = W (ix2 1 l)) (h2 : ∀ l : Fin 256, w2 (ix2 0 l) = W (ix2 2 l))
    (hd : ∀ r l : Fin 256, k0_pay12 (F := Ideal) bg cz dy (ix2 r l) = val_main_v48 (F := Ideal) X D (ix2 (row T hT r) l)) (q : Fin 264) (l : Fin 256) :
    k0_pay21 (F := Ideal) (k0_pay14 bg cz dy) (k0_pay16 bg cz dy w0) w1 w2 (ix2 q l)
      = Conv.dext 256 8 3 (ct X D l) (taps W l) T q.val := by
  unfold Conv.dext
  simp only [Finset.sum_range_succ, Finset.sum_range_zero, zero_add]
  pointwise [k0_pay21, k0_pay14, k0_pay16, hd, h0, h1, h2]
  rw [Conv.dite_tile (B := 256) (ct X D l) T (q.val - ((8 : ℕ) - ((3 : ℕ) - 1)) - (0 : ℕ)) (fun h => row T hT ⟨(q.val + 264 - 6) % 264, h⟩) (by omega) (fun h => by show _ = ((T * 256 + (q.val + 264 - 6) % 264 : ℕ) : ℤ); omega),
    Conv.dite_tile (B := 256) (ct X D l) T (q.val - ((8 : ℕ) - ((3 : ℕ) - 1)) - (1 : ℕ)) (fun h => row T hT ⟨(q.val + 264 - 7) % 264, h⟩) (by omega) (fun h => by show _ = ((T * 256 + (q.val + 264 - 7) % 264 : ℕ) : ℤ); omega),
    Conv.dite_tile (B := 256) (ct X D l) T (q.val - ((8 : ℕ) - ((3 : ℕ) - 1)) - (2 : ℕ)) (fun h => row T hT ⟨(q.val + 264 - 8) % 264, h⟩) (by omega) (fun h => by show _ = ((T * 256 + (q.val + 264 - 8) % 264 : ℕ) : ℤ); omega),
    taps_0, taps_1, taps_2]

theorem dp_at (v103 : FVec Ideal S8x256 .f32) (h0 : ∀ l : Fin 256, w0 (ix2 0 l) = W (ix2 0 l)) (h1 : ∀ l : Fin 256, w1 (ix2 0 l) = W (ix2 1 l)) (h2 : ∀ l : Fin 256, w2 (ix2 0 l) = W (ix2 2 l))
    (hd : ∀ r l : Fin 256, k0_pay12 (F := Ideal) bg cz dy (ix2 r l) = val_main_v48 (F := Ideal) X D (ix2 (row T hT r) l))
    (hc : ∀ (q : Fin 8) (l : Fin 256), v103 (ix2 q l) = Conv.dext 256 8 3 (ct X D l) (taps W l) (T + 1) q.val) (r l : Fin 256) :
    k0_pay22 (F := Ideal) (k0_pay14 bg cz dy) (k0_pay16 bg cz dy w0) w1 w2 v103 (ix2 r l)
      = val_main_v82 (F := Ideal) X D W (ix2 (row T hT r) l) := by
  have hx := dext_at X D W bg cz dy w0 w1 w2 T hT h0 h1 h2 hd
  pointwise [k0_pay22, hx, hc, dP_ref]
  have e := Conv.dext_add (B := 256) (H := 8) (K := 3) (by omega) (by omega) (ct X D l) (taps W l) T r.val r.isLt
  have hz : ((T * 256 + r.val : ℕ) : ℤ) = T * 256 + r.val := by push_cast; rfl
  rw [hz]
  rw [show ((256 : ℕ) : ℤ) = 256 from rfl] at e
  rw [← e]
  congr 1
  by_cases hr : r.val < 248
  · rw [dif_pos hr, if_neg (by omega)]
  · rw [dif_neg hr, if_pos (by omega)]
    congr 1

end Pure

/-- the arrays the call reads, at the reference's types -/
abbrev X (c : Dev nD) : FVec Ideal S4096x3336 .f32 := m ((c : Thread nD τ).loc main_arg0)
abbrev D (c : Dev nD) : FVec Ideal S4096x1024 .f32 := m ((c : Thread nD τ).loc main_arg1)
abbrev W (c : Dev nD) : FVec Ideal S3x256 .f32 := m ((c : Thread nD τ).loc main_arg2)

theorem pack_at (c : Dev nD) (R : Fin 4096) (k : Fin 3456) (hk : k.val < 2304) :
    (V m c main_v8 : FVec Ideal S4096x3456 .f32) (ix2 R k) = X m c (ix2 R ⟨k.val, by omega⟩) := by
  unfold V
  simp only [hostOps0, hostOps0_1, List.flatten_cons, List.flatten_nil, List.append_nil, List.cons_append, List.nil_append]
  after_reads_at
  by_cases h0 : k.val < 834
  · rw [dif_pos h0]
    after_reads_at
  · rw [dif_neg h0]
    by_cases h1 : k.val - 834 < 834
    · rw [dif_pos h1]
      after_reads_at
      exact congrArg _ (congrArg (ix2 R) (Fin.ext (by show _ + _ = k.val; omega)))
    · rw [dif_neg h1, dif_pos (by omega)]
      after_reads_at
      exact congrArg _ (congrArg (ix2 R) (Fin.ext (by show _ + _ = k.val; omega)))

theorem taps_at (c : Dev nD) (k : Fin 8) (l : Fin 256) :
    (V m c main_v9 : FVec Ideal S8x256 .f32) (ix2 k l) = if h : k.val < 3 then W m c (ix2 ⟨k.val, h⟩ l) else 0 := by
  unfold V
  simp only [hostOps0, hostOps0_1, List.flatten_cons, List.flatten_nil, List.append_nil, List.cons_append, List.nil_append]
  after_reads_at
  split
  · rfl
  · exact (by simp [FloatOps.sitofp] : (FloatOps.sitofp (F := Ideal) FTy.f32 (0#32) : EReal) = 0)

theorem lt16 (t : Fin cfg0.N) : t.val < 16 := lt_of_lt_of_eq t.isLt N_0

theorem bg_at (c : Dev nD) (t : Fin cfg0.N) (r l : Fin 256) :
    (X0_0 m c t : FVec Ideal S256x256 .f32) (ix2 r l) = X m c (ix2 (row (15 - t.val) (by omega) r) ⟨1280 + l.val, by omega⟩) := by
  rw [← pack_at m c _ ⟨1280 + l.val, by omega⟩ (by show 1280 + l.val < 2304; omega)]
  unfold X0_0 Pipeline.Window.fill; rw [dif_pos (moved0_0 t _)]
  blk_simp [iblk, idx_val t]
  blk_ext [idx_val t]

theorem cx_at (c : Dev nD) (t : Fin cfg0.N) (r : Fin 256) (l : Fin 512) :
    (X0_1 m c t : FVec Ideal S256x512 .f32) (ix2 r l) = X m c (ix2 (row (15 - t.val) (by omega) r) ⟨1536 + l.val, by omega⟩) := by
  rw [← pack_at m c _ ⟨1536 + l.val, by omega⟩ (by show 1536 + l.val < 2304; omega)]
  unfold X0_1 Pipeline.Window.fill; rw [dif_pos (moved0_1 t _)]
  blk_simp [iblk, idx_val t]
  blk_ext [idx_val t]

theorem cz_at (c : Dev nD) (t : Fin cfg0.N) (r l : Fin 256) :
    (X0_2 m c t : FVec Ideal S256x256 .f32) (ix2 r l) = X m c (ix2 (row (15 - t.val) (by omega) r) ⟨2048 + l.val, by omega⟩) := by
  rw [← pack_at m c _ ⟨2048 + l.val, by omega⟩ (by show 2048 + l.val < 2304; omega)]
  unfold X0_2 Pipeline.Window.fill; rw [dif_pos (moved0_2 t _)]
  blk_simp [iblk, idx_val t]
  blk_ext [idx_val t]

theorem halo_at (c : Dev nD) (t : Fin cfg0.N) (r : Fin 8) (l : Fin 512) :
    (X0_3 m c t : FVec Ideal S8x512 .f32) (ix2 r l) = X m c (ix2 ⟨((15 - t.val) * 32 - 1) * 8 + r.val, by omega⟩ ⟨1536 + l.val, by omega⟩) := by
  rw [← pack_at m c _ ⟨1536 + l.val, by omega⟩ (by show 1536 + l.val < 2304; omega)]
  unfold X0_3 Pipeline.Window.fill; rw [dif_pos (moved0_3 t _)]
  blk_simp [iblk, idx_val t]
  blk_ext [idx_val t]

theorem dy_at (c : Dev nD) (t : Fin cfg0.N) (r l : Fin 256) :
    (iblk m c 4 t : FVec Ideal S256x256 .f32) (ix2 r l) = D m c (ix2 (row (15 - t.val) (by omega) r) ⟨512 + l.val, by omega⟩) := by
  blk_ext! [iblk, V, idx_val t]

theorem w_at (c : Dev nD) (t : Fin cfg0.N) (k : Fin 8) (l : Fin 256) :
    (iblk m c 5 t : FVec Ideal S8x256 .f32) (ix2 k l) = if h : k.val < 3 then W m c (ix2 ⟨k.val, h⟩ l) else 0 := by
  rw [← taps_at]
  blk_simp [iblk, idx_val t]
  blk_ext [idx_val t]

theorem keep_at : ∀ t : Fin grid0.N, Scalar.extui (Scalar.cmpi .slt (BitVec.ofNat 32 (grid0.coords t 0).val) 15#32) = if t.val < 15 then 1#32 else 0#32 := by
  decide +kernel

theorem ext_at (c : Dev nD) (t : Fin cfg0.N) (v6 v8 : FVec Ideal S8x256 .f32) (cg xc : FVec Ideal S256x256 .f32)
    (h6 : ∀ (r : Fin 8) (l : Fin 256), v6 (ix2 r l) = X m c (ix2 ⟨((15 - t.val) * 32 - 1) * 8 + r.val, by omega⟩ ⟨1536 + l.val, by omega⟩))
    (h8 : ∀ (r : Fin 8) (l : Fin 256), v8 (ix2 r l) = X m c (ix2 ⟨((15 - t.val) * 32 - 1) * 8 + r.val, by omega⟩ ⟨1792 + l.val, by omega⟩))
    (hcg : ∀ r l : Fin 256, cg (ix2 r l) = X m c (ix2 (row (15 - t.val) (by omega) r) ⟨1536 + l.val, by omega⟩))
    (hxc : ∀ r l : Fin 256, xc (ix2 r l) = X m c (ix2 (row (15 - t.val) (by omega) r) ⟨1792 + l.val, by omega⟩))
    (q : Fin 264) (n : Fin 4098) (l : Fin 256) (hn : (15 - t.val) * 256 + q.val = n.val + 6) :
    k0_pay5 (F := Ideal) (grid0.coords t) v6 v8 cg xc (ix2 q l) = val_main_v17 (F := Ideal) (X m c) (ix2 n l) := by
  have hk := keep_at t
  have := lt16 t
  pointwise [k0_pay5, k0_pay3, k0_pay4, h6, h8, hcg, hxc, val_main_v17, val_main_v16, val_main_v15, val_main_v7, val_main_v6, val_main_cst]
  rw [hk]
  by_cases hq : q.val < 8
  · rw [dif_pos hq]
    by_cases ht : t.val < 15
    · rw [if_pos ht, dif_neg (by omega),
        show (⟨((15 - t.val) * 32 - 1) * 8 + q.val, by omega⟩ : Fin 4096) = ⟨n.val - 2, by omega⟩ from Fin.ext (by show ((15 - t.val) * 32 - 1) * 8 + q.val = n.val - 2; omega)]
      simp
    · rw [if_neg ht, dif_pos (by omega)]
      simp
  · rw [dif_neg hq, dif_neg (by omega),
      show row (15 - t.val) (by omega) ⟨q.val - 8, by omega⟩ = (⟨n.val - 2, by omega⟩ : Fin 4096) from Fin.ext (by show _ * 256 + (q.val - 8) = n.val - 2; omega)]

end Cert.KernelCIdeal.C

end
-- ==== Proof.CF.lean ====
/- The short convolution's backward call, run over its tiles from the last to the first, against the reference. -/
module

public import proofs.«01_k».proof.Proof.Gen.KernelCIdeal.Value
public import proofs.«01_k».proof.Proof.Gen.ReferenceCIdeal.Read
public import proofs.«01_k».proof.Proof.Gen.KernelC.Frame
public import proofs.«01_k».proof.Defs
public import Idealize.ShloMosaic.Lib.Claim
public import Idealize.ShloMosaic.Lib.StableHlo.ReadAt
public import Idealize.ShloMosaic.Lib.Pipeline.ValueKit
public import Idealize.ShloMosaic.Lib.Pointwise
public import proofs.«01_k».proof.Proof.Conv
public import proofs.«01_k».proof.Proof.Rows
public import proofs.«01_k».proof.Proof.C

@[expose] public section

set_option maxRecDepth 16384

noncomputable section

namespace Cert.KernelCIdeal.C

open Idealize.ShloMosaic Idealize.ShloMosaic.TcCoe Idealize.SL.Sem
open Idealize.ShloMosaic.Pipeline (Dat)
open Cert.KernelCIdeal Cert.KernelCIdeal.Gen

variable (m : (ℓ : Loc nD τ sig) → Buf (Elt Ideal) ℓ)

open Cert.ReferenceCIdeal.Read

section Columns

variable (X : FVec Ideal S4096x3336 .f32) (D : FVec Ideal S4096x1024 .f32) (W : FVec Ideal S3x256 .f32) (R : Fin 4096) (k : Fin 1024) (l : Fin 256)

theorem cols_0 (h : k.val = l.val) : val_main_v85 (F := Ideal) X D W (ix2 R k) = val_main_v49 (F := Ideal) X D W (ix2 R l) := by
  pointwise [val_main_v85]
  rw [dif_pos (by omega)]
  exact congrArg _ (congrArg _ (Fin.ext h))

theorem cols_1 (h : k.val = 256 + l.val) : val_main_v85 (F := Ideal) X D W (ix2 R k) = val_main_v84 (F := Ideal) X D W (ix2 R l) := by
  pointwise [val_main_v85]
  rw [dif_neg (by omega), dif_pos (by omega)]
  exact congrArg _ (congrArg _ (Fin.ext (by show k.val - 256 = l.val; omega)))

theorem cols_2 (h : k.val = 512 + l.val) : val_main_v85 (F := Ideal) X D W (ix2 R k) = val_main_v83 (F := Ideal) X D W (ix2 R l) := by
  pointwise [val_main_v85]
  rw [dif_neg (by omega), dif_neg (by omega), dif_pos (by omega)]
  exact congrArg _ (congrArg _ (Fin.ext (by show k.val - 256 - 256 = l.val; omega)))

theorem cols_3 (h : k.val = 768 + l.val) : val_main_v85 (F := Ideal) X D W (ix2 R k) = val_main_v47 (F := Ideal) X D W (ix2 R l) := by
  pointwise [val_main_v85]
  rw [dif_neg (by omega), dif_neg (by omega), dif_neg (by omega)]
  exact congrArg _ (congrArg _ (Fin.ext (by show k.val - 256 - 256 - 256 = l.val; omega)))

end Columns

section Tile

variable (c : Dev nD) (t : Fin cfg0.N)

/-- a tile's blocks, as the body loads them -/
abbrev bg : FVec Ideal S256x256 .f32 := X0_0 m c t
abbrev cz : FVec Ideal S256x256 .f32 := X0_2 m c t
abbrev dy : FVec Ideal S256x256 .f32 := iblk m c 4 t
abbrev cg : FVec Ideal S256x256 .f32 := View.ld (X0_1 m c t : FVec Ideal S256x512 .f32) (Rect.unit ![0, 0] ![256, 256] inb_S256x512_S256x256_0_0)
abbrev xc : FVec Ideal S256x256 .f32 := View.ld (X0_1 m c t : FVec Ideal S256x512 .f32) (Rect.unit ![0, 256] ![256, 256] inb_S256x512_S256x256_0_256)
abbrev hcg : FVec Ideal S8x256 .f32 := View.ld (X0_3 m c t : FVec Ideal S8x512 .f32) (Rect.unit ![0, 0] ![8, 256] inb_S8x512_S8x256_0_0)
abbrev hxc : FVec Ideal S8x256 .f32 := View.ld (X0_3 m c t : FVec Ideal S8x512 .f32) (Rect.unit ![0, 256] ![8, 256] inb_S8x512_S8x256_0_256)
abbrev w0 : FVec Ideal S1x256 .f32 := View.ld (iblk m c 5 t : FVec Ideal S8x256 .f32) (Rect.unit ![0, 0] ![1, 256] inb_S8x256_S1x256_0_0)
abbrev w1 : FVec Ideal S1x256 .f32 := View.ld (iblk m c 5 t : FVec Ideal S8x256 .f32) (Rect.unit ![1, 0] ![1, 256] inb_S8x256_S1x256_1_0)
abbrev w2 : FVec Ideal S1x256 .f32 := View.ld (iblk m c 5 t : FVec Ideal S8x256 .f32) (Rect.unit ![2, 0] ![1, 256] inb_S8x256_S1x256_2_0)

theorem cg_at (r l : Fin 256) : cg m c t (ix2 r l) = X m c (ix2 (row (15 - t.val) (by omega) r) ⟨1536 + l.val, by omega⟩) := by
  pointwise [cg, cx_at]

theorem xc_at (r l : Fin 256) : xc m c t (ix2 r l) = X m c (ix2 (row (15 - t.val) (by omega) r) ⟨1792 + l.val, by omega⟩) := by
  pointwise [xc, cx_at]
  exact congrArg _ (congrArg _ (Fin.ext (by show 1536 + (256 + l.val) = 1792 + l.val; omega)))

theorem hcg_at (r : Fin 8) (l : Fin 256) : hcg m c t (ix2 r l) = X m c (ix2 ⟨((15 - t.val) * 32 - 1) * 8 + r.val, by omega⟩ ⟨1536 + l.val, by omega⟩) := by
  pointwise [hcg, halo_at]

theorem hxc_at (r : Fin 8) (l : Fin 256) : hxc m c t (ix2 r l) = X m c (ix2 ⟨((15 - t.val) * 32 - 1) * 8 + r.val, by omega⟩ ⟨1792 + l.val, by omega⟩) := by
  pointwise [hxc, halo_at]
  exact congrArg _ (congrArg _ (Fin.ext (by show 1536 + (256 + l.val) = 1792 + l.val; omega)))

theorem w0_at (l : Fin 256) : w0 m c t (ix2 0 l) = W m c (ix2 0 l) := by
  pointwise [w0]; exact (w_at m c t 0 l).trans (dif_pos (by decide))

theorem w1_at (l : Fin 256) : w1 m c t (ix2 0 l) = W m c (ix2 1 l) := by
  pointwise [w1]; exact (w_at m c t 1 l).trans (dif_pos (by decide))

theorem w2_at (l : Fin 256) : w2 m c t (ix2 0 l) = W m c (ix2 2 l) := by
  pointwise [w2]; exact (w_at m c t 2 l).trans (dif_pos (by decide))

abbrev E : FVec Ideal S264x256 .f32 := k0_pay5 (grid0.coords t) (hcg m c t) (hxc m c t) (cg m c t) (xc m c t)
abbrev acc : FVec Ideal S256x256 .f32 := k0_pay6 (grid0.coords t) (hcg m c t) (hxc m c t) (cg m c t) (xc m c t) (w0 m c t) (w1 m c t) (w2 m c t)

theorem hE (q : Fin 264) (n : Fin 4098) (l : Fin 256) (h : (15 - t.val) * 256 + q.val = n.val + 6) :
    E m c t (ix2 q l) = val_main_v17 (F := Ideal) (X m c) (ix2 n l) :=
  ext_at m c t _ _ _ _ (hcg_at m c t) (hxc_at m c t) (cg_at m c t) (xc_at m c t) q n l h

theorem hacc (r l : Fin 256) : acc m c t (ix2 r l) = val_main_v40 (F := Ideal) (X m c) (W m c) (ix2 (row (15 - t.val) (by omega) r) l) :=
  acc_at (X m c) (W m c) _ _ _ _ _ _ (by omega) _ _ _ (hE m c t) (w0_at m c t) (w1_at m c t) (w2_at m c t) r l

theorem hct (r l : Fin 256) : k0_pay12 (F := Ideal) (bg m c t) (cz m c t) (dy m c t) (ix2 r l)
    = val_main_v48 (F := Ideal) (X m c) (D m c) (ix2 (row (15 - t.val) (by omega) r) l) :=
  ct_at (X m c) (D m c) _ _ _ _ (by omega) (bg_at m c t) (cz_at m c t) (dy_at m c t) r l

/-- the tile's share of the rows' gradient -/
abbrev share (q : ℕ) (l : Fin 256) : EReal := Conv.dext 256 8 3 (ct (X m c) (D m c) l) (taps (W m c) l) (15 - t.val) q

theorem carry_of : ∀ (q : Fin 8) (l : Fin 256), k0_pay23 (F := Ideal) (k0_pay14 (bg m c t) (cz m c t) (dy m c t))
    (k0_pay16 (bg m c t) (cz m c t) (dy m c t) (w0 m c t)) (w1 m c t) (w2 m c t) (ix2 q l) = share m c t q.val l := by
  intro q l
  have h := dext_at (X m c) (D m c) (W m c) (bg m c t) (cz m c t) (dy m c t) (w0 m c t) (w1 m c t) (w2 m c t) (15 - t.val) (by omega)
    (w0_at m c t) (w1_at m c t) (w2_at m c t) (hct m c t)
  pointwise [k0_pay23, h]

theorem carry_at (q : Fin 8) (l : Fin 256) : (outsAt0 m c t.val t.isLt).2.2 (ix2 q l) = share m c t q.val l := by
  by_cases h : t.val % 16 = 0
  · rw [outsAt0_A m c t h]; dsimp only; frame_out
    exact carry_of m c t q l
  · rw [outsAt0_B m c t h]; dsimp only; frame_out
    exact carry_of m c t q l

/-- what the tile after left, as the body finds it -/
def Carried (v : FVec Ideal S8x256 .f32) : Prop :=
  ∀ (q : Fin 8) (l : Fin 256), v (ix2 q l) = Conv.dext 256 8 3 (ct (X m c) (D m c) l) (taps (W m c) l) (15 - t.val + 1) q.val

theorem carried_A (h : t.val % 16 = 0) : Carried m c t (k0_pay1 (F := Ideal)) := by
  intro q l
  have := lt16 t
  refine Eq.trans ?_ (Conv.dext_past _ _ _ (by omega) _).symm
  pointwise [k0_pay1]

theorem carried_B (h : ¬ t.val % 16 = 0) (ht) : Carried m c t (View.read (Elt Ideal) (View.whole cc0_scratch0)
    ((Memref.isWhole_whole cc0_scratch0).unread (outsAt0 m c (t.val - 1) ht).2.2)) := by
  intro q l
  have := lt16 t
  rw [(Memref.isWhole_whole cc0_scratch0).read_unread]
  refine (carry_at m c ⟨t.val - 1, ht⟩ q l).trans ?_
  rw [share, show 15 - (t.val - 1) = 15 - t.val + 1 by omega]

/-- the tile's four stores -/
abbrev stores (v : FVec Ideal S8x256 .f32) : List (View.Piece (Elt Ideal) S256x1024 .f32) :=
  [⟨Rect.unit ![0, 768] ![256, 256] inb_S256x1024_S256x256_0_768, k0_pay11 (F := Ideal) (acc m c t) (bg m c t) (cz m c t) (dy m c t)⟩,
   ⟨Rect.unit ![0, 512] ![256, 256] inb_S256x1024_S256x256_0_512, k0_pay24 (F := Ideal) (k0_pay3 (F := Ideal) (cg m c t)) (k0_pay14 (F := Ideal) (bg m c t) (cz m c t) (dy m c t))
      (k0_pay16 (F := Ideal) (bg m c t) (cz m c t) (dy m c t) (w0 m c t)) (w1 m c t) (w2 m c t) v⟩,
   ⟨Rect.unit ![0, 256] ![256, 256] inb_S256x1024_S256x256_0_256, k0_pay25 (F := Ideal) (k0_pay4 (F := Ideal) (xc m c t)) (k0_pay14 (F := Ideal) (bg m c t) (cz m c t) (dy m c t))
      (k0_pay16 (F := Ideal) (bg m c t) (cz m c t) (dy m c t) (w0 m c t)) (w1 m c t) (w2 m c t) v⟩,
   ⟨Rect.unit ![0, 0] ![256, 256] inb_S256x1024_S256x256_0_0, k0_pay13 (F := Ideal) (acc m c t) (cz m c t) (dy m c t)⟩]

theorem stores_at (v : FVec Ideal S8x256 .f32) (hv : Carried m c t v) (y : S256x1024.Idx) :
    View.canon (stores m c t v) y = val_main_v85 (F := Ideal) (X m c) (D m c) (W m c) (ix2 (row (15 - t.val) (by omega) (y 0)) (y 1)) := by
  have hdp := dp_at (X m c) (D m c) (W m c) (bg m c t) (cz m c t) (dy m c t) (w0 m c t) (w1 m c t) (w2 m c t) (15 - t.val) (by omega) v
    (w0_at m c t) (w1_at m c t) (w2_at m c t) (hct m c t) hv
  have hrow : ∀ a b : Fin 256, a.val = b.val → row (15 - t.val) (by omega) a = row (15 - t.val) (by omega) b := fun a b h => by rw [Fin.ext h]
  canon_tiles x h
  · refine Eq.trans ?_ (cols_3 (X m c) (D m c) (W m c) _ _ (x 1) h1).symm
    rw [hrow _ _ h0, eq_ix2 x]
    exact dz_at (X m c) (D m c) (W m c) _ _ _ _ (by omega) _ (bg_at m c t) (cz_at m c t) (dy_at m c t) (hacc m c t) (x 0) (x 1)
  · refine Eq.trans ?_ (cols_2 (X m c) (D m c) (W m c) _ _ (x 1) h1).symm
    rw [hrow _ _ h0]
    pointwise [k0_pay24, k0_pay3, val_main_v83, val_main_v6]
    rw [eq_ix2 x]
    exact congrArg₂ (· * ·) (cg_at m c t (x 0) (x 1)) (hdp (x 0) (x 1))
  · refine Eq.trans ?_ (cols_1 (X m c) (D m c) (W m c) _ _ (x 1) h1).symm
    rw [hrow _ _ h0]
    pointwise [k0_pay25, k0_pay4, val_main_v84, val_main_v7]
    rw [eq_ix2 x]
    exact congrArg₂ (· * ·) (hdp (x 0) (x 1)) (xc_at m c t (x 0) (x 1))
  · refine Eq.trans ?_ (cols_0 (X m c) (D m c) (W m c) _ _ (x 1) h1).symm
    rw [hrow _ _ h0, eq_ix2 x]
    exact db_at (X m c) (D m c) (W m c) _ _ _ (by omega) _ (cz_at m c t) (dy_at m c t) (hacc m c t) (x 0) (x 1)

/-- a tile's part of the taps' gradient -/
abbrev part (q : Fin 8) (l : Fin 256) : EReal :=
  if h : q.val < 3 then ∑ r : Fin 256, tap (X m c) (D m c) ⟨q.val, h⟩ l (row (15 - t.val) (by omega) r) else 0

theorem part_of (k : Fin 3) (l : Fin 256) : part m c t ⟨k.val, by omega⟩ l = ∑ r : Fin 256, tap (X m c) (D m c) k l (row (15 - t.val) (by omega) r) :=
  dif_pos k.isLt

theorem part_A (h : t.val % 16 = 0) (q : Fin 8) (l : Fin 256) : (outsAt0 m c t.val t.isLt).2.1 (ix2 q l) = 0 + part m c t q l := by
  have h0 := dw0_at (X m c) (D m c) (hE := hE m c t) (hd := hct m c t)
  have h1 := dw1_at (X m c) (D m c) (hE := hE m c t) (hd := hct m c t)
  have h2 := dw2_at (X m c) (D m c) (hE := hE m c t) (hd := hct m c t)
  rw [outsAt0_A m c t h]; dsimp only; frame_out
  have hz : ∀ (q : Fin 8) (l : Fin 256), View.canon [(⟨Rect.unit ![0, 0] ![8, 256] inb_S8x256_S8x256_0_0, k0_pay2 (F := Ideal)⟩ : View.Piece (Elt Ideal) S8x256 .f32)] (ix2 q l) = 0 := fun q l =>
    (Rows.canon_whole _ _ _ q l).trans (by pointwise [k0_pay2])
  rw [Rows.canon_row, Rows.canon_row, Rows.canon_row, hz]
  by_cases e2 : q.val = 2
  · obtain rfl : q = ⟨2, by decide⟩ := Fin.ext e2
    rw [if_pos rfl]
    exact (h2 _ l).trans (congrArg₂ (· + ·) ((Rows.readCov_row _ _ 2 (by decide) _ _ l).trans (by rw [Rows.canon_row, Rows.canon_row, if_neg (by decide), if_neg (by decide), hz])) (part_of m c t 2 l).symm)
  by_cases e1 : q.val = 1
  · obtain rfl : q = ⟨1, by decide⟩ := Fin.ext e1
    rw [if_neg (by decide), if_pos rfl]
    exact (h1 _ l).trans (congrArg₂ (· + ·) ((Rows.readCov_row _ _ 1 (by decide) _ _ l).trans (by rw [Rows.canon_row, if_neg (by decide), hz])) (part_of m c t 1 l).symm)
  by_cases e0 : q.val = 0
  · obtain rfl : q = ⟨0, by decide⟩ := Fin.ext e0
    rw [if_neg (by decide), if_neg (by decide), if_pos rfl]
    exact (h0 _ l).trans (congrArg₂ (· + ·) ((Rows.readCov_row _ _ 0 (by decide) _ _ l).trans (hz _ _)) (part_of m c t 0 l).symm)
  rw [if_neg e2, if_neg e1, if_neg e0, part, dif_neg (by omega), add_zero]

theorem part_B (h : ¬ t.val % 16 = 0) (ht) (q : Fin 8) (l : Fin 256) :
    (outsAt0 m c t.val t.isLt).2.1 (ix2 q l) = (outsAt0 m c (t.val - 1) ht).2.1 (ix2 q l) + part m c t q l := by
  have h0 := dw0_at (X m c) (D m c) (hE := hE m c t) (hd := hct m c t)
  have h1 := dw1_at (X m c) (D m c) (hE := hE m c t) (hd := hct m c t)
  have h2 := dw2_at (X m c) (D m c) (hE := hE m c t) (hd := hct m c t)
  rw [outsAt0_B m c t h]; dsimp only; frame_out
  rw [Rows.read_row, Rows.read_row, Rows.read_row]
  have hp : ∀ (f : FVec Ideal S8x256 .f32) (hw : (ms0_7 t).IsWhole), View.read (Elt Ideal) (ms0_7 t).view ((ms0_7 t).view.writes (Elt Ideal) (hw.unread f) []) = f := fun f hw => hw.read_unread (Val := Elt Ideal) f
  rw [hp]
  by_cases e2 : q.val = 2
  · obtain rfl : q = ⟨2, by decide⟩ := Fin.ext e2
    rw [if_pos rfl]
    exact (h2 _ l).trans (congrArg₂ (· + ·) (Rows.ld_row _ 2 (by decide) _ _ l) (part_of m c t 2 l).symm)
  by_cases e1 : q.val = 1
  · obtain rfl : q = ⟨1, by decide⟩ := Fin.ext e1
    rw [if_neg (by decide), if_pos rfl]
    exact (h1 _ l).trans (congrArg₂ (· + ·) (Rows.ld_row _ 1 (by decide) _ _ l) (part_of m c t 1 l).symm)
  by_cases e0 : q.val = 0
  · obtain rfl : q = ⟨0, by decide⟩ := Fin.ext e0
    rw [if_neg (by decide), if_neg (by decide), if_pos rfl]
    exact (h0 _ l).trans (congrArg₂ (· + ·) (Rows.ld_row _ 0 (by decide) _ _ l) (part_of m c t 0 l).symm)
  rw [if_neg e2, if_neg e1, if_neg e0, part, dif_neg (by omega), add_zero]

end Tile

theorem final_dp (c : Dev nD) : (dats m 0 c).arrAt 6 (cfgs 0).N = val_main_v85 (F := Ideal) (X m c) (D m c) (W m c) := by
  have hend : ∀ (t : Fin cfg0.N) (y : S256x1024.Idx), val_main_v85 (F := Ideal) (X m c) (D m c) (W m c) (ix2 (row (15 - t.val) (by omega) (y 0)) (y 1))
      = val_main_v85 (F := Ideal) (X m c) (D m c) (W m c) (((cfg0.win 6).blk t).view.emb y) := fun t y => by
    blk_ext! [idx_val t]
  refine (dats m 0 c).arrAt_eq_of_covers 6 _ (by decide +kernel) fun t hf y => ?_
  blk_simp; rw [after0_6]
  by_cases h : t.val % 16 = 0
  · rw [outsAt0_A m c t h]; dsimp only; frame_out; exact (stores_at m c t _ (carried_A m c t h) y).trans (hend t y)
  · rw [outsAt0_B m c t h]; dsimp only; frame_out; exact (stores_at m c t _ (carried_B m c t h _) y).trans (hend t y)

/-- the sixteen tiles' parts, last tile first, are the whole sum -/
theorem parts (c : Dev nD) (q : Fin 8) (l : Fin 256) : ∑ t : Fin cfg0.N, part m c t q l = val_main_v87 (F := Ideal) (X m c) (D m c) (ix2 q l) := by
  rw [dw_ref]
  by_cases hq : q.val < 3
  · rw [dif_pos hq]
    have e1 : ∑ s : Fin 16, ∑ r : Fin 256, tap (X m c) (D m c) ⟨q.val, hq⟩ l (row s.val s.isLt r) = ∑ R : Fin 4096, tap (X m c) (D m c) ⟨q.val, hq⟩ l R :=
      Fin.sum_mul_add_congr fun s k hl => rfl
    rw [← e1, ← Equiv.sum_comp (Fin.revPerm (n := 16))]
    refine Finset.sum_congr rfl fun t _ => ?_
    rw [part, dif_pos hq]
    refine Finset.sum_congr rfl fun r _ => congrArg _ (Fin.ext ?_)
    show (15 - t.val) * 256 + r.val = (16 - (t.val + 1)) * 256 + r.val
    omega
  · rw [dif_neg hq]
    exact Finset.sum_eq_zero fun t _ => dif_neg hq

theorem final_dcw (c : Dev nD) : (dats m 0 c).arrAt 7 (cfgs 0).N = val_main_v87 (F := Ideal) (X m c) (D m c) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0)
    (fun t j => part m c t (j 0) (j 1))
    (fun t h j => by rw [eq_ix2 j]; exact part_A m c t h (j 0) (j 1))
    (fun t h j => by rw [eq_ix2 j]; exact part_B m c t h _ (j 0) (j 1))
    (le_of_eq N_0) t0_15 rfl _, zero_add]
  exact (parts m c (j 0) (j 1)).trans (congrArg _ (eq_ix2 j).symm)

theorem frame_kernel : Cert.quiescent_KernelC := fun m ρ _ => Cert.KernelC.Gen.frame m ρ

theorem frame_ideal : Cert.quiescent_KernelCIdeal := fun m ρ _ => Cert.KernelCIdeal.Gen.frame m ρ

theorem frame_reference : Cert.quiescent_ReferenceCIdeal := fun m ρ _ =>
  (θ_run Cert.ReferenceCIdeal.defs _ _).mono
    (fun r h => ⟨fun c => (h c).2.2, sem_eq_zero_of_no_sems (by decide) r.2⟩)
    (Cert.ReferenceCIdeal.Value.run m ρ)

theorem algebraic : Cert.algebraic_KernelCIdeal_ReferenceCIdeal := by
  pair_intro
  · run_from Cert.KernelCIdeal.Value.run_blocks m g
  · run_from Cert.ReferenceCIdeal.Value.run m' g'
    · rw [val_main_v85_eq, (hagree c).1, (hagree c).2.1, (hagree c).2.2]
      exact (final_dp m c).symm
    · rw [val_main_v87_eq, (hagree c).1, (hagree c).2.1]
      exact (final_dcw m c).symm

end Cert.KernelCIdeal.C

end
-- ==== Proof.AF.lean ====
/- The frame of the gradient of the gated convolution branch: what the staging buffers and the carried halo
   hold after each row block, the body's obligation, the launch, and the claims read off it. -/
module

public import proofs.«01_k».proof.Proof.Gen.KernelAIdeal.Frame.RunB
public import proofs.«01_k».proof.Defs
public import proofs.«01_k».proof.Proof.Gen.KernelA
public import proofs.«01_k».proof.Proof.Gen.KernelAIdeal
public import Idealize.ShloMosaic.Lib.Claim

@[expose] public section

set_option maxRecDepth 16384

noncomputable section

namespace Cert.KernelAIdeal.A

open Cert.KernelAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a row block leaves -/

/-- The contents of the seven results' staging buffers and of the carried halo. -/
structure Left (F : FTy → Type) where
  dp : Vec F S256x768 .f32
  dcw : Vec F S32x256 .f32
  dcb : Vec F S1x256 .f32
  dlng : Vec F S1x256 .f32
  dlnb : Vec F S1x256 .f32
  dpw : Vec F S256x256 .f32
  dpwb : Vec F S1x256 .f32
  halo : Vec F S32x256 .f32

/-- The body's run at a first row block. -/
def runA (c : Dev nD) (t : Fin cfg0.N) (h0 : t.val % 16 = 0) :=
  kernelRun0_A (F := F) c (grid0.coords t)
    (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t)
    (ms0_16 t) (hs0_16 t) (ms0_17 t) (hs0_17 t)
    scM0_0 (Memref.isWhole_whole _) ((hcond0_0 t).mpr h0)
    (X0_0 m c t) (X0_1 m c t) (X0_2 m c t) (iblk m c 3 t) (iblk m c 4 t) (iblk m c 5 t)
    (iblk m c 6 t) (iblk m c 7 t) (iblk m c 8 t) (iblk m c 9 t) (iblk m c 10 t)

/-- The body's run at a later row block, over what the block before left. -/
def runB (c : Dev nD) (t : Fin cfg0.N) (h0 : ¬t.val % 16 = 0) (p : Left F) :=
  kernelRun0_B (F := F) c (grid0.coords t)
    (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t)
    (ms0_16 t) (hs0_16 t) (ms0_17 t) (hs0_17 t)
    scM0_0 (Memref.isWhole_whole _) (fun h => h0 ((hcond0_0 t).mp h))
    (X0_0 m c t) (X0_1 m c t) (X0_2 m c t) (iblk m c 3 t) (iblk m c 4 t) (iblk m c 5 t)
    (iblk m c 6 t) (iblk m c 7 t) (iblk m c 8 t) (iblk m c 9 t) (iblk m c 10 t)
    p.dcw p.dcb p.dlng p.dlnb p.dpw p.dpwb p.halo

theorem coverA_dp (c : Dev nD) (t : Fin cfg0.N) (h0 : t.val % 16 = 0) : ∀ y, ∃ q ∈ (runA m c t h0).1, y ∈ q.1.set :=
  View.cover_of_tiledL (runA m c t h0).1 S256x256.size (by sl_kernel_rfl)

theorem coverA_dcw (c : Dev nD) (t : Fin cfg0.N) (h0 : t.val % 16 = 0) : ∀ y, ∃ q ∈ (runA m c t h0).2.1, y ∈ q.1.set :=
  View.cover_of_tiledBy (runA m c t h0).2.1 ![1, 256] (by sl_kernel_rfl)

theorem coverA_dcb (c : Dev nD) (t : Fin cfg0.N) (h0 : t.val % 16 = 0) : ∀ y, ∃ q ∈ (runA m c t h0).2.2.1, y ∈ q.1.set :=
  View.cover_of_tiledL (runA m c t h0).2.2.1 S1x256.size (by sl_kernel_rfl)

theorem coverA_dlng (c : Dev nD) (t : Fin cfg0.N) (h0 : t.val % 16 = 0) : ∀ y, ∃ q ∈ (runA m c t h0).2.2.2.1, y ∈ q.1.set :=
  View.cover_of_tiledL (runA m c t h0).2.2.2.1 S1x256.size (by sl_kernel_rfl)

theorem coverA_dlnb (c : Dev nD) (t : Fin cfg0.N) (h0 : t.val % 16 = 0) : ∀ y, ∃ q ∈ (runA m c t h0).2.2.2.2.1, y ∈ q.1.set :=
  View.cover_of_tiledL (runA m c t h0).2.2.2.2.1 S1x256.size (by sl_kernel_rfl)

theorem coverA_dpw (c : Dev nD) (t : Fin cfg0.N) (h0 : t.val % 16 = 0) : ∀ y, ∃ q ∈ (runA m c t h0).2.2.2.2.2.1, y ∈ q.1.set :=
  View.cover_of_tiledL (runA m c t h0).2.2.2.2.2.1 S256x256.size (by sl_kernel_rfl)

theorem coverA_dpwb (c : Dev nD) (t : Fin cfg0.N) (h0 : t.val % 16 = 0) : ∀ y, ∃ q ∈ (runA m c t h0).2.2.2.2.2.2.1, y ∈ q.1.set :=
  View.cover_of_tiledL (runA m c t h0).2.2.2.2.2.2.1 S1x256.size (by sl_kernel_rfl)

theorem coverA_halo (c : Dev nD) (t : Fin cfg0.N) (h0 : t.val % 16 = 0) : ∀ y, ∃ q ∈ (runA m c t h0).2.2.2.2.2.2.2.1, y ∈ q.1.set :=
  View.cover_of_tiledL (runA m c t h0).2.2.2.2.2.2.2.1 S32x256.size (by sl_kernel_rfl)

/-- What a first row block leaves. -/
def leftA (c : Dev nD) (t : Fin cfg0.N) (h0 : t.val % 16 = 0) : Left F where
  dp := VO0_11.read (Elt F) (VO0_11.writes (Elt F) VO0_11.junk (runA m c t h0).1)
  dcw := VO0_12.read (Elt F) (VO0_12.writes (Elt F) VO0_12.junk (runA m c t h0).2.1)
  dcb := VO0_13.read (Elt F) (VO0_13.writes (Elt F) VO0_13.junk (runA m c t h0).2.2.1)
  dlng := VO0_14.read (Elt F) (VO0_14.writes (Elt F) VO0_14.junk (runA m c t h0).2.2.2.1)
  dlnb := VO0_15.read (Elt F) (VO0_15.writes (Elt F) VO0_15.junk (runA m c t h0).2.2.2.2.1)
  dpw := VO0_16.read (Elt F) (VO0_16.writes (Elt F) VO0_16.junk (runA m c t h0).2.2.2.2.2.1)
  dpwb := VO0_17.read (Elt F) (VO0_17.writes (Elt F) VO0_17.junk (runA m c t h0).2.2.2.2.2.2.1)
  halo := VS0_0.read (Elt F) (VS0_0.writes (Elt F) VS0_0.junk (runA m c t h0).2.2.2.2.2.2.2.1)

theorem coverB_dp (c : Dev nD) (t : Fin cfg0.N) (h0 : ¬t.val % 16 = 0) (p : Left F) : ∀ y, ∃ q ∈ (runB m c t h0 p).1, y ∈ q.1.set :=
  View.cover_of_tiledL (runB m c t h0 p).1 S256x256.size (by sl_kernel_rfl)

theorem coverB_dcb (c : Dev nD) (t : Fin cfg0.N) (h0 : ¬t.val % 16 = 0) (p : Left F) : ∀ y, ∃ q ∈ (runB m c t h0 p).2.2.1, y ∈ q.1.set :=
  View.cover_of_tiledL (runB m c t h0 p).2.2.1 S1x256.size (by sl_kernel_rfl)

theorem coverB_dlng (c : Dev nD) (t : Fin cfg0.N) (h0 : ¬t.val % 16 = 0) (p : Left F) : ∀ y, ∃ q ∈ (runB m c t h0 p).2.2.2.1, y ∈ q.1.set :=
  View.cover_of_tiledL (runB m c t h0 p).2.2.2.1 S1x256.size (by sl_kernel_rfl)

theorem coverB_dlnb (c : Dev nD) (t : Fin cfg0.N) (h0 : ¬t.val % 16 = 0) (p : Left F) : ∀ y, ∃ q ∈ (runB m c t h0 p).2.2.2.2.1, y ∈ q.1.set :=
  View.cover_of_tiledL (runB m c t h0 p).2.2.2.2.1 S1x256.size (by sl_kernel_rfl)

theorem coverB_dpw (c : Dev nD) (t : Fin cfg0.N) (h0 : ¬t.val % 16 = 0) (p : Left F) : ∀ y, ∃ q ∈ (runB m c t h0 p).2.2.2.2.2.1, y ∈ q.1.set :=
  View.cover_of_tiledL (runB m c t h0 p).2.2.2.2.2.1 S256x256.size (by sl_kernel_rfl)

theorem coverB_dpwb (c : Dev nD) (t : Fin cfg0.N) (h0 : ¬t.val % 16 = 0) (p : Left F) : ∀ y, ∃ q ∈ (runB m c t h0 p).2.2.2.2.2.2.1, y ∈ q.1.set :=
  View.cover_of_tiledL (runB m c t h0 p).2.2.2.2.2.2.1 S1x256.size (by sl_kernel_rfl)

theorem coverB_halo (c : Dev nD) (t : Fin cfg0.N) (h0 : ¬t.val % 16 = 0) (p : Left F) : ∀ y, ∃ q ∈ (runB m c t h0 p).2.2.2.2.2.2.2.1, y ∈ q.1.set :=
  View.cover_of_tiledL (runB m c t h0 p).2.2.2.2.2.2.2.1 S32x256.size (by sl_kernel_rfl)

/-- What a later row block leaves. -/
def leftB (c : Dev nD) (t : Fin cfg0.N) (h0 : ¬t.val % 16 = 0) (p : Left F) : Left F where
  dp := VO0_11.read (Elt F) (VO0_11.writes (Elt F) VO0_11.junk (runB m c t h0 p).1)
  dcw := (ms0_12 t).view.read (Elt F) ((ms0_12 t).view.writes (Elt F) ((hs0_12 t).unread p.dcw) (runB m c t h0 p).2.1)
  dcb := VO0_13.read (Elt F) (VO0_13.writes (Elt F) VO0_13.junk (runB m c t h0 p).2.2.1)
  dlng := VO0_14.read (Elt F) (VO0_14.writes (Elt F) VO0_14.junk (runB m c t h0 p).2.2.2.1)
  dlnb := VO0_15.read (Elt F) (VO0_15.writes (Elt F) VO0_15.junk (runB m c t h0 p).2.2.2.2.1)
  dpw := VO0_16.read (Elt F) (VO0_16.writes (Elt F) VO0_16.junk (runB m c t h0 p).2.2.2.2.2.1)
  dpwb := VO0_17.read (Elt F) (VO0_17.writes (Elt F) VO0_17.junk (runB m c t h0 p).2.2.2.2.2.2.1)
  halo := VS0_0.read (Elt F) (VS0_0.writes (Elt F) VS0_0.junk (runB m c t h0 p).2.2.2.2.2.2.2.1)

/-- What the row blocks up to `n` leave. -/
def left (c : Dev nD) : (n : ℕ) → n < cfg0.N → Left F
  | 0, hn => leftA m c ⟨0, hn⟩ rfl
  | n + 1, hn =>
    if h0 : (n + 1) % 16 = 0 then leftA m c ⟨n + 1, hn⟩ h0
    else leftB m c ⟨n + 1, hn⟩ h0 (left c n (Nat.lt_of_succ_lt hn))

theorem left_A (c : Dev nD) (t : Fin cfg0.N) (h0 : t.val % 16 = 0) : left m c t.val t.isLt = leftA m c t h0 := by
  obtain ⟨n, hn⟩ := t
  cases n with
  | zero => rfl
  | succ n => exact dif_pos h0

theorem left_B (c : Dev nD) (t : Fin cfg0.N) (h0 : ¬t.val % 16 = 0) :
    left m c t.val t.isLt = leftB m c t h0 (left m c (t.val - 1) (Nat.lt_of_le_of_lt (Nat.sub_le _ _) t.isLt)) := by
  obtain ⟨n, hn⟩ := t
  cases n with
  | zero => exact absurd (Nat.zero_mod _) h0
  | succ n => exact dif_neg h0

/-- Before position `n`: at the first, the scratch at anything; later, the halo as the block before left it. -/
def inv (c : Dev nD) : (n : ℕ) → n ≤ cfg0.N → sProp 𝕄
  | 0, _ => Pipeline.ΦA spec0 c
  | n + 1, hn => iprop(owns (c : Thread nD τ) scM0_0 fullShare (left m c n hn).halo ∗ (∃ r, prngReg c r))

theorem inv_pos (c : Dev nD) (n : ℕ) (h : n ≤ cfg0.N) (hz : n ≠ 0) :
    inv m c n h = iprop(owns (c : Thread nD τ) scM0_0 fullShare (left m c (n - 1) (by omega)).halo ∗ (∃ r, prngReg c r)) := by
  cases n with
  | zero => exact absurd rfl hz
  | succ n => rfl

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (left m c t.val t.isLt).dp
    | ⟨12, _⟩ => (left m c t.val t.isLt).dcw
    | ⟨13, _⟩ => (left m c t.val t.isLt).dcb
    | ⟨14, _⟩ => (left m c t.val t.isLt).dlng
    | ⟨15, _⟩ => (left m c t.val t.isLt).dlnb
    | ⟨16, _⟩ => (left m c t.val t.isLt).dpw
    | ⟨17, _⟩ => (left m c t.val t.isLt).dpwb
    | ⟨_ + 18, h⟩ => absurd h (Nat.not_lt.2 (Nat.le_add_left _ _))
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

section
variable (c : Dev nD) (t : Fin cfg0.N)
theorem after_0 : (dats m 0 c).after 0 t = X0_0 m c t := by dsimp only [dats]
theorem after_1 : (dats m 0 c).after 1 t = X0_1 m c t := by dsimp only [dats]
theorem after_2 : (dats m 0 c).after 2 t = X0_2 m c t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = (left m c t.val t.isLt).dp := by dsimp only [dats]
theorem after_12 : (dats m 0 c).after 12 t = (left m c t.val t.isLt).dcw := by dsimp only [dats]
theorem after_13 : (dats m 0 c).after 13 t = (left m c t.val t.isLt).dcb := by dsimp only [dats]
theorem after_14 : (dats m 0 c).after 14 t = (left m c t.val t.isLt).dlng := by dsimp only [dats]
theorem after_15 : (dats m 0 c).after 15 t = (left m c t.val t.isLt).dlnb := by dsimp only [dats]
theorem after_16 : (dats m 0 c).after 16 t = (left m c t.val t.isLt).dpw := by dsimp only [dats]
theorem after_17 : (dats m 0 c).after 17 t = (left m c t.val t.isLt).dpwb := by dsimp only [dats]
theorem before_0 (d) : (dats m 0 c).before 0 t d = X0_0 m c t :=
  before0_0_of m (dats m 0 c) (A_eq m c 0) (after_0 m c) t d
theorem before_1 (d) : (dats m 0 c).before 1 t d = X0_1 m c t :=
  before0_1_of m (dats m 0 c) (A_eq m c 1) (after_1 m c) t d
theorem before_2 (d) : (dats m 0 c).before 2 t d = X0_2 m c t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d
theorem before_7 (d) : (dats m 0 c).before 7 t d = iblk m c 7 t :=
  before0_7_of m (dats m 0 c) (A_eq m c 7) (after_7 m c) t d
theorem before_8 (d) : (dats m 0 c).before 8 t d = iblk m c 8 t :=
  before0_8_of m (dats m 0 c) (A_eq m c 8) (after_8 m c) t d
theorem before_9 (d) : (dats m 0 c).before 9 t d = iblk m c 9 t :=
  before0_9_of m (dats m 0 c) (A_eq m c 9) (after_9 m c) t d
theorem before_10 (d) : (dats m 0 c).before 10 t d = iblk m c 10 t :=
  before0_10_of m (dats m 0 c) (A_eq m c 10) (after_10 m c) t d

/-- An output kept on chip between points holds what the point before left in it. -/
theorem kept (w : Fin cfg0.W) (hw : w = 12 ∨ w = 13 ∨ w = 14 ∨ w = 15 ∨ w = 16 ∨ w = 17) (h0 : ¬t.val % 16 = 0) (d) :
    (dats m 0 c).before w t d = (dats m 0 c).after w ⟨t.val - 1, Nat.lt_of_le_of_lt (Nat.sub_le _ _) t.isLt⟩ := by
  have hN : t.val < 16 := lt_of_lt_of_eq t.isLt (show cfg0.N = 16 from N_0)
  rcases hw with rfl | rfl | rfl | rfl | rfl | rfl
  · exact Dat.before_out_kept _ 12 rfl t (by omega) (Bool.eq_false_iff.mpr fun h => by have := (flush0_12 _).mp h; dsimp only at this; omega)
      (fun _ => rfl) (fun _ _ => rfl) d
  · exact Dat.before_out_kept _ 13 rfl t (by omega) (Bool.eq_false_iff.mpr fun h => by have := (flush0_13 _).mp h; dsimp only at this; omega)
      (fun _ => rfl) (fun _ _ => rfl) d
  · exact Dat.before_out_kept _ 14 rfl t (by omega) (Bool.eq_false_iff.mpr fun h => by have := (flush0_14 _).mp h; dsimp only at this; omega)
      (fun _ => rfl) (fun _ _ => rfl) d
  · exact Dat.before_out_kept _ 15 rfl t (by omega) (Bool.eq_false_iff.mpr fun h => by have := (flush0_15 _).mp h; dsimp only at this; omega)
      (fun _ => rfl) (fun _ _ => rfl) d
  · exact Dat.before_out_kept _ 16 rfl t (by omega) (Bool.eq_false_iff.mpr fun h => by have := (flush0_16 _).mp h; dsimp only at this; omega)
      (fun _ => rfl) (fun _ _ => rfl) d
  · exact Dat.before_out_kept _ 17 rfl t (by omega) (Bool.eq_false_iff.mpr fun h => by have := (flush0_17 _).mp h; dsimp only at this; omega)
      (fun _ => rfl) (fun _ _ => rfl) d
end

/-! ## The body's obligation -/

set_option maxHeartbeats 12800000 in
theorem body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (∃ d, owns (c : Thread nD τ) (ms0_14 t) fullShare ((dats m 0 c).before 14 t d))
      ∗ (∃ d, owns (c : Thread nD τ) (ms0_15 t) fullShare ((dats m 0 c).before 15 t d))
      ∗ (∃ d, owns (c : Thread nD τ) (ms0_16 t) fullShare ((dats m 0 c).before 16 t d))
      ∗ (∃ d, owns (c : Thread nD τ) (ms0_17 t) fullShare ((dats m 0 c).before 17 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t)
        ∗ owns (c : Thread nD τ) (ms0_5 t) fullShare ((dats m 0 c).after 5 t)
        ∗ owns (c : Thread nD τ) (ms0_6 t) fullShare ((dats m 0 c).after 6 t)
        ∗ owns (c : Thread nD τ) (ms0_7 t) fullShare ((dats m 0 c).after 7 t)
        ∗ owns (c : Thread nD τ) (ms0_8 t) fullShare ((dats m 0 c).after 8 t)
        ∗ owns (c : Thread nD τ) (ms0_9 t) fullShare ((dats m 0 c).after 9 t)
        ∗ owns (c : Thread nD τ) (ms0_10 t) fullShare ((dats m 0 c).after 10 t)
        ∗ owns (c : Thread nD τ) (ms0_11 t) fullShare ((dats m 0 c).after 11 t)
        ∗ owns (c : Thread nD τ) (ms0_12 t) fullShare ((dats m 0 c).after 12 t)
        ∗ owns (c : Thread nD τ) (ms0_13 t) fullShare ((dats m 0 c).after 13 t)
        ∗ owns (c : Thread nD τ) (ms0_14 t) fullShare ((dats m 0 c).after 14 t)
        ∗ owns (c : Thread nD τ) (ms0_15 t) fullShare ((dats m 0 c).after 15 t)
        ∗ owns (c : Thread nD τ) (ms0_16 t) fullShare ((dats m 0 c).after 16 t)
        ∗ owns (c : Thread nD τ) (ms0_17 t) fullShare ((dats m 0 c).after 17 t))) := by
  unfold bodyAt0
  simp only [before_0, before_1, before_2, before_3, before_4, before_5, before_6, before_7, before_8, before_9, before_10]
  rw [show (dats m 0 c).owesAt () t.succ = (dats m 0 c).owesAt () t.castSucc from rfl,
    after_0, after_1, after_2, after_3, after_4, after_5, after_6, after_7, after_8, after_9, after_10, after_11, after_12, after_13, after_14, after_15, after_16, after_17]
  rw [show (dats m 0 c).Φ t.succ = iprop(owns (c : Thread nD τ) scM0_0 fullShare (left m c t.val t.isLt).halo ∗ (∃ r, prngReg c r)) from rfl,
    show (dats m 0 c).Φ t.castSucc = inv m c t.val (Nat.le_of_lt_succ t.castSucc.isLt) from rfl]
  have hN : t.val < 16 := lt_of_lt_of_eq t.isLt (show cfg0.N = 16 from N_0)
  by_cases h0 : t.val % 16 = 0
  · rw [show inv m c t.val (Nat.le_of_lt_succ t.castSucc.isLt) = Pipeline.ΦA spec0 c from by
        have hz : t.val = 0 := by omega
        obtain ⟨n, hn⟩ := t; subst hz; rfl, PhiA0_eq, left_A m c t h0]
    unfold leftA; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runA m c t h0).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS]; · iexact HS
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%es, HS⟩⟩
    isplitl [HS Hg]
    · isplitl [HS]
      · unfold owns; iexists _; isplitr
        swap; · iexact HS
        ipureintro; exact View.read_writes_of_cover _ _ _ _ _ (coverA_halo m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverA_dp m c t h0)
    isplitl [H12]
    · unfold owns; iexists _; isplitr
      swap; · iexact H12
      ipureintro; exact View.read_writes_of_cover _ _ _ _ _ (coverA_dcw m c t h0)
    isplitl [H13]
    · unfold owns; iexists _; isplitr
      swap; · iexact H13
      ipureintro; exact View.read_writes_of_cover _ _ _ _ _ (coverA_dcb m c t h0)
    isplitl [H14]
    · unfold owns; iexists _; isplitr
      swap; · iexact H14
      ipureintro; exact View.read_writes_of_cover _ _ _ _ _ (coverA_dlng m c t h0)
    isplitl [H15]
    · unfold owns; iexists _; isplitr
      swap; · iexact H15
      ipureintro; exact View.read_writes_of_cover _ _ _ _ _ (coverA_dlnb m c t h0)
    isplitl [H16]
    · unfold owns; iexists _; isplitr
      swap; · iexact H16
      ipureintro; exact View.read_writes_of_cover _ _ _ _ _ (coverA_dpw m c t h0)
    unfold owns; iexists _; isplitr
    swap; · iexact H17
    ipureintro; exact View.read_writes_of_cover _ _ _ _ _ (coverA_dpwb m c t h0)
  · rw [inv_pos m c _ _ (by omega), left_B m c t h0]
    simp only [kept m c t 12 (by decide) h0, kept m c t 13 (by decide) h0, kept m c t 14 (by decide) h0,
      kept m c t 15 (by decide) h0, kept m c t 16 (by decide) h0, kept m c t 17 (by decide) h0, after_12, after_13, after_14, after_15, after_16, after_17]
    generalize left m c (t.val - 1) _ = p
    unfold leftB; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runB m c t h0 p).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexact H14
    isplitl [H15]; · iexact H15
    isplitl [H16]; · iexact H16
    isplitl [H17]; · iexact H17
    isplitl [HS]; · iexact HS
    iintro ⟨H0, H1, H2, H3, H4, H5, H6, H7, H8, H9, H10, ⟨%e11, H11⟩, H12, ⟨%e13, H13⟩, ⟨%e14, H14⟩, ⟨%e15, H15⟩, ⟨%e16, H16⟩, ⟨%e17, H17⟩, ⟨%es, HS⟩⟩
    isplitl [HS Hg]
    · isplitl [HS]
      · unfold owns; iexists _; isplitr
        swap; · iexact HS
        ipureintro; exact View.read_writes_of_cover _ _ _ _ _ (coverB_halo m c t h0 p)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverB_dp m c t h0 p)
    isplitl [H12]
    · unfold owns; iexists _; isplitr
      swap; · iexact H12
      ipureintro; rfl
    isplitl [H13]
    · unfold owns; iexists _; isplitr
      swap; · iexact H13
      ipureintro; exact View.read_writes_of_cover _ _ _ _ _ (coverB_dcb m c t h0 p)
    isplitl [H14]
    · unfold owns; iexists _; isplitr
      swap; · iexact H14
      ipureintro; exact View.read_writes_of_cover _ _ _ _ _ (coverB_dlng m c t h0 p)
    isplitl [H15]
    · unfold owns; iexists _; isplitr
      swap; · iexact H15
      ipureintro; exact View.read_writes_of_cover _ _ _ _ _ (coverB_dlnb m c t h0 p)
    isplitl [H16]
    · unfold owns; iexists _; isplitr
      swap; · iexact H16
      ipureintro; exact View.read_writes_of_cover _ _ _ _ _ (coverB_dpw m c t h0 p)
    unfold owns; iexists _; isplitr
    swap; · iexact H17
    ipureintro; exact View.read_writes_of_cover _ _ _ _ _ (coverB_dpwb m c t h0 p)

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

/-! ## The run -/

theorem enter (c : Dev nD) : Pipeline.ΦA spec0 c ⊢ (dats m 0 c).Φ 0 := Idealize.SL.BI.Entails.refl _

theorem leave (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 16 := N_0; omega), PhiA0_eq]
  iintro ⟨HS, Hg⟩
  isplitl [HS]
  · iexists _; iexact HS
  iexact Hg

set_option backward.isDefEq.respectTransparency.types false in
/-- Every run ends, with every staged array at the library's contents and no counter raised. -/
theorem launched : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem frame_ideal : Cert.quiescent_KernelAIdeal := fun m ρ _ =>
  θ_run_and (frame_of m ρ (dats m) (A_eq m) ((θ_run defs _ _).mono (fun _ h => h.1) (launched (F := Ideal) m ρ)))
    ((θ_run defs _ _).mono (fun _ h => h.2) (launched (F := Ideal) m ρ))

theorem frame_kernel : Cert.quiescent_KernelA := fun m ρ _ => by
  have h := θ_run_and (frame_of (F := Bits) m ρ (dats m) (A_eq m) ((θ_run defs _ _).mono (fun _ h => h.1) (launched (F := Bits) m ρ)))
    ((θ_run defs _ _).mono (fun _ h => h.2) (launched (F := Bits) m ρ))
  exact cast (by sl_kernel_rfl) h

end Cert.KernelAIdeal.A

end
-- ==== Proof.AP.lean ====
/- The gated convolution branch's gradient on one row block: the norm, the gates and the pointwise product,
   each value of the body set beside the reference's. -/
module

public import proofs.«01_k».proof.Proof.Gen.KernelAIdeal.Frame.RunB
public import proofs.«01_k».proof.Proof.Gen.ReferenceAIdeal.Read
public import proofs.«01_k».proof.Defs
public import Idealize.ShloMosaic.Lib.Pointwise
public import proofs.«01_k».proof.Proof.Conv

@[expose] public section

set_option maxRecDepth 16384

noncomputable section

namespace Cert.KernelAIdeal.A

open Idealize.ShloMosaic Idealize.ShloMosaic.TcCoe
open Cert.KernelAIdeal Cert.KernelAIdeal.Gen
open Cert.ReferenceAIdeal.Read

/-- a row block's row, as the array's -/
abbrev row (T : ℕ) (hT : T < 16) (r : Fin 256) : Fin 4096 := ⟨T * 256 + r.val, by omega⟩

section Post

variable (X : FVec Ideal S4096x3336 .f32) (D : FVec Ideal S4096x1024 .f32) (W : FVec Ideal S31x256 .f32)
  (B G H : FVec Ideal S256 .f32) (P : FVec Ideal S256x256 .f32) (Q : FVec Ideal S256 .f32)
  (co az dy pw : FVec Ideal S256x256 .f32) (cb lng lnb pwb : FVec Ideal S1x256 .f32) (T : ℕ) (hT : T < 16)

/-- what the body's loads hold of a row block -/
structure Loads : Prop where
  co : ∀ r l : Fin 256, co (ix2 r l) = val_main_v245 (F := Ideal) X W (ix2 (row T hT r) l)
  az : ∀ r l : Fin 256, az (ix2 r l) = X (ix2 (row T hT r) ⟨512 + l.val, by omega⟩)
  dy : ∀ r l : Fin 256, dy (ix2 r l) = D (ix2 (row T hT r) ⟨l.val, by omega⟩)
  pw : ∀ k l : Fin 256, pw (ix2 k l) = P (ix2 k l)
  cb : ∀ l : Fin 256, cb (ix2 0 l) = B (ix1 l)
  lng : ∀ l : Fin 256, lng (ix2 0 l) = G (ix1 l)
  lnb : ∀ l : Fin 256, lnb (ix2 0 l) = H (ix1 l)
  pwb : ∀ l : Fin 256, pwb (ix2 0 l) = Q (ix1 l)

variable (h : Loads X D W B G H P Q co az dy pw cb lng lnb pwb T hT)
include h

theorem xc_at (r l : Fin 256) : k0_pay18 (F := Ideal) co cb (ix2 r l) = val_main_v254 (F := Ideal) X W B (ix2 (row T hT r) l) := by
  have e0 := h.co
  have e1 := h.cb
  pointwise [k0_pay18, val_main_v254, val_main_v253, val_main_v252, val_main_v251, val_main_v250, val_main_v249, val_main_v248, val_main_v247, val_main_v246, val_main_cst_5, val_main_cst_6, e0, e1]

theorem var_at (r : Fin 256) : k0_pay19 (F := Ideal) co cb (ix2 r 0) = val_main_v261 (F := Ideal) X W B (ix2 (row T hT r) 0) := by
  have e0 := xc_at X D W B G H P Q co az dy pw cb lng lnb pwb T hT h
  pointwise [k0_pay19, val_main_v261, val_main_v260, val_main_v259, val_main_v258, val_main_v257, val_main_v256, val_main_v255, val_main_cst_7, val_main_cst_8, val_main_cst_9, e0]

theorem rs_at (r : Fin 256) : k0_pay20 (F := Ideal) co cb (ix2 r 0) = val_main_v262 (F := Ideal) X W B (ix2 (row T hT r) 0) := by
  have e0 := var_at X D W B G H P Q co az dy pw cb lng lnb pwb T hT h
  pointwise [k0_pay20, val_main_v262, e0]

theorem drs_at (r : Fin 256) : k0_pay21 (F := Ideal) co cb (ix2 r 0) = val_main_v265 (F := Ideal) X W B (ix2 (row T hT r) 0) := by
  have e0 := var_at X D W B G H P Q co az dy pw cb lng lnb pwb T hT h
  have e1 := rs_at X D W B G H P Q co az dy pw cb lng lnb pwb T hT h
  pointwise [k0_pay21, val_main_v265, val_main_v264, val_main_v263, val_main_cst_10, e0, e1]

theorem drs_at_z (r : Fin 256) (z : Fin 1) : k0_pay21 (F := Ideal) co cb (ix2 r z) = val_main_v265 (F := Ideal) X W B (ix2 (row T hT r) z) := by
  obtain rfl : z = 0 := Subsingleton.elim _ _
  exact drs_at X D W B G H P Q co az dy pw cb lng lnb pwb T hT h r

theorem xhat_at (r l : Fin 256) : k0_pay22 (F := Ideal) co cb (ix2 r l) = val_main_v267 (F := Ideal) X W B (ix2 (row T hT r) l) := by
  have e0 := xc_at X D W B G H P Q co az dy pw cb lng lnb pwb T hT h
  have e1 := rs_at X D W B G H P Q co az dy pw cb lng lnb pwb T hT h
  pointwise [k0_pay22, val_main_v267, val_main_v266, e0, e1]

theorem ln_at (r l : Fin 256) : k0_pay23 (F := Ideal) co cb lng lnb (ix2 r l) = val_main_v273 (F := Ideal) X W B G H (ix2 (row T hT r) l) := by
  have e0 := xhat_at X D W B G H P Q co az dy pw cb lng lnb pwb T hT h
  have e1 := h.lng
  have e2 := h.lnb
  pointwise [k0_pay23, val_main_v273, val_main_v272, val_main_v271, val_main_v270, val_main_v269, val_main_v268, e0, e1, e2]

theorem sg_at (r l : Fin 256) : k0_pay24 (F := Ideal) co cb lng lnb (ix2 r l) = val_main_v274_2 (F := Ideal) X W B G H (ix2 (row T hT r) l) := by
  have e0 := ln_at X D W B G H P Q co az dy pw cb lng lnb pwb T hT h
  pointwise [k0_pay24, val_main_v274_2, val_main_call0_v7, val_main_call0_v6, val_main_call0_v4, val_main_call0_v3, val_main_call0_v2, val_main_call0_v1, val_main_call0_v0, val_main_call0_cst, val_main_call0_cst_0, val_main_call0_cst_1, e0]
  rfl

theorem dsg_at (r l : Fin 256) : k0_pay25 (F := Ideal) co cb lng lnb (ix2 r l) = val_main_v274_1 (F := Ideal) X W B G H (ix2 (row T hT r) l) := by
  have e0 := sg_at X D W B G H P Q co az dy pw cb lng lnb pwb T hT h
  pointwise [k0_pay25, val_main_v274_1, val_main_call0_v7, val_main_call0_v6, val_main_call0_cst_1, e0]

theorem si_at (r l : Fin 256) : k0_pay26 (F := Ideal) co cb lng lnb (ix2 r l) = val_main_v274_0 (F := Ideal) X W B G H (ix2 (row T hT r) l) := by
  have e0 := sg_at X D W B G H P Q co az dy pw cb lng lnb pwb T hT h
  have e1 := ln_at X D W B G H P Q co az dy pw cb lng lnb pwb T hT h
  pointwise [k0_pay26, val_main_v274_0, e0, e1]

theorem zg_at (r l : Fin 256) : k0_pay27 (F := Ideal) az (ix2 r l) = val_main_v279_2 (F := Ideal) X (ix2 (row T hT r) l) := by
  have e0 := h.az
  pointwise [k0_pay27, val_main_v279_2, val_main_v2, val_main_call1_v7, val_main_call1_v6, val_main_call1_v4, val_main_call1_v3, val_main_call1_v2, val_main_call1_v1, val_main_call1_v0, val_main_call1_cst, val_main_call1_cst_0, val_main_call1_cst_1, e0]
  rfl

theorem dzg_at (r l : Fin 256) : k0_pay28 (F := Ideal) az (ix2 r l) = val_main_v279_1 (F := Ideal) X (ix2 (row T hT r) l) := by
  have e0 := zg_at X D W B G H P Q co az dy pw cb lng lnb pwb T hT h
  pointwise [k0_pay28, val_main_v279_1, val_main_call1_v7, val_main_call1_v6, val_main_call1_cst_1, e0]

theorem dg_at (r l : Fin 256) : k0_pay29 (F := Ideal) co cb lng lnb pw pwb dy (ix2 r l) = val_main_v282 (F := Ideal) X D W B G H P Q (ix2 (row T hT r) l) := by
  have e0 := si_at X D W B G H P Q co az dy pw cb lng lnb pwb T hT h
  have e1 := h.pw
  have e2 := h.pwb
  have e3 := h.dy
  pointwise [k0_pay29, val_main_v282, val_main_v281, val_main_v278, val_main_v277, val_main_v276, val_main_v275, e0, e1, e2, e3]

theorem do_at (r l : Fin 256) : k0_pay30 (F := Ideal) az dy (ix2 r l) = val_main_v283 (F := Ideal) X D (ix2 (row T hT r) l) := by
  have e0 := zg_at X D W B G H P Q co az dy pw cb lng lnb pwb T hT h
  have e1 := h.az
  have e2 := h.dy
  pointwise [k0_pay30, val_main_v283, val_main_v281, val_main_v279_0, val_main_v2, e0, e1, e2]

theorem daz_at (r l : Fin 256) : k0_pay32 (F := Ideal) (k0_pay27 az) (k0_pay28 az) (k0_pay29 co cb lng lnb pw pwb dy) (k0_pay31 co az cb lng lnb pw pwb dy) (ix2 r l) = val_main_v284 (F := Ideal) X D W B G H P Q (ix2 (row T hT r) l) := by
  have e0 := zg_at X D W B G H P Q co az dy pw cb lng lnb pwb T hT h
  have e1 := dzg_at X D W B G H P Q co az dy pw cb lng lnb pwb T hT h
  have e2 := dg_at X D W B G H P Q co az dy pw cb lng lnb pwb T hT h
  have e3 := h.az
  pointwise [k0_pay32, k0_pay31, val_main_v284, val_main_v2, val_main_call2_v0, val_main_call2_v1, val_main_call2_v2, e0, e1, e2, e3]

theorem dln_at (r l : Fin 256) : k0_pay36 (F := Ideal) pw (k0_pay23 co cb lng lnb) (k0_pay24 co cb lng lnb) (k0_pay25 co cb lng lnb) (k0_pay30 az dy) (ix2 r l) = val_main_v291 (F := Ideal) X D W B G H P (ix2 (row T hT r) l) := by
  have e0 := ln_at X D W B G H P Q co az dy pw cb lng lnb pwb T hT h
  have e1 := sg_at X D W B G H P Q co az dy pw cb lng lnb pwb T hT h
  have e2 := dsg_at X D W B G H P Q co az dy pw cb lng lnb pwb T hT h
  have e3 := do_at X D W B G H P Q co az dy pw cb lng lnb pwb T hT h
  have e4 := h.pw
  pointwise [k0_pay36, k0_pay34, val_main_v291, val_main_v290, val_main_call3_v0, val_main_call3_v1, val_main_call3_v2, e0, e1, e2, e3, e4]

theorem dacc_at (r l : Fin 256) : k0_pay39 (F := Ideal) lng pw (k0_pay18 co cb) (k0_pay20 co cb) (k0_pay21 co cb) (k0_pay23 co cb lng lnb) (k0_pay24 co cb lng lnb) (k0_pay25 co cb lng lnb) (k0_pay30 az dy) (ix2 r l) = val_main_v322 (F := Ideal) X D W B G H P (ix2 (row T hT r) l) := by
  have e0 := dln_at X D W B G H P Q co az dy pw cb lng lnb pwb T hT h
  have e1 := xc_at X D W B G H P Q co az dy pw cb lng lnb pwb T hT h
  have e2 := rs_at X D W B G H P Q co az dy pw cb lng lnb pwb T hT h
  have e3 := drs_at_z X D W B G H P Q co az dy pw cb lng lnb pwb T hT h
  have e4 := h.lng
  pointwise [k0_pay39, val_main_v322, val_main_v321, val_main_v320, val_main_v319, val_main_v318, val_main_v317, val_main_v316, val_main_v315, val_main_v314, val_main_v313, val_main_v312, val_main_v311, val_main_v310, val_main_v309, val_main_v308, val_main_v307, val_main_v306, val_main_v305, val_main_v304, val_main_v303, val_main_v302, val_main_v301, val_main_v299, val_main_v298, val_main_v268, val_main_cst_17, val_main_cst_18, val_main_cst_19, val_main_cst_20, val_main_cst_21, val_main_cst_22, e0, e1, e2, e3, e4]
  simp only [zero_sub]

theorem spwb_at (l : Fin 256) : k0_pay33 (F := Ideal) (k0_pay30 az dy) (ix2 0 l) = ∑ r : Fin 256, val_main_v283 (F := Ideal) X D (ix2 (row T hT r) l) := by
  have e0 := do_at X D W B G H P Q co az dy pw cb lng lnb pwb T hT h
  pointwise [k0_pay33, e0]

theorem spw_at (k l : Fin 256) : k0_pay35 (F := Ideal) (k0_pay26 co cb lng lnb) (k0_pay30 az dy) (ix2 k l) = ∑ r : Fin 256, val_main_v283 (F := Ideal) X D (ix2 (row T hT r) l) * val_main_v274_0 (F := Ideal) X W B G H (ix2 (row T hT r) k) := by
  have e0 := do_at X D W B G H P Q co az dy pw cb lng lnb pwb T hT h
  have e1 := si_at X D W B G H P Q co az dy pw cb lng lnb pwb T hT h
  pointwise [k0_pay35, k0_pay34, e0, e1]
  exact Finset.sum_congr rfl fun r _ => mul_comm _ _

theorem slnb_at (l : Fin 256) : k0_pay37 (F := Ideal) pw (k0_pay23 co cb lng lnb) (k0_pay24 co cb lng lnb) (k0_pay25 co cb lng lnb) (k0_pay30 az dy) (ix2 0 l) = ∑ r : Fin 256, val_main_v291 (F := Ideal) X D W B G H P (ix2 (row T hT r) l) := by
  have e0 := dln_at X D W B G H P Q co az dy pw cb lng lnb pwb T hT h
  pointwise [k0_pay37, e0]

theorem slng_at (l : Fin 256) : k0_pay38 (F := Ideal) pw (k0_pay22 co cb) (k0_pay23 co cb lng lnb) (k0_pay24 co cb lng lnb) (k0_pay25 co cb lng lnb) (k0_pay30 az dy) (ix2 0 l) = ∑ r : Fin 256, val_main_v295 (F := Ideal) X D W B G H P (ix2 (row T hT r) l) := by
  have e0 := dln_at X D W B G H P Q co az dy pw cb lng lnb pwb T hT h
  have e1 := xhat_at X D W B G H P Q co az dy pw cb lng lnb pwb T hT h
  pointwise [k0_pay38, val_main_v295, e0, e1]

theorem scb_at (l : Fin 256) : k0_pay41 (F := Ideal) (k0_pay40 lng pw (k0_pay18 co cb) (k0_pay20 co cb) (k0_pay21 co cb) (k0_pay23 co cb lng lnb) (k0_pay24 co cb lng lnb) (k0_pay25 co cb lng lnb) (k0_pay30 az dy)) (ix2 0 l) = ∑ r : Fin 256, val_main_v322 (F := Ideal) X D W B G H P (ix2 (row T hT r) l) := by
  have e0 := dacc_at X D W B G H P Q co az dy pw cb lng lnb pwb T hT h
  pointwise [k0_pay41, k0_pay40, e0]

omit h
theorem ref_pwb (l : Fin 256) : val_main_v676 (F := Ideal) X D (ix2 0 l) = ∑ R : Fin 4096, val_main_v283 (F := Ideal) X D (ix2 R l) := by
  pointwise [val_main_v676, val_main_v287, val_main_v286, val_main_v285, val_main_cst_11, val_main_cst_12]
  simp only [Finset.univ_unique, Finset.sum_const, Finset.card_singleton, one_smul]

theorem ref_pw (k l : Fin 256) : val_main_v289 (F := Ideal) X D W B G H (ix2 k l) = ∑ R : Fin 4096, val_main_v283 (F := Ideal) X D (ix2 R l) * val_main_v274_0 (F := Ideal) X W B G H (ix2 R k) := by
  pointwise [val_main_v289, val_main_v288]

theorem ref_lnb (l : Fin 256) : val_main_v675 (F := Ideal) X D W B G H P (ix2 0 l) = ∑ R : Fin 4096, val_main_v291 (F := Ideal) X D W B G H P (ix2 R l) := by
  pointwise [val_main_v675, val_main_v294, val_main_v293, val_main_v292, val_main_cst_13, val_main_cst_14]
  simp only [Finset.univ_unique, Finset.sum_const, Finset.card_singleton, one_smul]

theorem ref_lng (l : Fin 256) : val_main_v674 (F := Ideal) X D W B G H P (ix2 0 l) = ∑ R : Fin 4096, val_main_v295 (F := Ideal) X D W B G H P (ix2 R l) := by
  pointwise [val_main_v674, val_main_v300, val_main_v297, val_main_v296, val_main_cst_15, val_main_cst_16]
  simp only [Finset.univ_unique, Finset.sum_const, Finset.card_singleton, one_smul]

theorem ref_cb (l : Fin 256) : val_main_v673 (F := Ideal) X D W B G H P (ix2 0 l) = ∑ R : Fin 4096, val_main_v322 (F := Ideal) X D W B G H P (ix2 R l) := by
  pointwise [val_main_v673, val_main_v325, val_main_v324, val_main_v323, val_main_cst_23, val_main_cst_24]
  simp only [Finset.univ_unique, Finset.sum_const, Finset.card_singleton, one_smul]

end Post

end Cert.KernelAIdeal.A

end
-- ==== Proof.AT.lean ====
/- The thirty-one taps of the gated convolution branch's gradient, on one row block and in the reference: each
   tap written once, over its number. -/
module

public import proofs.«01_k».proof.Proof.AP

@[expose] public section

set_option maxRecDepth 16384

noncomputable section

namespace Cert.KernelAIdeal.A

open Idealize.ShloMosaic Idealize.ShloMosaic.TcCoe
open Cert.KernelAIdeal Cert.KernelAIdeal.Gen
open Cert.ReferenceAIdeal.Read

/-! ## The body's taps -/

/-- rows moved down by `s`, around -/
def turn (s : ℕ) (E : FVec Ideal S288x256 .f32) : FVec Ideal S288x256 .f32 :=
  match s with
  | 0 => E
  | s + 1 => dynamicRotate 0 (BitVec.ofNat 32 (s + 1)) none E rotates_S288x256_d0

theorem turn_at (s : ℕ) (hs : s < 288) (E : FVec Ideal S288x256 .f32) (q : Fin 288) (l : Fin 256) :
    turn s E (ix2 q l) = E (ix2 ⟨(q.val + 288 - s) % 288, by omega⟩ l) := by
  match s, hs with
  | 0, _ =>
    show E _ = E _
    exact congrArg E (congrArg (ix2 · l) (Fin.ext (by show q.val = (q.val + 288 - 0) % 288; omega)))
  | s + 1, hs =>
    show dynamicRotate 0 (BitVec.ofNat 32 (s + 1)) none E rotates_S288x256_d0 _ = _
    have e : (BitVec.ofNat 32 (s + 1)).toNat = s + 1 := by rw [BitVec.toNat_ofNat]; omega
    pointwise
    refine congrArg E (congrArg (ix2 · l) (Fin.ext ?_))
    show _ % 288 = _ % 288
    simp only [e]
    omega

/-- tap `k`'s row of the taps' gradient, over what the row held -/
def dwTap (k : ℕ) (E : FVec Ideal S288x256 .f32) (A : FVec Ideal S256x256 .f32) (v : FVec Ideal S1x256 .f32) : FVec Ideal S1x256 .f32 :=
  addf (shapeCast S1x256 v shapeCasts_S1x256_S1x256)
    (shapeCast S1x256 (multiReduction .add [0] S256
      (mulf (extractStridedSlice S256x256 ![32, 0] (turn (30 - k) E) slices_S288x256_o32_0_S256x256) A)
      0x00000000#32 reduces_S256x256_S256_2 (.inl rfl) rfl) shapeCasts_S256_S1x256)

theorem dwTap_at (k : ℕ) (hk : k < 31) (E : FVec Ideal S288x256 .f32) (A : FVec Ideal S256x256 .f32) (v : FVec Ideal S1x256 .f32) (l : Fin 256) :
    dwTap k E A v (ix2 0 l) = v (ix2 0 l) + ∑ r : Fin 256, E (ix2 ⟨2 + r.val + k, by omega⟩ l) * A (ix2 r l) := by
  have h := turn_at (30 - k) (by omega) E
  pointwise [dwTap, h]
  refine congrArg _ (Finset.sum_congr rfl fun r _ => congrArg (· * _) (congrArg E (congrArg (ix2 · l) (Fin.ext ?_))))
  show (32 + r.val + 288 - (30 - k)) % 288 = 2 + r.val + k
  omega

/-- tap `k`'s part of what the row block gives its haloed rows -/
def dxTap (k : ℕ) (A : FVec Ideal S256x256 .f32) (w : FVec Ideal S1x256 .f32) : FVec Ideal S288x256 .f32 :=
  mulf (dynamicRotate 0 (BitVec.ofNat 32 (k + 2)) none (k0_pay42 A) rotates_S288x256_d0)
    (broadcastTo S288x256 (shapeCast S1x256 w shapeCasts_S1x256_S1x256) broadcasts_S1x256_S288x256)

theorem dxTap_at (k : ℕ) (hk : k < 31) (A : FVec Ideal S256x256 .f32) (w : FVec Ideal S1x256 .f32) (q : Fin 288) (l : Fin 256) :
    dxTap k A w (ix2 q l) = (if h : k + 2 ≤ q.val ∧ q.val < k + 258 then A (ix2 ⟨q.val - (k + 2), by omega⟩ l) else 0) * w (ix2 0 l) := by
  have h := turn_at (k + 2) (by omega) (k0_pay42 A) q l
  have e : turn (k + 2) (k0_pay42 A) = dynamicRotate 0 (BitVec.ofNat 32 (k + 2)) none (k0_pay42 A) rotates_S288x256_d0 := rfl
  unfold dxTap
  rw [← e]
  pointwise [h]
  pointwise [k0_pay42]
  split
  · rename_i hq
    rw [dif_pos (by omega)]
    exact congrArg (· * _) (congrArg A (congrArg (ix2 · l) (Fin.ext (by show (q.val + 288 - (k + 2)) % 288 = q.val - (k + 2); omega))))
  · rename_i hq
    rw [dif_neg (by omega)]

/-- the taps' parts up to `k`, summed in order -/
def dxTaps (A : FVec Ideal S256x256 .f32) (w : Fin 31 → FVec Ideal S1x256 .f32) : (k : ℕ) → k < 31 → FVec Ideal S288x256 .f32
  | 0, h => dxTap 0 A (w ⟨0, h⟩)
  | k + 1, h => addf (dxTaps A w k (by omega)) (dxTap (k + 1) A (w ⟨k + 1, h⟩))

theorem dxTaps_at (A : FVec Ideal S256x256 .f32) (w : Fin 31 → FVec Ideal S1x256 .f32) (T : ℕ) (f : Fin 4096 → EReal) (W : ℕ → EReal) (hT : T < 16)
    (l : Fin 256) (hA : ∀ r : Fin 256, A (ix2 r l) = f (row T hT r)) (hw : ∀ k : Fin 31, w k (ix2 0 l) = W k.val) (q : Fin 288)
    (k : ℕ) (hk : k < 31) :
    dxTaps A w k hk (ix2 q l) = ∑ j ∈ Finset.range (k + 1), Conv.tile 256 f T (q.val - (32 - ((31 : ℕ) - 1)) - j) * W j := by
  have one : ∀ j : ℕ, (hj : j < 31) → dxTap j A (w ⟨j, hj⟩) (ix2 q l) = Conv.tile 256 f T (q.val - (32 - ((31 : ℕ) - 1)) - j) * W j := fun j hj => by
    rw [dxTap_at j hj, hw]
    simp only [hA]
    rw [Conv.dite_tile (B := 256) f T (q.val - (32 - ((31 : ℕ) - 1)) - j) (fun h => row T hT ⟨q.val - (j + 2), by omega⟩) (by omega)
      (fun h => by show _ = ((T * 256 + (q.val - (j + 2)) : ℕ) : ℤ); omega)]
  induction k with
  | zero => rw [Finset.sum_range_one]; exact one 0 hk
  | succ k ih =>
    rw [Finset.sum_range_succ, ← ih (by omega), ← one (k + 1) hk]
    rfl

end Cert.KernelAIdeal.A

/-! ## The reference's taps -/

namespace Cert.ReferenceAIdeal.Taps

open Idealize.ShloMosaic Idealize.ShloMosaic.TcCoe
open Cert.ReferenceAIdeal Cert.ReferenceAIdeal.Gen Cert.ReferenceAIdeal.Read

section Reference

variable (X : FVec Ideal S4096x3336 .f32) (D : FVec Ideal S4096x1024 .f32) (W : FVec Ideal S31x256 .f32)
  (B G H : FVec Ideal S256 .f32) (P : FVec Ideal S256x256 .f32)

theorem slices_x : ∀ k : Fin 31, (⟨2, ![4126, 256]⟩ : Shape).Slices ![k.val, 0] S4096x256 := by decide +kernel
theorem slices_w : ∀ k : Fin 31, (⟨2, ![31, 256]⟩ : Shape).Slices ![k.val, 0] S1x256 := by decide +kernel
theorem pads_x : ∀ k : Fin 31, S4096x256.Pads (![k.val, 0] : Fin 2 → ℕ) ![30 - k.val, 0] ![0, 0] ⟨2, ![4126, 256]⟩ := by decide +kernel
theorem pads_w : ∀ k : Fin 31, S1x256.Pads (![k.val, 0] : Fin 2 → ℕ) ![30 - k.val, 0] ![0, 0] ⟨2, ![31, 256]⟩ := by decide +kernel

/-- tap `k`'s row of the taps' gradient, elsewhere zero -/
def refW (k : Fin 31) : FVec Ideal S31x256 .f32 :=
  pad S31x256 ![k.val, 0] ![30 - k.val, 0] ![0, 0]
    (broadcastInDim S1x256 ![1] bcast_S256_S1x256_1 (Host.reduceAdd (shapeCast _ (Host.reduceAdd
      (mulf (val_main_v322 (F := Ideal) X D W B G H P) (extractStridedSlice S4096x256 ![k.val, 0] (val_main_v26 (F := Ideal) X) (slices_x k)))
      (val_main_cst_29 (F := Ideal)) reducesTo_S4096x256_S256_d0 h_S_) shapeCasts_S256_S1x256) (val_main_cst_30 (F := Ideal)) reducesTo_S1x256_S256_d0 h_S_))
    (val_main_cst_32 (F := Ideal)) (pads_w k) h_S_

/-- tap `k`'s part of the padded rows' gradient -/
def refX (k : Fin 31) : FVec Ideal S4126x256 .f32 :=
  pad S4126x256 ![k.val, 0] ![30 - k.val, 0] ![0, 0]
    (mulf (broadcastInDim S4096x256 ![0, 1] bcast_S1x256_S4096x256_0_1 (broadcastInDim S1x256 ![1] bcast_S256_S1x256_1
      (shapeCast _ (extractStridedSlice S1x256 ![k.val, 0] W (slices_w k)) shapeCasts_S1x256_S256))) (val_main_v322 (F := Ideal) X D W B G H P))
    (val_main_cst_31 (F := Ideal)) (pads_x k) h_S_

def refWs : (j : ℕ) → j < 31 → FVec Ideal S31x256 .f32
  | 0, _ => refW X D W B G H P ⟨30, by decide⟩
  | j + 1, h => addf (refWs j (by omega)) (refW X D W B G H P ⟨29 - j, by omega⟩)

def refXs : (j : ℕ) → j < 31 → FVec Ideal S4126x256 .f32
  | 0, _ => refX X D W B G H P ⟨30, by decide⟩
  | j + 1, h => addf (refXs j (by omega)) (refX X D W B G H P ⟨29 - j, by omega⟩)

theorem refWs_eq : val_main_v664 (F := Ideal) X D W B G H P = refWs X D W B G H P 30 (by decide) := by sl_kernel_rfl
theorem refXs_eq : val_main_v661 (F := Ideal) X D W B G H P = refXs X D W B G H P 30 (by decide) := by sl_kernel_rfl

/-- a tap's share of a row in the taps' gradient -/
abbrev tap (k : Fin 31) (l : Fin 256) (R : Fin 4096) : EReal :=
  val_main_v26 (F := Ideal) X (ix2 ⟨k.val + R.val, by omega⟩ l) * val_main_v322 (F := Ideal) X D W B G H P (ix2 R l)

/-- the convolution's cotangent, one column -/
abbrev ct (l : Fin 256) : Fin 4096 → EReal := fun R => val_main_v322 (F := Ideal) X D W B G H P (ix2 R l)

/-- one column's taps -/
abbrev taps (l : Fin 256) : ℕ → EReal := fun k => Conv.ext (fun j : Fin 31 => W (ix2 j l)) k

theorem refW_at (k q : Fin 31) (l : Fin 256) : refW X D W B G H P k (ix2 q l) = if q.val = k.val then ∑ R : Fin 4096, tap X D W B G H P k l R else 0 := by
  unfold refW
  pointwise [val_main_cst_29, val_main_cst_30, val_main_cst_32]
  simp only [Finset.univ_unique, Finset.sum_const, Finset.card_singleton, one_smul]
  split
  · rename_i h
    rw [if_pos (by omega)]
    exact Finset.sum_congr rfl fun R _ => mul_comm _ _
  · rename_i h
    rw [if_neg (by omega)]

theorem refX_at (k : Fin 31) (q : Fin 4126) (l : Fin 256) : refX X D W B G H P k (ix2 q l) = Conv.ext (ct X D W B G H P l) (q.val - k.val) * taps W l k.val := by
  unfold refX
  pointwise [val_main_cst_31]
  rw [Conv.dite_ext (ct X D W B G H P l) (q.val - k.val) (W (ix2 k l)) (fun h => ⟨q.val - k.val, by omega⟩) (by omega) (fun h => by show _ = ((q.val - k.val : ℕ) : ℤ); omega)]
  exact congrArg _ (Conv.ext_of (fun j : Fin 31 => W (ix2 j l)) k.val k rfl).symm

theorem refWs_at (q : Fin 31) (l : Fin 256) (j : ℕ) (hj : j < 31) :
    refWs X D W B G H P j hj (ix2 q l) = if 30 - j ≤ q.val then ∑ R : Fin 4096, tap X D W B G H P q l R else 0 := by
  induction j with
  | zero =>
    show refW X D W B G H P _ (ix2 q l) = _
    rw [refW_at]
    by_cases h : q.val = 30
    · rw [if_pos h, if_pos (by omega), show (⟨30, _⟩ : Fin 31) = q from Fin.ext h.symm]
    · rw [if_neg h, if_neg (by omega)]
  | succ j ih =>
    show refWs X D W B G H P j _ (ix2 q l) + refW X D W B G H P ⟨29 - j, _⟩ (ix2 q l) = _
    rw [ih (by omega), refW_at]
    by_cases h : q.val = 29 - j
    · rw [if_neg (by omega), if_pos h, if_pos (by omega), zero_add, show (⟨29 - j, _⟩ : Fin 31) = q from Fin.ext h.symm]
    · rw [if_neg h, add_zero]
      by_cases h' : 30 - j ≤ q.val
      · rw [if_pos h', if_pos (by omega)]
      · rw [if_neg h', if_neg (by omega)]

/-- the taps' gradient -/
theorem ref_cw (q : Fin 31) (l : Fin 256) :
    val_main_v664 (F := Ideal) X D W B G H P (ix2 q l) = ∑ R : Fin 4096, tap X D W B G H P q l R := by
  rw [refWs_eq, refWs_at, if_pos (by omega)]

theorem refXs_at (q : Fin 4126) (l : Fin 256) (j : ℕ) (hj : j < 31) :
    refXs X D W B G H P j hj (ix2 q l) = ∑ i ∈ Finset.range (j + 1), Conv.ext (ct X D W B G H P l) (q.val - (30 - i : ℕ)) * taps W l (30 - i : ℕ) := by
  induction j with
  | zero =>
    rw [Finset.sum_range_one]
    exact refX_at X D W B G H P ⟨30, by decide⟩ q l
  | succ j ih =>
    rw [Finset.sum_range_succ, ← ih (by omega)]
    show refXs X D W B G H P j _ (ix2 q l) + refX X D W B G H P ⟨29 - j, _⟩ (ix2 q l) = _
    rw [refX_at, show (30 - (j + 1) : ℕ) = 29 - j by omega]

/-- the padded rows' gradient -/
theorem ref_x (q : Fin 4126) (l : Fin 256) :
    val_main_v661 (F := Ideal) X D W B G H P (ix2 q l) = ∑ k ∈ Finset.range 31, Conv.ext (ct X D W B G H P l) (q.val - k) * taps W l k := by
  rw [refXs_eq, refXs_at, ← Finset.sum_range_reflect]
  refine Finset.sum_congr rfl fun i hi => ?_
  rw [Finset.mem_range] at hi
  rw [show (30 - (31 - 1 - i) : ℕ) = i by omega]

end Reference

end Cert.ReferenceAIdeal.Taps

end
-- ==== Proof.AV.lean ====
/- The gated convolution branch's backward call on one row block: what its blocks hold, and what it leaves. -/
module

public import proofs.«01_k».proof.Proof.AF
public import proofs.«01_k».proof.Proof.AT
public import proofs.«01_k».proof.Proof.Rows
public import Idealize.ShloMosaic.Lib.Claim
public import Idealize.ShloMosaic.Lib.StableHlo.ReadAt
public import Idealize.ShloMosaic.Lib.Pipeline.ValueKit
public import Idealize.ShloMosaic.Lib.Pointwise

@[expose] public section

set_option maxRecDepth 16384

noncomputable section

namespace Cert.KernelAIdeal.A

open Idealize.ShloMosaic Idealize.ShloMosaic.TcCoe Idealize.SL.Sem
open Idealize.ShloMosaic.Pipeline (Dat)
open Cert.KernelAIdeal Cert.KernelAIdeal.Gen
open Cert.ReferenceAIdeal.Read

variable (m : (ℓ : Loc nD τ sig) → Buf (Elt Ideal) ℓ)

theorem idx_val : ∀ t : Fin cfg0.N, win0_0.index t = ![15 - t.val, 0]
    ∧ win0_1.index t = ![15 - t.val, 2]
    ∧ win0_2.index t = ![(15 - t.val) * 8 - 1, 0]
    ∧ win0_3.index t = ![15 - t.val, 0]
    ∧ win0_4.index t = ![15 - t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![15 - t.val, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0] :=
  (by decide +kernel : ∀ t : Fin grid0.N, _)

/-! ## The arrays the call reads, at the reference's types -/

abbrev X (c : Dev nD) : FVec Ideal S4096x3336 .f32 := m ((c : Thread nD τ).loc main_arg0)
abbrev D (c : Dev nD) : FVec Ideal S4096x1024 .f32 := m ((c : Thread nD τ).loc main_arg1)
abbrev W (c : Dev nD) : FVec Ideal S31x256 .f32 := m ((c : Thread nD τ).loc main_arg2)
abbrev B (c : Dev nD) : FVec Ideal S256 .f32 := m ((c : Thread nD τ).loc main_arg3)
abbrev G (c : Dev nD) : FVec Ideal S256 .f32 := m ((c : Thread nD τ).loc main_arg4)
abbrev H (c : Dev nD) : FVec Ideal S256 .f32 := m ((c : Thread nD τ).loc main_arg5)
abbrev P (c : Dev nD) : FVec Ideal S256x256 .f32 := m ((c : Thread nD τ).loc main_arg6)
abbrev Q (c : Dev nD) : FVec Ideal S256 .f32 := m ((c : Thread nD τ).loc main_arg7)

theorem conv_eq (c : Dev nD) : (V m c main_v242 : FVec Ideal S4096x256 .f32) = val_main_v245 (F := Ideal) (X m c) (W m c) := by
  sl_kernel_rfl

theorem pack_at (c : Dev nD) (R : Fin 4096) (k : Fin 3456) (hk : k.val < 768) :
    (V m c main_v8 : FVec Ideal S4096x3456 .f32) (ix2 R k) = X m c (ix2 R ⟨k.val, by omega⟩) := by
  unfold V
  after_reads_at
  rw [dif_pos (by omega)]
  after_reads_at

theorem taps_at (c : Dev nD) (k : Fin 32) (l : Fin 256) :
    (V m c main_v9 : FVec Ideal S32x256 .f32) (ix2 k l) = if h : k.val < 31 then W m c (ix2 ⟨k.val, h⟩ l) else 0 := by
  unfold V
  after_reads_at
  split
  · rfl
  · exact (by simp [FloatOps.sitofp] : (FloatOps.sitofp (F := Ideal) FTy.f32 (0#32) : EReal) = 0)

theorem cb_row (c : Dev nD) (l : Fin 256) : (V m c main_v10 : FVec Ideal S1x256 .f32) (ix2 0 l) = B m c (ix1 l) := by
  unfold V; after_reads_at

theorem lng_row (c : Dev nD) (l : Fin 256) : (V m c main_v11 : FVec Ideal S1x256 .f32) (ix2 0 l) = G m c (ix1 l) := by
  unfold V; after_reads_at

theorem lnb_row (c : Dev nD) (l : Fin 256) : (V m c main_v12 : FVec Ideal S1x256 .f32) (ix2 0 l) = H m c (ix1 l) := by
  unfold V; after_reads_at

theorem pwb_row (c : Dev nD) (l : Fin 256) : (V m c main_v13 : FVec Ideal S1x256 .f32) (ix2 0 l) = Q m c (ix1 l) := by
  unfold V; after_reads_at

theorem lt16 (t : Fin cfg0.N) : t.val < 16 := lt_of_lt_of_eq t.isLt N_0

/-! ## One row block's blocks -/

theorem vg_at (c : Dev nD) (t : Fin cfg0.N) (r : Fin 256) (l : Fin 512) :
    (X0_0 m c t : FVec Ideal S256x512 .f32) (ix2 r l) = X m c (ix2 (row (15 - t.val) (by omega) r) ⟨l.val, by omega⟩) := by
  rw [← pack_at m c _ ⟨l.val, by omega⟩ (by show l.val < 768; omega)]
  unfold X0_0 Pipeline.Window.fill; rw [dif_pos (moved0_0 t _)]
  blk_simp [iblk, idx_val t]
  blk_ext [idx_val t]

theorem az_at (c : Dev nD) (t : Fin cfg0.N) (r l : Fin 256) :
    (X0_1 m c t : FVec Ideal S256x256 .f32) (ix2 r l) = X m c (ix2 (row (15 - t.val) (by omega) r) ⟨512 + l.val, by omega⟩) := by
  rw [← pack_at m c _ ⟨512 + l.val, by omega⟩ (by show 512 + l.val < 768; omega)]
  unfold X0_1 Pipeline.Window.fill; rw [dif_pos (moved0_1 t _)]
  blk_simp [iblk, idx_val t]
  blk_ext [idx_val t]

theorem halo_at (c : Dev nD) (t : Fin cfg0.N) (r : Fin 32) (l : Fin 512) :
    (X0_2 m c t : FVec Ideal S32x512 .f32) (ix2 r l) = X m c (ix2 ⟨((15 - t.val) * 8 - 1) * 32 + r.val, by omega⟩ ⟨l.val, by omega⟩) := by
  rw [← pack_at m c _ ⟨l.val, by omega⟩ (by show l.val < 768; omega)]
  unfold X0_2 Pipeline.Window.fill; rw [dif_pos (moved0_2 t _)]
  blk_simp [iblk, idx_val t]
  blk_ext [idx_val t]

theorem dy_at (c : Dev nD) (t : Fin cfg0.N) (r l : Fin 256) :
    (iblk m c 3 t : FVec Ideal S256x256 .f32) (ix2 r l) = D m c (ix2 (row (15 - t.val) (by omega) r) ⟨l.val, by omega⟩) := by
  blk_ext! [iblk, V, idx_val t]

theorem co_at (c : Dev nD) (t : Fin cfg0.N) (r l : Fin 256) :
    (iblk m c 4 t : FVec Ideal S256x256 .f32) (ix2 r l) = val_main_v245 (F := Ideal) (X m c) (W m c) (ix2 (row (15 - t.val) (by omega) r) l) := by
  rw [← conv_eq]
  blk_simp [iblk, idx_val t]
  blk_ext [idx_val t]

theorem w_at (c : Dev nD) (t : Fin cfg0.N) (k : Fin 32) (l : Fin 256) :
    (iblk m c 5 t : FVec Ideal S32x256 .f32) (ix2 k l) = if h : k.val < 31 then W m c (ix2 ⟨k.val, h⟩ l) else 0 := by
  rw [← taps_at]
  blk_simp [iblk, idx_val t]
  blk_ext [idx_val t]

theorem cb_blk (c : Dev nD) (t : Fin cfg0.N) (l : Fin 256) : (iblk m c 6 t : FVec Ideal S1x256 .f32) (ix2 0 l) = B m c (ix1 l) := by
  rw [← cb_row]
  blk_simp [iblk, idx_val t]
  blk_ext [idx_val t]

theorem lng_blk (c : Dev nD) (t : Fin cfg0.N) (l : Fin 256) : (iblk m c 7 t : FVec Ideal S1x256 .f32) (ix2 0 l) = G m c (ix1 l) := by
  rw [← lng_row]
  blk_simp [iblk, idx_val t]
  blk_ext [idx_val t]

theorem lnb_blk (c : Dev nD) (t : Fin cfg0.N) (l : Fin 256) : (iblk m c 8 t : FVec Ideal S1x256 .f32) (ix2 0 l) = H m c (ix1 l) := by
  rw [← lnb_row]
  blk_simp [iblk, idx_val t]
  blk_ext [idx_val t]

theorem pw_blk (c : Dev nD) (t : Fin cfg0.N) (k l : Fin 256) : (iblk m c 9 t : FVec Ideal S256x256 .f32) (ix2 k l) = P m c (ix2 k l) := by
  blk_ext! [iblk, V, idx_val t]

theorem pwb_blk (c : Dev nD) (t : Fin cfg0.N) (l : Fin 256) : (iblk m c 10 t : FVec Ideal S1x256 .f32) (ix2 0 l) = Q m c (ix1 l) := by
  rw [← pwb_row]
  blk_simp [iblk, idx_val t]
  blk_ext [idx_val t]

theorem keep_at : ∀ t : Fin grid0.N, Scalar.extui (Scalar.cmpi .slt (BitVec.ofNat 32 (grid0.coords t 0).val) 15#32) = if t.val < 15 then 1#32 else 0#32 := by
  decide +kernel

theorem ext_at (c : Dev nD) (t : Fin cfg0.N) (v6 v8 : FVec Ideal S256x256 .f32) (v10 v12 : FVec Ideal S32x256 .f32)
    (h6 : ∀ r l : Fin 256, v6 (ix2 r l) = X m c (ix2 (row (15 - t.val) (by omega) r) ⟨l.val, by omega⟩))
    (h8 : ∀ r l : Fin 256, v8 (ix2 r l) = X m c (ix2 (row (15 - t.val) (by omega) r) ⟨256 + l.val, by omega⟩))
    (h10 : ∀ (r : Fin 32) (l : Fin 256), v10 (ix2 r l) = X m c (ix2 ⟨((15 - t.val) * 8 - 1) * 32 + r.val, by omega⟩ ⟨l.val, by omega⟩))
    (h12 : ∀ (r : Fin 32) (l : Fin 256), v12 (ix2 r l) = X m c (ix2 ⟨((15 - t.val) * 8 - 1) * 32 + r.val, by omega⟩ ⟨256 + l.val, by omega⟩))
    (q : Fin 288) (n : Fin 4126) (l : Fin 256) (hn : (15 - t.val) * 256 + q.val = n.val + 2) :
    k0_pay12 (F := Ideal) (grid0.coords t) v6 v8 v10 v12 (ix2 q l) = val_main_v26 (F := Ideal) (X m c) (ix2 n l) := by
  have hk := keep_at t
  have := lt16 t
  pointwise [k0_pay12, k0_pay9, k0_pay10, h6, h8, h10, h12, val_main_v26, val_main_v25, val_main_v24, val_main_v23, val_main_v22, val_main_v21, val_main_v20, val_main_cst]
  rw [hk]
  by_cases hq : q.val < 32
  · rw [dif_pos hq]
    by_cases ht : t.val < 15
    · rw [if_pos ht, dif_neg (by omega),
        show (⟨((15 - t.val) * 8 - 1) * 32 + q.val, by omega⟩ : Fin 4096) = ⟨n.val - 30, by omega⟩ from Fin.ext (by show ((15 - t.val) * 8 - 1) * 32 + q.val = n.val - 30; omega)]
      pointwise [val_main_v0, val_main_v1, val_main_v18, val_main_v17, val_main_v16, val_main_v19, val_main_cst_0, val_main_cst_1, val_main_cst, val_main_v15, val_main_v14]
      simp
      rfl
    · rw [if_neg ht, dif_pos (by omega)]
      pointwise [val_main_cst_2]
      simp
  · rw [dif_neg hq, dif_neg (by omega),
      show row (15 - t.val) (by omega) ⟨q.val - 32, by omega⟩ = (⟨n.val - 30, by omega⟩ : Fin 4096) from Fin.ext (by show _ * 256 + (q.val - 32) = n.val - 30; omega)]
    pointwise [val_main_v0, val_main_v1, val_main_v18, val_main_v17, val_main_v16, val_main_v19, val_main_cst_0, val_main_cst_1, val_main_cst, val_main_v15, val_main_v14]
    rfl

end Cert.KernelAIdeal.A

end
-- ==== Proof.AW.lean ====
/- The gated convolution branch's backward call on one row block: what its blocks hold, and what it leaves. -/
module

public import proofs.«01_k».proof.Proof.AF
public import proofs.«01_k».proof.Proof.AT
public import proofs.«01_k».proof.Proof.Rows
public import proofs.«01_k».proof.Proof.AV
public import Idealize.ShloMosaic.Lib.Claim
public import Idealize.ShloMosaic.Lib.StableHlo.ReadAt
public import Idealize.ShloMosaic.Lib.Pipeline.ValueKit
public import Idealize.ShloMosaic.Lib.Pointwise

@[expose] public section

set_option maxRecDepth 16384

noncomputable section

namespace Cert.KernelAIdeal.A

open Idealize.ShloMosaic Idealize.ShloMosaic.TcCoe Idealize.SL.Sem
open Idealize.ShloMosaic.Pipeline (Dat)
open Cert.KernelAIdeal Cert.KernelAIdeal.Gen
open Cert.ReferenceAIdeal.Read

variable (m : (ℓ : Loc nD τ sig) → Buf (Elt Ideal) ℓ)

open Cert.ReferenceAIdeal.Taps (tap ct taps)

section Tile

variable (c : Dev nD) (t : Fin cfg0.N)

/-! ## A row block's operands, as the body loads them -/

abbrev val : FVec Ideal S256x256 .f32 := View.ld (X0_0 m c t : FVec Ideal S256x512 .f32) (Rect.unit ![0, 0] ![256, 256] inb_S256x512_S256x256_0_0)
abbrev gate : FVec Ideal S256x256 .f32 := View.ld (X0_0 m c t : FVec Ideal S256x512 .f32) (Rect.unit ![0, 256] ![256, 256] inb_S256x512_S256x256_0_256)
abbrev hval : FVec Ideal S32x256 .f32 := View.ld (X0_2 m c t : FVec Ideal S32x512 .f32) (Rect.unit ![0, 0] ![32, 256] inb_S32x512_S32x256_0_0)
abbrev hgate : FVec Ideal S32x256 .f32 := View.ld (X0_2 m c t : FVec Ideal S32x512 .f32) (Rect.unit ![0, 256] ![32, 256] inb_S32x512_S32x256_0_256)
abbrev co : FVec Ideal S256x256 .f32 := k0_pay13 (iblk m c 4 t)
abbrev az : FVec Ideal S256x256 .f32 := k0_pay14 (X0_1 m c t)
abbrev dy : FVec Ideal S256x256 .f32 := iblk m c 3 t
abbrev pw : FVec Ideal S256x256 .f32 := iblk m c 9 t
abbrev cb : FVec Ideal S1x256 .f32 := k0_pay15 (iblk m c 6 t)
abbrev lng : FVec Ideal S1x256 .f32 := k0_pay16 (iblk m c 7 t)
abbrev lnb : FVec Ideal S1x256 .f32 := k0_pay17 (iblk m c 8 t)
abbrev pwb : FVec Ideal S1x256 .f32 := iblk m c 10 t

theorem inb_row : ∀ k : Fin 32, ∀ a, (![k.val, 0] : Fin 2 → ℕ) a + S1x256.size a ≤ S32x256.size a := by decide +kernel

abbrev wrow (k : Fin 31) : FVec Ideal S1x256 .f32 := View.ld (iblk m c 5 t : FVec Ideal S32x256 .f32) (Rect.unit ![k.val, 0] S1x256.size (inb_row ⟨k.val, by omega⟩))

theorem val_at (r l : Fin 256) : val m c t (ix2 r l) = X m c (ix2 (row (15 - t.val) (by omega) r) ⟨l.val, by omega⟩) := by
  pointwise [val, vg_at]

theorem gate_at (r l : Fin 256) : gate m c t (ix2 r l) = X m c (ix2 (row (15 - t.val) (by omega) r) ⟨256 + l.val, by omega⟩) := by
  pointwise [gate, vg_at]

theorem hval_at (r : Fin 32) (l : Fin 256) : hval m c t (ix2 r l) = X m c (ix2 ⟨((15 - t.val) * 8 - 1) * 32 + r.val, by omega⟩ ⟨l.val, by omega⟩) := by
  pointwise [hval, halo_at]

theorem hgate_at (r : Fin 32) (l : Fin 256) : hgate m c t (ix2 r l) = X m c (ix2 ⟨((15 - t.val) * 8 - 1) * 32 + r.val, by omega⟩ ⟨256 + l.val, by omega⟩) := by
  pointwise [hgate, halo_at]

theorem wrow_at (k : Fin 31) (l : Fin 256) : wrow m c t k (ix2 0 l) = taps (W m c) l k.val :=
  (Rows.ld_row _ k.val (by omega) _ _ l).trans ((w_at m c t ⟨k.val, by omega⟩ l).trans ((dif_pos k.isLt).trans (Conv.ext_of (fun j : Fin 31 => W m c (ix2 j l)) k.val k rfl).symm))

theorem loads : Loads (X m c) (D m c) (W m c) (B m c) (G m c) (H m c) (P m c) (Q m c) (co m c t) (az m c t) (dy m c t) (pw m c t) (cb m c t) (lng m c t) (lnb m c t) (pwb m c t) (15 - t.val) (by omega) where
  co r l := by
    have h := co_at m c t
    pointwise [co, k0_pay13, h]
  az r l := by
    have h := az_at m c t
    pointwise [az, k0_pay14, h]
  dy := dy_at m c t
  pw := pw_blk m c t
  cb l := by
    have h := cb_blk m c t
    pointwise [cb, k0_pay15, h]
  lng l := by
    have h := lng_blk m c t
    pointwise [lng, k0_pay16, h]
  lnb l := by
    have h := lnb_blk m c t
    pointwise [lnb, k0_pay17, h]
  pwb := pwb_blk m c t

abbrev E : FVec Ideal S288x256 .f32 := k0_pay12 (grid0.coords t) (val m c t) (gate m c t) (hval m c t) (hgate m c t)

/-- the convolution's cotangent on the row block -/
abbrev A : FVec Ideal S256x256 .f32 := k0_pay39 (lng m c t) (pw m c t) (k0_pay18 (co m c t) (cb m c t)) (k0_pay20 (co m c t) (cb m c t)) (k0_pay21 (co m c t) (cb m c t))
  (k0_pay23 (co m c t) (cb m c t) (lng m c t) (lnb m c t)) (k0_pay24 (co m c t) (cb m c t) (lng m c t) (lnb m c t)) (k0_pay25 (co m c t) (cb m c t) (lng m c t) (lnb m c t)) (k0_pay30 (az m c t) (dy m c t))

theorem hE (q : Fin 288) (n : Fin 4126) (l : Fin 256) (h : (15 - t.val) * 256 + q.val = n.val + 2) :
    E m c t (ix2 q l) = val_main_v26 (F := Ideal) (X m c) (ix2 n l) :=
  ext_at m c t _ _ _ _ (val_at m c t) (gate_at m c t) (hval_at m c t) (hgate_at m c t) q n l h

theorem hA (r l : Fin 256) : A m c t (ix2 r l) = val_main_v322 (F := Ideal) (X m c) (D m c) (W m c) (B m c) (G m c) (H m c) (P m c) (ix2 (row (15 - t.val) (by omega) r) l) :=
  dacc_at _ _ _ _ _ _ _ _ _ _ _ _ _ _ _ _ _ _ (loads m c t) r l

/-- what the row block gives its haloed rows -/
abbrev DX : FVec Ideal S288x256 .f32 := dxTaps (A m c t) (wrow m c t) 30 (by decide)

/-- the row block's share of the rows' gradient -/
abbrev share (T q : ℕ) (l : Fin 256) : EReal := Conv.dext 256 32 31 (ct (X m c) (D m c) (W m c) (B m c) (G m c) (H m c) (P m c) l) (taps (W m c) l) T q

theorem DX_at (q : Fin 288) (l : Fin 256) : DX m c t (ix2 q l) = share m c (15 - t.val) q.val l :=
  dxTaps_at (A m c t) (wrow m c t) (15 - t.val) (ct (X m c) (D m c) (W m c) (B m c) (G m c) (H m c) (P m c) l) (taps (W m c) l) (by omega) l (fun r => hA m c t r l)
    (fun k => wrow_at m c t k l) q 30 (by decide)

/-! ## The carried halo -/

theorem halo_A (h : t.val % 16 = 0) (y) : (leftA m c t h).halo y = k0_pay101 (F := Ideal) (DX m c t) y := by
  unfold leftA runA; dsimp only [kernelRun0_A]; frame_out; sl_kernel_rfl

theorem halo_B (h : ¬t.val % 16 = 0) (p : Left Ideal) (y) : (leftB m c t h p).halo y = k0_pay101 (F := Ideal) (DX m c t) y := by
  unfold leftB runB; dsimp only [kernelRun0_B]; frame_out; sl_kernel_rfl

theorem carry_at (q : Fin 32) (l : Fin 256) : (left m c t.val t.isLt).halo (ix2 q l) = share m c (15 - t.val) q.val l := by
  have e : k0_pay101 (F := Ideal) (DX m c t) (ix2 q l) = share m c (15 - t.val) q.val l := by
    have h := DX_at m c t
    pointwise [k0_pay101, h]
  by_cases h : t.val % 16 = 0
  · rw [left_A m c t h, halo_A]; exact e
  · rw [left_B m c t h, halo_B]; exact e

/-- what the row block after left, as the body finds it -/
def Carried (v : FVec Ideal S32x256 .f32) : Prop := ∀ (q : Fin 32) (l : Fin 256), v (ix2 q l) = share m c (15 - t.val + 1) q.val l

theorem carried_A (h : t.val % 16 = 0) : Carried m c t (k0_pay2 (F := Ideal)) := by
  intro q l
  have := lt16 t
  refine Eq.trans ?_ (Conv.dext_past _ _ _ (by omega) _).symm
  pointwise [k0_pay2]

theorem carried_B (h : ¬ t.val % 16 = 0) (ht) : Carried m c t (View.read (Elt Ideal) (View.whole cc0_scratch0)
    ((Memref.isWhole_whole cc0_scratch0).unread (left m c (t.val - 1) ht).halo)) := by
  intro q l
  have := lt16 t
  rw [(Memref.isWhole_whole cc0_scratch0).read_unread]
  refine (carry_at m c ⟨t.val - 1, ht⟩ q l).trans ?_
  rw [show 15 - (t.val - 1) = 15 - t.val + 1 by omega]

/-! ## The columns' gradient -/

/-- the row block's three stores -/
abbrev stores (v : FVec Ideal S32x256 .f32) : List (View.Piece (Elt Ideal) S256x768 .f32) :=
  [⟨Rect.unit ![0, 512] ![256, 256] inb_S256x768_S256x256_0_512, k0_pay32 (F := Ideal) (k0_pay27 (az m c t)) (k0_pay28 (az m c t))
      (k0_pay29 (co m c t) (cb m c t) (lng m c t) (lnb m c t) (pw m c t) (pwb m c t) (dy m c t))
      (k0_pay31 (co m c t) (az m c t) (cb m c t) (lng m c t) (lnb m c t) (pw m c t) (pwb m c t) (dy m c t))⟩,
   ⟨Rect.unit ![0, 256] ![256, 256] inb_S256x768_S256x256_0_256, k0_pay103 (F := Ideal) (k0_pay9 (val m c t)) (k0_pay11 (gate m c t))
      (extractStridedSlice S256x256 ![32, 0] (DX m c t) slices_S288x256_o32_0_S256x256) v⟩,
   ⟨Rect.unit ![0, 0] ![256, 256] inb_S256x768_S256x256_0_0, k0_pay102 (F := Ideal) (k0_pay10 (gate m c t))
      (extractStridedSlice S256x256 ![32, 0] (DX m c t) slices_S288x256_o32_0_S256x256) v⟩]

theorem dp_A (h : t.val % 16 = 0) (y) : (leftA m c t h).dp y = View.canon (stores m c t (k0_pay2 (F := Ideal))) y := by
  unfold leftA runA; dsimp only [kernelRun0_A]; frame_out; sl_kernel_rfl

theorem dp_B (h : ¬t.val % 16 = 0) (p : Left Ideal) (y) : (leftB m c t h p).dp y = View.canon (stores m c t (View.read (Elt Ideal) (View.whole cc0_scratch0)
    ((Memref.isWhole_whole cc0_scratch0).unread p.halo))) y := by
  unfold leftB runB; dsimp only [kernelRun0_B]; frame_out; sl_kernel_rfl

theorem da_at (v : FVec Ideal S32x256 .f32) (hv : Carried m c t v) (r l : Fin 256) :
    k0_pay100 (F := Ideal) (extractStridedSlice S256x256 ![32, 0] (DX m c t) slices_S288x256_o32_0_S256x256) v (ix2 r l)
      = val_main_v666 (F := Ideal) (X m c) (D m c) (W m c) (B m c) (G m c) (H m c) (P m c) (ix2 (row (15 - t.val) (by omega) r) l) := by
  have h := DX_at m c t
  have hr := Cert.ReferenceAIdeal.Taps.ref_x (X m c) (D m c) (W m c) (B m c) (G m c) (H m c) (P m c)
  pointwise [k0_pay100, h, hv, hr, val_main_v666]
  have e := Conv.dext_add (B := 256) (H := 32) (K := 31) (by omega) (by omega) (ct (X m c) (D m c) (W m c) (B m c) (G m c) (H m c) (P m c) l) (taps (W m c) l) (15 - t.val) r.val r.isLt
  have hz : ((30 + ((15 - t.val) * 256 + r.val) : ℕ) : ℤ) = ((15 - t.val : ℕ) : ℤ) * 256 + r.val + ((31 : ℕ) - 1) := by push_cast; omega
  rw [hz]
  rw [show ((256 : ℕ) : ℤ) = 256 from rfl] at e
  rw [← e]
  congr 1
  by_cases hr : r.val < 224
  · rw [dif_pos hr, if_neg (by omega)]
  · rw [dif_neg hr]
    refine Eq.trans ?_ (if_pos (by omega)).symm
    refine (hv _ _).trans ?_
    congr 1

theorem cols_2 (R : Fin 4096) (j : Fin 768) (l : Fin 256) (h : j.val = 512 + l.val) :
    val_main_v670 (F := Ideal) (X m c) (D m c) (W m c) (B m c) (G m c) (H m c) (P m c) (Q m c) (ix2 R j) = val_main_v284 (F := Ideal) (X m c) (D m c) (W m c) (B m c) (G m c) (H m c) (P m c) (Q m c) (ix2 R l) := by
  pointwise [val_main_v670]
  rw [dif_neg (by omega), dif_neg (by omega)]
  exact congrArg _ (congrArg _ (Fin.ext (by show j.val - 256 - 256 = l.val; omega)))

theorem cols_1 (R : Fin 4096) (j : Fin 768) (l : Fin 256) (h : j.val = 256 + l.val) :
    val_main_v670 (F := Ideal) (X m c) (D m c) (W m c) (B m c) (G m c) (H m c) (P m c) (Q m c) (ix2 R j) = val_main_v669 (F := Ideal) (X m c) (D m c) (W m c) (B m c) (G m c) (H m c) (P m c) (ix2 R l) := by
  pointwise [val_main_v670]
  rw [dif_neg (by omega), dif_pos (by omega)]
  exact congrArg _ (congrArg _ (Fin.ext (by show j.val - 256 = l.val; omega)))

theorem cols_0 (R : Fin 4096) (j : Fin 768) (l : Fin 256) (h : j.val = l.val) :
    val_main_v670 (F := Ideal) (X m c) (D m c) (W m c) (B m c) (G m c) (H m c) (P m c) (Q m c) (ix2 R j) = val_main_v668 (F := Ideal) (X m c) (D m c) (W m c) (B m c) (G m c) (H m c) (P m c) (ix2 R l) := by
  pointwise [val_main_v670]
  rw [dif_pos (by omega)]
  exact congrArg _ (congrArg _ (Fin.ext (by show j.val = l.val; omega)))

theorem stores_at (v : FVec Ideal S32x256 .f32) (hv : Carried m c t v) (y : S256x768.Idx) :
    View.canon (stores m c t v) y = val_main_v670 (F := Ideal) (X m c) (D m c) (W m c) (B m c) (G m c) (H m c) (P m c) (Q m c) (ix2 (row (15 - t.val) (by omega) (y 0)) (y 1)) := by
  have hda := da_at m c t v hv
  have hg := gate_at m c t
  have hval := val_at m c t
  have s1 : ∀ a b : Fin 256, k0_pay103 (F := Ideal) (k0_pay9 (val m c t)) (k0_pay11 (gate m c t)) (extractStridedSlice S256x256 ![32, 0] (DX m c t) slices_S288x256_o32_0_S256x256) v (ix2 a b) = val_main_v669 (F := Ideal) (X m c) (D m c) (W m c) (B m c) (G m c) (H m c) (P m c) (ix2 (row (15 - t.val) (by omega) a) b) := fun a b => by
    pointwise [k0_pay103, k0_pay9, k0_pay11, k0_pay10, hg, hval, hda]
    pointwise [val_main_v669, val_main_v667, val_main_v23, val_main_v22, val_main_v21, val_main_v20, val_main_v19, val_main_v18, val_main_v17, val_main_v16, val_main_v15, val_main_v14, val_main_cst, val_main_cst_0, val_main_cst_1, val_main_v0, val_main_v1]
    rfl
  have s0 : ∀ a b : Fin 256, k0_pay102 (F := Ideal) (k0_pay10 (gate m c t)) (extractStridedSlice S256x256 ![32, 0] (DX m c t) slices_S288x256_o32_0_S256x256) v (ix2 a b) = val_main_v668 (F := Ideal) (X m c) (D m c) (W m c) (B m c) (G m c) (H m c) (P m c) (ix2 (row (15 - t.val) (by omega) a) b) := fun a b => by
    pointwise [k0_pay102, k0_pay10, hg, hda]
    pointwise [val_main_v668, val_main_v20, val_main_v19, val_main_v18, val_main_v17, val_main_v16, val_main_v15, val_main_v14, val_main_cst, val_main_cst_0, val_main_v1]
    rfl
  have hrow : ∀ a b : Fin 256, a.val = b.val → row (15 - t.val) (by omega) a = row (15 - t.val) (by omega) b := fun a b h => by rw [Fin.ext h]
  canon_tiles x h
  · refine Eq.trans ?_ (cols_2 m c _ _ (x 1) h1).symm
    rw [hrow _ _ h0, eq_ix2 x]
    exact daz_at _ _ _ _ _ _ _ _ _ _ _ _ _ _ _ _ _ _ (loads m c t) (x 0) (x 1)
  · refine Eq.trans ?_ (cols_1 m c _ _ (x 1) h1).symm
    rw [hrow _ _ h0, eq_ix2 x]
    exact s1 (x 0) (x 1)
  · refine Eq.trans ?_ (cols_0 m c _ _ (x 1) h1).symm
    rw [hrow _ _ h0, eq_ix2 x]
    exact s0 (x 0) (x 1)

/-! ## The taps' gradient -/

/-- a row block's part of the taps' gradient -/
abbrev part (q : Fin 32) (l : Fin 256) : EReal :=
  if h : q.val < 31 then ∑ r : Fin 256, tap (X m c) (D m c) (W m c) (B m c) (G m c) (H m c) (P m c) ⟨q.val, h⟩ l (row (15 - t.val) (by omega) r) else 0

theorem tap_of (k : ℕ) (hk : k < 31) (v : FVec Ideal S1x256 .f32) (l : Fin 256) : dwTap k (E m c t) (A m c t) v (ix2 0 l) = v (ix2 0 l) + part m c t ⟨k, by omega⟩ l := by
  have hA := hA m c t
  rw [dwTap_at k hk, part, dif_pos hk]
  refine congrArg _ (Finset.sum_congr rfl fun r _ => ?_)
  rw [hA, hE m c t _ ⟨k + ((15 - t.val) * 256 + r.val), by omega⟩ l (by show (15 - t.val) * 256 + (2 + r.val + k) = k + ((15 - t.val) * 256 + r.val) + 2; omega)]

/-- the first row block's stores into the taps' gradient, those before tap `k` -/
def rowsA : (k : ℕ) → k < 32 → List (View.Piece (Elt Ideal) S32x256 .f32)
  | 0, _ => [⟨Rect.unit (s := S32x256) ![0, 0] ![32, 256] inb_S32x256_S32x256_0_0, k0_pay3 (F := Ideal)⟩]
  | k + 1, h => ⟨Rect.unit (s := S32x256) ![k, 0] S1x256.size (inb_row ⟨k, by omega⟩), dwTap k (E m c t) (A m c t)
      ((ms0_12 t).view.readCov (rowsA k (by omega)) (Rect.unit (s := S32x256) ![k, 0] S1x256.size (inb_row ⟨k, by omega⟩)).toLoadRect)⟩ :: rowsA k (by omega)

/-- row `k` of what is there -/
abbrev rowAt (f : FVec Ideal S32x256 .f32) (k : Fin 32) : FVec Ideal S1x256 .f32 := View.ld (Val := Elt Ideal) (S := S32x256) (e' := .f32) f (Rect.unit ![k.val, 0] S1x256.size (inb_row k))

theorem rowAt_at (f : FVec Ideal S32x256 .f32) (k : Fin 32) (l : Fin 256) : rowAt f k (ix2 0 l) = f (ix2 k l) :=
  Rows.ld_row (m := 32) (n := 256) (Val := Elt Ideal) (e := .f32) f k.val k.isLt _ _ l

/-- a later row block's stores into the taps' gradient, those before tap `k` -/
def rowsB (f : FVec Ideal S32x256 .f32) : (k : ℕ) → k < 32 → List (View.Piece (Elt Ideal) S32x256 .f32)
  | 0, _ => []
  | k + 1, h => ⟨Rect.unit (s := S32x256) ![k, 0] S1x256.size (inb_row ⟨k, by omega⟩), dwTap k (E m c t) (A m c t)
      (rowAt f ⟨k, by omega⟩)⟩ :: rowsB f k (by omega)

theorem dcw_A (h : t.val % 16 = 0) (y) : (leftA m c t h).dcw y = View.canon (rowsA m c t 31 (by decide)) y := by
  unfold leftA runA; dsimp only [kernelRun0_A]; frame_out; sl_kernel_rfl

theorem dcw_B (h : ¬t.val % 16 = 0) (p : Left Ideal) (y) : (leftB m c t h p).dcw y
    = View.read (Elt Ideal) (ms0_12 t).view ((ms0_12 t).view.writes (Elt Ideal) ((hs0_12 t).unread p.dcw) (rowsB m c t p.dcw 31 (by decide))) y := by
  unfold leftB runB; dsimp only [kernelRun0_B]; frame_out; sl_kernel_rfl

theorem rowsA_at (q : Fin 32) (l : Fin 256) (k : ℕ) (hk : k < 32) :
    View.canon (rowsA m c t k hk) (ix2 q l) = if q.val < k then 0 + part m c t q l else 0 := by
  induction k generalizing q with
  | zero =>
    rw [if_neg (by omega)]
    exact (Rows.canon_whole _ _ _ q l).trans (by pointwise [k0_pay3])
  | succ k ih =>
    refine (Rows.canon_row k _ _ _ q l).trans ?_
    by_cases e : q.val = k
    · rw [if_pos e, if_pos (by omega), tap_of m c t k (by omega)]
      refine congrArg₂ (· + ·) ((Rows.readCov_row _ _ k (by omega) _ _ l).trans ((ih _ _).trans (if_neg (by show ¬ k < k; omega)))) (congrArg (part m c t · l) (Fin.ext e.symm))
    · rw [if_neg e, ih]
      by_cases e' : q.val < k
      · rw [if_pos e', if_pos (by omega)]
      · rw [if_neg e', if_neg (by omega)]

theorem rowsB_at (f : FVec Ideal S32x256 .f32) (q : Fin 32) (l : Fin 256) (k : ℕ) (hk : k < 32) :
    View.read (Elt Ideal) (ms0_12 t).view ((ms0_12 t).view.writes (Elt Ideal) ((hs0_12 t).unread f) (rowsB m c t f k hk)) (ix2 q l)
      = if q.val < k then f (ix2 q l) + part m c t q l else f (ix2 q l) := by
  induction k generalizing q with
  | zero =>
    rw [if_neg (by omega)]
    exact congrFun ((hs0_12 t).read_unread (Val := Elt Ideal) f) (ix2 q l)
  | succ k ih =>
    refine (Rows.read_row _ _ k _ _ _ q l).trans ?_
    by_cases e : q.val = k
    · rw [if_pos e, if_pos (by omega), tap_of m c t k (by omega)]
      exact congrArg₂ (· + ·) ((rowAt_at f ⟨k, by omega⟩ l).trans (congrArg (fun i => f (ix2 i l)) (Fin.ext e.symm))) (congrArg (part m c t · l) (Fin.ext e.symm))
    · rw [if_neg e, ih]
      by_cases e' : q.val < k
      · rw [if_pos e', if_pos (by omega)]
      · rw [if_neg e', if_neg (by omega)]

theorem part_A (h : t.val % 16 = 0) (q : Fin 32) (l : Fin 256) : (left m c t.val t.isLt).dcw (ix2 q l) = 0 + part m c t q l := by
  rw [left_A m c t h, dcw_A, rowsA_at m c t q l 31 (by decide)]
  by_cases hq : q.val < 31
  · rw [if_pos hq]
  · rw [if_neg hq, part, dif_neg hq, add_zero]

theorem part_B (h : ¬t.val % 16 = 0) (ht) (q : Fin 32) (l : Fin 256) :
    (left m c t.val t.isLt).dcw (ix2 q l) = (left m c (t.val - 1) ht).dcw (ix2 q l) + part m c t q l := by
  rw [left_B m c t h, dcw_B, rowsB_at m c t _ q l 31 (by decide)]
  by_cases hq : q.val < 31
  · rw [if_pos hq]
  · rw [if_neg hq, part, dif_neg hq, add_zero]

end Tile

/-! ## The vectors' gradients and the pointwise weight's -/

section Sums

variable (c : Dev nD) (t : Fin cfg0.N)

theorem dcb_A (h : t.val % 16 = 0) (l : Fin 256) : (left m c t.val t.isLt).dcb (ix2 0 l) = 0 + ∑ r : Fin 256, val_main_v322 (F := Ideal) (X m c) (D m c) (W m c) (B m c) (G m c) (H m c) (P m c) (ix2 (row (15 - t.val) (by omega) r) l) := by
  have e := scb_at _ _ _ _ _ _ _ _ _ _ _ _ _ _ _ _ _ _ (loads m c t) l
  rw [left_A m c t h]
  unfold leftA runA; dsimp only [kernelRun0_A]; frame_out
  pointwise [k0_pay104, k0_pay4, e]

theorem dcb_B (h : ¬t.val % 16 = 0) (ht) (l : Fin 256) : (left m c t.val t.isLt).dcb (ix2 0 l) = (left m c (t.val - 1) ht).dcb (ix2 0 l) + ∑ r : Fin 256, val_main_v322 (F := Ideal) (X m c) (D m c) (W m c) (B m c) (G m c) (H m c) (P m c) (ix2 (row (15 - t.val) (by omega) r) l) := by
  have e := scb_at _ _ _ _ _ _ _ _ _ _ _ _ _ _ _ _ _ _ (loads m c t) l
  rw [left_B m c t h]
  unfold leftB runB; dsimp only [kernelRun0_B]; frame_out
  pointwise [k0_pay104, e]

theorem dlng_A (h : t.val % 16 = 0) (l : Fin 256) : (left m c t.val t.isLt).dlng (ix2 0 l) = 0 + ∑ r : Fin 256, val_main_v295 (F := Ideal) (X m c) (D m c) (W m c) (B m c) (G m c) (H m c) (P m c) (ix2 (row (15 - t.val) (by omega) r) l) := by
  have e := slng_at _ _ _ _ _ _ _ _ _ _ _ _ _ _ _ _ _ _ (loads m c t) l
  rw [left_A m c t h]
  unfold leftA runA; dsimp only [kernelRun0_A]; frame_out
  pointwise [k0_pay105, k0_pay5, e]

theorem dlng_B (h : ¬t.val % 16 = 0) (ht) (l : Fin 256) : (left m c t.val t.isLt).dlng (ix2 0 l) = (left m c (t.val - 1) ht).dlng (ix2 0 l) + ∑ r : Fin 256, val_main_v295 (F := Ideal) (X m c) (D m c) (W m c) (B m c) (G m c) (H m c) (P m c) (ix2 (row (15 - t.val) (by omega) r) l) := by
  have e := slng_at _ _ _ _ _ _ _ _ _ _ _ _ _ _ _ _ _ _ (loads m c t) l
  rw [left_B m c t h]
  unfold leftB runB; dsimp only [kernelRun0_B]; frame_out
  pointwise [k0_pay105, e]

theorem dlnb_A (h : t.val % 16 = 0) (l : Fin 256) : (left m c t.val t.isLt).dlnb (ix2 0 l) = 0 + ∑ r : Fin 256, val_main_v291 (F := Ideal) (X m c) (D m c) (W m c) (B m c) (G m c) (H m c) (P m c) (ix2 (row (15 - t.val) (by omega) r) l) := by
  have e := slnb_at _ _ _ _ _ _ _ _ _ _ _ _ _ _ _ _ _ _ (loads m c t) l
  rw [left_A m c t h]
  unfold leftA runA; dsimp only [kernelRun0_A]; frame_out
  pointwise [k0_pay106, k0_pay6, e]

theorem dlnb_B (h : ¬t.val % 16 = 0) (ht) (l : Fin 256) : (left m c t.val t.isLt).dlnb (ix2 0 l) = (left m c (t.val - 1) ht).dlnb (ix2 0 l) + ∑ r : Fin 256, val_main_v291 (F := Ideal) (X m c) (D m c) (W m c) (B m c) (G m c) (H m c) (P m c) (ix2 (row (15 - t.val) (by omega) r) l) := by
  have e := slnb_at _ _ _ _ _ _ _ _ _ _ _ _ _ _ _ _ _ _ (loads m c t) l
  rw [left_B m c t h]
  unfold leftB runB; dsimp only [kernelRun0_B]; frame_out
  pointwise [k0_pay106, e]

theorem dpw_A (h : t.val % 16 = 0) (k l : Fin 256) : (left m c t.val t.isLt).dpw (ix2 k l) = 0 + ∑ r : Fin 256, val_main_v283 (F := Ideal) (X m c) (D m c) (ix2 (row (15 - t.val) (by omega) r) l) * val_main_v274_0 (F := Ideal) (X m c) (W m c) (B m c) (G m c) (H m c) (ix2 (row (15 - t.val) (by omega) r) k) := by
  have e := spw_at _ _ _ _ _ _ _ _ _ _ _ _ _ _ _ _ _ _ (loads m c t) k l
  rw [left_A m c t h]
  unfold leftA runA; dsimp only [kernelRun0_A]; frame_out
  pointwise [k0_pay107, k0_pay7, e]

theorem dpw_B (h : ¬t.val % 16 = 0) (ht) (k l : Fin 256) : (left m c t.val t.isLt).dpw (ix2 k l) = (left m c (t.val - 1) ht).dpw (ix2 k l) + ∑ r : Fin 256, val_main_v283 (F := Ideal) (X m c) (D m c) (ix2 (row (15 - t.val) (by omega) r) l) * val_main_v274_0 (F := Ideal) (X m c) (W m c) (B m c) (G m c) (H m c) (ix2 (row (15 - t.val) (by omega) r) k) := by
  have e := spw_at _ _ _ _ _ _ _ _ _ _ _ _ _ _ _ _ _ _ (loads m c t) k l
  rw [left_B m c t h]
  unfold leftB runB; dsimp only [kernelRun0_B]; frame_out
  pointwise [k0_pay107, e]

theorem dpwb_A (h : t.val % 16 = 0) (l : Fin 256) : (left m c t.val t.isLt).dpwb (ix2 0 l) = 0 + ∑ r : Fin 256, val_main_v283 (F := Ideal) (X m c) (D m c) (ix2 (row (15 - t.val) (by omega) r) l) := by
  have e := spwb_at _ _ _ _ _ _ _ _ _ _ _ _ _ _ _ _ _ _ (loads m c t) l
  rw [left_A m c t h]
  unfold leftA runA; dsimp only [kernelRun0_A]; frame_out
  pointwise [k0_pay1, k0_pay8, e]

theorem dpwb_B (h : ¬t.val % 16 = 0) (ht) (l : Fin 256) : (left m c t.val t.isLt).dpwb (ix2 0 l) = (left m c (t.val - 1) ht).dpwb (ix2 0 l) + ∑ r : Fin 256, val_main_v283 (F := Ideal) (X m c) (D m c) (ix2 (row (15 - t.val) (by omega) r) l) := by
  have e := spwb_at _ _ _ _ _ _ _ _ _ _ _ _ _ _ _ _ _ _ (loads m c t) l
  rw [left_B m c t h]
  unfold leftB runB; dsimp only [kernelRun0_B]; frame_out
  pointwise [k0_pay1, e]

end Sums

/-! ## What the call leaves -/

theorem final_dp (c : Dev nD) : (dats m 0 c).arrAt 11 (cfgs 0).N = val_main_v670 (F := Ideal) (X m c) (D m c) (W m c) (B m c) (G m c) (H m c) (P m c) (Q m c) := by
  have hend : ∀ (t : Fin cfg0.N) (y : S256x768.Idx), val_main_v670 (F := Ideal) (X m c) (D m c) (W m c) (B m c) (G m c) (H m c) (P m c) (Q m c) (ix2 (row (15 - t.val) (by omega) (y 0)) (y 1))
      = val_main_v670 (F := Ideal) (X m c) (D m c) (W m c) (B m c) (G m c) (H m c) (P m c) (Q m c) (((cfg0.win 11).blk t).view.emb y) := fun t y => by
    blk_ext! [idx_val t]
  refine (dats m 0 c).arrAt_eq_of_covers 11 _ (by decide +kernel) fun t hf y => ?_
  blk_simp; rw [after_11]
  by_cases h : t.val % 16 = 0
  · rw [left_A m c t h, dp_A]; exact (stores_at m c t _ (carried_A m c t h) y).trans (hend t y)
  · rw [left_B m c t h, dp_B]; exact (stores_at m c t _ (carried_B m c t h _) y).trans (hend t y)

/-- the sixteen row blocks' parts, last block first, are the whole sum -/
theorem blocks (f : Fin 4096 → EReal) : ∑ t : Fin 16, ∑ r : Fin 256, f (row (15 - t.val) (by omega) r) = ∑ R : Fin 4096, f R := by
  have e1 : ∑ s : Fin 16, ∑ r : Fin 256, f (row s.val s.isLt r) = ∑ R : Fin 4096, f R := Fin.sum_mul_add_congr fun s k hl => rfl
  rw [← e1, ← Equiv.sum_comp (Fin.revPerm (n := 16))]
  refine Finset.sum_congr rfl fun t _ => Finset.sum_congr rfl fun r _ => congrArg _ (Fin.ext ?_)
  show (15 - (16 - (t.val + 1))) * 256 + r.val = t.val * 256 + r.val
  omega

theorem parts (c : Dev nD) (q : Fin 32) (l : Fin 256) : ∑ t : Fin cfg0.N, part m c t q l
    = val_main_v672 (F := Ideal) (X m c) (D m c) (W m c) (B m c) (G m c) (H m c) (P m c) (ix2 q l) := by
  have hr := Cert.ReferenceAIdeal.Taps.ref_cw (X m c) (D m c) (W m c) (B m c) (G m c) (H m c) (P m c)
  by_cases hq : q.val < 31
  · refine (Finset.sum_congr rfl fun t _ => dif_pos hq).trans ((blocks _).trans ?_)
    pointwise [val_main_v672]
    rw [dif_pos (by omega)]
    exact (hr ⟨q.val, hq⟩ l).symm
  · refine (Finset.sum_eq_zero fun t _ => dif_neg hq).trans ?_
    pointwise [val_main_v672, val_main_v671, val_main_cst_149]
    rw [dif_neg (by omega)]

theorem final_dcw (c : Dev nD) : (dats m 0 c).arrAt 12 (cfgs 0).N = val_main_v672 (F := Ideal) (X m c) (D m c) (W m c) (B m c) (G m c) (H m c) (P m c) := by
  refine (dats m 0 c).arrAt_eq_of_after_last 12 t0_15 (by decide +kernel) _ fun j => ?_
  blk_simp
  rw [after_12, Pipeline.eq_sum_fin_of_reset_step_apply_last (fun n h => (left m c n h).dcw) 16 (fun _ => 0)
    (fun t j => part m c t (j 0) (j 1))
    (fun t h j => by rw [eq_ix2 j]; exact part_A m c t h (j 0) (j 1))
    (fun t h j => by rw [eq_ix2 j]; exact part_B m c t h _ (j 0) (j 1))
    (le_of_eq N_0) t0_15 rfl _, zero_add]
  exact (parts m c (j 0) (j 1)).trans (congrArg _ (eq_ix2 j).symm)

/-- the index of a vector's gradient -/
theorem one (j : S1x256.Idx) : j = ix2 (0 : Fin 1) (j 1) := (eq_ix2 j).trans (congrArg (fun z : Fin 1 => ix2 z (j 1)) (Fin.ext (Nat.lt_one_iff.mp (j 0).isLt)))

theorem final_dcb (c : Dev nD) : (dats m 0 c).arrAt 13 (cfgs 0).N = val_main_v673 (F := Ideal) (X m c) (D m c) (W m c) (B m c) (G m c) (H m c) (P m c) := by
  refine (dats m 0 c).arrAt_eq_of_after_last 13 t0_15 (by decide +kernel) _ fun j => ?_
  blk_simp
  rw [after_13, Pipeline.eq_sum_fin_of_reset_step_apply_last (fun n h => (left m c n h).dcb) 16 (fun _ => 0)
    (fun t j => ∑ r : Fin 256, val_main_v322 (F := Ideal) (X m c) (D m c) (W m c) (B m c) (G m c) (H m c) (P m c) (ix2 (row (15 - t.val) (by omega) r) (j 1)))
    (fun t h j => by rw [one j]; exact dcb_A m c t h (j 1))
    (fun t h j => by rw [one j]; exact dcb_B m c t h _ (j 1))
    (le_of_eq N_0) t0_15 rfl _, zero_add]
  refine (blocks fun R => val_main_v322 (F := Ideal) (X m c) (D m c) (W m c) (B m c) (G m c) (H m c) (P m c) (ix2 R (j 1))).trans ?_
  exact (ref_cb (X m c) (D m c) (W m c) (B m c) (G m c) (H m c) (P m c) (j 1)).symm.trans (congrArg _ (one j).symm)

theorem final_dlng (c : Dev nD) : (dats m 0 c).arrAt 14 (cfgs 0).N = val_main_v674 (F := Ideal) (X m c) (D m c) (W m c) (B m c) (G m c) (H m c) (P m c) := by
  refine (dats m 0 c).arrAt_eq_of_after_last 14 t0_15 (by decide +kernel) _ fun j => ?_
  blk_simp
  rw [after_14, Pipeline.eq_sum_fin_of_reset_step_apply_last (fun n h => (left m c n h).dlng) 16 (fun _ => 0)
    (fun t j => ∑ r : Fin 256, val_main_v295 (F := Ideal) (X m c) (D m c) (W m c) (B m c) (G m c) (H m c) (P m c) (ix2 (row (15 - t.val) (by omega) r) (j 1)))
    (fun t h j => by rw [one j]; exact dlng_A m c t h (j 1))
    (fun t h j => by rw [one j]; exact dlng_B m c t h _ (j 1))
    (le_of_eq N_0) t0_15 rfl _, zero_add]
  refine (blocks fun R => val_main_v295 (F := Ideal) (X m c) (D m c) (W m c) (B m c) (G m c) (H m c) (P m c) (ix2 R (j 1))).trans ?_
  exact (ref_lng (X m c) (D m c) (W m c) (B m c) (G m c) (H m c) (P m c) (j 1)).symm.trans (congrArg _ (one j).symm)

theorem final_dlnb (c : Dev nD) : (dats m 0 c).arrAt 15 (cfgs 0).N = val_main_v675 (F := Ideal) (X m c) (D m c) (W m c) (B m c) (G m c) (H m c) (P m c) := by
  refine (dats m 0 c).arrAt_eq_of_after_last 15 t0_15 (by decide +kernel) _ fun j => ?_
  blk_simp
  rw [after_15, Pipeline.eq_sum_fin_of_reset_step_apply_last (fun n h => (left m c n h).dlnb) 16 (fun _ => 0)
    (fun t j => ∑ r : Fin 256, val_main_v291 (F := Ideal) (X m c) (D m c) (W m c) (B m c) (G m c) (H m c) (P m c) (ix2 (row (15 - t.val) (by omega) r) (j 1)))
    (fun t h j => by rw [one j]; exact dlnb_A m c t h (j 1))
    (fun t h j => by rw [one j]; exact dlnb_B m c t h _ (j 1))
    (le_of_eq N_0) t0_15 rfl _, zero_add]
  refine (blocks fun R => val_main_v291 (F := Ideal) (X m c) (D m c) (W m c) (B m c) (G m c) (H m c) (P m c) (ix2 R (j 1))).trans ?_
  exact (ref_lnb (X m c) (D m c) (W m c) (B m c) (G m c) (H m c) (P m c) (j 1)).symm.trans (congrArg _ (one j).symm)

theorem final_dpw (c : Dev nD) : (dats m 0 c).arrAt 16 (cfgs 0).N = val_main_v289 (F := Ideal) (X m c) (D m c) (W m c) (B m c) (G m c) (H m c) := by
  refine (dats m 0 c).arrAt_eq_of_after_last 16 t0_15 (by decide +kernel) _ fun j => ?_
  blk_simp
  rw [after_16, Pipeline.eq_sum_fin_of_reset_step_apply_last (fun n h => (left m c n h).dpw) 16 (fun _ => 0)
    (fun t j => ∑ r : Fin 256, val_main_v283 (F := Ideal) (X m c) (D m c) (ix2 (row (15 - t.val) (by omega) r) (j 1)) * val_main_v274_0 (F := Ideal) (X m c) (W m c) (B m c) (G m c) (H m c) (ix2 (row (15 - t.val) (by omega) r) (j 0)))
    (fun t h j => by rw [eq_ix2 j]; exact dpw_A m c t h (j 0) (j 1))
    (fun t h j => by rw [eq_ix2 j]; exact dpw_B m c t h _ (j 0) (j 1))
    (le_of_eq N_0) t0_15 rfl _, zero_add]
  refine (blocks fun R => val_main_v283 (F := Ideal) (X m c) (D m c) (ix2 R (j 1)) * val_main_v274_0 (F := Ideal) (X m c) (W m c) (B m c) (G m c) (H m c) (ix2 R (j 0))).trans ?_
  exact (ref_pw (X m c) (D m c) (W m c) (B m c) (G m c) (H m c) (j 0) (j 1)).symm.trans (congrArg _ (eq_ix2 j).symm)

theorem final_dpwb (c : Dev nD) : (dats m 0 c).arrAt 17 (cfgs 0).N = val_main_v676 (F := Ideal) (X m c) (D m c) := by
  refine (dats m 0 c).arrAt_eq_of_after_last 17 t0_15 (by decide +kernel) _ fun j => ?_
  blk_simp
  rw [after_17, Pipeline.eq_sum_fin_of_reset_step_apply_last (fun n h => (left m c n h).dpwb) 16 (fun _ => 0)
    (fun t j => ∑ r : Fin 256, val_main_v283 (F := Ideal) (X m c) (D m c) (ix2 (row (15 - t.val) (by omega) r) (j 1)))
    (fun t h j => by rw [one j]; exact dpwb_A m c t h (j 1))
    (fun t h j => by rw [one j]; exact dpwb_B m c t h _ (j 1))
    (le_of_eq N_0) t0_15 rfl _, zero_add]
  refine (blocks fun R => val_main_v283 (F := Ideal) (X m c) (D m c) (ix2 R (j 1))).trans ?_
  exact (ref_pwb (X m c) (D m c) (j 1)).symm.trans (congrArg _ (one j).symm)

/-- the call's results and its arguments, as the run leaves them -/
theorem run_blocks (ρ : Dev nD → PrngReg) : θ_run defs (onTc (τ := τ) (main (F := Ideal))) ⟨m, fun _ => 0, ρ⟩ fun r => ∀ c : Dev nD,
    r.2.mem ((c : Thread nD τ).loc main_v243_0) = (dats m 0 c).arrAt 11 (cfgs 0).N ∧
    r.2.mem ((c : Thread nD τ).loc main_v243_1) = (dats m 0 c).arrAt 12 (cfgs 0).N ∧
    r.2.mem ((c : Thread nD τ).loc main_v243_2) = (dats m 0 c).arrAt 13 (cfgs 0).N ∧
    r.2.mem ((c : Thread nD τ).loc main_v243_3) = (dats m 0 c).arrAt 14 (cfgs 0).N ∧
    r.2.mem ((c : Thread nD τ).loc main_v243_4) = (dats m 0 c).arrAt 15 (cfgs 0).N ∧
    r.2.mem ((c : Thread nD τ).loc main_v243_5) = (dats m 0 c).arrAt 16 (cfgs 0).N ∧
    r.2.mem ((c : Thread nD τ).loc main_v243_6) = (dats m 0 c).arrAt 17 (cfgs 0).N ∧
    r.2.mem ((c : Thread nD τ).loc main_arg0) = m ((c : Thread nD τ).loc main_arg0) ∧
    r.2.mem ((c : Thread nD τ).loc main_arg1) = m ((c : Thread nD τ).loc main_arg1) ∧
    r.2.mem ((c : Thread nD τ).loc main_arg2) = m ((c : Thread nD τ).loc main_arg2) ∧
    r.2.mem ((c : Thread nD τ).loc main_arg3) = m ((c : Thread nD τ).loc main_arg3) ∧
    r.2.mem ((c : Thread nD τ).loc main_arg4) = m ((c : Thread nD τ).loc main_arg4) ∧
    r.2.mem ((c : Thread nD τ).loc main_arg5) = m ((c : Thread nD τ).loc main_arg5) ∧
    r.2.mem ((c : Thread nD τ).loc main_arg6) = m ((c : Thread nD τ).loc main_arg6) ∧
    r.2.mem ((c : Thread nD τ).loc main_arg7) = m ((c : Thread nD τ).loc main_arg7) :=
  (θ_run defs _ _).mono (fun r h c => ⟨(h.1 c).1 11, (h.1 c).1 12, (h.1 c).1 13, (h.1 c).1 14, (h.1 c).1 15, (h.1 c).1 16, (h.1 c).1 17,
    ((h.1 c).2 main_arg0 (Pipeline.mem_restRefs_of main_arg0 (by decide) (by decide))).trans (V_main_arg0 m c),
    ((h.1 c).1 3).trans (((dats m 0 c).arrAt_in 3 rfl _).trans ((A_eq m c 3).trans (V_main_arg1 m c))),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).1 9).trans (((dats m 0 c).arrAt_in 9 rfl _).trans ((A_eq m c 9).trans (V_main_arg6 m c))),
    ((h.1 c).2 main_arg7 (Pipeline.mem_restRefs_of main_arg7 (by decide) (by decide))).trans (V_main_arg7 m c)⟩) (launched m ρ)

theorem algebraic : Cert.algebraic_KernelAIdeal_ReferenceAIdeal := by
  pair_intro
  · run_from run_blocks m g
  · run_from Cert.ReferenceAIdeal.Value.run m' g'
    · rw [val_main_v670_eq]
      show val_main_v670 (F := Ideal) (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) (m' ((c.tc : Thread Cert.ReferenceAIdeal.nD Cert.ReferenceAIdeal.τ).loc Cert.ReferenceAIdeal.main_arg2)) (m' ((c.tc : Thread Cert.ReferenceAIdeal.nD Cert.ReferenceAIdeal.τ).loc Cert.ReferenceAIdeal.main_arg3)) (m' ((c.tc : Thread Cert.ReferenceAIdeal.nD Cert.ReferenceAIdeal.τ).loc Cert.ReferenceAIdeal.main_arg4)) (m' ((c.tc : Thread Cert.ReferenceAIdeal.nD Cert.ReferenceAIdeal.τ).loc Cert.ReferenceAIdeal.main_arg5)) (m' ((c.tc : Thread Cert.ReferenceAIdeal.nD Cert.ReferenceAIdeal.τ).loc Cert.ReferenceAIdeal.main_arg6)) (m' ((c.tc : Thread Cert.ReferenceAIdeal.nD Cert.ReferenceAIdeal.τ).loc Cert.ReferenceAIdeal.main_arg7)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact (final_dp m c).symm
    · rw [val_main_v672_eq]
      show val_main_v672 (F := Ideal) (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) (m' ((c.tc : Thread Cert.ReferenceAIdeal.nD Cert.ReferenceAIdeal.τ).loc Cert.ReferenceAIdeal.main_arg2)) (m' ((c.tc : Thread Cert.ReferenceAIdeal.nD Cert.ReferenceAIdeal.τ).loc Cert.ReferenceAIdeal.main_arg3)) (m' ((c.tc : Thread Cert.ReferenceAIdeal.nD Cert.ReferenceAIdeal.τ).loc Cert.ReferenceAIdeal.main_arg4)) (m' ((c.tc : Thread Cert.ReferenceAIdeal.nD Cert.ReferenceAIdeal.τ).loc Cert.ReferenceAIdeal.main_arg5)) (m' ((c.tc : Thread Cert.ReferenceAIdeal.nD Cert.ReferenceAIdeal.τ).loc Cert.ReferenceAIdeal.main_arg6)) = _
      rw [(hagree c).1, (hagree c).2.1, (hagree c).2.2.1, (hagree c).2.2.2.1, (hagree c).2.2.2.2.1, (hagree c).2.2.2.2.2.1, (hagree c).2.2.2.2.2.2.1]
      exact (final_dcw m c).symm
    · rw [val_main_v673_eq]
      show val_main_v673 (F := Ideal) (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) (m' ((c.tc : Thread Cert.ReferenceAIdeal.nD Cert.ReferenceAIdeal.τ).loc Cert.ReferenceAIdeal.main_arg2)) (m' ((c.tc : Thread Cert.ReferenceAIdeal.nD Cert.ReferenceAIdeal.τ).loc Cert.ReferenceAIdeal.main_arg3)) (m' ((c.tc : Thread Cert.ReferenceAIdeal.nD Cert.ReferenceAIdeal.τ).loc Cert.ReferenceAIdeal.main_arg4)) (m' ((c.tc : Thread Cert.ReferenceAIdeal.nD Cert.ReferenceAIdeal.τ).loc Cert.ReferenceAIdeal.main_arg5)) (m' ((c.tc : Thread Cert.ReferenceAIdeal.nD Cert.ReferenceAIdeal.τ).loc Cert.ReferenceAIdeal.main_arg6)) = _
      rw [(hagree c).1, (hagree c).2.1, (hagree c).2.2.1, (hagree c).2.2.2.1, (hagree c).2.2.2.2.1, (hagree c).2.2.2.2.2.1, (hagree c).2.2.2.2.2.2.1]
      exact (final_dcb m c).symm
    · rw [val_main_v674_eq]
      show val_main_v674 (F := Ideal) (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) (m' ((c.tc : Thread Cert.ReferenceAIdeal.nD Cert.ReferenceAIdeal.τ).loc Cert.ReferenceAIdeal.main_arg2)) (m' ((c.tc : Thread Cert.ReferenceAIdeal.nD Cert.ReferenceAIdeal.τ).loc Cert.ReferenceAIdeal.main_arg3)) (m' ((c.tc : Thread Cert.ReferenceAIdeal.nD Cert.ReferenceAIdeal.τ).loc Cert.ReferenceAIdeal.main_arg4)) (m' ((c.tc : Thread Cert.ReferenceAIdeal.nD Cert.ReferenceAIdeal.τ).loc Cert.ReferenceAIdeal.main_arg5)) (m' ((c.tc : Thread Cert.ReferenceAIdeal.nD Cert.ReferenceAIdeal.τ).loc Cert.ReferenceAIdeal.main_arg6)) = _
      rw [(hagree c).1, (hagree c).2.1, (hagree c).2.2.1, (hagree c).2.2.2.1, (hagree c).2.2.2.2.1, (hagree c).2.2.2.2.2.1, (hagree c).2.2.2.2.2.2.1]
      exact (final_dlng m c).symm
    · rw [val_main_v675_eq]
      show val_main_v675 (F := Ideal) (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) (m' ((c.tc : Thread Cert.ReferenceAIdeal.nD Cert.ReferenceAIdeal.τ).loc Cert.ReferenceAIdeal.main_arg2)) (m' ((c.tc : Thread Cert.ReferenceAIdeal.nD Cert.ReferenceAIdeal.τ).loc Cert.ReferenceAIdeal.main_arg3)) (m' ((c.tc : Thread Cert.ReferenceAIdeal.nD Cert.ReferenceAIdeal.τ).loc Cert.ReferenceAIdeal.main_arg4)) (m' ((c.tc : Thread Cert.ReferenceAIdeal.nD Cert.ReferenceAIdeal.τ).loc Cert.ReferenceAIdeal.main_arg5)) (m' ((c.tc : Thread Cert.ReferenceAIdeal.nD Cert.ReferenceAIdeal.τ).loc Cert.ReferenceAIdeal.main_arg6)) = _
      rw [(hagree c).1, (hagree c).2.1, (hagree c).2.2.1, (hagree c).2.2.2.1, (hagree c).2.2.2.2.1, (hagree c).2.2.2.2.2.1, (hagree c).2.2.2.2.2.2.1]
      exact (final_dlnb m c).symm
    · rw [val_main_v289_eq]
      show val_main_v289 (F := Ideal) (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) (m' ((c.tc : Thread Cert.ReferenceAIdeal.nD Cert.ReferenceAIdeal.τ).loc Cert.ReferenceAIdeal.main_arg2)) (m' ((c.tc : Thread Cert.ReferenceAIdeal.nD Cert.ReferenceAIdeal.τ).loc Cert.ReferenceAIdeal.main_arg3)) (m' ((c.tc : Thread Cert.ReferenceAIdeal.nD Cert.ReferenceAIdeal.τ).loc Cert.ReferenceAIdeal.main_arg4)) (m' ((c.tc : Thread Cert.ReferenceAIdeal.nD Cert.ReferenceAIdeal.τ).loc Cert.ReferenceAIdeal.main_arg5)) = _
      rw [(hagree c).1, (hagree c).2.1, (hagree c).2.2.1, (hagree c).2.2.2.1, (hagree c).2.2.2.2.1, (hagree c).2.2.2.2.2.1]
      exact (final_dpw m c).symm
    · rw [val_main_v676_eq]
      show val_main_v676 (F := Ideal) (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) = _
      rw [(hagree c).1, (hagree c).2.1]
      exact (final_dpwb m c).symm

end Cert.KernelAIdeal.A

end
-- ==== Proof.AR.lean ====
/- The reference of the gated convolution branch's gradient: its frame. -/
module

public import proofs.«01_k».proof.Defs
public import proofs.«01_k».proof.Proof.Gen.ReferenceAIdeal
public import proofs.«01_k».proof.Proof.Gen.ReferenceAIdeal.Run
public import Idealize.ShloMosaic.Lib.Claim

@[expose] public section

noncomputable section

namespace Cert.KernelAIdeal.A

open Idealize.ShloMosaic Idealize.ShloMosaic.TcCoe Idealize.SL.Sem

theorem frame_reference : Cert.quiescent_ReferenceAIdeal := fun m ρ _ =>
  (θ_run Cert.ReferenceAIdeal.defs _ _).mono
    (fun r h => ⟨fun c => (h c).2.2.2.2.2.2.2, sem_eq_zero_of_no_sems (by decide) r.2⟩)
    (Cert.ReferenceAIdeal.Value.run m ρ)

end Cert.KernelAIdeal.A

end
-- ==== Proof.Pack.lean ====
/- The order of the packed columns: the pure facts. -/
module

public import Idealize.ShloMosaic.Lib.Pointwise

@[expose] public section

noncomputable section

namespace Cert.Pack

/-! ## The packed columns

The version keeps the 3336 projected columns in a buffer of 3456: the last 256 gate columns of the fourth branch before its eight
scalar columns, then zeros. -/

/-- a row of 3336 columns, continued by zeros -/
def ext (f : Fin 3336 → EReal) (n : ℕ) : EReal := if h : n < 3336 then f ⟨n, h⟩ else 0

/-- which column the packed column `n` holds -/
def place (n : ℕ) : ℕ := if n < 3072 then n else if n < 3328 then n + 8 else n - 256

/-- the packed row -/
def pack (f : ℕ → EReal) (n : ℕ) : EReal := if n < 3336 then f (place n) else 0

theorem pack_mul (f g : ℕ → EReal) (n : ℕ) : pack f n * pack g n = pack (fun j => f j * g j) n := by
  unfold pack
  split
  · rfl
  · exact mul_zero _

/-- the four branches' sums over the packed columns are the sum over the columns -/
theorem pack_sum (f : ℕ → EReal) : ∑ k : Fin 768, pack f k.val + ∑ k : Fin 512, pack f (768 + k.val) + ∑ k : Fin 1024, pack f (1280 + k.val)
    + ∑ k : Fin 1152, pack f (2304 + k.val) = ∑ j ∈ Finset.range 3336, f j := by
  rw [Fin.sum_univ_eq_sum_range (fun k => pack f k), Fin.sum_univ_eq_sum_range (fun k => pack f (768 + k)),
    Fin.sum_univ_eq_sum_range (fun k => pack f (1280 + k)), Fin.sum_univ_eq_sum_range (fun k => pack f (2304 + k)),
    ← Finset.sum_range_add, ← Finset.sum_range_add (n := 1280), ← Finset.sum_range_add (n := 2304)]
  show ∑ n ∈ Finset.range (3072 + 256 + 8 + 120), pack f n = ∑ j ∈ Finset.range (3072 + 8 + 256), f j
  rw [Finset.sum_range_add, Finset.sum_range_add, Finset.sum_range_add, Finset.sum_range_add _ (3072 + 8), Finset.sum_range_add _ 3072 8]
  have e0 : ∀ n ∈ Finset.range 3072, pack f n = f n := fun n h => by
    have := Finset.mem_range.mp h; rw [pack, if_pos (by omega), place, if_pos this]
  have e1 : ∀ n ∈ Finset.range 256, pack f (3072 + n) = f (3072 + 8 + n) := fun n h => by
    have := Finset.mem_range.mp h
    rw [pack, if_pos (by omega), place, if_neg (by omega), if_pos (by omega)]; congr 1; omega
  have e2 : ∀ n ∈ Finset.range 8, pack f (3072 + 256 + n) = f (3072 + n) := fun n h => by
    have := Finset.mem_range.mp h
    rw [pack, if_pos (by omega), place, if_neg (by omega), if_neg (by omega)]; congr 1; omega
  have e3 : ∀ n ∈ Finset.range 120, pack f (3072 + 256 + 8 + n) = 0 := fun n h => by
    rw [pack, if_neg (by omega)]
  rw [Finset.sum_congr rfl e0, Finset.sum_congr rfl e1, Finset.sum_congr rfl e2, Finset.sum_congr rfl e3, Finset.sum_const_zero, add_zero, add_right_comm]

theorem ext_of (f : Fin 3336 → EReal) (n : ℕ) (i : Fin 3336) (h : i.val = n) : f i = ext f n := by
  subst h; rw [ext, dif_pos i.isLt]

theorem pack_of (f : Fin 3336 → EReal) (n : ℕ) (i : Fin 3336) (hn : n < 3336) (h : i.val = place n) : f i = pack (ext f) n := by
  rw [pack, if_pos hn]; exact ext_of f _ i h

theorem place_low {n : ℕ} (h : n < 3072) : place n = n := if_pos h

theorem place_mid {n : ℕ} (h : ¬n < 3072) (h' : n < 3328) : place n = n + 8 := by rw [place, if_neg h, if_pos h']

theorem place_high {n : ℕ} (h : ¬n < 3328) : place n = n - 256 := by rw [place, if_neg (by omega), if_neg h]

theorem pack_past (f : ℕ → EReal) (n : ℕ) (hn : ¬n < 3336) : 0 = pack f n := by
  rw [pack, if_neg hn]

/-- the packed order, column by column -/
theorem pack_eq (f : ℕ → EReal) (n : ℕ) : pack f n = if n < 3072 then f n else if n < 3328 then f (n + 8) else if n < 3336 then f (n - 256) else 0 := by
  unfold pack place
  split_ifs <;> first | rfl | omega

end Cert.Pack

end
-- ==== Proof.Proj.lean ====
/- What the projection's gradient call leaves, set beside the reference's results. -/
module

public import proofs.«01_k».proof.Proof.Gen.KernelProjIdeal.Value
public import proofs.«01_k».proof.Proof.Gen.ReferenceProjIdeal.Read
public import proofs.«01_k».proof.Proof.Gen.KernelProj.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pointwise
public import proofs.«01_k».proof.Proof.Pack

@[expose] public section

set_option maxRecDepth 16384

noncomputable section

namespace Cert.KernelProjIdeal.Proj

open Idealize.ShloMosaic Idealize.ShloMosaic.TcCoe Idealize.SL.Sem
open Idealize.ShloMosaic.Pipeline (Dat)
open Cert.KernelProjIdeal Cert.KernelProjIdeal.Gen Cert.Pack

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![t.val, 0]
    ∧ win0_8.index t = ![t.val, 0]
    ∧ win0_9.index t = ![0, 0] :=
  (by decide +kernel : ∀ t : Fin grid0.N, _)

/-! ## The arrays the call reads, at the reference's types -/

abbrev X (c : Dev nD) : FVec Ideal S4096x1024 .f32 := m ((c : Thread nD τ).loc main_arg0)
abbrev G (c : Dev nD) : FVec Ideal S1024 .f32 := m ((c : Thread nD τ).loc main_arg1)
abbrev W (c : Dev nD) : FVec Ideal S1024x3336 .f32 := m ((c : Thread nD τ).loc main_arg2)
abbrev D (c : Dev nD) : FVec Ideal S4096x3336 .f32 := m ((c : Thread nD τ).loc main_arg3)
abbrev U (c : Dev nD) : FVec Ideal S4096x1024 .f32 := m ((c : Thread nD τ).loc main_arg4)

theorem pack_rows (c : Dev nD) (R : Fin 4096) (k : Fin 3456) :
    (V m c main_v21 : FVec Ideal S4096x3456 .f32) (ix2 R k) = pack (ext fun j => D m c (ix2 R j)) k.val := by
  unfold V
  after_reads_at
  by_cases h0 : k.val < 834
  · rw [dif_pos h0]
    after_reads_at
    refine pack_of (fun j => D m c (ix2 R j)) _ _ (by omega) (Eq.trans ?_ (place_low (by omega)).symm)
    dsimp only <;> omega
  rw [dif_neg h0]
  by_cases h1 : k.val - 834 < 834
  · rw [dif_pos h1]
    after_reads_at
    refine pack_of (fun j => D m c (ix2 R j)) _ _ (by omega) (Eq.trans ?_ (place_low (by omega)).symm)
    dsimp only <;> omega
  rw [dif_neg h1]
  by_cases h2 : k.val - 834 - 834 < 834
  · rw [dif_pos h2]
    after_reads_at
    refine pack_of (fun j => D m c (ix2 R j)) _ _ (by omega) (Eq.trans ?_ (place_low (by omega)).symm)
    dsimp only <;> omega
  rw [dif_neg h2]
  by_cases h3 : k.val - 834 - 834 - 834 < 570
  · rw [dif_pos h3]
    after_reads_at
    refine pack_of (fun j => D m c (ix2 R j)) _ _ (by omega) (Eq.trans ?_ (place_low (by omega)).symm)
    dsimp only <;> omega
  rw [dif_neg h3]
  by_cases h4 : k.val - 834 - 834 - 834 - 570 < 256
  · rw [dif_pos h4]
    after_reads_at
    refine pack_of (fun j => D m c (ix2 R j)) _ _ (by omega) (Eq.trans ?_ (place_mid (by omega) (by omega)).symm)
    dsimp only <;> omega
  rw [dif_neg h4]
  by_cases h5 : k.val - 834 - 834 - 834 - 570 - 256 < 8
  · rw [dif_pos h5]
    after_reads_at
    refine pack_of (fun j => D m c (ix2 R j)) _ _ (by omega) (Eq.trans ?_ (place_high (by omega)).symm)
    dsimp only <;> omega
  rw [dif_neg h5]
  after_reads_at
  exact pack_past _ _ (by omega)

theorem pack_weight (c : Dev nD) (R : Fin 1024) (k : Fin 3456) :
    (V m c main_v12 : FVec Ideal S1024x3456 .bf16) (ix2 R k) = pack (ext fun j => W m c (ix2 R j)) k.val := by
  unfold V
  after_reads_at
  by_cases h0 : k.val < 834
  · rw [dif_pos h0]
    after_reads_at
    refine pack_of (fun j => W m c (ix2 R j)) _ _ (by omega) (Eq.trans ?_ (place_low (by omega)).symm)
    dsimp only <;> omega
  rw [dif_neg h0]
  by_cases h1 : k.val - 834 < 834
  · rw [dif_pos h1]
    after_reads_at
    refine pack_of (fun j => W m c (ix2 R j)) _ _ (by omega) (Eq.trans ?_ (place_low (by omega)).symm)
    dsimp only <;> omega
  rw [dif_neg h1]
  by_cases h2 : k.val - 834 - 834 < 834
  · rw [dif_pos h2]
    after_reads_at
    refine pack_of (fun j => W m c (ix2 R j)) _ _ (by omega) (Eq.trans ?_ (place_low (by omega)).symm)
    dsimp only <;> omega
  rw [dif_neg h2]
  by_cases h3 : k.val - 834 - 834 - 834 < 570
  · rw [dif_pos h3]
    after_reads_at
    refine pack_of (fun j => W m c (ix2 R j)) _ _ (by omega) (Eq.trans ?_ (place_low (by omega)).symm)
    dsimp only <;> omega
  rw [dif_neg h3]
  by_cases h4 : k.val - 834 - 834 - 834 - 570 < 256
  · rw [dif_pos h4]
    after_reads_at
    refine pack_of (fun j => W m c (ix2 R j)) _ _ (by omega) (Eq.trans ?_ (place_mid (by omega) (by omega)).symm)
    dsimp only <;> omega
  rw [dif_neg h4]
  by_cases h5 : k.val - 834 - 834 - 834 - 570 - 256 < 8
  · rw [dif_pos h5]
    after_reads_at
    refine pack_of (fun j => W m c (ix2 R j)) _ _ (by omega) (Eq.trans ?_ (place_high (by omega)).symm)
    dsimp only <;> omega
  rw [dif_neg h5]
  after_reads_at
  exact pack_past _ _ (by omega)

theorem weight_row (c : Dev nD) (l : Fin 1024) : (V m c main_v26 : FVec Ideal S1x1024 .f32) (ix2 0 l) = G m c (ix1 l) := by
  unfold V; after_reads_at

/-- a tile's row, as the array's -/
abbrev row (t : Fin cfg0.N) (r : Fin 256) : Fin 4096 :=
  ⟨t.val * 256 + r.val, by have : t.val < 16 := lt_of_lt_of_eq t.isLt N_0; omega⟩

theorem blk_x (c : Dev nD) (t : Fin cfg0.N) (r : Fin 256) (k : Fin 1024) :
    (iblk m c 0 t : FVec Ideal S256x1024 .f32) (ix2 r k) = X m c (ix2 (row t r) k) := by
  blk_ext! [iblk, V, idx_val t]

theorem blk_u (c : Dev nD) (t : Fin cfg0.N) (r : Fin 256) (k : Fin 1024) :
    (iblk m c 7 t : FVec Ideal S256x1024 .f32) (ix2 r k) = U m c (ix2 (row t r) k) := by
  blk_ext! [iblk, V, idx_val t]

theorem blk_g (c : Dev nD) (t : Fin cfg0.N) (k : Fin 1024) :
    (iblk m c 1 t : FVec Ideal S1x1024 .f32) (ix2 0 k) = G m c (ix1 k) := by
  rw [← weight_row]
  blk_simp [iblk, idx_val t]
  blk_ext [idx_val t]

theorem blk_w (c : Dev nD) (t : Fin cfg0.N) (r : Fin 1024) (k : Fin 3456) :
    (iblk m c 6 t : FVec Ideal S1024x3456 .bf16) (ix2 r k) = pack (ext fun j => W m c (ix2 r j)) k.val := by
  rw [← pack_weight]
  blk_simp [iblk, idx_val t]
  blk_ext [idx_val t]

theorem slice_0 (c : Dev nD) (R : Fin 4096) (k : Fin 768) : (V m c main_v22 : FVec Ideal S4096x768 .f32) (ix2 R k) = pack (ext fun j => D m c (ix2 R j)) (k.val) := by
  have e : (V m c main_v22 : FVec Ideal S4096x768 .f32) = extractStridedSlice S4096x768 ![0, 0] (V m c main_v21 : FVec Ideal S4096x3456 .f32) slices_S4096x3456_S4096x768_0_0 := by
    sl_kernel_rfl
  refine (congrFun e _).trans ?_
  have h := pack_rows m c
  pointwise [h]

theorem blk_d0 (c : Dev nD) (t : Fin cfg0.N) (r : Fin 256) (k : Fin 768) :
    (iblk m c 2 t : FVec Ideal S256x768 .f32) (ix2 r k) = pack (ext fun j => D m c (ix2 (row t r) j)) (k.val) := by
  rw [← slice_0]
  blk_simp [iblk, idx_val t]
  blk_ext [idx_val t]

theorem slice_1 (c : Dev nD) (R : Fin 4096) (k : Fin 512) : (V m c main_v23 : FVec Ideal S4096x512 .f32) (ix2 R k) = pack (ext fun j => D m c (ix2 R j)) (768 + k.val) := by
  have e : (V m c main_v23 : FVec Ideal S4096x512 .f32) = extractStridedSlice S4096x512 ![0, 768] (V m c main_v21 : FVec Ideal S4096x3456 .f32) slices_S4096x3456_S4096x512_0_768 := by
    sl_kernel_rfl
  refine (congrFun e _).trans ?_
  have h := pack_rows m c
  pointwise [h]

theorem blk_d1 (c : Dev nD) (t : Fin cfg0.N) (r : Fin 256) (k : Fin 512) :
    (iblk m c 3 t : FVec Ideal S256x512 .f32) (ix2 r k) = pack (ext fun j => D m c (ix2 (row t r) j)) (768 + k.val) := by
  rw [← slice_1]
  blk_simp [iblk, idx_val t]
  blk_ext [idx_val t]

theorem slice_2 (c : Dev nD) (R : Fin 4096) (k : Fin 1024) : (V m c main_v24 : FVec Ideal S4096x1024 .f32) (ix2 R k) = pack (ext fun j => D m c (ix2 R j)) (1280 + k.val) := by
  have e : (V m c main_v24 : FVec Ideal S4096x1024 .f32) = extractStridedSlice S4096x1024 ![0, 1280] (V m c main_v21 : FVec Ideal S4096x3456 .f32) slices_S4096x3456_S4096x1024_0_1280 := by
    sl_kernel_rfl
  refine (congrFun e _).trans ?_
  have h := pack_rows m c
  pointwise [h]

theorem blk_d2 (c : Dev nD) (t : Fin cfg0.N) (r : Fin 256) (k : Fin 1024) :
    (iblk m c 4 t : FVec Ideal S256x1024 .f32) (ix2 r k) = pack (ext fun j => D m c (ix2 (row t r) j)) (1280 + k.val) := by
  rw [← slice_2]
  blk_simp [iblk, idx_val t]
  blk_ext [idx_val t]

theorem slice_3 (c : Dev nD) (R : Fin 4096) (k : Fin 1152) : (V m c main_v25 : FVec Ideal S4096x1152 .f32) (ix2 R k) = pack (ext fun j => D m c (ix2 R j)) (2304 + k.val) := by
  have e : (V m c main_v25 : FVec Ideal S4096x1152 .f32) = extractStridedSlice S4096x1152 ![0, 2304] (V m c main_v21 : FVec Ideal S4096x3456 .f32) slices_S4096x3456_S4096x1152_0_2304 := by
    sl_kernel_rfl
  refine (congrFun e _).trans ?_
  have h := pack_rows m c
  pointwise [h]

theorem blk_d3 (c : Dev nD) (t : Fin cfg0.N) (r : Fin 256) (k : Fin 1152) :
    (iblk m c 5 t : FVec Ideal S256x1152 .f32) (ix2 r k) = pack (ext fun j => D m c (ix2 (row t r) j)) (2304 + k.val) := by
  rw [← slice_3]
  blk_simp [iblk, idx_val t]
  blk_ext [idx_val t]

section Pure

open Cert.ReferenceProjIdeal.Read

variable (X U : FVec Ideal S4096x1024 .f32) (G : FVec Ideal S1024 .f32) (W : FVec Ideal S1024x3336 .f32) (D : FVec Ideal S4096x3336 .f32)
    (x u : FVec Ideal S256x1024 .f32) (g : FVec Ideal S1x1024 .f32)
    (a : FVec Ideal S256x768 .f32) (b : FVec Ideal S256x512 .f32) (c : FVec Ideal S256x1024 .f32) (d : FVec Ideal S256x1152 .f32)
    (wa : FVec Ideal S1024x768 .bf16) (wb : FVec Ideal S1024x512 .bf16) (wc : FVec Ideal S1024x1024 .bf16) (wd : FVec Ideal S1024x1152 .bf16)
    (f : Fin 256 → Fin 4096)

/-- the activation's cotangent: four products over the packed columns, one over the columns -/
theorem dh_at
    (ha : ∀ r k, a (ix2 r k) = pack (ext fun j => D (ix2 (f r) j)) k.val) (hb : ∀ r k, b (ix2 r k) = pack (ext fun j => D (ix2 (f r) j)) (768 + k.val))
    (hc : ∀ r k, c (ix2 r k) = pack (ext fun j => D (ix2 (f r) j)) (1280 + k.val)) (hd : ∀ r k, d (ix2 r k) = pack (ext fun j => D (ix2 (f r) j)) (2304 + k.val))
    (hwa : ∀ l k, wa (ix2 l k) = pack (ext fun j => W (ix2 l j)) k.val) (hwb : ∀ l k, wb (ix2 l k) = pack (ext fun j => W (ix2 l j)) (768 + k.val))
    (hwc : ∀ l k, wc (ix2 l k) = pack (ext fun j => W (ix2 l j)) (1280 + k.val)) (hwd : ∀ l k, wd (ix2 l k) = pack (ext fun j => W (ix2 l j)) (2304 + k.val))
    (r : Fin 256) (l : Fin 1024) :
    k0_pay1 (F := Ideal) a wa b wb c wc d wd (ix2 r l) = val_main_v17 (F := Ideal) W D (ix2 (f r) l) := by
  pointwise [k0_pay1, ha, hb, hc, hd, hwa, hwb, hwc, hwd]
  simp only [pack_mul]
  refine (pack_sum _).trans ?_
  pointwise [val_main_v17]
  rw [← Fin.sum_univ_eq_sum_range (fun j => ext (fun j => D (ix2 (f r) j)) j * ext (fun j => W (ix2 l j)) j)]
  refine Finset.sum_congr rfl fun j _ => ?_
  rw [← ext_of _ j.val j rfl, ← ext_of _ j.val j rfl]

section Rows

variable {X U G W D x u g f} {h : FVec Ideal S256x1024 .f32}

theorem dx_at (hx : ∀ r k, x (ix2 r k) = X (ix2 (f r) k)) (hu : ∀ r k, u (ix2 r k) = U (ix2 (f r) k)) (hg : ∀ k : Fin 1024, g (ix2 0 k) = G (ix1 k))
    (hh : ∀ r k, h (ix2 r k) = val_main_v17 (F := Ideal) W D (ix2 (f r) k)) (r : Fin 256) (l : Fin 1024) :
    k0_pay6 (F := Ideal) h x (k0_pay2 g) (k0_pay3 x) (Scalar.ofBits .f32 0x44800000#32) u (ix2 r l) = val_main_v38 (F := Ideal) X G W D U (ix2 (f r) l) := by
  pointwise [k0_pay6, k0_pay2, k0_pay3, k0_pay4, k0_pay5, hx, hu, hg, hh]
  pointwise [val_main_v38, val_main_v37, val_main_v36, val_main_v35, val_main_v34, val_main_v33, val_main_v32, val_main_v31, val_main_v30,
    val_main_v29, val_main_v28, val_main_v27, val_main_v26, val_main_v25, val_main_v24, val_main_v22, val_main_v21, val_main_v13,
    val_main_v10, val_main_v9, val_main_v8, val_main_v7, val_main_v6, val_main_v5, val_main_v4, val_main_v3, val_main_v2, val_main_v1, val_main_v0,
    val_main_cst, val_main_cst_0, val_main_cst_1, val_main_cst_2, val_main_cst_5, val_main_cst_6, val_main_cst_7]

theorem dg_step (hx : ∀ r k, x (ix2 r k) = X (ix2 (f r) k))
    (hh : ∀ r k, h (ix2 r k) = val_main_v17 (F := Ideal) W D (ix2 (f r) k)) (acc : FVec Ideal S1x1024 .f32) (l : Fin 1024) :
    k0_pay8 (F := Ideal) h x (k0_pay3 x) (Scalar.ofBits .f32 0x44800000#32) acc (ix2 0 l)
      = acc (ix2 0 l) + ∑ r : Fin 256, val_main_v18 (F := Ideal) X W D (ix2 (f r) l) := by
  pointwise [k0_pay8, k0_pay3, k0_pay4, k0_pay5, hx, hh]
  pointwise [val_main_v18, val_main_v12, val_main_v11,
    val_main_v7, val_main_v6, val_main_v5, val_main_v4, val_main_v3, val_main_v2, val_main_v1, val_main_v0,
    val_main_cst, val_main_cst_0, val_main_cst_1]

end Rows

theorem dg_ref (l : Fin 1024) : val_main_v39 (F := Ideal) X W D (ix2 0 l) = ∑ R : Fin 4096, val_main_v18 (F := Ideal) X W D (ix2 R l) := by
  pointwise [val_main_v39, val_main_v23, val_main_v20, val_main_v19, val_main_cst_3, val_main_cst_4]
  simp only [Finset.univ_unique, Finset.sum_const, Finset.card_singleton, one_smul]

end Pure

/-! ## A tile -/

open Cert.ReferenceProjIdeal.Read (val_main_v17)

section Tile

variable (c : Dev nD) (t : Fin cfg0.N)

/-- the weight's columns for the branch at column 0 -/
abbrev w0 : FVec Ideal S1024x768 .bf16 := View.ld (Val := Elt Ideal) (S := S1024x3456) (e' := .bf16) (iblk m c 6 t) (Rect.unit ![0, 0] S1024x768.size inb_S1024x3456_S1024x768_0_0)

theorem w0_at (l : Fin 1024) (k : Fin 768) : w0 m c t (ix2 l k) = pack (ext fun j => W m c (ix2 l j)) (k.val) := by
  refine Eq.trans ?_ (blk_w m c t l ⟨k.val, by omega⟩)
  pointwise [w0]

/-- the weight's columns for the branch at column 768 -/
abbrev w1 : FVec Ideal S1024x512 .bf16 := View.ld (Val := Elt Ideal) (S := S1024x3456) (e' := .bf16) (iblk m c 6 t) (Rect.unit ![0, 768] S1024x512.size inb_S1024x3456_S1024x512_0_768)

theorem w1_at (l : Fin 1024) (k : Fin 512) : w1 m c t (ix2 l k) = pack (ext fun j => W m c (ix2 l j)) (768 + k.val) := by
  refine Eq.trans ?_ (blk_w m c t l ⟨768 + k.val, by omega⟩)
  pointwise [w1]

/-- the weight's columns for the branch at column 1280 -/
abbrev w2 : FVec Ideal S1024x1024 .bf16 := View.ld (Val := Elt Ideal) (S := S1024x3456) (e' := .bf16) (iblk m c 6 t) (Rect.unit ![0, 1280] S1024x1024.size inb_S1024x3456_S1024x1024_0_1280)

theorem w2_at (l : Fin 1024) (k : Fin 1024) : w2 m c t (ix2 l k) = pack (ext fun j => W m c (ix2 l j)) (1280 + k.val) := by
  refine Eq.trans ?_ (blk_w m c t l ⟨1280 + k.val, by omega⟩)
  pointwise [w2]

/-- the weight's columns for the branch at column 2304 -/
abbrev w3 : FVec Ideal S1024x1152 .bf16 := View.ld (Val := Elt Ideal) (S := S1024x3456) (e' := .bf16) (iblk m c 6 t) (Rect.unit ![0, 2304] S1024x1152.size inb_S1024x3456_S1024x1152_0_2304)

theorem w3_at (l : Fin 1024) (k : Fin 1152) : w3 m c t (ix2 l k) = pack (ext fun j => W m c (ix2 l j)) (2304 + k.val) := by
  refine Eq.trans ?_ (blk_w m c t l ⟨2304 + k.val, by omega⟩)
  pointwise [w3]

/-- the tile's cotangent of the normed activation -/
abbrev dh : FVec Ideal S256x1024 .f32 :=
  k0_pay1 (F := Ideal) (iblk m c 2 t) (w0 m c t) (iblk m c 3 t) (w1 m c t) (iblk m c 4 t) (w2 m c t) (iblk m c 5 t) (w3 m c t)

theorem dh_tile (r : Fin 256) (l : Fin 1024) : dh m c t (ix2 r l) = val_main_v17 (F := Ideal) (W m c) (D m c) (ix2 (row t r) l) := by
  exact dh_at (W m c) (D m c) (iblk m c 2 t) (iblk m c 3 t) (iblk m c 4 t) (iblk m c 5 t) (w0 m c t) (w1 m c t) (w2 m c t) (w3 m c t) (row t)
    (blk_d0 m c t) (blk_d1 m c t) (blk_d2 m c t) (blk_d3 m c t) (w0_at m c t) (w1_at m c t) (w2_at m c t) (w3_at m c t) r l

end Tile

open Cert.ReferenceProjIdeal.Read

theorem final_dx (c : Dev nD) : (dats m 0 c).arrAt 8 (cfgs 0).N = val_main_v38 (F := Ideal) (X m c) (G m c) (W m c) (D m c) (U m c) := by
  have hmain : ∀ (t : Fin cfg0.N) (y : S256x1024.Idx),
      k0_pay6 (F := Ideal) (dh m c t) (iblk m c 0 t) (k0_pay2 (iblk m c 1 t)) (k0_pay3 (iblk m c 0 t)) (Scalar.ofBits .f32 0x44800000#32) (iblk m c 7 t) y
      = val_main_v38 (F := Ideal) (X m c) (G m c) (W m c) (D m c) (U m c) (((cfg0.win 8).blk t).view.emb y) := by
    intro t y
    rw [eq_ix2 y]
    refine (dx_at (f := row t) (blk_x m c t) (blk_u m c t) (blk_g m c t) (dh_tile m c t) (y 0) (y 1)).trans ?_
    blk_ext! [idx_val t]
  refine (dats m 0 c).arrAt_eq_of_covers 8 _ (by decide +kernel) fun t hf y => ?_
  blk_simp; rw [after0_8]
  by_cases h : t.val % 16 = 0
  · rw [outsAt0_A m c t h]; dsimp only; frame_out; exact hmain t y
  · rw [outsAt0_B m c t h]; dsimp only; frame_out; exact hmain t y

/-- the index of the weight's gradient -/
theorem one (j : S1x1024.Idx) : j = ix2 (0 : Fin 1) (j 1) := (eq_ix2 j).trans (congrArg (fun z : Fin 1 => ix2 z (j 1)) (Fin.ext (Nat.lt_one_iff.mp (j 0).isLt)))

theorem final_dg (c : Dev nD) : (dats m 0 c).arrAt 9 (cfgs 0).N = val_main_v39 (F := Ideal) (X m c) (W m c) (D m c) := by
  have hstep := fun (t : Fin cfg0.N) (acc : FVec Ideal S1x1024 .f32) (j : S1x1024.Idx) =>
    (congrArg (k0_pay8 (F := Ideal) (dh m c t) (iblk m c 0 t) (k0_pay3 (iblk m c 0 t)) (Scalar.ofBits .f32 0x44800000#32) acc) (one j)).trans
      ((dg_step (f := row t) (blk_x m c t) (dh_tile m c t) acc (j 1)).trans (congrArg (· + _) (congrArg acc (one j).symm)))
  have hzero : ∀ j : S1x1024.Idx, k0_pay7 (F := Ideal) j = 0 := fun j => by pointwise [k0_pay7]
  refine (dats m 0 c).arrAt_eq_of_after_last 9 t0_15 (by decide +kernel) _ fun j => ?_
  blk_simp
  rw [after0_9, Pipeline.eq_sum_fin_of_reset_step_apply_last (fun n h => (outsAt0 m c n h).2) 16 (fun _ => 0)
    (fun t j => ∑ r : Fin 256, val_main_v18 (F := Ideal) (X m c) (W m c) (D m c) (ix2 (row t r) (j 1)))
    (fun t h j => by rw [outsAt0_A m c t h]; dsimp only; frame_out; exact (hstep t _ j).trans (by rw [hzero]))
    (fun t h j => by rw [outsAt0_B m c t h]; dsimp only; frame_out; exact hstep t _ j)
    (le_of_eq N_0) t0_15 rfl _, zero_add]
  refine Eq.trans ?_ ((dg_ref (X m c) (W m c) (D m c) (j 1)).symm.trans (congrArg _ (one j).symm))
  exact Fin.sum_mul_add_congr fun s k hl => rfl

theorem frame_kernel : Cert.quiescent_KernelProj := fun m ρ _ => Cert.KernelProj.Gen.frame m ρ

theorem frame_ideal : Cert.quiescent_KernelProjIdeal := fun m ρ _ => Cert.KernelProjIdeal.Gen.frame m ρ

theorem frame_reference : Cert.quiescent_ReferenceProjIdeal := fun m ρ _ =>
  (θ_run Cert.ReferenceProjIdeal.defs _ _).mono
    (fun r h => ⟨fun c => (h c).2.2, sem_eq_zero_of_no_sems (by decide) r.2⟩)
    (Cert.ReferenceProjIdeal.Value.run m ρ)

theorem algebraic : Cert.algebraic_KernelProjIdeal_ReferenceProjIdeal := by
  pair_intro
  · run_from Cert.KernelProjIdeal.Value.run_blocks m g
  · run_from Cert.ReferenceProjIdeal.Value.run m' g'
    · rw [val_main_v38_eq, (hagree c).1, (hagree c).2.1, (hagree c).2.2.1, (hagree c).2.2.2.1, (hagree c).2.2.2.2]
      exact (final_dx m c).symm
    · rw [val_main_v39_eq]
      exact (final_dg m c).symm

end Cert.KernelProjIdeal.Proj

end
-- ==== Proof.CFwd.lean ====
/- The short convolution's forward call, tile by tile, against the reference. -/
module

public import proofs.«01_k».proof.Proof.Gen.KernelCFwdIdeal.Value
public import proofs.«01_k».proof.Proof.Gen.ReferenceCFwdIdeal.Read
public import proofs.«01_k».proof.Proof.Gen.KernelCFwd.Frame
public import proofs.«01_k».proof.Defs
public import Idealize.ShloMosaic.Lib.Claim
public import Idealize.ShloMosaic.Lib.StableHlo.ReadAt
public import Idealize.ShloMosaic.Lib.Pipeline.ValueKit
public import Idealize.ShloMosaic.Lib.Pointwise

@[expose] public section

set_option maxRecDepth 16384

noncomputable section

namespace Cert.KernelCFwdIdeal.CFwd

open Idealize.ShloMosaic Idealize.ShloMosaic.TcCoe Idealize.SL.Sem
open Idealize.ShloMosaic.Pipeline (Dat)
open Cert.KernelCFwdIdeal Cert.KernelCFwdIdeal.Gen Cert.ReferenceCFwdIdeal.Read

variable (m : (ℓ : Loc nD τ sig) → Buf (Elt Ideal) ℓ)

theorem idx_val : ∀ t : Fin cfg0.N, win0_0.index t = ![t.val, 5] ∧ win0_1.index t = ![t.val, 3] ∧ win0_2.index t = ![t.val, 8]
    ∧ win0_3.index t = ![t.val * 32 - 1, 3] ∧ win0_4.index t = ![0, 0] ∧ win0_5.index t = ![t.val, 0] :=
  (by decide +kernel : ∀ t : Fin grid0.N, _)

/-- a tile's row, as the array's -/
abbrev row (t : Fin cfg0.N) (r : Fin 256) : Fin 4096 := ⟨t.val * 256 + r.val, by have := lt_of_lt_of_eq t.isLt N_0; omega⟩

theorem lt16 (t : Fin cfg0.N) : t.val < 16 := lt_of_lt_of_eq t.isLt N_0

/-- the halo's row before a tile -/
abbrev before (t : Fin cfg0.N) (q : Fin 8) : Fin 4096 := ⟨(t.val * 32 - 1) * 8 + q.val, by have := lt16 t; omega⟩

/-- the arrays the call reads, at the reference's types -/
abbrev X (c : Dev nD) : FVec Ideal S4096x3336 .f32 := m ((c : Thread nD τ).loc main_arg0)
abbrev W (c : Dev nD) : FVec Ideal S3x256 .f32 := m ((c : Thread nD τ).loc main_arg1)

theorem pack_at (c : Dev nD) (R : Fin 4096) (k : Fin 3456) (hk : k.val < 2304) :
    (V m c main_v8 : FVec Ideal S4096x3456 .f32) (ix2 R k) = X m c (ix2 R ⟨k.val, by omega⟩) := by
  unfold V
  simp only [hostOps0, hostOps0_1, List.flatten_cons, List.flatten_nil, List.append_nil, List.cons_append, List.nil_append]
  after_reads_at
  by_cases h0 : k.val < 834
  · rw [dif_pos h0]
    after_reads_at
  · rw [dif_neg h0]
    by_cases h1 : k.val - 834 < 834
    · rw [dif_pos h1]
      after_reads_at
      exact congrArg _ (congrArg (ix2 R) (Fin.ext (by show _ + _ = k.val; omega)))
    · rw [dif_neg h1, dif_pos (by omega)]
      after_reads_at
      exact congrArg _ (congrArg (ix2 R) (Fin.ext (by show _ + _ = k.val; omega)))

theorem taps_at (c : Dev nD) (k : Fin 8) (l : Fin 256) :
    (V m c main_v9 : FVec Ideal S8x256 .f32) (ix2 k l) = if h : k.val < 3 then W m c (ix2 ⟨k.val, h⟩ l) else 0 := by
  unfold V
  simp only [hostOps0, hostOps0_1, List.flatten_cons, List.flatten_nil, List.append_nil, List.cons_append, List.nil_append]
  after_reads_at
  split
  · rfl
  · exact (by simp [FloatOps.sitofp] : (FloatOps.sitofp (F := Ideal) FTy.f32 (0#32) : EReal) = 0)

theorem bg_at (c : Dev nD) (t : Fin cfg0.N) (r l : Fin 256) :
    (X0_0 m c t : FVec Ideal S256x256 .f32) (ix2 r l) = X m c (ix2 (row t r) ⟨1280 + l.val, by omega⟩) := by
  rw [← pack_at m c _ ⟨1280 + l.val, by omega⟩ (by show 1280 + l.val < 2304; omega)]
  unfold X0_0 Pipeline.Window.fill; rw [dif_pos (moved0_0 t _)]
  blk_simp [iblk, idx_val t]
  blk_ext [idx_val t]

theorem cx_at (c : Dev nD) (t : Fin cfg0.N) (r : Fin 256) (l : Fin 512) :
    (X0_1 m c t : FVec Ideal S256x512 .f32) (ix2 r l) = X m c (ix2 (row t r) ⟨1536 + l.val, by omega⟩) := by
  rw [← pack_at m c _ ⟨1536 + l.val, by omega⟩ (by show 1536 + l.val < 2304; omega)]
  unfold X0_1 Pipeline.Window.fill; rw [dif_pos (moved0_1 t _)]
  blk_simp [iblk, idx_val t]
  blk_ext [idx_val t]

theorem cz_at (c : Dev nD) (t : Fin cfg0.N) (r l : Fin 256) :
    (X0_2 m c t : FVec Ideal S256x256 .f32) (ix2 r l) = X m c (ix2 (row t r) ⟨2048 + l.val, by omega⟩) := by
  rw [← pack_at m c _ ⟨2048 + l.val, by omega⟩ (by show 2048 + l.val < 2304; omega)]
  unfold X0_2 Pipeline.Window.fill; rw [dif_pos (moved0_2 t _)]
  blk_simp [iblk, idx_val t]
  blk_ext [idx_val t]

theorem halo_at (c : Dev nD) (t : Fin cfg0.N) (r : Fin 8) (l : Fin 512) :
    (X0_3 m c t : FVec Ideal S8x512 .f32) (ix2 r l) = X m c (ix2 (before t r) ⟨1536 + l.val, by omega⟩) := by
  rw [← pack_at m c _ ⟨1536 + l.val, by omega⟩ (by show 1536 + l.val < 2304; omega)]
  unfold X0_3 Pipeline.Window.fill; rw [dif_pos (moved0_3 t _)]
  blk_simp [iblk, idx_val t]
  blk_ext [idx_val t]

theorem w_at (c : Dev nD) (t : Fin cfg0.N) (k : Fin 8) (l : Fin 256) :
    (iblk m c 4 t : FVec Ideal S8x256 .f32) (ix2 k l) = if h : k.val < 3 then W m c (ix2 ⟨k.val, h⟩ l) else 0 := by
  rw [← taps_at]
  blk_simp [iblk, idx_val t]
  blk_ext [idx_val t]

theorem keep_at : ∀ t : Fin grid0.N, Scalar.extui (Scalar.cmpi .sgt (BitVec.ofNat 32 (grid0.coords t 0).val) 0#32) = if t.val = 0 then 0#32 else 1#32 := by
  decide +kernel

section Tile

variable (c : Dev nD) (t : Fin cfg0.N)

/-- a tile's blocks, as the body loads them -/
abbrev cg : FVec Ideal S256x256 .f32 := View.ld (X0_1 m c t : FVec Ideal S256x512 .f32) (Rect.unit ![0, 0] ![256, 256] inb_S256x512_S256x256_0_0)
abbrev xc : FVec Ideal S256x256 .f32 := View.ld (X0_1 m c t : FVec Ideal S256x512 .f32) (Rect.unit ![0, 256] ![256, 256] inb_S256x512_S256x256_0_256)
abbrev hcg : FVec Ideal S8x256 .f32 := View.ld (X0_3 m c t : FVec Ideal S8x512 .f32) (Rect.unit ![0, 0] ![8, 256] inb_S8x512_S8x256_0_0)
abbrev hxc : FVec Ideal S8x256 .f32 := View.ld (X0_3 m c t : FVec Ideal S8x512 .f32) (Rect.unit ![0, 256] ![8, 256] inb_S8x512_S8x256_0_256)
abbrev w0 : FVec Ideal S1x256 .f32 := View.ld (iblk m c 4 t : FVec Ideal S8x256 .f32) (Rect.unit ![0, 0] ![1, 256] inb_S8x256_S1x256_0_0)
abbrev w1 : FVec Ideal S1x256 .f32 := View.ld (iblk m c 4 t : FVec Ideal S8x256 .f32) (Rect.unit ![1, 0] ![1, 256] inb_S8x256_S1x256_1_0)
abbrev w2 : FVec Ideal S1x256 .f32 := View.ld (iblk m c 4 t : FVec Ideal S8x256 .f32) (Rect.unit ![2, 0] ![1, 256] inb_S8x256_S1x256_2_0)

theorem cg_at (r l : Fin 256) : cg m c t (ix2 r l) = X m c (ix2 (row t r) ⟨1536 + l.val, by omega⟩) := by
  pointwise [cg, cx_at]

theorem xc_at (r l : Fin 256) : xc m c t (ix2 r l) = X m c (ix2 (row t r) ⟨1792 + l.val, by omega⟩) := by
  pointwise [xc, cx_at]
  exact congrArg _ (congrArg _ (Fin.ext (by show 1536 + (256 + l.val) = 1792 + l.val; omega)))

theorem hcg_at (r : Fin 8) (l : Fin 256) : hcg m c t (ix2 r l) = X m c (ix2 (before t r) ⟨1536 + l.val, by omega⟩) := by
  pointwise [hcg, halo_at]

theorem hxc_at (r : Fin 8) (l : Fin 256) : hxc m c t (ix2 r l) = X m c (ix2 (before t r) ⟨1792 + l.val, by omega⟩) := by
  pointwise [hxc, halo_at]
  exact congrArg _ (congrArg _ (Fin.ext (by show 1536 + (256 + l.val) = 1792 + l.val; omega)))

theorem w0_at (l : Fin 256) : w0 m c t (ix2 0 l) = W m c (ix2 0 l) := by
  pointwise [w0]; exact (w_at m c t 0 l).trans (dif_pos (by decide))

theorem w1_at (l : Fin 256) : w1 m c t (ix2 0 l) = W m c (ix2 1 l) := by
  pointwise [w1]; exact (w_at m c t 1 l).trans (dif_pos (by decide))

theorem w2_at (l : Fin 256) : w2 m c t (ix2 0 l) = W m c (ix2 2 l) := by
  pointwise [w2]; exact (w_at m c t 2 l).trans (dif_pos (by decide))

abbrev acc : FVec Ideal S256x256 .f32 := k0_pay2 (grid0.coords t) (hcg m c t) (hxc m c t) (cg m c t) (xc m c t) (w0 m c t) (w1 m c t) (w2 m c t)

/-- a row of the haloed tile is the padded column's -/
theorem ext_at (q n : ℕ) (hq : q < 264) (hn : n < 4098) (l : Fin 256) (h : t.val * 256 + q = n + 6) :
    (if h : q < 8 then X m c (ix2 (before t ⟨q, h⟩) ⟨1536 + l.val, by omega⟩) * X m c (ix2 (before t ⟨q, h⟩) ⟨1792 + l.val, by omega⟩)
        * ((((if t.val = 0 then 0#32 else 1#32).toInt : ℤ) : ℝ) : EReal)
      else X m c (ix2 (row t ⟨q - 8, by omega⟩) ⟨1536 + l.val, by omega⟩) * X m c (ix2 (row t ⟨q - 8, by omega⟩) ⟨1792 + l.val, by omega⟩))
      = val_main_v17 (F := Ideal) (X m c) (ix2 ⟨n, hn⟩ l) := by
  pointwise [val_main_v17, val_main_v16, val_main_v15, val_main_v7, val_main_v6, val_main_cst]
  have := lt16 t
  by_cases hq : q < 8
  · rw [dif_pos hq]
    by_cases ht : t.val = 0
    · rw [if_pos ht, dif_pos (by omega)]
      simp
    · rw [if_neg ht, dif_neg (by omega),
        show before t ⟨q, hq⟩ = ⟨n - 2, by omega⟩ from Fin.ext (by show (t.val * 32 - 1) * 8 + q = n - 2; omega)]
      simp
  · rw [dif_neg hq, dif_neg (by omega),
      show row t ⟨q - 8, by omega⟩ = (⟨n - 2, by omega⟩ : Fin 4096) from Fin.ext (by show t.val * 256 + (q - 8) = n - 2; omega)]

theorem acc_at (r l : Fin 256) : acc m c t (ix2 r l) = val_main_v39 (F := Ideal) (X m c) (W m c) (ix2 (row t r) l) := by
  have hk := keep_at t
  have h0 := hcg_at m c t
  have h1 := hxc_at m c t
  have h2 := cg_at m c t
  have h3 := xc_at m c t
  have h4 := w0_at m c t
  have h5 := w1_at m c t
  have h6 := w2_at m c t
  unfold acc
  generalize hcg m c t = v0 at *
  generalize hxc m c t = v1 at *
  generalize cg m c t = v2 at *
  generalize xc m c t = v3 at *
  generalize w0 m c t = v4 at *
  generalize w1 m c t = v5 at *
  generalize w2 m c t = v6 at *
  pointwise [k0_pay2, h0, h1, h2, h3, h4, h5, h6, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v21, val_main_v20, val_main_v19, val_main_v18, val_main_cst_0]
  rw [hk]
  have e2 := ext_at m c t (8 + r.val) (2 + (t.val * 256 + r.val)) (by omega) (by have := lt16 t; omega) l (by omega)
  rw [dif_neg (by omega)] at e2
  refine congrArg₂ (· + ·) (congrArg₂ (· + ·) ((mul_comm _ _).trans (congrArg _ ?_)) ((mul_comm _ _).trans (congrArg _ ?_))) ((mul_comm _ _).trans (congrArg _ ?_))
  · exact ext_at m c t ((8 + r.val + 264 - 2) % 264) _ (by omega) _ l (by omega)
  · exact ext_at m c t ((8 + r.val + 264 - 1) % 264) _ (by omega) _ l (by omega)
  · rw [← e2]
    have er : row t r = row t ⟨8 + r.val - 8, by omega⟩ := congrArg _ (Fin.ext (by show r.val = 8 + r.val - 8; omega))
    rw [← er]

/-- what a tile writes -/
abbrev o : FVec Ideal S256x256 .f32 := k0_pay1 (acc m c t) (k0_pay3 (X0_0 m c t)) (X0_2 m c t)

theorem tile_at (r l : Fin 256) : o m c t (ix2 r l) = val_main_v42 (F := Ideal) (X m c) (W m c) (ix2 (row t r) l) := by
  have h0 := acc_at m c t
  have h1 := bg_at m c t
  have h2 := cz_at m c t
  unfold o
  generalize acc m c t = v0 at *
  pointwise [k0_pay1, k0_pay3, h0, h1, h2, val_main_v42, val_main_v41, val_main_v40, val_main_call0_v5, val_main_call0_v4, val_main_call0_v3,
    val_main_call0_v2, val_main_call0_v1, val_main_call0_v0, val_main_call0_cst, val_main_call0_cst_0, val_main_v8, val_main_v5]
  rfl

theorem block_at (y : S256x256.Idx) : o m c t y = val_main_v42 (F := Ideal) (X m c) (W m c) (((cfg0.win 5).blk t).view.emb y) := by
  rw [eq_ix2 y]
  refine (tile_at m c t (y 0) (y 1)).trans ?_
  blk_ext! [idx_val t]

end Tile

theorem final (c : Dev nD) : (dats m 0 c).arrAt 5 (cfgs 0).N = val_main_v42 (F := Ideal) (X m c) (W m c) := by
  refine (dats m 0 c).arrAt_eq_of_covers 5 _ (by decide +kernel) fun t hf y => ?_
  blk_simp; rw [after0_5]
  unfold outsAt0; dsimp only; frame_out
  exact block_at m c t y

theorem frame_kernel : Cert.quiescent_KernelCFwd := fun m ρ _ => Cert.KernelCFwd.Gen.frame m ρ

theorem frame_ideal : Cert.quiescent_KernelCFwdIdeal := fun m ρ _ => Cert.KernelCFwdIdeal.Gen.frame m ρ

theorem frame_reference : Cert.quiescent_ReferenceCFwdIdeal := fun m ρ _ =>
  (θ_run Cert.ReferenceCFwdIdeal.defs _ _).mono
    (fun r h => ⟨fun c => (h c).2, sem_eq_zero_of_no_sems (by decide) r.2⟩)
    (Cert.ReferenceCFwdIdeal.Value.run m ρ)

theorem algebraic : Cert.algebraic_KernelCFwdIdeal_ReferenceCFwdIdeal := by
  pair_intro
  · run_from Cert.KernelCFwdIdeal.Value.run_blocks m g
  · run_from Cert.ReferenceCFwdIdeal.Value.run m' g'
    rw [val_main_v42_eq]
    exact (final m c).symm

end Cert.KernelCFwdIdeal.CFwd

end
-- ==== Proof.AFwd.lean ====
/- The long convolution's forward call, tile by tile, against the reference: each of the taps written once, over its
   number. -/
module

public import proofs.«01_k».proof.Proof.Gen.KernelAFwdIdeal.Value
public import proofs.«01_k».proof.Proof.Gen.ReferenceAFwdIdeal.Read
public import proofs.«01_k».proof.Proof.Gen.ReferenceAFwdIdeal.Run
public import proofs.«01_k».proof.Proof.Gen.KernelAFwd.Frame
public import proofs.«01_k».proof.Defs
public import Idealize.ShloMosaic.Lib.Claim
public import Idealize.ShloMosaic.Lib.StableHlo.ReadAt
public import Idealize.ShloMosaic.Lib.Pipeline.ValueKit
public import Idealize.ShloMosaic.Lib.Pointwise

@[expose] public section

set_option maxRecDepth 16384

noncomputable section

namespace Cert.KernelAFwdIdeal.AFwd

open Idealize.ShloMosaic Idealize.ShloMosaic.TcCoe Idealize.SL.Sem
open Cert.KernelAFwdIdeal Cert.KernelAFwdIdeal.Gen Cert.ReferenceAFwdIdeal.Read

variable (m : (ℓ : Loc nD τ sig) → Buf (Elt Ideal) ℓ)

theorem idx_val : ∀ t : Fin cfg0.N, win0_0.index t = ![t.val, 0] ∧ win0_1.index t = ![t.val, 2] ∧ win0_2.index t = ![t.val * 8 - 1, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0] :=
  (by decide +kernel : ∀ t : Fin grid0.N, _)

/-- a tile's row, as the array's -/
abbrev row (t : Fin cfg0.N) (r : Fin 256) : Fin 4096 := ⟨t.val * 256 + r.val, by have := lt_of_lt_of_eq t.isLt N_0; omega⟩

theorem lt16 (t : Fin cfg0.N) : t.val < 16 := lt_of_lt_of_eq t.isLt N_0

/-- the halo's row before a tile -/
abbrev before (t : Fin cfg0.N) (q : Fin 32) : Fin 4096 := ⟨(t.val * 8 - 1) * 32 + q.val, by have := lt16 t; omega⟩

/-! ## The arrays the call reads, at the reference's types -/

abbrev X (c : Dev nD) : FVec Ideal S4096x3336 .f32 := m ((c : Thread nD τ).loc main_arg0)
abbrev W (c : Dev nD) : FVec Ideal S31x256 .f32 := m ((c : Thread nD τ).loc main_arg1)
abbrev B (c : Dev nD) : FVec Ideal S256 .f32 := m ((c : Thread nD τ).loc main_arg2)
abbrev G (c : Dev nD) : FVec Ideal S256 .f32 := m ((c : Thread nD τ).loc main_arg3)
abbrev H (c : Dev nD) : FVec Ideal S256 .f32 := m ((c : Thread nD τ).loc main_arg4)
abbrev P (c : Dev nD) : FVec Ideal S256x256 .f32 := m ((c : Thread nD τ).loc main_arg5)
abbrev Q (c : Dev nD) : FVec Ideal S256 .f32 := m ((c : Thread nD τ).loc main_arg6)

theorem pack_at (c : Dev nD) (R : Fin 4096) (k : Fin 3456) (hk : k.val < 768) :
    (V m c main_v8 : FVec Ideal S4096x3456 .f32) (ix2 R k) = X m c (ix2 R ⟨k.val, by omega⟩) := by
  unfold V
  after_reads_at
  rw [dif_pos (by omega)]
  after_reads_at

theorem taps_at (c : Dev nD) (k : Fin 32) (l : Fin 256) :
    (V m c main_v9 : FVec Ideal S32x256 .f32) (ix2 k l) = if h : k.val < 31 then W m c (ix2 ⟨k.val, h⟩ l) else 0 := by
  unfold V
  after_reads_at
  split
  · rfl
  · exact (by simp [FloatOps.sitofp] : (FloatOps.sitofp (F := Ideal) FTy.f32 (0#32) : EReal) = 0)

theorem cb_row (c : Dev nD) (l : Fin 256) : (V m c main_v10 : FVec Ideal S1x256 .f32) (ix2 0 l) = B m c (ix1 l) := by
  unfold V; after_reads_at

theorem lng_row (c : Dev nD) (l : Fin 256) : (V m c main_v11 : FVec Ideal S1x256 .f32) (ix2 0 l) = G m c (ix1 l) := by
  unfold V; after_reads_at

theorem lnb_row (c : Dev nD) (l : Fin 256) : (V m c main_v12 : FVec Ideal S1x256 .f32) (ix2 0 l) = H m c (ix1 l) := by
  unfold V; after_reads_at

theorem pwb_row (c : Dev nD) (l : Fin 256) : (V m c main_v13 : FVec Ideal S1x256 .f32) (ix2 0 l) = Q m c (ix1 l) := by
  unfold V; after_reads_at

/-! ## The body's taps -/

/-- rows moved down by `s`, around -/
def turn (s : ℕ) (E : FVec Ideal S288x256 .f32) : FVec Ideal S288x256 .f32 :=
  match s with
  | 0 => E
  | s + 1 => dynamicRotate 0 (BitVec.ofNat 32 (s + 1)) none E rotates_S288x256_d0

theorem turn_at (s : ℕ) (hs : s < 288) (E : FVec Ideal S288x256 .f32) (q : Fin 288) (l : Fin 256) :
    turn s E (ix2 q l) = E (ix2 ⟨(q.val + 288 - s) % 288, by omega⟩ l) := by
  match s, hs with
  | 0, _ =>
    show E _ = E _
    exact congrArg E (congrArg (ix2 · l) (Fin.ext (by show q.val = (q.val + 288 - 0) % 288; omega)))
  | s + 1, hs =>
    show dynamicRotate 0 (BitVec.ofNat 32 (s + 1)) none E rotates_S288x256_d0 _ = _
    have e : (BitVec.ofNat 32 (s + 1)).toNat = s + 1 := by rw [BitVec.toNat_ofNat]; omega
    pointwise
    refine congrArg E (congrArg (ix2 · l) (Fin.ext ?_))
    show _ % 288 = _ % 288
    simp only [e]
    omega

/-- tap `k`'s part of a tile's rows -/
def tap (k : ℕ) (E : FVec Ideal S288x256 .f32) (w : FVec Ideal S1x256 .f32) : FVec Ideal S256x256 .f32 :=
  mulf (extractStridedSlice S256x256 ![32, 0] (turn (30 - k) E) slices_S288x256_o32_0_S256x256)
    (broadcastTo S256x256 (shapeCast S1x256 w shapeCasts_S1x256_S1x256) broadcasts_S1x256_S256x256)

theorem tap_at (k : ℕ) (hk : k < 31) (E : FVec Ideal S288x256 .f32) (w : FVec Ideal S1x256 .f32) (r l : Fin 256) :
    tap k E w (ix2 r l) = E (ix2 ⟨2 + r.val + k, by omega⟩ l) * w (ix2 0 l) := by
  have h := turn_at (30 - k) (by omega) E
  pointwise [tap, h]
  refine congrArg (· * _) (congrArg E (congrArg (ix2 · l) (Fin.ext ?_)))
  show (32 + r.val + 288 - (30 - k)) % 288 = 2 + r.val + k
  omega

/-- the taps' parts up to `k`, summed in order -/
def sums (E : FVec Ideal S288x256 .f32) (w : Fin 31 → FVec Ideal S1x256 .f32) : (k : ℕ) → k < 31 → FVec Ideal S256x256 .f32
  | 0, h => tap 0 E (w ⟨0, h⟩)
  | k + 1, h => addf (sums E w k (by omega)) (tap (k + 1) E (w ⟨k + 1, h⟩))

/-! ## The reference's taps -/

theorem slices_x : ∀ k : Fin 31, (⟨2, ![4126, 256]⟩ : Shape).Slices ![k.val, 0] S4096x256 := by decide +kernel
theorem slices_w : ∀ k : Fin 31, (⟨2, ![31, 256]⟩ : Shape).Slices ![k.val, 0] S1x256 := by decide +kernel

section Reference

open Cert.ReferenceAFwdIdeal Cert.ReferenceAFwdIdeal.Gen

variable (x : FVec Ideal S4096x3336 .f32) (w : FVec Ideal S31x256 .f32)

/-- tap `k`'s part -/
def refTap (k : Fin 31) : FVec Ideal S4096x256 .f32 :=
  mulf (broadcastInDim S4096x256 ![0, 1] bcast_S1x256_S4096x256_0_1 (broadcastInDim S1x256 ![1] bcast_S256_S1x256_1
      (shapeCast _ (extractStridedSlice S1x256 ![k.val, 0] w (slices_w k)) shapeCasts_S1x256_S256)))
    (extractStridedSlice S4096x256 ![k.val, 0] (val_main_v23 (F := Ideal) x) (slices_x k))

def refSums : (k : ℕ) → k < 31 → FVec Ideal S4096x256 .f32
  | 0, h => addf (val_main_v30 (F := Ideal)) (refTap x w ⟨0, h⟩)
  | k + 1, h => addf (refSums k (by omega)) (refTap x w ⟨k + 1, h⟩)

theorem refSums_eq : val_main_v241 (F := Ideal) x w = refSums x w 30 (by decide) := by sl_kernel_rfl
theorem again_eq : val_main_v500 (F := Ideal) x w = val_main_v241 (F := Ideal) x w := by sl_kernel_rfl

theorem refTap_at (k : Fin 31) (R : Fin 4096) (l : Fin 256) : refTap x w k (ix2 R l)
    = val_main_v23 (F := Ideal) x (ix2 ⟨k.val + R.val, by omega⟩ l) * w (ix2 k l) := by
  pointwise [refTap]
  exact mul_comm _ _

end Reference

theorem sums_at (x : FVec Ideal S4096x3336 .f32) (w : FVec Ideal S31x256 .f32) (E : FVec Ideal S288x256 .f32) (v : Fin 31 → FVec Ideal S1x256 .f32)
    (T : ℕ) (hT : T < 16) (l r : Fin 256)
    (hE : ∀ q : ℕ, (h0 : 2 ≤ q) → (h1 : q < 288) → E (ix2 ⟨q, h1⟩ l) = val_main_v23 (F := Ideal) x (ix2 ⟨T * 256 + q - 2, by omega⟩ l))
    (hw : ∀ k : Fin 31, v k (ix2 0 l) = w (ix2 k l)) (k : ℕ) (hk : k < 31) :
    sums E v k hk (ix2 r l) = refSums x w k hk (ix2 ⟨T * 256 + r.val, by omega⟩ l) := by
  have one : ∀ j : ℕ, (hj : j < 31) → tap j E (v ⟨j, hj⟩) (ix2 r l) = refTap x w ⟨j, hj⟩ (ix2 ⟨T * 256 + r.val, by omega⟩ l) := fun j hj => by
    rw [tap_at j hj, refTap_at, hw, hE _ (by omega)]
    exact congrArg (· * _) (congrArg _ (congrArg (ix2 · l) (Fin.ext (by show T * 256 + (2 + r.val + j) - 2 = j + (T * 256 + r.val); omega))))
  induction k with
  | zero =>
    show _ = val_main_v30 (F := Ideal) _ + refTap x w ⟨0, hk⟩ _
    rw [← one 0 hk]
    pointwise [val_main_v30, val_main_cst_2]
    rfl
  | succ k ih =>
    show sums E v k _ _ + tap (k + 1) E _ _ = refSums x w k _ _ + refTap x w ⟨k + 1, hk⟩ _
    rw [ih (by omega) one, one (k + 1) hk]

/-! ## One tile -/

theorem keep_at : ∀ t : Fin grid0.N, Scalar.extui (Scalar.cmpi .sgt (BitVec.ofNat 32 (grid0.coords t 0).val) 0#32) = if t.val = 0 then 0#32 else 1#32 := by
  decide +kernel

theorem inb_row : ∀ k : Fin 31, ∀ a, (![k.val, 0] : Fin 2 → ℕ) a + S1x256.size a ≤ S32x256.size a := by decide +kernel

section Tile

variable (c : Dev nD) (t : Fin cfg0.N)

/-- a tile's blocks, as the body loads them -/
abbrev val : FVec Ideal S256x256 .f32 := View.ld (X0_0 m c t : FVec Ideal S256x512 .f32) (Rect.unit ![0, 0] ![256, 256] inb_S256x512_S256x256_0_0)
abbrev gate : FVec Ideal S256x256 .f32 := View.ld (X0_0 m c t : FVec Ideal S256x512 .f32) (Rect.unit ![0, 256] ![256, 256] inb_S256x512_S256x256_0_256)
abbrev hval : FVec Ideal S32x256 .f32 := View.ld (X0_2 m c t : FVec Ideal S32x512 .f32) (Rect.unit ![0, 0] ![32, 256] inb_S32x512_S32x256_0_0)
abbrev hgate : FVec Ideal S32x256 .f32 := View.ld (X0_2 m c t : FVec Ideal S32x512 .f32) (Rect.unit ![0, 256] ![32, 256] inb_S32x512_S32x256_0_256)
abbrev wrow (k : Fin 31) : FVec Ideal S1x256 .f32 := View.ld (iblk m c 3 t : FVec Ideal S32x256 .f32) (Rect.unit ![k.val, 0] S1x256.size (inb_row k))
abbrev az : FVec Ideal S256x256 .f32 := X0_1 m c t
abbrev cb : FVec Ideal S1x256 .f32 := iblk m c 4 t
abbrev lng : FVec Ideal S1x256 .f32 := iblk m c 5 t
abbrev lnb : FVec Ideal S1x256 .f32 := iblk m c 6 t
abbrev pw : FVec Ideal S256x256 .f32 := iblk m c 7 t
abbrev pwb : FVec Ideal S1x256 .f32 := iblk m c 8 t

theorem vg_at (r : Fin 256) (l : Fin 512) : (X0_0 m c t : FVec Ideal S256x512 .f32) (ix2 r l) = X m c (ix2 (row t r) ⟨l.val, by omega⟩) := by
  rw [← pack_at m c _ ⟨l.val, by omega⟩ (by show l.val < 768; omega)]
  unfold X0_0 Pipeline.Window.fill; rw [dif_pos (moved0_0 t _)]
  blk_simp [iblk, idx_val t]
  blk_ext [idx_val t]

theorem az_at (r l : Fin 256) : az m c t (ix2 r l) = X m c (ix2 (row t r) ⟨512 + l.val, by omega⟩) := by
  rw [← pack_at m c _ ⟨512 + l.val, by omega⟩ (by show 512 + l.val < 768; omega)]
  unfold az X0_1 Pipeline.Window.fill; rw [dif_pos (moved0_1 t _)]
  blk_simp [iblk, idx_val t]
  blk_ext [idx_val t]

theorem halo_at (r : Fin 32) (l : Fin 512) : (X0_2 m c t : FVec Ideal S32x512 .f32) (ix2 r l) = X m c (ix2 (before t r) ⟨l.val, by omega⟩) := by
  rw [← pack_at m c _ ⟨l.val, by omega⟩ (by show l.val < 768; omega)]
  unfold X0_2 Pipeline.Window.fill; rw [dif_pos (moved0_2 t _)]
  blk_simp [iblk, idx_val t]
  blk_ext [idx_val t]

theorem w_at (k : Fin 32) (l : Fin 256) : (iblk m c 3 t : FVec Ideal S32x256 .f32) (ix2 k l) = if h : k.val < 31 then W m c (ix2 ⟨k.val, h⟩ l) else 0 := by
  rw [← taps_at]
  blk_simp [iblk, idx_val t]
  blk_ext [idx_val t]

theorem cb_at (l : Fin 256) : cb m c t (ix2 0 l) = B m c (ix1 l) := by
  rw [← cb_row]; blk_simp [iblk, idx_val t]; blk_ext [idx_val t]

theorem lng_at (l : Fin 256) : lng m c t (ix2 0 l) = G m c (ix1 l) := by
  rw [← lng_row]; blk_simp [iblk, idx_val t]; blk_ext [idx_val t]

theorem lnb_at (l : Fin 256) : lnb m c t (ix2 0 l) = H m c (ix1 l) := by
  rw [← lnb_row]; blk_simp [iblk, idx_val t]; blk_ext [idx_val t]

theorem pwb_at (l : Fin 256) : pwb m c t (ix2 0 l) = Q m c (ix1 l) := by
  rw [← pwb_row]; blk_simp [iblk, idx_val t]; blk_ext [idx_val t]

theorem pw_at (k l : Fin 256) : pw m c t (ix2 k l) = P m c (ix2 k l) := by
  blk_ext! [iblk, V, idx_val t]

theorem val_at (r l : Fin 256) : val m c t (ix2 r l) = X m c (ix2 (row t r) ⟨l.val, by omega⟩) := by
  pointwise [val, vg_at]

theorem gate_at (r l : Fin 256) : gate m c t (ix2 r l) = X m c (ix2 (row t r) ⟨256 + l.val, by omega⟩) := by
  pointwise [gate, vg_at]

theorem hval_at (r : Fin 32) (l : Fin 256) : hval m c t (ix2 r l) = X m c (ix2 (before t r) ⟨l.val, by omega⟩) := by
  pointwise [hval, halo_at]

theorem hgate_at (r : Fin 32) (l : Fin 256) : hgate m c t (ix2 r l) = X m c (ix2 (before t r) ⟨256 + l.val, by omega⟩) := by
  pointwise [hgate, halo_at]

theorem wrow_at (k : Fin 31) (l : Fin 256) : wrow m c t k (ix2 0 l) = W m c (ix2 k l) := by
  pointwise [wrow]
  exact (w_at m c t ⟨k.val, by omega⟩ l).trans (dif_pos k.isLt)

/-- the haloed tile -/
abbrev E : FVec Ideal S288x256 .f32 := k0_pay2 (grid0.coords t) (hval m c t) (hgate m c t) (val m c t) (gate m c t)

theorem E_at (l : Fin 256) (q : ℕ) (h0 : 2 ≤ q) (h1 : q < 288) :
    E m c t (ix2 ⟨q, h1⟩ l) = val_main_v23 (F := Ideal) (X m c) (ix2 ⟨t.val * 256 + q - 2, by have := lt16 t; omega⟩ l) := by
  have hk := keep_at t
  have e0 := hval_at m c t
  have e1 := hgate_at m c t
  have e2 := val_at m c t
  have e3 := gate_at m c t
  unfold E
  generalize hval m c t = v0 at *
  generalize hgate m c t = v1 at *
  generalize val m c t = v2 at *
  generalize gate m c t = v3 at *
  pointwise [k0_pay2, e0, e1, e2, e3, val_main_v23, val_main_v22, val_main_v21, val_main_v20, val_main_v19, val_main_v18, val_main_v17, val_main_v16,
    val_main_v15, val_main_v1, val_main_v0, val_main_cst, val_main_cst_0, val_main_cst_1]
  rw [hk]
  have := lt16 t
  by_cases hq : q < 32
  · rw [dif_pos hq]
    by_cases ht : t.val = 0
    · rw [if_pos ht, dif_pos (by omega)]
      simp
    · rw [if_neg ht, dif_neg (by omega),
        show before t ⟨q, hq⟩ = ⟨t.val * 256 + q - 2 - 30, by omega⟩ from Fin.ext (by show (t.val * 8 - 1) * 32 + q = t.val * 256 + q - 2 - 30; omega)]
      simp
      rfl
  · rw [dif_neg hq, dif_neg (by omega),
      show row t ⟨q - 32, by omega⟩ = (⟨t.val * 256 + q - 2 - 30, by omega⟩ : Fin 4096) from Fin.ext (by show t.val * 256 + (q - 32) = t.val * 256 + q - 2 - 30; omega)]
    rfl

/-- the tile's convolution -/
abbrev co : FVec Ideal S256x256 .f32 := sums (E m c t) (wrow m c t) 30 (by decide)

theorem co_at (r l : Fin 256) : co m c t (ix2 r l) = val_main_v241 (F := Ideal) (X m c) (W m c) (ix2 (row t r) l) := by
  rw [refSums_eq]
  exact sums_at (X m c) (W m c) (E m c t) (wrow m c t) t.val (lt16 t) l r (E_at m c t l) (fun k => wrow_at m c t k l) 30 (by decide)

/-- what a tile writes -/
abbrev o : FVec Ideal S256x256 .f32 := k0_pay1 (co m c t) (k0_pay14 (az m c t)) (k0_pay15 (cb m c t)) (k0_pay16 (lng m c t)) (k0_pay17 (lnb m c t)) (pw m c t) (pwb m c t)

theorem tile_at (r l : Fin 256) : o m c t (ix2 r l)
    = val_main_v273 (F := Ideal) (X m c) (W m c) (B m c) (G m c) (H m c) (P m c) (Q m c) (ix2 (row t r) l) := by
  have e0 := co_at m c t
  have e1 := az_at m c t
  have e2 := cb_at m c t
  have e3 := lng_at m c t
  have e4 := lnb_at m c t
  have e5 := pw_at m c t
  have e6 := pwb_at m c t
  unfold o
  generalize co m c t = v0 at *
  generalize az m c t = v1 at *
  generalize cb m c t = v2 at *
  generalize lng m c t = v3 at *
  generalize lnb m c t = v4 at *
  generalize pw m c t = v5 at *
  generalize pwb m c t = v6 at *
  pointwise [k0_pay1, k0_pay14, k0_pay15, k0_pay16, k0_pay17, e0, e1, e2, e3, e4, e5, e6, val_main_v273, val_main_v272, val_main_v271, val_main_v270, val_main_v269, val_main_v268, val_main_v267, val_main_v266, val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_v245, val_main_v244, val_main_v243, val_main_v242,
    val_main_call0_v5, val_main_call0_v4, val_main_call0_v3, val_main_call0_v2, val_main_call0_v1, val_main_call0_v0, val_main_call0_cst, val_main_call0_cst_0,
    val_main_call1_v5, val_main_call1_v4, val_main_call1_v3, val_main_call1_v2, val_main_call1_v1, val_main_call1_v0, val_main_call1_cst, val_main_call1_cst_0,
    val_main_cst_3, val_main_cst_4, val_main_cst_5, val_main_cst_6, val_main_cst_7, val_main_v2]
  rfl

theorem block_o (y : S256x256.Idx) : o m c t y
    = val_main_v273 (F := Ideal) (X m c) (W m c) (B m c) (G m c) (H m c) (P m c) (Q m c) (((cfg0.win 9).blk t).view.emb y) := by
  rw [eq_ix2 y]
  refine (tile_at m c t (y 0) (y 1)).trans ?_
  blk_ext! [idx_val t]

theorem block_co (y : S256x256.Idx) : co m c t y = val_main_v500 (F := Ideal) (X m c) (W m c) (((cfg0.win 10).blk t).view.emb y) := by
  rw [again_eq, eq_ix2 y]
  refine (co_at m c t (y 0) (y 1)).trans ?_
  blk_ext! [idx_val t]

theorem left_o (y) : (outsAt0 m c t).1 y = o m c t y := by
  unfold outsAt0 out0_A_9; dsimp only [kernelRun0_A]; frame_out; sl_kernel_rfl

theorem left_co (y) : (outsAt0 m c t).2 y = co m c t y := by
  unfold outsAt0 out0_A_10; dsimp only [kernelRun0_A]; frame_out; sl_kernel_rfl

end Tile

theorem final_o (c : Dev nD) : (dats m 0 c).arrAt 9 (cfgs 0).N
    = val_main_v273 (F := Ideal) (X m c) (W m c) (B m c) (G m c) (H m c) (P m c) (Q m c) := by
  refine (dats m 0 c).arrAt_eq_of_covers 9 _ (by decide +kernel) fun t hf y => ?_
  blk_simp; rw [after0_9]
  exact (left_o m c t y).trans (block_o m c t y)

theorem final_co (c : Dev nD) : (dats m 0 c).arrAt 10 (cfgs 0).N = val_main_v500 (F := Ideal) (X m c) (W m c) := by
  refine (dats m 0 c).arrAt_eq_of_covers 10 _ (by decide +kernel) fun t hf y => ?_
  blk_simp; rw [after0_10]
  exact (left_co m c t y).trans (block_co m c t y)

theorem frame_kernel : Cert.quiescent_KernelAFwd := fun m ρ _ => Cert.KernelAFwd.Gen.frame m ρ

theorem frame_ideal : Cert.quiescent_KernelAFwdIdeal := fun m ρ _ => Cert.KernelAFwdIdeal.Gen.frame m ρ

theorem frame_reference : Cert.quiescent_ReferenceAFwdIdeal := fun m ρ _ =>
  (θ_run Cert.ReferenceAFwdIdeal.defs _ _).mono
    (fun r h => ⟨fun c => (h c).2.2, sem_eq_zero_of_no_sems (by decide) r.2⟩)
    (Cert.ReferenceAFwdIdeal.Value.run m ρ)

open Cert.ReferenceAFwdIdeal.Read in
theorem run_reference (m' : (ℓ : Loc Cert.ReferenceAFwdIdeal.nD Cert.ReferenceAFwdIdeal.τ Cert.ReferenceAFwdIdeal.sig) → Buf (Elt Ideal) ℓ)
    (g' : Dev Cert.ReferenceAFwdIdeal.nD → PrngReg) :
    θ_run (Cert.ReferenceAFwdIdeal.defs (F := Ideal)) (onTc (τ := Cert.ReferenceAFwdIdeal.τ) (Cert.ReferenceAFwdIdeal.main (F := Ideal))) ⟨m', fun _ => 0, g'⟩
      fun r => ∀ c : Dev Cert.ReferenceAFwdIdeal.nD,
      r.2.mem ((c.tc : Thread Cert.ReferenceAFwdIdeal.nD Cert.ReferenceAFwdIdeal.τ).loc Cert.ReferenceAFwdIdeal.main_v273) = val_main_v273 (F := Ideal) (m' ((c.tc : Thread Cert.ReferenceAFwdIdeal.nD Cert.ReferenceAFwdIdeal.τ).loc Cert.ReferenceAFwdIdeal.main_arg0)) (m' ((c.tc : Thread Cert.ReferenceAFwdIdeal.nD Cert.ReferenceAFwdIdeal.τ).loc Cert.ReferenceAFwdIdeal.main_arg1)) (m' ((c.tc : Thread Cert.ReferenceAFwdIdeal.nD Cert.ReferenceAFwdIdeal.τ).loc Cert.ReferenceAFwdIdeal.main_arg2)) (m' ((c.tc : Thread Cert.ReferenceAFwdIdeal.nD Cert.ReferenceAFwdIdeal.τ).loc Cert.ReferenceAFwdIdeal.main_arg3)) (m' ((c.tc : Thread Cert.ReferenceAFwdIdeal.nD Cert.ReferenceAFwdIdeal.τ).loc Cert.ReferenceAFwdIdeal.main_arg4)) (m' ((c.tc : Thread Cert.ReferenceAFwdIdeal.nD Cert.ReferenceAFwdIdeal.τ).loc Cert.ReferenceAFwdIdeal.main_arg5)) (m' ((c.tc : Thread Cert.ReferenceAFwdIdeal.nD Cert.ReferenceAFwdIdeal.τ).loc Cert.ReferenceAFwdIdeal.main_arg6))
      ∧ r.2.mem ((c.tc : Thread Cert.ReferenceAFwdIdeal.nD Cert.ReferenceAFwdIdeal.τ).loc Cert.ReferenceAFwdIdeal.main_v500) = val_main_v500 (F := Ideal) (m' ((c.tc : Thread Cert.ReferenceAFwdIdeal.nD Cert.ReferenceAFwdIdeal.τ).loc Cert.ReferenceAFwdIdeal.main_arg0)) (m' ((c.tc : Thread Cert.ReferenceAFwdIdeal.nD Cert.ReferenceAFwdIdeal.τ).loc Cert.ReferenceAFwdIdeal.main_arg1))
      ∧ r.2.mem ((c.tc : Thread Cert.ReferenceAFwdIdeal.nD Cert.ReferenceAFwdIdeal.τ).loc Cert.ReferenceAFwdIdeal.main_arg0) = m' ((c.tc : Thread Cert.ReferenceAFwdIdeal.nD Cert.ReferenceAFwdIdeal.τ).loc Cert.ReferenceAFwdIdeal.main_arg0)
      ∧ r.2.mem ((c.tc : Thread Cert.ReferenceAFwdIdeal.nD Cert.ReferenceAFwdIdeal.τ).loc Cert.ReferenceAFwdIdeal.main_arg1) = m' ((c.tc : Thread Cert.ReferenceAFwdIdeal.nD Cert.ReferenceAFwdIdeal.τ).loc Cert.ReferenceAFwdIdeal.main_arg1)
      ∧ r.2.mem ((c.tc : Thread Cert.ReferenceAFwdIdeal.nD Cert.ReferenceAFwdIdeal.τ).loc Cert.ReferenceAFwdIdeal.main_arg2) = m' ((c.tc : Thread Cert.ReferenceAFwdIdeal.nD Cert.ReferenceAFwdIdeal.τ).loc Cert.ReferenceAFwdIdeal.main_arg2)
      ∧ r.2.mem ((c.tc : Thread Cert.ReferenceAFwdIdeal.nD Cert.ReferenceAFwdIdeal.τ).loc Cert.ReferenceAFwdIdeal.main_arg3) = m' ((c.tc : Thread Cert.ReferenceAFwdIdeal.nD Cert.ReferenceAFwdIdeal.τ).loc Cert.ReferenceAFwdIdeal.main_arg3)
      ∧ r.2.mem ((c.tc : Thread Cert.ReferenceAFwdIdeal.nD Cert.ReferenceAFwdIdeal.τ).loc Cert.ReferenceAFwdIdeal.main_arg4) = m' ((c.tc : Thread Cert.ReferenceAFwdIdeal.nD Cert.ReferenceAFwdIdeal.τ).loc Cert.ReferenceAFwdIdeal.main_arg4)
      ∧ r.2.mem ((c.tc : Thread Cert.ReferenceAFwdIdeal.nD Cert.ReferenceAFwdIdeal.τ).loc Cert.ReferenceAFwdIdeal.main_arg5) = m' ((c.tc : Thread Cert.ReferenceAFwdIdeal.nD Cert.ReferenceAFwdIdeal.τ).loc Cert.ReferenceAFwdIdeal.main_arg5)
      ∧ r.2.mem ((c.tc : Thread Cert.ReferenceAFwdIdeal.nD Cert.ReferenceAFwdIdeal.τ).loc Cert.ReferenceAFwdIdeal.main_arg6) = m' ((c.tc : Thread Cert.ReferenceAFwdIdeal.nD Cert.ReferenceAFwdIdeal.τ).loc Cert.ReferenceAFwdIdeal.main_arg6) :=
  (θ_run Cert.ReferenceAFwdIdeal.defs _ _).mono (fun r h c => ⟨(h c).1.trans (val_main_v273_eq (StableHlo.launchContents m' c)),
      (h c).2.1.trans (val_main_v500_eq (StableHlo.launchContents m' c)),
      (h c).2.2⟩)
    (Cert.ReferenceAFwdIdeal.Value.run m' g')

theorem algebraic : Cert.algebraic_KernelAFwdIdeal_ReferenceAFwdIdeal := by
  pair_intro
  · run_from Cert.KernelAFwdIdeal.Value.run_blocks m g
  · run_from run_reference m' g'
    · exact (final_o m c).symm
    · exact (final_co m c).symm

end Cert.KernelAFwdIdeal.AFwd

end
-- ==== Proof.ProjFwd.lean ====
/- What the projection's forward call leaves, set beside the reference's results. -/
module

public import proofs.«01_k».proof.Proof.Gen.KernelProjFwdIdeal.Value
public import proofs.«01_k».proof.Proof.Gen.ReferenceProjFwdIdeal.Read
public import proofs.«01_k».proof.Proof.Gen.KernelProjFwd.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pointwise
public import proofs.«01_k».proof.Proof.Pack

@[expose] public section

set_option maxRecDepth 16384

noncomputable section

namespace Cert.KernelProjFwdIdeal.ProjFwd

open Idealize.ShloMosaic Idealize.ShloMosaic.TcCoe Idealize.SL.Sem
open Idealize.ShloMosaic.Pipeline (Dat)
open Cert.ReferenceProjFwdIdeal.Read Cert.KernelProjFwdIdeal Cert.KernelProjFwdIdeal.Gen Cert.Pack

variable (m : (ℓ : Loc nD τ sig) → Buf (Elt Ideal) ℓ)

theorem idx_val : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-! ## The arrays the call reads, at the reference's types -/

abbrev X (c : Dev nD) : FVec Ideal S4096x1024 .f32 := m ((c : Thread nD τ).loc main_arg0)
abbrev G (c : Dev nD) : FVec Ideal S1024 .f32 := m ((c : Thread nD τ).loc main_arg1)
abbrev W (c : Dev nD) : FVec Ideal S1024x3336 .f32 := m ((c : Thread nD τ).loc main_arg2)

theorem pack_weight (c : Dev nD) (R : Fin 1024) (k : Fin 3456) :
    (V m c main_v12 : FVec Ideal S1024x3456 .bf16) (ix2 R k) = pack (ext fun j => W m c (ix2 R j)) k.val := by
  unfold V
  after_reads_at
  by_cases h0 : k.val < 834
  · rw [dif_pos h0]
    after_reads_at
    refine pack_of (fun j => W m c (ix2 R j)) _ _ (by omega) (Eq.trans ?_ (place_low (by omega)).symm)
    dsimp only <;> omega
  rw [dif_neg h0]
  by_cases h1 : k.val - 834 < 834
  · rw [dif_pos h1]
    after_reads_at
    refine pack_of (fun j => W m c (ix2 R j)) _ _ (by omega) (Eq.trans ?_ (place_low (by omega)).symm)
    dsimp only <;> omega
  rw [dif_neg h1]
  by_cases h2 : k.val - 834 - 834 < 834
  · rw [dif_pos h2]
    after_reads_at
    refine pack_of (fun j => W m c (ix2 R j)) _ _ (by omega) (Eq.trans ?_ (place_low (by omega)).symm)
    dsimp only <;> omega
  rw [dif_neg h2]
  by_cases h3 : k.val - 834 - 834 - 834 < 570
  · rw [dif_pos h3]
    after_reads_at
    refine pack_of (fun j => W m c (ix2 R j)) _ _ (by omega) (Eq.trans ?_ (place_low (by omega)).symm)
    dsimp only <;> omega
  rw [dif_neg h3]
  by_cases h4 : k.val - 834 - 834 - 834 - 570 < 256
  · rw [dif_pos h4]
    after_reads_at
    refine pack_of (fun j => W m c (ix2 R j)) _ _ (by omega) (Eq.trans ?_ (place_mid (by omega) (by omega)).symm)
    dsimp only <;> omega
  rw [dif_neg h4]
  by_cases h5 : k.val - 834 - 834 - 834 - 570 - 256 < 8
  · rw [dif_pos h5]
    after_reads_at
    refine pack_of (fun j => W m c (ix2 R j)) _ _ (by omega) (Eq.trans ?_ (place_high (by omega)).symm)
    dsimp only <;> omega
  rw [dif_neg h5]
  after_reads_at
  exact pack_past _ _ (by omega)

theorem weight_row (c : Dev nD) (l : Fin 1024) : (V m c main_v13 : FVec Ideal S1x1024 .f32) (ix2 0 l) = G m c (ix1 l) := by
  unfold V; after_reads_at

/-- a tile's row, as the array's -/
abbrev row (t : Fin cfg0.N) (r : Fin 256) : Fin 4096 :=
  ⟨t.val * 256 + r.val, by have : t.val < 16 := lt_of_lt_of_eq t.isLt N_0; omega⟩

section Tile

variable (c : Dev nD) (t : Fin cfg0.N)

/-- a tile's blocks -/
abbrev x : FVec Ideal S256x1024 .f32 := iblk m c 0 t
abbrev g : FVec Ideal S1x1024 .f32 := iblk m c 1 t
abbrev w : FVec Ideal S1024x3456 .bf16 := iblk m c 2 t

theorem blk_x (r : Fin 256) (k : Fin 1024) : x m c t (ix2 r k) = X m c (ix2 (row t r) k) := by
  blk_ext! [iblk, V, idx_val t]

theorem blk_g (k : Fin 1024) : g m c t (ix2 0 k) = G m c (ix1 k) := by
  rw [← weight_row]
  blk_simp [iblk, idx_val t]
  blk_ext [idx_val t]

theorem blk_w (r : Fin 1024) (k : Fin 3456) : w m c t (ix2 r k) = pack (ext fun j => W m c (ix2 r j)) k.val := by
  rw [← pack_weight]
  blk_simp [iblk, idx_val t]
  blk_ext [idx_val t]

/-- the tile's normed rows -/
abbrev hn : FVec Ideal S256x1024 .bf16 := k0_pay1 (x m c t) (g m c t)

theorem hn_at (r : Fin 256) (l : Fin 1024) : hn m c t (ix2 r l) = val_main_v12 (F := Ideal) (X m c) (G m c) (ix2 (row t r) l) := by
  have h0 := blk_x m c t
  have h1 := blk_g m c t
  unfold hn
  generalize x m c t = v0 at *
  generalize g m c t = v1 at *
  pointwise [k0_pay1, h0, h1, val_main_v12, val_main_v11, val_main_v10, val_main_v9, val_main_v8, val_main_v7, val_main_v6, val_main_v5, val_main_v4,
    val_main_v3, val_main_v2, val_main_v1, val_main_v0, val_main_cst, val_main_cst_0, val_main_cst_1]

theorem hn_res (R : Fin 4096) (l : Fin 1024) : val_main_v32 (F := Ideal) (X m c) (G m c) (ix2 R l) = val_main_v12 (F := Ideal) (X m c) (G m c) (ix2 R l) := by
  pointwise [val_main_v32, val_main_v31, val_main_v30, val_main_v29, val_main_v28, val_main_v27, val_main_v26, val_main_v25, val_main_v24, val_main_v23,
    val_main_v22, val_main_v21, val_main_v20, val_main_v19, val_main_cst_3, val_main_cst_4, val_main_cst_5,
    val_main_v12, val_main_v11, val_main_v10, val_main_v9, val_main_v8, val_main_v7, val_main_v6, val_main_v5, val_main_v4,
    val_main_v3, val_main_v2, val_main_v1, val_main_v0, val_main_cst, val_main_cst_0, val_main_cst_1]

/-- the tile's projected rows -/
abbrev p : FVec Ideal S256x3456 .f32 := k0_pay2 (x m c t) (g m c t) (w m c t)

theorem p_at (r : Fin 256) (k : Fin 3456) : p m c t (ix2 r k)
    = ∑ q : Fin 1024, val_main_v12 (F := Ideal) (X m c) (G m c) (ix2 (row t r) q) * pack (ext fun j => W m c (ix2 q j)) k.val := by
  have h0 := hn_at m c t
  have h1 := blk_w m c t
  unfold p
  unfold hn at h0
  generalize w m c t = v2 at *
  unfold k0_pay2
  generalize k0_pay1 (F := Ideal) (x m c t) (g m c t) = v3 at *
  pointwise [h0, h1]

end Tile

theorem p_ref (c : Dev nD) (R : Fin 4096) (k : Fin 3456) : val_main_v18 (F := Ideal) (X m c) (G m c) (W m c) (ix2 R k)
    = ∑ q : Fin 1024, val_main_v12 (F := Ideal) (X m c) (G m c) (ix2 R q) * pack (ext fun j => W m c (ix2 q j)) k.val := by
  simp only [pack_eq]
  pointwise [val_main_v18, val_main_v17, val_main_v16, val_main_v15, val_main_v14, val_main_v13, val_main_cst_2]
  by_cases h0 : k.val < 3072
  · simp only [dif_pos h0, if_pos h0]
    exact Finset.sum_congr rfl fun q _ => congrArg _ (ext_of (fun j => W m c (ix2 q j)) k.val ⟨k.val, by omega⟩ rfl)
  rw [dif_neg h0]
  simp only [if_neg h0]
  by_cases h1 : k.val < 3328
  · rw [dif_pos (by omega)]
    simp only [if_pos h1]
    exact Finset.sum_congr rfl fun q _ => congrArg _ (ext_of (fun j => W m c (ix2 q j)) (k.val + 8) ⟨3080 + (k.val - 3072), by omega⟩ (by show 3080 + (k.val - 3072) = k.val + 8; omega))
  rw [dif_neg (by omega)]
  simp only [if_neg h1]
  by_cases h2 : k.val < 3336
  · rw [dif_pos (by omega)]
    simp only [if_pos h2]
    exact Finset.sum_congr rfl fun q _ => congrArg _ (ext_of (fun j => W m c (ix2 q j)) (k.val - 256) ⟨3072 + (k.val - 3072 - 256), by omega⟩ (by show 3072 + (k.val - 3072 - 256) = k.val - 256; omega))
  · rw [dif_neg (by omega)]
    simp only [if_neg h2, mul_zero, Finset.sum_const_zero]

theorem final_p (c : Dev nD) : (dats m 0 c).arrAt 3 (cfgs 0).N = val_main_v18 (F := Ideal) (X m c) (G m c) (W m c) := by
  have hmain : ∀ (t : Fin cfg0.N) (y : S256x3456.Idx), p m c t y
      = val_main_v18 (F := Ideal) (X m c) (G m c) (W m c) (((cfg0.win 3).blk t).view.emb y) := by
    intro t y
    rw [eq_ix2 y]
    refine ((p_at m c t (y 0) (y 1)).trans (p_ref m c _ _).symm).trans ?_
    blk_ext! [idx_val t]
  refine (dats m 0 c).arrAt_eq_of_covers 3 _ (by decide +kernel) fun t hf y => ?_
  blk_simp; rw [after0_3]
  unfold out0_3
  dsimp only
  frame_out
  exact hmain t y

theorem final_h (c : Dev nD) : (dats m 0 c).arrAt 4 (cfgs 0).N = val_main_v32 (F := Ideal) (X m c) (G m c) := by
  have hmain : ∀ (t : Fin cfg0.N) (y : S256x1024.Idx), hn m c t y
      = val_main_v32 (F := Ideal) (X m c) (G m c) (((cfg0.win 4).blk t).view.emb y) := by
    intro t y
    rw [eq_ix2 y]
    refine ((hn_at m c t (y 0) (y 1)).trans (hn_res m c _ _).symm).trans ?_
    blk_ext! [idx_val t]
  refine (dats m 0 c).arrAt_eq_of_covers 4 _ (by decide +kernel) fun t hf y => ?_
  blk_simp; rw [after0_4]
  unfold out0_4
  dsimp only
  frame_out
  exact hmain t y

theorem frame_kernel : Cert.quiescent_KernelProjFwd := fun m ρ _ => Cert.KernelProjFwd.Gen.frame m ρ

theorem frame_ideal : Cert.quiescent_KernelProjFwdIdeal := fun m ρ _ => Cert.KernelProjFwdIdeal.Gen.frame m ρ

theorem frame_reference : Cert.quiescent_ReferenceProjFwdIdeal := fun m ρ _ =>
  (θ_run Cert.ReferenceProjFwdIdeal.defs _ _).mono
    (fun r h => ⟨fun c => (h c).2.2, sem_eq_zero_of_no_sems (by decide) r.2⟩)
    (Cert.ReferenceProjFwdIdeal.Value.run m ρ)

theorem algebraic : Cert.algebraic_KernelProjFwdIdeal_ReferenceProjFwdIdeal := by
  pair_intro
  · run_from Cert.KernelProjFwdIdeal.Value.run_blocks m g
  · run_from Cert.ReferenceProjFwdIdeal.Value.run m' g'
    · rw [val_main_v18_eq, (hagree c).2.2]
      exact (final_p m c).symm
    · rw [val_main_v32_eq]
      exact (final_h m c).symm

end Cert.KernelProjFwdIdeal.ProjFwd

end
-- ==== Proof.PK.lean ====
/- The discretisation's gradient call: what its body computes, read at a lane. -/
module

public import proofs.«01_k».proof.Proof.Gen.KernelPrepIdeal.Frame
public import Idealize.ShloMosaic.Lib.StableHlo.ReadAt
public import Idealize.ShloMosaic.Lib.Pipeline.ValueKit
public import Idealize.ShloMosaic.Lib.Pointwise

@[expose] public section

set_option maxRecDepth 16384

noncomputable section

namespace Cert.KernelPrepIdeal.Prep

open Idealize.ShloMosaic Idealize.ShloMosaic.TcCoe Idealize.SL.Sem
open Cert.KernelPrepIdeal Cert.KernelPrepIdeal.Gen

/-- the division by the width of a group, with the rounding of a signed division taken back, as the body writes it -/
theorem lane_group : ∀ l : Fin 1024, Scalar.select
    (IntOp.andi
      (IntOp.cmpi CmpIPredicate.ne
        (IntOp.subi (BitVec.setWidth 32 (IntOp.cmpi CmpIPredicate.sgt (BitVec.ofNat 32 l.val) 0#32))
          (BitVec.setWidth 32 (IntOp.cmpi CmpIPredicate.slt (BitVec.ofNat 32 l.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 l.val) 64#32) 0#32))
    (IntOp.subi (IntOp.divsi ArithUnit.vector (BitVec.ofNat 32 l.val) 64#32) 1#32)
    (IntOp.divsi ArithUnit.vector (BitVec.ofNat 32 l.val) 64#32) = BitVec.ofNat 32 (l.val / 64) := by decide +kernel

theorem row_group : ∀ k : Fin 256, Scalar.select
    (IntOp.andi
      (IntOp.cmpi CmpIPredicate.ne
        (IntOp.subi (BitVec.setWidth 32 (IntOp.cmpi CmpIPredicate.sgt (BitVec.ofNat 32 k.val) 0#32))
          (BitVec.setWidth 32 (IntOp.cmpi CmpIPredicate.slt (BitVec.ofNat 32 k.val) 0#32)))
        (Scalar.subi (Scalar.extui (Scalar.cmpi CmpIPredicate.sgt 16#32 0#32))
          (Scalar.extui (Scalar.cmpi CmpIPredicate.slt 16#32 0#32))))
      (IntOp.cmpi CmpIPredicate.ne (IntOp.remsi ArithUnit.vector (BitVec.ofNat 32 k.val) 16#32) 0#32))
    (IntOp.subi (IntOp.divsi ArithUnit.vector (BitVec.ofNat 32 k.val) 16#32) 1#32)
    (IntOp.divsi ArithUnit.vector (BitVec.ofNat 32 k.val) 16#32) = BitVec.ofNat 32 (k.val / 16) := by decide +kernel

/-- an equality of small numbers as a float -/
theorem equal_at (a b : ℕ) (ha : a < 1024) (hb : b < 1024) :
    FloatOps.sitofp (F := Ideal) FTy.f32 (BitVec.setWidth 32 (IntOp.cmpi CmpIPredicate.eq (BitVec.ofNat 32 a) (BitVec.ofNat 32 b))) = if b = a then (1 : EReal) else 0 := by
  by_cases h : b = a
  · subst h
    rw [if_pos rfl]
    show (((BitVec.setWidth 32 (IntOp.cmpi CmpIPredicate.eq (BitVec.ofNat 32 b) (BitVec.ofNat 32 b))).toInt : ℝ) : EReal) = 1
    simp [IntOp.cmpi]
  · rw [if_neg h]
    have hne : BitVec.ofNat 32 a ≠ BitVec.ofNat 32 b := fun e => h (by
      have := congrArg BitVec.toNat e
      simp only [BitVec.toNat_ofNat] at this
      omega)
    show (((BitVec.setWidth 32 (IntOp.cmpi CmpIPredicate.eq (BitVec.ofNat 32 a) (BitVec.ofNat 32 b))).toInt : ℝ) : EReal) = 0
    have hb : (BitVec.ofNat 32 a == BitVec.ofNat 32 b) = false := by simpa using hne
    simp [IntOp.cmpi, hb]

theorem expand_at (k : Fin 128) (l : Fin 1024) : k0_pay6 (F := Ideal) (ix2 k l) = if l.val / 64 = k.val then 1 else 0 := by
  pointwise [k0_pay6]
  rw [lane_group l]
  exact equal_at k.val (l.val / 64) (by omega) (by omega)

theorem mask_at (k : Fin 256) (l : Fin 1024) :
    k0_pay31 (F := Ideal) (k0_pay30 (iota .tc S256x1024 32 [0] iota_S256x1024_d0_w32) (iota .tc S256x1024 32 [1] iota_S256x1024_d1_w32) 16#32 k0_pay29 0#32) (ix2 k l)
      = if l.val / 64 = k.val / 16 then 1 else 0 := by
  pointwise [k0_pay31, k0_pay30, k0_pay29]
  rw [lane_group l, row_group k]
  exact equal_at (k.val / 16) (l.val / 64) (by omega) (by omega)

theorem sum16 (f : Fin 16 → EReal) : f 0 + f 1 + f 2 + f 3 + f 4 + f 5 + f 6 + f 7 + f 8 + f 9 + f 10 + f 11 + f 12 + f 13 + f 14 + f 15 = ∑ b : Fin 16, f b := by
  simp only [Fin.sum_univ_castSucc, Fin.sum_univ_zero, zero_add]
  rfl

/-- the entry of the dense array that the lane's own group holds -/
def own (x : FVec Ideal S256x2048 .f32) (p : ℕ) (hp : p < 2) (h : Fin 16) (l : Fin 1024) : EReal :=
  x (ix2 ⟨16 * (l.val / 64) + h.val, by omega⟩ ⟨1024 * p + l.val, by omega⟩)

theorem sum_own (v : FVec Ideal S256x1024 .f32) (hv : ∀ (k : Fin 256) (l : Fin 1024), v (ix2 k l) = if l.val / 64 = k.val / 16 then 1 else 0)
    (g : Fin 256 → EReal) (h : Fin 16) (l : Fin 1024) :
    ∑ b : Fin 16, g ⟨16 * b.val + h.val, by omega⟩ * v (ix2 ⟨16 * b.val + h.val, by omega⟩ l) = g ⟨16 * (l.val / 64) + h.val, by omega⟩ := by
  rw [Finset.sum_eq_single (⟨l.val / 64, by omega⟩ : Fin 16)]
  · rw [hv, if_pos (by dsimp only; omega), mul_one]
  · intro b _ hb
    rw [hv, if_neg (fun e => hb (Fin.ext (by dsimp only at e ⊢; omega))), mul_zero]
  · intro h; exact absurd (Finset.mem_univ _) h

section
variable (v137 : IVec S256x1024 32)
    (hv : ∀ (k : Fin 256) (l : Fin 1024), k0_pay31 (F := Ideal) v137 (ix2 k l) = if l.val / 64 = k.val / 16 then 1 else 0)
    (x : Vec Ideal S256x2048 .f32) (h : Fin 16) (l : Fin 1024)
include hv

theorem dcr_at : k0_pay43 (k0_pay33 (F := Ideal) v137 x) (k0_pay34 v137 x) (k0_pay35 v137 x) (k0_pay36 v137 x)
   (k0_pay37 v137 x) (k0_pay38 v137 x) (k0_pay39 v137 x) (k0_pay40 v137 x) (k0_pay41 v137 x) (k0_pay42 v137 x) (ix2 h l) = own x 0 (by omega) h l := by
  pointwise [k0_pay43, k0_pay33,k0_pay34,k0_pay35,k0_pay36,k0_pay37,k0_pay38,k0_pay39,k0_pay40,k0_pay41,k0_pay42]
  refine Eq.trans ?_ ((sum_own _ hv (fun k => x (ix2 k ⟨1024 * 0 + l.val, by omega⟩)) h l))
  refine Eq.trans ?_ (sum16 _)
  simp

theorem dci_at : k0_pay32 (F := Ideal) v137 x (ix2 h l) = 0 - own x 1 (by omega) h l := by
  pointwise [k0_pay32]
  refine congrArg (fun z => 0 - z) ?_
  refine Eq.trans ?_ ((sum_own _ hv (fun k => x (ix2 k ⟨1024 * 1 + l.val, by omega⟩)) h l))
  refine Eq.trans ?_ (sum16 _)
  simp

end

section
variable (v138 : FVec Ideal S256x1024 .f32)
    (hv : ∀ (k : Fin 256) (l : Fin 1024), v138 (ix2 k l) = if l.val / 64 = k.val / 16 then 1 else 0)
    (x : Vec Ideal S256x2048 .f32) (h : Fin 16) (l : Fin 1024)
include hv

theorem dbi_at : k0_pay44 (F := Ideal) v138 x (ix2 h l) = own x 1 (by omega) h l := by
  pointwise [k0_pay44]
  refine Eq.trans ?_ ((sum_own _ hv (fun k => x (ix2 k ⟨1024 * 1 + l.val, by omega⟩)) h l))
  refine Eq.trans ?_ (sum16 _)
  simp

theorem dbr_at : k0_pay49 (F := Ideal) (k0_pay45 v138 x) (k0_pay46 v138 x) (k0_pay47 v138 x) (k0_pay48 v138 x) (ix2 h l) = own x 0 (by omega) h l := by
  pointwise [k0_pay49, k0_pay45, k0_pay46, k0_pay47, k0_pay48]
  refine Eq.trans ?_ ((sum_own _ hv (fun k => x (ix2 k ⟨1024 * 0 + l.val, by omega⟩)) h l))
  refine Eq.trans ?_ (sum16 _)
  simp

theorem neg_dbr_at : k0_pay50 (F := Ideal) (k0_pay45 v138 x) (k0_pay46 v138 x) (k0_pay47 v138 x) (k0_pay48 v138 x) (ix2 h l) = 0 - own x 0 (by omega) h l := by
  refine Eq.trans ?_ (congrArg (fun z => 0 - z) (dbr_at v138 hv x h l))
  pointwise [k0_pay50]
end

end Cert.KernelPrepIdeal.Prep

end
-- ==== Proof.PE.lean ====
/- The discretisation's gradient call beside the reference's results: one lane. -/
module

public import proofs.«01_k».proof.Proof.PK
public import Idealize.ShloMosaic.Lib.StableHlo.ReadAt
public import Idealize.ShloMosaic.Lib.Pipeline.ValueKit
public import Idealize.ShloMosaic.Lib.Pointwise

@[expose] public section

set_option maxRecDepth 16384

noncomputable section

namespace Cert.KernelPrepIdeal.Prep

open Idealize.ShloMosaic Idealize.ShloMosaic.TcCoe Idealize.SL.Sem

/-- What a lane's gradients are computed from: the two parameters, the step, the gradients of the transition and the two sums over channels
that reach the quotient. -/
structure Pt where
  (lr li e gr gi s1 s2 : EReal)

namespace Pt

variable (p : Pt)

def x : EReal := min p.lr (Ideal.ofBits FTy.f32 3100751639#32)
def sel : EReal := if p.lr < Ideal.ofBits FTy.f32 3100751639#32 then 1
        else if Ideal.ofBits FTy.f32 3100751639#32 = p.lr then Ideal.ofBits FTy.f32 1056964608#32 else 0
def mag : EReal := Ideal.exp (p.x * p.e)
def co : EReal := Ideal.cos (p.li * p.e)
def si : EReal := Ideal.sin (p.li * p.e)
def n2 : EReal := p.x * p.x + p.li * p.li
def b1 : EReal := p.mag * p.co - 1
def bi : EReal := p.mag * p.si
def nr : EReal := p.b1 * p.x + p.bi * p.li
def ni : EReal := p.bi * p.x - p.b1 * p.li
def fr : EReal := Ideal.div p.nr p.n2
def fi : EReal := Ideal.div p.ni p.n2
def rn : EReal := Ideal.div 1 (p.n2 * p.n2)
def q1 : EReal := Ideal.div p.s1 p.n2
def q2 : EReal := Ideal.div p.s2 p.n2
def t : EReal := -(p.s1 * p.rn * p.ni) + -(p.s2 * p.rn * p.nr)
def dbi : EReal := p.gi + p.q1 * p.x + p.q2 * p.li
def dbr : EReal := p.gr + -p.q1 * p.li + p.q2 * p.x
def dsi : EReal := p.mag * p.dbi * p.co
def dco : EReal := -(p.mag * p.dbr) * p.si
def dmag : EReal := (p.dbi * p.si + p.dbr * p.co) * p.mag
def dlim : EReal := p.b1 * -p.q1 + p.bi * p.q2 + p.li * p.t + p.t * p.li + p.dsi * p.e + p.dco * p.e
def dlre : EReal := (p.bi * p.q1 + p.b1 * p.q2 + p.x * p.t + p.t * p.x + p.dmag * p.e) * p.sel
def ddt1 : EReal := p.li * p.dsi
def ddt2 : EReal := p.li * p.dco
def ddt3 : EReal := p.x * p.dmag

end Pt

open Cert.KernelPrepIdeal Cert.KernelPrepIdeal.Gen

section
variable (v1 v3 v139 v140 s1 s2 v303 : FVec Ideal S1x1024 .f32) (v41 : FVec Ideal S8x1024 .f32) (l : Fin 1024)

/-- the lane's numbers -/
def lane : Pt := ⟨v1 (ix2 0 l), v3 (ix2 0 l), Ideal.exp (v41 (ix2 0 l)), v139 (ix2 0 l), v140 (ix2 0 l), s1 (ix2 0 l), s2 (ix2 0 l)⟩

theorem fr_at : k0_pay23 (F := Ideal) v1 v3 v41 (ix2 0 l) = (lane v1 v3 v139 v140 s1 s2 v41 l).fr := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay56, k0_pay57, k0_pay58, k0_pay59, k0_pay60, k0_pay61, k0_pay62, k0_pay63, k0_pay64, k0_pay65, k0_pay66, k0_pay67]
  rfl

theorem fi_at : k0_pay27 (F := Ideal) v1 v3 v41 (ix2 0 l) = (lane v1 v3 v139 v140 s1 s2 v41 l).fi := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay56, k0_pay57, k0_pay58, k0_pay59, k0_pay60, k0_pay61, k0_pay62, k0_pay63, k0_pay64, k0_pay65, k0_pay66, k0_pay67]
  rfl

theorem rn_at : k0_pay28 (F := Ideal) v1 v3 (ix2 0 l) = (lane v1 v3 v139 v140 s1 s2 v41 l).rn := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay56, k0_pay57, k0_pay58, k0_pay59, k0_pay60, k0_pay61, k0_pay62, k0_pay63, k0_pay64, k0_pay65, k0_pay66, k0_pay67]
  rfl

theorem dlim_at (h303 : v303 (ix2 0 l) = s1 (ix2 0 l) * (lane v1 v3 v139 v140 s1 s2 v41 l).rn) :
    k0_pay64 (F := Ideal) v3 (k0_pay8 v41) (k0_pay9 v1) (k0_pay11 v1 v41) (k0_pay14 v3 v41) (k0_pay18 v3 v41) (k0_pay19 v1 v3 v41) (k0_pay20 v1 v3)
      (k0_pay22 v1 v3 v41) (k0_pay24 v1 v3) (k0_pay25 v1 v3 v41) (k0_pay26 v1 v3 v41) v139 v140 s1 s2 v303 (ix2 0 l)
      = (lane v1 v3 v139 v140 s1 s2 v41 l).dlim := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay56, k0_pay57, k0_pay58, k0_pay59, k0_pay60, k0_pay61, k0_pay62, k0_pay63, k0_pay64, k0_pay65, k0_pay66, k0_pay67, h303]
  simp only [zero_sub]
  rfl

theorem dlre_at (h303 : v303 (ix2 0 l) = s1 (ix2 0 l) * (lane v1 v3 v139 v140 s1 s2 v41 l).rn) :
    k0_pay67 (F := Ideal) v3 (k0_pay8 v41) (k0_pay9 v1) (k0_pay10 v1) (k0_pay11 v1 v41) (k0_pay13 v3 v41) (k0_pay17 v3 v41) (k0_pay19 v1 v3 v41)
      (k0_pay20 v1 v3) (k0_pay21 v1 v3 v41) (k0_pay22 v1 v3 v41) (k0_pay24 v1 v3) (k0_pay26 v1 v3 v41) v139 v140 s1 s2 v303 (ix2 0 l)
      = (lane v1 v3 v139 v140 s1 s2 v41 l).dlre := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay56, k0_pay57, k0_pay58, k0_pay59, k0_pay60, k0_pay61, k0_pay62, k0_pay63, k0_pay64, k0_pay65, k0_pay66, k0_pay67, h303]
  simp only [zero_sub]
  rfl

theorem ddt_at :
    k0_pay66 (F := Ideal) v3 (k0_pay9 v1) (k0_pay11 v1 v41) (k0_pay13 v3 v41) (k0_pay14 v3 v41) (k0_pay17 v3 v41) (k0_pay18 v3 v41) (k0_pay20 v1 v3)
      v139 v140 s1 s2 (ix2 0 l)
      = (lane v1 v3 v139 v140 s1 s2 v41 l).ddt1 + (lane v1 v3 v139 v140 s1 s2 v41 l).ddt2 + (lane v1 v3 v139 v140 s1 s2 v41 l).ddt3 := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay56, k0_pay57, k0_pay58, k0_pay59, k0_pay60, k0_pay61, k0_pay62, k0_pay63, k0_pay64, k0_pay65, k0_pay66, k0_pay67]
  simp only [zero_sub]
  rfl

end

/-- the row of steps, spread over the lanes -/
theorem spread_at (x2 : Vec Ideal S1x128 .f32) (l : Fin 1024) : k0_pay7 (F := Ideal) x2 (ix2 0 l) = x2 (ix2 0 ⟨l.val / 64, by omega⟩) := by
  pointwise [k0_pay7, expand_at]
  rw [Finset.sum_eq_single (⟨l.val / 64, by omega⟩ : Fin 128)]
  · simp
  · intro b _ hb
    rw [if_neg (fun e => hb (Fin.ext e.symm)), mul_zero]
  · intro h; exact absurd (Finset.mem_univ _) h

/-- the sums of the groups' lanes -/
theorem gather_at (v356 v43 : FVec Ideal S1x1024 .f32) (k : Fin 128) : k0_pay1 (F := Ideal) k0_pay6 v43 v356 (ix2 0 k)
    = ∑ l : Fin 1024, v356 (ix2 0 l) * v43 (ix2 0 l) * (if l.val / 64 = k.val then 1 else 0) := by
  pointwise [k0_pay1, expand_at]
  simp only [Finset.univ_unique, Finset.sum_const, Finset.card_singleton, one_smul, zero_mul, Finset.sum_const_zero, smul_zero, add_zero]

section
variable (v7 v9 : FVec Ideal S16x1024 .f32) (v138 : FVec Ideal S256x1024 .f32)
    (hv : ∀ (k : Fin 256) (l : Fin 1024), v138 (ix2 k l) = if l.val / 64 = k.val / 16 then 1 else 0)
    (x : Vec Ideal S256x2048 .f32)
include hv

theorem s1_at (l : Fin 1024) : k0_pay52 (F := Ideal) v7 v9 (k0_pay44 v138 x) (k0_pay45 v138 x) (k0_pay46 v138 x) (k0_pay47 v138 x) (k0_pay48 v138 x) (ix2 0 l)
    = (∑ h : Fin 16, own x 1 (by omega) h l * v7 (ix2 h l)) + ∑ h : Fin 16, -own x 0 (by omega) h l * v9 (ix2 h l) := by
  pointwise [k0_pay52]
  simp only [dbi_at v138 hv x, neg_dbr_at v138 hv x, zero_sub]

theorem s2_at (l : Fin 1024) : k0_pay54 (F := Ideal) v7 v9 (k0_pay44 v138 x) (k0_pay45 v138 x) (k0_pay46 v138 x) (k0_pay47 v138 x) (k0_pay48 v138 x) (ix2 0 l)
    = (∑ h : Fin 16, own x 1 (by omega) h l * v9 (ix2 h l)) + ∑ h : Fin 16, own x 0 (by omega) h l * v7 (ix2 h l) := by
  pointwise [k0_pay54]
  simp only [dbi_at v138 hv x, dbr_at v138 hv x]

theorem dbre_at (v73 v82 : FVec Ideal S1x1024 .f32) (h : Fin 16) (l : Fin 1024) :
    k0_pay53 (F := Ideal) v73 v82 (k0_pay44 v138 x) (k0_pay45 v138 x) (k0_pay46 v138 x) (k0_pay47 v138 x) (k0_pay48 v138 x) (ix2 h l)
    = v82 (ix2 0 l) * own x 1 (by omega) h l + v73 (ix2 0 l) * own x 0 (by omega) h l := by
  pointwise [k0_pay53]
  simp only [dbi_at v138 hv x, dbr_at v138 hv x]

theorem dbim_at (v73 v82 : FVec Ideal S1x1024 .f32) (h : Fin 16) (l : Fin 1024) :
    k0_pay51 (F := Ideal) v73 v82 (k0_pay44 v138 x) (k0_pay45 v138 x) (k0_pay46 v138 x) (k0_pay47 v138 x) (k0_pay48 v138 x) (ix2 h l)
    = v73 (ix2 0 l) * own x 1 (by omega) h l + v82 (ix2 0 l) * -own x 0 (by omega) h l := by
  pointwise [k0_pay51]
  simp only [dbi_at v138 hv x, neg_dbr_at v138 hv x, zero_sub]

end

end Cert.KernelPrepIdeal.Prep

end
-- ==== Proof.PR.lean ====
/- The discretisation's gradient call beside the reference's results: the reference. -/
module

public import proofs.«01_k».proof.Proof.PE
public import proofs.«01_k».proof.Proof.Gen.ReferencePrepIdeal.Read
public import Idealize.ShloMosaic.Lib.StableHlo.ReadAt
public import Idealize.ShloMosaic.Lib.Pipeline.ValueKit
public import Idealize.ShloMosaic.Lib.Pointwise

@[expose] public section

set_option maxRecDepth 16384

noncomputable section

namespace Cert.ReferencePrepIdeal.Prep

open Idealize.ShloMosaic Idealize.ShloMosaic.TcCoe Idealize.SL.Sem
open Cert.ReferencePrepIdeal Cert.ReferencePrepIdeal.Gen Cert.ReferencePrepIdeal.Read
open Cert.KernelPrepIdeal.Prep (own Pt)

def gr (l : Fin 1024) : Fin 16 := ⟨l.val / 64, by omega⟩
def pp (l : Fin 1024) : Fin 64 := ⟨l.val % 64, by omega⟩

theorem equal_iff (a b : Fin 16) : IntOp.cmpi CmpIPredicate.eq (BitVec.ofNat 32 a.val) (BitVec.ofNat 32 b.val) = if a = b then 1#1 else 0#1 := by
  revert a b; decide +kernel

theorem sum_select (f : Fin 16 → EReal) (g : Fin 16) :
    ∑ b : Fin 16, Scalar.select (IntOp.cmpi CmpIPredicate.eq (BitVec.ofNat 32 b.val) (BitVec.ofNat 32 g.val)) (f b) 0 = f g := by
  rw [Finset.sum_eq_single g]
  · rw [equal_iff, if_pos rfl]; rfl
  · intro b _ hb
    rw [equal_iff, if_neg hb]; rfl
  · intro h; exact absurd (Finset.mem_univ _) h

theorem zero_at : id (constant S_ FTy.f32 (0#32) : FVec Ideal S_ .f32) ix0 = 0 := Ideal.ofBits_zero_f32

theorem own_eq (x : FVec Ideal S256x2048 .f32) (p : ℕ) (hp : p < 2) (h : Fin 16) (l : Fin 1024) (i : Fin 256) (j : Fin 2048)
    (hi : i.val = l.val / 64 * 16 + h.val) (hj : j.val = 1024 * p + l.val) : x (ix2 i j) = own x p hp h l := by
  unfold own
  exact congrArg x (congrArg₂ ix2 (Fin.ext (by dsimp only; omega)) (Fin.ext hj))

theorem dbr_at (x : FVec Ideal S256x2048 .f32) (h : Fin 16) (l : Fin 1024) :
    val_main_v11 (F := Ideal) x (ix3 h (gr l) (pp l)) = own x 0 (by omega) h l := by
  pointwise [val_main_v0, val_main_v1, val_main_v2, val_main_v3, val_main_v4, val_main_v5, val_main_v6, val_main_v7, val_main_v8, val_main_v9, val_main_v10, val_main_v11, val_main_call0_v0, val_main_call0_v1, val_main_call0_v2, val_main_cst, val_main_cst_0]
  rw [zero_at]
  exact (sum_select (fun b => x (ix2 ⟨b.val * 16 + h.val, by omega⟩ ⟨((gr l).val * 64 + (pp l).val), by unfold gr pp; dsimp only; omega⟩)) (gr l)).trans
    (own_eq x 0 (by omega) h l _ _ (by unfold gr; dsimp only) (by unfold gr pp; dsimp only; omega))

theorem dbi_at (x : FVec Ideal S256x2048 .f32) (h : Fin 16) (l : Fin 1024) :
    val_main_v24 (F := Ideal) x (ix3 h (gr l) (pp l)) = own x 1 (by omega) h l := by
  pointwise [val_main_v13, val_main_v14, val_main_v15, val_main_v16, val_main_v17, val_main_v18, val_main_v19, val_main_v20, val_main_v21, val_main_v22, val_main_v23, val_main_v24, val_main_call1_v0, val_main_call1_v1, val_main_call1_v2, val_main_cst_1, val_main_cst_2]
  rw [zero_at]
  exact (sum_select (fun b => x (ix2 ⟨b.val * 16 + h.val, by omega⟩ ⟨1024 + ((gr l).val * 64 + (pp l).val), by unfold gr pp; dsimp only; omega⟩)) (gr l)).trans
    (own_eq x 1 (by omega) h l _ _ (by unfold gr; dsimp only) (by unfold gr pp; dsimp only; omega))

theorem dcr_at (x : FVec Ideal S256x2048 .f32) (h : Fin 16) (l : Fin 1024) :
    val_main_v37 (F := Ideal) x (ix3 h (gr l) (pp l)) = own x 0 (by omega) h l := by
  pointwise [val_main_v26, val_main_v27, val_main_v28, val_main_v29, val_main_v30, val_main_v31, val_main_v32, val_main_v33, val_main_v34, val_main_v35, val_main_v36, val_main_v37, val_main_call2_v0, val_main_call2_v1, val_main_call2_v2, val_main_cst_3, val_main_cst_4]
  rw [zero_at]
  exact (sum_select (fun b => x (ix2 ⟨b.val * 16 + h.val, by omega⟩ ⟨((gr l).val * 64 + (pp l).val), by unfold gr pp; dsimp only; omega⟩)) (gr l)).trans
    (own_eq x 0 (by omega) h l _ _ (by unfold gr; dsimp only) (by unfold gr pp; dsimp only; omega))

theorem dci_at (x : FVec Ideal S256x2048 .f32) (h : Fin 16) (l : Fin 1024) :
    val_main_v49 (F := Ideal) x (ix3 h (gr l) (pp l)) = own x 1 (by omega) h l := by
  pointwise [val_main_v38, val_main_v39, val_main_v40, val_main_v41, val_main_v42, val_main_v43, val_main_v44, val_main_v45, val_main_v46, val_main_v47, val_main_v48, val_main_v49, val_main_call3_v0, val_main_call3_v1, val_main_call3_v2, val_main_cst_5, val_main_cst_6]
  rw [zero_at]
  exact (sum_select (fun b => x (ix2 ⟨b.val * 16 + h.val, by omega⟩ ⟨1024 + ((gr l).val * 64 + (pp l).val), by unfold gr pp; dsimp only; omega⟩)) (gr l)).trans
    (own_eq x 1 (by omega) h l _ _ (by unfold gr; dsimp only) (by unfold gr pp; dsimp only; omega))

section
variable (x0 x1 : FVec Ideal S16x64 .f32) (x2 : FVec Ideal S16 .f32) (x3 x4 : FVec Ideal S16x64x16 .f32) (x7 x8 : FVec Ideal S1x1024 .f32)
  (x9 : FVec Ideal S256x2048 .f32) (l : Fin 1024)

/-- the lane's numbers -/
def lane : Pt := ⟨x0 (ix2 (gr l) (pp l)), x1 (ix2 (gr l) (pp l)), Ideal.exp (x2 (ix1 (gr l))), x7 (ix2 0 l), x8 (ix2 0 l),
  val_main_v137 (F := Ideal) x3 x4 x9 (ix2 (gr l) (pp l)), val_main_v138 (F := Ideal) x3 x4 x9 (ix2 (gr l) (pp l))⟩

theorem s1_at : val_main_v137 (F := Ideal) x3 x4 x9 (ix2 (gr l) (pp l))
    = (∑ h : Fin 16, own x9 1 (by omega) h l * x3 (ix3 (gr l) (pp l) h)) + ∑ h : Fin 16, -own x9 0 (by omega) h l * x4 (ix3 (gr l) (pp l) h) := by
  pointwise [val_main_v137, val_main_v129, val_main_v128, val_main_v116, val_main_v115, val_main_v127, val_main_v126, val_main_v114, val_main_v122,
    val_main_v12, val_main_v25, val_main_cst_17, val_main_cst_19, val_main_cst_21, dbr_at, dbi_at]
  simp only [Finset.univ_unique, Finset.sum_const, Finset.card_singleton, one_smul]

theorem s2_at : val_main_v138 (F := Ideal) x3 x4 x9 (ix2 (gr l) (pp l))
    = (∑ h : Fin 16, own x9 1 (by omega) h l * x4 (ix3 (gr l) (pp l) h)) + ∑ h : Fin 16, own x9 0 (by omega) h l * x3 (ix3 (gr l) (pp l) h) := by
  pointwise [val_main_v138, val_main_v136, val_main_v135, val_main_v121, val_main_v120, val_main_v134, val_main_v133, val_main_v119,
    val_main_v12, val_main_v25, val_main_cst_18, val_main_cst_20, val_main_cst_22, dbr_at, dbi_at]
  simp only [Finset.univ_unique, Finset.sum_const, Finset.card_singleton, one_smul]

theorem row_eq (x : FVec Ideal S1x1024 .f32) : x (ix2 0 ⟨(gr l).val * 64 + (pp l).val, by unfold gr pp; dsimp only; omega⟩) = x (ix2 0 l) :=
  congrArg x (congrArg (ix2 _) (Fin.ext (by unfold gr pp; dsimp only; omega)))

theorem dlim_at : val_main_v191 (F := Ideal) x0 x1 x2 x3 x4 x7 x8 x9 (ix2 (gr l) (pp l)) = (lane x0 x1 x2 x3 x4 x7 x8 x9 l).dlim := by
  pointwise [val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v177, val_main_v178, val_main_v179, val_main_v180, val_main_v181, val_main_v182, val_main_v183, val_main_v184, val_main_v185, val_main_v189, val_main_v190, val_main_v191, val_main_v192, val_main_v193, val_main_v197, val_main_v198, val_main_v199, val_main_v202, val_main_cst_7, val_main_cst_8, val_main_cst_9, val_main_cst_10, val_main_cst_11, val_main_cst_12, val_main_cst_13, val_main_cst_14, val_main_cst_15, val_main_cst_16]
  simp only [row_eq]
  rfl

theorem dlre_at : val_main_v202 (F := Ideal) x0 x1 x2 x3 x4 x7 x8 x9 (ix2 (gr l) (pp l)) = (lane x0 x1 x2 x3 x4 x7 x8 x9 l).dlre := by
  pointwise [val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v177, val_main_v178, val_main_v179, val_main_v180, val_main_v181, val_main_v182, val_main_v183, val_main_v184, val_main_v185, val_main_v189, val_main_v190, val_main_v191, val_main_v192, val_main_v193, val_main_v197, val_main_v198, val_main_v199, val_main_v202, val_main_cst_7, val_main_cst_8, val_main_cst_9, val_main_cst_10, val_main_cst_11, val_main_cst_12, val_main_cst_13, val_main_cst_14, val_main_cst_15, val_main_cst_16]
  simp only [row_eq]
  rfl

theorem ddt1_at : val_main_v174 (F := Ideal) x0 x1 x2 x3 x4 x8 x9 (ix2 (gr l) (pp l)) = (lane x0 x1 x2 x3 x4 x7 x8 x9 l).ddt1 := by
  pointwise [val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v177, val_main_v178, val_main_v179, val_main_v180, val_main_v181, val_main_v182, val_main_v183, val_main_v184, val_main_v185, val_main_v189, val_main_v190, val_main_v191, val_main_v192, val_main_v193, val_main_v197, val_main_v198, val_main_v199, val_main_v202, val_main_cst_7, val_main_cst_8, val_main_cst_9, val_main_cst_10, val_main_cst_11, val_main_cst_12, val_main_cst_13, val_main_cst_14, val_main_cst_15, val_main_cst_16]
  simp only [row_eq]
  rfl

theorem ddt2_at : val_main_v185 (F := Ideal) x0 x1 x2 x3 x4 x7 x9 (ix2 (gr l) (pp l)) = (lane x0 x1 x2 x3 x4 x7 x8 x9 l).ddt2 := by
  pointwise [val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v177, val_main_v178, val_main_v179, val_main_v180, val_main_v181, val_main_v182, val_main_v183, val_main_v184, val_main_v185, val_main_v189, val_main_v190, val_main_v191, val_main_v192, val_main_v193, val_main_v197, val_main_v198, val_main_v199, val_main_v202, val_main_cst_7, val_main_cst_8, val_main_cst_9, val_main_cst_10, val_main_cst_11, val_main_cst_12, val_main_cst_13, val_main_cst_14, val_main_cst_15, val_main_cst_16]
  simp only [row_eq]
  rfl

theorem ddt3_at : val_main_v193 (F := Ideal) x0 x1 x2 x3 x4 x7 x8 x9 (ix2 (gr l) (pp l)) = (lane x0 x1 x2 x3 x4 x7 x8 x9 l).ddt3 := by
  pointwise [val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v177, val_main_v178, val_main_v179, val_main_v180, val_main_v181, val_main_v182, val_main_v183, val_main_v184, val_main_v185, val_main_v189, val_main_v190, val_main_v191, val_main_v192, val_main_v193, val_main_v197, val_main_v198, val_main_v199, val_main_v202, val_main_cst_7, val_main_cst_8, val_main_cst_9, val_main_cst_10, val_main_cst_11, val_main_cst_12, val_main_cst_13, val_main_cst_14, val_main_cst_15, val_main_cst_16]
  simp only [row_eq]
  rfl

theorem dbre_at (h : Fin 16) : val_main_v132 (F := Ideal) x0 x1 x2 x9 (ix3 (gr l) (pp l) h)
    = (lane x0 x1 x2 x3 x4 x7 x8 x9 l).fi * own x9 1 (by omega) h l + (lane x0 x1 x2 x3 x4 x7 x8 x9 l).fr * own x9 0 (by omega) h l := by
  pointwise [val_main_v132, val_main_v113, val_main_v112, val_main_v131, val_main_v130, val_main_v12, val_main_v25, dbr_at, dbi_at, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v177, val_main_v178, val_main_v179, val_main_v180, val_main_v181, val_main_v182, val_main_v183, val_main_v184, val_main_v185, val_main_v189, val_main_v190, val_main_v191, val_main_v192, val_main_v193, val_main_v197, val_main_v198, val_main_v199, val_main_v202, val_main_cst_7, val_main_cst_8, val_main_cst_9, val_main_cst_10, val_main_cst_11, val_main_cst_12, val_main_cst_13, val_main_cst_14, val_main_cst_15, val_main_cst_16]
  rfl

theorem dbim_at (h : Fin 16) : val_main_v125 (F := Ideal) x0 x1 x2 x9 (ix3 (gr l) (pp l) h)
    = (lane x0 x1 x2 x3 x4 x7 x8 x9 l).fr * own x9 1 (by omega) h l + (lane x0 x1 x2 x3 x4 x7 x8 x9 l).fi * -own x9 0 (by omega) h l := by
  pointwise [val_main_v125, val_main_v118, val_main_v117, val_main_v124, val_main_v123, val_main_v122, val_main_v12, val_main_v25, dbr_at, dbi_at, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v177, val_main_v178, val_main_v179, val_main_v180, val_main_v181, val_main_v182, val_main_v183, val_main_v184, val_main_v185, val_main_v189, val_main_v190, val_main_v191, val_main_v192, val_main_v193, val_main_v197, val_main_v198, val_main_v199, val_main_v202, val_main_cst_7, val_main_cst_8, val_main_cst_9, val_main_cst_10, val_main_cst_11, val_main_cst_12, val_main_cst_13, val_main_cst_14, val_main_cst_15, val_main_cst_16]
  rfl

end

theorem ddt_at (x0 x1 : FVec Ideal S16x64 .f32) (x2 : FVec Ideal S16 .f32) (x3 x4 : FVec Ideal S16x64x16 .f32) (x7 x8 : FVec Ideal S1x1024 .f32)
    (x9 : FVec Ideal S256x2048 .f32) (g : Fin 16) : val_main_v201 (F := Ideal) x0 x1 x2 x3 x4 x7 x8 x9 (ix1 g)
    = ((∑ p : Fin 64, val_main_v174 (F := Ideal) x0 x1 x2 x3 x4 x8 x9 (ix2 g p)) + (∑ p : Fin 64, val_main_v185 (F := Ideal) x0 x1 x2 x3 x4 x7 x9 (ix2 g p))
        + ∑ p : Fin 64, val_main_v193 (F := Ideal) x0 x1 x2 x3 x4 x7 x8 x9 (ix2 g p)) * Ideal.exp (x2 (ix1 g)) := by
  pointwise [val_main_v201, val_main_v200, val_main_v196, val_main_v195, val_main_v194, val_main_v188, val_main_v187, val_main_v186, val_main_v176, val_main_v175,
    val_main_v62, val_main_cst_23, val_main_cst_24, val_main_cst_25, val_main_cst_26]
  simp only [Finset.univ_unique, Finset.sum_const, Finset.card_singleton, one_smul]

end Cert.ReferencePrepIdeal.Prep

end
-- ==== Proof.PrepFwd.lean ====
/- The discretisation's forward call, set beside the reference's results. -/
module

public import proofs.«01_k».proof.Proof.PR
public import proofs.«01_k».proof.Proof.Gen.KernelPrepFwdIdeal.Value
public import proofs.«01_k».proof.Proof.Gen.ReferencePrepFwdIdeal.Run
public import proofs.«01_k».proof.Proof.Gen.ReferencePrepFwdIdeal.Read
public import proofs.«01_k».proof.Proof.Gen.KernelPrepFwd.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pointwise

@[expose] public section

set_option maxRecDepth 16384

noncomputable section

namespace Cert.KernelPrepFwdIdeal.PrepFwd

open Idealize.ShloMosaic Idealize.ShloMosaic.TcCoe Idealize.SL.Sem
open Idealize.ShloMosaic.Pipeline (Dat)
open Cert.KernelPrepFwdIdeal Cert.KernelPrepFwdIdeal.Gen
open Cert.KernelPrepIdeal.Prep (lane_group row_group equal_at)
open Cert.ReferencePrepIdeal.Prep (gr pp equal_iff)

/-! ## The body at a lane -/

/-- the discretised numbers of a lane -/
structure Pt where
  (lr li e : EReal)

namespace Pt
variable (p : Pt)
def x : EReal := min p.lr (Ideal.ofBits FTy.f32 3100751639#32)
def ar : EReal := Ideal.exp (p.x * p.e) * Ideal.cos (p.li * p.e)
def ai : EReal := Ideal.exp (p.x * p.e) * Ideal.sin (p.li * p.e)
def n2 : EReal := p.x * p.x + p.li * p.li
def fr : EReal := Ideal.div ((p.ar - 1) * p.x + p.ai * p.li) p.n2
def fi : EReal := Ideal.div (p.ai * p.x - (p.ar - 1) * p.li) p.n2
end Pt

abbrev io : IVec S128x1024 32 := iota .tc S128x1024 32 [0] iota_S128x1024_d0_w32

theorem step_at (v5 : FVec Ideal S1x128 .f32) (l : Fin 1024) :
    k0_pay12 (F := Ideal) v5 io k0_pay9 k0_pay10 k0_pay11 (ix2 0 l) = Ideal.exp (v5 (ix2 0 ⟨l.val / 64, by omega⟩)) := by
  pointwise [k0_pay12, k0_pay9, k0_pay10, k0_pay11, io]
  refine congrArg Ideal.exp ?_
  rw [lane_group l, Finset.sum_eq_single (⟨l.val / 64, by omega⟩ : Fin 128)]
  · rw [equal_at (l.val / 64) (l.val / 64) (by omega) (by omega), if_pos rfl, mul_one]
  · intro b _ hb
    rw [equal_at b.val (l.val / 64) (by omega) (by omega), if_neg (fun e => hb (Fin.ext e.symm)), mul_zero]
  · intro h; exact absurd (Finset.mem_univ _) h

section
variable (v1 v3 : FVec Ideal S1x1024 .f32) (v5 : FVec Ideal S1x128 .f32) (v7 v9 v11 v13 : FVec Ideal S16x1024 .f32) (h : Fin 16) (l : Fin 1024)

def lane : Pt := ⟨v1 (ix2 0 l), v3 (ix2 0 l), Ideal.exp (v5 (ix2 0 ⟨l.val / 64, by omega⟩))⟩

theorem ar_at : k0_pay15 (F := Ideal) v1 v3 v5 io k0_pay9 k0_pay10 k0_pay11 (ix2 0 l) = (lane v1 v3 v5 l).ar := by
  pointwise [k0_pay15, k0_pay14, k0_pay13, step_at]
  rfl

theorem ai_at : k0_pay16 (F := Ideal) v1 v3 v5 io k0_pay9 k0_pay10 k0_pay11 (ix2 0 l) = (lane v1 v3 v5 l).ai := by
  pointwise [k0_pay16, k0_pay14, k0_pay13, step_at]
  rfl

theorem br_at : k0_pay20 (F := Ideal) v1 v3 v5 v7 v9 io k0_pay9 k0_pay10 k0_pay11 (ix2 h l)
    = (lane v1 v3 v5 l).fr * v7 (ix2 h l) - (lane v1 v3 v5 l).fi * v9 (ix2 h l) := by
  pointwise [k0_pay20, k0_pay19, k0_pay18, k0_pay17, k0_pay13, ar_at, ai_at]
  rfl

theorem bi_at : k0_pay21 (F := Ideal) v1 v3 v5 v7 v9 io k0_pay9 k0_pay10 k0_pay11 (ix2 h l)
    = (lane v1 v3 v5 l).fr * v9 (ix2 h l) + (lane v1 v3 v5 l).fi * v7 (ix2 h l) := by
  pointwise [k0_pay21, k0_pay19, k0_pay18, k0_pay17, k0_pay13, ar_at, ai_at]
  rfl

end

/-! ## The dense arrays -/

/-- the 0/1 matrix that keeps a lane's own group -/
abbrev mask : FVec Ideal S256x1024 .f32 :=
  k0_pay25 (F := Ideal) (iota .tc S256x1024 32 [0] iota_S256x1024_d0_w32) (iota .tc S256x1024 32 [1] iota_S256x1024_d1_w32) 16#32 k0_pay22 k0_pay23 k0_pay24

theorem mask_at (k : Fin 256) (l : Fin 1024) : mask (ix2 k l) = if l.val / 64 = k.val / 16 then 1 else 0 := by
  pointwise [mask, k0_pay25, k0_pay24, k0_pay23, k0_pay22]
  rw [lane_group l, row_group k]
  exact equal_at (k.val / 16) (l.val / 64) (by omega) (by omega)

theorem pair_at (x y : FVec Ideal S256x1024 .f32) (k : Fin 256) (j : Fin 2048) :
    concatenate S256x2048 1 [⟨S256x1024, x⟩, ⟨S256x1024, y⟩] concatenates_S256x1024_S256x1024_S256x2048_d1 (ix2 k j)
      = if h : j.val < 1024 then x (ix2 k ⟨j.val, h⟩) else y (ix2 k ⟨j.val - 1024, by omega⟩) := by
  pointwise []

/-- sixteen copies of sixteen rows, kept in the lane's own group -/
theorem stack_at (x : FVec Ideal S16x1024 .f32) (k : Fin 256) (l : Fin 1024) :
    mulf (concatenate S256x1024 0 (List.replicate 16 (⟨S16x1024, x⟩ : (s : Shape) × (s.Idx → EReal))) concatenates_S16x1024_S16x1024_S16x1024_S16x1024_S16x1024_S16x1024_S16x1024_S16x1024_S16x1024_S16x1024_S16x1024_S16x1024_S16x1024_S16x1024_S16x1024_S16x1024_S256x1024_d0 : FVec Ideal S256x1024 .f32) mask (ix2 k l)
      = if l.val / 64 = k.val / 16 then x (ix2 ⟨k.val % 16, by omega⟩ l) else 0 := by
  have e := concatenate_replicate_apply (t := S256x1024) (s₁ := S16x1024) 0 16 x
    concatenates_S16x1024_S16x1024_S16x1024_S16x1024_S16x1024_S16x1024_S16x1024_S16x1024_S16x1024_S16x1024_S16x1024_S16x1024_S16x1024_S16x1024_S16x1024_S16x1024_S256x1024_d0
    rfl (ix2 k l) (ix2 ⟨k.val % 16, by omega⟩ l) rfl (fun b hb => match b, hb with
      | ⟨0, _⟩, hb => absurd rfl hb
      | ⟨1, _⟩, _ => rfl)
  refine (congrArg₂ (· * ·) e (mask_at k l)).trans ?_
  split
  · exact mul_one _
  · exact mul_zero _

/-- one array's rows in the dense layout -/
def dense (x y : FVec Ideal S16x1024 .f32) (k : Fin 256) (j : Fin 2048) : EReal :=
  if h : j.val < 1024 then (if j.val / 64 = k.val / 16 then x (ix2 ⟨k.val % 16, by omega⟩ ⟨j.val, h⟩) else 0)
  else (if (j.val - 1024) / 64 = k.val / 16 then y (ix2 ⟨k.val % 16, by omega⟩ ⟨j.val - 1024, by omega⟩) else 0)

theorem bemb_at (x y : FVec Ideal S16x1024 .f32) (k : Fin 256) (j : Fin 2048) :
    k0_pay26 (F := Ideal) x y (iota .tc S256x1024 32 [0] iota_S256x1024_d0_w32) (iota .tc S256x1024 32 [1] iota_S256x1024_d1_w32) 16#32 k0_pay22 k0_pay23 k0_pay24 (ix2 k j)
      = dense x y k j := by
  refine (pair_at _ _ k j).trans ?_
  unfold dense
  split
  · exact stack_at x k _
  · exact stack_at y k _

theorem cemb_at (x y : FVec Ideal S16x1024 .f32) (k : Fin 256) (j : Fin 2048) :
    k0_pay1 (F := Ideal) x y mask (ix2 k j) = dense x (fun i => 0 - y i) k j := by
  refine (pair_at _ _ k j).trans ?_
  unfold dense
  split
  · exact stack_at x k _
  · refine (stack_at _ k _).trans ?_
    refine if_congr Iff.rfl ?_ rfl
    exact congrArg (fun z => z - y _) Ideal.ofBits_zero_f32

/-! ## The packed arguments -/

variable (m : (ℓ : Loc nD τ sig) → Buf (Elt Ideal) ℓ)

theorem idx_val : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0] :=
  (by decide +kernel : ∀ t : Fin grid0.N, _)

abbrev X0 (c : Dev nD) : FVec Ideal S16x64 .f32 := m ((c : Thread nD τ).loc main_arg0)
abbrev X1 (c : Dev nD) : FVec Ideal S16x64 .f32 := m ((c : Thread nD τ).loc main_arg1)
abbrev X2 (c : Dev nD) : FVec Ideal S16 .f32 := m ((c : Thread nD τ).loc main_arg2)
abbrev X3 (c : Dev nD) : FVec Ideal S16x64x16 .f32 := m ((c : Thread nD τ).loc main_arg3)
abbrev X4 (c : Dev nD) : FVec Ideal S16x64x16 .f32 := m ((c : Thread nD τ).loc main_arg4)
abbrev X5 (c : Dev nD) : FVec Ideal S16x16x64 .f32 := m ((c : Thread nD τ).loc main_arg5)
abbrev X6 (c : Dev nD) : FVec Ideal S16x16x64 .f32 := m ((c : Thread nD τ).loc main_arg6)

section
variable (c : Dev nD)

theorem host2_at (k : Fin 16) : (V m c main_v3 : FVec Ideal S1x128 .f32) (ix2 0 ⟨k.val, by omega⟩) = X2 m c (ix1 k) := by
  unfold V
  simp only [hostOps0, hostOps0_1, hostOps0_2, List.flatten_cons, List.flatten_nil, List.append_nil, List.cons_append, List.nil_append]
  after_reads_at

theorem host0_at (l : Fin 1024) : (V m c main_v0 : FVec Ideal S1x1024 .f32) (ix2 0 l) = X0 m c (ix2 (gr l) (pp l)) := by
  unfold V
  simp only [hostOps0, hostOps0_1, hostOps0_2, List.flatten_cons, List.flatten_nil, List.append_nil, List.cons_append, List.nil_append]
  after_reads_at
  rfl

theorem host1_at (l : Fin 1024) : (V m c main_v1 : FVec Ideal S1x1024 .f32) (ix2 0 l) = X1 m c (ix2 (gr l) (pp l)) := by
  unfold V
  simp only [hostOps0, hostOps0_1, hostOps0_2, List.flatten_cons, List.flatten_nil, List.append_nil, List.cons_append, List.nil_append]
  after_reads_at
  rfl

theorem host3_at (h : Fin 16) (l : Fin 1024) : (V m c main_v5 : FVec Ideal S16x1024 .f32) (ix2 h l) = X3 m c (ix3 (gr l) (pp l) h) := by
  unfold V
  simp only [hostOps0, hostOps0_1, hostOps0_2, List.flatten_cons, List.flatten_nil, List.append_nil, List.cons_append, List.nil_append]
  after_reads_at
  rfl

theorem host4_at (h : Fin 16) (l : Fin 1024) : (V m c main_v7 : FVec Ideal S16x1024 .f32) (ix2 h l) = X4 m c (ix3 (gr l) (pp l) h) := by
  unfold V
  simp only [hostOps0, hostOps0_1, hostOps0_2, List.flatten_cons, List.flatten_nil, List.append_nil, List.cons_append, List.nil_append]
  after_reads_at
  rfl

theorem host5_at (h : Fin 16) (l : Fin 1024) : (V m c main_v9 : FVec Ideal S16x1024 .f32) (ix2 h l) = X5 m c (ix3 (gr l) h (pp l)) := by
  unfold V
  simp only [hostOps0, hostOps0_1, hostOps0_2, List.flatten_cons, List.flatten_nil, List.append_nil, List.cons_append, List.nil_append]
  after_reads_at
  rfl

theorem host6_at (h : Fin 16) (l : Fin 1024) : (V m c main_v11 : FVec Ideal S16x1024 .f32) (ix2 h l) = X6 m c (ix3 (gr l) h (pp l)) := by
  unfold V
  simp only [hostOps0, hostOps0_1, hostOps0_2, List.flatten_cons, List.flatten_nil, List.append_nil, List.cons_append, List.nil_append]
  after_reads_at
  rfl

end

section Tile

variable (c : Dev nD) (t : Fin cfg0.N)

abbrev v1 : FVec Ideal S1x1024 .f32 := k0_pay2 (F := Ideal) (iblk m c 0 t)
abbrev v3 : FVec Ideal S1x1024 .f32 := k0_pay3 (F := Ideal) (iblk m c 1 t)
abbrev v5 : FVec Ideal S1x128 .f32 := k0_pay4 (F := Ideal) (iblk m c 2 t)
abbrev v7 : FVec Ideal S16x1024 .f32 := k0_pay5 (F := Ideal) (iblk m c 3 t)
abbrev v9 : FVec Ideal S16x1024 .f32 := k0_pay6 (F := Ideal) (iblk m c 4 t)
abbrev v11 : FVec Ideal S16x1024 .f32 := k0_pay7 (F := Ideal) (iblk m c 5 t)
abbrev v13 : FVec Ideal S16x1024 .f32 := k0_pay8 (F := Ideal) (iblk m c 6 t)

theorem v1_at (l : Fin 1024) : v1 m c t (ix2 0 l) = X0 m c (ix2 (gr l) (pp l)) := by
  refine Eq.trans ?_ (host0_at m c l)
  pointwise [v1, k0_pay2]
  blk_simp [iblk, idx_val t]
  blk_ext [idx_val t]

theorem v3_at (l : Fin 1024) : v3 m c t (ix2 0 l) = X1 m c (ix2 (gr l) (pp l)) := by
  refine Eq.trans ?_ (host1_at m c l)
  pointwise [v3, k0_pay3]
  blk_simp [iblk, idx_val t]
  blk_ext [idx_val t]

theorem v5_at (k : Fin 16) : v5 m c t (ix2 0 ⟨k.val, by omega⟩) = X2 m c (ix1 k) := by
  refine Eq.trans ?_ (host2_at m c k)
  pointwise [v5, k0_pay4]
  blk_simp [iblk, idx_val t]
  blk_ext [idx_val t]

theorem v7_at (h : Fin 16) (l : Fin 1024) : v7 m c t (ix2 h l) = X3 m c (ix3 (gr l) (pp l) h) := by
  refine Eq.trans ?_ (host3_at m c h l)
  pointwise [v7, k0_pay5]
  blk_simp [iblk, idx_val t]
  blk_ext [idx_val t]

theorem v9_at (h : Fin 16) (l : Fin 1024) : v9 m c t (ix2 h l) = X4 m c (ix3 (gr l) (pp l) h) := by
  refine Eq.trans ?_ (host4_at m c h l)
  pointwise [v9, k0_pay6]
  blk_simp [iblk, idx_val t]
  blk_ext [idx_val t]

theorem v11_at (h : Fin 16) (l : Fin 1024) : v11 m c t (ix2 h l) = X5 m c (ix3 (gr l) h (pp l)) := by
  refine Eq.trans ?_ (host5_at m c h l)
  pointwise [v11, k0_pay7]
  blk_simp [iblk, idx_val t]
  blk_ext [idx_val t]

theorem v13_at (h : Fin 16) (l : Fin 1024) : v13 m c t (ix2 h l) = X6 m c (ix3 (gr l) h (pp l)) := by
  refine Eq.trans ?_ (host6_at m c h l)
  pointwise [v13, k0_pay8]
  blk_simp [iblk, idx_val t]
  blk_ext [idx_val t]

end Tile

/-! ## The reference -/

section Reference
open Cert.ReferencePrepFwdIdeal.Read

variable (x0 x1 : FVec Ideal S16x64 .f32) (x2 : FVec Ideal S16 .f32) (x3 x4 : FVec Ideal S16x64x16 .f32) (x5 x6 : FVec Ideal S16x16x64 .f32)

/-- the lane's numbers from the arguments -/
def rl (g : Fin 16) (p : Fin 64) : Pt := ⟨x0 (ix2 g p), x1 (ix2 g p), Ideal.exp (x2 (ix1 g))⟩

theorem rar_at (g : Fin 16) (p : Fin 64) : val_main_v10 (F := Ideal) x0 x1 x2 (ix2 g p) = (rl x0 x1 x2 g p).ar := by
  pointwise [val_main_v10, val_main_v9, val_main_v8, val_main_v7, val_main_v6, val_main_v5, val_main_v4, val_main_v3, val_main_v2, val_main_v1, val_main_v0, val_main_cst]
  rfl

theorem rai_at (g : Fin 16) (p : Fin 64) : val_main_v14 (F := Ideal) x0 x1 x2 (ix2 g p) = (rl x0 x1 x2 g p).ai := by
  pointwise [val_main_v14, val_main_v13, val_main_v12, val_main_v11, val_main_v6, val_main_v5, val_main_v4, val_main_v3, val_main_v2, val_main_v1, val_main_v0, val_main_cst]
  rfl

theorem rfr_at (g : Fin 16) (p : Fin 64) : val_main_v23 (F := Ideal) x0 x1 x2 (ix2 g p) = (rl x0 x1 x2 g p).fr := by
  pointwise [val_main_v23, val_main_v22, val_main_v21, val_main_v20, val_main_v19, val_main_v18, val_main_v17, val_main_v16, val_main_v15, val_main_v1, val_main_v0, val_main_cst, val_main_cst_0, rar_at, rai_at]
  rfl

theorem rfi_at (g : Fin 16) (p : Fin 64) : val_main_v29 (F := Ideal) x0 x1 x2 (ix2 g p) = (rl x0 x1 x2 g p).fi := by
  pointwise [val_main_v29, val_main_v28, val_main_v27, val_main_v26, val_main_v25, val_main_v24, val_main_v17, val_main_v16, val_main_v15, val_main_v1, val_main_v0, val_main_cst, val_main_cst_1, rar_at, rai_at]
  rfl

theorem select_eq (a b : Fin 16) (x : EReal) : Scalar.select (IntOp.cmpi CmpIPredicate.eq (BitVec.ofNat 32 a.val) (BitVec.ofNat 32 b.val)) x 0
    = if b.val = a.val then x else 0 := by
  rw [equal_iff]
  by_cases e : a = b
  · subst e; rw [if_pos rfl, if_pos rfl]; rfl
  · rw [if_neg e, if_neg (fun h => e (Fin.ext h.symm))]; rfl

theorem zero_at : id (constant S_ FTy.f32 (0#32) : FVec Ideal S_ .f32) ix0 = 0 := Ideal.ofBits_zero_f32

theorem r55_at (k : Fin 256) (l : Fin 1024) : val_main_v55 (F := Ideal) x0 x1 x2 x3 x4 (ix2 k l)
    = if l.val / 64 = k.val / 16 then val_main_v36 (F := Ideal) x0 x1 x2 x3 x4 (ix3 (gr l) (pp l) ⟨k.val % 16, by omega⟩) else 0 := by
  pointwise [val_main_v55, val_main_v54, val_main_v53, val_main_v52, val_main_v51, val_main_v50, val_main_v49, val_main_v48, val_main_v47, val_main_v46, val_main_v45, val_main_v44, val_main_call0_v0, val_main_call0_v1, val_main_call0_v2, val_main_call0_v3, val_main_cst_2]
  rw [zero_at]
  exact select_eq ⟨k.val / 16, by omega⟩ ⟨l.val / 64, by omega⟩ _

theorem r67_at (k : Fin 256) (l : Fin 1024) : val_main_v67 (F := Ideal) x0 x1 x2 x3 x4 (ix2 k l)
    = if l.val / 64 = k.val / 16 then val_main_v41 (F := Ideal) x0 x1 x2 x3 x4 (ix3 (gr l) (pp l) ⟨k.val % 16, by omega⟩) else 0 := by
  pointwise [val_main_v67, val_main_v66, val_main_v65, val_main_v64, val_main_v63, val_main_v62, val_main_v61, val_main_v60, val_main_v59, val_main_v58, val_main_v57, val_main_v56, val_main_call1_v0, val_main_call1_v1, val_main_call1_v2, val_main_call1_v3, val_main_cst_3]
  rw [zero_at]
  exact select_eq ⟨k.val / 16, by omega⟩ ⟨l.val / 64, by omega⟩ _

theorem r80_at (k : Fin 256) (l : Fin 1024) : val_main_v80 (F := Ideal) x5 (ix2 k l)
    = if l.val / 64 = k.val / 16 then x5 (ix3 (gr l) ⟨k.val % 16, by omega⟩ (pp l)) else 0 := by
  pointwise [val_main_v80, val_main_v79, val_main_v78, val_main_v77, val_main_v76, val_main_v75, val_main_v74, val_main_v73, val_main_v72, val_main_v71, val_main_v70, val_main_v69, val_main_call2_v0, val_main_call2_v1, val_main_call2_v2, val_main_call2_v3, val_main_cst_4]
  rw [zero_at]
  exact select_eq ⟨k.val / 16, by omega⟩ ⟨l.val / 64, by omega⟩ _

theorem r93_at (k : Fin 256) (l : Fin 1024) : val_main_v93 (F := Ideal) x6 (ix2 k l)
    = if l.val / 64 = k.val / 16 then -x6 (ix3 (gr l) ⟨k.val % 16, by omega⟩ (pp l)) else 0 := by
  pointwise [val_main_v93, val_main_v92, val_main_v91, val_main_v90, val_main_v89, val_main_v88, val_main_v87, val_main_v86, val_main_v85, val_main_v84, val_main_v83, val_main_v82, val_main_v81, val_main_call3_v0, val_main_call3_v1, val_main_call3_v2, val_main_call3_v3, val_main_cst_5]
  rw [zero_at]
  exact select_eq ⟨k.val / 16, by omega⟩ ⟨l.val / 64, by omega⟩ _

theorem r36_at (g : Fin 16) (p : Fin 64) (h : Fin 16) : val_main_v36 (F := Ideal) x0 x1 x2 x3 x4 (ix3 g p h)
    = (rl x0 x1 x2 g p).fr * x3 (ix3 g p h) - (rl x0 x1 x2 g p).fi * x4 (ix3 g p h) := by
  pointwise [val_main_v36, val_main_v35, val_main_v34, val_main_v33, val_main_v32, val_main_v31, val_main_v30, rfr_at, rfi_at]

theorem r41_at (g : Fin 16) (p : Fin 64) (h : Fin 16) : val_main_v41 (F := Ideal) x0 x1 x2 x3 x4 (ix3 g p h)
    = (rl x0 x1 x2 g p).fr * x4 (ix3 g p h) + (rl x0 x1 x2 g p).fi * x3 (ix3 g p h) := by
  pointwise [val_main_v41, val_main_v40, val_main_v39, val_main_v38, val_main_v37, val_main_v31, val_main_v30, rfr_at, rfi_at]

theorem r68_at (k : Fin 256) (j : Fin 2048) : val_main_v68 (F := Ideal) x0 x1 x2 x3 x4 (ix2 k j)
    = if h : j.val < 1024 then val_main_v55 (F := Ideal) x0 x1 x2 x3 x4 (ix2 k ⟨j.val, h⟩) else val_main_v67 (F := Ideal) x0 x1 x2 x3 x4 (ix2 k ⟨j.val - 1024, by omega⟩) :=
  pair_at (val_main_v55 (F := Ideal) x0 x1 x2 x3 x4) (val_main_v67 (F := Ideal) x0 x1 x2 x3 x4) k j

theorem r94_at (k : Fin 256) (j : Fin 2048) : val_main_v94 (F := Ideal) x5 x6 (ix2 k j)
    = if h : j.val < 1024 then val_main_v80 (F := Ideal) x5 (ix2 k ⟨j.val, h⟩) else val_main_v93 (F := Ideal) x6 (ix2 k ⟨j.val - 1024, by omega⟩) :=
  pair_at (val_main_v80 (F := Ideal) x5) (val_main_v93 (F := Ideal) x6) k j

end Reference

/-! ## The two together -/

section Final
open Cert.ReferencePrepFwdIdeal.Read

variable (c : Dev nD)

theorem lane_eq (t : Fin cfg0.N) (l : Fin 1024) : lane (v1 m c t) (v3 m c t) (v5 m c t) l = rl (X0 m c) (X1 m c) (X2 m c) (gr l) (pp l) := by
  unfold lane rl
  rw [v1_at, v3_at]
  exact congrArg (fun z => Pt.mk _ _ (Ideal.exp z)) (v5_at m c t (gr l))

theorem one (y : S1x1024.Idx) : y = ix2 0 (y 1) := by
  refine (eq_ix2 y).trans (congrArg (fun z => ix2 z (y 1)) (Subsingleton.elim _ _))

abbrev o7 (t : Fin cfg0.N) : FVec Ideal S1x1024 .f32 := k0_pay15 (F := Ideal) (v1 m c t) (v3 m c t) (v5 m c t) io k0_pay9 k0_pay10 k0_pay11
abbrev o8 (t : Fin cfg0.N) : FVec Ideal S1x1024 .f32 := k0_pay16 (F := Ideal) (v1 m c t) (v3 m c t) (v5 m c t) io k0_pay9 k0_pay10 k0_pay11
abbrev q20 (t : Fin cfg0.N) : FVec Ideal S16x1024 .f32 := k0_pay20 (F := Ideal) (v1 m c t) (v3 m c t) (v5 m c t) (v7 m c t) (v9 m c t) io k0_pay9 k0_pay10 k0_pay11
abbrev q21 (t : Fin cfg0.N) : FVec Ideal S16x1024 .f32 := k0_pay21 (F := Ideal) (v1 m c t) (v3 m c t) (v5 m c t) (v7 m c t) (v9 m c t) io k0_pay9 k0_pay10 k0_pay11
abbrev o9 (t : Fin cfg0.N) : FVec Ideal S256x2048 .f32 := k0_pay26 (F := Ideal) (q20 m c t) (q21 m c t) (iota .tc S256x1024 32 [0] iota_S256x1024_d0_w32) (iota .tc S256x1024 32 [1] iota_S256x1024_d1_w32) 16#32 k0_pay22 k0_pay23 k0_pay24
abbrev o10 (t : Fin cfg0.N) : FVec Ideal S256x2048 .f32 := k0_pay1 (F := Ideal) (v11 m c t) (v13 m c t) mask

theorem q20_at (t : Fin cfg0.N) (h : Fin 16) (l : Fin 1024) : q20 m c t (ix2 h l) = val_main_v36 (F := Ideal) (X0 m c) (X1 m c) (X2 m c) (X3 m c) (X4 m c) (ix3 (gr l) (pp l) h) := by
  rw [q20, br_at, lane_eq, v7_at, v9_at, r36_at]

theorem q21_at (t : Fin cfg0.N) (h : Fin 16) (l : Fin 1024) : q21 m c t (ix2 h l) = val_main_v41 (F := Ideal) (X0 m c) (X1 m c) (X2 m c) (X3 m c) (X4 m c) (ix3 (gr l) (pp l) h) := by
  rw [q21, bi_at, lane_eq, v7_at, v9_at, r41_at]

theorem tile7 (t : Fin cfg0.N) (l : Fin 1024) : o7 m c t (ix2 0 l) = val_main_v42 (F := Ideal) (X0 m c) (X1 m c) (X2 m c) (ix2 0 l) := by
  rw [o7, ar_at, lane_eq, ← rar_at]
  pointwise [val_main_v42]
  rfl

theorem tile8 (t : Fin cfg0.N) (l : Fin 1024) : o8 m c t (ix2 0 l) = val_main_v43 (F := Ideal) (X0 m c) (X1 m c) (X2 m c) (ix2 0 l) := by
  rw [o8, ai_at, lane_eq, ← rai_at]
  pointwise [val_main_v43]
  rfl

theorem tile9 (t : Fin cfg0.N) (k : Fin 256) (j : Fin 2048) : o9 m c t (ix2 k j) = val_main_v68 (F := Ideal) (X0 m c) (X1 m c) (X2 m c) (X3 m c) (X4 m c) (ix2 k j) := by
  rw [o9, bemb_at, r68_at]
  unfold dense
  split
  · rw [q20_at, r55_at]
  · rw [q21_at, r67_at]

theorem tile10 (t : Fin cfg0.N) (k : Fin 256) (j : Fin 2048) : o10 m c t (ix2 k j) = val_main_v94 (F := Ideal) (X5 m c) (X6 m c) (ix2 k j) := by
  rw [o10, cemb_at, r94_at]
  unfold dense
  split
  · rw [v11_at, r80_at]
  · dsimp only
    rw [v13_at, r93_at, zero_sub]

theorem final7 : (dats m 0 c).arrAt 7 (cfgs 0).N = val_main_v42 (F := Ideal) (X0 m c) (X1 m c) (X2 m c) := by
  have hmain : ∀ (t : Fin cfg0.N) (y : S1x1024.Idx), o7 m c t y = val_main_v42 (F := Ideal) (X0 m c) (X1 m c) (X2 m c) (((cfg0.win 7).blk t).view.emb y) := by
    intro t y
    rw [one y]
    refine (tile7 m c t (y 1)).trans ?_
    blk_ext! [idx_val t]
  refine (dats m 0 c).arrAt_eq_of_covers 7 _ (by decide +kernel) fun t hf y => ?_
  blk_simp; rw [after0_7]
  unfold_out out0_7
  frame_out
  exact hmain t y

theorem final8 : (dats m 0 c).arrAt 8 (cfgs 0).N = val_main_v43 (F := Ideal) (X0 m c) (X1 m c) (X2 m c) := by
  have hmain : ∀ (t : Fin cfg0.N) (y : S1x1024.Idx), o8 m c t y = val_main_v43 (F := Ideal) (X0 m c) (X1 m c) (X2 m c) (((cfg0.win 8).blk t).view.emb y) := by
    intro t y
    rw [one y]
    refine (tile8 m c t (y 1)).trans ?_
    blk_ext! [idx_val t]
  refine (dats m 0 c).arrAt_eq_of_covers 8 _ (by decide +kernel) fun t hf y => ?_
  blk_simp; rw [after0_8]
  unfold_out out0_8
  frame_out
  exact hmain t y

theorem final9 : (dats m 0 c).arrAt 9 (cfgs 0).N = val_main_v68 (F := Ideal) (X0 m c) (X1 m c) (X2 m c) (X3 m c) (X4 m c) := by
  have hmain : ∀ (t : Fin cfg0.N) (y : S256x2048.Idx), o9 m c t y = val_main_v68 (F := Ideal) (X0 m c) (X1 m c) (X2 m c) (X3 m c) (X4 m c) (((cfg0.win 9).blk t).view.emb y) := by
    intro t y
    rw [eq_ix2 y]
    refine (tile9 m c t (y 0) (y 1)).trans ?_
    blk_ext! [idx_val t]
  refine (dats m 0 c).arrAt_eq_of_covers 9 _ (by decide +kernel) fun t hf y => ?_
  blk_simp; rw [after0_9]
  unfold_out out0_9
  frame_out
  exact hmain t y

theorem final10 : (dats m 0 c).arrAt 10 (cfgs 0).N = val_main_v94 (F := Ideal) (X5 m c) (X6 m c) := by
  have hmain : ∀ (t : Fin cfg0.N) (y : S256x2048.Idx), o10 m c t y = val_main_v94 (F := Ideal) (X5 m c) (X6 m c) (((cfg0.win 10).blk t).view.emb y) := by
    intro t y
    rw [eq_ix2 y]
    refine (tile10 m c t (y 0) (y 1)).trans ?_
    blk_ext! [idx_val t]
  refine (dats m 0 c).arrAt_eq_of_covers 10 _ (by decide +kernel) fun t hf y => ?_
  blk_simp; rw [after0_10]
  unfold_out out0_10
  frame_out
  exact hmain t y

end Final

/-! ## The claims -/

theorem frame_kernel : Cert.quiescent_KernelPrepFwd := fun m ρ _ => Cert.KernelPrepFwd.Gen.frame m ρ

theorem frame_ideal : Cert.quiescent_KernelPrepFwdIdeal := fun m ρ _ => Cert.KernelPrepFwdIdeal.Gen.frame m ρ

theorem frame_reference : Cert.quiescent_ReferencePrepFwdIdeal := fun m ρ _ =>
  (θ_run Cert.ReferencePrepFwdIdeal.defs _ _).mono
    (fun r h => ⟨fun c => (h c).2.2.2.2, sem_eq_zero_of_no_sems (by decide) r.2⟩)
    (Cert.ReferencePrepFwdIdeal.Value.run m ρ)

open Cert.ReferencePrepFwdIdeal.Read in
theorem run_reference (m' : (ℓ : Loc Cert.ReferencePrepFwdIdeal.nD Cert.ReferencePrepFwdIdeal.τ Cert.ReferencePrepFwdIdeal.sig) → Buf (Elt Ideal) ℓ)
    (g' : Dev Cert.ReferencePrepFwdIdeal.nD → PrngReg) :
    θ_run (Cert.ReferencePrepFwdIdeal.defs (F := Ideal)) (onTc (τ := Cert.ReferencePrepFwdIdeal.τ) (Cert.ReferencePrepFwdIdeal.main (F := Ideal))) ⟨m', fun _ => 0, g'⟩
      fun r => ∀ c : Dev Cert.ReferencePrepFwdIdeal.nD,
      r.2.mem ((c.tc : Thread Cert.ReferencePrepFwdIdeal.nD Cert.ReferencePrepFwdIdeal.τ).loc Cert.ReferencePrepFwdIdeal.main_v42) = val_main_v42 (F := Ideal) (m' ((c.tc : Thread Cert.ReferencePrepFwdIdeal.nD Cert.ReferencePrepFwdIdeal.τ).loc Cert.ReferencePrepFwdIdeal.main_arg0)) (m' ((c.tc : Thread Cert.ReferencePrepFwdIdeal.nD Cert.ReferencePrepFwdIdeal.τ).loc Cert.ReferencePrepFwdIdeal.main_arg1)) (m' ((c.tc : Thread Cert.ReferencePrepFwdIdeal.nD Cert.ReferencePrepFwdIdeal.τ).loc Cert.ReferencePrepFwdIdeal.main_arg2))
      ∧ r.2.mem ((c.tc : Thread Cert.ReferencePrepFwdIdeal.nD Cert.ReferencePrepFwdIdeal.τ).loc Cert.ReferencePrepFwdIdeal.main_v43) = val_main_v43 (F := Ideal) (m' ((c.tc : Thread Cert.ReferencePrepFwdIdeal.nD Cert.ReferencePrepFwdIdeal.τ).loc Cert.ReferencePrepFwdIdeal.main_arg0)) (m' ((c.tc : Thread Cert.ReferencePrepFwdIdeal.nD Cert.ReferencePrepFwdIdeal.τ).loc Cert.ReferencePrepFwdIdeal.main_arg1)) (m' ((c.tc : Thread Cert.ReferencePrepFwdIdeal.nD Cert.ReferencePrepFwdIdeal.τ).loc Cert.ReferencePrepFwdIdeal.main_arg2))
      ∧ r.2.mem ((c.tc : Thread Cert.ReferencePrepFwdIdeal.nD Cert.ReferencePrepFwdIdeal.τ).loc Cert.ReferencePrepFwdIdeal.main_v68) = val_main_v68 (F := Ideal) (m' ((c.tc : Thread Cert.ReferencePrepFwdIdeal.nD Cert.ReferencePrepFwdIdeal.τ).loc Cert.ReferencePrepFwdIdeal.main_arg0)) (m' ((c.tc : Thread Cert.ReferencePrepFwdIdeal.nD Cert.ReferencePrepFwdIdeal.τ).loc Cert.ReferencePrepFwdIdeal.main_arg1)) (m' ((c.tc : Thread Cert.ReferencePrepFwdIdeal.nD Cert.ReferencePrepFwdIdeal.τ).loc Cert.ReferencePrepFwdIdeal.main_arg2)) (m' ((c.tc : Thread Cert.ReferencePrepFwdIdeal.nD Cert.ReferencePrepFwdIdeal.τ).loc Cert.ReferencePrepFwdIdeal.main_arg3)) (m' ((c.tc : Thread Cert.ReferencePrepFwdIdeal.nD Cert.ReferencePrepFwdIdeal.τ).loc Cert.ReferencePrepFwdIdeal.main_arg4))
      ∧ r.2.mem ((c.tc : Thread Cert.ReferencePrepFwdIdeal.nD Cert.ReferencePrepFwdIdeal.τ).loc Cert.ReferencePrepFwdIdeal.main_v94) = val_main_v94 (F := Ideal) (m' ((c.tc : Thread Cert.ReferencePrepFwdIdeal.nD Cert.ReferencePrepFwdIdeal.τ).loc Cert.ReferencePrepFwdIdeal.main_arg5)) (m' ((c.tc : Thread Cert.ReferencePrepFwdIdeal.nD Cert.ReferencePrepFwdIdeal.τ).loc Cert.ReferencePrepFwdIdeal.main_arg6))
      ∧ r.2.mem ((c.tc : Thread Cert.ReferencePrepFwdIdeal.nD Cert.ReferencePrepFwdIdeal.τ).loc Cert.ReferencePrepFwdIdeal.main_arg0) = m' ((c.tc : Thread Cert.ReferencePrepFwdIdeal.nD Cert.ReferencePrepFwdIdeal.τ).loc Cert.ReferencePrepFwdIdeal.main_arg0)
      ∧ r.2.mem ((c.tc : Thread Cert.ReferencePrepFwdIdeal.nD Cert.ReferencePrepFwdIdeal.τ).loc Cert.ReferencePrepFwdIdeal.main_arg1) = m' ((c.tc : Thread Cert.ReferencePrepFwdIdeal.nD Cert.ReferencePrepFwdIdeal.τ).loc Cert.ReferencePrepFwdIdeal.main_arg1)
      ∧ r.2.mem ((c.tc : Thread Cert.ReferencePrepFwdIdeal.nD Cert.ReferencePrepFwdIdeal.τ).loc Cert.ReferencePrepFwdIdeal.main_arg2) = m' ((c.tc : Thread Cert.ReferencePrepFwdIdeal.nD Cert.ReferencePrepFwdIdeal.τ).loc Cert.ReferencePrepFwdIdeal.main_arg2)
      ∧ r.2.mem ((c.tc : Thread Cert.ReferencePrepFwdIdeal.nD Cert.ReferencePrepFwdIdeal.τ).loc Cert.ReferencePrepFwdIdeal.main_arg3) = m' ((c.tc : Thread Cert.ReferencePrepFwdIdeal.nD Cert.ReferencePrepFwdIdeal.τ).loc Cert.ReferencePrepFwdIdeal.main_arg3)
      ∧ r.2.mem ((c.tc : Thread Cert.ReferencePrepFwdIdeal.nD Cert.ReferencePrepFwdIdeal.τ).loc Cert.ReferencePrepFwdIdeal.main_arg4) = m' ((c.tc : Thread Cert.ReferencePrepFwdIdeal.nD Cert.ReferencePrepFwdIdeal.τ).loc Cert.ReferencePrepFwdIdeal.main_arg4)
      ∧ r.2.mem ((c.tc : Thread Cert.ReferencePrepFwdIdeal.nD Cert.ReferencePrepFwdIdeal.τ).loc Cert.ReferencePrepFwdIdeal.main_arg5) = m' ((c.tc : Thread Cert.ReferencePrepFwdIdeal.nD Cert.ReferencePrepFwdIdeal.τ).loc Cert.ReferencePrepFwdIdeal.main_arg5)
      ∧ r.2.mem ((c.tc : Thread Cert.ReferencePrepFwdIdeal.nD Cert.ReferencePrepFwdIdeal.τ).loc Cert.ReferencePrepFwdIdeal.main_arg6) = m' ((c.tc : Thread Cert.ReferencePrepFwdIdeal.nD Cert.ReferencePrepFwdIdeal.τ).loc Cert.ReferencePrepFwdIdeal.main_arg6) :=
  (θ_run Cert.ReferencePrepFwdIdeal.defs _ _).mono (fun r h c => ⟨(h c).1.trans (val_main_v42_eq _ _ _),
      (h c).2.1.trans (val_main_v43_eq _ _ _),
      (h c).2.2.1.trans (val_main_v68_eq m' c),
      (h c).2.2.2.1.trans (val_main_v94_eq _ _),
      (h c).2.2.2.2⟩)
    (Cert.ReferencePrepFwdIdeal.Value.run m' g')

theorem algebraic : Cert.algebraic_KernelPrepFwdIdeal_ReferencePrepFwdIdeal := by
  pair_intro
  · run_from Cert.KernelPrepFwdIdeal.Value.run_blocks m g
  · run_from run_reference m' g'
    · exact (final7 m c).symm
    · exact (final8 m c).symm
    · exact (final9 m c).symm
    · exact (final10 m c).symm

end Cert.KernelPrepFwdIdeal.PrepFwd

end
-- ==== Proof.OutFwd.lean ====
/- The output projection, set beside the reference's. -/
module

public import proofs.«01_k».proof.Proof.Gen.KernelOutFwdIdeal.Value
public import proofs.«01_k».proof.Proof.Gen.ReferenceOutFwdIdeal.Read
public import proofs.«01_k».proof.Proof.Gen.KernelOutFwd.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pointwise

@[expose] public section

set_option maxRecDepth 16384

noncomputable section

namespace Cert.KernelOutFwdIdeal.OutFwd

open Idealize.ShloMosaic Idealize.ShloMosaic.TcCoe Idealize.SL.Sem
open Idealize.ShloMosaic.Pipeline (Dat)
open Cert.ReferenceOutFwdIdeal.Read Cert.KernelOutFwdIdeal Cert.KernelOutFwdIdeal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0] :=
  (by decide +kernel : ∀ t : Fin grid0.N, _)

/-! ## The arrays the call reads, at the reference's types -/

abbrev X (c : Dev nD) : FVec Ideal S4096x1024 .f32 := m ((c : Thread nD τ).loc main_arg0)
abbrev Y1 (c : Dev nD) : FVec Ideal S4096x256 .f32 := m ((c : Thread nD τ).loc main_arg1)
abbrev Y2 (c : Dev nD) : FVec Ideal S4096x256 .f32 := m ((c : Thread nD τ).loc main_arg2)
abbrev Y3 (c : Dev nD) : FVec Ideal S4096x256 .f32 := m ((c : Thread nD τ).loc main_arg3)
abbrev Y4 (c : Dev nD) : FVec Ideal S4096x256 .f32 := m ((c : Thread nD τ).loc main_arg4)
abbrev W (c : Dev nD) : FVec Ideal S1024x1024 .f32 := m ((c : Thread nD τ).loc main_arg5)

/-- a tile's row, as the array's -/
abbrev row (t : Fin cfg0.N) (r : Fin 256) : Fin 4096 :=
  ⟨t.val * 256 + r.val, by have : t.val < 16 := lt_of_lt_of_eq t.isLt N_0; omega⟩

section Tile

variable (c : Dev nD) (t : Fin cfg0.N)

/-- a tile's blocks, as the body loads them -/
abbrev x : FVec Ideal S256x1024 .f32 := iblk m c 0 t
abbrev y1 : FVec Ideal S256x256 .f32 := iblk m c 1 t
abbrev y2 : FVec Ideal S256x256 .f32 := iblk m c 2 t
abbrev y3 : FVec Ideal S256x256 .f32 := iblk m c 3 t
abbrev y4 : FVec Ideal S256x256 .f32 := iblk m c 4 t
abbrev w : Vec Ideal S1024x1024 .bf16 := iblk m c 5 t

theorem x_at (r : Fin 256) (k : Fin 1024) : x m c t (ix2 r k) = X m c (ix2 (row t r) k) := by
  blk_ext! [iblk, V, idx_val t]

theorem y1_at (r k : Fin 256) : y1 m c t (ix2 r k) = Y1 m c (ix2 (row t r) k) := by
  blk_ext! [iblk, V, idx_val t]

theorem y2_at (r k : Fin 256) : y2 m c t (ix2 r k) = Y2 m c (ix2 (row t r) k) := by
  blk_ext! [iblk, V, idx_val t]

theorem y3_at (r k : Fin 256) : y3 m c t (ix2 r k) = Y3 m c (ix2 (row t r) k) := by
  blk_ext! [iblk, V, idx_val t]

theorem y4_at (r k : Fin 256) : y4 m c t (ix2 r k) = Y4 m c (ix2 (row t r) k) := by
  blk_ext! [iblk, V, idx_val t]

theorem w_at (q k : Fin 1024) : w m c t (ix2 q k) = W m c (ix2 q k) := by
  have h : (V m c main_v0 : FVec Ideal S1024x1024 .bf16) (ix2 q k) = W m c (ix2 q k) := by
    unfold V; after_reads_at
  rw [← h]
  blk_simp [iblk, idx_val t]
  blk_ext [idx_val t]

end Tile

/-- a sum over the concatenated columns, branch by branch -/
theorem sum_split (f : Fin 1024 → EReal) : ∑ q : Fin 1024, f q
    = (∑ q : Fin 256, f ⟨q.val, by omega⟩) + (∑ q : Fin 256, f ⟨256 + q.val, by omega⟩)
      + (∑ q : Fin 256, f ⟨512 + q.val, by omega⟩) + ∑ q : Fin 256, f ⟨768 + q.val, by omega⟩ := by
  refine (Fin.sum_univ_add (a := 768) (b := 256) f).trans (congrArg₂ _ ?_ rfl)
  refine (Fin.sum_univ_add (a := 512) (b := 256) _).trans (congrArg₂ _ ?_ rfl)
  exact Fin.sum_univ_add (a := 256) (b := 256) _

theorem ref_at (c : Dev nD) (R : Fin 4096) (k : Fin 1024) :
    val_main_v2 (F := Ideal) (X m c) (Y1 m c) (Y2 m c) (Y3 m c) (Y4 m c) (W m c) (ix2 R k)
    = X m c (ix2 R k) + (∑ q : Fin 256, Y1 m c (ix2 R q) * W m c (ix2 ⟨q.val, by omega⟩ k))
      + (∑ q : Fin 256, Y2 m c (ix2 R q) * W m c (ix2 ⟨256 + q.val, by omega⟩ k))
      + (∑ q : Fin 256, Y3 m c (ix2 R q) * W m c (ix2 ⟨512 + q.val, by omega⟩ k))
      + ∑ q : Fin 256, Y4 m c (ix2 R q) * W m c (ix2 ⟨768 + q.val, by omega⟩ k) := by
  pointwise [val_main_v2, val_main_v1, val_main_v0]
  rw [sum_split, ← add_assoc, ← add_assoc, ← add_assoc]
  refine congrArg₂ _ (congrArg₂ _ (congrArg₂ _ (congrArg₂ _ rfl ?_) ?_) ?_) ?_ <;>
    refine Finset.sum_congr rfl fun q _ => congrArg (· * _) ?_
  · exact dif_pos (by dsimp only; omega)
  · rw [dif_neg (by dsimp only; omega), dif_pos (by dsimp only; omega)]
    exact congrArg (fun z => Y2 m c (ix2 R z)) (Fin.ext (by dsimp only; omega))
  · rw [dif_neg (by dsimp only; omega), dif_neg (by dsimp only; omega), dif_pos (by dsimp only; omega)]
    exact congrArg (fun z => Y3 m c (ix2 R z)) (Fin.ext (by dsimp only; omega))
  · rw [dif_neg (by dsimp only; omega), dif_neg (by dsimp only; omega), dif_neg (by dsimp only; omega)]
    exact congrArg (fun z => Y4 m c (ix2 R z)) (Fin.ext (by dsimp only; omega))

section Tile

variable (c : Dev nD) (t : Fin cfg0.N)

abbrev w_1 : Vec Ideal S256x1024 .bf16 := View.ld (w m c t) (Rect.unit ![0, 0] ![256, 1024] inb_S1024x1024_S256x1024_0_0)
abbrev w_2 : Vec Ideal S256x1024 .bf16 := View.ld (w m c t) (Rect.unit ![256, 0] ![256, 1024] inb_S1024x1024_S256x1024_256_0)
abbrev w_3 : Vec Ideal S256x1024 .bf16 := View.ld (w m c t) (Rect.unit ![512, 0] ![256, 1024] inb_S1024x1024_S256x1024_512_0)
abbrev w_4 : Vec Ideal S256x1024 .bf16 := View.ld (w m c t) (Rect.unit ![768, 0] ![256, 1024] inb_S1024x1024_S256x1024_768_0)

theorem w1_at (q : Fin 256) (k : Fin 1024) : w_1 m c t (ix2 q k) = W m c (ix2 ⟨q.val, by omega⟩ k) := by
  pointwise [w_1, w_at]

theorem w2_at (q : Fin 256) (k : Fin 1024) : w_2 m c t (ix2 q k) = W m c (ix2 ⟨256 + q.val, by omega⟩ k) := by
  pointwise [w_2, w_at]

theorem w3_at (q : Fin 256) (k : Fin 1024) : w_3 m c t (ix2 q k) = W m c (ix2 ⟨512 + q.val, by omega⟩ k) := by
  pointwise [w_3, w_at]

theorem w4_at (q : Fin 256) (k : Fin 1024) : w_4 m c t (ix2 q k) = W m c (ix2 ⟨768 + q.val, by omega⟩ k) := by
  pointwise [w_4, w_at]

abbrev o : FVec Ideal S256x1024 .f32 := k0_pay1 (x m c t) (y1 m c t) (w_1 m c t) (y2 m c t) (w_2 m c t) (y3 m c t) (w_3 m c t) (y4 m c t) (w_4 m c t)

theorem o_at (r : Fin 256) (k : Fin 1024) : o m c t (ix2 r k)
    = val_main_v2 (F := Ideal) (X m c) (Y1 m c) (Y2 m c) (Y3 m c) (Y4 m c) (W m c) (ix2 (row t r) k) := by
  rw [ref_at]
  have h0 := x_at m c t
  have h1 := y1_at m c t
  have h2 := y2_at m c t
  have h3 := y3_at m c t
  have h4 := y4_at m c t
  have g1 := w1_at m c t
  have g2 := w2_at m c t
  have g3 := w3_at m c t
  have g4 := w4_at m c t
  unfold o
  generalize x m c t = v0 at *
  generalize y1 m c t = v1 at *
  generalize y2 m c t = v2 at *
  generalize y3 m c t = v3 at *
  generalize y4 m c t = v4 at *
  generalize w_1 m c t = u1 at *
  generalize w_2 m c t = u2 at *
  generalize w_3 m c t = u3 at *
  generalize w_4 m c t = u4 at *
  pointwise [k0_pay1, h0, h1, h2, h3, h4, g1, g2, g3, g4]

end Tile

theorem final (c : Dev nD) : (dats m 0 c).arrAt 6 (cfgs 0).N = val_main_v2 (F := Ideal) (X m c) (Y1 m c) (Y2 m c) (Y3 m c) (Y4 m c) (W m c) := by
  have hmain : ∀ (t : Fin cfg0.N) (y : S256x1024.Idx), o m c t y
      = val_main_v2 (F := Ideal) (X m c) (Y1 m c) (Y2 m c) (Y3 m c) (Y4 m c) (W m c) (((cfg0.win 6).blk t).view.emb y) := by
    intro t y
    rw [eq_ix2 y]
    refine (o_at m c t (y 0) (y 1)).trans ?_
    blk_ext! [idx_val t]
  refine (dats m 0 c).arrAt_eq_of_covers 6 _ (by decide +kernel) fun t hf y => ?_
  blk_simp; rw [after0_6]
  unfold out0_6
  dsimp only
  frame_out
  exact hmain t y

theorem frame_kernel : Cert.quiescent_KernelOutFwd := fun m ρ _ => Cert.KernelOutFwd.Gen.frame m ρ

theorem frame_ideal : Cert.quiescent_KernelOutFwdIdeal := fun m ρ _ => Cert.KernelOutFwdIdeal.Gen.frame m ρ

theorem frame_reference : Cert.quiescent_ReferenceOutFwdIdeal := fun m ρ _ =>
  (θ_run Cert.ReferenceOutFwdIdeal.defs _ _).mono
    (fun r h => ⟨fun c => (h c).2, sem_eq_zero_of_no_sems (by decide) r.2⟩)
    (Cert.ReferenceOutFwdIdeal.Value.run m ρ)

theorem algebraic : Cert.algebraic_KernelOutFwdIdeal_ReferenceOutFwdIdeal := by
  pair_intro
  · run_from Cert.KernelOutFwdIdeal.Value.run_blocks m g
  · run_from Cert.ReferenceOutFwdIdeal.Value.run m' g'
    rw [val_main_v2_eq, (hagree c).2.1, (hagree c).2.2.1, (hagree c).2.2.2.1, (hagree c).2.2.2.2.1]
    exact (final m c).symm

end Cert.KernelOutFwdIdeal.OutFwd

end
-- ==== Proof.OutBwd.lean ====
/- The output projection's gradient for its input, set beside the reference's. -/
module

public import proofs.«01_k».proof.Proof.Gen.KernelOutBwdIdeal.Value
public import proofs.«01_k».proof.Proof.Gen.ReferenceOutBwdIdeal.Read
public import proofs.«01_k».proof.Proof.Gen.KernelOutBwd.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pointwise

@[expose] public section

set_option maxRecDepth 16384

noncomputable section

namespace Cert.KernelOutBwdIdeal.OutBwd

open Idealize.ShloMosaic Idealize.ShloMosaic.TcCoe Idealize.SL.Sem
open Idealize.ShloMosaic.Pipeline (Dat)
open Cert.ReferenceOutBwdIdeal.Read Cert.KernelOutBwdIdeal Cert.KernelOutBwdIdeal.Gen

variable (m : (ℓ : Loc nD τ sig) → Buf (Elt Ideal) ℓ)

theorem idx_val : ∀ t : Fin cfg0.N, win0_0.index t = ![t.val, 0] ∧ win0_1.index t = ![0, 0] ∧ win0_2.index t = ![t.val, 0] :=
  (by decide +kernel : ∀ t : Fin grid0.N, _)

/-! ## The arrays the call reads, at the reference's types -/

abbrev D (c : Dev nD) : FVec Ideal S4096x1024 .f32 := m ((c : Thread nD τ).loc main_arg0)
abbrev W (c : Dev nD) : FVec Ideal S1024x1024 .f32 := m ((c : Thread nD τ).loc main_arg1)

/-- a tile's row, as the array's -/
abbrev row (t : Fin cfg0.N) (r : Fin 256) : Fin 4096 :=
  ⟨t.val * 256 + r.val, by have : t.val < 16 := lt_of_lt_of_eq t.isLt N_0; omega⟩

section Tile

variable (c : Dev nD) (t : Fin cfg0.N)

/-- a tile's blocks -/
abbrev d : FVec Ideal S256x1024 .f32 := iblk m c 0 t
abbrev w : FVec Ideal S1024x1024 .bf16 := iblk m c 1 t

theorem d_at (r : Fin 256) (k : Fin 1024) : d m c t (ix2 r k) = D m c (ix2 (row t r) k) := by
  blk_ext! [iblk, V, idx_val t]

theorem w_at (q k : Fin 1024) : w m c t (ix2 q k) = W m c (ix2 q k) := by
  have h : (V m c main_v0 : FVec Ideal S1024x1024 .bf16) (ix2 q k) = W m c (ix2 q k) := by
    unfold V; after_reads_at
  rw [← h]
  blk_simp [iblk, idx_val t]
  blk_ext [idx_val t]

theorem o_at (r : Fin 256) (k : Fin 1024) : k0_pay1 (F := Ideal) (d m c t) (w m c t) (ix2 r k)
    = val_main_v1 (F := Ideal) (D m c) (W m c) (ix2 (row t r) k) := by
  have h0 := d_at m c t
  have h1 := w_at m c t
  generalize d m c t = v0 at *
  generalize w m c t = v1 at *
  pointwise [k0_pay1, h0, h1, val_main_v1, val_main_v0]

end Tile

theorem final (c : Dev nD) : (dats m 0 c).arrAt 2 (cfgs 0).N = val_main_v1 (F := Ideal) (D m c) (W m c) := by
  have hmain : ∀ (t : Fin cfg0.N) (y : S256x1024.Idx), k0_pay1 (F := Ideal) (d m c t) (w m c t) y
      = val_main_v1 (F := Ideal) (D m c) (W m c) (((cfg0.win 2).blk t).view.emb y) := by
    intro t y
    rw [eq_ix2 y]
    refine (o_at m c t (y 0) (y 1)).trans ?_
    blk_ext! [idx_val t]
  refine (dats m 0 c).arrAt_eq_of_covers 2 _ (by decide +kernel) fun t hf y => ?_
  blk_simp; rw [after0_2]
  unfold out0_2
  dsimp only
  frame_out
  exact hmain t y

theorem frame_kernel : Cert.quiescent_KernelOutBwd := fun m ρ _ => Cert.KernelOutBwd.Gen.frame m ρ

theorem frame_ideal : Cert.quiescent_KernelOutBwdIdeal := fun m ρ _ => Cert.KernelOutBwdIdeal.Gen.frame m ρ

theorem frame_reference : Cert.quiescent_ReferenceOutBwdIdeal := fun m ρ _ =>
  (θ_run Cert.ReferenceOutBwdIdeal.defs _ _).mono
    (fun r h => ⟨fun c => (h c).2, sem_eq_zero_of_no_sems (by decide) r.2⟩)
    (Cert.ReferenceOutBwdIdeal.Value.run m ρ)

theorem algebraic : Cert.algebraic_KernelOutBwdIdeal_ReferenceOutBwdIdeal := by
  pair_intro
  · run_from Cert.KernelOutBwdIdeal.Value.run_blocks m g
  · run_from Cert.ReferenceOutBwdIdeal.Value.run m' g'
    exact (val_main_v1_eq _ _).trans (final m c).symm

end Cert.KernelOutBwdIdeal.OutBwd

end
-- ==== Proof.Dwin.lean ====
/- The input projection's gradient for its weight, column group by column group, set beside the reference's. -/
module

public import proofs.«01_k».proof.Proof.Gen.KernelDwinIdeal.Value
public import proofs.«01_k».proof.Proof.Gen.ReferenceDwinIdeal.Read
public import proofs.«01_k».proof.Proof.Gen.KernelDwin.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pointwise

@[expose] public section

set_option maxRecDepth 16384

noncomputable section

namespace Cert.KernelDwinIdeal.Dwin

open Idealize.ShloMosaic Idealize.ShloMosaic.TcCoe Idealize.SL.Sem
open Idealize.ShloMosaic.Pipeline (Dat)
open Cert.ReferenceDwinIdeal.Read Cert.KernelDwinIdeal Cert.KernelDwinIdeal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] :=
  (by decide +kernel : ∀ t : Fin grid0.N, _)

/-! ## The arrays the call reads, at the reference's types -/

abbrev H (c : Dev nD) : FVec Ideal S4096x1024 .bf16 := m ((c : Thread nD τ).loc main_arg0)
abbrev D1 (c : Dev nD) : FVec Ideal S4096x768 .f32 := m ((c : Thread nD τ).loc main_arg1)
abbrev D2 (c : Dev nD) : FVec Ideal S4096x512 .f32 := m ((c : Thread nD τ).loc main_arg2)
abbrev D3 (c : Dev nD) : FVec Ideal S4096x1024 .f32 := m ((c : Thread nD τ).loc main_arg3)
abbrev D4 (c : Dev nD) : FVec Ideal S4096x1152 .f32 := m ((c : Thread nD τ).loc main_arg4)

/-- a tile's row, as the array's -/
abbrev row (t : Fin cfg0.N) (r : Fin 256) : Fin 4096 :=
  ⟨t.val * 256 + r.val, by have : t.val < 16 := lt_of_lt_of_eq t.isLt N_0; omega⟩

section Tile

variable (c : Dev nD) (t : Fin cfg0.N)

/-- a tile's blocks -/
abbrev h : Vec Ideal S256x1024 .bf16 := iblk m c 0 t
abbrev d1 : Vec Ideal S256x768 .f32 := iblk m c 1 t
abbrev d2 : Vec Ideal S256x512 .f32 := iblk m c 2 t
abbrev d3 : Vec Ideal S256x1024 .f32 := iblk m c 3 t
abbrev d4 : Vec Ideal S256x1152 .f32 := iblk m c 4 t

theorem h_at (r : Fin 256) (k : Fin 1024) : h m c t (ix2 r k) = H m c (ix2 (row t r) k) := by
  blk_ext! [iblk, V, idx_val t]

theorem d1_at (r : Fin 256) (k : Fin 768) : d1 m c t (ix2 r k) = D1 m c (ix2 (row t r) k) := by
  blk_ext! [iblk, V, idx_val t]

theorem d2_at (r : Fin 256) (k : Fin 512) : d2 m c t (ix2 r k) = D2 m c (ix2 (row t r) k) := by
  blk_ext! [iblk, V, idx_val t]

theorem d3_at (r : Fin 256) (k : Fin 1024) : d3 m c t (ix2 r k) = D3 m c (ix2 (row t r) k) := by
  blk_ext! [iblk, V, idx_val t]

theorem d4_at (r : Fin 256) (k : Fin 1152) : d4 m c t (ix2 r k) = D4 m c (ix2 (row t r) k) := by
  blk_ext! [iblk, V, idx_val t]

end Tile

/-! ## One step adds the tile's product to what the step before left -/

theorem step1 (c : Dev nD) (t : Fin cfg0.N) (v : Vec Ideal S1024x768 .f32) (j : S1024x768.Idx) : k0_pay7 (F := Ideal) (h m c t) v (d1 m c t) j
    = v j + ∑ r : Fin 256, H m c (ix2 (row t r) (j 0)) * D1 m c (ix2 (row t r) (j 1)) := by
  rw [eq_ix2 j]
  have h0 := h_at m c t
  have h1 := d1_at m c t
  generalize h m c t = x at *
  generalize d1 m c t = d at *
  pointwise [k0_pay1, k0_pay6, k0_pay7, k0_pay8, k0_pay9, k0_pay10, h0, h1]

theorem ref1 (c : Dev nD) (j : S1024x768.Idx) : val_main_v2 (F := Ideal) (H m c) (D1 m c) j
    = ∑ R : Fin 4096, H m c (ix2 R (j 0)) * D1 m c (ix2 R (j 1)) := by
  rw [eq_ix2 j]
  pointwise [val_main_v2, val_main_v1, val_main_v0]

theorem final1 (c : Dev nD) : (dats m 0 c).arrAt 5 (cfgs 0).N = val_main_v2 (F := Ideal) (H m c) (D1 m c) := by
  have hstep := fun (t : Fin cfg0.N) => step1 m c t
  have hzero : ∀ j : S1024x768.Idx, k0_pay2 (F := Ideal) j = 0 := fun j => by pointwise [k0_pay2]
  refine (dats m 0 c).arrAt_eq_of_after_last 5 t0_15 (by decide +kernel) _ fun j => ?_
  blk_simp
  rw [after0_5, Pipeline.eq_sum_fin_of_reset_step_apply_last (fun n h => (outsAt0 m c n h).1) 16 (fun _ => 0) _
    (fun t h j => by rw [outsAt0_A m c t h]; frame_out; rw [hstep, hzero])
    (fun t h j => by rw [outsAt0_B m c t h]; frame_out; rw [hstep])
    (le_of_eq N_0) t0_15 rfl _, zero_add, ref1]
  exact Fin.sum_mul_add_congr fun s k hl => rfl

theorem step2 (c : Dev nD) (t : Fin cfg0.N) (v : Vec Ideal S1024x512 .f32) (j : S1024x512.Idx) : k0_pay8 (F := Ideal) (h m c t) v (d2 m c t) j
    = v j + ∑ r : Fin 256, H m c (ix2 (row t r) (j 0)) * D2 m c (ix2 (row t r) (j 1)) := by
  rw [eq_ix2 j]
  have h0 := h_at m c t
  have h1 := d2_at m c t
  generalize h m c t = x at *
  generalize d2 m c t = d at *
  pointwise [k0_pay1, k0_pay6, k0_pay7, k0_pay8, k0_pay9, k0_pay10, h0, h1]

theorem ref2 (c : Dev nD) (j : S1024x512.Idx) : val_main_v4 (F := Ideal) (H m c) (D2 m c) j
    = ∑ R : Fin 4096, H m c (ix2 R (j 0)) * D2 m c (ix2 R (j 1)) := by
  rw [eq_ix2 j]
  pointwise [val_main_v4, val_main_v3, val_main_v0]

theorem final2 (c : Dev nD) : (dats m 0 c).arrAt 6 (cfgs 0).N = val_main_v4 (F := Ideal) (H m c) (D2 m c) := by
  have hstep := fun (t : Fin cfg0.N) => step2 m c t
  have hzero : ∀ j : S1024x512.Idx, k0_pay3 (F := Ideal) j = 0 := fun j => by pointwise [k0_pay3]
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) _
    (fun t h j => by rw [outsAt0_A m c t h]; frame_out; rw [hstep, hzero])
    (fun t h j => by rw [outsAt0_B m c t h]; frame_out; rw [hstep])
    (le_of_eq N_0) t0_15 rfl _, zero_add, ref2]
  exact Fin.sum_mul_add_congr fun s k hl => rfl

theorem step3 (c : Dev nD) (t : Fin cfg0.N) (v : Vec Ideal S1024x1024 .f32) (j : S1024x1024.Idx) : k0_pay9 (F := Ideal) (h m c t) v (d3 m c t) j
    = v j + ∑ r : Fin 256, H m c (ix2 (row t r) (j 0)) * D3 m c (ix2 (row t r) (j 1)) := by
  rw [eq_ix2 j]
  have h0 := h_at m c t
  have h1 := d3_at m c t
  generalize h m c t = x at *
  generalize d3 m c t = d at *
  pointwise [k0_pay1, k0_pay6, k0_pay7, k0_pay8, k0_pay9, k0_pay10, h0, h1]

theorem ref3 (c : Dev nD) (j : S1024x1024.Idx) : val_main_v6 (F := Ideal) (H m c) (D3 m c) j
    = ∑ R : Fin 4096, H m c (ix2 R (j 0)) * D3 m c (ix2 R (j 1)) := by
  rw [eq_ix2 j]
  pointwise [val_main_v6, val_main_v5, val_main_v0]

theorem final3 (c : Dev nD) : (dats m 0 c).arrAt 7 (cfgs 0).N = val_main_v6 (F := Ideal) (H m c) (D3 m c) := by
  have hstep := fun (t : Fin cfg0.N) => step3 m c t
  have hzero : ∀ j : S1024x1024.Idx, k0_pay4 (F := Ideal) j = 0 := fun j => by pointwise [k0_pay4]
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) _
    (fun t h j => by rw [outsAt0_A m c t h]; frame_out; rw [hstep, hzero])
    (fun t h j => by rw [outsAt0_B m c t h]; frame_out; rw [hstep])
    (le_of_eq N_0) t0_15 rfl _, zero_add, ref3]
  exact Fin.sum_mul_add_congr fun s k hl => rfl

theorem step4 (c : Dev nD) (t : Fin cfg0.N) (v : Vec Ideal S1024x1152 .f32) (j : S1024x1152.Idx) : k0_pay1 (F := Ideal) (k0_pay6 (h m c t)) (k0_pay10 v) (d4 m c t) j
    = v j + ∑ r : Fin 256, H m c (ix2 (row t r) (j 0)) * D4 m c (ix2 (row t r) (j 1)) := by
  rw [eq_ix2 j]
  have h0 := h_at m c t
  have h1 := d4_at m c t
  generalize h m c t = x at *
  generalize d4 m c t = d at *
  pointwise [k0_pay1, k0_pay6, k0_pay7, k0_pay8, k0_pay9, k0_pay10, h0, h1]

theorem ref4 (c : Dev nD) (j : S1024x1152.Idx) : val_main_v8 (F := Ideal) (H m c) (D4 m c) j
    = ∑ R : Fin 4096, H m c (ix2 R (j 0)) * D4 m c (ix2 R (j 1)) := by
  rw [eq_ix2 j]
  pointwise [val_main_v8, val_main_v7, val_main_v0]

theorem final4 (c : Dev nD) : (dats m 0 c).arrAt 8 (cfgs 0).N = val_main_v8 (F := Ideal) (H m c) (D4 m c) := by
  have hstep := fun (t : Fin cfg0.N) => step4 m c t
  have hzero : ∀ j : S1024x1152.Idx, k0_pay5 (F := Ideal) j = 0 := fun j => by pointwise [k0_pay5]
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0) _
    (fun t h j => by rw [outsAt0_A m c t h]; frame_out; rw [hstep, hzero])
    (fun t h j => by rw [outsAt0_B m c t h]; frame_out; rw [hstep])
    (le_of_eq N_0) t0_15 rfl _, zero_add, ref4]
  exact Fin.sum_mul_add_congr fun s k hl => rfl

theorem frame_kernel : Cert.quiescent_KernelDwin := fun m ρ _ => Cert.KernelDwin.Gen.frame m ρ

theorem frame_ideal : Cert.quiescent_KernelDwinIdeal := fun m ρ _ => Cert.KernelDwinIdeal.Gen.frame m ρ

theorem frame_reference : Cert.quiescent_ReferenceDwinIdeal := fun m ρ _ =>
  (θ_run Cert.ReferenceDwinIdeal.defs _ _).mono
    (fun r h => ⟨fun c => (h c).2.2.2.2, sem_eq_zero_of_no_sems (by decide) r.2⟩)
    (Cert.ReferenceDwinIdeal.Value.run m ρ)

theorem algebraic : Cert.algebraic_KernelDwinIdeal_ReferenceDwinIdeal := by
  pair_intro
  · run_from Cert.KernelDwinIdeal.Value.run_blocks m g
  · run_from Cert.ReferenceDwinIdeal.Value.run m' g'
    · exact (val_main_v2_eq _ _).trans (final1 m c).symm
    · exact (val_main_v4_eq _ _).trans (final2 m c).symm
    · exact (val_main_v6_eq _ _).trans (final3 m c).symm
    · exact (val_main_v8_eq _ _).trans (final4 m c).symm

end Cert.KernelDwinIdeal.Dwin

end
-- ==== Proof.Dwout.lean ====
/- The output projection's gradient for its weight, set beside the reference's. -/
module

public import proofs.«01_k».proof.Proof.Gen.KernelDwoutIdeal.Value
public import proofs.«01_k».proof.Proof.Gen.ReferenceDwoutIdeal.Read
public import proofs.«01_k».proof.Proof.Gen.KernelDwout.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelDwoutIdeal.Dwout

open Idealize.ShloMosaic Idealize.ShloMosaic.TcCoe Idealize.SL.Sem
open Idealize.ShloMosaic.Pipeline (Dat)
open Cert.ReferenceDwoutIdeal.Read Cert.KernelDwoutIdeal Cert.KernelDwoutIdeal.Gen

variable (m : (ℓ : Loc nD τ sig) → Buf (Elt Ideal) ℓ)

theorem idx_val : ∀ t : Fin cfg0.N, win0_0.index t = ![t.val % 8, 0] ∧ win0_1.index t = ![t.val % 8, 0] ∧ win0_2.index t = ![t.val % 8, 0]
    ∧ win0_3.index t = ![t.val % 8, 0] ∧ win0_4.index t = ![t.val % 8, t.val / 8] ∧ win0_5.index t = ![0, t.val / 8] :=
  (by decide +kernel : ∀ t : Fin grid0.N, _)

/-! ## The arrays the call reads, at the reference's types -/

abbrev Y0 (c : Dev nD) : FVec Ideal S4096x256 .f32 := m ((c : Thread nD τ).loc main_arg0)
abbrev Y1 (c : Dev nD) : FVec Ideal S4096x256 .f32 := m ((c : Thread nD τ).loc main_arg1)
abbrev Y2 (c : Dev nD) : FVec Ideal S4096x256 .f32 := m ((c : Thread nD τ).loc main_arg2)
abbrev Y3 (c : Dev nD) : FVec Ideal S4096x256 .f32 := m ((c : Thread nD τ).loc main_arg3)
abbrev G (c : Dev nD) : FVec Ideal S4096x1024 .f32 := m ((c : Thread nD τ).loc main_arg4)

/-- a tile's row, as the array's -/
abbrev row (t : Fin cfg0.N) (r : Fin 512) : Fin 4096 :=
  ⟨t.val % 8 * 512 + r.val, by omega⟩

/-- a tile's column, as the array's -/
abbrev col (t : Fin cfg0.N) (k : Fin 512) : Fin 1024 :=
  ⟨t.val / 8 * 512 + k.val, by have : t.val < 16 := lt_of_lt_of_eq t.isLt N_0; omega⟩

section Tile

variable (c : Dev nD) (t : Fin cfg0.N)

/-- a tile's blocks -/
abbrev y0 : Vec Ideal S512x256 .f32 := iblk m c 0 t
abbrev y1 : Vec Ideal S512x256 .f32 := iblk m c 1 t
abbrev y2 : Vec Ideal S512x256 .f32 := iblk m c 2 t
abbrev y3 : Vec Ideal S512x256 .f32 := iblk m c 3 t
abbrev g : Vec Ideal S512x512 .f32 := iblk m c 4 t

theorem y0_at (r : Fin 512) (k : Fin 256) : y0 m c t (ix2 r k) = Y0 m c (ix2 (row t r) k) := by
  blk_ext! [iblk, V, idx_val t]

theorem y1_at (r : Fin 512) (k : Fin 256) : y1 m c t (ix2 r k) = Y1 m c (ix2 (row t r) k) := by
  blk_ext! [iblk, V, idx_val t]

theorem y2_at (r : Fin 512) (k : Fin 256) : y2 m c t (ix2 r k) = Y2 m c (ix2 (row t r) k) := by
  blk_ext! [iblk, V, idx_val t]

theorem y3_at (r : Fin 512) (k : Fin 256) : y3 m c t (ix2 r k) = Y3 m c (ix2 (row t r) k) := by
  blk_ext! [iblk, V, idx_val t]

theorem g_at (r : Fin 512) (k : Fin 512) : g m c t (ix2 r k) = G m c (ix2 (row t r) (col t k)) := by
  blk_ext! [iblk, V, idx_val t]

end Tile

/-! ## One branch's rows of a step: what the step before left, and the tile's product -/

theorem pay_at (g : Vec Ideal S512x512 .f32) (v : Vec Ideal S256x512 .f32) (y : Vec Ideal S512x256 .f32) (i : Fin 256) (k : Fin 512) :
    k0_pay4 (F := Ideal) g v y (ix2 i k) = v (ix2 i k) + ∑ r : Fin 512, y (ix2 r i) * g (ix2 r k) := by
  pointwise [k0_pay4, k0_pay3]

theorem pay5 : @k0_pay5 Ideal _ = k0_pay4 := rfl
theorem pay6 : @k0_pay6 Ideal _ = k0_pay4 := rfl
theorem pay1 (g : Vec Ideal S512x512 .f32) : k0_pay1 (F := Ideal) (k0_pay3 g) = k0_pay4 g := rfl

theorem zero_at (j : S1024x512.Idx) : k0_pay2 (F := Ideal) j = 0 := by pointwise [k0_pay2]

/-- the four branches side by side -/
abbrev X (c : Dev nD) : FVec Ideal S4096x1024 .f32 := val_main_v0 (F := Ideal) (Y0 m c) (Y1 m c) (Y2 m c) (Y3 m c)

theorem X0_at (c : Dev nD) (R : Fin 4096) (q : Fin 256) (k : Fin 1024) (h : k.val = q.val) : X m c (ix2 R k) = Y0 m c (ix2 R q) := by
  pointwise [X, val_main_v0]
  rw [dif_pos (by omega)]
  exact congrArg (fun z => Y0 m c (ix2 R z)) (Fin.ext (by dsimp only; omega))

theorem X1_at (c : Dev nD) (R : Fin 4096) (q : Fin 256) (k : Fin 1024) (h : k.val = 256 + q.val) : X m c (ix2 R k) = Y1 m c (ix2 R q) := by
  pointwise [X, val_main_v0]
  rw [dif_neg (by omega), dif_pos (by omega)]
  exact congrArg (fun z => Y1 m c (ix2 R z)) (Fin.ext (by dsimp only; omega))

theorem X2_at (c : Dev nD) (R : Fin 4096) (q : Fin 256) (k : Fin 1024) (h : k.val = 512 + q.val) : X m c (ix2 R k) = Y2 m c (ix2 R q) := by
  pointwise [X, val_main_v0]
  rw [dif_neg (by omega), dif_neg (by omega), dif_pos (by omega)]
  exact congrArg (fun z => Y2 m c (ix2 R z)) (Fin.ext (by dsimp only; omega))

theorem X3_at (c : Dev nD) (R : Fin 4096) (q : Fin 256) (k : Fin 1024) (h : k.val = 768 + q.val) : X m c (ix2 R k) = Y3 m c (ix2 R q) := by
  pointwise [X, val_main_v0]
  rw [dif_neg (by omega), dif_neg (by omega), dif_neg (by omega)]
  exact congrArg (fun z => Y3 m c (ix2 R z)) (Fin.ext (by dsimp only; omega))

/-- what a step adds to its column block -/
abbrev term (c : Dev nD) (t : Fin cfg0.N) (j : S1024x512.Idx) : EReal :=
  ∑ r : Fin 512, X m c (ix2 (row t r) (j 0)) * G m c (ix2 (row t r) (col t (j 1)))

/-- one stored row block is the block before it and the step's term -/
theorem piece (c : Dev nD) (t : Fin cfg0.N) (V : S1024x512.Idx → EReal) (y : Vec Ideal S512x256 .f32) (v : Vec Ideal S256x512 .f32)
    (j : S1024x512.Idx) (x : S256x512.Idx) (hv : v x = V j) (hk : (x 1).val = (j 1).val)
    (hy : ∀ r : Fin 512, y (ix2 r (x 0)) = X m c (ix2 (row t r) (j 0))) :
    k0_pay4 (F := Ideal) (g m c t) v y x = V j + term m c t j := by
  obtain ⟨a, b, rfl⟩ : ∃ a b, x = ix2 a b := ⟨x 0, x 1, eq_ix2 x⟩
  rw [pay_at, hv]
  refine congrArg (V j + ·) (Finset.sum_congr rfl fun r _ => ?_)
  rw [show y (ix2 r a) = _ from hy r, g_at]
  exact congrArg (fun z => X m c (ix2 (row t r) (j 0)) * G m c (ix2 (row t r) (col t z))) (Fin.ext hk)

theorem pieces (c : Dev nD) (t : Fin cfg0.N) (V : Vec Ideal S1024x512 .f32) (L : List (View.Piece (Elt Ideal) S1024x512 .f32)) (j : S1024x512.Idx) :
    View.canon (
      [⟨Rect.unit ![768, 0] ![256, 512] inb_S1024x512_S256x512_768_0, k0_pay4 (F := Ideal) (g m c t)
          (View.ld V (Rect.unit ![768, 0] ![256, 512] inb_S1024x512_S256x512_768_0)) (y3 m c t)⟩,
        ⟨Rect.unit ![512, 0] ![256, 512] inb_S1024x512_S256x512_512_0, k0_pay4 (F := Ideal) (g m c t)
          (View.ld V (Rect.unit ![512, 0] ![256, 512] inb_S1024x512_S256x512_512_0)) (y2 m c t)⟩,
        ⟨Rect.unit ![256, 0] ![256, 512] inb_S1024x512_S256x512_256_0, k0_pay4 (F := Ideal) (g m c t)
          (View.ld V (Rect.unit ![256, 0] ![256, 512] inb_S1024x512_S256x512_256_0)) (y1 m c t)⟩,
        ⟨Rect.unit ![0, 0] ![256, 512] inb_S1024x512_S256x512_0_0, k0_pay4 (F := Ideal) (g m c t)
          (View.ld V (Rect.unit ![0, 0] ![256, 512] inb_S1024x512_S256x512_0_0)) (y0 m c t)⟩] ++ L) j
    = V j + term m c t j := by
  refine View.canon_append_of_piecesOf (fun j => V j + term m c t j) L [_, _, _, _] ⟨fun x => ?_, fun x => ?_, fun x => ?_, fun x => ?_, trivial⟩ j
    (View.cover_of_tiled_head _ _ _ (by rfl) _)
  · exact piece m c t V _ _ _ x rfl (by simp [Rect.idx_unit_val]) fun r => (y3_at m c t r (x 0)).trans (X3_at m c _ _ _ (by show 768 + 1 * (x 0).val = _; omega)).symm
  · exact piece m c t V _ _ _ x rfl (by simp) fun r => (y2_at m c t r (x 0)).trans (X2_at m c _ _ _ (by show 512 + 1 * (x 0).val = _; omega)).symm
  · exact piece m c t V _ _ _ x rfl (by simp) fun r => (y1_at m c t r (x 0)).trans (X1_at m c _ _ _ (by show 256 + 1 * (x 0).val = _; omega)).symm
  · exact piece m c t V _ _ _ x rfl (by simp) fun r => (y0_at m c t r (x 0)).trans (X0_at m c _ _ _ (by show 0 + 1 * (x 0).val = _; omega)).symm

section Read

variable {sp : Space} (v : View sig .tc sp S1024x512 .f32) (Z : Vec Ideal S1024x512 .f32) (w0 w1 w2 : Vec Ideal S256x512 .f32)

/-! a row block read after the fill and the stores of the row blocks before it is the fill's -/

theorem rd0 : v.readCov (Val := Elt Ideal) [⟨Rect.unit ![0, 0] ![1024, 512] inb_S1024x512_S1024x512_0_0, Z⟩] (Rect.unit ![0, 0] ![256, 512] inb_S1024x512_S256x512_0_0).toLoadRect
    = View.ld Z (Rect.unit ![0, 0] ![256, 512] inb_S1024x512_S256x512_0_0) := by
  rw [View.readCov_fill _ _ _ _ _ (by decide)]

theorem rd1 : v.readCov (Val := Elt Ideal) [⟨(Rect.unit ![0, 0] ![256, 512] inb_S1024x512_S256x512_0_0), w0⟩, ⟨Rect.unit ![0, 0] ![1024, 512] inb_S1024x512_S1024x512_0_0, Z⟩] (Rect.unit ![256, 0] ![256, 512] inb_S1024x512_S256x512_256_0).toLoadRect
    = View.ld Z (Rect.unit ![256, 0] ![256, 512] inb_S1024x512_S256x512_256_0) := by
  rw [View.readCov_skip _ _ _ _ _ (by rfl), View.readCov_fill _ _ _ _ _ (by decide)]

theorem rd2 : v.readCov (Val := Elt Ideal) [⟨(Rect.unit ![256, 0] ![256, 512] inb_S1024x512_S256x512_256_0), w1⟩, ⟨(Rect.unit ![0, 0] ![256, 512] inb_S1024x512_S256x512_0_0), w0⟩, ⟨Rect.unit ![0, 0] ![1024, 512] inb_S1024x512_S1024x512_0_0, Z⟩] (Rect.unit ![512, 0] ![256, 512] inb_S1024x512_S256x512_512_0).toLoadRect
    = View.ld Z (Rect.unit ![512, 0] ![256, 512] inb_S1024x512_S256x512_512_0) := by
  rw [View.readCov_skip _ _ _ _ _ (by rfl), View.readCov_skip _ _ _ _ _ (by rfl), View.readCov_fill _ _ _ _ _ (by decide)]

theorem rd3 : v.readCov (Val := Elt Ideal) [⟨(Rect.unit ![512, 0] ![256, 512] inb_S1024x512_S256x512_512_0), w2⟩, ⟨(Rect.unit ![256, 0] ![256, 512] inb_S1024x512_S256x512_256_0), w1⟩, ⟨(Rect.unit ![0, 0] ![256, 512] inb_S1024x512_S256x512_0_0), w0⟩, ⟨Rect.unit ![0, 0] ![1024, 512] inb_S1024x512_S1024x512_0_0, Z⟩] (Rect.unit ![768, 0] ![256, 512] inb_S1024x512_S256x512_768_0).toLoadRect
    = View.ld Z (Rect.unit ![768, 0] ![256, 512] inb_S1024x512_S256x512_768_0) := by
  rw [View.readCov_skip _ _ _ _ _ (by rfl), View.readCov_skip _ _ _ _ _ (by rfl), View.readCov_skip _ _ _ _ _ (by rfl), View.readCov_fill _ _ _ _ _ (by decide)]

end Read

theorem stepB (c : Dev nD) (t : Fin cfg0.N) (h : ¬t.val % 8 = 0) (j : S1024x512.Idx) : outsAt0 m c t.val t.isLt j
    = outsAt0 m c (t.val - 1) (Nat.lt_of_le_of_lt (Nat.sub_le _ _) t.isLt) j + term m c t j := by
  rw [outsAt0_B m c t h]
  unfold out0_B_5
  dsimp only
  frame_out
  exact pieces m c t _ [] j

set_option maxHeartbeats 1000000 in
theorem stepA (c : Dev nD) (t : Fin cfg0.N) (h : t.val % 8 = 0) (j : S1024x512.Idx) : outsAt0 m c t.val t.isLt j
    = 0 + term m c t j := by
  rw [outsAt0_A m c t h]
  unfold out0_A_5
  dsimp only
  frame_out
  simp only [↓rd3, ↓rd2, ↓rd1, ↓rd0]
  rw [← zero_at j]
  exact pieces m c t (k0_pay2 (F := Ideal)) [⟨Rect.unit ![0, 0] ![1024, 512] inb_S1024x512_S1024x512_0_0, k0_pay2 (F := Ideal)⟩] j

theorem ref_at (c : Dev nD) (i k : Fin 1024) : val_main_v2 (F := Ideal) (Y0 m c) (Y1 m c) (Y2 m c) (Y3 m c) (G m c) (ix2 i k)
    = ∑ R : Fin 4096, X m c (ix2 R i) * G m c (ix2 R k) := by
  unfold X
  unfold val_main_v2 val_main_v1
  generalize val_main_v0 (F := Ideal) (Y0 m c) (Y1 m c) (Y2 m c) (Y3 m c) = x
  pointwise []

theorem final (c : Dev nD) : (dats m 0 c).arrAt 5 (cfgs 0).N = val_main_v2 (F := Ideal) (Y0 m c) (Y1 m c) (Y2 m c) (Y3 m c) (G m c) := by
  refine (dats m 0 c).arrAt_eq_of_covers 5 _ (by decide +kernel) fun t hf y => ?_
  have h7 := (flush0_5 t).mp hf
  have hmain : ∀ y : S1024x512.Idx, outsAt0 m c t.val t.isLt y
      = val_main_v2 (F := Ideal) (Y0 m c) (Y1 m c) (Y2 m c) (Y3 m c) (G m c) (((cfg0.win 5).blk t).view.emb y) := by
    intro y
    rw [Pipeline.eq_sum_fin_of_reset_step_apply_of_flush (fun n h => outsAt0 m c n h) 8 (fun _ => 0) _
      (fun t h j => stepA m c t h j) (fun t h j => stepB m c t h j) t h7 y, zero_add]
    refine Eq.trans ?_ ((ref_at m c (y 0) (col t (y 1))).symm.trans ?_)
    · refine Fin.sum_mul_add_congr fun s k hl => ?_
      have e1 : row ⟨8 * (t.val / 8) + s.val, Pipeline.run_point_lt_of_flush t h7 s⟩ k = ⟨s.val * 512 + k.val, hl⟩ := Fin.ext (by dsimp only; omega)
      have e2 : col ⟨8 * (t.val / 8) + s.val, Pipeline.run_point_lt_of_flush t h7 s⟩ (y 1) = col t (y 1) := Fin.ext (by dsimp only; omega)
      rw [e1, e2]
    · blk_ext! [idx_val t]
  blk_simp; rw [after0_5]
  exact hmain y

theorem frame_kernel : Cert.quiescent_KernelDwout := fun m ρ _ => Cert.KernelDwout.Gen.frame m ρ

theorem frame_ideal : Cert.quiescent_KernelDwoutIdeal := fun m ρ _ => Cert.KernelDwoutIdeal.Gen.frame m ρ

theorem frame_reference : Cert.quiescent_ReferenceDwoutIdeal := fun m ρ _ =>
  (θ_run Cert.ReferenceDwoutIdeal.defs _ _).mono
    (fun r h => ⟨fun c => (h c).2, sem_eq_zero_of_no_sems (by decide) r.2⟩)
    (Cert.ReferenceDwoutIdeal.Value.run m ρ)

theorem algebraic : Cert.algebraic_KernelDwoutIdeal_ReferenceDwoutIdeal := by
  pair_intro
  · run_from Cert.KernelDwoutIdeal.Value.run_blocks m g
  · run_from Cert.ReferenceDwoutIdeal.Value.run m' g'
    · exact (val_main_v2_eq _ _ _ _ _).trans (final m c).symm

end Cert.KernelDwoutIdeal.Dwout

end
-- ==== Proof.Adamw.lean ====
/- The optimiser's step, set beside the reference's. -/
module

public import proofs.«01_k».proof.Proof.Gen.KernelAdamwIdeal.Value
public import proofs.«01_k».proof.Proof.Gen.ReferenceAdamwIdeal.Read
public import proofs.«01_k».proof.Proof.Gen.KernelAdamw.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pointwise

@[expose] public section

set_option maxRecDepth 16384

noncomputable section

namespace Cert.KernelAdamwIdeal.Adamw

open Idealize.ShloMosaic Idealize.ShloMosaic.TcCoe Idealize.SL.Sem
open Idealize.ShloMosaic.Pipeline (Dat)
open Cert.ReferenceAdamwIdeal.Read Cert.KernelAdamwIdeal Cert.KernelAdamwIdeal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-! ## The arrays the call reads, at the reference's types -/

abbrev W (c : Dev nD) : FVec Ideal S4x256x1024 .f32 := m ((c : Thread nD τ).loc main_arg0)
abbrev G (c : Dev nD) : FVec Ideal S4x256x1024 .f32 := m ((c : Thread nD τ).loc main_arg1)
abbrev M (c : Dev nD) : FVec Ideal S4x256x1024 .f32 := m ((c : Thread nD τ).loc main_arg2)
abbrev U (c : Dev nD) : FVec Ideal S4x256x1024 .f32 := m ((c : Thread nD τ).loc main_arg3)

section Tile

variable (c : Dev nD) (t : Fin cfg0.N)

abbrev w_ : FVec Ideal S512x1024 .f32 := iblk m c 0 t

theorem w_at (r : Fin 512) (l : Fin 1024) : w_ m c t (ix2 r l) = (shapeCast S1024x1024 (W m c) shapeCasts_S4x256x1024_S1024x1024 : FVec Ideal S1024x1024 .f32) (ix2 ⟨t.val * 512 + r.val, by have : t.val < 2 := lt_of_lt_of_eq t.isLt N_0; omega⟩ l) := by
  have h : (V m c main_v1 : FVec Ideal S1024x1024 .f32) (ix2 ⟨t.val * 512 + r.val, by have : t.val < 2 := lt_of_lt_of_eq t.isLt N_0; omega⟩ l) = (shapeCast S1024x1024 (W m c) shapeCasts_S4x256x1024_S1024x1024 : FVec Ideal S1024x1024 .f32) (ix2 ⟨t.val * 512 + r.val, by have : t.val < 2 := lt_of_lt_of_eq t.isLt N_0; omega⟩ l) := by
    unfold V; after_reads_at
  rw [← h]
  blk_ext! [iblk, V, idx_val t]

abbrev g_ : FVec Ideal S512x1024 .f32 := iblk m c 1 t

theorem g_at (r : Fin 512) (l : Fin 1024) : g_ m c t (ix2 r l) = (shapeCast S1024x1024 (G m c) shapeCasts_S4x256x1024_S1024x1024 : FVec Ideal S1024x1024 .f32) (ix2 ⟨t.val * 512 + r.val, by have : t.val < 2 := lt_of_lt_of_eq t.isLt N_0; omega⟩ l) := by
  have h : (V m c main_v0 : FVec Ideal S1024x1024 .f32) (ix2 ⟨t.val * 512 + r.val, by have : t.val < 2 := lt_of_lt_of_eq t.isLt N_0; omega⟩ l) = (shapeCast S1024x1024 (G m c) shapeCasts_S4x256x1024_S1024x1024 : FVec Ideal S1024x1024 .f32) (ix2 ⟨t.val * 512 + r.val, by have : t.val < 2 := lt_of_lt_of_eq t.isLt N_0; omega⟩ l) := by
    unfold V; after_reads_at
  rw [← h]
  blk_ext! [iblk, V, idx_val t]

abbrev m_ : FVec Ideal S512x1024 .f32 := iblk m c 2 t

theorem m_at (r : Fin 512) (l : Fin 1024) : m_ m c t (ix2 r l) = (shapeCast S1024x1024 (M m c) shapeCasts_S4x256x1024_S1024x1024 : FVec Ideal S1024x1024 .f32) (ix2 ⟨t.val * 512 + r.val, by have : t.val < 2 := lt_of_lt_of_eq t.isLt N_0; omega⟩ l) := by
  have h : (V m c main_v2 : FVec Ideal S1024x1024 .f32) (ix2 ⟨t.val * 512 + r.val, by have : t.val < 2 := lt_of_lt_of_eq t.isLt N_0; omega⟩ l) = (shapeCast S1024x1024 (M m c) shapeCasts_S4x256x1024_S1024x1024 : FVec Ideal S1024x1024 .f32) (ix2 ⟨t.val * 512 + r.val, by have : t.val < 2 := lt_of_lt_of_eq t.isLt N_0; omega⟩ l) := by
    unfold V; after_reads_at
  rw [← h]
  blk_ext! [iblk, V, idx_val t]

abbrev u_ : FVec Ideal S512x1024 .f32 := iblk m c 3 t

theorem u_at (r : Fin 512) (l : Fin 1024) : u_ m c t (ix2 r l) = (shapeCast S1024x1024 (U m c) shapeCasts_S4x256x1024_S1024x1024 : FVec Ideal S1024x1024 .f32) (ix2 ⟨t.val * 512 + r.val, by have : t.val < 2 := lt_of_lt_of_eq t.isLt N_0; omega⟩ l) := by
  have h : (V m c main_v3 : FVec Ideal S1024x1024 .f32) (ix2 ⟨t.val * 512 + r.val, by have : t.val < 2 := lt_of_lt_of_eq t.isLt N_0; omega⟩ l) = (shapeCast S1024x1024 (U m c) shapeCasts_S4x256x1024_S1024x1024 : FVec Ideal S1024x1024 .f32) (ix2 ⟨t.val * 512 + r.val, by have : t.val < 2 := lt_of_lt_of_eq t.isLt N_0; omega⟩ l) := by
    unfold V; after_reads_at
  rw [← h]
  blk_ext! [iblk, V, idx_val t]

theorem tile4 (r : Fin 512) (l : Fin 1024) : k0_pay4 (F := Ideal) (g_ m c t) (m_ m c t) (u_ m c t) (w_ m c t) (ix2 r l) = val_main_v24 (F := Ideal) (W m c) (G m c) (M m c) (U m c) (ix2 ⟨t.val * 512 + r.val, by have : t.val < 2 := lt_of_lt_of_eq t.isLt N_0; omega⟩ l) := by
  have h_g := g_at m c t
  have h_m := m_at m c t
  have h_u := u_at m c t
  have h_w := w_at m c t
  generalize g_ m c t = v_g at *
  generalize m_ m c t = v_m at *
  generalize u_ m c t = v_u at *
  generalize w_ m c t = v_w at *
  pointwise [k0_pay1, k0_pay2, k0_pay3, k0_pay4, h_g, h_m, h_u, h_w, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem tile5 (r : Fin 512) (l : Fin 1024) : k0_pay2 (F := Ideal) (g_ m c t) (m_ m c t) (ix2 r l) = val_main_v25 (F := Ideal) (G m c) (M m c) (ix2 ⟨t.val * 512 + r.val, by have : t.val < 2 := lt_of_lt_of_eq t.isLt N_0; omega⟩ l) := by
  have h_g := g_at m c t
  have h_m := m_at m c t
  generalize g_ m c t = v_g at *
  generalize m_ m c t = v_m at *
  pointwise [k0_pay1, k0_pay2, k0_pay3, k0_pay4, h_g, h_m, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem tile6 (r : Fin 512) (l : Fin 1024) : k0_pay3 (F := Ideal) (g_ m c t) (u_ m c t) (ix2 r l) = val_main_v26 (F := Ideal) (G m c) (U m c) (ix2 ⟨t.val * 512 + r.val, by have : t.val < 2 := lt_of_lt_of_eq t.isLt N_0; omega⟩ l) := by
  have h_g := g_at m c t
  have h_u := u_at m c t
  generalize g_ m c t = v_g at *
  generalize u_ m c t = v_u at *
  pointwise [k0_pay1, k0_pay2, k0_pay3, k0_pay4, h_g, h_u, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

end Tile

theorem final4 (c : Dev nD) : (dats m 0 c).arrAt 4 (cfgs 0).N = val_main_v24 (F := Ideal) (W m c) (G m c) (M m c) (U m c) := by
  have hmain : ∀ (t : Fin cfg0.N) (y : S512x1024.Idx), k0_pay4 (F := Ideal) (g_ m c t) (m_ m c t) (u_ m c t) (w_ m c t) y
      = val_main_v24 (F := Ideal) (W m c) (G m c) (M m c) (U m c) (((cfg0.win 4).blk t).view.emb y) := by
    intro t y
    rw [eq_ix2 y]
    refine (tile4 m c t (y 0) (y 1)).trans ?_
    blk_ext! [idx_val t]
  refine (dats m 0 c).arrAt_eq_of_covers 4 _ (by decide +kernel) fun t hf y => ?_
  blk_simp; rw [after0_4]
  unfold out0_4
  dsimp only
  frame_out
  exact hmain t y

theorem final5 (c : Dev nD) : (dats m 0 c).arrAt 5 (cfgs 0).N = val_main_v25 (F := Ideal) (G m c) (M m c) := by
  have hmain : ∀ (t : Fin cfg0.N) (y : S512x1024.Idx), k0_pay2 (F := Ideal) (g_ m c t) (m_ m c t) y
      = val_main_v25 (F := Ideal) (G m c) (M m c) (((cfg0.win 5).blk t).view.emb y) := by
    intro t y
    rw [eq_ix2 y]
    refine (tile5 m c t (y 0) (y 1)).trans ?_
    blk_ext! [idx_val t]
  refine (dats m 0 c).arrAt_eq_of_covers 5 _ (by decide +kernel) fun t hf y => ?_
  blk_simp; rw [after0_5]
  unfold out0_5
  dsimp only
  frame_out
  exact hmain t y

theorem final6 (c : Dev nD) : (dats m 0 c).arrAt 6 (cfgs 0).N = val_main_v26 (F := Ideal) (G m c) (U m c) := by
  have hmain : ∀ (t : Fin cfg0.N) (y : S512x1024.Idx), k0_pay3 (F := Ideal) (g_ m c t) (u_ m c t) y
      = val_main_v26 (F := Ideal) (G m c) (U m c) (((cfg0.win 6).blk t).view.emb y) := by
    intro t y
    rw [eq_ix2 y]
    refine (tile6 m c t (y 0) (y 1)).trans ?_
    blk_ext! [idx_val t]
  refine (dats m 0 c).arrAt_eq_of_covers 6 _ (by decide +kernel) fun t hf y => ?_
  blk_simp; rw [after0_6]
  unfold out0_6
  dsimp only
  frame_out
  exact hmain t y

theorem frame_kernel : Cert.quiescent_KernelAdamw := fun m ρ _ => Cert.KernelAdamw.Gen.frame m ρ

theorem frame_ideal : Cert.quiescent_KernelAdamwIdeal := fun m ρ _ => Cert.KernelAdamwIdeal.Gen.frame m ρ

theorem frame_reference : Cert.quiescent_ReferenceAdamwIdeal := fun m ρ _ =>
  (θ_run Cert.ReferenceAdamwIdeal.defs _ _).mono
    (fun r h => ⟨fun c => (h c).2.2.2, sem_eq_zero_of_no_sems (by decide) r.2⟩)
    (Cert.ReferenceAdamwIdeal.Value.run m ρ)

theorem algebraic : Cert.algebraic_KernelAdamwIdeal_ReferenceAdamwIdeal := by
  pair_intro
  · run_from Cert.KernelAdamwIdeal.Value.run_blocks m g
  · run_from Cert.ReferenceAdamwIdeal.Value.run m' g'
    · rw [val_main_v24_eq]
      exact (final4 m c).symm
    · rw [val_main_v25_eq]
      exact (final5 m c).symm
    · rw [val_main_v26_eq]
      exact (final6 m c).symm

end Cert.KernelAdamwIdeal.Adamw

end
-- ==== Proof.AdamwIn.lean ====
/- The optimiser's step, set beside the reference's. -/
module

public import proofs.«01_k».proof.Proof.Gen.KernelAdamwInIdeal.Value
public import proofs.«01_k».proof.Proof.Gen.ReferenceAdamwInIdeal.Read
public import proofs.«01_k».proof.Proof.Gen.KernelAdamwIn.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pointwise

@[expose] public section

set_option maxRecDepth 16384

noncomputable section

namespace Cert.KernelAdamwInIdeal.AdamwIn

open Idealize.ShloMosaic Idealize.ShloMosaic.TcCoe Idealize.SL.Sem
open Idealize.ShloMosaic.Pipeline (Dat)
open Cert.ReferenceAdamwInIdeal.Read Cert.KernelAdamwInIdeal Cert.KernelAdamwInIdeal.Gen

variable (m : (ℓ : Loc nD τ sig) → Buf (Elt Ideal) ℓ)

theorem idx_val : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-! ## The arrays the call reads, at the reference's types -/

abbrev W (c : Dev nD) : FVec Ideal S4x1024x834 .f32 := m ((c : Thread nD τ).loc main_arg0)
abbrev G (c : Dev nD) : FVec Ideal S4x1024x834 .f32 := m ((c : Thread nD τ).loc main_arg1)
abbrev M (c : Dev nD) : FVec Ideal S4x1024x834 .f32 := m ((c : Thread nD τ).loc main_arg2)
abbrev U (c : Dev nD) : FVec Ideal S4x1024x834 .f32 := m ((c : Thread nD τ).loc main_arg3)

section Tile

variable (c : Dev nD) (t : Fin cfg0.N)

abbrev w_ : FVec Ideal S139x4x1024 .f32 := iblk m c 0 t

theorem w_at (r : Fin 139) (j : Fin 4) (l : Fin 1024) : w_ m c t (ix3 r j l) = (transpose S834x4x1024 [2, 0, 1] (W m c) transposes_S4x1024x834_S834x4x1024_2_0_1 : FVec Ideal S834x4x1024 .f32) (ix3 ⟨t.val * 139 + r.val, by have : t.val < 6 := lt_of_lt_of_eq t.isLt N_0; omega⟩ j l) := by
  have h : (V m c main_v0 : FVec Ideal S834x4x1024 .f32) (ix3 ⟨t.val * 139 + r.val, by have : t.val < 6 := lt_of_lt_of_eq t.isLt N_0; omega⟩ j l) = (transpose S834x4x1024 [2, 0, 1] (W m c) transposes_S4x1024x834_S834x4x1024_2_0_1 : FVec Ideal S834x4x1024 .f32) (ix3 ⟨t.val * 139 + r.val, by have : t.val < 6 := lt_of_lt_of_eq t.isLt N_0; omega⟩ j l) := by
    unfold V; after_reads_at
  rw [← h]
  blk_ext! [iblk, V, idx_val t]

abbrev g_ : FVec Ideal S139x4x1024 .f32 := iblk m c 1 t

theorem g_at (r : Fin 139) (j : Fin 4) (l : Fin 1024) : g_ m c t (ix3 r j l) = (transpose S834x4x1024 [2, 0, 1] (G m c) transposes_S4x1024x834_S834x4x1024_2_0_1 : FVec Ideal S834x4x1024 .f32) (ix3 ⟨t.val * 139 + r.val, by have : t.val < 6 := lt_of_lt_of_eq t.isLt N_0; omega⟩ j l) := by
  have h : (V m c main_v1 : FVec Ideal S834x4x1024 .f32) (ix3 ⟨t.val * 139 + r.val, by have : t.val < 6 := lt_of_lt_of_eq t.isLt N_0; omega⟩ j l) = (transpose S834x4x1024 [2, 0, 1] (G m c) transposes_S4x1024x834_S834x4x1024_2_0_1 : FVec Ideal S834x4x1024 .f32) (ix3 ⟨t.val * 139 + r.val, by have : t.val < 6 := lt_of_lt_of_eq t.isLt N_0; omega⟩ j l) := by
    unfold V; after_reads_at
  rw [← h]
  blk_ext! [iblk, V, idx_val t]

abbrev m_ : FVec Ideal S139x4x1024 .f32 := iblk m c 2 t

theorem m_at (r : Fin 139) (j : Fin 4) (l : Fin 1024) : m_ m c t (ix3 r j l) = (transpose S834x4x1024 [2, 0, 1] (M m c) transposes_S4x1024x834_S834x4x1024_2_0_1 : FVec Ideal S834x4x1024 .f32) (ix3 ⟨t.val * 139 + r.val, by have : t.val < 6 := lt_of_lt_of_eq t.isLt N_0; omega⟩ j l) := by
  have h : (V m c main_v2 : FVec Ideal S834x4x1024 .f32) (ix3 ⟨t.val * 139 + r.val, by have : t.val < 6 := lt_of_lt_of_eq t.isLt N_0; omega⟩ j l) = (transpose S834x4x1024 [2, 0, 1] (M m c) transposes_S4x1024x834_S834x4x1024_2_0_1 : FVec Ideal S834x4x1024 .f32) (ix3 ⟨t.val * 139 + r.val, by have : t.val < 6 := lt_of_lt_of_eq t.isLt N_0; omega⟩ j l) := by
    unfold V; after_reads_at
  rw [← h]
  blk_ext! [iblk, V, idx_val t]

abbrev u_ : FVec Ideal S139x4x1024 .f32 := iblk m c 3 t

theorem u_at (r : Fin 139) (j : Fin 4) (l : Fin 1024) : u_ m c t (ix3 r j l) = (transpose S834x4x1024 [2, 0, 1] (U m c) transposes_S4x1024x834_S834x4x1024_2_0_1 : FVec Ideal S834x4x1024 .f32) (ix3 ⟨t.val * 139 + r.val, by have : t.val < 6 := lt_of_lt_of_eq t.isLt N_0; omega⟩ j l) := by
  have h : (V m c main_v3 : FVec Ideal S834x4x1024 .f32) (ix3 ⟨t.val * 139 + r.val, by have : t.val < 6 := lt_of_lt_of_eq t.isLt N_0; omega⟩ j l) = (transpose S834x4x1024 [2, 0, 1] (U m c) transposes_S4x1024x834_S834x4x1024_2_0_1 : FVec Ideal S834x4x1024 .f32) (ix3 ⟨t.val * 139 + r.val, by have : t.val < 6 := lt_of_lt_of_eq t.isLt N_0; omega⟩ j l) := by
    unfold V; after_reads_at
  rw [← h]
  blk_ext! [iblk, V, idx_val t]

theorem tile4 (r : Fin 139) (j : Fin 4) (l : Fin 1024) : k0_pay4 (F := Ideal) (g_ m c t) (m_ m c t) (u_ m c t) (w_ m c t) (ix3 r j l) = val_main_v24 (F := Ideal) (W m c) (G m c) (M m c) (U m c) (ix3 ⟨t.val * 139 + r.val, by have : t.val < 6 := lt_of_lt_of_eq t.isLt N_0; omega⟩ j l) := by
  have h_g := g_at m c t
  have h_m := m_at m c t
  have h_u := u_at m c t
  have h_w := w_at m c t
  generalize g_ m c t = v_g at *
  generalize m_ m c t = v_m at *
  generalize u_ m c t = v_u at *
  generalize w_ m c t = v_w at *
  pointwise [k0_pay1, k0_pay2, k0_pay3, k0_pay4, h_g, h_m, h_u, h_w, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem tile5 (r : Fin 139) (j : Fin 4) (l : Fin 1024) : k0_pay2 (F := Ideal) (g_ m c t) (m_ m c t) (ix3 r j l) = val_main_v25 (F := Ideal) (G m c) (M m c) (ix3 ⟨t.val * 139 + r.val, by have : t.val < 6 := lt_of_lt_of_eq t.isLt N_0; omega⟩ j l) := by
  have h_g := g_at m c t
  have h_m := m_at m c t
  generalize g_ m c t = v_g at *
  generalize m_ m c t = v_m at *
  pointwise [k0_pay1, k0_pay2, k0_pay3, k0_pay4, h_g, h_m, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem tile6 (r : Fin 139) (j : Fin 4) (l : Fin 1024) : k0_pay3 (F := Ideal) (g_ m c t) (u_ m c t) (ix3 r j l) = val_main_v26 (F := Ideal) (G m c) (U m c) (ix3 ⟨t.val * 139 + r.val, by have : t.val < 6 := lt_of_lt_of_eq t.isLt N_0; omega⟩ j l) := by
  have h_g := g_at m c t
  have h_u := u_at m c t
  generalize g_ m c t = v_g at *
  generalize u_ m c t = v_u at *
  pointwise [k0_pay1, k0_pay2, k0_pay3, k0_pay4, h_g, h_u, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

end Tile

theorem final4 (c : Dev nD) : (dats m 0 c).arrAt 4 (cfgs 0).N = val_main_v24 (F := Ideal) (W m c) (G m c) (M m c) (U m c) := by
  have hmain : ∀ (t : Fin cfg0.N) (y : S139x4x1024.Idx), k0_pay4 (F := Ideal) (g_ m c t) (m_ m c t) (u_ m c t) (w_ m c t) y
      = val_main_v24 (F := Ideal) (W m c) (G m c) (M m c) (U m c) (((cfg0.win 4).blk t).view.emb y) := by
    intro t y
    rw [eq_ix3 y]
    refine (tile4 m c t (y 0) (y 1) (y 2)).trans ?_
    blk_ext! [idx_val t]
  refine (dats m 0 c).arrAt_eq_of_covers 4 _ (by decide +kernel) fun t hf y => ?_
  blk_simp; rw [after0_4]
  unfold out0_4
  dsimp only
  frame_out
  exact hmain t y

theorem final5 (c : Dev nD) : (dats m 0 c).arrAt 5 (cfgs 0).N = val_main_v25 (F := Ideal) (G m c) (M m c) := by
  have hmain : ∀ (t : Fin cfg0.N) (y : S139x4x1024.Idx), k0_pay2 (F := Ideal) (g_ m c t) (m_ m c t) y
      = val_main_v25 (F := Ideal) (G m c) (M m c) (((cfg0.win 5).blk t).view.emb y) := by
    intro t y
    rw [eq_ix3 y]
    refine (tile5 m c t (y 0) (y 1) (y 2)).trans ?_
    blk_ext! [idx_val t]
  refine (dats m 0 c).arrAt_eq_of_covers 5 _ (by decide +kernel) fun t hf y => ?_
  blk_simp; rw [after0_5]
  unfold out0_5
  dsimp only
  frame_out
  exact hmain t y

theorem final6 (c : Dev nD) : (dats m 0 c).arrAt 6 (cfgs 0).N = val_main_v26 (F := Ideal) (G m c) (U m c) := by
  have hmain : ∀ (t : Fin cfg0.N) (y : S139x4x1024.Idx), k0_pay3 (F := Ideal) (g_ m c t) (u_ m c t) y
      = val_main_v26 (F := Ideal) (G m c) (U m c) (((cfg0.win 6).blk t).view.emb y) := by
    intro t y
    rw [eq_ix3 y]
    refine (tile6 m c t (y 0) (y 1) (y 2)).trans ?_
    blk_ext! [idx_val t]
  refine (dats m 0 c).arrAt_eq_of_covers 6 _ (by decide +kernel) fun t hf y => ?_
  blk_simp; rw [after0_6]
  unfold out0_6
  dsimp only
  frame_out
  exact hmain t y

theorem frame_kernel : Cert.quiescent_KernelAdamwIn := fun m ρ _ => Cert.KernelAdamwIn.Gen.frame m ρ

theorem frame_ideal : Cert.quiescent_KernelAdamwInIdeal := fun m ρ _ => Cert.KernelAdamwInIdeal.Gen.frame m ρ

theorem frame_reference : Cert.quiescent_ReferenceAdamwInIdeal := fun m ρ _ =>
  (θ_run Cert.ReferenceAdamwInIdeal.defs _ _).mono
    (fun r h => ⟨fun c => (h c).2.2.2, sem_eq_zero_of_no_sems (by decide) r.2⟩)
    (Cert.ReferenceAdamwInIdeal.Value.run m ρ)

theorem algebraic : Cert.algebraic_KernelAdamwInIdeal_ReferenceAdamwInIdeal := by
  pair_intro
  · run_from Cert.KernelAdamwInIdeal.Value.run_blocks m g
  · run_from Cert.ReferenceAdamwInIdeal.Value.run m' g'
    · rw [val_main_v24_eq]
      exact (final4 m c).symm
    · rw [val_main_v25_eq]
      exact (final5 m c).symm
    · rw [val_main_v26_eq]
      exact (final6 m c).symm

end Cert.KernelAdamwInIdeal.AdamwIn

end
-- ==== Proof.AdamwSmall.lean ====
/- The optimiser's step over the packed small weights, set beside the reference's. -/
module

public import proofs.«01_k».proof.Proof.Gen.KernelAdamwSmallIdeal.Frame
public import proofs.«01_k».proof.Proof.Gen.ReferenceAdamwSmallIdeal.Read
public import proofs.«01_k».proof.Proof.Gen.KernelAdamwSmall.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pointwise

@[expose] public section

set_option maxRecDepth 16384

noncomputable section

namespace Cert.KernelAdamwSmallIdeal.AdamwSmall

open Idealize.ShloMosaic Idealize.ShloMosaic.TcCoe Idealize.SL.Sem
open Idealize.ShloMosaic.Pipeline (Dat)
open Cert.ReferenceAdamwSmallIdeal.Read Cert.KernelAdamwSmallIdeal Cert.KernelAdamwSmallIdeal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-! ## The packed slab

Each array begins at a row of its own and runs on through the lanes, row after row. -/

theorem at3 {n₀ n₁ n₂ : ℕ} (X : (⟨3, ![n₀, n₁, n₂]⟩ : Shape).Idx → EReal) {i i' : Fin n₀} {j j' : Fin n₁} {k k' : Fin n₂}
    (hi : i.val = i'.val) (hj : j.val = j'.val) (hk : k.val = k'.val) : X (ix3 i j k) = X (ix3 i' j' k') := by
  rw [Fin.ext hi, Fin.ext hj, Fin.ext hk]

/-- the slab `T` holds the five arrays -/
def Packs (T : FVec Ideal S160x1024 .f32) (a : FVec Ideal S4x31x64 .f32) (b d : FVec Ideal S4x64x256 .f32) (e : FVec Ideal S4x3x64 .f32) (f : FVec Ideal S4x4x192 .f32) : Prop :=
  ∀ (r : Fin 160) (l : Fin 1024) (i : Fin 4),
    (∀ (j : Fin 31) (k : Fin 64), r.val * 1024 + l.val = i.val * 1984 + j.val * 64 + k.val → T (ix2 r l) = a (ix3 i j k))
    ∧ (∀ (j : Fin 64) (k : Fin 256), r.val * 1024 + l.val = 8 * 1024 + (i.val * 16384 + j.val * 256 + k.val) → T (ix2 r l) = b (ix3 i j k))
    ∧ (∀ (j : Fin 64) (k : Fin 256), r.val * 1024 + l.val = 72 * 1024 + (i.val * 16384 + j.val * 256 + k.val) → T (ix2 r l) = d (ix3 i j k))
    ∧ (∀ (j : Fin 3) (k : Fin 64), r.val * 1024 + l.val = 136 * 1024 + (i.val * 192 + j.val * 64 + k.val) → T (ix2 r l) = e (ix3 i j k))
    ∧ (∀ (j : Fin 4) (k : Fin 192), r.val * 1024 + l.val = 144 * 1024 + (i.val * 768 + j.val * 192 + k.val) → T (ix2 r l) = f (ix3 i j k))

/-! ## The arrays the call reads, at the reference's types -/

abbrev W1 (c : Dev nD) : FVec Ideal S4x31x64 .f32 := m ((c : Thread nD τ).loc main_arg0)
abbrev W2 (c : Dev nD) : FVec Ideal S4x64x256 .f32 := m ((c : Thread nD τ).loc main_arg1)
abbrev W3 (c : Dev nD) : FVec Ideal S4x64x256 .f32 := m ((c : Thread nD τ).loc main_arg2)
abbrev W4 (c : Dev nD) : FVec Ideal S4x3x64 .f32 := m ((c : Thread nD τ).loc main_arg3)
abbrev W5 (c : Dev nD) : FVec Ideal S4x4x192 .f32 := m ((c : Thread nD τ).loc main_arg4)
abbrev G1 (c : Dev nD) : FVec Ideal S4x31x64 .f32 := m ((c : Thread nD τ).loc main_arg5)
abbrev G2 (c : Dev nD) : FVec Ideal S4x64x256 .f32 := m ((c : Thread nD τ).loc main_arg6)
abbrev G3 (c : Dev nD) : FVec Ideal S4x64x256 .f32 := m ((c : Thread nD τ).loc main_arg7)
abbrev G4 (c : Dev nD) : FVec Ideal S4x3x64 .f32 := m ((c : Thread nD τ).loc main_arg8)
abbrev G5 (c : Dev nD) : FVec Ideal S4x4x192 .f32 := m ((c : Thread nD τ).loc main_arg9)
abbrev M1 (c : Dev nD) : FVec Ideal S4x31x64 .f32 := m ((c : Thread nD τ).loc main_arg10)
abbrev M2 (c : Dev nD) : FVec Ideal S4x64x256 .f32 := m ((c : Thread nD τ).loc main_arg11)
abbrev M3 (c : Dev nD) : FVec Ideal S4x64x256 .f32 := m ((c : Thread nD τ).loc main_arg12)
abbrev M4 (c : Dev nD) : FVec Ideal S4x3x64 .f32 := m ((c : Thread nD τ).loc main_arg13)
abbrev M5 (c : Dev nD) : FVec Ideal S4x4x192 .f32 := m ((c : Thread nD τ).loc main_arg14)
abbrev U1 (c : Dev nD) : FVec Ideal S4x31x64 .f32 := m ((c : Thread nD τ).loc main_arg15)
abbrev U2 (c : Dev nD) : FVec Ideal S4x64x256 .f32 := m ((c : Thread nD τ).loc main_arg16)
abbrev U3 (c : Dev nD) : FVec Ideal S4x64x256 .f32 := m ((c : Thread nD τ).loc main_arg17)
abbrev U4 (c : Dev nD) : FVec Ideal S4x3x64 .f32 := m ((c : Thread nD τ).loc main_arg18)
abbrev U5 (c : Dev nD) : FVec Ideal S4x4x192 .f32 := m ((c : Thread nD τ).loc main_arg19)

theorem packs_w (c : Dev nD) : Packs (V m c main_v16) (W1 m c) (W2 m c) (W3 m c) (W4 m c) (W5 m c) := by
  intro r l i
  refine ⟨?_, ?_, ?_, ?_, ?_⟩
  all_goals
    intro j k h
    unfold V
    after_reads_at
    repeat' first
      | rw [dif_pos (by omega)]
      | rw [dif_neg (by omega)]
    after_reads_at
    try rw [dif_pos (by omega)]
    refine at3 _ ?_ ?_ ?_
    all_goals (show _ = _; dsimp only; omega)

theorem packs_g (c : Dev nD) : Packs (V m c main_v33) (G1 m c) (G2 m c) (G3 m c) (G4 m c) (G5 m c) := by
  intro r l i
  refine ⟨?_, ?_, ?_, ?_, ?_⟩
  all_goals
    intro j k h
    unfold V
    after_reads_at
    repeat' first
      | rw [dif_pos (by omega)]
      | rw [dif_neg (by omega)]
    after_reads_at
    try rw [dif_pos (by omega)]
    refine at3 _ ?_ ?_ ?_
    all_goals (show _ = _; dsimp only; omega)

theorem packs_m (c : Dev nD) : Packs (V m c main_v50) (M1 m c) (M2 m c) (M3 m c) (M4 m c) (M5 m c) := by
  intro r l i
  refine ⟨?_, ?_, ?_, ?_, ?_⟩
  all_goals
    intro j k h
    unfold V
    after_reads_at
    repeat' first
      | rw [dif_pos (by omega)]
      | rw [dif_neg (by omega)]
    after_reads_at
    try rw [dif_pos (by omega)]
    refine at3 _ ?_ ?_ ?_
    all_goals (show _ = _; dsimp only; omega)

theorem packs_u (c : Dev nD) : Packs (V m c main_v67) (U1 m c) (U2 m c) (U3 m c) (U4 m c) (U5 m c) := by
  intro r l i
  refine ⟨?_, ?_, ?_, ?_, ?_⟩
  all_goals
    intro j k h
    unfold V
    after_reads_at
    repeat' first
      | rw [dif_pos (by omega)]
      | rw [dif_neg (by omega)]
    after_reads_at
    try rw [dif_pos (by omega)]
    refine at3 _ ?_ ?_ ?_
    all_goals (show _ = _; dsimp only; omega)

/-! ## The step

One element's step, the same for every element of every array. -/

def f4 (g m u w : EReal) : EReal := k0_pay4 (F := Ideal) (fun _ => g) (fun _ => m) (fun _ => u) (fun _ => w) (ix2 0 0)
def f5 (g m : EReal) : EReal := k0_pay2 (F := Ideal) (fun _ => g) (fun _ => m) (ix2 0 0)
def f6 (g u : EReal) : EReal := k0_pay3 (F := Ideal) (fun _ => g) (fun _ => u) (ix2 0 0)

theorem pay4_at (g m u w : FVec Ideal S160x1024 .f32) (r : Fin 160) (l : Fin 1024) : k0_pay4 (F := Ideal) g m u w (ix2 r l) = f4 (g (ix2 r l)) (m (ix2 r l)) (u (ix2 r l)) (w (ix2 r l)) := by
  pointwise [f4, k0_pay1, k0_pay2, k0_pay3, k0_pay4]

theorem pay5_at (g m : FVec Ideal S160x1024 .f32) (r : Fin 160) (l : Fin 1024) : k0_pay2 (F := Ideal) g m (ix2 r l) = f5 (g (ix2 r l)) (m (ix2 r l)) := by
  pointwise [f5, k0_pay1, k0_pay2]

theorem pay6_at (g u : FVec Ideal S160x1024 .f32) (r : Fin 160) (l : Fin 1024) : k0_pay3 (F := Ideal) g u (ix2 r l) = f6 (g (ix2 r l)) (u (ix2 r l)) := by
  pointwise [f6, k0_pay1, k0_pay3]

/-- a step, element by element, of slabs is the slab of the steps -/
theorem Packs.step4 {w g n u T : FVec Ideal S160x1024 .f32} {a a' a'' a₃ A : FVec Ideal S4x31x64 .f32} {b b' b'' b₃ B d d' d'' d₃ D : FVec Ideal S4x64x256 .f32} {e e' e'' e₃ E : FVec Ideal S4x3x64 .f32} {f f' f'' f₃ F : FVec Ideal S4x4x192 .f32}
    (hg : Packs g a b d e f) (hn : Packs n a' b' d' e' f') (hu : Packs u a'' b'' d'' e'' f'') (hw : Packs w a₃ b₃ d₃ e₃ f₃)
    (φ : EReal → EReal → EReal → EReal → EReal) (hT : ∀ r l, T (ix2 r l) = φ (g (ix2 r l)) (n (ix2 r l)) (u (ix2 r l)) (w (ix2 r l)))
    (hA : ∀ y, A y = φ (a y) (a' y) (a'' y) (a₃ y)) (hB : ∀ y, B y = φ (b y) (b' y) (b'' y) (b₃ y)) (hD : ∀ y, D y = φ (d y) (d' y) (d'' y) (d₃ y))
    (hE : ∀ y, E y = φ (e y) (e' y) (e'' y) (e₃ y)) (hF : ∀ y, F y = φ (f y) (f' y) (f'' y) (f₃ y)) : Packs T A B D E F := by
  intro r l i
  refine ⟨fun j k h => ?_, fun j k h => ?_, fun j k h => ?_, fun j k h => ?_, fun j k h => ?_⟩
  · rw [hT, hA, (hg r l i).1 j k h, (hn r l i).1 j k h, (hu r l i).1 j k h, (hw r l i).1 j k h]
  · rw [hT, hB, (hg r l i).2.1 j k h, (hn r l i).2.1 j k h, (hu r l i).2.1 j k h, (hw r l i).2.1 j k h]
  · rw [hT, hD, (hg r l i).2.2.1 j k h, (hn r l i).2.2.1 j k h, (hu r l i).2.2.1 j k h, (hw r l i).2.2.1 j k h]
  · rw [hT, hE, (hg r l i).2.2.2.1 j k h, (hn r l i).2.2.2.1 j k h, (hu r l i).2.2.2.1 j k h, (hw r l i).2.2.2.1 j k h]
  · rw [hT, hF, (hg r l i).2.2.2.2 j k h, (hn r l i).2.2.2.2 j k h, (hu r l i).2.2.2.2 j k h, (hw r l i).2.2.2.2 j k h]

theorem blk_w (c : Dev nD) (t : Fin cfg0.N) (r : Fin 160) (l : Fin 1024) : (iblk m c 0 t : FVec Ideal S160x1024 .f32) (ix2 r l) = (V m c main_v16 : FVec Ideal S160x1024 .f32) (ix2 r l) := by
  have ht : t.val = 0 := by have : t.val < 1 := lt_of_lt_of_eq t.isLt N_0; omega
  blk_ext! [iblk, V, idx_val t]

theorem blk_g (c : Dev nD) (t : Fin cfg0.N) (r : Fin 160) (l : Fin 1024) : (iblk m c 1 t : FVec Ideal S160x1024 .f32) (ix2 r l) = (V m c main_v33 : FVec Ideal S160x1024 .f32) (ix2 r l) := by
  have ht : t.val = 0 := by have : t.val < 1 := lt_of_lt_of_eq t.isLt N_0; omega
  blk_ext! [iblk, V, idx_val t]

theorem blk_m (c : Dev nD) (t : Fin cfg0.N) (r : Fin 160) (l : Fin 1024) : (iblk m c 2 t : FVec Ideal S160x1024 .f32) (ix2 r l) = (V m c main_v50 : FVec Ideal S160x1024 .f32) (ix2 r l) := by
  have ht : t.val = 0 := by have : t.val < 1 := lt_of_lt_of_eq t.isLt N_0; omega
  blk_ext! [iblk, V, idx_val t]

theorem blk_u (c : Dev nD) (t : Fin cfg0.N) (r : Fin 160) (l : Fin 1024) : (iblk m c 3 t : FVec Ideal S160x1024 .f32) (ix2 r l) = (V m c main_v67 : FVec Ideal S160x1024 .f32) (ix2 r l) := by
  have ht : t.val = 0 := by have : t.val < 1 := lt_of_lt_of_eq t.isLt N_0; omega
  blk_ext! [iblk, V, idx_val t]

theorem final4 (c : Dev nD) : (dats m 0 c).arrAt 4 (cfgs 0).N = k0_pay4 (F := Ideal) (V m c main_v33) (V m c main_v50) (V m c main_v67) (V m c main_v16) := by
  have hmain : ∀ (t : Fin cfg0.N) (y : S160x1024.Idx), k0_pay4 (F := Ideal) (iblk m c 1 t) (iblk m c 2 t) (iblk m c 3 t) (iblk m c 0 t) y
      = k0_pay4 (F := Ideal) (V m c main_v33) (V m c main_v50) (V m c main_v67) (V m c main_v16) (((cfg0.win 4).blk t).view.emb y) := by
    intro t y
    have ht : t.val = 0 := by have : t.val < 1 := lt_of_lt_of_eq t.isLt N_0; omega
    rw [eq_ix2 y]
    refine ((pay4_at _ _ _ _ (y 0) (y 1)).trans ?_).trans ((pay4_at (V m c main_v33) (V m c main_v50) (V m c main_v67) (V m c main_v16) (y 0) (y 1)).symm.trans ?_)
    · exact congr (congr (congr (congrArg f4 (blk_g m c t (y 0) (y 1))) (blk_m m c t (y 0) (y 1))) (blk_u m c t (y 0) (y 1))) (blk_w m c t (y 0) (y 1))
    · blk_ext! [idx_val t]
  refine (dats m 0 c).arrAt_eq_of_covers 4 _ (by decide +kernel) fun t hf y => ?_
  blk_simp; rw [after0_4]
  unfold out0_4
  dsimp only
  frame_out
  exact hmain t y

theorem final5 (c : Dev nD) : (dats m 0 c).arrAt 5 (cfgs 0).N = k0_pay2 (F := Ideal) (V m c main_v33) (V m c main_v50) := by
  have hmain : ∀ (t : Fin cfg0.N) (y : S160x1024.Idx), k0_pay2 (F := Ideal) (iblk m c 1 t) (iblk m c 2 t) y
      = k0_pay2 (F := Ideal) (V m c main_v33) (V m c main_v50) (((cfg0.win 5).blk t).view.emb y) := by
    intro t y
    have ht : t.val = 0 := by have : t.val < 1 := lt_of_lt_of_eq t.isLt N_0; omega
    rw [eq_ix2 y]
    refine ((pay5_at _ _ (y 0) (y 1)).trans ?_).trans ((pay5_at (V m c main_v33) (V m c main_v50) (y 0) (y 1)).symm.trans ?_)
    · exact congr (congrArg f5 (blk_g m c t (y 0) (y 1))) (blk_m m c t (y 0) (y 1))
    · blk_ext! [idx_val t]
  refine (dats m 0 c).arrAt_eq_of_covers 5 _ (by decide +kernel) fun t hf y => ?_
  blk_simp; rw [after0_5]
  unfold out0_5
  dsimp only
  frame_out
  exact hmain t y

theorem final6 (c : Dev nD) : (dats m 0 c).arrAt 6 (cfgs 0).N = k0_pay3 (F := Ideal) (V m c main_v33) (V m c main_v67) := by
  have hmain : ∀ (t : Fin cfg0.N) (y : S160x1024.Idx), k0_pay3 (F := Ideal) (iblk m c 1 t) (iblk m c 3 t) y
      = k0_pay3 (F := Ideal) (V m c main_v33) (V m c main_v67) (((cfg0.win 6).blk t).view.emb y) := by
    intro t y
    have ht : t.val = 0 := by have : t.val < 1 := lt_of_lt_of_eq t.isLt N_0; omega
    rw [eq_ix2 y]
    refine ((pay6_at _ _ (y 0) (y 1)).trans ?_).trans ((pay6_at (V m c main_v33) (V m c main_v67) (y 0) (y 1)).symm.trans ?_)
    · exact congr (congrArg f6 (blk_g m c t (y 0) (y 1))) (blk_u m c t (y 0) (y 1))
    · blk_ext! [idx_val t]
  refine (dats m 0 c).arrAt_eq_of_covers 6 _ (by decide +kernel) fun t hf y => ?_
  blk_simp; rw [after0_6]
  unfold out0_6
  dsimp only
  frame_out
  exact hmain t y

theorem packs_4 (c : Dev nD) : Packs ((dats m 0 c).arrAt 4 (cfgs 0).N)
    (val_main_v23 (F := Ideal) (W1 m c) (G1 m c) (M1 m c) (U1 m c)) (val_main_v47 (F := Ideal) (W2 m c) (G2 m c) (M2 m c) (U2 m c)) (val_main_v71 (F := Ideal) (W3 m c) (G3 m c) (M3 m c) (U3 m c)) (val_main_v95 (F := Ideal) (W4 m c) (G4 m c) (M4 m c) (U4 m c)) (val_main_v119 (F := Ideal) (W5 m c) (G5 m c) (M5 m c) (U5 m c)) := by
  rw [final4]
  exact (packs_g m c).step4 (packs_m m c) (packs_u m c) (packs_w m c) (f4) (fun r l => pay4_at _ _ _ _ r l)
    (fun _ => rfl) (fun _ => rfl) (fun _ => rfl) (fun _ => rfl) (fun _ => rfl)

theorem packs_5 (c : Dev nD) : Packs ((dats m 0 c).arrAt 5 (cfgs 0).N)
    (val_main_v4 (F := Ideal) (G1 m c) (M1 m c)) (val_main_v28 (F := Ideal) (G2 m c) (M2 m c)) (val_main_v52 (F := Ideal) (G3 m c) (M3 m c)) (val_main_v76 (F := Ideal) (G4 m c) (M4 m c)) (val_main_v100 (F := Ideal) (G5 m c) (M5 m c)) := by
  rw [final5]
  exact (packs_g m c).step4 (packs_m m c) (packs_u m c) (packs_w m c) (fun g n _ _ => f5 g n) (fun r l => pay5_at _ _ r l)
    (fun _ => rfl) (fun _ => rfl) (fun _ => rfl) (fun _ => rfl) (fun _ => rfl)

theorem packs_6 (c : Dev nD) : Packs ((dats m 0 c).arrAt 6 (cfgs 0).N)
    (val_main_v10 (F := Ideal) (G1 m c) (U1 m c)) (val_main_v34 (F := Ideal) (G2 m c) (U2 m c)) (val_main_v58 (F := Ideal) (G3 m c) (U3 m c)) (val_main_v82 (F := Ideal) (G4 m c) (U4 m c)) (val_main_v106 (F := Ideal) (G5 m c) (U5 m c)) := by
  rw [final6]
  exact (packs_g m c).step4 (packs_m m c) (packs_u m c) (packs_w m c) (fun g _ u _ => f6 g u) (fun r l => pay6_at _ _ r l)
    (fun _ => rfl) (fun _ => rfl) (fun _ => rfl) (fun _ => rfl) (fun _ => rfl)

/-! ## The lines after the call -/

/-- what the buffers hold at the end -/
abbrev End (c : Dev nD) (b : Ref sig .tc) : Buf (Elt Ideal) ((c.tc : Thread nD τ).loc b) := Pipeline.afterTail₀ cfgs (dats m) 0 (V0 m) [hostOps1] c b

theorem arr_end (c : Dev nD) (w : Fin 7) : Pipeline.withArrays (cfgs 0).spec c (V0 m c) (fun w => (dats m 0 c).arrAt w (cfgs 0).N) (Proc.devRef .tc (Pipeline.arrRef (cfgs 0).spec w)) = (dats m 0 c).arrAt w (cfgs 0).N :=
  Pipeline.withArrays_arr (cfgs 0).spec launch0.win.arr_inj c _ _ w

theorem row (o x : ℕ) : (o + x / 1024) * 1024 + x % 1024 = o * 1024 + x := by omega

theorem row_zero (x : ℕ) : x / 1024 * 1024 + x % 1024 = x := by omega

variable {T : FVec Ideal S160x1024 .f32} {a : FVec Ideal S4x31x64 .f32} {b d : FVec Ideal S4x64x256 .f32} {e : FVec Ideal S4x3x64 .f32} {f : FVec Ideal S4x4x192 .f32}

theorem end_v72 (c : Dev nD) (h : Packs T a b d e f)
    (hT : Pipeline.withArrays (cfgs 0).spec c (V0 m c) (fun w => (dats m 0 c).arrAt w (cfgs 0).N) (Proc.devRef .tc main_v68_0) = T) :
    End m c main_v72 = a := by
  have hmain : ∀ (i : Fin 4) (j : Fin 31) (k : Fin 64), (End m c main_v72 : FVec Ideal S4x31x64 .f32) (ix3 i j k) = a (ix3 i j k) := by
    intro i j k
    unfold End Pipeline.afterTail₀
    after_reads_at
    refine (congrFun hT _).trans ?_
    exact (h _ _ i).1 j k (row_zero _)
  funext y
  exact (congrArg (End m c main_v72) (eq_ix3 y)).trans ((hmain (y 0) (y 1) (y 2)).trans (congrArg a (eq_ix3 y).symm))

theorem end_v75 (c : Dev nD) (h : Packs T a b d e f)
    (hT : Pipeline.withArrays (cfgs 0).spec c (V0 m c) (fun w => (dats m 0 c).arrAt w (cfgs 0).N) (Proc.devRef .tc main_v68_0) = T) :
    End m c main_v75 = b := by
  have hmain : ∀ (i : Fin 4) (j : Fin 64) (k : Fin 256), (End m c main_v75 : FVec Ideal S4x64x256 .f32) (ix3 i j k) = b (ix3 i j k) := by
    intro i j k
    unfold End Pipeline.afterTail₀
    after_reads_at
    refine (congrFun hT _).trans ?_
    exact (h _ _ i).2.1 j k (row _ _)
  funext y
  exact (congrArg (End m c main_v75) (eq_ix3 y)).trans ((hmain (y 0) (y 1) (y 2)).trans (congrArg b (eq_ix3 y).symm))

theorem end_v78 (c : Dev nD) (h : Packs T a b d e f)
    (hT : Pipeline.withArrays (cfgs 0).spec c (V0 m c) (fun w => (dats m 0 c).arrAt w (cfgs 0).N) (Proc.devRef .tc main_v68_0) = T) :
    End m c main_v78 = d := by
  have hmain : ∀ (i : Fin 4) (j : Fin 64) (k : Fin 256), (End m c main_v78 : FVec Ideal S4x64x256 .f32) (ix3 i j k) = d (ix3 i j k) := by
    intro i j k
    unfold End Pipeline.afterTail₀
    after_reads_at
    refine (congrFun hT _).trans ?_
    exact (h _ _ i).2.2.1 j k (row _ _)
  funext y
  exact (congrArg (End m c main_v78) (eq_ix3 y)).trans ((hmain (y 0) (y 1) (y 2)).trans (congrArg d (eq_ix3 y).symm))

theorem end_v82 (c : Dev nD) (h : Packs T a b d e f)
    (hT : Pipeline.withArrays (cfgs 0).spec c (V0 m c) (fun w => (dats m 0 c).arrAt w (cfgs 0).N) (Proc.devRef .tc main_v68_0) = T) :
    End m c main_v82 = e := by
  have hmain : ∀ (i : Fin 4) (j : Fin 3) (k : Fin 64), (End m c main_v82 : FVec Ideal S4x3x64 .f32) (ix3 i j k) = e (ix3 i j k) := by
    intro i j k
    unfold End Pipeline.afterTail₀
    after_reads_at
    refine (congrFun hT _).trans ?_
    exact (h _ _ i).2.2.2.1 j k (row _ _)
  funext y
  exact (congrArg (End m c main_v82) (eq_ix3 y)).trans ((hmain (y 0) (y 1) (y 2)).trans (congrArg e (eq_ix3 y).symm))

theorem end_v86 (c : Dev nD) (h : Packs T a b d e f)
    (hT : Pipeline.withArrays (cfgs 0).spec c (V0 m c) (fun w => (dats m 0 c).arrAt w (cfgs 0).N) (Proc.devRef .tc main_v68_0) = T) :
    End m c main_v86 = f := by
  have hmain : ∀ (i : Fin 4) (j : Fin 4) (k : Fin 192), (End m c main_v86 : FVec Ideal S4x4x192 .f32) (ix3 i j k) = f (ix3 i j k) := by
    intro i j k
    unfold End Pipeline.afterTail₀
    after_reads_at
    refine (congrFun hT _).trans ?_
    exact (h _ _ i).2.2.2.2 j k (row _ _)
  funext y
  exact (congrArg (End m c main_v86) (eq_ix3 y)).trans ((hmain (y 0) (y 1) (y 2)).trans (congrArg f (eq_ix3 y).symm))

theorem end_v90 (c : Dev nD) (h : Packs T a b d e f)
    (hT : Pipeline.withArrays (cfgs 0).spec c (V0 m c) (fun w => (dats m 0 c).arrAt w (cfgs 0).N) (Proc.devRef .tc main_v68_1) = T) :
    End m c main_v90 = a := by
  have hmain : ∀ (i : Fin 4) (j : Fin 31) (k : Fin 64), (End m c main_v90 : FVec Ideal S4x31x64 .f32) (ix3 i j k) = a (ix3 i j k) := by
    intro i j k
    unfold End Pipeline.afterTail₀
    after_reads_at
    refine (congrFun hT _).trans ?_
    exact (h _ _ i).1 j k (row_zero _)
  funext y
  exact (congrArg (End m c main_v90) (eq_ix3 y)).trans ((hmain (y 0) (y 1) (y 2)).trans (congrArg a (eq_ix3 y).symm))

theorem end_v93 (c : Dev nD) (h : Packs T a b d e f)
    (hT : Pipeline.withArrays (cfgs 0).spec c (V0 m c) (fun w => (dats m 0 c).arrAt w (cfgs 0).N) (Proc.devRef .tc main_v68_1) = T) :
    End m c main_v93 = b := by
  have hmain : ∀ (i : Fin 4) (j : Fin 64) (k : Fin 256), (End m c main_v93 : FVec Ideal S4x64x256 .f32) (ix3 i j k) = b (ix3 i j k) := by
    intro i j k
    unfold End Pipeline.afterTail₀
    after_reads_at
    refine (congrFun hT _).trans ?_
    exact (h _ _ i).2.1 j k (row _ _)
  funext y
  exact (congrArg (End m c main_v93) (eq_ix3 y)).trans ((hmain (y 0) (y 1) (y 2)).trans (congrArg b (eq_ix3 y).symm))

theorem end_v96 (c : Dev nD) (h : Packs T a b d e f)
    (hT : Pipeline.withArrays (cfgs 0).spec c (V0 m c) (fun w => (dats m 0 c).arrAt w (cfgs 0).N) (Proc.devRef .tc main_v68_1) = T) :
    End m c main_v96 = d := by
  have hmain : ∀ (i : Fin 4) (j : Fin 64) (k : Fin 256), (End m c main_v96 : FVec Ideal S4x64x256 .f32) (ix3 i j k) = d (ix3 i j k) := by
    intro i j k
    unfold End Pipeline.afterTail₀
    after_reads_at
    refine (congrFun hT _).trans ?_
    exact (h _ _ i).2.2.1 j k (row _ _)
  funext y
  exact (congrArg (End m c main_v96) (eq_ix3 y)).trans ((hmain (y 0) (y 1) (y 2)).trans (congrArg d (eq_ix3 y).symm))

theorem end_v100 (c : Dev nD) (h : Packs T a b d e f)
    (hT : Pipeline.withArrays (cfgs 0).spec c (V0 m c) (fun w => (dats m 0 c).arrAt w (cfgs 0).N) (Proc.devRef .tc main_v68_1) = T) :
    End m c main_v100 = e := by
  have hmain : ∀ (i : Fin 4) (j : Fin 3) (k : Fin 64), (End m c main_v100 : FVec Ideal S4x3x64 .f32) (ix3 i j k) = e (ix3 i j k) := by
    intro i j k
    unfold End Pipeline.afterTail₀
    after_reads_at
    refine (congrFun hT _).trans ?_
    exact (h _ _ i).2.2.2.1 j k (row _ _)
  funext y
  exact (congrArg (End m c main_v100) (eq_ix3 y)).trans ((hmain (y 0) (y 1) (y 2)).trans (congrArg e (eq_ix3 y).symm))

theorem end_v104 (c : Dev nD) (h : Packs T a b d e f)
    (hT : Pipeline.withArrays (cfgs 0).spec c (V0 m c) (fun w => (dats m 0 c).arrAt w (cfgs 0).N) (Proc.devRef .tc main_v68_1) = T) :
    End m c main_v104 = f := by
  have hmain : ∀ (i : Fin 4) (j : Fin 4) (k : Fin 192), (End m c main_v104 : FVec Ideal S4x4x192 .f32) (ix3 i j k) = f (ix3 i j k) := by
    intro i j k
    unfold End Pipeline.afterTail₀
    after_reads_at
    refine (congrFun hT _).trans ?_
    exact (h _ _ i).2.2.2.2 j k (row _ _)
  funext y
  exact (congrArg (End m c main_v104) (eq_ix3 y)).trans ((hmain (y 0) (y 1) (y 2)).trans (congrArg f (eq_ix3 y).symm))

theorem end_v108 (c : Dev nD) (h : Packs T a b d e f)
    (hT : Pipeline.withArrays (cfgs 0).spec c (V0 m c) (fun w => (dats m 0 c).arrAt w (cfgs 0).N) (Proc.devRef .tc main_v68_2) = T) :
    End m c main_v108 = a := by
  have hmain : ∀ (i : Fin 4) (j : Fin 31) (k : Fin 64), (End m c main_v108 : FVec Ideal S4x31x64 .f32) (ix3 i j k) = a (ix3 i j k) := by
    intro i j k
    unfold End Pipeline.afterTail₀
    after_reads_at
    refine (congrFun hT _).trans ?_
    exact (h _ _ i).1 j k (row_zero _)
  funext y
  exact (congrArg (End m c main_v108) (eq_ix3 y)).trans ((hmain (y 0) (y 1) (y 2)).trans (congrArg a (eq_ix3 y).symm))

theorem end_v111 (c : Dev nD) (h : Packs T a b d e f)
    (hT : Pipeline.withArrays (cfgs 0).spec c (V0 m c) (fun w => (dats m 0 c).arrAt w (cfgs 0).N) (Proc.devRef .tc main_v68_2) = T) :
    End m c main_v111 = b := by
  have hmain : ∀ (i : Fin 4) (j : Fin 64) (k : Fin 256), (End m c main_v111 : FVec Ideal S4x64x256 .f32) (ix3 i j k) = b (ix3 i j k) := by
    intro i j k
    unfold End Pipeline.afterTail₀
    after_reads_at
    refine (congrFun hT _).trans ?_
    exact (h _ _ i).2.1 j k (row _ _)
  funext y
  exact (congrArg (End m c main_v111) (eq_ix3 y)).trans ((hmain (y 0) (y 1) (y 2)).trans (congrArg b (eq_ix3 y).symm))

theorem end_v114 (c : Dev nD) (h : Packs T a b d e f)
    (hT : Pipeline.withArrays (cfgs 0).spec c (V0 m c) (fun w => (dats m 0 c).arrAt w (cfgs 0).N) (Proc.devRef .tc main_v68_2) = T) :
    End m c main_v114 = d := by
  have hmain : ∀ (i : Fin 4) (j : Fin 64) (k : Fin 256), (End m c main_v114 : FVec Ideal S4x64x256 .f32) (ix3 i j k) = d (ix3 i j k) := by
    intro i j k
    unfold End Pipeline.afterTail₀
    after_reads_at
    refine (congrFun hT _).trans ?_
    exact (h _ _ i).2.2.1 j k (row _ _)
  funext y
  exact (congrArg (End m c main_v114) (eq_ix3 y)).trans ((hmain (y 0) (y 1) (y 2)).trans (congrArg d (eq_ix3 y).symm))

theorem end_v118 (c : Dev nD) (h : Packs T a b d e f)
    (hT : Pipeline.withArrays (cfgs 0).spec c (V0 m c) (fun w => (dats m 0 c).arrAt w (cfgs 0).N) (Proc.devRef .tc main_v68_2) = T) :
    End m c main_v118 = e := by
  have hmain : ∀ (i : Fin 4) (j : Fin 3) (k : Fin 64), (End m c main_v118 : FVec Ideal S4x3x64 .f32) (ix3 i j k) = e (ix3 i j k) := by
    intro i j k
    unfold End Pipeline.afterTail₀
    after_reads_at
    refine (congrFun hT _).trans ?_
    exact (h _ _ i).2.2.2.1 j k (row _ _)
  funext y
  exact (congrArg (End m c main_v118) (eq_ix3 y)).trans ((hmain (y 0) (y 1) (y 2)).trans (congrArg e (eq_ix3 y).symm))

theorem end_v122 (c : Dev nD) (h : Packs T a b d e f)
    (hT : Pipeline.withArrays (cfgs 0).spec c (V0 m c) (fun w => (dats m 0 c).arrAt w (cfgs 0).N) (Proc.devRef .tc main_v68_2) = T) :
    End m c main_v122 = f := by
  have hmain : ∀ (i : Fin 4) (j : Fin 4) (k : Fin 192), (End m c main_v122 : FVec Ideal S4x4x192 .f32) (ix3 i j k) = f (ix3 i j k) := by
    intro i j k
    unfold End Pipeline.afterTail₀
    after_reads_at
    refine (congrFun hT _).trans ?_
    exact (h _ _ i).2.2.2.2 j k (row _ _)
  funext y
  exact (congrArg (End m c main_v122) (eq_ix3 y)).trans ((hmain (y 0) (y 1) (y 2)).trans (congrArg f (eq_ix3 y).symm))

/-- an unscoped buffer that is no array of the call is found at the end as the lines leave it -/
theorem end_of {c : Dev nD} {r : PUnit × MemSt nD τ sig (Elt Ideal)} (h : Pipeline.FramePost cfgs (dats m) 0 (Pipeline.afterTail₀ cfgs (dats m) 0 (V0 m) [hostOps1]) r) (b : Ref sig .tc) (hb : b ∈ Pipeline.restRefs sig (cfgs 0).spec)
    {x : Buf (Elt Ideal) ((c.tc : Thread nD τ).loc b)} (hx : End m c b = x) : r.2.mem ((c.tc : Thread nD τ).loc b) = x :=
  ((h c).2 b hb).trans hx

theorem run (ρ : Dev nD → PrngReg) : θ_run defs (onTc (τ := τ) (main (F := Ideal))) ⟨m, fun _ => 0, ρ⟩ (fun r => ∀ c : Dev nD,
      r.2.mem ((c.tc : Thread nD τ).loc main_v72) = val_main_v23 (F := Ideal) (W1 m c) (G1 m c) (M1 m c) (U1 m c) ∧
      r.2.mem ((c.tc : Thread nD τ).loc main_v75) = val_main_v47 (F := Ideal) (W2 m c) (G2 m c) (M2 m c) (U2 m c) ∧
      r.2.mem ((c.tc : Thread nD τ).loc main_v78) = val_main_v71 (F := Ideal) (W3 m c) (G3 m c) (M3 m c) (U3 m c) ∧
      r.2.mem ((c.tc : Thread nD τ).loc main_v82) = val_main_v95 (F := Ideal) (W4 m c) (G4 m c) (M4 m c) (U4 m c) ∧
      r.2.mem ((c.tc : Thread nD τ).loc main_v86) = val_main_v119 (F := Ideal) (W5 m c) (G5 m c) (M5 m c) (U5 m c) ∧
      r.2.mem ((c.tc : Thread nD τ).loc main_v90) = val_main_v4 (F := Ideal) (G1 m c) (M1 m c) ∧
      r.2.mem ((c.tc : Thread nD τ).loc main_v93) = val_main_v28 (F := Ideal) (G2 m c) (M2 m c) ∧
      r.2.mem ((c.tc : Thread nD τ).loc main_v96) = val_main_v52 (F := Ideal) (G3 m c) (M3 m c) ∧
      r.2.mem ((c.tc : Thread nD τ).loc main_v100) = val_main_v76 (F := Ideal) (G4 m c) (M4 m c) ∧
      r.2.mem ((c.tc : Thread nD τ).loc main_v104) = val_main_v100 (F := Ideal) (G5 m c) (M5 m c) ∧
      r.2.mem ((c.tc : Thread nD τ).loc main_v108) = val_main_v10 (F := Ideal) (G1 m c) (U1 m c) ∧
      r.2.mem ((c.tc : Thread nD τ).loc main_v111) = val_main_v34 (F := Ideal) (G2 m c) (U2 m c) ∧
      r.2.mem ((c.tc : Thread nD τ).loc main_v114) = val_main_v58 (F := Ideal) (G3 m c) (U3 m c) ∧
      r.2.mem ((c.tc : Thread nD τ).loc main_v118) = val_main_v82 (F := Ideal) (G4 m c) (U4 m c) ∧
      r.2.mem ((c.tc : Thread nD τ).loc main_v122) = val_main_v106 (F := Ideal) (G5 m c) (U5 m c) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19)) :=
  (θ_run defs _ _).mono (fun r h c => ⟨end_of m h main_v72 (Pipeline.mem_restRefs_of main_v72 (by decide) (by decide)) (end_v72 m c (packs_4 m c) (arr_end m c 4)),
    end_of m h main_v75 (Pipeline.mem_restRefs_of main_v75 (by decide) (by decide)) (end_v75 m c (packs_4 m c) (arr_end m c 4)),
    end_of m h main_v78 (Pipeline.mem_restRefs_of main_v78 (by decide) (by decide)) (end_v78 m c (packs_4 m c) (arr_end m c 4)),
    end_of m h main_v82 (Pipeline.mem_restRefs_of main_v82 (by decide) (by decide)) (end_v82 m c (packs_4 m c) (arr_end m c 4)),
    end_of m h main_v86 (Pipeline.mem_restRefs_of main_v86 (by decide) (by decide)) (end_v86 m c (packs_4 m c) (arr_end m c 4)),
    end_of m h main_v90 (Pipeline.mem_restRefs_of main_v90 (by decide) (by decide)) (end_v90 m c (packs_5 m c) (arr_end m c 5)),
    end_of m h main_v93 (Pipeline.mem_restRefs_of main_v93 (by decide) (by decide)) (end_v93 m c (packs_5 m c) (arr_end m c 5)),
    end_of m h main_v96 (Pipeline.mem_restRefs_of main_v96 (by decide) (by decide)) (end_v96 m c (packs_5 m c) (arr_end m c 5)),
    end_of m h main_v100 (Pipeline.mem_restRefs_of main_v100 (by decide) (by decide)) (end_v100 m c (packs_5 m c) (arr_end m c 5)),
    end_of m h main_v104 (Pipeline.mem_restRefs_of main_v104 (by decide) (by decide)) (end_v104 m c (packs_5 m c) (arr_end m c 5)),
    end_of m h main_v108 (Pipeline.mem_restRefs_of main_v108 (by decide) (by decide)) (end_v108 m c (packs_6 m c) (arr_end m c 6)),
    end_of m h main_v111 (Pipeline.mem_restRefs_of main_v111 (by decide) (by decide)) (end_v111 m c (packs_6 m c) (arr_end m c 6)),
    end_of m h main_v114 (Pipeline.mem_restRefs_of main_v114 (by decide) (by decide)) (end_v114 m c (packs_6 m c) (arr_end m c 6)),
    end_of m h main_v118 (Pipeline.mem_restRefs_of main_v118 (by decide) (by decide)) (end_v118 m c (packs_6 m c) (arr_end m c 6)),
    end_of m h main_v122 (Pipeline.mem_restRefs_of main_v122 (by decide) (by decide)) (end_v122 m c (packs_6 m c) (arr_end m c 6)),
    end_of m h main_arg0 (Pipeline.mem_restRefs_of main_arg0 (by decide) (by decide)) (W_main_arg0 m (dats m) c),
    end_of m h main_arg1 (Pipeline.mem_restRefs_of main_arg1 (by decide) (by decide)) (W_main_arg1 m (dats m) c),
    end_of m h main_arg2 (Pipeline.mem_restRefs_of main_arg2 (by decide) (by decide)) (W_main_arg2 m (dats m) c),
    end_of m h main_arg3 (Pipeline.mem_restRefs_of main_arg3 (by decide) (by decide)) (W_main_arg3 m (dats m) c),
    end_of m h main_arg4 (Pipeline.mem_restRefs_of main_arg4 (by decide) (by decide)) (W_main_arg4 m (dats m) c),
    end_of m h main_arg5 (Pipeline.mem_restRefs_of main_arg5 (by decide) (by decide)) (W_main_arg5 m (dats m) c),
    end_of m h main_arg6 (Pipeline.mem_restRefs_of main_arg6 (by decide) (by decide)) (W_main_arg6 m (dats m) c),
    end_of m h main_arg7 (Pipeline.mem_restRefs_of main_arg7 (by decide) (by decide)) (W_main_arg7 m (dats m) c),
    end_of m h main_arg8 (Pipeline.mem_restRefs_of main_arg8 (by decide) (by decide)) (W_main_arg8 m (dats m) c),
    end_of m h main_arg9 (Pipeline.mem_restRefs_of main_arg9 (by decide) (by decide)) (W_main_arg9 m (dats m) c),
    end_of m h main_arg10 (Pipeline.mem_restRefs_of main_arg10 (by decide) (by decide)) (W_main_arg10 m (dats m) c),
    end_of m h main_arg11 (Pipeline.mem_restRefs_of main_arg11 (by decide) (by decide)) (W_main_arg11 m (dats m) c),
    end_of m h main_arg12 (Pipeline.mem_restRefs_of main_arg12 (by decide) (by decide)) (W_main_arg12 m (dats m) c),
    end_of m h main_arg13 (Pipeline.mem_restRefs_of main_arg13 (by decide) (by decide)) (W_main_arg13 m (dats m) c),
    end_of m h main_arg14 (Pipeline.mem_restRefs_of main_arg14 (by decide) (by decide)) (W_main_arg14 m (dats m) c),
    end_of m h main_arg15 (Pipeline.mem_restRefs_of main_arg15 (by decide) (by decide)) (W_main_arg15 m (dats m) c),
    end_of m h main_arg16 (Pipeline.mem_restRefs_of main_arg16 (by decide) (by decide)) (W_main_arg16 m (dats m) c),
    end_of m h main_arg17 (Pipeline.mem_restRefs_of main_arg17 (by decide) (by decide)) (W_main_arg17 m (dats m) c),
    end_of m h main_arg18 (Pipeline.mem_restRefs_of main_arg18 (by decide) (by decide)) (W_main_arg18 m (dats m) c),
    end_of m h main_arg19 (Pipeline.mem_restRefs_of main_arg19 (by decide) (by decide)) (W_main_arg19 m (dats m) c)⟩) (run_main m ρ)

theorem frame_kernel : Cert.quiescent_KernelAdamwSmall := fun m ρ _ => Cert.KernelAdamwSmall.Gen.frame m ρ

theorem frame_ideal : Cert.quiescent_KernelAdamwSmallIdeal := fun m ρ _ => Cert.KernelAdamwSmallIdeal.Gen.frame m ρ

theorem frame_reference : Cert.quiescent_ReferenceAdamwSmallIdeal := fun m ρ _ =>
  (θ_run Cert.ReferenceAdamwSmallIdeal.defs _ _).mono
    (fun r h => ⟨fun c => (h c).2.2.2.2.2.2.2.2.2.2.2.2.2.2.2, sem_eq_zero_of_no_sems (by decide) r.2⟩)
    (Cert.ReferenceAdamwSmallIdeal.Value.run m ρ)

set_option maxHeartbeats 4000000 in
theorem algebraic : Cert.algebraic_KernelAdamwSmallIdeal_ReferenceAdamwSmallIdeal := by
  pair_intro
  · run_from Cert.KernelAdamwSmallIdeal.AdamwSmall.run m g
  · run_from Cert.ReferenceAdamwSmallIdeal.Value.run m' g'
    · exact val_main_v23_eq _ _ _ _
    · exact val_main_v47_eq _ _ _ _
    · exact val_main_v71_eq _ _ _ _
    · exact val_main_v95_eq _ _ _ _
    · exact val_main_v119_eq _ _ _ _
    · exact val_main_v4_eq _ _
    · exact val_main_v28_eq _ _
    · exact val_main_v52_eq _ _
    · exact val_main_v76_eq _ _
    · exact val_main_v100_eq _ _
    · exact val_main_v10_eq _ _
    · exact val_main_v34_eq _ _
    · exact val_main_v58_eq _ _
    · exact val_main_v82_eq _ _
    · exact val_main_v106_eq _ _

end Cert.KernelAdamwSmallIdeal.AdamwSmall

end
-- ==== Proof.Sum.lean ====
/- The sum over the slots that arrived, set beside the reference's. -/
module

public import proofs.«01_k».proof.Proof.Gen.KernelSumIdeal.Value
public import proofs.«01_k».proof.Proof.Gen.ReferenceSumIdeal.Read
public import proofs.«01_k».proof.Proof.Gen.KernelSum.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pointwise

@[expose] public section

set_option maxRecDepth 16384

noncomputable section

namespace Cert.KernelSumIdeal.Sum

open Idealize.ShloMosaic Idealize.ShloMosaic.TcCoe Idealize.SL.Sem
open Idealize.ShloMosaic.Pipeline (Dat)
open Cert.ReferenceSumIdeal.Read Cert.KernelSumIdeal Cert.KernelSumIdeal.Gen

variable (m : (ℓ : Loc nD τ sig) → Buf (Elt Ideal) ℓ)

theorem idx_val : ∀ t : Fin cfg0.N, win0_0.index t = ![0, t.val, 0] ∧ win0_1.index t = ![t.val, 0] :=
  (by decide +kernel : ∀ t : Fin grid0.N, _)

/-- the array the call reads, at the reference's type -/
abbrev X (c : Dev nD) : FVec Ideal S8x512x834 .bf16 := m ((c : Thread nD τ).loc main_arg0)

/-- a tile's row, as the array's -/
abbrev row (t : Fin cfg0.N) (r : Fin 256) : Fin 512 :=
  ⟨t.val * 256 + r.val, by have : t.val < 2 := lt_of_lt_of_eq t.isLt N_0; omega⟩

section Tile

variable (c : Dev nD) (t : Fin cfg0.N)

/-- a tile's block -/
abbrev x : Vec Ideal S8x256x834 .bf16 := iblk m c 0 t

theorem x_at (j : Fin 8) (r : Fin 256) (k : Fin 834) : x m c t (ix3 j r k) = X m c (ix3 j (row t r) k) := by
  blk_ext! [iblk, V, idx_val t]

abbrev o : FVec Ideal S256x834 .f32 := k0_pay1 (F := Ideal) (View.ld (x m c t) r0_0) (View.ld (x m c t) r0_1) (View.ld (x m c t) r0_2) (View.ld (x m c t) r0_3)
  (View.ld (x m c t) r0_4) (View.ld (x m c t) r0_5) (View.ld (x m c t) r0_6) (View.ld (x m c t) r0_7)

theorem o_at (r : Fin 256) (k : Fin 834) : o m c t (ix2 r k) = val_main_v1 (F := Ideal) (X m c) (ix2 (row t r) k) := by
  have h := x_at m c t
  unfold o
  generalize x m c t = v at *
  pointwise [k0_pay1, r0_0, r0_1, r0_2, r0_3, r0_4, r0_5, r0_6, r0_7, h, val_main_v1, val_main_v0, val_main_cst]
  simp only [Fin.sum_univ_succ, Fin.sum_univ_zero, add_zero, add_assoc]
  rfl

end Tile

theorem final (c : Dev nD) : (dats m 0 c).arrAt 1 (cfgs 0).N = val_main_v1 (F := Ideal) (X m c) := by
  have hmain : ∀ (t : Fin cfg0.N) (y : S256x834.Idx), o m c t y
      = val_main_v1 (F := Ideal) (X m c) (((cfg0.win 1).blk t).view.emb y) := by
    intro t y
    rw [eq_ix2 y]
    refine (o_at m c t (y 0) (y 1)).trans ?_
    blk_ext! [idx_val t]
  refine (dats m 0 c).arrAt_eq_of_covers 1 _ (by decide +kernel) fun t hf y => ?_
  blk_simp; rw [after0_1]
  unfold out0_1
  dsimp only
  frame_out
  exact hmain t y

theorem frame_kernel : Cert.quiescent_KernelSum := fun m ρ _ => Cert.KernelSum.Gen.frame m ρ

theorem frame_ideal : Cert.quiescent_KernelSumIdeal := fun m ρ _ => Cert.KernelSumIdeal.Gen.frame m ρ

theorem frame_reference : Cert.quiescent_ReferenceSumIdeal := fun m ρ _ =>
  (θ_run Cert.ReferenceSumIdeal.defs _ _).mono
    (fun r h => ⟨fun c => (h c).2, sem_eq_zero_of_no_sems (by decide) r.2⟩)
    (Cert.ReferenceSumIdeal.Value.run m ρ)

set_option maxHeartbeats 2000000 in
theorem algebraic : Cert.algebraic_KernelSumIdeal_ReferenceSumIdeal := by
  pair_intro
  · run_from Cert.KernelSumIdeal.Value.run_blocks m g
  · run_from Cert.ReferenceSumIdeal.Value.run m' g'
    rw [val_main_v1_eq]
    exact (final m c).symm

end Cert.KernelSumIdeal.Sum

end
-- ==== Proof.Prep.lean ====
/- What the discretisation's gradient call leaves, set beside the reference's results. -/
module

public import proofs.«01_k».proof.Proof.PR
public import proofs.«01_k».proof.Proof.Gen.KernelPrepIdeal.Value
public import proofs.«01_k».proof.Proof.Gen.ReferencePrepIdeal.Run
public import proofs.«01_k».proof.Proof.Gen.KernelPrep.Frame
public import proofs.«01_k».proof.Defs
public import Idealize.ShloMosaic.Lib.StableHlo.ReadAt
public import Idealize.ShloMosaic.Lib.Claim
public import Idealize.ShloMosaic.Lib.Pipeline.ValueKit
public import Idealize.ShloMosaic.Lib.Pointwise

@[expose] public section

set_option maxRecDepth 16384

noncomputable section

namespace Cert.KernelPrepIdeal.Prep

open Idealize.ShloMosaic Idealize.ShloMosaic.TcCoe Idealize.SL.Sem
open Idealize.ShloMosaic.Pipeline (Dat)
open Cert.KernelPrepIdeal Cert.KernelPrepIdeal.Gen
open Cert.ReferencePrepIdeal.Prep (gr pp)

variable (m : (ℓ : Loc nD τ sig) → Buf (Elt Ideal) ℓ)

theorem idx_val : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0] :=
  (by decide +kernel : ∀ t : Fin grid0.N, _)

abbrev X0 (c : Dev nD) : FVec Ideal S16x64 .f32 := m ((c : Thread nD τ).loc main_arg0)
abbrev X1 (c : Dev nD) : FVec Ideal S16x64 .f32 := m ((c : Thread nD τ).loc main_arg1)
abbrev X2 (c : Dev nD) : FVec Ideal S16 .f32 := m ((c : Thread nD τ).loc main_arg2)
abbrev X3 (c : Dev nD) : FVec Ideal S16x64x16 .f32 := m ((c : Thread nD τ).loc main_arg3)
abbrev X4 (c : Dev nD) : FVec Ideal S16x64x16 .f32 := m ((c : Thread nD τ).loc main_arg4)
abbrev X7 (c : Dev nD) : FVec Ideal S1x1024 .f32 := m ((c : Thread nD τ).loc main_arg7)
abbrev X8 (c : Dev nD) : FVec Ideal S1x1024 .f32 := m ((c : Thread nD τ).loc main_arg8)
abbrev X9 (c : Dev nD) : FVec Ideal S256x2048 .f32 := m ((c : Thread nD τ).loc main_arg9)
abbrev X10 (c : Dev nD) : FVec Ideal S256x2048 .f32 := m ((c : Thread nD τ).loc main_arg10)

/-! ## The packed arguments -/

theorem step_at (c : Dev nD) (k : Fin 128) : (V m c main_v3 : FVec Ideal S1x128 .f32) (ix2 0 k) = if h : k.val < 16 then X2 m c (ix1 ⟨k.val, h⟩) else 0 := by
  unfold V
  simp only [hostOps0, hostOps0_1, hostOps0_2, List.flatten_cons, List.flatten_nil, List.append_nil, List.cons_append, List.nil_append]
  after_reads_at
  split
  · rfl
  · exact (by simp [FloatOps.sitofp] : (FloatOps.sitofp (F := Ideal) FTy.f32 (0#32) : EReal) = 0)

theorem lane0_at (c : Dev nD) (l : Fin 1024) : (V m c main_v0 : FVec Ideal S1x1024 .f32) (ix2 0 l) = X0 m c (ix2 (gr l) (pp l)) := by
  unfold V
  simp only [hostOps0, hostOps0_1, hostOps0_2, List.flatten_cons, List.flatten_nil, List.append_nil, List.cons_append, List.nil_append]
  after_reads_at
  rfl

theorem lane1_at (c : Dev nD) (l : Fin 1024) : (V m c main_v1 : FVec Ideal S1x1024 .f32) (ix2 0 l) = X1 m c (ix2 (gr l) (pp l)) := by
  unfold V
  simp only [hostOps0, hostOps0_1, hostOps0_2, List.flatten_cons, List.flatten_nil, List.append_nil, List.cons_append, List.nil_append]
  after_reads_at
  rfl

theorem lane3_at (c : Dev nD) (h : Fin 16) (l : Fin 1024) : (V m c main_v5 : FVec Ideal S16x1024 .f32) (ix2 h l) = X3 m c (ix3 (gr l) (pp l) h) := by
  unfold V
  simp only [hostOps0, hostOps0_1, hostOps0_2, List.flatten_cons, List.flatten_nil, List.append_nil, List.cons_append, List.nil_append]
  after_reads_at
  rfl

theorem lane4_at (c : Dev nD) (h : Fin 16) (l : Fin 1024) : (V m c main_v7 : FVec Ideal S16x1024 .f32) (ix2 h l) = X4 m c (ix3 (gr l) (pp l) h) := by
  unfold V
  simp only [hostOps0, hostOps0_1, hostOps0_2, List.flatten_cons, List.flatten_nil, List.append_nil, List.cons_append, List.nil_append]
  after_reads_at
  rfl

section Tile

variable (c : Dev nD) (t : Fin cfg0.N)

theorem blk0 (l : Fin 1024) : (iblk m c 0 t : FVec Ideal S1x1024 .f32) (ix2 0 l) = (V m c main_v0 : FVec Ideal S1x1024 .f32) (ix2 0 l) := by
  blk_simp [iblk, idx_val t]
  blk_ext [idx_val t]

theorem blk1 (l : Fin 1024) : (iblk m c 1 t : FVec Ideal S1x1024 .f32) (ix2 0 l) = (V m c main_v1 : FVec Ideal S1x1024 .f32) (ix2 0 l) := by
  blk_simp [iblk, idx_val t]
  blk_ext [idx_val t]

theorem blk2 (l : Fin 128) : (iblk m c 2 t : FVec Ideal S1x128 .f32) (ix2 0 l) = (V m c main_v3 : FVec Ideal S1x128 .f32) (ix2 0 l) := by
  blk_simp [iblk, idx_val t]
  blk_ext [idx_val t]

theorem blk3 (h : Fin 16) (l : Fin 1024) : (iblk m c 3 t : FVec Ideal S16x1024 .f32) (ix2 h l) = (V m c main_v5 : FVec Ideal S16x1024 .f32) (ix2 h l) := by
  blk_simp [iblk, idx_val t]
  blk_ext [idx_val t]

theorem blk4 (h : Fin 16) (l : Fin 1024) : (iblk m c 4 t : FVec Ideal S16x1024 .f32) (ix2 h l) = (V m c main_v7 : FVec Ideal S16x1024 .f32) (ix2 h l) := by
  blk_simp [iblk, idx_val t]
  blk_ext [idx_val t]

theorem blk7 (l : Fin 1024) : (iblk m c 7 t : FVec Ideal S1x1024 .f32) (ix2 0 l) = X7 m c (ix2 0 l) := by
  blk_ext! [iblk, V, idx_val t]

theorem blk8 (l : Fin 1024) : (iblk m c 8 t : FVec Ideal S1x1024 .f32) (ix2 0 l) = X8 m c (ix2 0 l) := by
  blk_ext! [iblk, V, idx_val t]

theorem blk9 (k : Fin 256) (l : Fin 2048) : (iblk m c 9 t : FVec Ideal S256x2048 .f32) (ix2 k l) = X9 m c (ix2 k l) := by
  blk_ext! [iblk, V, idx_val t]

theorem blk10 (k : Fin 256) (l : Fin 2048) : (iblk m c 10 t : FVec Ideal S256x2048 .f32) (ix2 k l) = X10 m c (ix2 k l) := by
  blk_ext! [iblk, V, idx_val t]

/-- the 0/1 matrix that keeps a lane's own group -/
abbrev mask : FVec Ideal S256x1024 .f32 :=
  k0_pay31 (F := Ideal) (k0_pay30 (iota .tc S256x1024 32 [0] iota_S256x1024_d0_w32) (iota .tc S256x1024 32 [1] iota_S256x1024_d1_w32) 16#32 k0_pay29 0#32)
abbrev v1 : FVec Ideal S1x1024 .f32 := k0_pay2 (F := Ideal) (iblk m c 0 t)
abbrev v3 : FVec Ideal S1x1024 .f32 := k0_pay3 (F := Ideal) (iblk m c 1 t)
abbrev v7 : FVec Ideal S16x1024 .f32 := k0_pay4 (F := Ideal) (iblk m c 3 t)
abbrev v9 : FVec Ideal S16x1024 .f32 := k0_pay5 (F := Ideal) (iblk m c 4 t)
abbrev v41 : FVec Ideal S8x1024 .f32 := k0_pay7 (F := Ideal) (iblk m c 2 t)
abbrev s1 : FVec Ideal S1x1024 .f32 := k0_pay52 (F := Ideal) (v7 m c t) (v9 m c t) (k0_pay44 mask (iblk m c 9 t)) (k0_pay45 mask (iblk m c 9 t)) (k0_pay46 mask (iblk m c 9 t)) (k0_pay47 mask (iblk m c 9 t)) (k0_pay48 mask (iblk m c 9 t))
abbrev s2 : FVec Ideal S1x1024 .f32 := k0_pay54 (F := Ideal) (v7 m c t) (v9 m c t) (k0_pay44 mask (iblk m c 9 t)) (k0_pay45 mask (iblk m c 9 t)) (k0_pay46 mask (iblk m c 9 t)) (k0_pay47 mask (iblk m c 9 t)) (k0_pay48 mask (iblk m c 9 t))
abbrev s3 : FVec Ideal S1x1024 .f32 := k0_pay55 (F := Ideal) (v7 m c t) (v9 m c t) (k0_pay28 (v1 m c t) (v3 m c t)) (k0_pay44 mask (iblk m c 9 t)) (k0_pay45 mask (iblk m c 9 t)) (k0_pay46 mask (iblk m c 9 t)) (k0_pay47 mask (iblk m c 9 t)) (k0_pay48 mask (iblk m c 9 t))

theorem v1_at (l : Fin 1024) : v1 m c t (ix2 0 l) = X0 m c (ix2 (gr l) (pp l)) := by
  refine Eq.trans ?_ ((blk0 m c t l).trans (lane0_at m c l))
  pointwise [v1, k0_pay2]

theorem v3_at (l : Fin 1024) : v3 m c t (ix2 0 l) = X1 m c (ix2 (gr l) (pp l)) := by
  refine Eq.trans ?_ ((blk1 m c t l).trans (lane1_at m c l))
  pointwise [v3, k0_pay3]

theorem v7_at (h : Fin 16) (l : Fin 1024) : v7 m c t (ix2 h l) = X3 m c (ix3 (gr l) (pp l) h) := by
  refine Eq.trans ?_ ((blk3 m c t h l).trans (lane3_at m c h l))
  pointwise [v7, k0_pay4]

theorem v9_at (h : Fin 16) (l : Fin 1024) : v9 m c t (ix2 h l) = X4 m c (ix3 (gr l) (pp l) h) := by
  refine Eq.trans ?_ ((blk4 m c t h l).trans (lane4_at m c h l))
  pointwise [v9, k0_pay5]

theorem v41_at (l : Fin 1024) : v41 m c t (ix2 0 l) = X2 m c (ix1 (gr l)) := by
  refine (spread_at (iblk m c 2 t) l).trans ((blk2 m c t _).trans ((step_at m c _).trans ?_))
  exact dif_pos (by dsimp only; omega)

theorem own9 (p : ℕ) (hp : p < 2) (h : Fin 16) (l : Fin 1024) : own (iblk m c 9 t) p hp h l = own (X9 m c) p hp h l := by
  unfold own
  exact blk9 m c t _ _

theorem own10 (p : ℕ) (hp : p < 2) (h : Fin 16) (l : Fin 1024) : own (iblk m c 10 t) p hp h l = own (X10 m c) p hp h l := by
  unfold own
  exact blk10 m c t _ _

theorem s1_lane (l : Fin 1024) : s1 m c t (ix2 0 l)
    = Cert.ReferencePrepIdeal.Read.val_main_v137 (F := Ideal) (X3 m c) (X4 m c) (X9 m c) (ix2 (gr l) (pp l)) := by
  refine (s1_at (v7 m c t) (v9 m c t) mask mask_at (iblk m c 9 t) l).trans ?_
  rw [Cert.ReferencePrepIdeal.Prep.s1_at]
  simp only [own9, v7_at, v9_at]

theorem s2_lane (l : Fin 1024) : s2 m c t (ix2 0 l)
    = Cert.ReferencePrepIdeal.Read.val_main_v138 (F := Ideal) (X3 m c) (X4 m c) (X9 m c) (ix2 (gr l) (pp l)) := by
  refine (s2_at (v7 m c t) (v9 m c t) mask mask_at (iblk m c 9 t) l).trans ?_
  rw [Cert.ReferencePrepIdeal.Prep.s2_at]
  simp only [own9, v7_at, v9_at]

/-- the reference's lane -/
abbrev rl (l : Fin 1024) : Pt := Cert.ReferencePrepIdeal.Prep.lane (X0 m c) (X1 m c) (X2 m c) (X3 m c) (X4 m c) (X7 m c) (X8 m c) (X9 m c) l

theorem lane_eq (l : Fin 1024) :
    lane (v1 m c t) (v3 m c t) (iblk m c 7 t) (iblk m c 8 t) (s1 m c t) (s2 m c t) (v41 m c t) l = rl m c l := by
  unfold lane rl Cert.ReferencePrepIdeal.Prep.lane
  rw [v1_at, v3_at, v41_at, s1_lane, s2_lane, blk7, blk8]

theorem s3_at (l : Fin 1024) : s3 m c t (ix2 0 l) = s1 m c t (ix2 0 l)
    * (lane (v1 m c t) (v3 m c t) (iblk m c 7 t) (iblk m c 8 t) (s1 m c t) (s2 m c t) (v41 m c t) l).rn :=
  congrArg (s1 m c t (ix2 0 l) * ·) (rn_at (v1 m c t) (v3 m c t) (iblk m c 7 t) (iblk m c 8 t) (s1 m c t) (s2 m c t) (v41 m c t) l)

end Tile

theorem one (j : S1x1024.Idx) : j = ix2 (0 : Fin 1) (j 1) := (eq_ix2 j).trans (congrArg (fun z : Fin 1 => ix2 z (j 1)) (Fin.ext (Nat.lt_one_iff.mp (j 0).isLt)))
theorem one128 (j : S1x128.Idx) : j = ix2 (0 : Fin 1) (j 1) := (eq_ix2 j).trans (congrArg (fun z : Fin 1 => ix2 z (j 1)) (Fin.ext (Nat.lt_one_iff.mp (j 0).isLt)))

/-! ## The results at the only step -/

section

variable (c : Dev nD) (t : Fin cfg0.N)

abbrev odlre : FVec Ideal S1x1024 .f32 := k0_pay67 (F := Ideal) (v3 m c t) (k0_pay8 (v41 m c t)) (k0_pay9 (v1 m c t)) (k0_pay10 (v1 m c t)) (k0_pay11 (v1 m c t) (v41 m c t)) (k0_pay13 (v3 m c t) (v41 m c t)) (k0_pay17 (v3 m c t) (v41 m c t)) (k0_pay19 (v1 m c t) (v3 m c t) (v41 m c t)) (k0_pay20 (v1 m c t) (v3 m c t)) (k0_pay21 (v1 m c t) (v3 m c t) (v41 m c t)) (k0_pay22 (v1 m c t) (v3 m c t) (v41 m c t)) (k0_pay24 (v1 m c t) (v3 m c t)) (k0_pay26 (v1 m c t) (v3 m c t) (v41 m c t)) (iblk m c 7 t) (iblk m c 8 t) (s1 m c t) (s2 m c t) (s3 m c t)

abbrev odlim : FVec Ideal S1x1024 .f32 := k0_pay64 (F := Ideal) (v3 m c t) (k0_pay8 (v41 m c t)) (k0_pay9 (v1 m c t)) (k0_pay11 (v1 m c t) (v41 m c t)) (k0_pay14 (v3 m c t) (v41 m c t)) (k0_pay18 (v3 m c t) (v41 m c t)) (k0_pay19 (v1 m c t) (v3 m c t) (v41 m c t)) (k0_pay20 (v1 m c t) (v3 m c t)) (k0_pay22 (v1 m c t) (v3 m c t) (v41 m c t)) (k0_pay24 (v1 m c t) (v3 m c t)) (k0_pay25 (v1 m c t) (v3 m c t) (v41 m c t)) (k0_pay26 (v1 m c t) (v3 m c t) (v41 m c t)) (iblk m c 7 t) (iblk m c 8 t) (s1 m c t) (s2 m c t) (s3 m c t)

abbrev oddt : FVec Ideal S1x1024 .f32 := k0_pay66 (F := Ideal) (v3 m c t) (k0_pay9 (v1 m c t)) (k0_pay11 (v1 m c t) (v41 m c t)) (k0_pay13 (v3 m c t) (v41 m c t)) (k0_pay14 (v3 m c t) (v41 m c t)) (k0_pay17 (v3 m c t) (v41 m c t)) (k0_pay18 (v3 m c t) (v41 m c t)) (k0_pay20 (v1 m c t) (v3 m c t)) (iblk m c 7 t) (iblk m c 8 t) (s1 m c t) (s2 m c t)

abbrev odldt : FVec Ideal S1x128 .f32 := k0_pay1 (F := Ideal) k0_pay6 (k0_pay8 (v41 m c t)) (oddt m c t)

abbrev odbre : FVec Ideal S16x1024 .f32 := k0_pay53 (F := Ideal) (k0_pay23 (v1 m c t) (v3 m c t) (v41 m c t)) (k0_pay27 (v1 m c t) (v3 m c t) (v41 m c t)) (k0_pay44 mask (iblk m c 9 t)) (k0_pay45 mask (iblk m c 9 t)) (k0_pay46 mask (iblk m c 9 t)) (k0_pay47 mask (iblk m c 9 t)) (k0_pay48 mask (iblk m c 9 t))

abbrev odbim : FVec Ideal S16x1024 .f32 := k0_pay51 (F := Ideal) (k0_pay23 (v1 m c t) (v3 m c t) (v41 m c t)) (k0_pay27 (v1 m c t) (v3 m c t) (v41 m c t)) (k0_pay44 mask (iblk m c 9 t)) (k0_pay45 mask (iblk m c 9 t)) (k0_pay46 mask (iblk m c 9 t)) (k0_pay47 mask (iblk m c 9 t)) (k0_pay48 mask (iblk m c 9 t))

abbrev odcre : FVec Ideal S16x1024 .f32 := k0_pay43 (k0_pay33 (F := Ideal) (k0_pay30 (iota .tc S256x1024 32 [0] iota_S256x1024_d0_w32) (iota .tc S256x1024 32 [1] iota_S256x1024_d1_w32) 16#32 k0_pay29 0#32) (iblk m c 10 t)) (k0_pay34 (F := Ideal) (k0_pay30 (iota .tc S256x1024 32 [0] iota_S256x1024_d0_w32) (iota .tc S256x1024 32 [1] iota_S256x1024_d1_w32) 16#32 k0_pay29 0#32) (iblk m c 10 t)) (k0_pay35 (F := Ideal) (k0_pay30 (iota .tc S256x1024 32 [0] iota_S256x1024_d0_w32) (iota .tc S256x1024 32 [1] iota_S256x1024_d1_w32) 16#32 k0_pay29 0#32) (iblk m c 10 t)) (k0_pay36 (F := Ideal) (k0_pay30 (iota .tc S256x1024 32 [0] iota_S256x1024_d0_w32) (iota .tc S256x1024 32 [1] iota_S256x1024_d1_w32) 16#32 k0_pay29 0#32) (iblk m c 10 t)) (k0_pay37 (F := Ideal) (k0_pay30 (iota .tc S256x1024 32 [0] iota_S256x1024_d0_w32) (iota .tc S256x1024 32 [1] iota_S256x1024_d1_w32) 16#32 k0_pay29 0#32) (iblk m c 10 t)) (k0_pay38 (F := Ideal) (k0_pay30 (iota .tc S256x1024 32 [0] iota_S256x1024_d0_w32) (iota .tc S256x1024 32 [1] iota_S256x1024_d1_w32) 16#32 k0_pay29 0#32) (iblk m c 10 t)) (k0_pay39 (F := Ideal) (k0_pay30 (iota .tc S256x1024 32 [0] iota_S256x1024_d0_w32) (iota .tc S256x1024 32 [1] iota_S256x1024_d1_w32) 16#32 k0_pay29 0#32) (iblk m c 10 t)) (k0_pay40 (F := Ideal) (k0_pay30 (iota .tc S256x1024 32 [0] iota_S256x1024_d0_w32) (iota .tc S256x1024 32 [1] iota_S256x1024_d1_w32) 16#32 k0_pay29 0#32) (iblk m c 10 t)) (k0_pay41 (F := Ideal) (k0_pay30 (iota .tc S256x1024 32 [0] iota_S256x1024_d0_w32) (iota .tc S256x1024 32 [1] iota_S256x1024_d1_w32) 16#32 k0_pay29 0#32) (iblk m c 10 t)) (k0_pay42 (F := Ideal) (k0_pay30 (iota .tc S256x1024 32 [0] iota_S256x1024_d0_w32) (iota .tc S256x1024 32 [1] iota_S256x1024_d1_w32) 16#32 k0_pay29 0#32) (iblk m c 10 t))

abbrev odcim : FVec Ideal S16x1024 .f32 := k0_pay32 (F := Ideal) (k0_pay30 (iota .tc S256x1024 32 [0] iota_S256x1024_d0_w32) (iota .tc S256x1024 32 [1] iota_S256x1024_d1_w32) 16#32 k0_pay29 0#32) (iblk m c 10 t)

end

section Final

variable (c : Dev nD)

theorem dlre_ref (l : Fin 1024) : Cert.ReferencePrepIdeal.Read.val_main_v203 (F := Ideal) (X0 m c) (X1 m c) (X2 m c) (X3 m c) (X4 m c) (X7 m c) (X8 m c) (X9 m c) (ix2 0 l) = (rl m c l).dlre := by
  refine Eq.trans ?_ (Cert.ReferencePrepIdeal.Prep.dlre_at (X0 m c) (X1 m c) (X2 m c) (X3 m c) (X4 m c) (X7 m c) (X8 m c) (X9 m c) l)
  pointwise [Cert.ReferencePrepIdeal.Read.val_main_v203]
  rfl

theorem tile_dlre (t : Fin cfg0.N) (l : Fin 1024) : odlre m c t (ix2 0 l) = Cert.ReferencePrepIdeal.Read.val_main_v203 (F := Ideal) (X0 m c) (X1 m c) (X2 m c) (X3 m c) (X4 m c) (X7 m c) (X8 m c) (X9 m c) (ix2 0 l) := by
  refine (dlre_at (v1 m c t) (v3 m c t) (iblk m c 7 t) (iblk m c 8 t) (s1 m c t) (s2 m c t) (s3 m c t) (v41 m c t) l (s3_at m c t l)).trans ?_
  rw [lane_eq, ← dlre_ref]

theorem final_dlre : (dats m 0 c).arrAt 11 (cfgs 0).N = Cert.ReferencePrepIdeal.Read.val_main_v203 (F := Ideal) (X0 m c) (X1 m c) (X2 m c) (X3 m c) (X4 m c) (X7 m c) (X8 m c) (X9 m c) := by
  have hmain : ∀ (t : Fin cfg0.N) (y : S1x1024.Idx), odlre m c t y = Cert.ReferencePrepIdeal.Read.val_main_v203 (F := Ideal) (X0 m c) (X1 m c) (X2 m c) (X3 m c) (X4 m c) (X7 m c) (X8 m c) (X9 m c) (((cfg0.win 11).blk t).view.emb y) := by
    intro t y
    rw [one y]
    refine (tile_dlre m c t (y 1)).trans ?_
    blk_ext! [idx_val t]
  refine (dats m 0 c).arrAt_eq_of_covers 11 _ (by decide +kernel) fun t hf y => ?_
  blk_simp; rw [after0_11]
  unfold_out out0_11
  frame_out
  exact hmain t y

theorem dlim_ref (l : Fin 1024) : Cert.ReferencePrepIdeal.Read.val_main_v204 (F := Ideal) (X0 m c) (X1 m c) (X2 m c) (X3 m c) (X4 m c) (X7 m c) (X8 m c) (X9 m c) (ix2 0 l) = (rl m c l).dlim := by
  refine Eq.trans ?_ (Cert.ReferencePrepIdeal.Prep.dlim_at (X0 m c) (X1 m c) (X2 m c) (X3 m c) (X4 m c) (X7 m c) (X8 m c) (X9 m c) l)
  pointwise [Cert.ReferencePrepIdeal.Read.val_main_v204]
  rfl

theorem tile_dlim (t : Fin cfg0.N) (l : Fin 1024) : odlim m c t (ix2 0 l) = Cert.ReferencePrepIdeal.Read.val_main_v204 (F := Ideal) (X0 m c) (X1 m c) (X2 m c) (X3 m c) (X4 m c) (X7 m c) (X8 m c) (X9 m c) (ix2 0 l) := by
  refine (dlim_at (v1 m c t) (v3 m c t) (iblk m c 7 t) (iblk m c 8 t) (s1 m c t) (s2 m c t) (s3 m c t) (v41 m c t) l (s3_at m c t l)).trans ?_
  rw [lane_eq, ← dlim_ref]

theorem final_dlim : (dats m 0 c).arrAt 12 (cfgs 0).N = Cert.ReferencePrepIdeal.Read.val_main_v204 (F := Ideal) (X0 m c) (X1 m c) (X2 m c) (X3 m c) (X4 m c) (X7 m c) (X8 m c) (X9 m c) := by
  have hmain : ∀ (t : Fin cfg0.N) (y : S1x1024.Idx), odlim m c t y = Cert.ReferencePrepIdeal.Read.val_main_v204 (F := Ideal) (X0 m c) (X1 m c) (X2 m c) (X3 m c) (X4 m c) (X7 m c) (X8 m c) (X9 m c) (((cfg0.win 12).blk t).view.emb y) := by
    intro t y
    rw [one y]
    refine (tile_dlim m c t (y 1)).trans ?_
    blk_ext! [idx_val t]
  refine (dats m 0 c).arrAt_eq_of_covers 12 _ (by decide +kernel) fun t hf y => ?_
  blk_simp; rw [after0_12]
  unfold_out out0_12
  frame_out
  exact hmain t y

theorem dbre_ref (h : Fin 16) (l : Fin 1024) : Cert.ReferencePrepIdeal.Read.val_main_v209 (F := Ideal) (X0 m c) (X1 m c) (X2 m c) (X9 m c) (ix2 h l)
    = Cert.ReferencePrepIdeal.Read.val_main_v132 (F := Ideal) (X0 m c) (X1 m c) (X2 m c) (X9 m c) (ix3 (gr l) (pp l) h) := by
  pointwise [Cert.ReferencePrepIdeal.Read.val_main_v209, Cert.ReferencePrepIdeal.Read.val_main_v208]
  rfl

theorem tile_dbre (t : Fin cfg0.N) (h : Fin 16) (l : Fin 1024) : odbre m c t (ix2 h l) = Cert.ReferencePrepIdeal.Read.val_main_v209 (F := Ideal) (X0 m c) (X1 m c) (X2 m c) (X9 m c) (ix2 h l) := by
  refine (dbre_at mask mask_at (iblk m c 9 t) (k0_pay23 (v1 m c t) (v3 m c t) (v41 m c t)) (k0_pay27 (v1 m c t) (v3 m c t) (v41 m c t)) h l).trans ?_
  rw [fr_at (v1 m c t) (v3 m c t) (iblk m c 7 t) (iblk m c 8 t) (s1 m c t) (s2 m c t) (v41 m c t), fi_at (v1 m c t) (v3 m c t) (iblk m c 7 t) (iblk m c 8 t) (s1 m c t) (s2 m c t) (v41 m c t), lane_eq, own9, own9]
  exact (Cert.ReferencePrepIdeal.Prep.dbre_at (X0 m c) (X1 m c) (X2 m c) (X3 m c) (X4 m c) (X7 m c) (X8 m c) (X9 m c) l h).symm.trans (dbre_ref m c h l).symm

theorem final_dbre : (dats m 0 c).arrAt 14 (cfgs 0).N = Cert.ReferencePrepIdeal.Read.val_main_v209 (F := Ideal) (X0 m c) (X1 m c) (X2 m c) (X9 m c) := by
  have hmain : ∀ (t : Fin cfg0.N) (y : S16x1024.Idx), odbre m c t y = Cert.ReferencePrepIdeal.Read.val_main_v209 (F := Ideal) (X0 m c) (X1 m c) (X2 m c) (X9 m c) (((cfg0.win 14).blk t).view.emb y) := by
    intro t y
    rw [eq_ix2 y]
    refine (tile_dbre m c t (y 0) (y 1)).trans ?_
    blk_ext! [idx_val t]
  refine (dats m 0 c).arrAt_eq_of_covers 14 _ (by decide +kernel) fun t hf y => ?_
  blk_simp; rw [after0_14]
  unfold_out out0_14
  frame_out
  exact hmain t y

theorem dbim_ref (h : Fin 16) (l : Fin 1024) : Cert.ReferencePrepIdeal.Read.val_main_v211 (F := Ideal) (X0 m c) (X1 m c) (X2 m c) (X9 m c) (ix2 h l)
    = Cert.ReferencePrepIdeal.Read.val_main_v125 (F := Ideal) (X0 m c) (X1 m c) (X2 m c) (X9 m c) (ix3 (gr l) (pp l) h) := by
  pointwise [Cert.ReferencePrepIdeal.Read.val_main_v211, Cert.ReferencePrepIdeal.Read.val_main_v210]
  rfl

theorem tile_dbim (t : Fin cfg0.N) (h : Fin 16) (l : Fin 1024) : odbim m c t (ix2 h l) = Cert.ReferencePrepIdeal.Read.val_main_v211 (F := Ideal) (X0 m c) (X1 m c) (X2 m c) (X9 m c) (ix2 h l) := by
  refine (dbim_at mask mask_at (iblk m c 9 t) (k0_pay23 (v1 m c t) (v3 m c t) (v41 m c t)) (k0_pay27 (v1 m c t) (v3 m c t) (v41 m c t)) h l).trans ?_
  rw [fr_at (v1 m c t) (v3 m c t) (iblk m c 7 t) (iblk m c 8 t) (s1 m c t) (s2 m c t) (v41 m c t), fi_at (v1 m c t) (v3 m c t) (iblk m c 7 t) (iblk m c 8 t) (s1 m c t) (s2 m c t) (v41 m c t), lane_eq, own9, own9]
  exact (Cert.ReferencePrepIdeal.Prep.dbim_at (X0 m c) (X1 m c) (X2 m c) (X3 m c) (X4 m c) (X7 m c) (X8 m c) (X9 m c) l h).symm.trans (dbim_ref m c h l).symm

theorem final_dbim : (dats m 0 c).arrAt 15 (cfgs 0).N = Cert.ReferencePrepIdeal.Read.val_main_v211 (F := Ideal) (X0 m c) (X1 m c) (X2 m c) (X9 m c) := by
  have hmain : ∀ (t : Fin cfg0.N) (y : S16x1024.Idx), odbim m c t y = Cert.ReferencePrepIdeal.Read.val_main_v211 (F := Ideal) (X0 m c) (X1 m c) (X2 m c) (X9 m c) (((cfg0.win 15).blk t).view.emb y) := by
    intro t y
    rw [eq_ix2 y]
    refine (tile_dbim m c t (y 0) (y 1)).trans ?_
    blk_ext! [idx_val t]
  refine (dats m 0 c).arrAt_eq_of_covers 15 _ (by decide +kernel) fun t hf y => ?_
  blk_simp; rw [after0_15]
  unfold_out out0_15
  frame_out
  exact hmain t y

theorem dcre_ref (h : Fin 16) (l : Fin 1024) : Cert.ReferencePrepIdeal.Read.val_main_v212 (F := Ideal) (X10 m c) (ix2 h l)
    = own (X10 m c) 0 (by omega) h l := by
  refine Eq.trans ?_ ((Cert.ReferencePrepIdeal.Prep.dcr_at (X10 m c) h l))
  pointwise [Cert.ReferencePrepIdeal.Read.val_main_v212]
  rfl

theorem tile_dcre (t : Fin cfg0.N) (h : Fin 16) (l : Fin 1024) : odcre m c t (ix2 h l) = Cert.ReferencePrepIdeal.Read.val_main_v212 (F := Ideal) (X10 m c) (ix2 h l) := by
  refine (dcr_at (k0_pay30 (iota .tc S256x1024 32 [0] iota_S256x1024_d0_w32) (iota .tc S256x1024 32 [1] iota_S256x1024_d1_w32) 16#32 k0_pay29 0#32) mask_at (iblk m c 10 t) h l).trans ?_
  rw [own10, ← dcre_ref]

theorem final_dcre : (dats m 0 c).arrAt 16 (cfgs 0).N = Cert.ReferencePrepIdeal.Read.val_main_v212 (F := Ideal) (X10 m c) := by
  have hmain : ∀ (t : Fin cfg0.N) (y : S16x1024.Idx), odcre m c t y = Cert.ReferencePrepIdeal.Read.val_main_v212 (F := Ideal) (X10 m c) (((cfg0.win 16).blk t).view.emb y) := by
    intro t y
    rw [eq_ix2 y]
    refine (tile_dcre m c t (y 0) (y 1)).trans ?_
    blk_ext! [idx_val t]
  refine (dats m 0 c).arrAt_eq_of_covers 16 _ (by decide +kernel) fun t hf y => ?_
  blk_simp; rw [after0_16]
  unfold_out out0_16
  frame_out
  exact hmain t y

theorem dcim_ref (h : Fin 16) (l : Fin 1024) : Cert.ReferencePrepIdeal.Read.val_main_v213 (F := Ideal) (X10 m c) (ix2 h l)
    = -own (X10 m c) 1 (by omega) h l := by
  refine Eq.trans ?_ (congrArg (fun z : EReal => -z) (Cert.ReferencePrepIdeal.Prep.dci_at (X10 m c) h l))
  pointwise [Cert.ReferencePrepIdeal.Read.val_main_v213, Cert.ReferencePrepIdeal.Read.val_main_v50]
  rfl

theorem tile_dcim (t : Fin cfg0.N) (h : Fin 16) (l : Fin 1024) : odcim m c t (ix2 h l) = Cert.ReferencePrepIdeal.Read.val_main_v213 (F := Ideal) (X10 m c) (ix2 h l) := by
  refine (dci_at (k0_pay30 (iota .tc S256x1024 32 [0] iota_S256x1024_d0_w32) (iota .tc S256x1024 32 [1] iota_S256x1024_d1_w32) 16#32 k0_pay29 0#32) mask_at (iblk m c 10 t) h l).trans ?_
  rw [own10, zero_sub, ← dcim_ref]

theorem final_dcim : (dats m 0 c).arrAt 17 (cfgs 0).N = Cert.ReferencePrepIdeal.Read.val_main_v213 (F := Ideal) (X10 m c) := by
  have hmain : ∀ (t : Fin cfg0.N) (y : S16x1024.Idx), odcim m c t y = Cert.ReferencePrepIdeal.Read.val_main_v213 (F := Ideal) (X10 m c) (((cfg0.win 17).blk t).view.emb y) := by
    intro t y
    rw [eq_ix2 y]
    refine (tile_dcim m c t (y 0) (y 1)).trans ?_
    blk_ext! [idx_val t]
  refine (dats m 0 c).arrAt_eq_of_covers 17 _ (by decide +kernel) fun t hf y => ?_
  blk_simp; rw [after0_17]
  unfold_out out0_17
  frame_out
  exact hmain t y

end Final

/-! ## The gradient of the logarithm of the step -/

theorem sum_lanes (f : Fin 1024 → EReal) (k : Fin 16) :
    ∑ l : Fin 1024, f l * (if l.val / 64 = k.val then 1 else 0) = ∑ p : Fin 64, f ⟨k.val * 64 + p.val, by omega⟩ := by
  rw [← (finProdFinEquiv (m := 16) (n := 64)).sum_comp, Fintype.sum_prod_type, Finset.sum_eq_single k]
  · refine Finset.sum_congr rfl fun p _ => ?_
    rw [if_pos (by simp only [finProdFinEquiv_apply_val]; omega), mul_one]
    exact congrArg f (Fin.ext (by simp only [finProdFinEquiv_apply_val]; omega))
  · intro b _ hb
    refine Finset.sum_eq_zero fun p _ => ?_
    rw [if_neg (fun e => hb (Fin.ext (by simp only [finProdFinEquiv_apply_val] at e; omega))), mul_zero]
  · intro h; exact absurd (Finset.mem_univ _) h

theorem sum_scale {n : ℕ} (f : Fin n → EReal) (e : EReal) (h0 : 0 ≤ e) (h1 : e ≠ ⊤) : ∑ i : Fin n, f i * e = (∑ i : Fin n, f i) * e := by
  induction n with
  | zero => simp
  | succ n ih => rw [Fin.sum_univ_castSucc, Fin.sum_univ_castSucc, ih, EReal.right_distrib_of_nonneg_of_ne_top h0 h1]

theorem exp_range (x : EReal) (h : x < ⊤) : 0 ≤ Ideal.exp x ∧ Ideal.exp x ≠ ⊤ := by
  induction x with
  | bot => exact ⟨le_refl _, EReal.zero_ne_top⟩
  | top => exact absurd h (lt_irrefl _)
  | coe r => exact ⟨EReal.coe_nonneg.mpr (Real.exp_pos r).le, EReal.coe_ne_top _⟩

theorem step_exp (v : FVec Ideal S8x1024 .f32) (l : Fin 1024) : k0_pay8 (F := Ideal) v (ix2 0 l) = Ideal.exp (v (ix2 0 l)) := by
  pointwise [k0_pay8]

section

variable (c : Dev nD) (hdt : ∀ g : Fin 16, X2 m c (ix1 g) < ⊤)
include hdt

theorem dldt_ref (k : Fin 128) : Cert.ReferencePrepIdeal.Read.val_main_v207 (F := Ideal) (X0 m c) (X1 m c) (X2 m c) (X3 m c) (X4 m c) (X7 m c) (X8 m c) (X9 m c) (ix2 0 k)
    = ∑ l : Fin 1024, ((rl m c l).ddt1 + (rl m c l).ddt2 + (rl m c l).ddt3) * Ideal.exp (X2 m c (ix1 (gr l))) * (if l.val / 64 = k.val then 1 else 0) := by
  pointwise [Cert.ReferencePrepIdeal.Read.val_main_v207, Cert.ReferencePrepIdeal.Read.val_main_v206, Cert.ReferencePrepIdeal.Read.val_main_v205, Cert.ReferencePrepIdeal.Read.val_main_cst_27]
  split
  · rename_i h
    have hg : ∀ p : Fin 64, gr ⟨k.val * 64 + p.val, by omega⟩ = ⟨k.val, h⟩ := fun p => Fin.ext (by unfold gr; dsimp only; omega)
    have hp : ∀ p : Fin 64, pp ⟨k.val * 64 + p.val, by omega⟩ = p := fun p => Fin.ext (by unfold pp; dsimp only; omega)
    refine (Cert.ReferencePrepIdeal.Prep.ddt_at (X0 m c) (X1 m c) (X2 m c) (X3 m c) (X4 m c) (X7 m c) (X8 m c) (X9 m c) ⟨k.val, h⟩).trans (Eq.trans ?_ (sum_lanes (fun l => ((rl m c l).ddt1 + (rl m c l).ddt2 + (rl m c l).ddt3) * Ideal.exp (X2 m c (ix1 (gr l)))) ⟨k.val, h⟩).symm)
    refine Eq.trans ?_ (Finset.sum_congr rfl fun p _ => congrArg₂ (· * ·)
      (congrArg₂ (· + ·) (congrArg₂ (· + ·) (Cert.ReferencePrepIdeal.Prep.ddt1_at (X0 m c) (X1 m c) (X2 m c) (X3 m c) (X4 m c) (X7 m c) (X8 m c) (X9 m c) _) (Cert.ReferencePrepIdeal.Prep.ddt2_at (X0 m c) (X1 m c) (X2 m c) (X3 m c) (X4 m c) (X7 m c) (X8 m c) (X9 m c) _))
        (Cert.ReferencePrepIdeal.Prep.ddt3_at (X0 m c) (X1 m c) (X2 m c) (X3 m c) (X4 m c) (X7 m c) (X8 m c) (X9 m c) _)) rfl)
    simp only [hg, hp]
    rw [sum_scale _ _ (exp_range _ (hdt _)).1 (exp_range _ (hdt _)).2, Finset.sum_add_distrib, Finset.sum_add_distrib]
  · rename_i h
    refine (Finset.sum_eq_zero fun l _ => ?_).symm
    rw [if_neg (by omega), mul_zero]

theorem tile_dldt (t : Fin cfg0.N) (k : Fin 128) : odldt m c t (ix2 0 k) = Cert.ReferencePrepIdeal.Read.val_main_v207 (F := Ideal) (X0 m c) (X1 m c) (X2 m c) (X3 m c) (X4 m c) (X7 m c) (X8 m c) (X9 m c) (ix2 0 k) := by
  refine (gather_at (oddt m c t) (k0_pay8 (v41 m c t)) k).trans (Eq.trans ?_ (dldt_ref m c hdt k).symm)
  refine Finset.sum_congr rfl fun l _ => congrArg (· * _) ?_
  refine congrArg₂ (· * ·) ((ddt_at (v1 m c t) (v3 m c t) (iblk m c 7 t) (iblk m c 8 t) (s1 m c t) (s2 m c t) (v41 m c t) l).trans ?_) ?_
  · rw [lane_eq]
  · exact (step_exp (v41 m c t) l).trans (congrArg Ideal.exp (v41_at m c t l))

theorem final_dldt : (dats m 0 c).arrAt 13 (cfgs 0).N = Cert.ReferencePrepIdeal.Read.val_main_v207 (F := Ideal) (X0 m c) (X1 m c) (X2 m c) (X3 m c) (X4 m c) (X7 m c) (X8 m c) (X9 m c) := by
  have hmain : ∀ (t : Fin cfg0.N) (y : S1x128.Idx), odldt m c t y = Cert.ReferencePrepIdeal.Read.val_main_v207 (F := Ideal) (X0 m c) (X1 m c) (X2 m c) (X3 m c) (X4 m c) (X7 m c) (X8 m c) (X9 m c) (((cfg0.win 13).blk t).view.emb y) := by
    intro t y
    rw [one128 y]
    refine (tile_dldt m c hdt t (y 1)).trans ?_
    blk_ext! [idx_val t]
  refine (dats m 0 c).arrAt_eq_of_covers 13 _ (by decide +kernel) fun t hf y => ?_
  blk_simp; rw [after0_13]
  unfold_out out0_13
  frame_out
  exact hmain t y

end

/-! ## The claims -/

theorem pre_facts : Cert.Pre_log_dt_below_infinity.Facts := ⟨by decide⟩

theorem below (h : Cert.Pre_KernelPrepIdeal_log_dt_below_infinity (hPre_log_dt_below_infinity := pre_facts) m) (c : Dev nD) (g : Fin 16) :
    X2 m c (ix1 g) < ⊤ := by
  have e := congrFun (h c) (ix1 g)
  unfold Cert.Pre_log_dt_below_infinity.fn at e
  by_contra hn
  have h1 : X2 m c (ix1 g) = ⊤ := not_lt_top_iff.mp hn
  have e2 : Ideal.cmp .olt (X2 m c (ix1 g)) (Ideal.ofBits .f32 0x7F800000#32) = 1#1 := e
  rw [h1] at e2
  simp [Ideal.cmp, Ideal.ofBits, Ideal.ieee] at e2

theorem frame_kernel : Cert.quiescent_KernelPrep := fun m ρ _ => Cert.KernelPrep.Gen.frame m ρ

theorem frame_ideal : Cert.quiescent_KernelPrepIdeal := fun m ρ _ => Cert.KernelPrepIdeal.Gen.frame m ρ

theorem frame_ideal_pre : Cert.quiescent_KernelPrepIdeal_pre_log_dt_below_infinity (hPre_log_dt_below_infinity := pre_facts) :=
  fun m ρ _ => Cert.KernelPrepIdeal.Gen.frame m ρ

theorem frame_reference : Cert.quiescent_ReferencePrepIdeal := fun m ρ _ =>
  (θ_run Cert.ReferencePrepIdeal.defs _ _).mono
    (fun r h => ⟨fun c => (h c).2.2.2.2.2.2.2, sem_eq_zero_of_no_sems (by decide) r.2⟩)
    (Cert.ReferencePrepIdeal.Value.run m ρ)

theorem frame_reference_pre : Cert.quiescent_ReferencePrepIdeal_pre_log_dt_below_infinity (hPre_log_dt_below_infinity := pre_facts) := fun m ρ _ =>
  (θ_run Cert.ReferencePrepIdeal.defs _ _).mono
    (fun r h => ⟨fun c => (h c).2.2.2.2.2.2.2, sem_eq_zero_of_no_sems (by decide) r.2⟩)
    (Cert.ReferencePrepIdeal.Value.run m ρ)

open Cert.ReferencePrepIdeal.Read in
theorem run_reference (m' : (ℓ : Loc Cert.ReferencePrepIdeal.nD Cert.ReferencePrepIdeal.τ Cert.ReferencePrepIdeal.sig) → Buf (Elt Ideal) ℓ)
    (g' : Dev Cert.ReferencePrepIdeal.nD → PrngReg) :
    θ_run (Cert.ReferencePrepIdeal.defs (F := Ideal)) (onTc (τ := Cert.ReferencePrepIdeal.τ) (Cert.ReferencePrepIdeal.main (F := Ideal))) ⟨m', fun _ => 0, g'⟩
      fun r => ∀ c : Dev Cert.ReferencePrepIdeal.nD,
      r.2.mem ((c.tc : Thread Cert.ReferencePrepIdeal.nD Cert.ReferencePrepIdeal.τ).loc Cert.ReferencePrepIdeal.main_v203) = val_main_v203 (F := Ideal) (m' ((c.tc : Thread Cert.ReferencePrepIdeal.nD Cert.ReferencePrepIdeal.τ).loc Cert.ReferencePrepIdeal.main_arg0)) (m' ((c.tc : Thread Cert.ReferencePrepIdeal.nD Cert.ReferencePrepIdeal.τ).loc Cert.ReferencePrepIdeal.main_arg1)) (m' ((c.tc : Thread Cert.ReferencePrepIdeal.nD Cert.ReferencePrepIdeal.τ).loc Cert.ReferencePrepIdeal.main_arg2)) (m' ((c.tc : Thread Cert.ReferencePrepIdeal.nD Cert.ReferencePrepIdeal.τ).loc Cert.ReferencePrepIdeal.main_arg3)) (m' ((c.tc : Thread Cert.ReferencePrepIdeal.nD Cert.ReferencePrepIdeal.τ).loc Cert.ReferencePrepIdeal.main_arg4)) (m' ((c.tc : Thread Cert.ReferencePrepIdeal.nD Cert.ReferencePrepIdeal.τ).loc Cert.ReferencePrepIdeal.main_arg7)) (m' ((c.tc : Thread Cert.ReferencePrepIdeal.nD Cert.ReferencePrepIdeal.τ).loc Cert.ReferencePrepIdeal.main_arg8)) (m' ((c.tc : Thread Cert.ReferencePrepIdeal.nD Cert.ReferencePrepIdeal.τ).loc Cert.ReferencePrepIdeal.main_arg9))
      ∧ r.2.mem ((c.tc : Thread Cert.ReferencePrepIdeal.nD Cert.ReferencePrepIdeal.τ).loc Cert.ReferencePrepIdeal.main_v204) = val_main_v204 (F := Ideal) (m' ((c.tc : Thread Cert.ReferencePrepIdeal.nD Cert.ReferencePrepIdeal.τ).loc Cert.ReferencePrepIdeal.main_arg0)) (m' ((c.tc : Thread Cert.ReferencePrepIdeal.nD Cert.ReferencePrepIdeal.τ).loc Cert.ReferencePrepIdeal.main_arg1)) (m' ((c.tc : Thread Cert.ReferencePrepIdeal.nD Cert.ReferencePrepIdeal.τ).loc Cert.ReferencePrepIdeal.main_arg2)) (m' ((c.tc : Thread Cert.ReferencePrepIdeal.nD Cert.ReferencePrepIdeal.τ).loc Cert.ReferencePrepIdeal.main_arg3)) (m' ((c.tc : Thread Cert.ReferencePrepIdeal.nD Cert.ReferencePrepIdeal.τ).loc Cert.ReferencePrepIdeal.main_arg4)) (m' ((c.tc : Thread Cert.ReferencePrepIdeal.nD Cert.ReferencePrepIdeal.τ).loc Cert.ReferencePrepIdeal.main_arg7)) (m' ((c.tc : Thread Cert.ReferencePrepIdeal.nD Cert.ReferencePrepIdeal.τ).loc Cert.ReferencePrepIdeal.main_arg8)) (m' ((c.tc : Thread Cert.ReferencePrepIdeal.nD Cert.ReferencePrepIdeal.τ).loc Cert.ReferencePrepIdeal.main_arg9))
      ∧ r.2.mem ((c.tc : Thread Cert.ReferencePrepIdeal.nD Cert.ReferencePrepIdeal.τ).loc Cert.ReferencePrepIdeal.main_v207) = val_main_v207 (F := Ideal) (m' ((c.tc : Thread Cert.ReferencePrepIdeal.nD Cert.ReferencePrepIdeal.τ).loc Cert.ReferencePrepIdeal.main_arg0)) (m' ((c.tc : Thread Cert.ReferencePrepIdeal.nD Cert.ReferencePrepIdeal.τ).loc Cert.ReferencePrepIdeal.main_arg1)) (m' ((c.tc : Thread Cert.ReferencePrepIdeal.nD Cert.ReferencePrepIdeal.τ).loc Cert.ReferencePrepIdeal.main_arg2)) (m' ((c.tc : Thread Cert.ReferencePrepIdeal.nD Cert.ReferencePrepIdeal.τ).loc Cert.ReferencePrepIdeal.main_arg3)) (m' ((c.tc : Thread Cert.ReferencePrepIdeal.nD Cert.ReferencePrepIdeal.τ).loc Cert.ReferencePrepIdeal.main_arg4)) (m' ((c.tc : Thread Cert.ReferencePrepIdeal.nD Cert.ReferencePrepIdeal.τ).loc Cert.ReferencePrepIdeal.main_arg7)) (m' ((c.tc : Thread Cert.ReferencePrepIdeal.nD Cert.ReferencePrepIdeal.τ).loc Cert.ReferencePrepIdeal.main_arg8)) (m' ((c.tc : Thread Cert.ReferencePrepIdeal.nD Cert.ReferencePrepIdeal.τ).loc Cert.ReferencePrepIdeal.main_arg9))
      ∧ r.2.mem ((c.tc : Thread Cert.ReferencePrepIdeal.nD Cert.ReferencePrepIdeal.τ).loc Cert.ReferencePrepIdeal.main_v209) = val_main_v209 (F := Ideal) (m' ((c.tc : Thread Cert.ReferencePrepIdeal.nD Cert.ReferencePrepIdeal.τ).loc Cert.ReferencePrepIdeal.main_arg0)) (m' ((c.tc : Thread Cert.ReferencePrepIdeal.nD Cert.ReferencePrepIdeal.τ).loc Cert.ReferencePrepIdeal.main_arg1)) (m' ((c.tc : Thread Cert.ReferencePrepIdeal.nD Cert.ReferencePrepIdeal.τ).loc Cert.ReferencePrepIdeal.main_arg2)) (m' ((c.tc : Thread Cert.ReferencePrepIdeal.nD Cert.ReferencePrepIdeal.τ).loc Cert.ReferencePrepIdeal.main_arg9))
      ∧ r.2.mem ((c.tc : Thread Cert.ReferencePrepIdeal.nD Cert.ReferencePrepIdeal.τ).loc Cert.ReferencePrepIdeal.main_v211) = val_main_v211 (F := Ideal) (m' ((c.tc : Thread Cert.ReferencePrepIdeal.nD Cert.ReferencePrepIdeal.τ).loc Cert.ReferencePrepIdeal.main_arg0)) (m' ((c.tc : Thread Cert.ReferencePrepIdeal.nD Cert.ReferencePrepIdeal.τ).loc Cert.ReferencePrepIdeal.main_arg1)) (m' ((c.tc : Thread Cert.ReferencePrepIdeal.nD Cert.ReferencePrepIdeal.τ).loc Cert.ReferencePrepIdeal.main_arg2)) (m' ((c.tc : Thread Cert.ReferencePrepIdeal.nD Cert.ReferencePrepIdeal.τ).loc Cert.ReferencePrepIdeal.main_arg9))
      ∧ r.2.mem ((c.tc : Thread Cert.ReferencePrepIdeal.nD Cert.ReferencePrepIdeal.τ).loc Cert.ReferencePrepIdeal.main_v212) = val_main_v212 (F := Ideal) (m' ((c.tc : Thread Cert.ReferencePrepIdeal.nD Cert.ReferencePrepIdeal.τ).loc Cert.ReferencePrepIdeal.main_arg10))
      ∧ r.2.mem ((c.tc : Thread Cert.ReferencePrepIdeal.nD Cert.ReferencePrepIdeal.τ).loc Cert.ReferencePrepIdeal.main_v213) = val_main_v213 (F := Ideal) (m' ((c.tc : Thread Cert.ReferencePrepIdeal.nD Cert.ReferencePrepIdeal.τ).loc Cert.ReferencePrepIdeal.main_arg10))
      ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m' ((c.tc : Thread Cert.ReferencePrepIdeal.nD Cert.ReferencePrepIdeal.τ).loc Cert.ReferencePrepIdeal.main_arg3)
      ∧ r.2.mem ((c.tc : Thread Cert.ReferencePrepIdeal.nD Cert.ReferencePrepIdeal.τ).loc Cert.ReferencePrepIdeal.main_arg4) = m' ((c.tc : Thread Cert.ReferencePrepIdeal.nD Cert.ReferencePrepIdeal.τ).loc Cert.ReferencePrepIdeal.main_arg4)
      ∧ r.2.mem ((c.tc : Thread Cert.ReferencePrepIdeal.nD Cert.ReferencePrepIdeal.τ).loc Cert.ReferencePrepIdeal.main_arg5) = m' ((c.tc : Thread Cert.ReferencePrepIdeal.nD Cert.ReferencePrepIdeal.τ).loc Cert.ReferencePrepIdeal.main_arg5)
      ∧ r.2.mem ((c.tc : Thread Cert.ReferencePrepIdeal.nD Cert.ReferencePrepIdeal.τ).loc Cert.ReferencePrepIdeal.main_arg6) = m' ((c.tc : Thread Cert.ReferencePrepIdeal.nD Cert.ReferencePrepIdeal.τ).loc Cert.ReferencePrepIdeal.main_arg6)
      ∧ r.2.mem ((c.tc : Thread Cert.ReferencePrepIdeal.nD Cert.ReferencePrepIdeal.τ).loc Cert.ReferencePrepIdeal.main_arg7) = m' ((c.tc : Thread Cert.ReferencePrepIdeal.nD Cert.ReferencePrepIdeal.τ).loc Cert.ReferencePrepIdeal.main_arg7)
      ∧ r.2.mem ((c.tc : Thread Cert.ReferencePrepIdeal.nD Cert.ReferencePrepIdeal.τ).loc Cert.ReferencePrepIdeal.main_arg8) = m' ((c.tc : Thread Cert.ReferencePrepIdeal.nD Cert.ReferencePrepIdeal.τ).loc Cert.ReferencePrepIdeal.main_arg8)
      ∧ r.2.mem ((c.tc : Thread Cert.ReferencePrepIdeal.nD Cert.ReferencePrepIdeal.τ).loc Cert.ReferencePrepIdeal.main_arg9) = m' ((c.tc : Thread Cert.ReferencePrepIdeal.nD Cert.ReferencePrepIdeal.τ).loc Cert.ReferencePrepIdeal.main_arg9)
      ∧ r.2.mem ((c.tc : Thread Cert.ReferencePrepIdeal.nD Cert.ReferencePrepIdeal.τ).loc Cert.ReferencePrepIdeal.main_arg10) = m' ((c.tc : Thread Cert.ReferencePrepIdeal.nD Cert.ReferencePrepIdeal.τ).loc Cert.ReferencePrepIdeal.main_arg10) :=
  (θ_run Cert.ReferencePrepIdeal.defs _ _).mono (fun r h c => ⟨(h c).1.trans (val_main_v203_eq (StableHlo.launchContents m' c)),
      (h c).2.1.trans (val_main_v204_eq (StableHlo.launchContents m' c)),
      (h c).2.2.1.trans (val_main_v207_eq (StableHlo.launchContents m' c)),
      (h c).2.2.2.1.trans (val_main_v209_eq (StableHlo.launchContents m' c)),
      (h c).2.2.2.2.1.trans (val_main_v211_eq (StableHlo.launchContents m' c)),
      (h c).2.2.2.2.2.1.trans (val_main_v212_eq (StableHlo.launchContents m' c)),
      (h c).2.2.2.2.2.2.1.trans (val_main_v213_eq (StableHlo.launchContents m' c)),
      (h c).2.2.2.2.2.2.2⟩) (Cert.ReferencePrepIdeal.Value.run m' g')

theorem algebraic : Cert.algebraic_KernelPrepIdeal_ReferencePrepIdeal_pre_log_dt_below_infinity (hPre_log_dt_below_infinity := pre_facts) := by
  pair_intro
  · run_from Cert.KernelPrepIdeal.Value.run_blocks m g
  · run_from run_reference m' g'
    · exact (final_dlre m c).symm
    · exact (final_dlim m c).symm
    · exact (final_dldt m c (below m hpre c)).symm
    · exact (final_dbre m c).symm
    · exact (final_dbim m c).symm
    · exact (final_dcre m c).symm
    · exact (final_dcim m c).symm

end Cert.KernelPrepIdeal.Prep

end
-- ==== Proof.lean ====
/- The certificate: each call's frames and value claim (Proof/<Call>.lean), put together. -/
module

public import proofs.«01_k».proof.Defs
public import proofs.«01_k».proof.Proof.Gen.KernelLoss
public import proofs.«01_k».proof.Proof.Gen.KernelLoss.Frame
public import proofs.«01_k».proof.Proof.Gen.KernelLossIdeal
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.Loss
public import proofs.«01_k».proof.Proof.Gen.KernelC
public import proofs.«01_k».proof.Proof.Gen.KernelC.Frame
public import proofs.«01_k».proof.Proof.Gen.KernelCIdeal
public import proofs.«01_k».proof.Proof.Gen.KernelCIdeal.Frame
public import proofs.«01_k».proof.Proof.Gen.KernelCIdeal.Value
public import proofs.«01_k».proof.Proof.Gen.ReferenceCIdeal
public import proofs.«01_k».proof.Proof.Gen.ReferenceCIdeal.Run
public import proofs.«01_k».proof.Proof.Gen.ReferenceCIdeal.Read
public import proofs.«01_k».proof.Proof.CF
public import proofs.«01_k».proof.Proof.Gen.KernelA
public import proofs.«01_k».proof.Proof.Gen.KernelAIdeal
public import proofs.«01_k».proof.Proof.Gen.ReferenceAIdeal
public import proofs.«01_k».proof.Proof.Gen.ReferenceAIdeal.Run
public import proofs.«01_k».proof.Proof.Gen.ReferenceAIdeal.Read
public import proofs.«01_k».proof.Proof.AW
public import proofs.«01_k».proof.Proof.AR
public import proofs.«01_k».proof.Proof.Gen.KernelProj
public import proofs.«01_k».proof.Proof.Gen.KernelProj.Frame
public import proofs.«01_k».proof.Proof.Gen.KernelProjIdeal
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Proj
public import proofs.«01_k».proof.Proof.Gen.KernelCFwd
public import proofs.«01_k».proof.Proof.Gen.KernelCFwd.Frame
public import proofs.«01_k».proof.Proof.Gen.KernelCFwdIdeal
public import proofs.«01_k».proof.Proof.Gen.KernelCFwdIdeal.Frame
public import proofs.«01_k».proof.Proof.Gen.KernelCFwdIdeal.Value
public import proofs.«01_k».proof.Proof.Gen.ReferenceCFwdIdeal
public import proofs.«01_k».proof.Proof.Gen.ReferenceCFwdIdeal.Run
public import proofs.«01_k».proof.Proof.Gen.ReferenceCFwdIdeal.Read
public import proofs.«01_k».proof.Proof.CFwd
public import proofs.«01_k».proof.Proof.Gen.KernelAFwd
public import proofs.«01_k».proof.Proof.Gen.KernelAFwd.Frame
public import proofs.«01_k».proof.Proof.Gen.KernelAFwdIdeal
public import proofs.«01_k».proof.Proof.Gen.KernelAFwdIdeal.Frame
public import proofs.«01_k».proof.Proof.Gen.KernelAFwdIdeal.Value
public import proofs.«01_k».proof.Proof.Gen.ReferenceAFwdIdeal
public import proofs.«01_k».proof.Proof.Gen.ReferenceAFwdIdeal.Run
public import proofs.«01_k».proof.Proof.Gen.ReferenceAFwdIdeal.Read
public import proofs.«01_k».proof.Proof.AFwd
public import proofs.«01_k».proof.Proof.Gen.KernelProjFwd
public import proofs.«01_k».proof.Proof.Gen.KernelProjFwd.Frame
public import proofs.«01_k».proof.Proof.Gen.KernelProjFwdIdeal
public import proofs.«01_k».proof.Proof.Gen.KernelProjFwdIdeal.Frame
public import proofs.«01_k».proof.Proof.Gen.KernelProjFwdIdeal.Value
public import proofs.«01_k».proof.Proof.Gen.ReferenceProjFwdIdeal
public import proofs.«01_k».proof.Proof.Gen.ReferenceProjFwdIdeal.Run
public import proofs.«01_k».proof.Proof.Gen.ReferenceProjFwdIdeal.Read
public import proofs.«01_k».proof.Proof.ProjFwd
public import proofs.«01_k».proof.Proof.Gen.KernelPrepFwd
public import proofs.«01_k».proof.Proof.Gen.KernelPrepFwd.Frame
public import proofs.«01_k».proof.Proof.Gen.KernelPrepFwdIdeal
public import proofs.«01_k».proof.Proof.Gen.KernelPrepFwdIdeal.Frame
public import proofs.«01_k».proof.Proof.Gen.KernelPrepFwdIdeal.Value
public import proofs.«01_k».proof.Proof.Gen.ReferencePrepFwdIdeal
public import proofs.«01_k».proof.Proof.Gen.ReferencePrepFwdIdeal.Run
public import proofs.«01_k».proof.Proof.Gen.ReferencePrepFwdIdeal.Read
public import proofs.«01_k».proof.Proof.PrepFwd
public import proofs.«01_k».proof.Proof.Gen.KernelOutFwd
public import proofs.«01_k».proof.Proof.Gen.KernelOutFwd.Frame
public import proofs.«01_k».proof.Proof.Gen.KernelOutFwdIdeal
public import proofs.«01_k».proof.Proof.Gen.KernelOutFwdIdeal.Frame
public import proofs.«01_k».proof.Proof.Gen.KernelOutFwdIdeal.Value
public import proofs.«01_k».proof.Proof.Gen.ReferenceOutFwdIdeal
public import proofs.«01_k».proof.Proof.Gen.ReferenceOutFwdIdeal.Run
public import proofs.«01_k».proof.Proof.Gen.ReferenceOutFwdIdeal.Read
public import proofs.«01_k».proof.Proof.OutFwd
public import proofs.«01_k».proof.Proof.Gen.KernelOutBwd
public import proofs.«01_k».proof.Proof.Gen.KernelOutBwd.Frame
public import proofs.«01_k».proof.Proof.Gen.KernelOutBwdIdeal
public import proofs.«01_k».proof.Proof.Gen.KernelOutBwdIdeal.Frame
public import proofs.«01_k».proof.Proof.Gen.KernelOutBwdIdeal.Value
public import proofs.«01_k».proof.Proof.Gen.ReferenceOutBwdIdeal
public import proofs.«01_k».proof.Proof.Gen.ReferenceOutBwdIdeal.Run
public import proofs.«01_k».proof.Proof.Gen.ReferenceOutBwdIdeal.Read
public import proofs.«01_k».proof.Proof.OutBwd
public import proofs.«01_k».proof.Proof.Gen.KernelDwin
public import proofs.«01_k».proof.Proof.Gen.KernelDwin.Frame
public import proofs.«01_k».proof.Proof.Gen.KernelDwinIdeal
public import proofs.«01_k».proof.Proof.Gen.KernelDwinIdeal.Frame
public import proofs.«01_k».proof.Proof.Gen.KernelDwinIdeal.Value
public import proofs.«01_k».proof.Proof.Gen.ReferenceDwinIdeal
public import proofs.«01_k».proof.Proof.Gen.ReferenceDwinIdeal.Run
public import proofs.«01_k».proof.Proof.Gen.ReferenceDwinIdeal.Read
public import proofs.«01_k».proof.Proof.Dwin
public import proofs.«01_k».proof.Proof.Gen.KernelDwout
public import proofs.«01_k».proof.Proof.Gen.KernelDwout.Frame
public import proofs.«01_k».proof.Proof.Gen.KernelDwoutIdeal
public import proofs.«01_k».proof.Proof.Gen.KernelDwoutIdeal.Frame
public import proofs.«01_k».proof.Proof.Gen.KernelDwoutIdeal.Value
public import proofs.«01_k».proof.Proof.Gen.ReferenceDwoutIdeal
public import proofs.«01_k».proof.Proof.Gen.ReferenceDwoutIdeal.Run
public import proofs.«01_k».proof.Proof.Gen.ReferenceDwoutIdeal.Read
public import proofs.«01_k».proof.Proof.Dwout
public import proofs.«01_k».proof.Proof.Gen.KernelAdamw
public import proofs.«01_k».proof.Proof.Gen.KernelAdamw.Frame
public import proofs.«01_k».proof.Proof.Gen.KernelAdamwIdeal
public import proofs.«01_k».proof.Proof.Gen.KernelAdamwIdeal.Frame
public import proofs.«01_k».proof.Proof.Gen.KernelAdamwIdeal.Value
public import proofs.«01_k».proof.Proof.Gen.ReferenceAdamwIdeal
public import proofs.«01_k».proof.Proof.Gen.ReferenceAdamwIdeal.Run
public import proofs.«01_k».proof.Proof.Gen.ReferenceAdamwIdeal.Read
public import proofs.«01_k».proof.Proof.Adamw
public import proofs.«01_k».proof.Proof.Gen.KernelAdamwIn
public import proofs.«01_k».proof.Proof.Gen.KernelAdamwIn.Frame
public import proofs.«01_k».proof.Proof.Gen.KernelAdamwInIdeal
public import proofs.«01_k».proof.Proof.Gen.KernelAdamwInIdeal.Frame
public import proofs.«01_k».proof.Proof.Gen.KernelAdamwInIdeal.Value
public import proofs.«01_k».proof.Proof.Gen.ReferenceAdamwInIdeal
public import proofs.«01_k».proof.Proof.Gen.ReferenceAdamwInIdeal.Run
public import proofs.«01_k».proof.Proof.Gen.ReferenceAdamwInIdeal.Read
public import proofs.«01_k».proof.Proof.AdamwIn
public import proofs.«01_k».proof.Proof.Gen.KernelAdamwSmall
public import proofs.«01_k».proof.Proof.Gen.KernelAdamwSmall.Frame
public import proofs.«01_k».proof.Proof.Gen.KernelAdamwSmallIdeal
public import proofs.«01_k».proof.Proof.Gen.KernelAdamwSmallIdeal.Frame
public import proofs.«01_k».proof.Proof.Gen.ReferenceAdamwSmallIdeal
public import proofs.«01_k».proof.Proof.Gen.ReferenceAdamwSmallIdeal.Run
public import proofs.«01_k».proof.Proof.Gen.ReferenceAdamwSmallIdeal.Read
public import proofs.«01_k».proof.Proof.AdamwSmall
public import proofs.«01_k».proof.Proof.Gen.KernelSum
public import proofs.«01_k».proof.Proof.Gen.KernelSum.Frame
public import proofs.«01_k».proof.Proof.Gen.KernelSumIdeal
public import proofs.«01_k».proof.Proof.Gen.KernelSumIdeal.Frame
public import proofs.«01_k».proof.Proof.Gen.KernelSumIdeal.Value
public import proofs.«01_k».proof.Proof.Gen.ReferenceSumIdeal
public import proofs.«01_k».proof.Proof.Gen.ReferenceSumIdeal.Run
public import proofs.«01_k».proof.Proof.Gen.ReferenceSumIdeal.Read
public import proofs.«01_k».proof.Proof.Sum
public import proofs.«01_k».proof.Proof.Gen.KernelPrep
public import proofs.«01_k».proof.Proof.Gen.KernelPrep.Frame
public import proofs.«01_k».proof.Proof.Gen.KernelPrepIdeal
public import proofs.«01_k».proof.Proof.Gen.KernelPrepIdeal.Frame
public import proofs.«01_k».proof.Proof.Gen.KernelPrepIdeal.Value
public import proofs.«01_k».proof.Proof.Gen.ReferencePrepIdeal
public import proofs.«01_k».proof.Proof.Gen.ReferencePrepIdeal.Run
public import proofs.«01_k».proof.Proof.Gen.ReferencePrepIdeal.Read
public import proofs.«01_k».proof.Proof.Prep
public import Idealize.ShloMosaic.Lib.Claim
public import Idealize.ShloMosaic.Adequacy
public import Idealize.ShloMosaic.Init

@[expose] public section

noncomputable section

namespace Cert.Proof

open Idealize.ShloMosaic Idealize.SL.Sem

theorem claim : Cert.Claim :=
  ⟨Cert.KernelLoss.Gen.facts, Cert.KernelLossIdeal.Gen.facts, Cert.ReferenceLossIdeal.Gen.facts,
    Cert.KernelC.Gen.facts, Cert.KernelCIdeal.Gen.facts, Cert.ReferenceCIdeal.Gen.facts,
    Cert.KernelA.Gen.facts, Cert.KernelAIdeal.Gen.facts, Cert.ReferenceAIdeal.Gen.facts,
    Cert.KernelProj.Gen.facts, Cert.KernelProjIdeal.Gen.facts, Cert.ReferenceProjIdeal.Gen.facts,
    Cert.KernelCFwd.Gen.facts, Cert.KernelCFwdIdeal.Gen.facts, Cert.ReferenceCFwdIdeal.Gen.facts,
    Cert.KernelAFwd.Gen.facts, Cert.KernelAFwdIdeal.Gen.facts, Cert.ReferenceAFwdIdeal.Gen.facts,
    Cert.KernelProjFwd.Gen.facts, Cert.KernelProjFwdIdeal.Gen.facts, Cert.ReferenceProjFwdIdeal.Gen.facts,
    Cert.KernelPrepFwd.Gen.facts, Cert.KernelPrepFwdIdeal.Gen.facts, Cert.ReferencePrepFwdIdeal.Gen.facts,
    Cert.KernelOutFwd.Gen.facts, Cert.KernelOutFwdIdeal.Gen.facts, Cert.ReferenceOutFwdIdeal.Gen.facts,
    Cert.KernelOutBwd.Gen.facts, Cert.KernelOutBwdIdeal.Gen.facts, Cert.ReferenceOutBwdIdeal.Gen.facts,
    Cert.KernelDwin.Gen.facts, Cert.KernelDwinIdeal.Gen.facts, Cert.ReferenceDwinIdeal.Gen.facts,
    Cert.KernelDwout.Gen.facts, Cert.KernelDwoutIdeal.Gen.facts, Cert.ReferenceDwoutIdeal.Gen.facts,
    Cert.KernelAdamw.Gen.facts, Cert.KernelAdamwIdeal.Gen.facts, Cert.ReferenceAdamwIdeal.Gen.facts,
    Cert.KernelAdamwIn.Gen.facts, Cert.KernelAdamwInIdeal.Gen.facts, Cert.ReferenceAdamwInIdeal.Gen.facts,
    Cert.KernelAdamwSmall.Gen.facts, Cert.KernelAdamwSmallIdeal.Gen.facts, Cert.ReferenceAdamwSmallIdeal.Gen.facts,
    Cert.KernelSum.Gen.facts, Cert.KernelSumIdeal.Gen.facts, Cert.ReferenceSumIdeal.Gen.facts,
    Cert.KernelPrep.Gen.facts, Cert.KernelPrepIdeal.Gen.facts, Cert.ReferencePrepIdeal.Gen.facts, Cert.KernelPrepIdeal.Prep.pre_facts,
    Cert.KernelLossIdeal.Loss.frame_kernel, Cert.KernelLossIdeal.Loss.frame_ideal, Cert.KernelLossIdeal.Loss.frame_reference,
    Cert.KernelCIdeal.C.frame_kernel, Cert.KernelCIdeal.C.frame_ideal, Cert.KernelCIdeal.C.frame_reference,
    Cert.KernelAIdeal.A.frame_kernel, Cert.KernelAIdeal.A.frame_ideal, Cert.KernelAIdeal.A.frame_reference,
    Cert.KernelProjIdeal.Proj.frame_kernel, Cert.KernelProjIdeal.Proj.frame_ideal, Cert.KernelProjIdeal.Proj.frame_reference,
    Cert.KernelCFwdIdeal.CFwd.frame_kernel, Cert.KernelCFwdIdeal.CFwd.frame_ideal, Cert.KernelCFwdIdeal.CFwd.frame_reference,
    Cert.KernelAFwdIdeal.AFwd.frame_kernel, Cert.KernelAFwdIdeal.AFwd.frame_ideal, Cert.KernelAFwdIdeal.AFwd.frame_reference,
    Cert.KernelProjFwdIdeal.ProjFwd.frame_kernel, Cert.KernelProjFwdIdeal.ProjFwd.frame_ideal, Cert.KernelProjFwdIdeal.ProjFwd.frame_reference,
    Cert.KernelPrepFwdIdeal.PrepFwd.frame_kernel, Cert.KernelPrepFwdIdeal.PrepFwd.frame_ideal, Cert.KernelPrepFwdIdeal.PrepFwd.frame_reference,
    Cert.KernelOutFwdIdeal.OutFwd.frame_kernel, Cert.KernelOutFwdIdeal.OutFwd.frame_ideal, Cert.KernelOutFwdIdeal.OutFwd.frame_reference,
    Cert.KernelOutBwdIdeal.OutBwd.frame_kernel, Cert.KernelOutBwdIdeal.OutBwd.frame_ideal, Cert.KernelOutBwdIdeal.OutBwd.frame_reference,
    Cert.KernelDwinIdeal.Dwin.frame_kernel, Cert.KernelDwinIdeal.Dwin.frame_ideal, Cert.KernelDwinIdeal.Dwin.frame_reference,
    Cert.KernelDwoutIdeal.Dwout.frame_kernel, Cert.KernelDwoutIdeal.Dwout.frame_ideal, Cert.KernelDwoutIdeal.Dwout.frame_reference,
    Cert.KernelAdamwIdeal.Adamw.frame_kernel, Cert.KernelAdamwIdeal.Adamw.frame_ideal, Cert.KernelAdamwIdeal.Adamw.frame_reference,
    Cert.KernelAdamwInIdeal.AdamwIn.frame_kernel, Cert.KernelAdamwInIdeal.AdamwIn.frame_ideal, Cert.KernelAdamwInIdeal.AdamwIn.frame_reference,
    Cert.KernelAdamwSmallIdeal.AdamwSmall.frame_kernel, Cert.KernelAdamwSmallIdeal.AdamwSmall.frame_ideal, Cert.KernelAdamwSmallIdeal.AdamwSmall.frame_reference,
    Cert.KernelSumIdeal.Sum.frame_kernel, Cert.KernelSumIdeal.Sum.frame_ideal, Cert.KernelSumIdeal.Sum.frame_reference,
    Cert.KernelPrepIdeal.Prep.frame_kernel, Cert.KernelPrepIdeal.Prep.frame_ideal, Cert.KernelPrepIdeal.Prep.frame_ideal_pre, Cert.KernelPrepIdeal.Prep.frame_reference, Cert.KernelPrepIdeal.Prep.frame_reference_pre,
    trivial, Cert.KernelLossIdeal.Loss.algebraic,
    trivial, Cert.KernelCIdeal.C.algebraic,
    trivial, Cert.KernelAIdeal.A.algebraic,
    trivial, Cert.KernelProjIdeal.Proj.algebraic,
    trivial, Cert.KernelCFwdIdeal.CFwd.algebraic,
    trivial, Cert.KernelAFwdIdeal.AFwd.algebraic,
    trivial, Cert.KernelProjFwdIdeal.ProjFwd.algebraic,
    trivial, Cert.KernelPrepFwdIdeal.PrepFwd.algebraic,
    trivial, Cert.KernelOutFwdIdeal.OutFwd.algebraic,
    trivial, Cert.KernelOutBwdIdeal.OutBwd.algebraic,
    trivial, Cert.KernelDwinIdeal.Dwin.algebraic,
    trivial, Cert.KernelDwoutIdeal.Dwout.algebraic,
    trivial, Cert.KernelAdamwIdeal.Adamw.algebraic,
    trivial, Cert.KernelAdamwInIdeal.AdamwIn.algebraic,
    trivial, Cert.KernelAdamwSmallIdeal.AdamwSmall.algebraic,
    trivial, Cert.KernelSumIdeal.Sum.algebraic,
    trivial, Cert.KernelPrepIdeal.Prep.algebraic⟩

end Cert.Proof

end
